-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnRefIdeal (m : (ℓ : Loc Cert.AttnRefIdeal.nD Cert.AttnRefIdeal.τ Cert.AttnRefIdeal.sig) → Buf (Elt Ideal) ℓ) : Prop :=
  True

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_MlpFwd (m : (ℓ : Loc Cert.MlpFwd.nD Cert.MlpFwd.τ Cert.MlpFwd.sig) → Buf (Elt Bits) ℓ) : Prop :=
  True

def Pre_MlpFwdIdeal (m : (ℓ : Loc Cert.MlpFwdIdeal.nD Cert.MlpFwdIdeal.τ Cert.MlpFwdIdeal.sig) → Buf (Elt Ideal) ℓ) : Prop :=
  True

def Pre_MlpFwdRefIdeal (m : (ℓ : Loc Cert.MlpFwdRefIdeal.nD Cert.MlpFwdRefIdeal.τ Cert.MlpFwdRefIdeal.sig) → Buf (Elt Ideal) ℓ) : Prop :=
  True

def Pre_OutBwd (m : (ℓ : Loc Cert.OutBwd.nD Cert.OutBwd.τ Cert.OutBwd.sig) → Buf (Elt Bits) ℓ) : Prop :=
  True

def Pre_OutBwdIdeal (m : (ℓ : Loc Cert.OutBwdIdeal.nD Cert.OutBwdIdeal.τ Cert.OutBwdIdeal.sig) → Buf (Elt Ideal) ℓ) : Prop :=
  True

def Pre_OutBwdRefIdeal (m : (ℓ : Loc Cert.OutBwdRefIdeal.nD Cert.OutBwdRefIdeal.τ Cert.OutBwdRefIdeal.sig) → Buf (Elt Ideal) ℓ) : Prop :=
  True

def Pre_QBwd (m : (ℓ : Loc Cert.QBwd.nD Cert.QBwd.τ Cert.QBwd.sig) → Buf (Elt Bits) ℓ) : Prop :=
  True

def Pre_QBwdIdeal (m : (ℓ : Loc Cert.QBwdIdeal.nD Cert.QBwdIdeal.τ Cert.QBwdIdeal.sig) → Buf (Elt Ideal) ℓ) : Prop :=
  True

def Pre_QBwdRefIdeal (m : (ℓ : Loc Cert.QBwdRefIdeal.nD Cert.QBwdRefIdeal.τ Cert.QBwdRefIdeal.sig) → Buf (Elt Ideal) ℓ) : Prop :=
  True

def Pre_AttnPre (m : (ℓ : Loc Cert.AttnPre.nD Cert.AttnPre.τ Cert.AttnPre.sig) → Buf (Elt Bits) ℓ) : Prop :=
  True

def Pre_AttnPreIdeal (m : (ℓ : Loc Cert.AttnPreIdeal.nD Cert.AttnPreIdeal.τ Cert.AttnPreIdeal.sig) → Buf (Elt Ideal) ℓ) : Prop :=
  True

def Pre_AttnPreRefIdeal (m : (ℓ : Loc Cert.AttnPreRefIdeal.nD Cert.AttnPreRefIdeal.τ Cert.AttnPreRefIdeal.sig) → Buf (Elt Ideal) ℓ) : Prop :=
  True

def Pre_AttnPost (m : (ℓ : Loc Cert.AttnPost.nD Cert.AttnPost.τ Cert.AttnPost.sig) → Buf (Elt Bits) ℓ) : Prop :=
  True

def Pre_AttnPostIdeal (m : (ℓ : Loc Cert.AttnPostIdeal.nD Cert.AttnPostIdeal.τ Cert.AttnPostIdeal.sig) → Buf (Elt Ideal) ℓ) : Prop :=
  True

def Pre_AttnPostRefIdeal (m : (ℓ : Loc Cert.AttnPostRefIdeal.nD Cert.AttnPostRefIdeal.τ Cert.AttnPostRefIdeal.sig) → Buf (Elt Ideal) ℓ) : Prop :=
  True

def Pre_KvBwd (m : (ℓ : Loc Cert.KvBwd.nD Cert.KvBwd.τ Cert.KvBwd.sig) → Buf (Elt Bits) ℓ) : Prop :=
  True

def Pre_KvBwdIdeal (m : (ℓ : Loc Cert.KvBwdIdeal.nD Cert.KvBwdIdeal.τ Cert.KvBwdIdeal.sig) → Buf (Elt Ideal) ℓ) : Prop :=
  True

def Pre_KvBwdRefIdeal (m : (ℓ : Loc Cert.KvBwdRefIdeal.nD Cert.KvBwdRefIdeal.τ Cert.KvBwdRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_GateBwd (m : (ℓ : Loc Cert.GateBwd.nD Cert.GateBwd.τ Cert.GateBwd.sig) → Buf (Elt Bits) ℓ) : Prop :=
  True

def Pre_GateBwdIdeal (m : (ℓ : Loc Cert.GateBwdIdeal.nD Cert.GateBwdIdeal.τ Cert.GateBwdIdeal.sig) → Buf (Elt Ideal) ℓ) : Prop :=
  True

def Pre_GateBwdIdeal_finite [hPre_finite : Cert.Pre_finite.Facts] (m : (ℓ : Loc Cert.GateBwdIdeal.nD Cert.GateBwdIdeal.τ Cert.GateBwdIdeal.sig) → Buf (Elt Ideal) ℓ) : Prop :=
  ∀ c : Dev Cert.GateBwdIdeal.nD,
    (Cert.Pre_finite.fn (F := Ideal) (m ((c.tc : Thread Cert.GateBwdIdeal.nD Cert.GateBwdIdeal.τ).loc Cert.GateBwdIdeal.main_arg0)) (m ((c.tc : Thread Cert.GateBwdIdeal.nD Cert.GateBwdIdeal.τ).loc Cert.GateBwdIdeal.main_arg1)) (m ((c.tc : Thread Cert.GateBwdIdeal.nD Cert.GateBwdIdeal.τ).loc Cert.GateBwdIdeal.main_arg2)) (m ((c.tc : Thread Cert.GateBwdIdeal.nD Cert.GateBwdIdeal.τ).loc Cert.GateBwdIdeal.main_arg3))) = (fun _ => 1#1)

def Pre_GateBwdRefIdeal (m : (ℓ : Loc Cert.GateBwdRefIdeal.nD Cert.GateBwdRefIdeal.τ Cert.GateBwdRefIdeal.sig) → Buf (Elt Ideal) ℓ) : Prop :=
  True

def Pre_GateBwdRefIdeal_finite [hPre_finite : Cert.Pre_finite.Facts] (m : (ℓ : Loc Cert.GateBwdRefIdeal.nD Cert.GateBwdRefIdeal.τ Cert.GateBwdRefIdeal.sig) → Buf (Elt Ideal) ℓ) : Prop :=
  ∀ c : Dev Cert.GateBwdRefIdeal.nD,
    (Cert.Pre_finite.fn (F := Ideal) (m ((c.tc : Thread Cert.GateBwdRefIdeal.nD Cert.GateBwdRefIdeal.τ).loc Cert.GateBwdRefIdeal.main_arg0)) (m ((c.tc : Thread Cert.GateBwdRefIdeal.nD Cert.GateBwdRefIdeal.τ).loc Cert.GateBwdRefIdeal.main_arg1)) (m ((c.tc : Thread Cert.GateBwdRefIdeal.nD Cert.GateBwdRefIdeal.τ).loc Cert.GateBwdRefIdeal.main_arg2)) (m ((c.tc : Thread Cert.GateBwdRefIdeal.nD Cert.GateBwdRefIdeal.τ).loc Cert.GateBwdRefIdeal.main_arg3))) = (fun _ => 1#1)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4))
      ∧ r.2.sem = fun _ => 0)

def quiescent_MlpFwd [hMlpFwd : Cert.MlpFwd.Facts] : Prop :=
  ∀ (m : (ℓ : Loc Cert.MlpFwd.nD Cert.MlpFwd.τ Cert.MlpFwd.sig) → Buf (Elt Bits) ℓ) (g : Dev Cert.MlpFwd.nD → PrngReg), Pre_MlpFwd m →
    θ_run (Cert.MlpFwd.defs (F := Bits)) (onTc (τ := Cert.MlpFwd.τ) (Cert.MlpFwd.main (F := Bits))) ⟨m, fun _ => 0, g⟩ (fun r => (∀ c : Dev Cert.MlpFwd.nD,
      r.2.mem ((c.tc : Thread Cert.MlpFwd.nD Cert.MlpFwd.τ).loc Cert.MlpFwd.main_arg0) = m ((c.tc : Thread Cert.MlpFwd.nD Cert.MlpFwd.τ).loc Cert.MlpFwd.main_arg0)
      ∧ r.2.mem ((c.tc : Thread Cert.MlpFwd.nD Cert.MlpFwd.τ).loc Cert.MlpFwd.main_arg1) = m ((c.tc : Thread Cert.MlpFwd.nD Cert.MlpFwd.τ).loc Cert.MlpFwd.main_arg1)
      ∧ r.2.mem ((c.tc : Thread Cert.MlpFwd.nD Cert.MlpFwd.τ).loc Cert.MlpFwd.main_arg2) = m ((c.tc : Thread Cert.MlpFwd.nD Cert.MlpFwd.τ).loc Cert.MlpFwd.main_arg2)
      ∧ r.2.mem ((c.tc : Thread Cert.MlpFwd.nD Cert.MlpFwd.τ).loc Cert.MlpFwd.main_arg3) = m ((c.tc : Thread Cert.MlpFwd.nD Cert.MlpFwd.τ).loc Cert.MlpFwd.main_arg3))
      ∧ r.2.sem = fun _ => 0)

def quiescent_MlpFwdIdeal [hMlpFwdIdeal : Cert.MlpFwdIdeal.Facts] : Prop :=
  ∀ (m : (ℓ : Loc Cert.MlpFwdIdeal.nD Cert.MlpFwdIdeal.τ Cert.MlpFwdIdeal.sig) → Buf (Elt Ideal) ℓ) (g : Dev Cert.MlpFwdIdeal.nD → PrngReg), Pre_MlpFwdIdeal m →
    θ_run (Cert.MlpFwdIdeal.defs (F := Ideal)) (onTc (τ := Cert.MlpFwdIdeal.τ) (Cert.MlpFwdIdeal.main (F := Ideal))) ⟨m, fun _ => 0, g⟩ (fun r => (∀ c : Dev Cert.MlpFwdIdeal.nD,
      r.2.mem ((c.tc : Thread Cert.MlpFwdIdeal.nD Cert.MlpFwdIdeal.τ).loc Cert.MlpFwdIdeal.main_arg0) = m ((c.tc : Thread Cert.MlpFwdIdeal.nD Cert.MlpFwdIdeal.τ).loc Cert.MlpFwdIdeal.main_arg0)
      ∧ r.2.mem ((c.tc : Thread Cert.MlpFwdIdeal.nD Cert.MlpFwdIdeal.τ).loc Cert.MlpFwdIdeal.main_arg1) = m ((c.tc : Thread Cert.MlpFwdIdeal.nD Cert.MlpFwdIdeal.τ).loc Cert.MlpFwdIdeal.main_arg1)
      ∧ r.2.mem ((c.tc : Thread Cert.MlpFwdIdeal.nD Cert.MlpFwdIdeal.τ).loc Cert.MlpFwdIdeal.main_arg2) = m ((c.tc : Thread Cert.MlpFwdIdeal.nD Cert.MlpFwdIdeal.τ).loc Cert.MlpFwdIdeal.main_arg2)
      ∧ r.2.mem ((c.tc : Thread Cert.MlpFwdIdeal.nD Cert.MlpFwdIdeal.τ).loc Cert.MlpFwdIdeal.main_arg3) = m ((c.tc : Thread Cert.MlpFwdIdeal.nD Cert.MlpFwdIdeal.τ).loc Cert.MlpFwdIdeal.main_arg3))
      ∧ r.2.sem = fun _ => 0)

def quiescent_MlpFwdRefIdeal [hMlpFwdRefIdeal : Cert.MlpFwdRefIdeal.Facts] : Prop :=
  ∀ (m : (ℓ : Loc Cert.MlpFwdRefIdeal.nD Cert.MlpFwdRefIdeal.τ Cert.MlpFwdRefIdeal.sig) → Buf (Elt Ideal) ℓ) (g : Dev Cert.MlpFwdRefIdeal.nD → PrngReg), Pre_MlpFwdRefIdeal m →
    θ_run (Cert.MlpFwdRefIdeal.defs (F := Ideal)) (onTc (τ := Cert.MlpFwdRefIdeal.τ) (Cert.MlpFwdRefIdeal.main (F := Ideal))) ⟨m, fun _ => 0, g⟩ (fun r => (∀ c : Dev Cert.MlpFwdRefIdeal.nD,
      r.2.mem ((c.tc : Thread Cert.MlpFwdRefIdeal.nD Cert.MlpFwdRefIdeal.τ).loc Cert.MlpFwdRefIdeal.main_arg0) = m ((c.tc : Thread Cert.MlpFwdRefIdeal.nD Cert.MlpFwdRefIdeal.τ).loc Cert.MlpFwdRefIdeal.main_arg0)
      ∧ r.2.mem ((c.tc : Thread Cert.MlpFwdRefIdeal.nD Cert.MlpFwdRefIdeal.τ).loc Cert.MlpFwdRefIdeal.main_arg1) = m ((c.tc : Thread Cert.MlpFwdRefIdeal.nD Cert.MlpFwdRefIdeal.τ).loc Cert.MlpFwdRefIdeal.main_arg1)
      ∧ r.2.mem ((c.tc : Thread Cert.MlpFwdRefIdeal.nD Cert.MlpFwdRefIdeal.τ).loc Cert.MlpFwdRefIdeal.main_arg2) = m ((c.tc : Thread Cert.MlpFwdRefIdeal.nD Cert.MlpFwdRefIdeal.τ).loc Cert.MlpFwdRefIdeal.main_arg2)
      ∧ r.2.mem ((c.tc : Thread Cert.MlpFwdRefIdeal.nD Cert.MlpFwdRefIdeal.τ).loc Cert.MlpFwdRefIdeal.main_arg3) = m ((c.tc : Thread Cert.MlpFwdRefIdeal.nD Cert.MlpFwdRefIdeal.τ).loc Cert.MlpFwdRefIdeal.main_arg3))
      ∧ r.2.sem = fun _ => 0)

def quiescent_OutBwd [hOutBwd : Cert.OutBwd.Facts] : Prop :=
  ∀ (m : (ℓ : Loc Cert.OutBwd.nD Cert.OutBwd.τ Cert.OutBwd.sig) → Buf (Elt Bits) ℓ) (g : Dev Cert.OutBwd.nD → PrngReg), Pre_OutBwd m →
    θ_run (Cert.OutBwd.defs (F := Bits)) (onTc (τ := Cert.OutBwd.τ) (Cert.OutBwd.main (F := Bits))) ⟨m, fun _ => 0, g⟩ (fun r => (∀ c : Dev Cert.OutBwd.nD,
      r.2.mem ((c.tc : Thread Cert.OutBwd.nD Cert.OutBwd.τ).loc Cert.OutBwd.main_arg0) = m ((c.tc : Thread Cert.OutBwd.nD Cert.OutBwd.τ).loc Cert.OutBwd.main_arg0)
      ∧ r.2.mem ((c.tc : Thread Cert.OutBwd.nD Cert.OutBwd.τ).loc Cert.OutBwd.main_arg1) = m ((c.tc : Thread Cert.OutBwd.nD Cert.OutBwd.τ).loc Cert.OutBwd.main_arg1)
      ∧ r.2.mem ((c.tc : Thread Cert.OutBwd.nD Cert.OutBwd.τ).loc Cert.OutBwd.main_arg2) = m ((c.tc : Thread Cert.OutBwd.nD Cert.OutBwd.τ).loc Cert.OutBwd.main_arg2)
      ∧ r.2.mem ((c.tc : Thread Cert.OutBwd.nD Cert.OutBwd.τ).loc Cert.OutBwd.main_arg3) = m ((c.tc : Thread Cert.OutBwd.nD Cert.OutBwd.τ).loc Cert.OutBwd.main_arg3))
      ∧ r.2.sem = fun _ => 0)

def quiescent_OutBwdIdeal [hOutBwdIdeal : Cert.OutBwdIdeal.Facts] : Prop :=
  ∀ (m : (ℓ : Loc Cert.OutBwdIdeal.nD Cert.OutBwdIdeal.τ Cert.OutBwdIdeal.sig) → Buf (Elt Ideal) ℓ) (g : Dev Cert.OutBwdIdeal.nD → PrngReg), Pre_OutBwdIdeal m →
    θ_run (Cert.OutBwdIdeal.defs (F := Ideal)) (onTc (τ := Cert.OutBwdIdeal.τ) (Cert.OutBwdIdeal.main (F := Ideal))) ⟨m, fun _ => 0, g⟩ (fun r => (∀ c : Dev Cert.OutBwdIdeal.nD,
      r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
      ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1)
      ∧ r.2.mem ((c.tc : Thread Cert.OutBwdIdeal.nD Cert.OutBwdIdeal.τ).loc Cert.OutBwdIdeal.main_arg2) = m ((c.tc : Thread Cert.OutBwdIdeal.nD Cert.OutBwdIdeal.τ).loc Cert.OutBwdIdeal.main_arg2)
      ∧ r.2.mem ((c.tc : Thread Cert.OutBwdIdeal.nD Cert.OutBwdIdeal.τ).loc Cert.OutBwdIdeal.main_arg3) = m ((c.tc : Thread Cert.OutBwdIdeal.nD Cert.OutBwdIdeal.τ).loc Cert.OutBwdIdeal.main_arg3))
      ∧ r.2.sem = fun _ => 0)

def quiescent_OutBwdRefIdeal [hOutBwdRefIdeal : Cert.OutBwdRefIdeal.Facts] : Prop :=
  ∀ (m : (ℓ : Loc Cert.OutBwdRefIdeal.nD Cert.OutBwdRefIdeal.τ Cert.OutBwdRefIdeal.sig) → Buf (Elt Ideal) ℓ) (g : Dev Cert.OutBwdRefIdeal.nD → PrngReg), Pre_OutBwdRefIdeal m →
    θ_run (Cert.OutBwdRefIdeal.defs (F := Ideal)) (onTc (τ := Cert.OutBwdRefIdeal.τ) (Cert.OutBwdRefIdeal.main (F := Ideal))) ⟨m, fun _ => 0, g⟩ (fun r => (∀ c : Dev Cert.OutBwdRefIdeal.nD,
      r.2.mem ((c.tc : Thread Cert.OutBwdRefIdeal.nD Cert.OutBwdRefIdeal.τ).loc Cert.OutBwdRefIdeal.main_arg0) = m ((c.tc : Thread Cert.OutBwdRefIdeal.nD Cert.OutBwdRefIdeal.τ).loc Cert.OutBwdRefIdeal.main_arg0)
      ∧ r.2.mem ((c.tc : Thread Cert.OutBwdRefIdeal.nD Cert.OutBwdRefIdeal.τ).loc Cert.OutBwdRefIdeal.main_arg1) = m ((c.tc : Thread Cert.OutBwdRefIdeal.nD Cert.OutBwdRefIdeal.τ).loc Cert.OutBwdRefIdeal.main_arg1)
      ∧ r.2.mem ((c.tc : Thread Cert.OutBwdRefIdeal.nD Cert.OutBwdRefIdeal.τ).loc Cert.OutBwdRefIdeal.main_arg2) = m ((c.tc : Thread Cert.OutBwdRefIdeal.nD Cert.OutBwdRefIdeal.τ).loc Cert.OutBwdRefIdeal.main_arg2)
      ∧ r.2.mem ((c.tc : Thread Cert.OutBwdRefIdeal.nD Cert.OutBwdRefIdeal.τ).loc Cert.OutBwdRefIdeal.main_arg3) = m ((c.tc : Thread Cert.OutBwdRefIdeal.nD Cert.OutBwdRefIdeal.τ).loc Cert.OutBwdRefIdeal.main_arg3))
      ∧ r.2.sem = fun _ => 0)

def quiescent_QBwd [hQBwd : Cert.QBwd.Facts] : Prop :=
  ∀ (m : (ℓ : Loc Cert.QBwd.nD Cert.QBwd.τ Cert.QBwd.sig) → Buf (Elt Bits) ℓ) (g : Dev Cert.QBwd.nD → PrngReg), Pre_QBwd m →
    θ_run (Cert.QBwd.defs (F := Bits)) (onTc (τ := Cert.QBwd.τ) (Cert.QBwd.main (F := Bits))) ⟨m, fun _ => 0, g⟩ (fun r => (∀ c : Dev Cert.QBwd.nD,
      r.2.mem ((c.tc : Thread Cert.QBwd.nD Cert.QBwd.τ).loc Cert.QBwd.main_arg0) = m ((c.tc : Thread Cert.QBwd.nD Cert.QBwd.τ).loc Cert.QBwd.main_arg0)
      ∧ r.2.mem ((c.tc : Thread Cert.QBwd.nD Cert.QBwd.τ).loc Cert.QBwd.main_arg1) = m ((c.tc : Thread Cert.QBwd.nD Cert.QBwd.τ).loc Cert.QBwd.main_arg1)
      ∧ r.2.mem ((c.tc : Thread Cert.QBwd.nD Cert.QBwd.τ).loc Cert.QBwd.main_arg2) = m ((c.tc : Thread Cert.QBwd.nD Cert.QBwd.τ).loc Cert.QBwd.main_arg2)
      ∧ r.2.mem ((c.tc : Thread Cert.QBwd.nD Cert.QBwd.τ).loc Cert.QBwd.main_arg3) = m ((c.tc : Thread Cert.QBwd.nD Cert.QBwd.τ).loc Cert.QBwd.main_arg3)
      ∧ r.2.mem ((c.tc : Thread Cert.QBwd.nD Cert.QBwd.τ).loc Cert.QBwd.main_arg4) = m ((c.tc : Thread Cert.QBwd.nD Cert.QBwd.τ).loc Cert.QBwd.main_arg4)
      ∧ r.2.mem ((c.tc : Thread Cert.QBwd.nD Cert.QBwd.τ).loc Cert.QBwd.main_arg5) = m ((c.tc : Thread Cert.QBwd.nD Cert.QBwd.τ).loc Cert.QBwd.main_arg5))
      ∧ r.2.sem = fun _ => 0)

def quiescent_QBwdIdeal [hQBwdIdeal : Cert.QBwdIdeal.Facts] : Prop :=
  ∀ (m : (ℓ : Loc Cert.QBwdIdeal.nD Cert.QBwdIdeal.τ Cert.QBwdIdeal.sig) → Buf (Elt Ideal) ℓ) (g : Dev Cert.QBwdIdeal.nD → PrngReg), Pre_QBwdIdeal m →
    θ_run (Cert.QBwdIdeal.defs (F := Ideal)) (onTc (τ := Cert.QBwdIdeal.τ) (Cert.QBwdIdeal.main (F := Ideal))) ⟨m, fun _ => 0, g⟩ (fun r => (∀ c : Dev Cert.QBwdIdeal.nD,
      r.2.mem ((c.tc : Thread Cert.QBwdIdeal.nD Cert.QBwdIdeal.τ).loc Cert.QBwdIdeal.main_arg0) = m ((c.tc : Thread Cert.QBwdIdeal.nD Cert.QBwdIdeal.τ).loc Cert.QBwdIdeal.main_arg0)
      ∧ r.2.mem ((c.tc : Thread Cert.QBwdIdeal.nD Cert.QBwdIdeal.τ).loc Cert.QBwdIdeal.main_arg1) = m ((c.tc : Thread Cert.QBwdIdeal.nD Cert.QBwdIdeal.τ).loc Cert.QBwdIdeal.main_arg1)
      ∧ r.2.mem ((c.tc : Thread Cert.QBwdIdeal.nD Cert.QBwdIdeal.τ).loc Cert.QBwdIdeal.main_arg2) = m ((c.tc : Thread Cert.QBwdIdeal.nD Cert.QBwdIdeal.τ).loc Cert.QBwdIdeal.main_arg2)
      ∧ r.2.mem ((c.tc : Thread Cert.QBwdIdeal.nD Cert.QBwdIdeal.τ).loc Cert.QBwdIdeal.main_arg3) = m ((c.tc : Thread Cert.QBwdIdeal.nD Cert.QBwdIdeal.τ).loc Cert.QBwdIdeal.main_arg3)
      ∧ r.2.mem ((c.tc : Thread Cert.QBwdIdeal.nD Cert.QBwdIdeal.τ).loc Cert.QBwdIdeal.main_arg4) = m ((c.tc : Thread Cert.QBwdIdeal.nD Cert.QBwdIdeal.τ).loc Cert.QBwdIdeal.main_arg4)
      ∧ r.2.mem ((c.tc : Thread Cert.QBwdIdeal.nD Cert.QBwdIdeal.τ).loc Cert.QBwdIdeal.main_arg5) = m ((c.tc : Thread Cert.QBwdIdeal.nD Cert.QBwdIdeal.τ).loc Cert.QBwdIdeal.main_arg5))
      ∧ r.2.sem = fun _ => 0)

def quiescent_QBwdRefIdeal [hQBwdRefIdeal : Cert.QBwdRefIdeal.Facts] : Prop :=
  ∀ (m : (ℓ : Loc Cert.QBwdRefIdeal.nD Cert.QBwdRefIdeal.τ Cert.QBwdRefIdeal.sig) → Buf (Elt Ideal) ℓ) (g : Dev Cert.QBwdRefIdeal.nD → PrngReg), Pre_QBwdRefIdeal m →
    θ_run (Cert.QBwdRefIdeal.defs (F := Ideal)) (onTc (τ := Cert.QBwdRefIdeal.τ) (Cert.QBwdRefIdeal.main (F := Ideal))) ⟨m, fun _ => 0, g⟩ (fun r => (∀ c : Dev Cert.QBwdRefIdeal.nD,
      r.2.mem ((c.tc : Thread Cert.QBwdRefIdeal.nD Cert.QBwdRefIdeal.τ).loc Cert.QBwdRefIdeal.main_arg0) = m ((c.tc : Thread Cert.QBwdRefIdeal.nD Cert.QBwdRefIdeal.τ).loc Cert.QBwdRefIdeal.main_arg0)
      ∧ r.2.mem ((c.tc : Thread Cert.QBwdRefIdeal.nD Cert.QBwdRefIdeal.τ).loc Cert.QBwdRefIdeal.main_arg1) = m ((c.tc : Thread Cert.QBwdRefIdeal.nD Cert.QBwdRefIdeal.τ).loc Cert.QBwdRefIdeal.main_arg1)
      ∧ r.2.mem ((c.tc : Thread Cert.QBwdRefIdeal.nD Cert.QBwdRefIdeal.τ).loc Cert.QBwdRefIdeal.main_arg2) = m ((c.tc : Thread Cert.QBwdRefIdeal.nD Cert.QBwdRefIdeal.τ).loc Cert.QBwdRefIdeal.main_arg2)
      ∧ r.2.mem ((c.tc : Thread Cert.QBwdRefIdeal.nD Cert.QBwdRefIdeal.τ).loc Cert.QBwdRefIdeal.main_arg3) = m ((c.tc : Thread Cert.QBwdRefIdeal.nD Cert.QBwdRefIdeal.τ).loc Cert.QBwdRefIdeal.main_arg3)
      ∧ r.2.mem ((c.tc : Thread Cert.QBwdRefIdeal.nD Cert.QBwdRefIdeal.τ).loc Cert.QBwdRefIdeal.main_arg4) = m ((c.tc : Thread Cert.QBwdRefIdeal.nD Cert.QBwdRefIdeal.τ).loc Cert.QBwdRefIdeal.main_arg4)
      ∧ r.2.mem ((c.tc : Thread Cert.QBwdRefIdeal.nD Cert.QBwdRefIdeal.τ).loc Cert.QBwdRefIdeal.main_arg5) = m ((c.tc : Thread Cert.QBwdRefIdeal.nD Cert.QBwdRefIdeal.τ).loc Cert.QBwdRefIdeal.main_arg5))
      ∧ r.2.sem = fun _ => 0)

def quiescent_AttnPre [hAttnPre : Cert.AttnPre.Facts] : Prop :=
  ∀ (m : (ℓ : Loc Cert.AttnPre.nD Cert.AttnPre.τ Cert.AttnPre.sig) → Buf (Elt Bits) ℓ) (g : Dev Cert.AttnPre.nD → PrngReg), Pre_AttnPre m →
    θ_run (Cert.AttnPre.defs (F := Bits)) (onTc (τ := Cert.AttnPre.τ) (Cert.AttnPre.main (F := Bits))) ⟨m, fun _ => 0, g⟩ (fun r => (∀ c : Dev Cert.AttnPre.nD,
      r.2.mem ((c.tc : Thread Cert.AttnPre.nD Cert.AttnPre.τ).loc Cert.AttnPre.main_arg0) = m ((c.tc : Thread Cert.AttnPre.nD Cert.AttnPre.τ).loc Cert.AttnPre.main_arg0)
      ∧ r.2.mem ((c.tc : Thread Cert.AttnPre.nD Cert.AttnPre.τ).loc Cert.AttnPre.main_arg1) = m ((c.tc : Thread Cert.AttnPre.nD Cert.AttnPre.τ).loc Cert.AttnPre.main_arg1)
      ∧ r.2.mem ((c.tc : Thread Cert.AttnPre.nD Cert.AttnPre.τ).loc Cert.AttnPre.main_arg2) = m ((c.tc : Thread Cert.AttnPre.nD Cert.AttnPre.τ).loc Cert.AttnPre.main_arg2)
      ∧ r.2.mem ((c.tc : Thread Cert.AttnPre.nD Cert.AttnPre.τ).loc Cert.AttnPre.main_arg3) = m ((c.tc : Thread Cert.AttnPre.nD Cert.AttnPre.τ).loc Cert.AttnPre.main_arg3)
      ∧ r.2.mem ((c.tc : Thread Cert.AttnPre.nD Cert.AttnPre.τ).loc Cert.AttnPre.main_arg4) = m ((c.tc : Thread Cert.AttnPre.nD Cert.AttnPre.τ).loc Cert.AttnPre.main_arg4)
      ∧ r.2.mem ((c.tc : Thread Cert.AttnPre.nD Cert.AttnPre.τ).loc Cert.AttnPre.main_arg5) = m ((c.tc : Thread Cert.AttnPre.nD Cert.AttnPre.τ).loc Cert.AttnPre.main_arg5)
      ∧ r.2.mem ((c.tc : Thread Cert.AttnPre.nD Cert.AttnPre.τ).loc Cert.AttnPre.main_arg6) = m ((c.tc : Thread Cert.AttnPre.nD Cert.AttnPre.τ).loc Cert.AttnPre.main_arg6))
      ∧ r.2.sem = fun _ => 0)

def quiescent_AttnPreIdeal [hAttnPreIdeal : Cert.AttnPreIdeal.Facts] : Prop :=
  ∀ (m : (ℓ : Loc Cert.AttnPreIdeal.nD Cert.AttnPreIdeal.τ Cert.AttnPreIdeal.sig) → Buf (Elt Ideal) ℓ) (g : Dev Cert.AttnPreIdeal.nD → PrngReg), Pre_AttnPreIdeal m →
    θ_run (Cert.AttnPreIdeal.defs (F := Ideal)) (onTc (τ := Cert.AttnPreIdeal.τ) (Cert.AttnPreIdeal.main (F := Ideal))) ⟨m, fun _ => 0, g⟩ (fun r => (∀ c : Dev Cert.AttnPreIdeal.nD,
      r.2.mem ((c.tc : Thread Cert.AttnPreIdeal.nD Cert.AttnPreIdeal.τ).loc Cert.AttnPreIdeal.main_arg0) = m ((c.tc : Thread Cert.AttnPreIdeal.nD Cert.AttnPreIdeal.τ).loc Cert.AttnPreIdeal.main_arg0)
      ∧ r.2.mem ((c.tc : Thread Cert.AttnPreIdeal.nD Cert.AttnPreIdeal.τ).loc Cert.AttnPreIdeal.main_arg1) = m ((c.tc : Thread Cert.AttnPreIdeal.nD Cert.AttnPreIdeal.τ).loc Cert.AttnPreIdeal.main_arg1)
      ∧ r.2.mem ((c.tc : Thread Cert.AttnPreIdeal.nD Cert.AttnPreIdeal.τ).loc Cert.AttnPreIdeal.main_arg2) = m ((c.tc : Thread Cert.AttnPreIdeal.nD Cert.AttnPreIdeal.τ).loc Cert.AttnPreIdeal.main_arg2)
      ∧ r.2.mem ((c.tc : Thread Cert.AttnPreIdeal.nD Cert.AttnPreIdeal.τ).loc Cert.AttnPreIdeal.main_arg3) = m ((c.tc : Thread Cert.AttnPreIdeal.nD Cert.AttnPreIdeal.τ).loc Cert.AttnPreIdeal.main_arg3)
      ∧ r.2.mem ((c.tc : Thread Cert.AttnPreIdeal.nD Cert.AttnPreIdeal.τ).loc Cert.AttnPreIdeal.main_arg4) = m ((c.tc : Thread Cert.AttnPreIdeal.nD Cert.AttnPreIdeal.τ).loc Cert.AttnPreIdeal.main_arg4)
      ∧ r.2.mem ((c.tc : Thread Cert.AttnPreIdeal.nD Cert.AttnPreIdeal.τ).loc Cert.AttnPreIdeal.main_arg5) = m ((c.tc : Thread Cert.AttnPreIdeal.nD Cert.AttnPreIdeal.τ).loc Cert.AttnPreIdeal.main_arg5)
      ∧ r.2.mem ((c.tc : Thread Cert.AttnPreIdeal.nD Cert.AttnPreIdeal.τ).loc Cert.AttnPreIdeal.main_arg6) = m ((c.tc : Thread Cert.AttnPreIdeal.nD Cert.AttnPreIdeal.τ).loc Cert.AttnPreIdeal.main_arg6))
      ∧ r.2.sem = fun _ => 0)

def quiescent_AttnPreRefIdeal [hAttnPreRefIdeal : Cert.AttnPreRefIdeal.Facts] : Prop :=
  ∀ (m : (ℓ : Loc Cert.AttnPreRefIdeal.nD Cert.AttnPreRefIdeal.τ Cert.AttnPreRefIdeal.sig) → Buf (Elt Ideal) ℓ) (g : Dev Cert.AttnPreRefIdeal.nD → PrngReg), Pre_AttnPreRefIdeal m →
    θ_run (Cert.AttnPreRefIdeal.defs (F := Ideal)) (onTc (τ := Cert.AttnPreRefIdeal.τ) (Cert.AttnPreRefIdeal.main (F := Ideal))) ⟨m, fun _ => 0, g⟩ (fun r => (∀ c : Dev Cert.AttnPreRefIdeal.nD,
      r.2.mem ((c.tc : Thread Cert.AttnPreRefIdeal.nD Cert.AttnPreRefIdeal.τ).loc Cert.AttnPreRefIdeal.main_arg0) = m ((c.tc : Thread Cert.AttnPreRefIdeal.nD Cert.AttnPreRefIdeal.τ).loc Cert.AttnPreRefIdeal.main_arg0)
      ∧ r.2.mem ((c.tc : Thread Cert.AttnPreRefIdeal.nD Cert.AttnPreRefIdeal.τ).loc Cert.AttnPreRefIdeal.main_arg1) = m ((c.tc : Thread Cert.AttnPreRefIdeal.nD Cert.AttnPreRefIdeal.τ).loc Cert.AttnPreRefIdeal.main_arg1)
      ∧ r.2.mem ((c.tc : Thread Cert.AttnPreRefIdeal.nD Cert.AttnPreRefIdeal.τ).loc Cert.AttnPreRefIdeal.main_arg2) = m ((c.tc : Thread Cert.AttnPreRefIdeal.nD Cert.AttnPreRefIdeal.τ).loc Cert.AttnPreRefIdeal.main_arg2)
      ∧ r.2.mem ((c.tc : Thread Cert.AttnPreRefIdeal.nD Cert.AttnPreRefIdeal.τ).loc Cert.AttnPreRefIdeal.main_arg3) = m ((c.tc : Thread Cert.AttnPreRefIdeal.nD Cert.AttnPreRefIdeal.τ).loc Cert.AttnPreRefIdeal.main_arg3)
      ∧ r.2.mem ((c.tc : Thread Cert.AttnPreRefIdeal.nD Cert.AttnPreRefIdeal.τ).loc Cert.AttnPreRefIdeal.main_arg4) = m ((c.tc : Thread Cert.AttnPreRefIdeal.nD Cert.AttnPreRefIdeal.τ).loc Cert.AttnPreRefIdeal.main_arg4)
      ∧ r.2.mem ((c.tc : Thread Cert.AttnPreRefIdeal.nD Cert.AttnPreRefIdeal.τ).loc Cert.AttnPreRefIdeal.main_arg5) = m ((c.tc : Thread Cert.AttnPreRefIdeal.nD Cert.AttnPreRefIdeal.τ).loc Cert.AttnPreRefIdeal.main_arg5)
      ∧ r.2.mem ((c.tc : Thread Cert.AttnPreRefIdeal.nD Cert.AttnPreRefIdeal.τ).loc Cert.AttnPreRefIdeal.main_arg6) = m ((c.tc : Thread Cert.AttnPreRefIdeal.nD Cert.AttnPreRefIdeal.τ).loc Cert.AttnPreRefIdeal.main_arg6))
      ∧ r.2.sem = fun _ => 0)

def quiescent_AttnPost [hAttnPost : Cert.AttnPost.Facts] : Prop :=
  ∀ (m : (ℓ : Loc Cert.AttnPost.nD Cert.AttnPost.τ Cert.AttnPost.sig) → Buf (Elt Bits) ℓ) (g : Dev Cert.AttnPost.nD → PrngReg), Pre_AttnPost m →
    θ_run (Cert.AttnPost.defs (F := Bits)) (onTc (τ := Cert.AttnPost.τ) (Cert.AttnPost.main (F := Bits))) ⟨m, fun _ => 0, g⟩ (fun r => (∀ c : Dev Cert.AttnPost.nD,
      r.2.mem ((c.tc : Thread Cert.AttnPost.nD Cert.AttnPost.τ).loc Cert.AttnPost.main_arg0) = m ((c.tc : Thread Cert.AttnPost.nD Cert.AttnPost.τ).loc Cert.AttnPost.main_arg0)
      ∧ r.2.mem ((c.tc : Thread Cert.AttnPost.nD Cert.AttnPost.τ).loc Cert.AttnPost.main_arg1) = m ((c.tc : Thread Cert.AttnPost.nD Cert.AttnPost.τ).loc Cert.AttnPost.main_arg1)
      ∧ r.2.mem ((c.tc : Thread Cert.AttnPost.nD Cert.AttnPost.τ).loc Cert.AttnPost.main_arg2) = m ((c.tc : Thread Cert.AttnPost.nD Cert.AttnPost.τ).loc Cert.AttnPost.main_arg2)
      ∧ r.2.mem ((c.tc : Thread Cert.AttnPost.nD Cert.AttnPost.τ).loc Cert.AttnPost.main_arg3) = m ((c.tc : Thread Cert.AttnPost.nD Cert.AttnPost.τ).loc Cert.AttnPost.main_arg3))
      ∧ r.2.sem = fun _ => 0)

def quiescent_AttnPostIdeal [hAttnPostIdeal : Cert.AttnPostIdeal.Facts] : Prop :=
  ∀ (m : (ℓ : Loc Cert.AttnPostIdeal.nD Cert.AttnPostIdeal.τ Cert.AttnPostIdeal.sig) → Buf (Elt Ideal) ℓ) (g : Dev Cert.AttnPostIdeal.nD → PrngReg), Pre_AttnPostIdeal m →
    θ_run (Cert.AttnPostIdeal.defs (F := Ideal)) (onTc (τ := Cert.AttnPostIdeal.τ) (Cert.AttnPostIdeal.main (F := Ideal))) ⟨m, fun _ => 0, g⟩ (fun r => (∀ c : Dev Cert.AttnPostIdeal.nD,
      r.2.mem ((c.tc : Thread Cert.AttnPostIdeal.nD Cert.AttnPostIdeal.τ).loc Cert.AttnPostIdeal.main_arg0) = m ((c.tc : Thread Cert.AttnPostIdeal.nD Cert.AttnPostIdeal.τ).loc Cert.AttnPostIdeal.main_arg0)
      ∧ r.2.mem ((c.tc : Thread Cert.AttnPostIdeal.nD Cert.AttnPostIdeal.τ).loc Cert.AttnPostIdeal.main_arg1) = m ((c.tc : Thread Cert.AttnPostIdeal.nD Cert.AttnPostIdeal.τ).loc Cert.AttnPostIdeal.main_arg1)
      ∧ r.2.mem ((c.tc : Thread Cert.AttnPostIdeal.nD Cert.AttnPostIdeal.τ).loc Cert.AttnPostIdeal.main_arg2) = m ((c.tc : Thread Cert.AttnPostIdeal.nD Cert.AttnPostIdeal.τ).loc Cert.AttnPostIdeal.main_arg2)
      ∧ r.2.mem ((c.tc : Thread Cert.AttnPostIdeal.nD Cert.AttnPostIdeal.τ).loc Cert.AttnPostIdeal.main_arg3) = m ((c.tc : Thread Cert.AttnPostIdeal.nD Cert.AttnPostIdeal.τ).loc Cert.AttnPostIdeal.main_arg3))
      ∧ r.2.sem = fun _ => 0)

def quiescent_AttnPostRefIdeal [hAttnPostRefIdeal : Cert.AttnPostRefIdeal.Facts] : Prop :=
  ∀ (m : (ℓ : Loc Cert.AttnPostRefIdeal.nD Cert.AttnPostRefIdeal.τ Cert.AttnPostRefIdeal.sig) → Buf (Elt Ideal) ℓ) (g : Dev Cert.AttnPostRefIdeal.nD → PrngReg), Pre_AttnPostRefIdeal m →
    θ_run (Cert.AttnPostRefIdeal.defs (F := Ideal)) (onTc (τ := Cert.AttnPostRefIdeal.τ) (Cert.AttnPostRefIdeal.main (F := Ideal))) ⟨m, fun _ => 0, g⟩ (fun r => (∀ c : Dev Cert.AttnPostRefIdeal.nD,
      r.2.mem ((c.tc : Thread Cert.AttnPostRefIdeal.nD Cert.AttnPostRefIdeal.τ).loc Cert.AttnPostRefIdeal.main_arg0) = m ((c.tc : Thread Cert.AttnPostRefIdeal.nD Cert.AttnPostRefIdeal.τ).loc Cert.AttnPostRefIdeal.main_arg0)
      ∧ r.2.mem ((c.tc : Thread Cert.AttnPostRefIdeal.nD Cert.AttnPostRefIdeal.τ).loc Cert.AttnPostRefIdeal.main_arg1) = m ((c.tc : Thread Cert.AttnPostRefIdeal.nD Cert.AttnPostRefIdeal.τ).loc Cert.AttnPostRefIdeal.main_arg1)
      ∧ r.2.mem ((c.tc : Thread Cert.AttnPostRefIdeal.nD Cert.AttnPostRefIdeal.τ).loc Cert.AttnPostRefIdeal.main_arg2) = m ((c.tc : Thread Cert.AttnPostRefIdeal.nD Cert.AttnPostRefIdeal.τ).loc Cert.AttnPostRefIdeal.main_arg2)
      ∧ r.2.mem ((c.tc : Thread Cert.AttnPostRefIdeal.nD Cert.AttnPostRefIdeal.τ).loc Cert.AttnPostRefIdeal.main_arg3) = m ((c.tc : Thread Cert.AttnPostRefIdeal.nD Cert.AttnPostRefIdeal.τ).loc Cert.AttnPostRefIdeal.main_arg3))
      ∧ r.2.sem = fun _ => 0)

def quiescent_KvBwd [hKvBwd : Cert.KvBwd.Facts] : Prop :=
  ∀ (m : (ℓ : Loc Cert.KvBwd.nD Cert.KvBwd.τ Cert.KvBwd.sig) → Buf (Elt Bits) ℓ) (g : Dev Cert.KvBwd.nD → PrngReg), Pre_KvBwd m →
    θ_run (Cert.KvBwd.defs (F := Bits)) (onTc (τ := Cert.KvBwd.τ) (Cert.KvBwd.main (F := Bits))) ⟨m, fun _ => 0, g⟩ (fun r => (∀ c : Dev Cert.KvBwd.nD,
      r.2.mem ((c.tc : Thread Cert.KvBwd.nD Cert.KvBwd.τ).loc Cert.KvBwd.main_arg0) = m ((c.tc : Thread Cert.KvBwd.nD Cert.KvBwd.τ).loc Cert.KvBwd.main_arg0)
      ∧ r.2.mem ((c.tc : Thread Cert.KvBwd.nD Cert.KvBwd.τ).loc Cert.KvBwd.main_arg1) = m ((c.tc : Thread Cert.KvBwd.nD Cert.KvBwd.τ).loc Cert.KvBwd.main_arg1)
      ∧ r.2.mem ((c.tc : Thread Cert.KvBwd.nD Cert.KvBwd.τ).loc Cert.KvBwd.main_arg2) = m ((c.tc : Thread Cert.KvBwd.nD Cert.KvBwd.τ).loc Cert.KvBwd.main_arg2)
      ∧ r.2.mem ((c.tc : Thread Cert.KvBwd.nD Cert.KvBwd.τ).loc Cert.KvBwd.main_arg3) = m ((c.tc : Thread Cert.KvBwd.nD Cert.KvBwd.τ).loc Cert.KvBwd.main_arg3)
      ∧ r.2.mem ((c.tc : Thread Cert.KvBwd.nD Cert.KvBwd.τ).loc Cert.KvBwd.main_arg4) = m ((c.tc : Thread Cert.KvBwd.nD Cert.KvBwd.τ).loc Cert.KvBwd.main_arg4)
      ∧ r.2.mem ((c.tc : Thread Cert.KvBwd.nD Cert.KvBwd.τ).loc Cert.KvBwd.main_arg5) = m ((c.tc : Thread Cert.KvBwd.nD Cert.KvBwd.τ).loc Cert.KvBwd.main_arg5)
      ∧ r.2.mem ((c.tc : Thread Cert.KvBwd.nD Cert.KvBwd.τ).loc Cert.KvBwd.main_arg6) = m ((c.tc : Thread Cert.KvBwd.nD Cert.KvBwd.τ).loc Cert.KvBwd.main_arg6))
      ∧ r.2.sem = fun _ => 0)

def quiescent_KvBwdIdeal [hKvBwdIdeal : Cert.KvBwdIdeal.Facts] : Prop :=
  ∀ (m : (ℓ : Loc Cert.KvBwdIdeal.nD Cert.KvBwdIdeal.τ Cert.KvBwdIdeal.sig) → Buf (Elt Ideal) ℓ) (g : Dev Cert.KvBwdIdeal.nD → PrngReg), Pre_KvBwdIdeal m →
    θ_run (Cert.KvBwdIdeal.defs (F := Ideal)) (onTc (τ := Cert.KvBwdIdeal.τ) (Cert.KvBwdIdeal.main (F := Ideal))) ⟨m, fun _ => 0, g⟩ (fun r => (∀ c : Dev Cert.KvBwdIdeal.nD,
      r.2.mem ((c.tc : Thread Cert.KvBwdIdeal.nD Cert.KvBwdIdeal.τ).loc Cert.KvBwdIdeal.main_arg0) = m ((c.tc : Thread Cert.KvBwdIdeal.nD Cert.KvBwdIdeal.τ).loc Cert.KvBwdIdeal.main_arg0)
      ∧ r.2.mem ((c.tc : Thread Cert.KvBwdIdeal.nD Cert.KvBwdIdeal.τ).loc Cert.KvBwdIdeal.main_arg1) = m ((c.tc : Thread Cert.KvBwdIdeal.nD Cert.KvBwdIdeal.τ).loc Cert.KvBwdIdeal.main_arg1)
      ∧ r.2.mem ((c.tc : Thread Cert.KvBwdIdeal.nD Cert.KvBwdIdeal.τ).loc Cert.KvBwdIdeal.main_arg2) = m ((c.tc : Thread Cert.KvBwdIdeal.nD Cert.KvBwdIdeal.τ).loc Cert.KvBwdIdeal.main_arg2)
      ∧ r.2.mem ((c.tc : Thread Cert.KvBwdIdeal.nD Cert.KvBwdIdeal.τ).loc Cert.KvBwdIdeal.main_arg3) = m ((c.tc : Thread Cert.KvBwdIdeal.nD Cert.KvBwdIdeal.τ).loc Cert.KvBwdIdeal.main_arg3)
      ∧ r.2.mem ((c.tc : Thread Cert.KvBwdIdeal.nD Cert.KvBwdIdeal.τ).loc Cert.KvBwdIdeal.main_arg4) = m ((c.tc : Thread Cert.KvBwdIdeal.nD Cert.KvBwdIdeal.τ).loc Cert.KvBwdIdeal.main_arg4)
      ∧ r.2.mem ((c.tc : Thread Cert.KvBwdIdeal.nD Cert.KvBwdIdeal.τ).loc Cert.KvBwdIdeal.main_arg5) = m ((c.tc : Thread Cert.KvBwdIdeal.nD Cert.KvBwdIdeal.τ).loc Cert.KvBwdIdeal.main_arg5)
      ∧ r.2.mem ((c.tc : Thread Cert.KvBwdIdeal.nD Cert.KvBwdIdeal.τ).loc Cert.KvBwdIdeal.main_arg6) = m ((c.tc : Thread Cert.KvBwdIdeal.nD Cert.KvBwdIdeal.τ).loc Cert.KvBwdIdeal.main_arg6))
      ∧ r.2.sem = fun _ => 0)

def quiescent_KvBwdRefIdeal [hKvBwdRefIdeal : Cert.KvBwdRefIdeal.Facts] : Prop :=
  ∀ (m : (ℓ : Loc Cert.KvBwdRefIdeal.nD Cert.KvBwdRefIdeal.τ Cert.KvBwdRefIdeal.sig) → Buf (Elt Ideal) ℓ) (g : Dev Cert.KvBwdRefIdeal.nD → PrngReg), Pre_KvBwdRefIdeal m →
    θ_run (Cert.KvBwdRefIdeal.defs (F := Ideal)) (onTc (τ := Cert.KvBwdRefIdeal.τ) (Cert.KvBwdRefIdeal.main (F := Ideal))) ⟨m, fun _ => 0, g⟩ (fun r => (∀ c : Dev Cert.KvBwdRefIdeal.nD,
      r.2.mem ((c.tc : Thread Cert.KvBwdRefIdeal.nD Cert.KvBwdRefIdeal.τ).loc Cert.KvBwdRefIdeal.main_arg0) = m ((c.tc : Thread Cert.KvBwdRefIdeal.nD Cert.KvBwdRefIdeal.τ).loc Cert.KvBwdRefIdeal.main_arg0)
      ∧ r.2.mem ((c.tc : Thread Cert.KvBwdRefIdeal.nD Cert.KvBwdRefIdeal.τ).loc Cert.KvBwdRefIdeal.main_arg1) = m ((c.tc : Thread Cert.KvBwdRefIdeal.nD Cert.KvBwdRefIdeal.τ).loc Cert.KvBwdRefIdeal.main_arg1)
      ∧ r.2.mem ((c.tc : Thread Cert.KvBwdRefIdeal.nD Cert.KvBwdRefIdeal.τ).loc Cert.KvBwdRefIdeal.main_arg2) = m ((c.tc : Thread Cert.KvBwdRefIdeal.nD Cert.KvBwdRefIdeal.τ).loc Cert.KvBwdRefIdeal.main_arg2)
      ∧ r.2.mem ((c.tc : Thread Cert.KvBwdRefIdeal.nD Cert.KvBwdRefIdeal.τ).loc Cert.KvBwdRefIdeal.main_arg3) = m ((c.tc : Thread Cert.KvBwdRefIdeal.nD Cert.KvBwdRefIdeal.τ).loc Cert.KvBwdRefIdeal.main_arg3)
      ∧ r.2.mem ((c.tc : Thread Cert.KvBwdRefIdeal.nD Cert.KvBwdRefIdeal.τ).loc Cert.KvBwdRefIdeal.main_arg4) = m ((c.tc : Thread Cert.KvBwdRefIdeal.nD Cert.KvBwdRefIdeal.τ).loc Cert.KvBwdRefIdeal.main_arg4)
      ∧ r.2.mem ((c.tc : Thread Cert.KvBwdRefIdeal.nD Cert.KvBwdRefIdeal.τ).loc Cert.KvBwdRefIdeal.main_arg5) = m ((c.tc : Thread Cert.KvBwdRefIdeal.nD Cert.KvBwdRefIdeal.τ).loc Cert.KvBwdRefIdeal.main_arg5)
      ∧ r.2.mem ((c.tc : Thread Cert.KvBwdRefIdeal.nD Cert.KvBwdRefIdeal.τ).loc Cert.KvBwdRefIdeal.main_arg6) = m ((c.tc : Thread Cert.KvBwdRefIdeal.nD Cert.KvBwdRefIdeal.τ).loc Cert.KvBwdRefIdeal.main_arg6))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3)
      ∧ r.2.mem ((c.tc : Thread Cert.Gate.nD Cert.Gate.τ).loc Cert.Gate.main_arg4) = m ((c.tc : Thread Cert.Gate.nD Cert.Gate.τ).loc Cert.Gate.main_arg4)
      ∧ r.2.mem ((c.tc : Thread Cert.Gate.nD Cert.Gate.τ).loc Cert.Gate.main_arg5) = m ((c.tc : Thread Cert.Gate.nD Cert.Gate.τ).loc Cert.Gate.main_arg5))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4)
      ∧ r.2.mem ((c.tc : Thread Cert.GateIdeal.nD Cert.GateIdeal.τ).loc Cert.GateIdeal.main_arg5) = m ((c.tc : Thread Cert.GateIdeal.nD Cert.GateIdeal.τ).loc Cert.GateIdeal.main_arg5))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3)
      ∧ r.2.mem ((c.tc : Thread Cert.GateRefIdeal.nD Cert.GateRefIdeal.τ).loc Cert.GateRefIdeal.main_arg4) = m ((c.tc : Thread Cert.GateRefIdeal.nD Cert.GateRefIdeal.τ).loc Cert.GateRefIdeal.main_arg4)
      ∧ r.2.mem ((c.tc : Thread Cert.GateRefIdeal.nD Cert.GateRefIdeal.τ).loc Cert.GateRefIdeal.main_arg5) = m ((c.tc : Thread Cert.GateRefIdeal.nD Cert.GateRefIdeal.τ).loc Cert.GateRefIdeal.main_arg5))
      ∧ r.2.sem = fun _ => 0)

def quiescent_GateBwd [hGateBwd : Cert.GateBwd.Facts] : Prop :=
  ∀ (m : (ℓ : Loc Cert.GateBwd.nD Cert.GateBwd.τ Cert.GateBwd.sig) → Buf (Elt Bits) ℓ) (g : Dev Cert.GateBwd.nD → PrngReg), Pre_GateBwd m →
    θ_run (Cert.GateBwd.defs (F := Bits)) (onTc (τ := Cert.GateBwd.τ) (Cert.GateBwd.main (F := Bits))) ⟨m, fun _ => 0, g⟩ (fun r => (∀ c : Dev Cert.GateBwd.nD,
      r.2.mem ((c.tc : Thread Cert.GateBwd.nD Cert.GateBwd.τ).loc Cert.GateBwd.main_arg0) = m ((c.tc : Thread Cert.GateBwd.nD Cert.GateBwd.τ).loc Cert.GateBwd.main_arg0)
      ∧ r.2.mem ((c.tc : Thread Cert.GateBwd.nD Cert.GateBwd.τ).loc Cert.GateBwd.main_arg1) = m ((c.tc : Thread Cert.GateBwd.nD Cert.GateBwd.τ).loc Cert.GateBwd.main_arg1)
      ∧ r.2.mem ((c.tc : Thread Cert.GateBwd.nD Cert.GateBwd.τ).loc Cert.GateBwd.main_arg2) = m ((c.tc : Thread Cert.GateBwd.nD Cert.GateBwd.τ).loc Cert.GateBwd.main_arg2)
      ∧ r.2.mem ((c.tc : Thread Cert.GateBwd.nD Cert.GateBwd.τ).loc Cert.GateBwd.main_arg3) = m ((c.tc : Thread Cert.GateBwd.nD Cert.GateBwd.τ).loc Cert.GateBwd.main_arg3))
      ∧ r.2.sem = fun _ => 0)

def quiescent_GateBwdIdeal [hGateBwdIdeal : Cert.GateBwdIdeal.Facts] : Prop :=
  ∀ (m : (ℓ : Loc Cert.GateBwdIdeal.nD Cert.GateBwdIdeal.τ Cert.GateBwdIdeal.sig) → Buf (Elt Ideal) ℓ) (g : Dev Cert.GateBwdIdeal.nD → PrngReg), Pre_GateBwdIdeal m →
    θ_run (Cert.GateBwdIdeal.defs (F := Ideal)) (onTc (τ := Cert.GateBwdIdeal.τ) (Cert.GateBwdIdeal.main (F := Ideal))) ⟨m, fun _ => 0, g⟩ (fun r => (∀ c : Dev Cert.GateBwdIdeal.nD,
      r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
      ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
      ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2)
      ∧ r.2.mem ((c.tc : Thread Cert.GateBwdIdeal.nD Cert.GateBwdIdeal.τ).loc Cert.GateBwdIdeal.main_arg3) = m ((c.tc : Thread Cert.GateBwdIdeal.nD Cert.GateBwdIdeal.τ).loc Cert.GateBwdIdeal.main_arg3))
      ∧ r.2.sem = fun _ => 0)

def quiescent_GateBwdIdeal_pre_finite [hGateBwdIdeal : Cert.GateBwdIdeal.Facts] [hPre_finite : Cert.Pre_finite.Facts] : Prop :=
  ∀ (m : (ℓ : Loc Cert.GateBwdIdeal.nD Cert.GateBwdIdeal.τ Cert.GateBwdIdeal.sig) → Buf (Elt Ideal) ℓ) (g : Dev Cert.GateBwdIdeal.nD → PrngReg), Pre_GateBwdIdeal_finite m →
    θ_run (Cert.GateBwdIdeal.defs (F := Ideal)) (onTc (τ := Cert.GateBwdIdeal.τ) (Cert.GateBwdIdeal.main (F := Ideal))) ⟨m, fun _ => 0, g⟩ (fun r => (∀ c : Dev Cert.GateBwdIdeal.nD,
      r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
      ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
      ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2)
      ∧ r.2.mem ((c.tc : Thread Cert.GateBwdIdeal.nD Cert.GateBwdIdeal.τ).loc Cert.GateBwdIdeal.main_arg3) = m ((c.tc : Thread Cert.GateBwdIdeal.nD Cert.GateBwdIdeal.τ).loc Cert.GateBwdIdeal.main_arg3))
      ∧ r.2.sem = fun _ => 0)

def quiescent_GateBwdRefIdeal [hGateBwdRefIdeal : Cert.GateBwdRefIdeal.Facts] : Prop :=
  ∀ (m : (ℓ : Loc Cert.GateBwdRefIdeal.nD Cert.GateBwdRefIdeal.τ Cert.GateBwdRefIdeal.sig) → Buf (Elt Ideal) ℓ) (g : Dev Cert.GateBwdRefIdeal.nD → PrngReg), Pre_GateBwdRefIdeal m →
    θ_run (Cert.GateBwdRefIdeal.defs (F := Ideal)) (onTc (τ := Cert.GateBwdRefIdeal.τ) (Cert.GateBwdRefIdeal.main (F := Ideal))) ⟨m, fun _ => 0, g⟩ (fun r => (∀ c : Dev Cert.GateBwdRefIdeal.nD,
      r.2.mem ((c.tc : Thread Cert.GateBwdRefIdeal.nD Cert.GateBwdRefIdeal.τ).loc Cert.GateBwdRefIdeal.main_arg0) = m ((c.tc : Thread Cert.GateBwdRefIdeal.nD Cert.GateBwdRefIdeal.τ).loc Cert.GateBwdRefIdeal.main_arg0)
      ∧ r.2.mem ((c.tc : Thread Cert.GateBwdRefIdeal.nD Cert.GateBwdRefIdeal.τ).loc Cert.GateBwdRefIdeal.main_arg1) = m ((c.tc : Thread Cert.GateBwdRefIdeal.nD Cert.GateBwdRefIdeal.τ).loc Cert.GateBwdRefIdeal.main_arg1)
      ∧ r.2.mem ((c.tc : Thread Cert.GateBwdRefIdeal.nD Cert.GateBwdRefIdeal.τ).loc Cert.GateBwdRefIdeal.main_arg2) = m ((c.tc : Thread Cert.GateBwdRefIdeal.nD Cert.GateBwdRefIdeal.τ).loc Cert.GateBwdRefIdeal.main_arg2)
      ∧ r.2.mem ((c.tc : Thread Cert.GateBwdRefIdeal.nD Cert.GateBwdRefIdeal.τ).loc Cert.GateBwdRefIdeal.main_arg3) = m ((c.tc : Thread Cert.GateBwdRefIdeal.nD Cert.GateBwdRefIdeal.τ).loc Cert.GateBwdRefIdeal.main_arg3))
      ∧ r.2.sem = fun _ => 0)

def quiescent_GateBwdRefIdeal_pre_finite [hGateBwdRefIdeal : Cert.GateBwdRefIdeal.Facts] [hPre_finite : Cert.Pre_finite.Facts] : Prop :=
  ∀ (m : (ℓ : Loc Cert.GateBwdRefIdeal.nD Cert.GateBwdRefIdeal.τ Cert.GateBwdRefIdeal.sig) → Buf (Elt Ideal) ℓ) (g : Dev Cert.GateBwdRefIdeal.nD → PrngReg), Pre_GateBwdRefIdeal_finite m →
    θ_run (Cert.GateBwdRefIdeal.defs (F := Ideal)) (onTc (τ := Cert.GateBwdRefIdeal.τ) (Cert.GateBwdRefIdeal.main (F := Ideal))) ⟨m, fun _ => 0, g⟩ (fun r => (∀ c : Dev Cert.GateBwdRefIdeal.nD,
      r.2.mem ((c.tc : Thread Cert.GateBwdRefIdeal.nD Cert.GateBwdRefIdeal.τ).loc Cert.GateBwdRefIdeal.main_arg0) = m ((c.tc : Thread Cert.GateBwdRefIdeal.nD Cert.GateBwdRefIdeal.τ).loc Cert.GateBwdRefIdeal.main_arg0)
      ∧ r.2.mem ((c.tc : Thread Cert.GateBwdRefIdeal.nD Cert.GateBwdRefIdeal.τ).loc Cert.GateBwdRefIdeal.main_arg1) = m ((c.tc : Thread Cert.GateBwdRefIdeal.nD Cert.GateBwdRefIdeal.τ).loc Cert.GateBwdRefIdeal.main_arg1)
      ∧ r.2.mem ((c.tc : Thread Cert.GateBwdRefIdeal.nD Cert.GateBwdRefIdeal.τ).loc Cert.GateBwdRefIdeal.main_arg2) = m ((c.tc : Thread Cert.GateBwdRefIdeal.nD Cert.GateBwdRefIdeal.τ).loc Cert.GateBwdRefIdeal.main_arg2)
      ∧ r.2.mem ((c.tc : Thread Cert.GateBwdRefIdeal.nD Cert.GateBwdRefIdeal.τ).loc Cert.GateBwdRefIdeal.main_arg3) = m ((c.tc : Thread Cert.GateBwdRefIdeal.nD Cert.GateBwdRefIdeal.τ).loc Cert.GateBwdRefIdeal.main_arg3))
      ∧ r.2.sem = fun _ => 0)

def preserves_Attn_AttnIdeal : Prop :=
  True

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)) →
    ∃ (v0 : (c : Dev Cert.MlpIdeal.nD) → Buf (Elt Ideal) ((c.tc : Thread Cert.MlpIdeal.nD Cert.MlpIdeal.τ).loc Cert.MlpIdeal.main_v24_0)) (v1 : (c : Dev Cert.MlpIdeal.nD) → Buf (Elt Ideal) ((c.tc : Thread Cert.MlpIdeal.nD Cert.MlpIdeal.τ).loc Cert.MlpIdeal.main_v24_1)) (v2 : (c : Dev Cert.MlpIdeal.nD) → Buf (Elt Ideal) ((c.tc : Thread Cert.MlpIdeal.nD Cert.MlpIdeal.τ).loc Cert.MlpIdeal.main_v24_2)) (v3 : (c : Dev Cert.MlpIdeal.nD) → Buf (Elt Ideal) ((c.tc : Thread Cert.MlpIdeal.nD Cert.MlpIdeal.τ).loc Cert.MlpIdeal.main_v24_3)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v24_0) = v0 c
          ∧ r.2.mem ((c.tc : Thread Cert.MlpIdeal.nD Cert.MlpIdeal.τ).loc Cert.MlpIdeal.main_v24_1) = v1 c
          ∧ r.2.mem ((c.tc : Thread Cert.MlpIdeal.nD Cert.MlpIdeal.τ).loc Cert.MlpIdeal.main_v24_2) = v2 c
          ∧ r.2.mem ((c.tc : Thread Cert.MlpIdeal.nD Cert.MlpIdeal.τ).loc Cert.MlpIdeal.main_v24_3) = v3 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v56) = v0 c
          ∧ r.2.mem ((c.tc : Thread Cert.MlpRefIdeal.nD Cert.MlpRefIdeal.τ).loc Cert.MlpRefIdeal.main_v59) = v1 c
          ∧ r.2.mem ((c.tc : Thread Cert.MlpRefIdeal.nD Cert.MlpRefIdeal.τ).loc Cert.MlpRefIdeal.main_v61) = v2 c
          ∧ r.2.mem ((c.tc : Thread Cert.MlpRefIdeal.nD Cert.MlpRefIdeal.τ).loc Cert.MlpRefIdeal.main_v64) = v3 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4))

def preserves_MlpFwd_MlpFwdIdeal : Prop :=
  True

def algebraic_MlpFwdIdeal_MlpFwdRefIdeal [hMlpFwdIdeal : Cert.MlpFwdIdeal.Facts] [hMlpFwdRefIdeal : Cert.MlpFwdRefIdeal.Facts] : Prop :=
  ∀ (m : (ℓ : Loc Cert.MlpFwdIdeal.nD Cert.MlpFwdIdeal.τ Cert.MlpFwdIdeal.sig) → Buf (Elt Ideal) ℓ) (g : Dev Cert.MlpFwdIdeal.nD → PrngReg)
    (m' : (ℓ : Loc Cert.MlpFwdRefIdeal.nD Cert.MlpFwdRefIdeal.τ Cert.MlpFwdRefIdeal.sig) → Buf (Elt Ideal) ℓ) (g' : Dev Cert.MlpFwdRefIdeal.nD → PrngReg), Pre_MlpFwdIdeal m →
    (∀ c : Dev Cert.MlpFwdIdeal.nD,
      m' ((c.tc : Thread Cert.MlpFwdRefIdeal.nD Cert.MlpFwdRefIdeal.τ).loc Cert.MlpFwdRefIdeal.main_arg0) = m ((c.tc : Thread Cert.MlpFwdIdeal.nD Cert.MlpFwdIdeal.τ).loc Cert.MlpFwdIdeal.main_arg0)
      ∧ m' ((c.tc : Thread Cert.MlpFwdRefIdeal.nD Cert.MlpFwdRefIdeal.τ).loc Cert.MlpFwdRefIdeal.main_arg1) = m ((c.tc : Thread Cert.MlpFwdIdeal.nD Cert.MlpFwdIdeal.τ).loc Cert.MlpFwdIdeal.main_arg1)
      ∧ m' ((c.tc : Thread Cert.MlpFwdRefIdeal.nD Cert.MlpFwdRefIdeal.τ).loc Cert.MlpFwdRefIdeal.main_arg2) = m ((c.tc : Thread Cert.MlpFwdIdeal.nD Cert.MlpFwdIdeal.τ).loc Cert.MlpFwdIdeal.main_arg2)
      ∧ m' ((c.tc : Thread Cert.MlpFwdRefIdeal.nD Cert.MlpFwdRefIdeal.τ).loc Cert.MlpFwdRefIdeal.main_arg3) = m ((c.tc : Thread Cert.MlpFwdIdeal.nD Cert.MlpFwdIdeal.τ).loc Cert.MlpFwdIdeal.main_arg3)) →
    ∃ (v0 : (c : Dev Cert.MlpFwdIdeal.nD) → Buf (Elt Ideal) ((c.tc : Thread Cert.MlpFwdIdeal.nD Cert.MlpFwdIdeal.τ).loc Cert.MlpFwdIdeal.main_v6_0)) (v1 : (c : Dev Cert.MlpFwdIdeal.nD) → Buf (Elt Ideal) ((c.tc : Thread Cert.MlpFwdIdeal.nD Cert.MlpFwdIdeal.τ).loc Cert.MlpFwdIdeal.main_v6_1)) (v2 : (c : Dev Cert.MlpFwdIdeal.nD) → Buf (Elt Ideal) ((c.tc : Thread Cert.MlpFwdIdeal.nD Cert.MlpFwdIdeal.τ).loc Cert.MlpFwdIdeal.main_v6_2)),
      θ_run (Cert.MlpFwdIdeal.defs (F := Ideal)) (onTc (τ := Cert.MlpFwdIdeal.τ) (Cert.MlpFwdIdeal.main (F := Ideal))) ⟨m, fun _ => 0, g⟩ (fun r => ∀ c : Dev Cert.MlpFwdIdeal.nD,
          r.2.mem ((c.tc : Thread Cert.MlpFwdIdeal.nD Cert.MlpFwdIdeal.τ).loc Cert.MlpFwdIdeal.main_v6_0) = v0 c
          ∧ r.2.mem ((c.tc : Thread Cert.MlpFwdIdeal.nD Cert.MlpFwdIdeal.τ).loc Cert.MlpFwdIdeal.main_v6_1) = v1 c
          ∧ r.2.mem ((c.tc : Thread Cert.MlpFwdIdeal.nD Cert.MlpFwdIdeal.τ).loc Cert.MlpFwdIdeal.main_v6_2) = v2 c
          ∧ r.2.mem ((c.tc : Thread Cert.MlpFwdIdeal.nD Cert.MlpFwdIdeal.τ).loc Cert.MlpFwdIdeal.main_arg0) = m ((c.tc : Thread Cert.MlpFwdIdeal.nD Cert.MlpFwdIdeal.τ).loc Cert.MlpFwdIdeal.main_arg0)
          ∧ r.2.mem ((c.tc : Thread Cert.MlpFwdIdeal.nD Cert.MlpFwdIdeal.τ).loc Cert.MlpFwdIdeal.main_arg1) = m ((c.tc : Thread Cert.MlpFwdIdeal.nD Cert.MlpFwdIdeal.τ).loc Cert.MlpFwdIdeal.main_arg1)
          ∧ r.2.mem ((c.tc : Thread Cert.MlpFwdIdeal.nD Cert.MlpFwdIdeal.τ).loc Cert.MlpFwdIdeal.main_arg2) = m ((c.tc : Thread Cert.MlpFwdIdeal.nD Cert.MlpFwdIdeal.τ).loc Cert.MlpFwdIdeal.main_arg2)
          ∧ r.2.mem ((c.tc : Thread Cert.MlpFwdIdeal.nD Cert.MlpFwdIdeal.τ).loc Cert.MlpFwdIdeal.main_arg3) = m ((c.tc : Thread Cert.MlpFwdIdeal.nD Cert.MlpFwdIdeal.τ).loc Cert.MlpFwdIdeal.main_arg3))
      ∧ θ_run (Cert.MlpFwdRefIdeal.defs (F := Ideal)) (onTc (τ := Cert.MlpFwdRefIdeal.τ) (Cert.MlpFwdRefIdeal.main (F := Ideal))) ⟨m', fun _ => 0, g'⟩ (fun r => ∀ c : Dev Cert.MlpFwdRefIdeal.nD,
          r.2.mem ((c.tc : Thread Cert.MlpFwdRefIdeal.nD Cert.MlpFwdRefIdeal.τ).loc Cert.MlpFwdRefIdeal.main_v15) = v0 c
          ∧ r.2.mem ((c.tc : Thread Cert.MlpFwdRefIdeal.nD Cert.MlpFwdRefIdeal.τ).loc Cert.MlpFwdRefIdeal.main_v16) = v1 c
          ∧ r.2.mem ((c.tc : Thread Cert.MlpFwdRefIdeal.nD Cert.MlpFwdRefIdeal.τ).loc Cert.MlpFwdRefIdeal.main_v19) = v2 c
          ∧ r.2.mem ((c.tc : Thread Cert.MlpFwdRefIdeal.nD Cert.MlpFwdRefIdeal.τ).loc Cert.MlpFwdRefIdeal.main_arg0) = m' ((c.tc : Thread Cert.MlpFwdRefIdeal.nD Cert.MlpFwdRefIdeal.τ).loc Cert.MlpFwdRefIdeal.main_arg0)
          ∧ r.2.mem ((c.tc : Thread Cert.MlpFwdRefIdeal.nD Cert.MlpFwdRefIdeal.τ).loc Cert.MlpFwdRefIdeal.main_arg1) = m' ((c.tc : Thread Cert.MlpFwdRefIdeal.nD Cert.MlpFwdRefIdeal.τ).loc Cert.MlpFwdRefIdeal.main_arg1)
          ∧ r.2.mem ((c.tc : Thread Cert.MlpFwdRefIdeal.nD Cert.MlpFwdRefIdeal.τ).loc Cert.MlpFwdRefIdeal.main_arg2) = m' ((c.tc : Thread Cert.MlpFwdRefIdeal.nD Cert.MlpFwdRefIdeal.τ).loc Cert.MlpFwdRefIdeal.main_arg2)
          ∧ r.2.mem ((c.tc : Thread Cert.MlpFwdRefIdeal.nD Cert.MlpFwdRefIdeal.τ).loc Cert.MlpFwdRefIdeal.main_arg3) = m' ((c.tc : Thread Cert.MlpFwdRefIdeal.nD Cert.MlpFwdRefIdeal.τ).loc Cert.MlpFwdRefIdeal.main_arg3))

def preserves_OutBwd_OutBwdIdeal : Prop :=
  True

def algebraic_OutBwdIdeal_OutBwdRefIdeal [hOutBwdIdeal : Cert.OutBwdIdeal.Facts] [hOutBwdRefIdeal : Cert.OutBwdRefIdeal.Facts] : Prop :=
  ∀ (m : (ℓ : Loc Cert.OutBwdIdeal.nD Cert.OutBwdIdeal.τ Cert.OutBwdIdeal.sig) → Buf (Elt Ideal) ℓ) (g : Dev Cert.OutBwdIdeal.nD → PrngReg)
    (m' : (ℓ : Loc Cert.OutBwdRefIdeal.nD Cert.OutBwdRefIdeal.τ Cert.OutBwdRefIdeal.sig) → Buf (Elt Ideal) ℓ) (g' : Dev Cert.OutBwdRefIdeal.nD → PrngReg), Pre_OutBwdIdeal m →
    (∀ c : Dev Cert.OutBwdIdeal.nD,
      m' ((c.tc : Thread Cert.OutBwdRefIdeal.nD Cert.OutBwdRefIdeal.τ).loc Cert.OutBwdRefIdeal.main_arg0) = m ((c.tc : Thread Cert.OutBwdIdeal.nD Cert.OutBwdIdeal.τ).loc Cert.OutBwdIdeal.main_arg0)
      ∧ m' ((c.tc : Thread Cert.OutBwdRefIdeal.nD Cert.OutBwdRefIdeal.τ).loc Cert.OutBwdRefIdeal.main_arg1) = m ((c.tc : Thread Cert.OutBwdIdeal.nD Cert.OutBwdIdeal.τ).loc Cert.OutBwdIdeal.main_arg1)
      ∧ m' ((c.tc : Thread Cert.OutBwdRefIdeal.nD Cert.OutBwdRefIdeal.τ).loc Cert.OutBwdRefIdeal.main_arg2) = m ((c.tc : Thread Cert.OutBwdIdeal.nD Cert.OutBwdIdeal.τ).loc Cert.OutBwdIdeal.main_arg2)
      ∧ m' ((c.tc : Thread Cert.OutBwdRefIdeal.nD Cert.OutBwdRefIdeal.τ).loc Cert.OutBwdRefIdeal.main_arg3) = m ((c.tc : Thread Cert.OutBwdIdeal.nD Cert.OutBwdIdeal.τ).loc Cert.OutBwdIdeal.main_arg3)) →
    ∃ (v0 : (c : Dev Cert.OutBwdIdeal.nD) → Buf (Elt Ideal) ((c.tc : Thread Cert.OutBwdIdeal.nD Cert.OutBwdIdeal.τ).loc Cert.OutBwdIdeal.main_v2_0)) (v1 : (c : Dev Cert.OutBwdIdeal.nD) → Buf (Elt Ideal) ((c.tc : Thread Cert.OutBwdIdeal.nD Cert.OutBwdIdeal.τ).loc Cert.OutBwdIdeal.main_v2_1)) (v2 : (c : Dev Cert.OutBwdIdeal.nD) → Buf (Elt Ideal) ((c.tc : Thread Cert.OutBwdIdeal.nD Cert.OutBwdIdeal.τ).loc Cert.OutBwdIdeal.main_v2_2)),
      θ_run (Cert.OutBwdIdeal.defs (F := Ideal)) (onTc (τ := Cert.OutBwdIdeal.τ) (Cert.OutBwdIdeal.main (F := Ideal))) ⟨m, fun _ => 0, g⟩ (fun r => ∀ c : Dev Cert.OutBwdIdeal.nD,
          r.2.mem ((c.tc : Thread Cert.OutBwdIdeal.nD Cert.OutBwdIdeal.τ).loc Cert.OutBwdIdeal.main_v2_0) = v0 c
          ∧ r.2.mem ((c.tc : Thread Cert.OutBwdIdeal.nD Cert.OutBwdIdeal.τ).loc Cert.OutBwdIdeal.main_v2_1) = v1 c
          ∧ r.2.mem ((c.tc : Thread Cert.OutBwdIdeal.nD Cert.OutBwdIdeal.τ).loc Cert.OutBwdIdeal.main_v2_2) = v2 c
          ∧ r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
          ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1)
          ∧ r.2.mem ((c.tc : Thread Cert.OutBwdIdeal.nD Cert.OutBwdIdeal.τ).loc Cert.OutBwdIdeal.main_arg2) = m ((c.tc : Thread Cert.OutBwdIdeal.nD Cert.OutBwdIdeal.τ).loc Cert.OutBwdIdeal.main_arg2)
          ∧ r.2.mem ((c.tc : Thread Cert.OutBwdIdeal.nD Cert.OutBwdIdeal.τ).loc Cert.OutBwdIdeal.main_arg3) = m ((c.tc : Thread Cert.OutBwdIdeal.nD Cert.OutBwdIdeal.τ).loc Cert.OutBwdIdeal.main_arg3))
      ∧ θ_run (Cert.OutBwdRefIdeal.defs (F := Ideal)) (onTc (τ := Cert.OutBwdRefIdeal.τ) (Cert.OutBwdRefIdeal.main (F := Ideal))) ⟨m', fun _ => 0, g'⟩ (fun r => ∀ c : Dev Cert.OutBwdRefIdeal.nD,
          r.2.mem ((c.tc : Thread Cert.OutBwdRefIdeal.nD Cert.OutBwdRefIdeal.τ).loc Cert.OutBwdRefIdeal.main_v11) = v0 c
          ∧ r.2.mem ((c.tc : Thread Cert.OutBwdRefIdeal.nD Cert.OutBwdRefIdeal.τ).loc Cert.OutBwdRefIdeal.main_v12) = v1 c
          ∧ r.2.mem ((c.tc : Thread Cert.OutBwdRefIdeal.nD Cert.OutBwdRefIdeal.τ).loc Cert.OutBwdRefIdeal.main_v15) = v2 c
          ∧ r.2.mem ((c.tc : Thread Cert.OutBwdRefIdeal.nD Cert.OutBwdRefIdeal.τ).loc Cert.OutBwdRefIdeal.main_arg0) = m' ((c.tc : Thread Cert.OutBwdRefIdeal.nD Cert.OutBwdRefIdeal.τ).loc Cert.OutBwdRefIdeal.main_arg0)
          ∧ r.2.mem ((c.tc : Thread Cert.OutBwdRefIdeal.nD Cert.OutBwdRefIdeal.τ).loc Cert.OutBwdRefIdeal.main_arg1) = m' ((c.tc : Thread Cert.OutBwdRefIdeal.nD Cert.OutBwdRefIdeal.τ).loc Cert.OutBwdRefIdeal.main_arg1)
          ∧ r.2.mem ((c.tc : Thread Cert.OutBwdRefIdeal.nD Cert.OutBwdRefIdeal.τ).loc Cert.OutBwdRefIdeal.main_arg2) = m' ((c.tc : Thread Cert.OutBwdRefIdeal.nD Cert.OutBwdRefIdeal.τ).loc Cert.OutBwdRefIdeal.main_arg2)
          ∧ r.2.mem ((c.tc : Thread Cert.OutBwdRefIdeal.nD Cert.OutBwdRefIdeal.τ).loc Cert.OutBwdRefIdeal.main_arg3) = m' ((c.tc : Thread Cert.OutBwdRefIdeal.nD Cert.OutBwdRefIdeal.τ).loc Cert.OutBwdRefIdeal.main_arg3))

def preserves_QBwd_QBwdIdeal : Prop :=
  True

def algebraic_QBwdIdeal_QBwdRefIdeal [hQBwdIdeal : Cert.QBwdIdeal.Facts] [hQBwdRefIdeal : Cert.QBwdRefIdeal.Facts] : Prop :=
  ∀ (m : (ℓ : Loc Cert.QBwdIdeal.nD Cert.QBwdIdeal.τ Cert.QBwdIdeal.sig) → Buf (Elt Ideal) ℓ) (g : Dev Cert.QBwdIdeal.nD → PrngReg)
    (m' : (ℓ : Loc Cert.QBwdRefIdeal.nD Cert.QBwdRefIdeal.τ Cert.QBwdRefIdeal.sig) → Buf (Elt Ideal) ℓ) (g' : Dev Cert.QBwdRefIdeal.nD → PrngReg), Pre_QBwdIdeal m →
    (∀ c : Dev Cert.QBwdIdeal.nD,
      m' ((c.tc : Thread Cert.QBwdRefIdeal.nD Cert.QBwdRefIdeal.τ).loc Cert.QBwdRefIdeal.main_arg0) = m ((c.tc : Thread Cert.QBwdIdeal.nD Cert.QBwdIdeal.τ).loc Cert.QBwdIdeal.main_arg0)
      ∧ m' ((c.tc : Thread Cert.QBwdRefIdeal.nD Cert.QBwdRefIdeal.τ).loc Cert.QBwdRefIdeal.main_arg1) = m ((c.tc : Thread Cert.QBwdIdeal.nD Cert.QBwdIdeal.τ).loc Cert.QBwdIdeal.main_arg1)
      ∧ m' ((c.tc : Thread Cert.QBwdRefIdeal.nD Cert.QBwdRefIdeal.τ).loc Cert.QBwdRefIdeal.main_arg2) = m ((c.tc : Thread Cert.QBwdIdeal.nD Cert.QBwdIdeal.τ).loc Cert.QBwdIdeal.main_arg2)
      ∧ m' ((c.tc : Thread Cert.QBwdRefIdeal.nD Cert.QBwdRefIdeal.τ).loc Cert.QBwdRefIdeal.main_arg3) = m ((c.tc : Thread Cert.QBwdIdeal.nD Cert.QBwdIdeal.τ).loc Cert.QBwdIdeal.main_arg3)
      ∧ m' ((c.tc : Thread Cert.QBwdRefIdeal.nD Cert.QBwdRefIdeal.τ).loc Cert.QBwdRefIdeal.main_arg4) = m ((c.tc : Thread Cert.QBwdIdeal.nD Cert.QBwdIdeal.τ).loc Cert.QBwdIdeal.main_arg4)
      ∧ m' ((c.tc : Thread Cert.QBwdRefIdeal.nD Cert.QBwdRefIdeal.τ).loc Cert.QBwdRefIdeal.main_arg5) = m ((c.tc : Thread Cert.QBwdIdeal.nD Cert.QBwdIdeal.τ).loc Cert.QBwdIdeal.main_arg5)) →
    ∃ (v0 : (c : Dev Cert.QBwdIdeal.nD) → Buf (Elt Ideal) ((c.tc : Thread Cert.QBwdIdeal.nD Cert.QBwdIdeal.τ).loc Cert.QBwdIdeal.main_v16_0)) (v1 : (c : Dev Cert.QBwdIdeal.nD) → Buf (Elt Ideal) ((c.tc : Thread Cert.QBwdIdeal.nD Cert.QBwdIdeal.τ).loc Cert.QBwdIdeal.main_v16_1)) (v2 : (c : Dev Cert.QBwdIdeal.nD) → Buf (Elt Ideal) ((c.tc : Thread Cert.QBwdIdeal.nD Cert.QBwdIdeal.τ).loc Cert.QBwdIdeal.main_v16_2)) (v3 : (c : Dev Cert.QBwdIdeal.nD) → Buf (Elt Ideal) ((c.tc : Thread Cert.QBwdIdeal.nD Cert.QBwdIdeal.τ).loc Cert.QBwdIdeal.main_v16_3)),
      θ_run (Cert.QBwdIdeal.defs (F := Ideal)) (onTc (τ := Cert.QBwdIdeal.τ) (Cert.QBwdIdeal.main (F := Ideal))) ⟨m, fun _ => 0, g⟩ (fun r => ∀ c : Dev Cert.QBwdIdeal.nD,
          r.2.mem ((c.tc : Thread Cert.QBwdIdeal.nD Cert.QBwdIdeal.τ).loc Cert.QBwdIdeal.main_v16_0) = v0 c
          ∧ r.2.mem ((c.tc : Thread Cert.QBwdIdeal.nD Cert.QBwdIdeal.τ).loc Cert.QBwdIdeal.main_v16_1) = v1 c
          ∧ r.2.mem ((c.tc : Thread Cert.QBwdIdeal.nD Cert.QBwdIdeal.τ).loc Cert.QBwdIdeal.main_v16_2) = v2 c
          ∧ r.2.mem ((c.tc : Thread Cert.QBwdIdeal.nD Cert.QBwdIdeal.τ).loc Cert.QBwdIdeal.main_v16_3) = v3 c
          ∧ r.2.mem ((c.tc : Thread Cert.QBwdIdeal.nD Cert.QBwdIdeal.τ).loc Cert.QBwdIdeal.main_arg0) = m ((c.tc : Thread Cert.QBwdIdeal.nD Cert.QBwdIdeal.τ).loc Cert.QBwdIdeal.main_arg0)
          ∧ r.2.mem ((c.tc : Thread Cert.QBwdIdeal.nD Cert.QBwdIdeal.τ).loc Cert.QBwdIdeal.main_arg1) = m ((c.tc : Thread Cert.QBwdIdeal.nD Cert.QBwdIdeal.τ).loc Cert.QBwdIdeal.main_arg1)
          ∧ r.2.mem ((c.tc : Thread Cert.QBwdIdeal.nD Cert.QBwdIdeal.τ).loc Cert.QBwdIdeal.main_arg2) = m ((c.tc : Thread Cert.QBwdIdeal.nD Cert.QBwdIdeal.τ).loc Cert.QBwdIdeal.main_arg2)
          ∧ r.2.mem ((c.tc : Thread Cert.QBwdIdeal.nD Cert.QBwdIdeal.τ).loc Cert.QBwdIdeal.main_arg3) = m ((c.tc : Thread Cert.QBwdIdeal.nD Cert.QBwdIdeal.τ).loc Cert.QBwdIdeal.main_arg3)
          ∧ r.2.mem ((c.tc : Thread Cert.QBwdIdeal.nD Cert.QBwdIdeal.τ).loc Cert.QBwdIdeal.main_arg4) = m ((c.tc : Thread Cert.QBwdIdeal.nD Cert.QBwdIdeal.τ).loc Cert.QBwdIdeal.main_arg4)
          ∧ r.2.mem ((c.tc : Thread Cert.QBwdIdeal.nD Cert.QBwdIdeal.τ).loc Cert.QBwdIdeal.main_arg5) = m ((c.tc : Thread Cert.QBwdIdeal.nD Cert.QBwdIdeal.τ).loc Cert.QBwdIdeal.main_arg5))
      ∧ θ_run (Cert.QBwdRefIdeal.defs (F := Ideal)) (onTc (τ := Cert.QBwdRefIdeal.τ) (Cert.QBwdRefIdeal.main (F := Ideal))) ⟨m', fun _ => 0, g'⟩ (fun r => ∀ c : Dev Cert.QBwdRefIdeal.nD,
          r.2.mem ((c.tc : Thread Cert.QBwdRefIdeal.nD Cert.QBwdRefIdeal.τ).loc Cert.QBwdRefIdeal.main_v47) = v0 c
          ∧ r.2.mem ((c.tc : Thread Cert.QBwdRefIdeal.nD Cert.QBwdRefIdeal.τ).loc Cert.QBwdRefIdeal.main_v48) = v1 c
          ∧ r.2.mem ((c.tc : Thread Cert.QBwdRefIdeal.nD Cert.QBwdRefIdeal.τ).loc Cert.QBwdRefIdeal.main_v51) = v2 c
          ∧ r.2.mem ((c.tc : Thread Cert.QBwdRefIdeal.nD Cert.QBwdRefIdeal.τ).loc Cert.QBwdRefIdeal.main_v54) = v3 c
          ∧ r.2.mem ((c.tc : Thread Cert.QBwdRefIdeal.nD Cert.QBwdRefIdeal.τ).loc Cert.QBwdRefIdeal.main_arg0) = m' ((c.tc : Thread Cert.QBwdRefIdeal.nD Cert.QBwdRefIdeal.τ).loc Cert.QBwdRefIdeal.main_arg0)
          ∧ r.2.mem ((c.tc : Thread Cert.QBwdRefIdeal.nD Cert.QBwdRefIdeal.τ).loc Cert.QBwdRefIdeal.main_arg1) = m' ((c.tc : Thread Cert.QBwdRefIdeal.nD Cert.QBwdRefIdeal.τ).loc Cert.QBwdRefIdeal.main_arg1)
          ∧ r.2.mem ((c.tc : Thread Cert.QBwdRefIdeal.nD Cert.QBwdRefIdeal.τ).loc Cert.QBwdRefIdeal.main_arg2) = m' ((c.tc : Thread Cert.QBwdRefIdeal.nD Cert.QBwdRefIdeal.τ).loc Cert.QBwdRefIdeal.main_arg2)
          ∧ r.2.mem ((c.tc : Thread Cert.QBwdRefIdeal.nD Cert.QBwdRefIdeal.τ).loc Cert.QBwdRefIdeal.main_arg3) = m' ((c.tc : Thread Cert.QBwdRefIdeal.nD Cert.QBwdRefIdeal.τ).loc Cert.QBwdRefIdeal.main_arg3)
          ∧ r.2.mem ((c.tc : Thread Cert.QBwdRefIdeal.nD Cert.QBwdRefIdeal.τ).loc Cert.QBwdRefIdeal.main_arg4) = m' ((c.tc : Thread Cert.QBwdRefIdeal.nD Cert.QBwdRefIdeal.τ).loc Cert.QBwdRefIdeal.main_arg4)
          ∧ r.2.mem ((c.tc : Thread Cert.QBwdRefIdeal.nD Cert.QBwdRefIdeal.τ).loc Cert.QBwdRefIdeal.main_arg5) = m' ((c.tc : Thread Cert.QBwdRefIdeal.nD Cert.QBwdRefIdeal.τ).loc Cert.QBwdRefIdeal.main_arg5))

def preserves_AttnPre_AttnPreIdeal : Prop :=
  True

def algebraic_AttnPreIdeal_AttnPreRefIdeal [hAttnPreIdeal : Cert.AttnPreIdeal.Facts] [hAttnPreRefIdeal : Cert.AttnPreRefIdeal.Facts] : Prop :=
  ∀ (m : (ℓ : Loc Cert.AttnPreIdeal.nD Cert.AttnPreIdeal.τ Cert.AttnPreIdeal.sig) → Buf (Elt Ideal) ℓ) (g : Dev Cert.AttnPreIdeal.nD → PrngReg)
    (m' : (ℓ : Loc Cert.AttnPreRefIdeal.nD Cert.AttnPreRefIdeal.τ Cert.AttnPreRefIdeal.sig) → Buf (Elt Ideal) ℓ) (g' : Dev Cert.AttnPreRefIdeal.nD → PrngReg), Pre_AttnPreIdeal m →
    (∀ c : Dev Cert.AttnPreIdeal.nD,
      m' ((c.tc : Thread Cert.AttnPreRefIdeal.nD Cert.AttnPreRefIdeal.τ).loc Cert.AttnPreRefIdeal.main_arg0) = m ((c.tc : Thread Cert.AttnPreIdeal.nD Cert.AttnPreIdeal.τ).loc Cert.AttnPreIdeal.main_arg0)
      ∧ m' ((c.tc : Thread Cert.AttnPreRefIdeal.nD Cert.AttnPreRefIdeal.τ).loc Cert.AttnPreRefIdeal.main_arg1) = m ((c.tc : Thread Cert.AttnPreIdeal.nD Cert.AttnPreIdeal.τ).loc Cert.AttnPreIdeal.main_arg1)
      ∧ m' ((c.tc : Thread Cert.AttnPreRefIdeal.nD Cert.AttnPreRefIdeal.τ).loc Cert.AttnPreRefIdeal.main_arg2) = m ((c.tc : Thread Cert.AttnPreIdeal.nD Cert.AttnPreIdeal.τ).loc Cert.AttnPreIdeal.main_arg2)
      ∧ m' ((c.tc : Thread Cert.AttnPreRefIdeal.nD Cert.AttnPreRefIdeal.τ).loc Cert.AttnPreRefIdeal.main_arg3) = m ((c.tc : Thread Cert.AttnPreIdeal.nD Cert.AttnPreIdeal.τ).loc Cert.AttnPreIdeal.main_arg3)
      ∧ m' ((c.tc : Thread Cert.AttnPreRefIdeal.nD Cert.AttnPreRefIdeal.τ).loc Cert.AttnPreRefIdeal.main_arg4) = m ((c.tc : Thread Cert.AttnPreIdeal.nD Cert.AttnPreIdeal.τ).loc Cert.AttnPreIdeal.main_arg4)
      ∧ m' ((c.tc : Thread Cert.AttnPreRefIdeal.nD Cert.AttnPreRefIdeal.τ).loc Cert.AttnPreRefIdeal.main_arg5) = m ((c.tc : Thread Cert.AttnPreIdeal.nD Cert.AttnPreIdeal.τ).loc Cert.AttnPreIdeal.main_arg5)
      ∧ m' ((c.tc : Thread Cert.AttnPreRefIdeal.nD Cert.AttnPreRefIdeal.τ).loc Cert.AttnPreRefIdeal.main_arg6) = m ((c.tc : Thread Cert.AttnPreIdeal.nD Cert.AttnPreIdeal.τ).loc Cert.AttnPreIdeal.main_arg6)) →
    ∃ (v0 : (c : Dev Cert.AttnPreIdeal.nD) → Buf (Elt Ideal) ((c.tc : Thread Cert.AttnPreIdeal.nD Cert.AttnPreIdeal.τ).loc Cert.AttnPreIdeal.main_v16_0)) (v1 : (c : Dev Cert.AttnPreIdeal.nD) → Buf (Elt Ideal) ((c.tc : Thread Cert.AttnPreIdeal.nD Cert.AttnPreIdeal.τ).loc Cert.AttnPreIdeal.main_v16_1)) (v2 : (c : Dev Cert.AttnPreIdeal.nD) → Buf (Elt Ideal) ((c.tc : Thread Cert.AttnPreIdeal.nD Cert.AttnPreIdeal.τ).loc Cert.AttnPreIdeal.main_v16_2)) (v3 : (c : Dev Cert.AttnPreIdeal.nD) → Buf (Elt Ideal) ((c.tc : Thread Cert.AttnPreIdeal.nD Cert.AttnPreIdeal.τ).loc Cert.AttnPreIdeal.main_v16_3)) (v4 : (c : Dev Cert.AttnPreIdeal.nD) → Buf (Elt Ideal) ((c.tc : Thread Cert.AttnPreIdeal.nD Cert.AttnPreIdeal.τ).loc Cert.AttnPreIdeal.main_v16_4)),
      θ_run (Cert.AttnPreIdeal.defs (F := Ideal)) (onTc (τ := Cert.AttnPreIdeal.τ) (Cert.AttnPreIdeal.main (F := Ideal))) ⟨m, fun _ => 0, g⟩ (fun r => ∀ c : Dev Cert.AttnPreIdeal.nD,
          r.2.mem ((c.tc : Thread Cert.AttnPreIdeal.nD Cert.AttnPreIdeal.τ).loc Cert.AttnPreIdeal.main_v16_0) = v0 c
          ∧ r.2.mem ((c.tc : Thread Cert.AttnPreIdeal.nD Cert.AttnPreIdeal.τ).loc Cert.AttnPreIdeal.main_v16_1) = v1 c
          ∧ r.2.mem ((c.tc : Thread Cert.AttnPreIdeal.nD Cert.AttnPreIdeal.τ).loc Cert.AttnPreIdeal.main_v16_2) = v2 c
          ∧ r.2.mem ((c.tc : Thread Cert.AttnPreIdeal.nD Cert.AttnPreIdeal.τ).loc Cert.AttnPreIdeal.main_v16_3) = v3 c
          ∧ r.2.mem ((c.tc : Thread Cert.AttnPreIdeal.nD Cert.AttnPreIdeal.τ).loc Cert.AttnPreIdeal.main_v16_4) = v4 c
          ∧ r.2.mem ((c.tc : Thread Cert.AttnPreIdeal.nD Cert.AttnPreIdeal.τ).loc Cert.AttnPreIdeal.main_arg0) = m ((c.tc : Thread Cert.AttnPreIdeal.nD Cert.AttnPreIdeal.τ).loc Cert.AttnPreIdeal.main_arg0)
          ∧ r.2.mem ((c.tc : Thread Cert.AttnPreIdeal.nD Cert.AttnPreIdeal.τ).loc Cert.AttnPreIdeal.main_arg1) = m ((c.tc : Thread Cert.AttnPreIdeal.nD Cert.AttnPreIdeal.τ).loc Cert.AttnPreIdeal.main_arg1)
          ∧ r.2.mem ((c.tc : Thread Cert.AttnPreIdeal.nD Cert.AttnPreIdeal.τ).loc Cert.AttnPreIdeal.main_arg2) = m ((c.tc : Thread Cert.AttnPreIdeal.nD Cert.AttnPreIdeal.τ).loc Cert.AttnPreIdeal.main_arg2)
          ∧ r.2.mem ((c.tc : Thread Cert.AttnPreIdeal.nD Cert.AttnPreIdeal.τ).loc Cert.AttnPreIdeal.main_arg3) = m ((c.tc : Thread Cert.AttnPreIdeal.nD Cert.AttnPreIdeal.τ).loc Cert.AttnPreIdeal.main_arg3)
          ∧ r.2.mem ((c.tc : Thread Cert.AttnPreIdeal.nD Cert.AttnPreIdeal.τ).loc Cert.AttnPreIdeal.main_arg4) = m ((c.tc : Thread Cert.AttnPreIdeal.nD Cert.AttnPreIdeal.τ).loc Cert.AttnPreIdeal.main_arg4)
          ∧ r.2.mem ((c.tc : Thread Cert.AttnPreIdeal.nD Cert.AttnPreIdeal.τ).loc Cert.AttnPreIdeal.main_arg5) = m ((c.tc : Thread Cert.AttnPreIdeal.nD Cert.AttnPreIdeal.τ).loc Cert.AttnPreIdeal.main_arg5)
          ∧ r.2.mem ((c.tc : Thread Cert.AttnPreIdeal.nD Cert.AttnPreIdeal.τ).loc Cert.AttnPreIdeal.main_arg6) = m ((c.tc : Thread Cert.AttnPreIdeal.nD Cert.AttnPreIdeal.τ).loc Cert.AttnPreIdeal.main_arg6))
      ∧ θ_run (Cert.AttnPreRefIdeal.defs (F := Ideal)) (onTc (τ := Cert.AttnPreRefIdeal.τ) (Cert.AttnPreRefIdeal.main (F := Ideal))) ⟨m', fun _ => 0, g'⟩ (fun r => ∀ c : Dev Cert.AttnPreRefIdeal.nD,
          r.2.mem ((c.tc : Thread Cert.AttnPreRefIdeal.nD Cert.AttnPreRefIdeal.τ).loc Cert.AttnPreRefIdeal.main_v55) = v0 c
          ∧ r.2.mem ((c.tc : Thread Cert.AttnPreRefIdeal.nD Cert.AttnPreRefIdeal.τ).loc Cert.AttnPreRefIdeal.main_v56) = v1 c
          ∧ r.2.mem ((c.tc : Thread Cert.AttnPreRefIdeal.nD Cert.AttnPreRefIdeal.τ).loc Cert.AttnPreRefIdeal.main_v57) = v2 c
          ∧ r.2.mem ((c.tc : Thread Cert.AttnPreRefIdeal.nD Cert.AttnPreRefIdeal.τ).loc Cert.AttnPreRefIdeal.main_v58) = v3 c
          ∧ r.2.mem ((c.tc : Thread Cert.AttnPreRefIdeal.nD Cert.AttnPreRefIdeal.τ).loc Cert.AttnPreRefIdeal.main_v59) = v4 c
          ∧ r.2.mem ((c.tc : Thread Cert.AttnPreRefIdeal.nD Cert.AttnPreRefIdeal.τ).loc Cert.AttnPreRefIdeal.main_arg0) = m' ((c.tc : Thread Cert.AttnPreRefIdeal.nD Cert.AttnPreRefIdeal.τ).loc Cert.AttnPreRefIdeal.main_arg0)
          ∧ r.2.mem ((c.tc : Thread Cert.AttnPreRefIdeal.nD Cert.AttnPreRefIdeal.τ).loc Cert.AttnPreRefIdeal.main_arg1) = m' ((c.tc : Thread Cert.AttnPreRefIdeal.nD Cert.AttnPreRefIdeal.τ).loc Cert.AttnPreRefIdeal.main_arg1)
          ∧ r.2.mem ((c.tc : Thread Cert.AttnPreRefIdeal.nD Cert.AttnPreRefIdeal.τ).loc Cert.AttnPreRefIdeal.main_arg2) = m' ((c.tc : Thread Cert.AttnPreRefIdeal.nD Cert.AttnPreRefIdeal.τ).loc Cert.AttnPreRefIdeal.main_arg2)
          ∧ r.2.mem ((c.tc : Thread Cert.AttnPreRefIdeal.nD Cert.AttnPreRefIdeal.τ).loc Cert.AttnPreRefIdeal.main_arg3) = m' ((c.tc : Thread Cert.AttnPreRefIdeal.nD Cert.AttnPreRefIdeal.τ).loc Cert.AttnPreRefIdeal.main_arg3)
          ∧ r.2.mem ((c.tc : Thread Cert.AttnPreRefIdeal.nD Cert.AttnPreRefIdeal.τ).loc Cert.AttnPreRefIdeal.main_arg4) = m' ((c.tc : Thread Cert.AttnPreRefIdeal.nD Cert.AttnPreRefIdeal.τ).loc Cert.AttnPreRefIdeal.main_arg4)
          ∧ r.2.mem ((c.tc : Thread Cert.AttnPreRefIdeal.nD Cert.AttnPreRefIdeal.τ).loc Cert.AttnPreRefIdeal.main_arg5) = m' ((c.tc : Thread Cert.AttnPreRefIdeal.nD Cert.AttnPreRefIdeal.τ).loc Cert.AttnPreRefIdeal.main_arg5)
          ∧ r.2.mem ((c.tc : Thread Cert.AttnPreRefIdeal.nD Cert.AttnPreRefIdeal.τ).loc Cert.AttnPreRefIdeal.main_arg6) = m' ((c.tc : Thread Cert.AttnPreRefIdeal.nD Cert.AttnPreRefIdeal.τ).loc Cert.AttnPreRefIdeal.main_arg6))

def preserves_AttnPost_AttnPostIdeal : Prop :=
  True

def algebraic_AttnPostIdeal_AttnPostRefIdeal [hAttnPostIdeal : Cert.AttnPostIdeal.Facts] [hAttnPostRefIdeal : Cert.AttnPostRefIdeal.Facts] : Prop :=
  ∀ (m : (ℓ : Loc Cert.AttnPostIdeal.nD Cert.AttnPostIdeal.τ Cert.AttnPostIdeal.sig) → Buf (Elt Ideal) ℓ) (g : Dev Cert.AttnPostIdeal.nD → PrngReg)
    (m' : (ℓ : Loc Cert.AttnPostRefIdeal.nD Cert.AttnPostRefIdeal.τ Cert.AttnPostRefIdeal.sig) → Buf (Elt Ideal) ℓ) (g' : Dev Cert.AttnPostRefIdeal.nD → PrngReg), Pre_AttnPostIdeal m →
    (∀ c : Dev Cert.AttnPostIdeal.nD,
      m' ((c.tc : Thread Cert.AttnPostRefIdeal.nD Cert.AttnPostRefIdeal.τ).loc Cert.AttnPostRefIdeal.main_arg0) = m ((c.tc : Thread Cert.AttnPostIdeal.nD Cert.AttnPostIdeal.τ).loc Cert.AttnPostIdeal.main_arg0)
      ∧ m' ((c.tc : Thread Cert.AttnPostRefIdeal.nD Cert.AttnPostRefIdeal.τ).loc Cert.AttnPostRefIdeal.main_arg1) = m ((c.tc : Thread Cert.AttnPostIdeal.nD Cert.AttnPostIdeal.τ).loc Cert.AttnPostIdeal.main_arg1)
      ∧ m' ((c.tc : Thread Cert.AttnPostRefIdeal.nD Cert.AttnPostRefIdeal.τ).loc Cert.AttnPostRefIdeal.main_arg2) = m ((c.tc : Thread Cert.AttnPostIdeal.nD Cert.AttnPostIdeal.τ).loc Cert.AttnPostIdeal.main_arg2)
      ∧ m' ((c.tc : Thread Cert.AttnPostRefIdeal.nD Cert.AttnPostRefIdeal.τ).loc Cert.AttnPostRefIdeal.main_arg3) = m ((c.tc : Thread Cert.AttnPostIdeal.nD Cert.AttnPostIdeal.τ).loc Cert.AttnPostIdeal.main_arg3)) →
    ∃ (v0 : (c : Dev Cert.AttnPostIdeal.nD) → Buf (Elt Ideal) ((c.tc : Thread Cert.AttnPostIdeal.nD Cert.AttnPostIdeal.τ).loc Cert.AttnPostIdeal.main_v3)),
      θ_run (Cert.AttnPostIdeal.defs (F := Ideal)) (onTc (τ := Cert.AttnPostIdeal.τ) (Cert.AttnPostIdeal.main (F := Ideal))) ⟨m, fun _ => 0, g⟩ (fun r => ∀ c : Dev Cert.AttnPostIdeal.nD,
          r.2.mem ((c.tc : Thread Cert.AttnPostIdeal.nD Cert.AttnPostIdeal.τ).loc Cert.AttnPostIdeal.main_v3) = v0 c
          ∧ r.2.mem ((c.tc : Thread Cert.AttnPostIdeal.nD Cert.AttnPostIdeal.τ).loc Cert.AttnPostIdeal.main_arg0) = m ((c.tc : Thread Cert.AttnPostIdeal.nD Cert.AttnPostIdeal.τ).loc Cert.AttnPostIdeal.main_arg0)
          ∧ r.2.mem ((c.tc : Thread Cert.AttnPostIdeal.nD Cert.AttnPostIdeal.τ).loc Cert.AttnPostIdeal.main_arg1) = m ((c.tc : Thread Cert.AttnPostIdeal.nD Cert.AttnPostIdeal.τ).loc Cert.AttnPostIdeal.main_arg1)
          ∧ r.2.mem ((c.tc : Thread Cert.AttnPostIdeal.nD Cert.AttnPostIdeal.τ).loc Cert.AttnPostIdeal.main_arg2) = m ((c.tc : Thread Cert.AttnPostIdeal.nD Cert.AttnPostIdeal.τ).loc Cert.AttnPostIdeal.main_arg2)
          ∧ r.2.mem ((c.tc : Thread Cert.AttnPostIdeal.nD Cert.AttnPostIdeal.τ).loc Cert.AttnPostIdeal.main_arg3) = m ((c.tc : Thread Cert.AttnPostIdeal.nD Cert.AttnPostIdeal.τ).loc Cert.AttnPostIdeal.main_arg3))
      ∧ θ_run (Cert.AttnPostRefIdeal.defs (F := Ideal)) (onTc (τ := Cert.AttnPostRefIdeal.τ) (Cert.AttnPostRefIdeal.main (F := Ideal))) ⟨m', fun _ => 0, g'⟩ (fun r => ∀ c : Dev Cert.AttnPostRefIdeal.nD,
          r.2.mem ((c.tc : Thread Cert.AttnPostRefIdeal.nD Cert.AttnPostRefIdeal.τ).loc Cert.AttnPostRefIdeal.main_v4) = v0 c
          ∧ r.2.mem ((c.tc : Thread Cert.AttnPostRefIdeal.nD Cert.AttnPostRefIdeal.τ).loc Cert.AttnPostRefIdeal.main_arg0) = m' ((c.tc : Thread Cert.AttnPostRefIdeal.nD Cert.AttnPostRefIdeal.τ).loc Cert.AttnPostRefIdeal.main_arg0)
          ∧ r.2.mem ((c.tc : Thread Cert.AttnPostRefIdeal.nD Cert.AttnPostRefIdeal.τ).loc Cert.AttnPostRefIdeal.main_arg1) = m' ((c.tc : Thread Cert.AttnPostRefIdeal.nD Cert.AttnPostRefIdeal.τ).loc Cert.AttnPostRefIdeal.main_arg1)
          ∧ r.2.mem ((c.tc : Thread Cert.AttnPostRefIdeal.nD Cert.AttnPostRefIdeal.τ).loc Cert.AttnPostRefIdeal.main_arg2) = m' ((c.tc : Thread Cert.AttnPostRefIdeal.nD Cert.AttnPostRefIdeal.τ).loc Cert.AttnPostRefIdeal.main_arg2)
          ∧ r.2.mem ((c.tc : Thread Cert.AttnPostRefIdeal.nD Cert.AttnPostRefIdeal.τ).loc Cert.AttnPostRefIdeal.main_arg3) = m' ((c.tc : Thread Cert.AttnPostRefIdeal.nD Cert.AttnPostRefIdeal.τ).loc Cert.AttnPostRefIdeal.main_arg3))

def preserves_KvBwd_KvBwdIdeal : Prop :=
  True

def algebraic_KvBwdIdeal_KvBwdRefIdeal [hKvBwdIdeal : Cert.KvBwdIdeal.Facts] [hKvBwdRefIdeal : Cert.KvBwdRefIdeal.Facts] : Prop :=
  ∀ (m : (ℓ : Loc Cert.KvBwdIdeal.nD Cert.KvBwdIdeal.τ Cert.KvBwdIdeal.sig) → Buf (Elt Ideal) ℓ) (g : Dev Cert.KvBwdIdeal.nD → PrngReg)
    (m' : (ℓ : Loc Cert.KvBwdRefIdeal.nD Cert.KvBwdRefIdeal.τ Cert.KvBwdRefIdeal.sig) → Buf (Elt Ideal) ℓ) (g' : Dev Cert.KvBwdRefIdeal.nD → PrngReg), Pre_KvBwdIdeal m →
    (∀ c : Dev Cert.KvBwdIdeal.nD,
      m' ((c.tc : Thread Cert.KvBwdRefIdeal.nD Cert.KvBwdRefIdeal.τ).loc Cert.KvBwdRefIdeal.main_arg0) = m ((c.tc : Thread Cert.KvBwdIdeal.nD Cert.KvBwdIdeal.τ).loc Cert.KvBwdIdeal.main_arg0)
      ∧ m' ((c.tc : Thread Cert.KvBwdRefIdeal.nD Cert.KvBwdRefIdeal.τ).loc Cert.KvBwdRefIdeal.main_arg1) = m ((c.tc : Thread Cert.KvBwdIdeal.nD Cert.KvBwdIdeal.τ).loc Cert.KvBwdIdeal.main_arg1)
      ∧ m' ((c.tc : Thread Cert.KvBwdRefIdeal.nD Cert.KvBwdRefIdeal.τ).loc Cert.KvBwdRefIdeal.main_arg2) = m ((c.tc : Thread Cert.KvBwdIdeal.nD Cert.KvBwdIdeal.τ).loc Cert.KvBwdIdeal.main_arg2)
      ∧ m' ((c.tc : Thread Cert.KvBwdRefIdeal.nD Cert.KvBwdRefIdeal.τ).loc Cert.KvBwdRefIdeal.main_arg3) = m ((c.tc : Thread Cert.KvBwdIdeal.nD Cert.KvBwdIdeal.τ).loc Cert.KvBwdIdeal.main_arg3)
      ∧ m' ((c.tc : Thread Cert.KvBwdRefIdeal.nD Cert.KvBwdRefIdeal.τ).loc Cert.KvBwdRefIdeal.main_arg4) = m ((c.tc : Thread Cert.KvBwdIdeal.nD Cert.KvBwdIdeal.τ).loc Cert.KvBwdIdeal.main_arg4)
      ∧ m' ((c.tc : Thread Cert.KvBwdRefIdeal.nD Cert.KvBwdRefIdeal.τ).loc Cert.KvBwdRefIdeal.main_arg5) = m ((c.tc : Thread Cert.KvBwdIdeal.nD Cert.KvBwdIdeal.τ).loc Cert.KvBwdIdeal.main_arg5)
      ∧ m' ((c.tc : Thread Cert.KvBwdRefIdeal.nD Cert.KvBwdRefIdeal.τ).loc Cert.KvBwdRefIdeal.main_arg6) = m ((c.tc : Thread Cert.KvBwdIdeal.nD Cert.KvBwdIdeal.τ).loc Cert.KvBwdIdeal.main_arg6)) →
    ∃ (v0 : (c : Dev Cert.KvBwdIdeal.nD) → Buf (Elt Ideal) ((c.tc : Thread Cert.KvBwdIdeal.nD Cert.KvBwdIdeal.τ).loc Cert.KvBwdIdeal.main_v26_0)) (v1 : (c : Dev Cert.KvBwdIdeal.nD) → Buf (Elt Ideal) ((c.tc : Thread Cert.KvBwdIdeal.nD Cert.KvBwdIdeal.τ).loc Cert.KvBwdIdeal.main_v26_1)) (v2 : (c : Dev Cert.KvBwdIdeal.nD) → Buf (Elt Ideal) ((c.tc : Thread Cert.KvBwdIdeal.nD Cert.KvBwdIdeal.τ).loc Cert.KvBwdIdeal.main_v26_2)) (v3 : (c : Dev Cert.KvBwdIdeal.nD) → Buf (Elt Ideal) ((c.tc : Thread Cert.KvBwdIdeal.nD Cert.KvBwdIdeal.τ).loc Cert.KvBwdIdeal.main_v26_3)) (v4 : (c : Dev Cert.KvBwdIdeal.nD) → Buf (Elt Ideal) ((c.tc : Thread Cert.KvBwdIdeal.nD Cert.KvBwdIdeal.τ).loc Cert.KvBwdIdeal.main_v26_4)),
      θ_run (Cert.KvBwdIdeal.defs (F := Ideal)) (onTc (τ := Cert.KvBwdIdeal.τ) (Cert.KvBwdIdeal.main (F := Ideal))) ⟨m, fun _ => 0, g⟩ (fun r => ∀ c : Dev Cert.KvBwdIdeal.nD,
          r.2.mem ((c.tc : Thread Cert.KvBwdIdeal.nD Cert.KvBwdIdeal.τ).loc Cert.KvBwdIdeal.main_v26_0) = v0 c
          ∧ r.2.mem ((c.tc : Thread Cert.KvBwdIdeal.nD Cert.KvBwdIdeal.τ).loc Cert.KvBwdIdeal.main_v26_1) = v1 c
          ∧ r.2.mem ((c.tc : Thread Cert.KvBwdIdeal.nD Cert.KvBwdIdeal.τ).loc Cert.KvBwdIdeal.main_v26_2) = v2 c
          ∧ r.2.mem ((c.tc : Thread Cert.KvBwdIdeal.nD Cert.KvBwdIdeal.τ).loc Cert.KvBwdIdeal.main_v26_3) = v3 c
          ∧ r.2.mem ((c.tc : Thread Cert.KvBwdIdeal.nD Cert.KvBwdIdeal.τ).loc Cert.KvBwdIdeal.main_v26_4) = v4 c
          ∧ r.2.mem ((c.tc : Thread Cert.KvBwdIdeal.nD Cert.KvBwdIdeal.τ).loc Cert.KvBwdIdeal.main_arg0) = m ((c.tc : Thread Cert.KvBwdIdeal.nD Cert.KvBwdIdeal.τ).loc Cert.KvBwdIdeal.main_arg0)
          ∧ r.2.mem ((c.tc : Thread Cert.KvBwdIdeal.nD Cert.KvBwdIdeal.τ).loc Cert.KvBwdIdeal.main_arg1) = m ((c.tc : Thread Cert.KvBwdIdeal.nD Cert.KvBwdIdeal.τ).loc Cert.KvBwdIdeal.main_arg1)
          ∧ r.2.mem ((c.tc : Thread Cert.KvBwdIdeal.nD Cert.KvBwdIdeal.τ).loc Cert.KvBwdIdeal.main_arg2) = m ((c.tc : Thread Cert.KvBwdIdeal.nD Cert.KvBwdIdeal.τ).loc Cert.KvBwdIdeal.main_arg2)
          ∧ r.2.mem ((c.tc : Thread Cert.KvBwdIdeal.nD Cert.KvBwdIdeal.τ).loc Cert.KvBwdIdeal.main_arg3) = m ((c.tc : Thread Cert.KvBwdIdeal.nD Cert.KvBwdIdeal.τ).loc Cert.KvBwdIdeal.main_arg3)
          ∧ r.2.mem ((c.tc : Thread Cert.KvBwdIdeal.nD Cert.KvBwdIdeal.τ).loc Cert.KvBwdIdeal.main_arg4) = m ((c.tc : Thread Cert.KvBwdIdeal.nD Cert.KvBwdIdeal.τ).loc Cert.KvBwdIdeal.main_arg4)
          ∧ r.2.mem ((c.tc : Thread Cert.KvBwdIdeal.nD Cert.KvBwdIdeal.τ).loc Cert.KvBwdIdeal.main_arg5) = m ((c.tc : Thread Cert.KvBwdIdeal.nD Cert.KvBwdIdeal.τ).loc Cert.KvBwdIdeal.main_arg5)
          ∧ r.2.mem ((c.tc : Thread Cert.KvBwdIdeal.nD Cert.KvBwdIdeal.τ).loc Cert.KvBwdIdeal.main_arg6) = m ((c.tc : Thread Cert.KvBwdIdeal.nD Cert.KvBwdIdeal.τ).loc Cert.KvBwdIdeal.main_arg6))
      ∧ θ_run (Cert.KvBwdRefIdeal.defs (F := Ideal)) (onTc (τ := Cert.KvBwdRefIdeal.τ) (Cert.KvBwdRefIdeal.main (F := Ideal))) ⟨m', fun _ => 0, g'⟩ (fun r => ∀ c : Dev Cert.KvBwdRefIdeal.nD,
          r.2.mem ((c.tc : Thread Cert.KvBwdRefIdeal.nD Cert.KvBwdRefIdeal.τ).loc Cert.KvBwdRefIdeal.main_v63) = v0 c
          ∧ r.2.mem ((c.tc : Thread Cert.KvBwdRefIdeal.nD Cert.KvBwdRefIdeal.τ).loc Cert.KvBwdRefIdeal.main_v64) = v1 c
          ∧ r.2.mem ((c.tc : Thread Cert.KvBwdRefIdeal.nD Cert.KvBwdRefIdeal.τ).loc Cert.KvBwdRefIdeal.main_v65) = v2 c
          ∧ r.2.mem ((c.tc : Thread Cert.KvBwdRefIdeal.nD Cert.KvBwdRefIdeal.τ).loc Cert.KvBwdRefIdeal.main_v68) = v3 c
          ∧ r.2.mem ((c.tc : Thread Cert.KvBwdRefIdeal.nD Cert.KvBwdRefIdeal.τ).loc Cert.KvBwdRefIdeal.main_v71) = v4 c
          ∧ r.2.mem ((c.tc : Thread Cert.KvBwdRefIdeal.nD Cert.KvBwdRefIdeal.τ).loc Cert.KvBwdRefIdeal.main_arg0) = m' ((c.tc : Thread Cert.KvBwdRefIdeal.nD Cert.KvBwdRefIdeal.τ).loc Cert.KvBwdRefIdeal.main_arg0)
          ∧ r.2.mem ((c.tc : Thread Cert.KvBwdRefIdeal.nD Cert.KvBwdRefIdeal.τ).loc Cert.KvBwdRefIdeal.main_arg1) = m' ((c.tc : Thread Cert.KvBwdRefIdeal.nD Cert.KvBwdRefIdeal.τ).loc Cert.KvBwdRefIdeal.main_arg1)
          ∧ r.2.mem ((c.tc : Thread Cert.KvBwdRefIdeal.nD Cert.KvBwdRefIdeal.τ).loc Cert.KvBwdRefIdeal.main_arg2) = m' ((c.tc : Thread Cert.KvBwdRefIdeal.nD Cert.KvBwdRefIdeal.τ).loc Cert.KvBwdRefIdeal.main_arg2)
          ∧ r.2.mem ((c.tc : Thread Cert.KvBwdRefIdeal.nD Cert.KvBwdRefIdeal.τ).loc Cert.KvBwdRefIdeal.main_arg3) = m' ((c.tc : Thread Cert.KvBwdRefIdeal.nD Cert.KvBwdRefIdeal.τ).loc Cert.KvBwdRefIdeal.main_arg3)
          ∧ r.2.mem ((c.tc : Thread Cert.KvBwdRefIdeal.nD Cert.KvBwdRefIdeal.τ).loc Cert.KvBwdRefIdeal.main_arg4) = m' ((c.tc : Thread Cert.KvBwdRefIdeal.nD Cert.KvBwdRefIdeal.τ).loc Cert.KvBwdRefIdeal.main_arg4)
          ∧ r.2.mem ((c.tc : Thread Cert.KvBwdRefIdeal.nD Cert.KvBwdRefIdeal.τ).loc Cert.KvBwdRefIdeal.main_arg5) = m' ((c.tc : Thread Cert.KvBwdRefIdeal.nD Cert.KvBwdRefIdeal.τ).loc Cert.KvBwdRefIdeal.main_arg5)
          ∧ r.2.mem ((c.tc : Thread Cert.KvBwdRefIdeal.nD Cert.KvBwdRefIdeal.τ).loc Cert.KvBwdRefIdeal.main_arg6) = m' ((c.tc : Thread Cert.KvBwdRefIdeal.nD Cert.KvBwdRefIdeal.τ).loc Cert.KvBwdRefIdeal.main_arg6))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)
      ∧ m' ((c.tc : Thread Cert.GateRefIdeal.nD Cert.GateRefIdeal.τ).loc Cert.GateRefIdeal.main_arg4) = m ((c.tc : Thread Cert.GateIdeal.nD Cert.GateIdeal.τ).loc Cert.GateIdeal.main_arg4)
      ∧ m' ((c.tc : Thread Cert.GateRefIdeal.nD Cert.GateRefIdeal.τ).loc Cert.GateRefIdeal.main_arg5) = m ((c.tc : Thread Cert.GateIdeal.nD Cert.GateIdeal.τ).loc Cert.GateIdeal.main_arg5)) →
    ∃ (v0 : (c : Dev Cert.GateIdeal.nD) → Buf (Elt Ideal) ((c.tc : Thread Cert.GateIdeal.nD Cert.GateIdeal.τ).loc Cert.GateIdeal.main_v6_0)) (v1 : (c : Dev Cert.GateIdeal.nD) → Buf (Elt Ideal) ((c.tc : Thread Cert.GateIdeal.nD Cert.GateIdeal.τ).loc Cert.GateIdeal.main_v6_1)) (v2 : (c : Dev Cert.GateIdeal.nD) → Buf (Elt Ideal) ((c.tc : Thread Cert.GateIdeal.nD Cert.GateIdeal.τ).loc Cert.GateIdeal.main_v6_2)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v6_0) = v0 c
          ∧ r.2.mem ((c.tc : Thread Cert.GateIdeal.nD Cert.GateIdeal.τ).loc Cert.GateIdeal.main_v6_1) = v1 c
          ∧ r.2.mem ((c.tc : Thread Cert.GateIdeal.nD Cert.GateIdeal.τ).loc Cert.GateIdeal.main_v6_2) = v2 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
          ∧ r.2.mem ((c.tc : Thread Cert.GateIdeal.nD Cert.GateIdeal.τ).loc Cert.GateIdeal.main_arg4) = m ((c.tc : Thread Cert.GateIdeal.nD Cert.GateIdeal.τ).loc Cert.GateIdeal.main_arg4)
          ∧ r.2.mem ((c.tc : Thread Cert.GateIdeal.nD Cert.GateIdeal.τ).loc Cert.GateIdeal.main_arg5) = m ((c.tc : Thread Cert.GateIdeal.nD Cert.GateIdeal.τ).loc Cert.GateIdeal.main_arg5))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v16) = v0 c
          ∧ r.2.mem ((c.tc : Thread Cert.GateRefIdeal.nD Cert.GateRefIdeal.τ).loc Cert.GateRefIdeal.main_v33) = v1 c
          ∧ r.2.mem ((c.tc : Thread Cert.GateRefIdeal.nD Cert.GateRefIdeal.τ).loc Cert.GateRefIdeal.main_v43) = v2 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3)
          ∧ r.2.mem ((c.tc : Thread Cert.GateRefIdeal.nD Cert.GateRefIdeal.τ).loc Cert.GateRefIdeal.main_arg4) = m' ((c.tc : Thread Cert.GateRefIdeal.nD Cert.GateRefIdeal.τ).loc Cert.GateRefIdeal.main_arg4)
          ∧ r.2.mem ((c.tc : Thread Cert.GateRefIdeal.nD Cert.GateRefIdeal.τ).loc Cert.GateRefIdeal.main_arg5) = m' ((c.tc : Thread Cert.GateRefIdeal.nD Cert.GateRefIdeal.τ).loc Cert.GateRefIdeal.main_arg5))

def preserves_GateBwd_GateBwdIdeal : Prop :=
  IdealRules.named_const.Statement Cert.GateBwdIdeal.κ "cubic" .f32 0x3D372713#32 ((8943 / 200000 : ℝ) : EReal)
  ∧ IdealRules.named_const.Statement Cert.GateBwdIdeal.κ "square" .f32 0x3E095D4F#32 ((26829 / 200000 : ℝ) : EReal)

def algebraic_GateBwdIdeal_GateBwdRefIdeal_pre_finite [hGateBwdIdeal : Cert.GateBwdIdeal.Facts] [hGateBwdRefIdeal : Cert.GateBwdRefIdeal.Facts] [hPre_finite : Cert.Pre_finite.Facts] : Prop :=
  ∀ (m : (ℓ : Loc Cert.GateBwdIdeal.nD Cert.GateBwdIdeal.τ Cert.GateBwdIdeal.sig) → Buf (Elt Ideal) ℓ) (g : Dev Cert.GateBwdIdeal.nD → PrngReg)
    (m' : (ℓ : Loc Cert.GateBwdRefIdeal.nD Cert.GateBwdRefIdeal.τ Cert.GateBwdRefIdeal.sig) → Buf (Elt Ideal) ℓ) (g' : Dev Cert.GateBwdRefIdeal.nD → PrngReg), Pre_GateBwdIdeal_finite m →
    (∀ c : Dev Cert.GateBwdIdeal.nD,
      m' ((c.tc : Thread Cert.GateBwdRefIdeal.nD Cert.GateBwdRefIdeal.τ).loc Cert.GateBwdRefIdeal.main_arg0) = m ((c.tc : Thread Cert.GateBwdIdeal.nD Cert.GateBwdIdeal.τ).loc Cert.GateBwdIdeal.main_arg0)
      ∧ m' ((c.tc : Thread Cert.GateBwdRefIdeal.nD Cert.GateBwdRefIdeal.τ).loc Cert.GateBwdRefIdeal.main_arg1) = m ((c.tc : Thread Cert.GateBwdIdeal.nD Cert.GateBwdIdeal.τ).loc Cert.GateBwdIdeal.main_arg1)
      ∧ m' ((c.tc : Thread Cert.GateBwdRefIdeal.nD Cert.GateBwdRefIdeal.τ).loc Cert.GateBwdRefIdeal.main_arg2) = m ((c.tc : Thread Cert.GateBwdIdeal.nD Cert.GateBwdIdeal.τ).loc Cert.GateBwdIdeal.main_arg2)
      ∧ m' ((c.tc : Thread Cert.GateBwdRefIdeal.nD Cert.GateBwdRefIdeal.τ).loc Cert.GateBwdRefIdeal.main_arg3) = m ((c.tc : Thread Cert.GateBwdIdeal.nD Cert.GateBwdIdeal.τ).loc Cert.GateBwdIdeal.main_arg3)) →
    ∃ (v0 : (c : Dev Cert.GateBwdIdeal.nD) → Buf (Elt Ideal) ((c.tc : Thread Cert.GateBwdIdeal.nD Cert.GateBwdIdeal.τ).loc Cert.GateBwdIdeal.main_v22_0)) (v1 : (c : Dev Cert.GateBwdIdeal.nD) → Buf (Elt Ideal) ((c.tc : Thread Cert.GateBwdIdeal.nD Cert.GateBwdIdeal.τ).loc Cert.GateBwdIdeal.main_v22_1)) (v2 : (c : Dev Cert.GateBwdIdeal.nD) → Buf (Elt Ideal) ((c.tc : Thread Cert.GateBwdIdeal.nD Cert.GateBwdIdeal.τ).loc Cert.GateBwdIdeal.main_v22_2)),
      θ_run (Cert.GateBwdIdeal.defs (F := Ideal)) (onTc (τ := Cert.GateBwdIdeal.τ) (Cert.GateBwdIdeal.main (F := Ideal))) ⟨m, fun _ => 0, g⟩ (fun r => ∀ c : Dev Cert.GateBwdIdeal.nD,
          r.2.mem ((c.tc : Thread Cert.GateBwdIdeal.nD Cert.GateBwdIdeal.τ).loc Cert.GateBwdIdeal.main_v22_0) = v0 c
          ∧ r.2.mem ((c.tc : Thread Cert.GateBwdIdeal.nD Cert.GateBwdIdeal.τ).loc Cert.GateBwdIdeal.main_v22_1) = v1 c
          ∧ r.2.mem ((c.tc : Thread Cert.GateBwdIdeal.nD Cert.GateBwdIdeal.τ).loc Cert.GateBwdIdeal.main_v22_2) = v2 c
          ∧ r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
          ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
          ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2)
          ∧ r.2.mem ((c.tc : Thread Cert.GateBwdIdeal.nD Cert.GateBwdIdeal.τ).loc Cert.GateBwdIdeal.main_arg3) = m ((c.tc : Thread Cert.GateBwdIdeal.nD Cert.GateBwdIdeal.τ).loc Cert.GateBwdIdeal.main_arg3))
      ∧ θ_run (Cert.GateBwdRefIdeal.defs (F := Ideal)) (onTc (τ := Cert.GateBwdRefIdeal.τ) (Cert.GateBwdRefIdeal.main (F := Ideal))) ⟨m', fun _ => 0, g'⟩ (fun r => ∀ c : Dev Cert.GateBwdRefIdeal.nD,
          r.2.mem ((c.tc : Thread Cert.GateBwdRefIdeal.nD Cert.GateBwdRefIdeal.τ).loc Cert.GateBwdRefIdeal.main_v64) = v0 c
          ∧ r.2.mem ((c.tc : Thread Cert.GateBwdRefIdeal.nD Cert.GateBwdRefIdeal.τ).loc Cert.GateBwdRefIdeal.main_v67) = v1 c
          ∧ r.2.mem ((c.tc : Thread Cert.GateBwdRefIdeal.nD Cert.GateBwdRefIdeal.τ).loc Cert.GateBwdRefIdeal.main_v70) = v2 c
          ∧ r.2.mem ((c.tc : Thread Cert.GateBwdRefIdeal.nD Cert.GateBwdRefIdeal.τ).loc Cert.GateBwdRefIdeal.main_arg0) = m' ((c.tc : Thread Cert.GateBwdRefIdeal.nD Cert.GateBwdRefIdeal.τ).loc Cert.GateBwdRefIdeal.main_arg0)
          ∧ r.2.mem ((c.tc : Thread Cert.GateBwdRefIdeal.nD Cert.GateBwdRefIdeal.τ).loc Cert.GateBwdRefIdeal.main_arg1) = m' ((c.tc : Thread Cert.GateBwdRefIdeal.nD Cert.GateBwdRefIdeal.τ).loc Cert.GateBwdRefIdeal.main_arg1)
          ∧ r.2.mem ((c.tc : Thread Cert.GateBwdRefIdeal.nD Cert.GateBwdRefIdeal.τ).loc Cert.GateBwdRefIdeal.main_arg2) = m' ((c.tc : Thread Cert.GateBwdRefIdeal.nD Cert.GateBwdRefIdeal.τ).loc Cert.GateBwdRefIdeal.main_arg2)
          ∧ r.2.mem ((c.tc : Thread Cert.GateBwdRefIdeal.nD Cert.GateBwdRefIdeal.τ).loc Cert.GateBwdRefIdeal.main_arg3) = m' ((c.tc : Thread Cert.GateBwdRefIdeal.nD Cert.GateBwdRefIdeal.τ).loc Cert.GateBwdRefIdeal.main_arg3))

def Claim : Prop :=
  ∃ (hAttn : Cert.Attn.Facts) (hAttnIdeal : Cert.AttnIdeal.Facts) (hAttnRefIdeal : Cert.AttnRefIdeal.Facts) (hMlp : Cert.Mlp.Facts) (hMlpIdeal : Cert.MlpIdeal.Facts) (hMlpRefIdeal : Cert.MlpRefIdeal.Facts) (hMlpFwd : Cert.MlpFwd.Facts) (hMlpFwdIdeal : Cert.MlpFwdIdeal.Facts) (hMlpFwdRefIdeal : Cert.MlpFwdRefIdeal.Facts) (hOutBwd : Cert.OutBwd.Facts) (hOutBwdIdeal : Cert.OutBwdIdeal.Facts) (hOutBwdRefIdeal : Cert.OutBwdRefIdeal.Facts) (hQBwd : Cert.QBwd.Facts) (hQBwdIdeal : Cert.QBwdIdeal.Facts) (hQBwdRefIdeal : Cert.QBwdRefIdeal.Facts) (hAttnPre : Cert.AttnPre.Facts) (hAttnPreIdeal : Cert.AttnPreIdeal.Facts) (hAttnPreRefIdeal : Cert.AttnPreRefIdeal.Facts) (hAttnPost : Cert.AttnPost.Facts) (hAttnPostIdeal : Cert.AttnPostIdeal.Facts) (hAttnPostRefIdeal : Cert.AttnPostRefIdeal.Facts) (hKvBwd : Cert.KvBwd.Facts) (hKvBwdIdeal : Cert.KvBwdIdeal.Facts) (hKvBwdRefIdeal : Cert.KvBwdRefIdeal.Facts) (hGate : Cert.Gate.Facts) (hGateIdeal : Cert.GateIdeal.Facts) (hGateRefIdeal : Cert.GateRefIdeal.Facts) (hGateBwd : Cert.GateBwd.Facts) (hGateBwdIdeal : Cert.GateBwdIdeal.Facts) (hGateBwdRefIdeal : Cert.GateBwdRefIdeal.Facts) (hPre_finite : Cert.Pre_finite.Facts),
    quiescent_Attn (hAttn := hAttn)
    ∧ quiescent_AttnIdeal (hAttnIdeal := hAttnIdeal)
    ∧ quiescent_AttnRefIdeal (hAttnRefIdeal := hAttnRefIdeal)
    ∧ quiescent_Mlp (hMlp := hMlp)
    ∧ quiescent_MlpIdeal (hMlpIdeal := hMlpIdeal)
    ∧ quiescent_MlpRefIdeal (hMlpRefIdeal := hMlpRefIdeal)
    ∧ quiescent_MlpFwd (hMlpFwd := hMlpFwd)
    ∧ quiescent_MlpFwdIdeal (hMlpFwdIdeal := hMlpFwdIdeal)
    ∧ quiescent_MlpFwdRefIdeal (hMlpFwdRefIdeal := hMlpFwdRefIdeal)
    ∧ quiescent_OutBwd (hOutBwd := hOutBwd)
    ∧ quiescent_OutBwdIdeal (hOutBwdIdeal := hOutBwdIdeal)
    ∧ quiescent_OutBwdRefIdeal (hOutBwdRefIdeal := hOutBwdRefIdeal)
    ∧ quiescent_QBwd (hQBwd := hQBwd)
    ∧ quiescent_QBwdIdeal (hQBwdIdeal := hQBwdIdeal)
    ∧ quiescent_QBwdRefIdeal (hQBwdRefIdeal := hQBwdRefIdeal)
    ∧ quiescent_AttnPre (hAttnPre := hAttnPre)
    ∧ quiescent_AttnPreIdeal (hAttnPreIdeal := hAttnPreIdeal)
    ∧ quiescent_AttnPreRefIdeal (hAttnPreRefIdeal := hAttnPreRefIdeal)
    ∧ quiescent_AttnPost (hAttnPost := hAttnPost)
    ∧ quiescent_AttnPostIdeal (hAttnPostIdeal := hAttnPostIdeal)
    ∧ quiescent_AttnPostRefIdeal (hAttnPostRefIdeal := hAttnPostRefIdeal)
    ∧ quiescent_KvBwd (hKvBwd := hKvBwd)
    ∧ quiescent_KvBwdIdeal (hKvBwdIdeal := hKvBwdIdeal)
    ∧ quiescent_KvBwdRefIdeal (hKvBwdRefIdeal := hKvBwdRefIdeal)
    ∧ quiescent_Gate (hGate := hGate)
    ∧ quiescent_GateIdeal (hGateIdeal := hGateIdeal)
    ∧ quiescent_GateRefIdeal (hGateRefIdeal := hGateRefIdeal)
    ∧ quiescent_GateBwd (hGateBwd := hGateBwd)
    ∧ quiescent_GateBwdIdeal (hGateBwdIdeal := hGateBwdIdeal)
    ∧ quiescent_GateBwdIdeal_pre_finite (hGateBwdIdeal := hGateBwdIdeal) (hPre_finite := hPre_finite)
    ∧ quiescent_GateBwdRefIdeal (hGateBwdRefIdeal := hGateBwdRefIdeal)
    ∧ quiescent_GateBwdRefIdeal_pre_finite (hGateBwdRefIdeal := hGateBwdRefIdeal) (hPre_finite := hPre_finite)
    ∧ preserves_Attn_AttnIdeal
    ∧ preserves_Mlp_MlpIdeal
    ∧ algebraic_MlpIdeal_MlpRefIdeal (hMlpIdeal := hMlpIdeal) (hMlpRefIdeal := hMlpRefIdeal)
    ∧ preserves_MlpFwd_MlpFwdIdeal
    ∧ algebraic_MlpFwdIdeal_MlpFwdRefIdeal (hMlpFwdIdeal := hMlpFwdIdeal) (hMlpFwdRefIdeal := hMlpFwdRefIdeal)
    ∧ preserves_OutBwd_OutBwdIdeal
    ∧ algebraic_OutBwdIdeal_OutBwdRefIdeal (hOutBwdIdeal := hOutBwdIdeal) (hOutBwdRefIdeal := hOutBwdRefIdeal)
    ∧ preserves_QBwd_QBwdIdeal
    ∧ algebraic_QBwdIdeal_QBwdRefIdeal (hQBwdIdeal := hQBwdIdeal) (hQBwdRefIdeal := hQBwdRefIdeal)
    ∧ preserves_AttnPre_AttnPreIdeal
    ∧ algebraic_AttnPreIdeal_AttnPreRefIdeal (hAttnPreIdeal := hAttnPreIdeal) (hAttnPreRefIdeal := hAttnPreRefIdeal)
    ∧ preserves_AttnPost_AttnPostIdeal
    ∧ algebraic_AttnPostIdeal_AttnPostRefIdeal (hAttnPostIdeal := hAttnPostIdeal) (hAttnPostRefIdeal := hAttnPostRefIdeal)
    ∧ preserves_KvBwd_KvBwdIdeal
    ∧ algebraic_KvBwdIdeal_KvBwdRefIdeal (hKvBwdIdeal := hKvBwdIdeal) (hKvBwdRefIdeal := hKvBwdRefIdeal)
    ∧ preserves_Gate_GateIdeal
    ∧ algebraic_GateIdeal_GateRefIdeal (hGateIdeal := hGateIdeal) (hGateRefIdeal := hGateRefIdeal)
    ∧ preserves_GateBwd_GateBwdIdeal
    ∧ algebraic_GateBwdIdeal_GateBwdRefIdeal_pre_finite (hGateBwdIdeal := hGateBwdIdeal) (hGateBwdRefIdeal := hGateBwdRefIdeal) (hPre_finite := hPre_finite)
-- ==== Pre_finite.lean ====
abbrev S2048x1024 : Shape := ⟨2, ![2048, 1024]⟩
abbrev S1024x2048 : Shape := ⟨2, ![1024, 2048]⟩
abbrev S2048 : Shape := ⟨1, ![2048]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1024x2048 : S_.BroadcastsInDim S1024x2048 (![] : Fin 0 → Fin S1024x2048.rank)
  reducesTo_S1024x2048_S_d0_1 : S1024x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_v3 : IVec S_ 1) (main_v7 : IVec S_ 1) (main_v11 : IVec S_ 1) (main_v15 : IVec S_ 1) : IVec S_ 1 :=
  let main_v16 : IVec S_ 1 := andi main_v3 main_v7
  let main_v17 : IVec S_ 1 := andi main_v16 main_v11
  let main_v18 : IVec S_ 1 := andi main_v17 main_v15
  main_v18

def fn {F : FTy → Type} [FloatOps F] (main_arg0 : FVec F S2048x1024 .f32) (main_arg1 : FVec F S1024x2048 .f32) (main_arg2 : FVec F S2048 .f32) (main_arg3 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S1024x2048 .f32 := Host.absf main_arg1
  let main_cst_0 : FVec F S_ .f32 := constant S_ .f32 0x7F800000#32
  let main_v5 : FVec F S1024x2048 .f32 := broadcastInDim S1024x2048 ![] bcast_S_S1024x2048 main_cst_0
  let main_v6 : IVec S1024x2048 1 := cmpf .olt main_v4 main_v5
  let main_c_1 : IVec S_ 1 := constantI S_ 1 1#1
  let main_v7 : IVec S_ 1 := (fun x v => Host.reduce IntOp.andi x v reducesTo_S1024x2048_S_d0_1 h_S_) main_v6 main_c_1
  let main_v8 : FVec F S2048 .f32 := Host.absf main_arg2
  let main_cst_2 : FVec F S_ .f32 := constant S_ .f32 0x7F800000#32
  let main_v9 : FVec F S2048 .f32 := broadcastInDim S2048 ![] bcast_S_S2048 main_cst_2
  let main_v10 : IVec S2048 1 := cmpf .olt main_v8 main_v9
  let main_c_3 : IVec S_ 1 := constantI S_ 1 1#1
  let main_v11 : IVec S_ 1 := (fun x v => Host.reduce IntOp.andi x v reducesTo_S2048_S_d0 h_S_) main_v10 main_c_3
  let main_v12 : FVec F S2048x1024 .f32 := Host.absf main_arg3
  let main_cst_4 : FVec F S_ .f32 := constant S_ .f32 0x7F800000#32
  let main_v13 : FVec F S2048x1024 .f32 := broadcastInDim S2048x1024 ![] bcast_S_S2048x1024 main_cst_4
  let main_v14 : IVec S2048x1024 1 := cmpf .olt main_v12 main_v13
  let main_c_5 : IVec S_ 1 := constantI S_ 1 1#1
  let main_v15 : IVec S_ 1 := (fun x v => Host.reduce IntOp.andi x v reducesTo_S2048x1024_S_d0_1 h_S_) main_v14 main_c_5
  fn_part1 (F := F) main_v3 main_v7 main_v11 main_v15
-- ==== Attn.lean ====
abbrev S2048x1024 : Shape := ⟨2, ![2048, 1024]⟩
abbrev S2048x256 : Shape := ⟨2, ![2048, 256]⟩
abbrev S16 : Shape := ⟨1, ![16]⟩
abbrev S2048x4x1x64 : Shape := ⟨4, ![2048, 4, 1, 64]⟩
abbrev S2048x4x4x64 : Shape := ⟨4, ![2048, 4, 4, 64]⟩
abbrev S128 : Shape := ⟨1, ![128]⟩
abbrev S128x1 : Shape := ⟨2, ![128, 1]⟩
abbrev S256 : Shape := ⟨1, ![256]⟩
abbrev S1x256 : Shape := ⟨2, ![1, 256]⟩
abbrev S_ : Shape := ⟨0, ![]⟩
abbrev S128x256 : Shape := ⟨2, ![128, 256]⟩
abbrev S16x1x1x1 : Shape := ⟨4, ![16, 1, 1, 1]⟩
abbrev S1x1x1x256 : Shape := ⟨4, ![1, 1, 1, 256]⟩
abbrev S16x1x1x256 : Shape := ⟨4, ![16, 1, 1, 256]⟩
abbrev S1x1x128x256 : Shape := ⟨4, ![1, 1, 128, 256]⟩
abbrev S16x1x128x256 : Shape := ⟨4, ![16, 1, 128, 256]⟩
abbrev S1x16x1 : Shape := ⟨3, ![1, 16, 1]⟩
abbrev S16x128x16x64 : Shape := ⟨4, ![16, 128, 16, 64]⟩
abbrev S1x128x16x64 : Shape := ⟨4, ![1, 128, 16, 64]⟩
abbrev S15x128x16x64 : Shape := ⟨4, ![15, 128, 16, 64]⟩
abbrev S16x256x16x64 : Shape := ⟨4, ![16, 256, 16, 64]⟩
abbrev S16x16x128x256 : Shape := ⟨4, ![16, 16, 128, 256]⟩
abbrev S16x16x128 : Shape := ⟨3, ![16, 16, 128]⟩
abbrev S16x16x128x1 : Shape := ⟨4, ![16, 16, 128, 1]⟩
abbrev S16x4x512x256 : Shape := ⟨4, ![16, 4, 512, 256]⟩
abbrev S4x16x512x256 : Shape := ⟨4, ![4, 16, 512, 256]⟩
abbrev S16x4x512 : Shape := ⟨3, ![16, 4, 512]⟩
abbrev S4x16x512 : Shape := ⟨3, ![4, 16, 512]⟩
abbrev S4x16x512x1 : Shape := ⟨4, ![4, 16, 512, 1]⟩
abbrev S4x16x512x128 : Shape := ⟨4, ![4, 16, 512, 128]⟩
abbrev S4x8x128 : Shape := ⟨3, ![4, 8, 128]⟩
abbrev S512x256 : Shape := ⟨2, ![512, 256]⟩
abbrev S1x4x512x256 : Shape := ⟨4, ![1, 4, 512, 256]⟩
abbrev S1x4x512x128 : Shape := ⟨4, ![1, 4, 512, 128]⟩
abbrev S1x8x128 : Shape := ⟨3, ![1, 8, 128]⟩
abbrev S8x128 : Shape := ⟨2, ![8, 128]⟩
abbrev S256x256 : Shape := ⟨2, ![256, 256]⟩
abbrev S1x1x512x256 : Shape := ⟨4, ![1, 1, 512, 256]⟩
abbrev S1x1x512x128 : Shape := ⟨4, ![1, 1, 512, 128]⟩
abbrev S512x128 : Shape := ⟨2, ![512, 128]⟩
abbrev S512x1 : Shape := ⟨2, ![512, 1]⟩
abbrev S512 : Shape := ⟨1, ![512]⟩
abbrev S1 : Shape := ⟨1, ![1]⟩
abbrev S1x1 : Shape := ⟨2, ![1, 1]⟩

abbrev nBuf : Space → Nat
  | .hbm => 99
  | .vmem => 24
  | .smem => 0
  | _ => 0

abbrev bufTy : (tb : Table) → Fin (tcTables nBuf tb) → BufTy
  | .hbm, ⟨0, _⟩ => ⟨S2048x1024, .f32⟩
  | .hbm, ⟨1, _⟩ => ⟨S2048x256, .f32⟩
  | .hbm, ⟨2, _⟩ => ⟨S2048x256, .f32⟩
  | .hbm, ⟨3, _⟩ => ⟨S16, .f32⟩
  | .hbm, ⟨4, _⟩ => ⟨S2048x1024, .f32⟩
  | .hbm, ⟨5, _⟩ => ⟨S2048x4x1x64, .f32⟩
  | .hbm, ⟨6, _⟩ => ⟨S2048x4x4x64, .f32⟩
  | .hbm, ⟨7, _⟩ => ⟨S2048x1024, .f32⟩
  | .hbm, ⟨8, _⟩ => ⟨S2048x4x1x64, .f32⟩
  | .hbm, ⟨9, _⟩ => ⟨S2048x4x4x64, .f32⟩
  | .hbm, ⟨10, _⟩ => ⟨S2048x1024, .f32⟩
  | .hbm, ⟨11, _⟩ => ⟨S128, .i32⟩
  | .hbm, ⟨12, _⟩ => ⟨S128x1, .i32⟩
  | .hbm, ⟨13, _⟩ => ⟨S256, .i32⟩
  | .hbm, ⟨14, _⟩ => ⟨S1x256, .i32⟩
  | .hbm, ⟨15, _⟩ => ⟨S_, .i32⟩
  | .hbm, ⟨16, _⟩ => ⟨S128x1, .i32⟩
  | .hbm, ⟨17, _⟩ => ⟨S128x1, .i32⟩
  | .hbm, ⟨18, _⟩ => ⟨S128x256, .i32⟩
  | .hbm, ⟨19, _⟩ => ⟨S128x256, .i32⟩
  | .hbm, ⟨20, _⟩ => ⟨S128x256, .i32⟩
  | .hbm, ⟨21, _⟩ => ⟨S_, .i32⟩
  | .hbm, ⟨22, _⟩ => ⟨S128x256, .i32⟩
  | .hbm, ⟨23, _⟩ => ⟨S128x256, .i1⟩
  | .hbm, ⟨24, _⟩ => ⟨S_, .i32⟩
  | .hbm, ⟨25, _⟩ => ⟨S128x256, .i32⟩
  | .hbm, ⟨26, _⟩ => ⟨S128x256, .i1⟩
  | .hbm, ⟨27, _⟩ => ⟨S128x256, .i1⟩
  | .hbm, ⟨28, _⟩ => ⟨S16, .i32⟩
  | .hbm, ⟨29, _⟩ => ⟨S16x1x1x1, .i32⟩
  | .hbm, ⟨30, _⟩ => ⟨S_, .i32⟩
  | .hbm, ⟨31, _⟩ => ⟨S16x1x1x1, .i32⟩
  | .hbm, ⟨32, _⟩ => ⟨S16x1x1x1, .i32⟩
  | .hbm, ⟨33, _⟩ => ⟨S_, .i32⟩
  | .hbm, ⟨34, _⟩ => ⟨S16x1x1x1, .i32⟩
  | .hbm, ⟨35, _⟩ => ⟨S16x1x1x1, .i32⟩
  | .hbm, ⟨36, _⟩ => ⟨S1x1x1x256, .i32⟩
  | .hbm, ⟨37, _⟩ => ⟨S16x1x1x256, .i32⟩
  | .hbm, ⟨38, _⟩ => ⟨S16x1x1x256, .i32⟩
  | .hbm, ⟨39, _⟩ => ⟨S16x1x1x256, .i32⟩
  | .hbm, ⟨40, _⟩ => ⟨S_, .i32⟩
  | .hbm, ⟨41, _⟩ => ⟨S16x1x1x256, .i32⟩
  | .hbm, ⟨42, _⟩ => ⟨S16x1x1x256, .i1⟩
  | .hbm, ⟨43, _⟩ => ⟨S1x1x128x256, .i1⟩
  | .hbm, ⟨44, _⟩ => ⟨S16x1x128x256, .i1⟩
  | .hbm, ⟨45, _⟩ => ⟨S16x1x128x256, .i1⟩
  | .hbm, ⟨46, _⟩ => ⟨S16x1x128x256, .i1⟩
  | .hbm, ⟨47, _⟩ => ⟨S1x16x1, .f32⟩
  | .hbm, ⟨48, _⟩ => ⟨S16x128x16x64, .f32⟩
  | .hbm, ⟨49, _⟩ => ⟨S16x128x16x64, .f32⟩
  | .hbm, ⟨50, _⟩ => ⟨S1x128x16x64, .f32⟩
  | .hbm, ⟨51, _⟩ => ⟨S_, .f32⟩
  | .hbm, ⟨52, _⟩ => ⟨S1x128x16x64, .f32⟩
  | .hbm, ⟨53, _⟩ => ⟨S15x128x16x64, .f32⟩
  | .hbm, ⟨54, _⟩ => ⟨S16x128x16x64, .f32⟩
  | .hbm, ⟨55, _⟩ => ⟨S16x256x16x64, .f32⟩
  | .hbm, ⟨56, _⟩ => ⟨S16x16x128x256, .f32⟩
  | .hbm, ⟨57, _⟩ => ⟨S_, .f32⟩
  | .hbm, ⟨58, _⟩ => ⟨S16x16x128x256, .f32⟩
  | .hbm, ⟨59, _⟩ => ⟨S16x16x128x256, .f32⟩
  | .hbm, ⟨60, _⟩ => ⟨S_, .f32⟩
  | .hbm, ⟨61, _⟩ => ⟨S_, .f32⟩
  | .hbm, ⟨62, _⟩ => ⟨S16x16x128x256, .i1⟩
  | .hbm, ⟨63, _⟩ => ⟨S16x16x128x256, .f32⟩
  | .hbm, ⟨64, _⟩ => ⟨S16x16x128x256, .f32⟩
  | .hbm, ⟨65, _⟩ => ⟨S_, .f32⟩
  | .hbm, ⟨66, _⟩ => ⟨S16x16x128, .f32⟩
  | .hbm, ⟨67, _⟩ => ⟨S16x16x128, .f32⟩
  | .hbm, ⟨68, _⟩ => ⟨S16x16x128, .f32⟩
  | .hbm, ⟨69, _⟩ => ⟨S16x16x128x1, .f32⟩
  | .hbm, ⟨70, _⟩ => ⟨S16x16x128x256, .f32⟩
  | .hbm, ⟨71, _⟩ => ⟨S16x16x128x256, .f32⟩
  | .hbm, ⟨72, _⟩ => ⟨S16x16x128x256, .f32⟩
  | .hbm, ⟨73, _⟩ => ⟨S16x16x128, .f32⟩
  | .hbm, ⟨74, _⟩ => ⟨S16x16x128, .f32⟩
  | .hbm, ⟨75, _⟩ => ⟨S16x16x128, .f32⟩
  | .hbm, ⟨76, _⟩ => ⟨S_, .f32⟩
  | .hbm, ⟨77, _⟩ => ⟨S16x16x128, .f32⟩
  | .hbm, ⟨78, _⟩ => ⟨S16x16x128, .f32⟩
  | .hbm, ⟨79, _⟩ => ⟨S16x16x128x1, .f32⟩
  | .hbm, ⟨80, _⟩ => ⟨S16x16x128x256, .f32⟩
  | .hbm, ⟨81, _⟩ => ⟨S16x16x128x256, .f32⟩
  | .hbm, ⟨82, _⟩ => ⟨S16x16x128, .f32⟩
  | .hbm, ⟨83, _⟩ => ⟨S16x4x512x256, .f32⟩
  | .hbm, ⟨84, _⟩ => ⟨S4x16x512x256, .f32⟩
  | .hbm, ⟨85, _⟩ => ⟨S16x4x512, .f32⟩
  | .hbm, ⟨86, _⟩ => ⟨S4x16x512, .f32⟩
  | .hbm, ⟨87, _⟩ => ⟨S4x16x512x1, .f32⟩
  | .hbm, ⟨88, _⟩ => ⟨S4x16x512x128, .f32⟩
  | .hbm, ⟨89, _⟩ => ⟨S2048x1024, .bf16⟩
  | .hbm, ⟨90, _⟩ => ⟨S2048x1024, .bf16⟩
  | .hbm, ⟨91, _⟩ => ⟨S2048x1024, .bf16⟩
  | .hbm, ⟨92, _⟩ => ⟨S2048x1024, .bf16⟩
  | .hbm, ⟨93, _⟩ => ⟨S4x16x512x256, .bf16⟩
  | .hbm, ⟨94, _⟩ => ⟨S4x16x512x128, .bf16⟩
  | .hbm, ⟨95, _⟩ => ⟨S2048x1024, .f32⟩
  | .hbm, ⟨96, _⟩ => ⟨S2048x1024, .f32⟩
  | .hbm, ⟨97, _⟩ => ⟨S2048x1024, .f32⟩
  | .hbm, ⟨98, _⟩ => ⟨S4x8x128, .f32⟩
  | .local _ .vmem, ⟨0, _⟩ => ⟨S512x256, .bf16⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S128x256, .bf16⟩
  | .local _ .vmem, ⟨7, _⟩ => ⟨S128x256, .bf16⟩
  | .local _ .vmem, ⟨8, _⟩ => ⟨S512x256, .bf16⟩
  | .local _ .vmem, ⟨9, _⟩ => ⟨S512x256, .bf16⟩
  | .local _ .vmem, ⟨10, _⟩ => ⟨S128x256, .bf16⟩
  | .local _ .vmem, ⟨11, _⟩ => ⟨S128x256, .bf16⟩
  | .local _ .vmem, ⟨12, _⟩ => ⟨S1x4x512x256, .bf16⟩
  | .local _ .vmem, ⟨13, _⟩ => ⟨S1x4x512x256, .bf16⟩
  | .local _ .vmem, ⟨14, _⟩ => ⟨S1x4x512x128, .bf16⟩
  | .local _ .vmem, ⟨15, _⟩ => ⟨S1x4x512x128, .bf16⟩
  | .local _ .vmem, ⟨16, _⟩ => ⟨S512x256, .f32⟩
  | .local _ .vmem, ⟨17, _⟩ => ⟨S512x256, .f32⟩
  | .local _ .vmem, ⟨18, _⟩ => ⟨S2048x256, .f32⟩
  | .local _ .vmem, ⟨19, _⟩ => ⟨S2048x256, .f32⟩
  | .local _ .vmem, ⟨20, _⟩ => ⟨S2048x256, .f32⟩
  | .local _ .vmem, ⟨21, _⟩ => ⟨S2048x256, .f32⟩
  | .local _ .vmem, ⟨22, _⟩ => ⟨S1x8x128, .f32⟩
  | .local _ .vmem, ⟨23, _⟩ => ⟨S1x8x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c_0 : Ref sig .tc := ⟨.hbm, 21, rfl⟩
abbrev main_v15 : Ref sig .tc := ⟨.hbm, 22, rfl⟩
abbrev main_v16 : Ref sig .tc := ⟨.hbm, 23, rfl⟩
abbrev main_c_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c_2 : Ref sig .tc := ⟨.hbm, 30, rfl⟩
abbrev main_v22 : Ref sig .tc := ⟨.hbm, 31, rfl⟩
abbrev main_v23 : Ref sig .tc := ⟨.hbm, 32, rfl⟩
abbrev main_c_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_c_4 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_5 : Ref sig .tc := ⟨.hbm, 57, rfl⟩
abbrev main_v45 : Ref sig .tc := ⟨.hbm, 58, rfl⟩
abbrev main_v46 : Ref sig .tc := ⟨.hbm, 59, rfl⟩
abbrev main_cst_6 : Ref sig .tc := ⟨.hbm, 60, rfl⟩
abbrev main_call0_v0 : Ref sig .tc := ⟨.hbm, 61, rfl⟩
abbrev main_call0_v1 : Ref sig .tc := ⟨.hbm, 62, rfl⟩
abbrev main_call0_v2 : Ref sig .tc := ⟨.hbm, 63, rfl⟩
abbrev main_v47 : Ref sig .tc := ⟨.hbm, 64, rfl⟩
abbrev main_cst_7 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_8 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76_0 : Ref sig .tc := ⟨.hbm, 95, rfl⟩
abbrev main_v76_1 : Ref sig .tc := ⟨.hbm, 96, rfl⟩
abbrev main_v76_2 : Ref sig .tc := ⟨.hbm, 97, rfl⟩
abbrev main_v76_3 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![4, 4], ![false, false]⟩

def k0_mult1 (i : grid0.Coords) : BitVec 32 :=
  let arg1 : BitVec 32 := BitVec.ofNat 32 (i 1).val
  let c512_i32 : BitVec 32 := 512#32
  let v258 : BitVec 32 := Scalar.muli arg1 c512_i32
  let c0_i32_100 : BitVec 32 := 0#32
  let v259 : BitVec 32 := Scalar.addi v258 c0_i32_100
  v259
def k0_off1 (i : grid0.Coords) (c0_i32_100 : BitVec 32) : Fin 2 → Nat :=
  let arg1 : BitVec 32 := BitVec.ofNat 32 (i 1).val
  let c512_i32 : BitVec 32 := 512#32
  let v258 : BitVec 32 := Scalar.muli arg1 c512_i32
  let v259 : BitVec 32 := Scalar.addi v258 c0_i32_100
  let v260 : BitVec 32 := v259
  let v261 : Index := Scalar.indexCast v260
  let c0_101 : Index := 0#32
  ![v261.toNat, 0]
def k0_mult2 (i : grid0.Coords) : BitVec 32 :=
  let arg1 : BitVec 32 := BitVec.ofNat 32 (i 1).val
  let c512_i32_105 : BitVec 32 := 512#32
  let v275 : BitVec 32 := Scalar.muli arg1 c512_i32_105
  let c_m128_i32 : BitVec 32 := 4294967168#32
  let v276 : BitVec 32 := Scalar.addi v275 c_m128_i32
  let c0_i32_106 : BitVec 32 := 0#32
  let v277 : BitVec 32 := Scalar.maxsi v276 c0_i32_106
  v277
def k0_off2 (i : grid0.Coords) (c_m128_i32 : BitVec 32) : Fin 2 → Nat :=
  let arg1 : BitVec 32 := BitVec.ofNat 32 (i 1).val
  let c512_i32_105 : BitVec 32 := 512#32
  let v275 : BitVec 32 := Scalar.muli arg1 c512_i32_105
  let v276 : BitVec 32 := Scalar.addi v275 c_m128_i32
  let c0_i32_106 : BitVec 32 := 0#32
  let v277 : BitVec 32 := Scalar.maxsi v276 c0_i32_106
  let v278 : BitVec 32 := v277
  let v279 : Index := Scalar.indexCast v278
  let c0_107 : Index := 0#32
  ![v279.toNat, 0]
def k0_off2_at (r : Fin 4) : BitVec 32 :=
  if r.val < 2 then
    if r.val < 1 then
      4294967168#32
    else
      0#32
  else
    if r.val < 3 then
      128#32
    else
      256#32
def k0_mult3 (i : grid0.Coords) : BitVec 32 :=
  let arg1 : BitVec 32 := BitVec.ofNat 32 (i 1).val
  let c512_i32_213 : BitVec 32 := 512#32
  let v540 : BitVec 32 := Scalar.muli arg1 c512_i32_213
  let c128_i32_214 : BitVec 32 := 128#32
  let v541 : BitVec 32 := Scalar.addi v540 c128_i32_214
  v541
def k0_mult4 (i : grid0.Coords) : BitVec 32 :=
  let arg1 : BitVec 32 := BitVec.ofNat 32 (i 1).val
  let c512_i32_219 : BitVec 32 := 512#32
  let v557 : BitVec 32 := Scalar.muli arg1 c512_i32_219
  let c0_i32_220 : BitVec 32 := 0#32
  let v558 : BitVec 32 := Scalar.addi v557 c0_i32_220
  let c0_i32_221 : BitVec 32 := 0#32
  let v559 : BitVec 32 := Scalar.maxsi v558 c0_i32_221
  v559
def k0_mult5 (i : grid0.Coords) : BitVec 32 :=
  let arg1 : BitVec 32 := BitVec.ofNat 32 (i 1).val
  let c512_i32_328 : BitVec 32 := 512#32
  let v822 : BitVec 32 := Scalar.muli arg1 c512_i32_328
  let c256_i32_329 : BitVec 32 := 256#32
  let v823 : BitVec 32 := Scalar.addi v822 c256_i32_329
  v823
def k0_mult6 (i : grid0.Coords) : BitVec 32 :=
  let arg1 : BitVec 32 := BitVec.ofNat 32 (i 1).val
  let c512_i32_334 : BitVec 32 := 512#32
  let v839 : BitVec 32 := Scalar.muli arg1 c512_i32_334
  let c128_i32_335 : BitVec 32 := 128#32
  let v840 : BitVec 32 := Scalar.addi v839 c128_i32_335
  let c0_i32_336 : BitVec 32 := 0#32
  let v841 : BitVec 32 := Scalar.maxsi v840 c0_i32_336
  v841
def k0_mult7 (i : grid0.Coords) : BitVec 32 :=
  let arg1 : BitVec 32 := BitVec.ofNat 32 (i 1).val
  let c512_i32_443 : BitVec 32 := 512#32
  let v1104 : BitVec 32 := Scalar.muli arg1 c512_i32_443
  let c384_i32 : BitVec 32 := 384#32
  let v1105 : BitVec 32 := Scalar.addi v1104 c384_i32
  v1105
def k0_mult8 (i : grid0.Coords) : BitVec 32 :=
  let arg1 : BitVec 32 := BitVec.ofNat 32 (i 1).val
  let c512_i32_448 : BitVec 32 := 512#32
  let v1121 : BitVec 32 := Scalar.muli arg1 c512_i32_448
  let c256_i32_449 : BitVec 32 := 256#32
  let v1122 : BitVec 32 := Scalar.addi v1121 c256_i32_449
  let c0_i32_450 : BitVec 32 := 0#32
  let v1123 : BitVec 32 := Scalar.maxsi v1122 c0_i32_450
  v1123
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4x512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x4x512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2048x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S2048x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x8x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== AttnRefIdeal.lean ====
abbrev S2048x1024 : Shape := ⟨2, ![2048, 1024]⟩
abbrev S2048x256 : Shape := ⟨2, ![2048, 256]⟩
abbrev S16 : Shape := ⟨1, ![16]⟩
abbrev S2048x4x1x64 : Shape := ⟨4, ![2048, 4, 1, 64]⟩
abbrev S2048x4x4x64 : Shape := ⟨4, ![2048, 4, 4, 64]⟩
abbrev S128 : Shape := ⟨1, ![128]⟩
abbrev S128x1 : Shape := ⟨2, ![128, 1]⟩
abbrev S256 : Shape := ⟨1, ![256]⟩
abbrev S1x256 : Shape := ⟨2, ![1, 256]⟩
abbrev S_ : Shape := ⟨0, ![]⟩
abbrev S128x256 : Shape := ⟨2, ![128, 256]⟩
abbrev S16x1x1x1 : Shape := ⟨4, ![16, 1, 1, 1]⟩
abbrev S1x1x1x256 : Shape := ⟨4, ![1, 1, 1, 256]⟩
abbrev S16x1x1x256 : Shape := ⟨4, ![16, 1, 1, 256]⟩
abbrev S1x1x128x256 : Shape := ⟨4, ![1, 1, 128, 256]⟩
abbrev S16x1x128x256 : Shape := ⟨4, ![16, 1, 128, 256]⟩
abbrev S1x16x1 : Shape := ⟨3, ![1, 16, 1]⟩
abbrev S16x128x16x64 : Shape := ⟨4, ![16, 128, 16, 64]⟩
abbrev S1x128x16x64 : Shape := ⟨4, ![1, 128, 16, 64]⟩
abbrev S15x128x16x64 : Shape := ⟨4, ![15, 128, 16, 64]⟩
abbrev S16x256x16x64 : Shape := ⟨4, ![16, 256, 16, 64]⟩
abbrev S16x16x128x256 : Shape := ⟨4, ![16, 16, 128, 256]⟩
abbrev S16x16x128 : Shape := ⟨3, ![16, 16, 128]⟩
abbrev S16x16x128x1 : Shape := ⟨4, ![16, 16, 128, 1]⟩
abbrev S16x16x64x128 : Shape := ⟨4, ![16, 16, 64, 128]⟩
abbrev S16x16x64x256 : Shape := ⟨4, ![16, 16, 64, 256]⟩
abbrev S16x16x256x64 : Shape := ⟨4, ![16, 16, 256, 64]⟩
abbrev S16x16x128x64 : Shape := ⟨4, ![16, 16, 128, 64]⟩
abbrev S4x1x4 : Shape := ⟨3, ![4, 1, 4]⟩
abbrev S4x1x124 : Shape := ⟨3, ![4, 1, 124]⟩
abbrev S4x1x128 : Shape := ⟨3, ![4, 1, 128]⟩
abbrev S4x7x128 : Shape := ⟨3, ![4, 7, 128]⟩
abbrev S4x8x128 : Shape := ⟨3, ![4, 8, 128]⟩

abbrev nBuf : Space → Nat
  | .hbm => 214
  | .vmem => 0
  | .smem => 0
  | _ => 0

abbrev hbmTy0_0 (i : Nat) : BufTy := match i % 128 with
  | 0 => ⟨S2048x1024, .f32⟩
  | 1 => ⟨S2048x256, .f32⟩
  | 2 => ⟨S2048x256, .f32⟩
  | 3 => ⟨S16, .f32⟩
  | 4 => ⟨S2048x1024, .f32⟩
  | 5 => ⟨S2048x4x1x64, .f32⟩
  | 6 => ⟨S2048x4x4x64, .f32⟩
  | 7 => ⟨S2048x1024, .f32⟩
  | 8 => ⟨S2048x4x1x64, .f32⟩
  | 9 => ⟨S2048x4x4x64, .f32⟩
  | 10 => ⟨S2048x1024, .f32⟩
  | 11 => ⟨S128, .i32⟩
  | 12 => ⟨S128x1, .i32⟩
  | 13 => ⟨S256, .i32⟩
  | 14 => ⟨S1x256, .i32⟩
  | 15 => ⟨S_, .i32⟩
  | 16 => ⟨S128x1, .i32⟩
  | 17 => ⟨S128x1, .i32⟩
  | 18 => ⟨S128x256, .i32⟩
  | 19 => ⟨S128x256, .i32⟩
  | 20 => ⟨S128x256, .i32⟩
  | 21 => ⟨S_, .i32⟩
  | 22 => ⟨S128x256, .i32⟩
  | 23 => ⟨S128x256, .i1⟩
  | 24 => ⟨S_, .i32⟩
  | 25 => ⟨S128x256, .i32⟩
  | 26 => ⟨S128x256, .i1⟩
  | 27 => ⟨S128x256, .i1⟩
  | 28 => ⟨S16, .i32⟩
  | 29 => ⟨S16x1x1x1, .i32⟩
  | 30 => ⟨S_, .i32⟩
  | 31 => ⟨S16x1x1x1, .i32⟩
  | 32 => ⟨S16x1x1x1, .i32⟩
  | 33 => ⟨S_, .i32⟩
  | 34 => ⟨S16x1x1x1, .i32⟩
  | 35 => ⟨S16x1x1x1, .i32⟩
  | 36 => ⟨S1x1x1x256, .i32⟩
  | 37 => ⟨S16x1x1x256, .i32⟩
  | 38 => ⟨S16x1x1x256, .i32⟩
  | 39 => ⟨S16x1x1x256, .i32⟩
  | 40 => ⟨S_, .i32⟩
  | 41 => ⟨S16x1x1x256, .i32⟩
  | 42 => ⟨S16x1x1x256, .i1⟩
  | 43 => ⟨S1x1x128x256, .i1⟩
  | 44 => ⟨S16x1x128x256, .i1⟩
  | 45 => ⟨S16x1x128x256, .i1⟩
  | 46 => ⟨S16x1x128x256, .i1⟩
  | 47 => ⟨S1x16x1, .f32⟩
  | 48 => ⟨S16x128x16x64, .f32⟩
  | 49 => ⟨S16x128x16x64, .f32⟩
  | 50 => ⟨S1x128x16x64, .f32⟩
  | 51 => ⟨S_, .f32⟩
  | 52 => ⟨S1x128x16x64, .f32⟩
  | 53 => ⟨S15x128x16x64, .f32⟩
  | 54 => ⟨S16x128x16x64, .f32⟩
  | 55 => ⟨S_, .f32⟩
  | 56 => ⟨S1x128x16x64, .f32⟩
  | 57 => ⟨S16x256x16x64, .f32⟩
  | 58 => ⟨S16x16x128x256, .f32⟩
  | 59 => ⟨S_, .f32⟩
  | 60 => ⟨S16x16x128x256, .f32⟩
  | 61 => ⟨S16x16x128x256, .f32⟩
  | 62 => ⟨S_, .f32⟩
  | 63 => ⟨S_, .f32⟩
  | 64 => ⟨S16x16x128x256, .i1⟩
  | 65 => ⟨S16x16x128x256, .f32⟩
  | 66 => ⟨S16x16x128x256, .f32⟩
  | 67 => ⟨S_, .f32⟩
  | 68 => ⟨S16x16x128x256, .f32⟩
  | 69 => ⟨S_, .f32⟩
  | 70 => ⟨S16x16x128, .f32⟩
  | 71 => ⟨S16x16x128x1, .f32⟩
  | 72 => ⟨S16x16x128x256, .f32⟩
  | 73 => ⟨S16x16x128x256, .i1⟩
  | 74 => ⟨S16x16x128x256, .f32⟩
  | 75 => ⟨S_, .f32⟩
  | 76 => ⟨S16x16x128, .f32⟩
  | 77 => ⟨S16x16x128, .f32⟩
  | 78 => ⟨S16x16x128, .f32⟩
  | 79 => ⟨S16x16x128, .f32⟩
  | 80 => ⟨S16x16x128, .i1⟩
  | 81 => ⟨S16x16x128, .f32⟩
  | 82 => ⟨S16x16x128, .i1⟩
  | 83 => ⟨S_, .f32⟩
  | 84 => ⟨S16x16x128, .f32⟩
  | 85 => ⟨S_, .f32⟩
  | 86 => ⟨S16x16x128, .f32⟩
  | 87 => ⟨S_, .f32⟩
  | 88 => ⟨S16x16x128, .f32⟩
  | 89 => ⟨S16x16x128, .f32⟩
  | 90 => ⟨S16x16x128, .f32⟩
  | 91 => ⟨S16x16x128, .f32⟩
  | 92 => ⟨S16x16x128, .i1⟩
  | 93 => ⟨S16x16x128, .f32⟩
  | 94 => ⟨S16x16x128, .i1⟩
  | 95 => ⟨S_, .f32⟩
  | 96 => ⟨S16x16x128, .f32⟩
  | 97 => ⟨S_, .f32⟩
  | 98 => ⟨S16x16x128, .f32⟩
  | 99 => ⟨S_, .f32⟩
  | 100 => ⟨S16x16x128, .f32⟩
  | 101 => ⟨S16x16x128, .f32⟩
  | 102 => ⟨S16x16x128, .f32⟩
  | 103 => ⟨S16x16x128x1, .f32⟩
  | 104 => ⟨S16x16x128x256, .f32⟩
  | 105 => ⟨S16x16x128x256, .f32⟩
  | 106 => ⟨S16x16x128x256, .f32⟩
  | 107 => ⟨S16x16x128, .f32⟩
  | 108 => ⟨S16x16x128, .f32⟩
  | 109 => ⟨S16x16x128, .f32⟩
  | 110 => ⟨S_, .f32⟩
  | 111 => ⟨S16x16x128, .f32⟩
  | 112 => ⟨S16x16x128, .f32⟩
  | 113 => ⟨S16x16x128x1, .f32⟩
  | 114 => ⟨S16x16x128x256, .f32⟩
  | 115 => ⟨S16x16x128x256, .f32⟩
  | 116 => ⟨S16x16x128x1, .f32⟩
  | 117 => ⟨S_, .f32⟩
  | 118 => ⟨S16x16x128x1, .f32⟩
  | 119 => ⟨S16x16x128x1, .f32⟩
  | 120 => ⟨S16x16x128, .f32⟩
  | 121 => ⟨S16x16x128, .f32⟩
  | 122 => ⟨S_, .f32⟩
  | 123 => ⟨S16x16x128, .f32⟩
  | 124 => ⟨S16x16x128, .f32⟩
  | 125 => ⟨S16x128x16x64, .f32⟩
  | 126 => ⟨S1x128x16x64, .f32⟩
  | 127 => ⟨S_, .f32⟩
  | _ => ⟨S2048x1024, .f32⟩

abbrev hbmTy0_1 (i : Nat) : BufTy := match i % 128 with
  | 0 => ⟨S1x128x16x64, .f32⟩
  | 1 => ⟨S15x128x16x64, .f32⟩
  | 2 => ⟨S16x128x16x64, .f32⟩
  | 3 => ⟨S_, .f32⟩
  | 4 => ⟨S1x128x16x64, .f32⟩
  | 5 => ⟨S16x256x16x64, .f32⟩
  | 6 => ⟨S16x16x64x128, .f32⟩
  | 7 => ⟨S16x128x16x64, .f32⟩
  | 8 => ⟨S2048x1024, .f32⟩
  | 9 => ⟨S16x128x16x64, .f32⟩
  | 10 => ⟨S16x16x64x128, .f32⟩
  | 11 => ⟨S16x16x128x256, .f32⟩
  | 12 => ⟨S16x16x64x256, .f32⟩
  | 13 => ⟨S16x256x16x64, .f32⟩
  | 14 => ⟨S16x128x16x64, .f32⟩
  | 15 => ⟨S16x128x16x64, .f32⟩
  | 16 => ⟨S1x128x16x64, .f32⟩
  | 17 => ⟨S15x128x16x64, .f32⟩
  | 18 => ⟨S_, .f32⟩
  | 19 => ⟨S16x128x16x64, .f32⟩
  | 20 => ⟨S16x128x16x64, .f32⟩
  | 21 => ⟨S2048x1024, .f32⟩
  | 22 => ⟨S16x16x128x256, .f32⟩
  | 23 => ⟨S16x16x128x256, .f32⟩
  | 24 => ⟨S16x16x128x256, .f32⟩
  | 25 => ⟨S_, .f32⟩
  | 26 => ⟨S16x16x128, .f32⟩
  | 27 => ⟨S16x16x128x1, .f32⟩
  | 28 => ⟨S16x16x128x1, .f32⟩
  | 29 => ⟨S16x16x128x256, .f32⟩
  | 30 => ⟨S16x16x128x256, .f32⟩
  | 31 => ⟨S_, .f32⟩
  | 32 => ⟨S16x16x128, .f32⟩
  | 33 => ⟨S16x16x128x256, .f32⟩
  | 34 => ⟨S16x16x128x256, .f32⟩
  | 35 => ⟨S16x16x128, .f32⟩
  | 36 => ⟨S_, .f32⟩
  | 37 => ⟨S16, .f32⟩
  | 38 => ⟨S1x16x1, .f32⟩
  | 39 => ⟨S16x16x128, .f32⟩
  | 40 => ⟨S16x16x128x256, .f32⟩
  | 41 => ⟨S16x16x128x256, .f32⟩
  | 42 => ⟨S_, .f32⟩
  | 43 => ⟨S16x16x128, .f32⟩
  | 44 => ⟨S16x16x128x1, .f32⟩
  | 45 => ⟨S_, .f32⟩
  | 46 => ⟨S16x16x128, .f32⟩
  | 47 => ⟨S16x16x128, .f32⟩
  | 48 => ⟨S16x16x128, .f32⟩
  | 49 => ⟨S_, .f32⟩
  | 50 => ⟨S16, .f32⟩
  | 51 => ⟨S1x16x1, .f32⟩
  | 52 => ⟨S1x16x1, .f32⟩
  | 53 => ⟨S16x16x128, .f32⟩
  | 54 => ⟨S16x16x128, .f32⟩
  | 55 => ⟨S16x16x128x256, .f32⟩
  | 56 => ⟨S16x16x128x256, .f32⟩
  | 57 => ⟨S16x16x128x256, .f32⟩
  | 58 => ⟨S_, .f32⟩
  | 59 => ⟨S16x16x128x256, .f32⟩
  | 60 => ⟨S16x16x128x256, .f32⟩
  | 61 => ⟨S_, .f32⟩
  | 62 => ⟨S16x16x128x256, .f32⟩
  | 63 => ⟨S16x16x128x256, .f32⟩
  | 64 => ⟨S16x16x256x64, .f32⟩
  | 65 => ⟨S16x256x16x64, .f32⟩
  | 66 => ⟨S16x16x128x64, .f32⟩
  | 67 => ⟨S16x128x16x64, .f32⟩
  | 68 => ⟨S16x128x16x64, .f32⟩
  | 69 => ⟨S16x128x16x64, .f32⟩
  | 70 => ⟨S1x128x16x64, .f32⟩
  | 71 => ⟨S15x128x16x64, .f32⟩
  | 72 => ⟨S_, .f32⟩
  | 73 => ⟨S16x128x16x64, .f32⟩
  | 74 => ⟨S16x128x16x64, .f32⟩
  | 75 => ⟨S2048x1024, .f32⟩
  | 76 => ⟨S2048x1024, .f32⟩
  | 77 => ⟨S_, .f32⟩
  | 78 => ⟨S16, .f32⟩
  | 79 => ⟨S4x1x4, .f32⟩
  | 80 => ⟨S_, .f32⟩
  | 81 => ⟨S4x1x124, .f32⟩
  | 82 => ⟨S4x1x128, .f32⟩
  | 83 => ⟨S_, .f32⟩
  | 84 => ⟨S4x7x128, .f32⟩
  | 85 => ⟨S4x8x128, .f32⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c_0 : Ref sig .tc := ⟨.hbm, 21, rfl⟩
abbrev main_v15 : Ref sig .tc := ⟨.hbm, 22, rfl⟩
abbrev main_v16 : Ref sig .tc := ⟨.hbm, 23, rfl⟩
abbrev main_c_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c_2 : Ref sig .tc := ⟨.hbm, 30, rfl⟩
abbrev main_v22 : Ref sig .tc := ⟨.hbm, 31, rfl⟩
abbrev main_v23 : Ref sig .tc := ⟨.hbm, 32, rfl⟩
abbrev main_c_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_c_4 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_5 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_6 : Ref sig .tc := ⟨.hbm, 59, rfl⟩
abbrev main_v46 : Ref sig .tc := ⟨.hbm, 60, rfl⟩
abbrev main_v47 : Ref sig .tc := ⟨.hbm, 61, rfl⟩
abbrev main_cst_7 : Ref sig .tc := ⟨.hbm, 62, rfl⟩
abbrev main_call0_v0 : Ref sig .tc := ⟨.hbm, 63, rfl⟩
abbrev main_v48_1 : Ref sig .tc := ⟨.hbm, 64, rfl⟩
abbrev main_call0_v2 : Ref sig .tc := ⟨.hbm, 65, rfl⟩
abbrev main_v48_0 : Ref sig .tc := ⟨.hbm, 66, rfl⟩
abbrev main_call0_cst : Ref sig .tc := ⟨.hbm, 67, rfl⟩
abbrev main_v48_2 : Ref sig .tc := ⟨.hbm, 68, rfl⟩
abbrev main_cst_8 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_9 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_10 : Ref sig .tc := ⟨.hbm, 83, rfl⟩
abbrev main_v61 : Ref sig .tc := ⟨.hbm, 84, rfl⟩
abbrev main_cst_11 : Ref sig .tc := ⟨.hbm, 85, rfl⟩
abbrev main_v62 : Ref sig .tc := ⟨.hbm, 86, rfl⟩
abbrev main_cst_12 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_cst_13 : Ref sig .tc := ⟨.hbm, 95, rfl⟩
abbrev main_v70 : Ref sig .tc := ⟨.hbm, 96, rfl⟩
abbrev main_cst_14 : Ref sig .tc := ⟨.hbm, 97, rfl⟩
abbrev main_v71 : Ref sig .tc := ⟨.hbm, 98, rfl⟩
abbrev main_cst_15 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_cst_16 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_cst_17 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_cst_18 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_cst_19 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_cst_20 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_cst_21 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_cst_22 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_cst_23 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_cst_24 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_cst_25 : Ref sig .tc := ⟨.hbm, 170, rfl⟩
abbrev main_v133 : Ref sig .tc := ⟨.hbm, 171, rfl⟩
abbrev main_v134 : Ref sig .tc := ⟨.hbm, 172, rfl⟩
abbrev main_cst_26 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_cst_27 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_call1_cst : Ref sig .tc := ⟨.hbm, 186, rfl⟩
abbrev main_call1_v0 : Ref sig .tc := ⟨.hbm, 187, rfl⟩
abbrev main_v146 : Ref sig .tc := ⟨.hbm, 188, rfl⟩
abbrev main_cst_28 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_cst_29 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_v160 : Ref sig .tc := ⟨.hbm, 204, rfl⟩
abbrev main_cst_30 : Ref sig .tc := ⟨.hbm, 205, rfl⟩
abbrev main_v161 : Ref sig .tc := ⟨.hbm, 206, rfl⟩
abbrev main_v162 : Ref sig .tc := ⟨.hbm, 207, rfl⟩
abbrev main_cst_31 : Ref sig .tc := ⟨.hbm, 208, rfl⟩
abbrev main_v163 : Ref sig .tc := ⟨.hbm, 209, rfl⟩
abbrev main_v164 : Ref sig .tc := ⟨.hbm, 210, rfl⟩
abbrev main_cst_32 : Ref sig .tc := ⟨.hbm, 211, rfl⟩
abbrev main_v165 : Ref sig .tc := ⟨.hbm, 212, rfl⟩
abbrev main_v166 : Ref sig .tc := ⟨.hbm, 213, rfl⟩

abbrev nD : Nat := 1
abbrev τ : Topo := Topo.v7x

variable {F : FTy → Type} [FloatOps F]
-- ==== Mlp.lean ====
abbrev S2048x1024 : Shape := ⟨2, ![2048, 1024]⟩
abbrev S1024 : Shape := ⟨1, ![1024]⟩
abbrev S1024x4096 : Shape := ⟨2, ![1024, 4096]⟩
abbrev S4096x1024 : Shape := ⟨2, ![4096, 1024]⟩
abbrev S1024x8x512 : Shape := ⟨3, ![1024, 8, 512]⟩
abbrev S8x1024x512 : Shape := ⟨3, ![8, 1024, 512]⟩
abbrev S8x512x1024 : Shape := ⟨3, ![8, 512, 1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x4096 : Shape := ⟨2, ![2048, 4096]⟩
abbrev S8x1024 : Shape := ⟨2, ![8, 1024]⟩
abbrev S512x1024 : Shape := ⟨2, ![512, 1024]⟩
abbrev S2048x512 : Shape := ⟨2, ![2048, 512]⟩
abbrev S1x1024x512 : Shape := ⟨3, ![1, 1024, 512]⟩
abbrev S1x512x1024 : Shape := ⟨3, ![1, 512, 1024]⟩
abbrev S512x512 : Shape := ⟨2, ![512, 512]⟩
abbrev S1024x512 : Shape := ⟨2, ![1024, 512]⟩
abbrev S512 : Shape := ⟨1, ![512]⟩
abbrev S512x1 : Shape := ⟨2, ![512, 1]⟩

abbrev nBuf : Space → Nat
  | .hbm => 38
  | .vmem => 22
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2048x1024, .f32⟩
  | .hbm, ⟨3, _⟩ => ⟨S1024x4096, .f32⟩
  | .hbm, ⟨4, _⟩ => ⟨S4096x1024, .f32⟩
  | .hbm, ⟨5, _⟩ => ⟨S1024x8x512, .f32⟩
  | .hbm, ⟨6, _⟩ => ⟨S8x1024x512, .f32⟩
  | .hbm, ⟨7, _⟩ => ⟨S8x1024x512, .bf16⟩
  | .hbm, ⟨8, _⟩ => ⟨S8x512x1024, .f32⟩
  | .hbm, ⟨9, _⟩ => ⟨S8x512x1024, .bf16⟩
  | .hbm, ⟨10, _⟩ => ⟨S2048x1024, .f32⟩
  | .hbm, ⟨11, _⟩ => ⟨S_, .f32⟩
  | .hbm, ⟨12, _⟩ => ⟨S2048, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1, .f32⟩
  | .hbm, ⟨21, _⟩ => ⟨S2048x1024, .f32⟩
  | .hbm, ⟨22, _⟩ => ⟨S2048x1024, .f32⟩
  | .hbm, ⟨23, _⟩ => ⟨S1x1024, .f32⟩
  | .hbm, ⟨24, _⟩ => ⟨S2048x1024, .f32⟩
  | .hbm, ⟨25, _⟩ => ⟨S2048x1024, .f32⟩
  | .hbm, ⟨26, _⟩ => ⟨S2048x4096, .f32⟩
  | .hbm, ⟨27, _⟩ => ⟨S_, .f32⟩
  | .hbm, ⟨28, _⟩ => ⟨S2048x4096, .f32⟩
  | .hbm, ⟨29, _⟩ => ⟨S2048x4096, .f32⟩
  | .hbm, ⟨30, _⟩ => ⟨S2048x1024, .bf16⟩
  | .hbm, ⟨31, _⟩ => ⟨S2048x4096, .bf16⟩
  | .hbm, ⟨32, _⟩ => ⟨S1x1024, .f32⟩
  | .hbm, ⟨33, _⟩ => ⟨S2048x1024, .bf16⟩
  | .hbm, ⟨34, _⟩ => ⟨S2048x1024, .f32⟩
  | .hbm, ⟨35, _⟩ => ⟨S8x1024x512, .bf16⟩
  | .hbm, ⟨36, _⟩ => ⟨S8x512x1024, .bf16⟩
  | .hbm, ⟨37, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S2048x1024, .bf16⟩
  | .local _ .vmem, ⟨3, _⟩ => ⟨S2048x512, .bf16⟩
  | .local _ .vmem, ⟨4, _⟩ => ⟨S2048x512, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S2048x1024, .bf16⟩
  | .local _ .vmem, ⟨9, _⟩ => ⟨S1x1024x512, .bf16⟩
  | .local _ .vmem, ⟨10, _⟩ => ⟨S1x1024x512, .bf16⟩
  | .local _ .vmem, ⟨11, _⟩ => ⟨S1x512x1024, .bf16⟩
  | .local _ .vmem, ⟨12, _⟩ => ⟨S1x512x1024, .bf16⟩
  | .local _ .vmem, ⟨13, _⟩ => ⟨S512x1024, .f32⟩
  | .local _ .vmem, ⟨14, _⟩ => ⟨S512x1024, .f32⟩
  | .local _ .vmem, ⟨15, _⟩ => ⟨S1x1024x512, .bf16⟩
  | .local _ .vmem, ⟨16, _⟩ => ⟨S1x1024x512, .bf16⟩
  | .local _ .vmem, ⟨17, _⟩ => ⟨S1x512x1024, .bf16⟩
  | .local _ .vmem, ⟨18, _⟩ => ⟨S1x512x1024, .bf16⟩
  | .local _ .vmem, ⟨19, _⟩ => ⟨S8x1024, .f32⟩
  | .local _ .vmem, ⟨20, _⟩ => ⟨S2048x1024, .f32⟩
  | .local _ .vmem, ⟨21, _⟩ => ⟨S2048x512, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_call0_cst : Ref sig .tc := ⟨.hbm, 27, rfl⟩
abbrev main_call0_v0 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24_0 : Ref sig .tc := ⟨.hbm, 34, rfl⟩
abbrev main_v24_1 : Ref sig .tc := ⟨.hbm, 35, rfl⟩
abbrev main_v24_2 : Ref sig .tc := ⟨.hbm, 36, rfl⟩
abbrev main_v24_3 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19

abbrev nD : Nat := 1
abbrev τ : Topo := Topo.v7x

variable {F : FTy → Type} [FloatOps F]

abbrev grid0 : Pipeline.Grid := ⟨1, ![12], ![false]⟩

def k0_cond3 (i : grid0.Coords) : BitVec 1 :=
  let arg0 : BitVec 32 := BitVec.ofNat 32 (i 0).val
  let c8_i32_2 : BitVec 32 := 8#32
  let v6 : BitVec 1 := Scalar.cmpi .sge arg0 c8_i32_2
  let v7 : BitVec 32 := Scalar.extui v6
  let c0_i32_3 : BitVec 32 := 0#32
  let v8 : BitVec 1 := Scalar.cmpi .ne v7 c0_i32_3
  v8

def k0_mult1 (i : grid0.Coords) : BitVec 32 :=
  let arg0 : BitVec 32 := BitVec.ofNat 32 (i 0).val
  let c8_i32_6 : BitVec 32 := 8#32
  let v12 : BitVec 32 := Scalar.subi arg0 c8_i32_6
  let c512_i32 : BitVec 32 := 512#32
  let v13 : BitVec 32 := Scalar.muli v12 c512_i32
  v13
def k0_off1 (i : grid0.Coords) : Fin 2 → Nat :=
  let arg0 : BitVec 32 := BitVec.ofNat 32 (i 0).val
  let c8_i32_6 : BitVec 32 := 8#32
  let v12 : BitVec 32 := Scalar.subi arg0 c8_i32_6
  let c512_i32 : BitVec 32 := 512#32
  let v13 : BitVec 32 := Scalar.muli v12 c512_i32
  let v14 : BitVec 32 := v13
  let v18 : Index := Scalar.indexCast v14
  let c0_10 : Index := 0#32
  ![v18.toNat, 0]
def k0_cond2 (i : grid0.Coords) : BitVec 1 :=
  let arg0 : BitVec 32 := BitVec.ofNat 32 (i 0).val
  let c8_i32 : BitVec 32 := 8#32
  let v3 : BitVec 1 := Scalar.cmpi .slt arg0 c8_i32
  let v4 : BitVec 32 := Scalar.extui v3
  let c0_i32_1 : BitVec 32 := 0#32
  let v5 : BitVec 1 := Scalar.cmpi .ne v4 c0_i32_1
  v5

def k0_cond4 (i : grid0.Coords) : BitVec 1 :=
  let arg0 : BitVec 32 := BitVec.ofNat 32 (i 0).val
  let c8_i32_4 : BitVec 32 := 8#32
  let v9 : BitVec 1 := Scalar.cmpi .eq arg0 c8_i32_4
  let v10 : BitVec 32 := Scalar.extui v9
  let c0_i32_5 : BitVec 32 := 0#32
  let v11 : BitVec 1 := Scalar.cmpi .ne v10 c0_i32_5
  v11

def cc0_transform_0 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  let c0_i32_1 : BitVec 32 := 0#32
  ![v0.toNat, c0_i32.toNat, c0_i32_0.toNat]

def cc0_transform_7 (i : grid0.Coords) : Fin 3 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  let c0_i32_1 : BitVec 32 := 0#32
  ![v0.toNat, c0_i32.toNat, c0_i32_0.toNat]

def cc0_transform_8 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_9 (i : grid0.Coords) : Fin 3 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  let c0_i32_1 : BitVec 32 := 0#32
  ![v0.toNat, c0_i32.toNat, c0_i32_0.toNat]

def cc0_transform_10 (i : grid0.Coords) : Fin 3 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  let c0_i32_1 : BitVec 32 := 0#32
  ![v0.toNat, c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== MlpRefIdeal.lean ====
abbrev S2048x1024 : Shape := ⟨2, ![2048, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x4096 : Shape := ⟨2, ![2048, 4096]⟩
abbrev S1024x8x512 : Shape := ⟨3, ![1024, 8, 512]⟩
abbrev S8x1024x512 : Shape := ⟨3, ![8, 1024, 512]⟩
abbrev S8x512x1024 : Shape := ⟨3, ![8, 512, 1024]⟩
abbrev S7x1024 : Shape := ⟨2, ![7, 1024]⟩
abbrev S8x1024 : Shape := ⟨2, ![8, 1024]⟩

abbrev nBuf : Space → Nat
  | .hbm => 86
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2048x1024, .f32⟩
  | .hbm, ⟨3, _⟩ => ⟨S1024x4096, .f32⟩
  | .hbm, ⟨4, _⟩ => ⟨S4096x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S1x1024, .f32⟩
  | .hbm, ⟨23, _⟩ => ⟨S2048x1024, .f32⟩
  | .hbm, ⟨24, _⟩ => ⟨S2048x1024, .f32⟩
  | .hbm, ⟨25, _⟩ => ⟨S2048x4096, .f32⟩
  | .hbm, ⟨26, _⟩ => ⟨S_, .f32⟩
  | .hbm, ⟨27, _⟩ => ⟨S2048x4096, .f32⟩
  | .hbm, ⟨28, _⟩ => ⟨S2048x4096, .f32⟩
  | .hbm, ⟨29, _⟩ => ⟨S_, .f32⟩
  | .hbm, ⟨30, _⟩ => ⟨S2048x4096, .f32⟩
  | .hbm, ⟨31, _⟩ => ⟨S2048x4096, .i1⟩
  | .hbm, ⟨32, _⟩ => ⟨S_, .f32⟩
  | .hbm, ⟨33, _⟩ => ⟨S2048x4096, .f32⟩
  | .hbm, ⟨34, _⟩ => ⟨S2048x4096, .f32⟩
  | .hbm, ⟨35, _⟩ => ⟨S_, .f32⟩
  | .hbm, ⟨36, _⟩ => ⟨S2048x4096, .f32⟩
  | .hbm, ⟨37, _⟩ => ⟨S2048x4096, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S1024x4096, .f32⟩
  | .hbm, ⟨42, _⟩ => ⟨S4096x1024, .f32⟩
  | .hbm, ⟨43, _⟩ => ⟨S2048x4096, .f32⟩
  | .hbm, ⟨44, _⟩ => ⟨S2048x4096, .f32⟩
  | .hbm, ⟨45, _⟩ => ⟨S_, .f32⟩
  | .hbm, ⟨46, _⟩ => ⟨S2048x4096, .f32⟩
  | .hbm, ⟨47, _⟩ => ⟨S2048x4096, .f32⟩
  | .hbm, ⟨48, _⟩ => ⟨S4096x1024, .f32⟩
  | .hbm, ⟨49, _⟩ => ⟨S1024x4096, .f32⟩
  | .hbm, ⟨50, _⟩ => ⟨S2048x1024, .f32⟩
  | .hbm, ⟨51, _⟩ => ⟨S2048x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S2048x1024, .f32⟩
  | .hbm, ⟨56, _⟩ => ⟨S2048x1024, .f32⟩
  | .hbm, ⟨57, _⟩ => ⟨S_, .f32⟩
  | .hbm, ⟨58, _⟩ => ⟨S1024, .f32⟩
  | .hbm, ⟨59, _⟩ => ⟨S2048x1024, .f32⟩
  | .hbm, ⟨60, _⟩ => ⟨S_, .f32⟩
  | .hbm, ⟨61, _⟩ => ⟨S2048, .f32⟩
  | .hbm, ⟨62, _⟩ => ⟨S2048x1, .f32⟩
  | .hbm, ⟨63, _⟩ => ⟨S2048x1024, .f32⟩
  | .hbm, ⟨64, _⟩ => ⟨S2048x1024, .f32⟩
  | .hbm, ⟨65, _⟩ => ⟨S2048x1024, .f32⟩
  | .hbm, ⟨66, _⟩ => ⟨S2048x1, .f32⟩
  | .hbm, ⟨67, _⟩ => ⟨S_, .f32⟩
  | .hbm, ⟨68, _⟩ => ⟨S2048x1, .f32⟩
  | .hbm, ⟨69, _⟩ => ⟨S2048x1, .f32⟩
  | .hbm, ⟨70, _⟩ => ⟨S_, .f32⟩
  | .hbm, ⟨71, _⟩ => ⟨S2048, .f32⟩
  | .hbm, ⟨72, _⟩ => ⟨S2048x1024, .f32⟩
  | .hbm, ⟨73, _⟩ => ⟨S2048x1024, .f32⟩
  | .hbm, ⟨74, _⟩ => ⟨S2048x1024, .f32⟩
  | .hbm, ⟨75, _⟩ => ⟨S2048x1024, .f32⟩
  | .hbm, ⟨76, _⟩ => ⟨S2048x1024, .f32⟩
  | .hbm, ⟨77, _⟩ => ⟨S1024x8x512, .f32⟩
  | .hbm, ⟨78, _⟩ => ⟨S8x1024x512, .f32⟩
  | .hbm, ⟨79, _⟩ => ⟨S8x1024x512, .bf16⟩
  | .hbm, ⟨80, _⟩ => ⟨S8x512x1024, .f32⟩
  | .hbm, ⟨81, _⟩ => ⟨S8x512x1024, .bf16⟩
  | .hbm, ⟨82, _⟩ => ⟨S1x1024, .f32⟩
  | .hbm, ⟨83, _⟩ => ⟨S_, .f32⟩
  | .hbm, ⟨84, _⟩ => ⟨S7x1024, .f32⟩
  | .hbm, ⟨85, _⟩ => ⟨S8x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_cst : Ref sig .tc := ⟨.hbm, 26, rfl⟩
abbrev main_call0_v0 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_6 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_cst_9 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_10 : Ref sig .tc := ⟨.hbm, 67, rfl⟩
abbrev main_v49 : Ref sig .tc := ⟨.hbm, 68, rfl⟩
abbrev main_v50 : Ref sig .tc := ⟨.hbm, 69, rfl⟩
abbrev main_cst_11 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_12 : Ref sig .tc := ⟨.hbm, 83, rfl⟩
abbrev main_v63 : Ref sig .tc := ⟨.hbm, 84, rfl⟩
abbrev main_v64 : Ref sig .tc := ⟨.hbm, 85, rfl⟩

abbrev nD : Nat := 1
abbrev τ : Topo := Topo.v7x

variable {F : FTy → Type} [FloatOps F]
-- ==== MlpFwd.lean ====
abbrev S2048x1024 : Shape := ⟨2, ![2048, 1024]⟩
abbrev S1024 : Shape := ⟨1, ![1024]⟩
abbrev S1024x4096 : Shape := ⟨2, ![1024, 4096]⟩
abbrev S4096x1024 : Shape := ⟨2, ![4096, 1024]⟩
abbrev S1024x8x512 : Shape := ⟨3, ![1024, 8, 512]⟩
abbrev S8x1024x512 : Shape := ⟨3, ![8, 1024, 512]⟩
abbrev S8x512x1024 : Shape := ⟨3, ![8, 512, 1024]⟩
abbrev S1x1024 : Shape := ⟨2, ![1, 1024]⟩
abbrev S2048x4096 : Shape := ⟨2, ![2048, 4096]⟩
abbrev S1024x1024 : Shape := ⟨2, ![1024, 1024]⟩
abbrev S1x1024x512 : Shape := ⟨3, ![1, 1024, 512]⟩
abbrev S1x512x1024 : Shape := ⟨3, ![1, 512, 1024]⟩
abbrev S1024x512 : Shape := ⟨2, ![1024, 512]⟩
abbrev S1024x1 : Shape := ⟨2, ![1024, 1]⟩
abbrev S512x1024 : Shape := ⟨2, ![512, 1024]⟩

abbrev nBuf : Space → Nat
  | .hbm => 13
  | .vmem => 14
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024x8x512, .f32⟩
  | .hbm, ⟨5, _⟩ => ⟨S8x1024x512, .f32⟩
  | .hbm, ⟨6, _⟩ => ⟨S8x1024x512, .bf16⟩
  | .hbm, ⟨7, _⟩ => ⟨S8x512x1024, .f32⟩
  | .hbm, ⟨8, _⟩ => ⟨S8x512x1024, .bf16⟩
  | .hbm, ⟨9, _⟩ => ⟨S1x1024, .f32⟩
  | .hbm, ⟨10, _⟩ => ⟨S2048x1024, .bf16⟩
  | .hbm, ⟨11, _⟩ => ⟨S2048x4096, .bf16⟩
  | .hbm, ⟨12, _⟩ => ⟨S2048x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x512, .bf16⟩
  | .local _ .vmem, ⟨4, _⟩ => ⟨S1x1024x512, .bf16⟩
  | .local _ .vmem, ⟨5, _⟩ => ⟨S1x512x1024, .bf16⟩
  | .local _ .vmem, ⟨6, _⟩ => ⟨S1x512x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x512, .bf16⟩
  | .local _ .vmem, ⟨10, _⟩ => ⟨S1024x512, .bf16⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c7_i32 : BitVec 32 := 7#32
  let v22 : BitVec 1 := Scalar.cmpi .eq arg1 c7_i32
  let v23 : BitVec 32 := Scalar.extui v22
  let c0_i32_16 : BitVec 32 := 0#32
  let v24 : BitVec 1 := Scalar.cmpi .ne v23 c0_i32_16
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== MlpFwdRefIdeal.lean ====
abbrev S2048x1024 : Shape := ⟨2, ![2048, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x4096 : Shape := ⟨2, ![2048, 4096]⟩

abbrev nBuf : Space → Nat
  | .hbm => 29
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1024, .f32⟩
  | .hbm, ⟨16, _⟩ => ⟨S2048x1024, .f32⟩
  | .hbm, ⟨17, _⟩ => ⟨S1x1024, .f32⟩
  | .hbm, ⟨18, _⟩ => ⟨S2048x1024, .f32⟩
  | .hbm, ⟨19, _⟩ => ⟨S2048x1024, .f32⟩
  | .hbm, ⟨20, _⟩ => ⟨S2048x4096, .f32⟩
  | .hbm, ⟨21, _⟩ => ⟨S_, .f32⟩
  | .hbm, ⟨22, _⟩ => ⟨S2048x4096, .f32⟩
  | .hbm, ⟨23, _⟩ => ⟨S2048x4096, .f32⟩
  | .hbm, ⟨24, _⟩ => ⟨S2048x1024, .bf16⟩
  | .hbm, ⟨25, _⟩ => ⟨S2048x4096, .bf16⟩
  | .hbm, ⟨26, _⟩ => ⟨S2048x4096, .f32⟩
  | .hbm, ⟨27, _⟩ => ⟨S2048x1024, .f32⟩
  | .hbm, ⟨28, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_cst : Ref sig .tc := ⟨.hbm, 21, rfl⟩
abbrev main_call0_v0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== OutBwd.lean ====
abbrev S2048x1024 : Shape := ⟨2, ![2048, 1024]⟩
abbrev S1024x1024 : Shape := ⟨2, ![1024, 1024]⟩
abbrev S1024 : Shape := ⟨1, ![1024]⟩
abbrev S8x1024 : Shape := ⟨2, ![8, 1024]⟩
abbrev S512x1024 : Shape := ⟨2, ![512, 1024]⟩
abbrev S1x1024 : Shape := ⟨2, ![1, 1024]⟩

abbrev nBuf : Space → Nat
  | .hbm => 9
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S1024, .f32⟩
  | .hbm, ⟨3, _⟩ => ⟨S2048x1024, .f32⟩
  | .hbm, ⟨4, _⟩ => ⟨S2048x1024, .bf16⟩
  | .hbm, ⟨5, _⟩ => ⟨S1024x1024, .bf16⟩
  | .hbm, ⟨6, _⟩ => ⟨S2048x1024, .bf16⟩
  | .hbm, ⟨7, _⟩ => ⟨S1024x1024, .bf16⟩
  | .hbm, ⟨8, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S512x1024, .bf16⟩
  | .local _ .vmem, ⟨6, _⟩ => ⟨S512x1024, .bf16⟩
  | .local _ .vmem, ⟨7, _⟩ => ⟨S1024x1024, .bf16⟩
  | .local _ .vmem, ⟨8, _⟩ => ⟨S8x1024, .f32⟩
  | .local _ .vmem, ⟨9, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v31 : BitVec 1 := Scalar.cmpi .eq arg0 c3_i32
  let v32 : BitVec 32 := Scalar.extui v31
  let c0_i32_20 : BitVec 32 := 0#32
  let v33 : BitVec 1 := Scalar.cmpi .ne v32 c0_i32_20
  v33

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== OutBwdRefIdeal.lean ====
abbrev S2048x1024 : Shape := ⟨2, ![2048, 1024]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩
abbrev S7x1024 : Shape := ⟨2, ![7, 1024]⟩
abbrev S8x1024 : Shape := ⟨2, ![8, 1024]⟩

abbrev nBuf : Space → Nat
  | .hbm => 23
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S1024, .f32⟩
  | .hbm, ⟨3, _⟩ => ⟨S2048x1024, .f32⟩
  | .hbm, ⟨4, _⟩ => ⟨S2048x1024, .f32⟩
  | .hbm, ⟨5, _⟩ => ⟨S1x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S1024, .f32⟩
  | .hbm, ⟨11, _⟩ => ⟨S1x1024, .f32⟩
  | .hbm, ⟨12, _⟩ => ⟨S_, .f32⟩
  | .hbm, ⟨13, _⟩ => ⟨S1024, .f32⟩
  | .hbm, ⟨14, _⟩ => ⟨S1024x1024, .f32⟩
  | .hbm, ⟨15, _⟩ => ⟨S1024x1024, .f32⟩
  | .hbm, ⟨16, _⟩ => ⟨S2048x1024, .f32⟩
  | .hbm, ⟨17, _⟩ => ⟨S2048x1024, .bf16⟩
  | .hbm, ⟨18, _⟩ => ⟨S1024x1024, .bf16⟩
  | .hbm, ⟨19, _⟩ => ⟨S1x1024, .f32⟩
  | .hbm, ⟨20, _⟩ => ⟨S_, .f32⟩
  | .hbm, ⟨21, _⟩ => ⟨S7x1024, .f32⟩
  | .hbm, ⟨22, _⟩ => ⟨S8x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== QBwd.lean ====
abbrev S2048x1024 : Shape := ⟨2, ![2048, 1024]⟩
abbrev S1024 : Shape := ⟨1, ![1024]⟩
abbrev S1024x1024 : Shape := ⟨2, ![1024, 1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S8x1024 : Shape := ⟨2, ![8, 1024]⟩
abbrev S512x1024 : Shape := ⟨2, ![512, 1024]⟩
abbrev S512 : Shape := ⟨1, ![512]⟩
abbrev S512x1 : Shape := ⟨2, ![512, 1]⟩

abbrev nBuf : Space → Nat
  | .hbm => 29
  | .vmem => 16
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x1024, .f32⟩
  | .hbm, ⟨3, _⟩ => ⟨S1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1024, .f32⟩
  | .hbm, ⟨18, _⟩ => ⟨S2048x1024, .f32⟩
  | .hbm, ⟨19, _⟩ => ⟨S1x1024, .f32⟩
  | .hbm, ⟨20, _⟩ => ⟨S2048x1024, .f32⟩
  | .hbm, ⟨21, _⟩ => ⟨S2048x1024, .f32⟩
  | .hbm, ⟨22, _⟩ => ⟨S2048x1024, .bf16⟩
  | .hbm, ⟨23, _⟩ => ⟨S1x1024, .f32⟩
  | .hbm, ⟨24, _⟩ => ⟨S1024x1024, .bf16⟩
  | .hbm, ⟨25, _⟩ => ⟨S2048x1024, .f32⟩
  | .hbm, ⟨26, _⟩ => ⟨S1024x1024, .bf16⟩
  | .hbm, ⟨27, _⟩ => ⟨S8x1024, .f32⟩
  | .hbm, ⟨28, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1024x1024, .bf16⟩
  | .local _ .vmem, ⟨10, _⟩ => ⟨S512x1024, .f32⟩
  | .local _ .vmem, ⟨11, _⟩ => ⟨S512x1024, .f32⟩
  | .local _ .vmem, ⟨12, _⟩ => ⟨S1024x1024, .bf16⟩
  | .local _ .vmem, ⟨13, _⟩ => ⟨S8x1024, .f32⟩
  | .local _ .vmem, ⟨14, _⟩ => ⟨S8x1024, .f32⟩
  | .local _ .vmem, ⟨15, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16_0 : Ref sig .tc := ⟨.hbm, 25, rfl⟩
abbrev main_v16_1 : Ref sig .tc := ⟨.hbm, 26, rfl⟩
abbrev main_v16_2 : Ref sig .tc := ⟨.hbm, 27, rfl⟩
abbrev main_v16_3 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v75 : BitVec 1 := Scalar.cmpi .eq arg0 c3_i32
  let v76 : BitVec 32 := Scalar.extui v75
  let c0_i32_38 : BitVec 32 := 0#32
  let v77 : BitVec 1 := Scalar.cmpi .ne v76 c0_i32_38
  v77

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== QBwdRefIdeal.lean ====
abbrev S2048x1024 : Shape := ⟨2, ![2048, 1024]⟩
abbrev S1024 : Shape := ⟨1, ![1024]⟩
abbrev S1024x1024 : Shape := ⟨2, ![1024, 1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S7x1024 : Shape := ⟨2, ![7, 1024]⟩
abbrev S8x1024 : Shape := ⟨2, ![8, 1024]⟩

abbrev nBuf : Space → Nat
  | .hbm => 74
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x1024, .f32⟩
  | .hbm, ⟨3, _⟩ => ⟨S1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x1024, .f32⟩
  | .hbm, ⟨22, _⟩ => ⟨S2048x1024, .f32⟩
  | .hbm, ⟨23, _⟩ => ⟨S1x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S1x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S_, .f32⟩
  | .hbm, ⟨35, _⟩ => ⟨S1024, .f32⟩
  | .hbm, ⟨36, _⟩ => ⟨S1024x1024, .f32⟩
  | .hbm, ⟨37, _⟩ => ⟨S1024x1024, .f32⟩
  | .hbm, ⟨38, _⟩ => ⟨S2048x1024, .f32⟩
  | .hbm, ⟨39, _⟩ => ⟨S2048x1024, .f32⟩
  | .hbm, ⟨40, _⟩ => ⟨S_, .f32⟩
  | .hbm, ⟨41, _⟩ => ⟨S1024, .f32⟩
  | .hbm, ⟨42, _⟩ => ⟨S1x1024, .f32⟩
  | .hbm, ⟨43, _⟩ => ⟨S2048x1024, .f32⟩
  | .hbm, ⟨44, _⟩ => ⟨S2048x1024, .f32⟩
  | .hbm, ⟨45, _⟩ => ⟨S_, .f32⟩
  | .hbm, ⟨46, _⟩ => ⟨S1024, .f32⟩
  | .hbm, ⟨47, _⟩ => ⟨S2048x1024, .f32⟩
  | .hbm, ⟨48, _⟩ => ⟨S_, .f32⟩
  | .hbm, ⟨49, _⟩ => ⟨S2048, .f32⟩
  | .hbm, ⟨50, _⟩ => ⟨S2048x1, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S2048x1, .f32⟩
  | .hbm, ⟨55, _⟩ => ⟨S_, .f32⟩
  | .hbm, ⟨56, _⟩ => ⟨S2048x1, .f32⟩
  | .hbm, ⟨57, _⟩ => ⟨S2048x1, .f32⟩
  | .hbm, ⟨58, _⟩ => ⟨S_, .f32⟩
  | .hbm, ⟨59, _⟩ => ⟨S2048, .f32⟩
  | .hbm, ⟨60, _⟩ => ⟨S2048x1024, .f32⟩
  | .hbm, ⟨61, _⟩ => ⟨S2048x1024, .f32⟩
  | .hbm, ⟨62, _⟩ => ⟨S2048x1024, .f32⟩
  | .hbm, ⟨63, _⟩ => ⟨S2048x1024, .f32⟩
  | .hbm, ⟨64, _⟩ => ⟨S2048x1024, .f32⟩
  | .hbm, ⟨65, _⟩ => ⟨S1024x1024, .bf16⟩
  | .hbm, ⟨66, _⟩ => ⟨S1x1024, .f32⟩
  | .hbm, ⟨67, _⟩ => ⟨S_, .f32⟩
  | .hbm, ⟨68, _⟩ => ⟨S7x1024, .f32⟩
  | .hbm, ⟨69, _⟩ => ⟨S8x1024, .f32⟩
  | .hbm, ⟨70, _⟩ => ⟨S1x1024, .f32⟩
  | .hbm, ⟨71, _⟩ => ⟨S_, .f32⟩
  | .hbm, ⟨72, _⟩ => ⟨S7x1024, .f32⟩
  | .hbm, ⟨73, _⟩ => ⟨S8x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_v41 : Ref sig .tc := ⟨.hbm, 57, rfl⟩
abbrev main_cst_9 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_10 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_11 : Ref sig .tc := ⟨.hbm, 71, rfl⟩
abbrev main_v53 : Ref sig .tc := ⟨.hbm, 72, rfl⟩
abbrev main_v54 : Ref sig .tc := ⟨.hbm, 73, rfl⟩

abbrev nD : Nat := 1
abbrev τ : Topo := Topo.v7x

variable {F : FTy → Type} [FloatOps F]
-- ==== AttnPre.lean ====
abbrev S2048x1024 : Shape := ⟨2, ![2048, 1024]⟩
abbrev S1024 : Shape := ⟨1, ![1024]⟩
abbrev S1024x512 : Shape := ⟨2, ![1024, 512]⟩
abbrev S512 : Shape := ⟨1, ![512]⟩
abbrev S1024x1024 : Shape := ⟨2, ![1024, 1024]⟩
abbrev S1x1024 : Shape := ⟨2, ![1, 1024]⟩
abbrev S1x512 : Shape := ⟨2, ![1, 512]⟩
abbrev S256x1024 : Shape := ⟨2, ![256, 1024]⟩
abbrev S_ : Shape := ⟨0, ![]⟩
abbrev S512x1024 : Shape := ⟨2, ![512, 1024]⟩
abbrev S512x1 : Shape := ⟨2, ![512, 1]⟩
abbrev S512x512 : Shape := ⟨2, ![512, 512]⟩
abbrev S512x256 : Shape := ⟨2, ![512, 256]⟩

abbrev nBuf : Space → Nat
  | .hbm => 104
  | .vmem => 19
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024, .f32⟩
  | .hbm, ⟨3, _⟩ => ⟨S1024x512, .f32⟩
  | .hbm, ⟨4, _⟩ => ⟨S512, .f32⟩
  | .hbm, ⟨5, _⟩ => ⟨S1024x1024, .f32⟩
  | .hbm, ⟨6, _⟩ => ⟨S1024, .f32⟩
  | .hbm, ⟨7, _⟩ => ⟨S1x1024, .f32⟩
  | .hbm, ⟨8, _⟩ => ⟨S1x1024, .f32⟩
  | .hbm, ⟨9, _⟩ => ⟨S1024x512, .bf16⟩
  | .hbm, ⟨10, _⟩ => ⟨S1x512, .f32⟩
  | .hbm, ⟨11, _⟩ => ⟨S256x1024, .i32⟩
  | .hbm, ⟨12, _⟩ => ⟨S256x1024, .i32⟩
  | .hbm, ⟨13, _⟩ => ⟨S_, .i32⟩
  | .hbm, ⟨14, _⟩ => ⟨S_, .i32⟩
  | .hbm, ⟨15, _⟩ => ⟨S256x1024, .i32⟩
  | .hbm, ⟨16, _⟩ => ⟨S256x1024, .i32⟩
  | .hbm, ⟨17, _⟩ => ⟨S256x1024, .i32⟩
  | .hbm, ⟨18, _⟩ => ⟨S_, .i32⟩
  | .hbm, ⟨19, _⟩ => ⟨S256x1024, .i32⟩
  | .hbm, ⟨20, _⟩ => ⟨S256x1024, .i1⟩
  | .hbm, ⟨21, _⟩ => ⟨S256x1024, .i32⟩
  | .hbm, ⟨22, _⟩ => ⟨S256x1024, .i32⟩
  | .hbm, ⟨23, _⟩ => ⟨S_, .i32⟩
  | .hbm, ⟨24, _⟩ => ⟨S256x1024, .i32⟩
  | .hbm, ⟨25, _⟩ => ⟨S256x1024, .i1⟩
  | .hbm, ⟨26, _⟩ => ⟨S256x1024, .i1⟩
  | .hbm, ⟨27, _⟩ => ⟨S_, .i32⟩
  | .hbm, ⟨28, _⟩ => ⟨S256x1024, .i32⟩
  | .hbm, ⟨29, _⟩ => ⟨S256x1024, .i32⟩
  | .hbm, ⟨30, _⟩ => ⟨S256x1024, .i32⟩
  | .hbm, ⟨31, _⟩ => ⟨S_, .i32⟩
  | .hbm, ⟨32, _⟩ => ⟨S_, .i32⟩
  | .hbm, ⟨33, _⟩ => ⟨S256x1024, .i32⟩
  | .hbm, ⟨34, _⟩ => ⟨S256x1024, .i32⟩
  | .hbm, ⟨35, _⟩ => ⟨S256x1024, .i32⟩
  | .hbm, ⟨36, _⟩ => ⟨S_, .i32⟩
  | .hbm, ⟨37, _⟩ => ⟨S256x1024, .i32⟩
  | .hbm, ⟨38, _⟩ => ⟨S256x1024, .i1⟩
  | .hbm, ⟨39, _⟩ => ⟨S256x1024, .i32⟩
  | .hbm, ⟨40, _⟩ => ⟨S256x1024, .i32⟩
  | .hbm, ⟨41, _⟩ => ⟨S_, .i32⟩
  | .hbm, ⟨42, _⟩ => ⟨S256x1024, .i32⟩
  | .hbm, ⟨43, _⟩ => ⟨S256x1024, .i1⟩
  | .hbm, ⟨44, _⟩ => ⟨S256x1024, .i1⟩
  | .hbm, ⟨45, _⟩ => ⟨S_, .i32⟩
  | .hbm, ⟨46, _⟩ => ⟨S256x1024, .i32⟩
  | .hbm, ⟨47, _⟩ => ⟨S256x1024, .i32⟩
  | .hbm, ⟨48, _⟩ => ⟨S256x1024, .i32⟩
  | .hbm, ⟨49, _⟩ => ⟨S256x1024, .i1⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S_, .i1⟩
  | .hbm, ⟨54, _⟩ => ⟨S_, .i32⟩
  | .hbm, ⟨55, _⟩ => ⟨S_, .i32⟩
  | .hbm, ⟨56, _⟩ => ⟨S256x1024, .i32⟩
  | .hbm, ⟨57, _⟩ => ⟨S256x1024, .i32⟩
  | .hbm, ⟨58, _⟩ => ⟨S_, .i32⟩
  | .hbm, ⟨59, _⟩ => ⟨S256x1024, .i32⟩
  | .hbm, ⟨60, _⟩ => ⟨S256x1024, .i1⟩
  | .hbm, ⟨61, _⟩ => ⟨S_, .i32⟩
  | .hbm, ⟨62, _⟩ => ⟨S256x1024, .i32⟩
  | .hbm, ⟨63, _⟩ => ⟨S256x1024, .i1⟩
  | .hbm, ⟨64, _⟩ => ⟨S_, .i32⟩
  | .hbm, ⟨65, _⟩ => ⟨S_, .i1⟩
  | .hbm, ⟨66, _⟩ => ⟨S256x1024, .i1⟩
  | .hbm, ⟨67, _⟩ => ⟨S256x1024, .i1⟩
  | .hbm, ⟨68, _⟩ => ⟨S256x1024, .i1⟩
  | .hbm, ⟨69, _⟩ => ⟨S256x1024, .i32⟩
  | .hbm, ⟨70, _⟩ => ⟨S256x1024, .i32⟩
  | .hbm, ⟨71, _⟩ => ⟨S256x1024, .i32⟩
  | .hbm, ⟨72, _⟩ => ⟨S_, .i32⟩
  | .hbm, ⟨73, _⟩ => ⟨S_, .i32⟩
  | .hbm, ⟨74, _⟩ => ⟨S_, .i32⟩
  | .hbm, ⟨75, _⟩ => ⟨S_, .i1⟩
  | .hbm, ⟨76, _⟩ => ⟨S_, .i32⟩
  | .hbm, ⟨77, _⟩ => ⟨S_, .i32⟩
  | .hbm, ⟨78, _⟩ => ⟨S256x1024, .i32⟩
  | .hbm, ⟨79, _⟩ => ⟨S256x1024, .i32⟩
  | .hbm, ⟨80, _⟩ => ⟨S_, .i32⟩
  | .hbm, ⟨81, _⟩ => ⟨S256x1024, .i32⟩
  | .hbm, ⟨82, _⟩ => ⟨S256x1024, .i1⟩
  | .hbm, ⟨83, _⟩ => ⟨S_, .i32⟩
  | .hbm, ⟨84, _⟩ => ⟨S256x1024, .i32⟩
  | .hbm, ⟨85, _⟩ => ⟨S256x1024, .i1⟩
  | .hbm, ⟨86, _⟩ => ⟨S_, .i32⟩
  | .hbm, ⟨87, _⟩ => ⟨S_, .i1⟩
  | .hbm, ⟨88, _⟩ => ⟨S256x1024, .i1⟩
  | .hbm, ⟨89, _⟩ => ⟨S256x1024, .i1⟩
  | .hbm, ⟨90, _⟩ => ⟨S256x1024, .i1⟩
  | .hbm, ⟨91, _⟩ => ⟨S256x1024, .i32⟩
  | .hbm, ⟨92, _⟩ => ⟨S256x1024, .i32⟩
  | .hbm, ⟨93, _⟩ => ⟨S256x1024, .i32⟩
  | .hbm, ⟨94, _⟩ => ⟨S256x1024, .i1⟩
  | .hbm, ⟨95, _⟩ => ⟨S256x1024, .i1⟩
  | .hbm, ⟨96, _⟩ => ⟨S256x1024, .bf16⟩
  | .hbm, ⟨97, _⟩ => ⟨S1024x1024, .bf16⟩
  | .hbm, ⟨98, _⟩ => ⟨S1x1024, .f32⟩
  | .hbm, ⟨99, _⟩ => ⟨S2048x1024, .bf16⟩
  | .hbm, ⟨100, _⟩ => ⟨S2048x1024, .bf16⟩
  | .hbm, ⟨101, _⟩ => ⟨S2048x1024, .bf16⟩
  | .hbm, ⟨102, _⟩ => ⟨S2048x1024, .bf16⟩
  | .hbm, ⟨103, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1024x512, .bf16⟩
  | .local _ .vmem, ⟨5, _⟩ => ⟨S1x512, .f32⟩
  | .local _ .vmem, ⟨6, _⟩ => ⟨S256x1024, .bf16⟩
  | .local _ .vmem, ⟨7, _⟩ => ⟨S1024x1024, .bf16⟩
  | .local _ .vmem, ⟨8, _⟩ => ⟨S1x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v6 : Ref sig .tc := ⟨.hbm, 30, rfl⟩
abbrev main_c_0 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_c : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_0 : Ref sig .tc := ⟨.hbm, 45, rfl⟩
abbrev main_call1_v12 : Ref sig .tc := ⟨.hbm, 46, rfl⟩
abbrev main_call1_v13 : Ref sig .tc := ⟨.hbm, 47, rfl⟩
abbrev main_v7 : Ref sig .tc := ⟨.hbm, 48, rfl⟩
abbrev main_v8 : Ref sig .tc := ⟨.hbm, 49, rfl⟩
abbrev main_c_1 : Ref sig .tc := ⟨.hbm, 50, rfl⟩
abbrev main_call2_v0 : Ref sig .tc := ⟨.hbm, 51, rfl⟩
abbrev main_call2_c : Ref sig .tc := ⟨.hbm, 52, rfl⟩
abbrev main_call2_v1 : Ref sig .tc := ⟨.hbm, 53, rfl⟩
abbrev main_call2_c_0 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_c_1 : Ref sig .tc := ⟨.hbm, 58, rfl⟩
abbrev main_call2_v5 : Ref sig .tc := ⟨.hbm, 59, rfl⟩
abbrev main_call2_v6 : Ref sig .tc := ⟨.hbm, 60, rfl⟩
abbrev main_call2_c_2 : Ref sig .tc := ⟨.hbm, 61, rfl⟩
abbrev main_call2_v7 : Ref sig .tc := ⟨.hbm, 62, rfl⟩
abbrev main_call2_v8 : Ref sig .tc := ⟨.hbm, 63, rfl⟩
abbrev main_call2_c_3 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_v12 : Ref sig .tc := ⟨.hbm, 68, rfl⟩
abbrev main_call2_v13 : Ref sig .tc := ⟨.hbm, 69, rfl⟩
abbrev main_call2_v14 : Ref sig .tc := ⟨.hbm, 70, rfl⟩
abbrev main_v9 : Ref sig .tc := ⟨.hbm, 71, rfl⟩
abbrev main_c_2 : Ref sig .tc := ⟨.hbm, 72, rfl⟩
abbrev main_call3_v0 : Ref sig .tc := ⟨.hbm, 73, rfl⟩
abbrev main_call3_c : Ref sig .tc := ⟨.hbm, 74, rfl⟩
abbrev main_call3_v1 : Ref sig .tc := ⟨.hbm, 75, rfl⟩
abbrev main_call3_c_0 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_call3_c_1 : Ref sig .tc := ⟨.hbm, 80, rfl⟩
abbrev main_call3_v5 : Ref sig .tc := ⟨.hbm, 81, rfl⟩
abbrev main_call3_v6 : Ref sig .tc := ⟨.hbm, 82, rfl⟩
abbrev main_call3_c_2 : Ref sig .tc := ⟨.hbm, 83, rfl⟩
abbrev main_call3_v7 : Ref sig .tc := ⟨.hbm, 84, rfl⟩
abbrev main_call3_v8 : Ref sig .tc := ⟨.hbm, 85, rfl⟩
abbrev main_call3_c_3 : Ref sig .tc := ⟨.hbm, 86, rfl⟩
abbrev main_call3_v9 : Ref sig .tc := ⟨.hbm, 87, rfl⟩
abbrev main_call3_v10 : Ref sig .tc := ⟨.hbm, 88, rfl⟩
abbrev main_call3_v11 : Ref sig .tc := ⟨.hbm, 89, rfl⟩
abbrev main_call3_v12 : Ref sig .tc := ⟨.hbm, 90, rfl⟩
abbrev main_call3_v13 : Ref sig .tc := ⟨.hbm, 91, rfl⟩
abbrev main_call3_v14 : Ref sig .tc := ⟨.hbm, 92, rfl⟩
abbrev main_v10 : Ref sig .tc := ⟨.hbm, 93, rfl⟩
abbrev main_v11 : Ref sig .tc := ⟨.hbm, 94, rfl⟩
abbrev main_v12 : Ref sig .tc := ⟨.hbm, 95, rfl⟩
abbrev main_v13 : Ref sig .tc := ⟨.hbm, 96, rfl⟩
abbrev main_v14 : Ref sig .tc := ⟨.hbm, 97, rfl⟩
abbrev main_v15 : Ref sig .tc := ⟨.hbm, 98, rfl⟩
abbrev main_v16_0 : Ref sig .tc := ⟨.hbm, 99, rfl⟩
abbrev main_v16_1 : Ref sig .tc := ⟨.hbm, 100, rfl⟩
abbrev main_v16_2 : Ref sig .tc := ⟨.hbm, 101, rfl⟩
abbrev main_v16_3 : Ref sig .tc := ⟨.hbm, 102, rfl⟩
abbrev main_v16_4 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== AttnPreRefIdeal.lean ====
abbrev S2048x1024 : Shape := ⟨2, ![2048, 1024]⟩
abbrev S1024 : Shape := ⟨1, ![1024]⟩
abbrev S1024x512 : Shape := ⟨2, ![1024, 512]⟩
abbrev S512 : Shape := ⟨1, ![512]⟩
abbrev S1024x1024 : Shape := ⟨2, ![1024, 1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x512 : Shape := ⟨2, ![2048, 512]⟩
abbrev S1x512 : Shape := ⟨2, ![1, 512]⟩
abbrev S2048x256 : Shape := ⟨2, ![2048, 256]⟩
abbrev S2048x4x1x64 : Shape := ⟨4, ![2048, 4, 1, 64]⟩
abbrev S2048x4x4x64 : Shape := ⟨4, ![2048, 4, 4, 64]⟩

abbrev nBuf : Space → Nat
  | .hbm => 76
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024, .f32⟩
  | .hbm, ⟨3, _⟩ => ⟨S1024x512, .f32⟩
  | .hbm, ⟨4, _⟩ => ⟨S512, .f32⟩
  | .hbm, ⟨5, _⟩ => ⟨S1024x1024, .f32⟩
  | .hbm, ⟨6, _⟩ => ⟨S1024, .f32⟩
  | .hbm, ⟨7, _⟩ => ⟨S2048x1024, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S2048x1024, .f32⟩
  | .hbm, ⟨19, _⟩ => ⟨S2048x1024, .f32⟩
  | .hbm, ⟨20, _⟩ => ⟨S1x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S2048, .f32⟩
  | .hbm, ⟨26, _⟩ => ⟨S2048x1, .f32⟩
  | .hbm, ⟨27, _⟩ => ⟨S_, .f32⟩
  | .hbm, ⟨28, _⟩ => ⟨S2048x1, .f32⟩
  | .hbm, ⟨29, _⟩ => ⟨S2048x1, .f32⟩
  | .hbm, ⟨30, _⟩ => ⟨S_, .f32⟩
  | .hbm, ⟨31, _⟩ => ⟨S2048x1, .f32⟩
  | .hbm, ⟨32, _⟩ => ⟨S2048x1, .f32⟩
  | .hbm, ⟨33, _⟩ => ⟨S2048x1, .f32⟩
  | .hbm, ⟨34, _⟩ => ⟨S2048x1024, .f32⟩
  | .hbm, ⟨35, _⟩ => ⟨S2048x1024, .f32⟩
  | .hbm, ⟨36, _⟩ => ⟨S1x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S_, .f32⟩
  | .hbm, ⟨41, _⟩ => ⟨S2048, .f32⟩
  | .hbm, ⟨42, _⟩ => ⟨S2048x1, .f32⟩
  | .hbm, ⟨43, _⟩ => ⟨S_, .f32⟩
  | .hbm, ⟨44, _⟩ => ⟨S2048x1, .f32⟩
  | .hbm, ⟨45, _⟩ => ⟨S2048x1, .f32⟩
  | .hbm, ⟨46, _⟩ => ⟨S_, .f32⟩
  | .hbm, ⟨47, _⟩ => ⟨S2048x1, .f32⟩
  | .hbm, ⟨48, _⟩ => ⟨S2048x1, .f32⟩
  | .hbm, ⟨49, _⟩ => ⟨S2048x1, .f32⟩
  | .hbm, ⟨50, _⟩ => ⟨S2048x1024, .f32⟩
  | .hbm, ⟨51, _⟩ => ⟨S2048x1024, .f32⟩
  | .hbm, ⟨52, _⟩ => ⟨S1x1024, .f32⟩
  | .hbm, ⟨53, _⟩ => ⟨S2048x1024, .f32⟩
  | .hbm, ⟨54, _⟩ => ⟨S2048x1024, .f32⟩
  | .hbm, ⟨55, _⟩ => ⟨S2048x512, .f32⟩
  | .hbm, ⟨56, _⟩ => ⟨S1x512, .f32⟩
  | .hbm, ⟨57, _⟩ => ⟨S2048x512, .f32⟩
  | .hbm, ⟨58, _⟩ => ⟨S2048x512, .f32⟩
  | .hbm, ⟨59, _⟩ => ⟨S2048x256, .f32⟩
  | .hbm, ⟨60, _⟩ => ⟨S2048x256, .f32⟩
  | .hbm, ⟨61, _⟩ => ⟨S2048x4x1x64, .f32⟩
  | .hbm, ⟨62, _⟩ => ⟨S2048x4x4x64, .f32⟩
  | .hbm, ⟨63, _⟩ => ⟨S2048x1024, .f32⟩
  | .hbm, ⟨64, _⟩ => ⟨S2048x4x1x64, .f32⟩
  | .hbm, ⟨65, _⟩ => ⟨S2048x4x4x64, .f32⟩
  | .hbm, ⟨66, _⟩ => ⟨S2048x1024, .f32⟩
  | .hbm, ⟨67, _⟩ => ⟨S2048x1024, .f32⟩
  | .hbm, ⟨68, _⟩ => ⟨S1x1024, .f32⟩
  | .hbm, ⟨69, _⟩ => ⟨S2048x1024, .f32⟩
  | .hbm, ⟨70, _⟩ => ⟨S2048x1024, .f32⟩
  | .hbm, ⟨71, _⟩ => ⟨S2048x1024, .bf16⟩
  | .hbm, ⟨72, _⟩ => ⟨S2048x1024, .bf16⟩
  | .hbm, ⟨73, _⟩ => ⟨S2048x1024, .bf16⟩
  | .hbm, ⟨74, _⟩ => ⟨S2048x1024, .bf16⟩
  | .hbm, ⟨75, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩

abbrev nD : Nat := 1
abbrev τ : Topo := Topo.v7x

variable {F : FTy → Type} [FloatOps F]
-- ==== AttnPost.lean ====
abbrev S2048x1024 : Shape := ⟨2, ![2048, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩

abbrev nBuf : Space → Nat
  | .hbm => 8
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024x1024, .f32⟩
  | .hbm, ⟨3, _⟩ => ⟨S1024, .f32⟩
  | .hbm, ⟨4, _⟩ => ⟨S2048x1024, .bf16⟩
  | .hbm, ⟨5, _⟩ => ⟨S1024x1024, .bf16⟩
  | .hbm, ⟨6, _⟩ => ⟨S1x1024, .f32⟩
  | .hbm, ⟨7, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== AttnPostRefIdeal.lean ====
abbrev S2048x1024 : Shape := ⟨2, ![2048, 1024]⟩
abbrev S1024x1024 : Shape := ⟨2, ![1024, 1024]⟩
abbrev S1024 : Shape := ⟨1, ![1024]⟩
abbrev S1x1024 : Shape := ⟨2, ![1, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024x1024, .f32⟩
  | .hbm, ⟨3, _⟩ => ⟨S1024, .f32⟩
  | .hbm, ⟨4, _⟩ => ⟨S2048x1024, .f32⟩
  | .hbm, ⟨5, _⟩ => ⟨S1x1024, .f32⟩
  | .hbm, ⟨6, _⟩ => ⟨S2048x1024, .f32⟩
  | .hbm, ⟨7, _⟩ => ⟨S2048x1024, .f32⟩
  | .hbm, ⟨8, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== KvBwd.lean ====
abbrev S2048x1024 : Shape := ⟨2, ![2048, 1024]⟩
abbrev S1024 : Shape := ⟨1, ![1024]⟩
abbrev S1024x512 : Shape := ⟨2, ![1024, 512]⟩
abbrev S512 : Shape := ⟨1, ![512]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S256x1024 : Shape := ⟨2, ![256, 1024]⟩
abbrev S8x512 : Shape := ⟨2, ![8, 512]⟩
abbrev S8x1024 : Shape := ⟨2, ![8, 1024]⟩
abbrev S512x1024 : Shape := ⟨2, ![512, 1024]⟩
abbrev S512x256 : Shape := ⟨2, ![512, 256]⟩
abbrev S512x512 : Shape := ⟨2, ![512, 512]⟩
abbrev S1x512 : Shape := ⟨2, ![1, 512]⟩
abbrev S512x1 : Shape := ⟨2, ![512, 1]⟩

abbrev nBuf : Space → Nat
  | .hbm => 117
  | .vmem => 21
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x512, .f32⟩
  | .hbm, ⟨3, _⟩ => ⟨S512, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S2048x1024, .f32⟩
  | .hbm, ⟨19, _⟩ => ⟨S2048x1024, .f32⟩
  | .hbm, ⟨20, _⟩ => ⟨S1x1024, .f32⟩
  | .hbm, ⟨21, _⟩ => ⟨S2048x1024, .f32⟩
  | .hbm, ⟨22, _⟩ => ⟨S2048x1024, .f32⟩
  | .hbm, ⟨23, _⟩ => ⟨S2048x1024, .bf16⟩
  | .hbm, ⟨24, _⟩ => ⟨S1x1024, .f32⟩
  | .hbm, ⟨25, _⟩ => ⟨S1024x512, .bf16⟩
  | .hbm, ⟨26, _⟩ => ⟨S256x1024, .i32⟩
  | .hbm, ⟨27, _⟩ => ⟨S256x1024, .i32⟩
  | .hbm, ⟨28, _⟩ => ⟨S_, .i32⟩
  | .hbm, ⟨29, _⟩ => ⟨S_, .i32⟩
  | .hbm, ⟨30, _⟩ => ⟨S256x1024, .i32⟩
  | .hbm, ⟨31, _⟩ => ⟨S256x1024, .i32⟩
  | .hbm, ⟨32, _⟩ => ⟨S256x1024, .i32⟩
  | .hbm, ⟨33, _⟩ => ⟨S_, .i32⟩
  | .hbm, ⟨34, _⟩ => ⟨S256x1024, .i32⟩
  | .hbm, ⟨35, _⟩ => ⟨S256x1024, .i1⟩
  | .hbm, ⟨36, _⟩ => ⟨S256x1024, .i32⟩
  | .hbm, ⟨37, _⟩ => ⟨S256x1024, .i32⟩
  | .hbm, ⟨38, _⟩ => ⟨S_, .i32⟩
  | .hbm, ⟨39, _⟩ => ⟨S256x1024, .i32⟩
  | .hbm, ⟨40, _⟩ => ⟨S256x1024, .i1⟩
  | .hbm, ⟨41, _⟩ => ⟨S256x1024, .i1⟩
  | .hbm, ⟨42, _⟩ => ⟨S_, .i32⟩
  | .hbm, ⟨43, _⟩ => ⟨S256x1024, .i32⟩
  | .hbm, ⟨44, _⟩ => ⟨S256x1024, .i32⟩
  | .hbm, ⟨45, _⟩ => ⟨S256x1024, .i32⟩
  | .hbm, ⟨46, _⟩ => ⟨S_, .i32⟩
  | .hbm, ⟨47, _⟩ => ⟨S_, .i32⟩
  | .hbm, ⟨48, _⟩ => ⟨S256x1024, .i32⟩
  | .hbm, ⟨49, _⟩ => ⟨S256x1024, .i32⟩
  | .hbm, ⟨50, _⟩ => ⟨S256x1024, .i32⟩
  | .hbm, ⟨51, _⟩ => ⟨S_, .i32⟩
  | .hbm, ⟨52, _⟩ => ⟨S256x1024, .i32⟩
  | .hbm, ⟨53, _⟩ => ⟨S256x1024, .i1⟩
  | .hbm, ⟨54, _⟩ => ⟨S256x1024, .i32⟩
  | .hbm, ⟨55, _⟩ => ⟨S256x1024, .i32⟩
  | .hbm, ⟨56, _⟩ => ⟨S_, .i32⟩
  | .hbm, ⟨57, _⟩ => ⟨S256x1024, .i32⟩
  | .hbm, ⟨58, _⟩ => ⟨S256x1024, .i1⟩
  | .hbm, ⟨59, _⟩ => ⟨S256x1024, .i1⟩
  | .hbm, ⟨60, _⟩ => ⟨S_, .i32⟩
  | .hbm, ⟨61, _⟩ => ⟨S256x1024, .i32⟩
  | .hbm, ⟨62, _⟩ => ⟨S256x1024, .i32⟩
  | .hbm, ⟨63, _⟩ => ⟨S256x1024, .i32⟩
  | .hbm, ⟨64, _⟩ => ⟨S256x1024, .i1⟩
  | .hbm, ⟨65, _⟩ => ⟨S_, .i32⟩
  | .hbm, ⟨66, _⟩ => ⟨S_, .i32⟩
  | .hbm, ⟨67, _⟩ => ⟨S_, .i32⟩
  | .hbm, ⟨68, _⟩ => ⟨S_, .i1⟩
  | .hbm, ⟨69, _⟩ => ⟨S_, .i32⟩
  | .hbm, ⟨70, _⟩ => ⟨S_, .i32⟩
  | .hbm, ⟨71, _⟩ => ⟨S256x1024, .i32⟩
  | .hbm, ⟨72, _⟩ => ⟨S256x1024, .i32⟩
  | .hbm, ⟨73, _⟩ => ⟨S_, .i32⟩
  | .hbm, ⟨74, _⟩ => ⟨S256x1024, .i32⟩
  | .hbm, ⟨75, _⟩ => ⟨S256x1024, .i1⟩
  | .hbm, ⟨76, _⟩ => ⟨S_, .i32⟩
  | .hbm, ⟨77, _⟩ => ⟨S256x1024, .i32⟩
  | .hbm, ⟨78, _⟩ => ⟨S256x1024, .i1⟩
  | .hbm, ⟨79, _⟩ => ⟨S_, .i32⟩
  | .hbm, ⟨80, _⟩ => ⟨S_, .i1⟩
  | .hbm, ⟨81, _⟩ => ⟨S256x1024, .i1⟩
  | .hbm, ⟨82, _⟩ => ⟨S256x1024, .i1⟩
  | .hbm, ⟨83, _⟩ => ⟨S256x1024, .i1⟩
  | .hbm, ⟨84, _⟩ => ⟨S256x1024, .i32⟩
  | .hbm, ⟨85, _⟩ => ⟨S256x1024, .i32⟩
  | .hbm, ⟨86, _⟩ => ⟨S256x1024, .i32⟩
  | .hbm, ⟨87, _⟩ => ⟨S_, .i32⟩
  | .hbm, ⟨88, _⟩ => ⟨S_, .i32⟩
  | .hbm, ⟨89, _⟩ => ⟨S_, .i32⟩
  | .hbm, ⟨90, _⟩ => ⟨S_, .i1⟩
  | .hbm, ⟨91, _⟩ => ⟨S_, .i32⟩
  | .hbm, ⟨92, _⟩ => ⟨S_, .i32⟩
  | .hbm, ⟨93, _⟩ => ⟨S256x1024, .i32⟩
  | .hbm, ⟨94, _⟩ => ⟨S256x1024, .i32⟩
  | .hbm, ⟨95, _⟩ => ⟨S_, .i32⟩
  | .hbm, ⟨96, _⟩ => ⟨S256x1024, .i32⟩
  | .hbm, ⟨97, _⟩ => ⟨S256x1024, .i1⟩
  | .hbm, ⟨98, _⟩ => ⟨S_, .i32⟩
  | .hbm, ⟨99, _⟩ => ⟨S256x1024, .i32⟩
  | .hbm, ⟨100, _⟩ => ⟨S256x1024, .i1⟩
  | .hbm, ⟨101, _⟩ => ⟨S_, .i32⟩
  | .hbm, ⟨102, _⟩ => ⟨S_, .i1⟩
  | .hbm, ⟨103, _⟩ => ⟨S256x1024, .i1⟩
  | .hbm, ⟨104, _⟩ => ⟨S256x1024, .i1⟩
  | .hbm, ⟨105, _⟩ => ⟨S256x1024, .i1⟩
  | .hbm, ⟨106, _⟩ => ⟨S256x1024, .i32⟩
  | .hbm, ⟨107, _⟩ => ⟨S256x1024, .i32⟩
  | .hbm, ⟨108, _⟩ => ⟨S256x1024, .i32⟩
  | .hbm, ⟨109, _⟩ => ⟨S256x1024, .i1⟩
  | .hbm, ⟨110, _⟩ => ⟨S256x1024, .i1⟩
  | .hbm, ⟨111, _⟩ => ⟨S256x1024, .bf16⟩
  | .hbm, ⟨112, _⟩ => ⟨S2048x1024, .f32⟩
  | .hbm, ⟨113, _⟩ => ⟨S2048x1024, .bf16⟩
  | .hbm, ⟨114, _⟩ => ⟨S1024x512, .bf16⟩
  | .hbm, ⟨115, _⟩ => ⟨S8x512, .f32⟩
  | .hbm, ⟨116, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S1x1024, .f32⟩
  | .local _ .vmem, ⟨11, _⟩ => ⟨S1024x512, .bf16⟩
  | .local _ .vmem, ⟨12, _⟩ => ⟨S256x1024, .bf16⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S1024x512, .bf16⟩
  | .local _ .vmem, ⟨18, _⟩ => ⟨S8x512, .f32⟩
  | .local _ .vmem, ⟨19, _⟩ => ⟨S8x1024, .f32⟩
  | .local _ .vmem, ⟨20, _⟩ => ⟨S1024x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_v5 : Ref sig .tc := ⟨.hbm, 34, rfl⟩
abbrev main_call0_v6 : Ref sig .tc := ⟨.hbm, 35, rfl⟩
abbrev main_call0_v7 : Ref sig .tc := ⟨.hbm, 36, rfl⟩
abbrev main_call0_v8 : Ref sig .tc := ⟨.hbm, 37, rfl⟩
abbrev main_call0_c : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_c_0 : Ref sig .tc := ⟨.hbm, 42, rfl⟩
abbrev main_call0_v12 : Ref sig .tc := ⟨.hbm, 43, rfl⟩
abbrev main_call0_v13 : Ref sig .tc := ⟨.hbm, 44, rfl⟩
abbrev main_v18 : Ref sig .tc := ⟨.hbm, 45, rfl⟩
abbrev main_c_2 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_v5 : Ref sig .tc := ⟨.hbm, 52, rfl⟩
abbrev main_call1_v6 : Ref sig .tc := ⟨.hbm, 53, rfl⟩
abbrev main_call1_v7 : Ref sig .tc := ⟨.hbm, 54, rfl⟩
abbrev main_call1_v8 : Ref sig .tc := ⟨.hbm, 55, rfl⟩
abbrev main_call1_c : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_c_0 : Ref sig .tc := ⟨.hbm, 60, rfl⟩
abbrev main_call1_v12 : Ref sig .tc := ⟨.hbm, 61, rfl⟩
abbrev main_call1_v13 : Ref sig .tc := ⟨.hbm, 62, rfl⟩
abbrev main_v19 : Ref sig .tc := ⟨.hbm, 63, rfl⟩
abbrev main_v20 : Ref sig .tc := ⟨.hbm, 64, rfl⟩
abbrev main_c_3 : Ref sig .tc := ⟨.hbm, 65, rfl⟩
abbrev main_call2_v0 : Ref sig .tc := ⟨.hbm, 66, rfl⟩
abbrev main_call2_c : Ref sig .tc := ⟨.hbm, 67, rfl⟩
abbrev main_call2_v1 : Ref sig .tc := ⟨.hbm, 68, rfl⟩
abbrev main_call2_c_0 : Ref sig .tc := ⟨.hbm, 69, rfl⟩
abbrev main_call2_v2 : Ref sig .tc := ⟨.hbm, 70, rfl⟩
abbrev main_call2_v3 : Ref sig .tc := ⟨.hbm, 71, rfl⟩
abbrev main_call2_v4 : Ref sig .tc := ⟨.hbm, 72, rfl⟩
abbrev main_call2_c_1 : Ref sig .tc := ⟨.hbm, 73, rfl⟩
abbrev main_call2_v5 : Ref sig .tc := ⟨.hbm, 74, rfl⟩
abbrev main_call2_v6 : Ref sig .tc := ⟨.hbm, 75, rfl⟩
abbrev main_call2_c_2 : Ref sig .tc := ⟨.hbm, 76, rfl⟩
abbrev main_call2_v7 : Ref sig .tc := ⟨.hbm, 77, rfl⟩
abbrev main_call2_v8 : Ref sig .tc := ⟨.hbm, 78, rfl⟩
abbrev main_call2_c_3 : Ref sig .tc := ⟨.hbm, 79, rfl⟩
abbrev main_call2_v9 : Ref sig .tc := ⟨.hbm, 80, rfl⟩
abbrev main_call2_v10 : Ref sig .tc := ⟨.hbm, 81, rfl⟩
abbrev main_call2_v11 : Ref sig .tc := ⟨.hbm, 82, rfl⟩
abbrev main_call2_v12 : Ref sig .tc := ⟨.hbm, 83, rfl⟩
abbrev main_call2_v13 : Ref sig .tc := ⟨.hbm, 84, rfl⟩
abbrev main_call2_v14 : Ref sig .tc := ⟨.hbm, 85, rfl⟩
abbrev main_v21 : Ref sig .tc := ⟨.hbm, 86, rfl⟩
abbrev main_c_4 : Ref sig .tc := ⟨.hbm, 87, rfl⟩
abbrev main_call3_v0 : Ref sig .tc := ⟨.hbm, 88, rfl⟩
abbrev main_call3_c : Ref sig .tc := ⟨.hbm, 89, rfl⟩
abbrev main_call3_v1 : Ref sig .tc := ⟨.hbm, 90, rfl⟩
abbrev main_call3_c_0 : Ref sig .tc := ⟨.hbm, 91, rfl⟩
abbrev main_call3_v2 : Ref sig .tc := ⟨.hbm, 92, rfl⟩
abbrev main_call3_v3 : Ref sig .tc := ⟨.hbm, 93, rfl⟩
abbrev main_call3_v4 : Ref sig .tc := ⟨.hbm, 94, rfl⟩
abbrev main_call3_c_1 : Ref sig .tc := ⟨.hbm, 95, rfl⟩
abbrev main_call3_v5 : Ref sig .tc := ⟨.hbm, 96, rfl⟩
abbrev main_call3_v6 : Ref sig .tc := ⟨.hbm, 97, rfl⟩
abbrev main_call3_c_2 : Ref sig .tc := ⟨.hbm, 98, rfl⟩
abbrev main_call3_v7 : Ref sig .tc := ⟨.hbm, 99, rfl⟩
abbrev main_call3_v8 : Ref sig .tc := ⟨.hbm, 100, rfl⟩
abbrev main_call3_c_3 : Ref sig .tc := ⟨.hbm, 101, rfl⟩
abbrev main_call3_v9 : Ref sig .tc := ⟨.hbm, 102, rfl⟩
abbrev main_call3_v10 : Ref sig .tc := ⟨.hbm, 103, rfl⟩
abbrev main_call3_v11 : Ref sig .tc := ⟨.hbm, 104, rfl⟩
abbrev main_call3_v12 : Ref sig .tc := ⟨.hbm, 105, rfl⟩
abbrev main_call3_v13 : Ref sig .tc := ⟨.hbm, 106, rfl⟩
abbrev main_call3_v14 : Ref sig .tc := ⟨.hbm, 107, rfl⟩
abbrev main_v22 : Ref sig .tc := ⟨.hbm, 108, rfl⟩
abbrev main_v23 : Ref sig .tc := ⟨.hbm, 109, rfl⟩
abbrev main_v24 : Ref sig .tc := ⟨.hbm, 110, rfl⟩
abbrev main_v25 : Ref sig .tc := ⟨.hbm, 111, rfl⟩
abbrev main_v26_0 : Ref sig .tc := ⟨.hbm, 112, rfl⟩
abbrev main_v26_1 : Ref sig .tc := ⟨.hbm, 113, rfl⟩
abbrev main_v26_2 : Ref sig .tc := ⟨.hbm, 114, rfl⟩
abbrev main_v26_3 : Ref sig .tc := ⟨.hbm, 115, rfl⟩
abbrev main_v26_4 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem12_0 : DmaSem sig := 19

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v87 : BitVec 1 := Scalar.cmpi .eq arg0 c3_i32
  let v88 : BitVec 32 := Scalar.extui v87
  let c0_i32_48 : BitVec 32 := 0#32
  let v89 : BitVec 1 := Scalar.cmpi .ne v88 c0_i32_48
  v89

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1024x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== KvBwdRefIdeal.lean ====
abbrev S2048x1024 : Shape := ⟨2, ![2048, 1024]⟩
abbrev S1024 : Shape := ⟨1, ![1024]⟩
abbrev S1024x512 : Shape := ⟨2, ![1024, 512]⟩
abbrev S512 : Shape := ⟨1, ![512]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x512 : Shape := ⟨2, ![2048, 512]⟩
abbrev S1x512 : Shape := ⟨2, ![1, 512]⟩
abbrev S2048x256 : Shape := ⟨2, ![2048, 256]⟩
abbrev S2048x4x1x64 : Shape := ⟨4, ![2048, 4, 1, 64]⟩
abbrev S2048x4x4x64 : Shape := ⟨4, ![2048, 4, 4, 64]⟩
abbrev S2048x4x64 : Shape := ⟨3, ![2048, 4, 64]⟩
abbrev S512x1024 : Shape := ⟨2, ![512, 1024]⟩
abbrev S7x512 : Shape := ⟨2, ![7, 512]⟩
abbrev S8x512 : Shape := ⟨2, ![8, 512]⟩
abbrev S7x1024 : Shape := ⟨2, ![7, 1024]⟩
abbrev S8x1024 : Shape := ⟨2, ![8, 1024]⟩

abbrev nBuf : Space → Nat
  | .hbm => 94
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x512, .f32⟩
  | .hbm, ⟨3, _⟩ => ⟨S512, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x1024, .f32⟩
  | .hbm, ⟨23, _⟩ => ⟨S2048x1024, .f32⟩
  | .hbm, ⟨24, _⟩ => ⟨S1x1024, .f32⟩
  | .hbm, ⟨25, _⟩ => ⟨S2048x1024, .f32⟩
  | .hbm, ⟨26, _⟩ => ⟨S2048x1024, .f32⟩
  | .hbm, ⟨27, _⟩ => ⟨S2048x512, .f32⟩
  | .hbm, ⟨28, _⟩ => ⟨S1x512, .f32⟩
  | .hbm, ⟨29, _⟩ => ⟨S2048x512, .f32⟩
  | .hbm, ⟨30, _⟩ => ⟨S2048x512, .f32⟩
  | .hbm, ⟨31, _⟩ => ⟨S2048x256, .f32⟩
  | .hbm, ⟨32, _⟩ => ⟨S2048x256, .f32⟩
  | .hbm, ⟨33, _⟩ => ⟨S2048x4x1x64, .f32⟩
  | .hbm, ⟨34, _⟩ => ⟨S2048x4x4x64, .f32⟩
  | .hbm, ⟨35, _⟩ => ⟨S2048x1024, .f32⟩
  | .hbm, ⟨36, _⟩ => ⟨S2048x4x1x64, .f32⟩
  | .hbm, ⟨37, _⟩ => ⟨S2048x4x4x64, .f32⟩
  | .hbm, ⟨38, _⟩ => ⟨S2048x1024, .f32⟩
  | .hbm, ⟨39, _⟩ => ⟨S2048x4x4x64, .f32⟩
  | .hbm, ⟨40, _⟩ => ⟨S_, .f32⟩
  | .hbm, ⟨41, _⟩ => ⟨S2048x4x64, .f32⟩
  | .hbm, ⟨42, _⟩ => ⟨S2048x4x1x64, .f32⟩
  | .hbm, ⟨43, _⟩ => ⟨S2048x256, .f32⟩
  | .hbm, ⟨44, _⟩ => ⟨S2048x4x4x64, .f32⟩
  | .hbm, ⟨45, _⟩ => ⟨S_, .f32⟩
  | .hbm, ⟨46, _⟩ => ⟨S2048x4x64, .f32⟩
  | .hbm, ⟨47, _⟩ => ⟨S2048x4x1x64, .f32⟩
  | .hbm, ⟨48, _⟩ => ⟨S2048x256, .f32⟩
  | .hbm, ⟨49, _⟩ => ⟨S2048x512, .f32⟩
  | .hbm, ⟨50, _⟩ => ⟨S_, .f32⟩
  | .hbm, ⟨51, _⟩ => ⟨S512, .f32⟩
  | .hbm, ⟨52, _⟩ => ⟨S1x512, .f32⟩
  | .hbm, ⟨53, _⟩ => ⟨S_, .f32⟩
  | .hbm, ⟨54, _⟩ => ⟨S512, .f32⟩
  | .hbm, ⟨55, _⟩ => ⟨S512x1024, .f32⟩
  | .hbm, ⟨56, _⟩ => ⟨S1024x512, .f32⟩
  | .hbm, ⟨57, _⟩ => ⟨S2048x1024, .f32⟩
  | .hbm, ⟨58, _⟩ => ⟨S2048x1024, .f32⟩
  | .hbm, ⟨59, _⟩ => ⟨S_, .f32⟩
  | .hbm, ⟨60, _⟩ => ⟨S1024, .f32⟩
  | .hbm, ⟨61, _⟩ => ⟨S1x1024, .f32⟩
  | .hbm, ⟨62, _⟩ => ⟨S2048x1024, .f32⟩
  | .hbm, ⟨63, _⟩ => ⟨S2048x1024, .f32⟩
  | .hbm, ⟨64, _⟩ => ⟨S_, .f32⟩
  | .hbm, ⟨65, _⟩ => ⟨S1024, .f32⟩
  | .hbm, ⟨66, _⟩ => ⟨S2048x1024, .f32⟩
  | .hbm, ⟨67, _⟩ => ⟨S_, .f32⟩
  | .hbm, ⟨68, _⟩ => ⟨S2048, .f32⟩
  | .hbm, ⟨69, _⟩ => ⟨S2048x1, .f32⟩
  | .hbm, ⟨70, _⟩ => ⟨S2048x1024, .f32⟩
  | .hbm, ⟨71, _⟩ => ⟨S2048x1024, .f32⟩
  | .hbm, ⟨72, _⟩ => ⟨S2048x1024, .f32⟩
  | .hbm, ⟨73, _⟩ => ⟨S2048x1, .f32⟩
  | .hbm, ⟨74, _⟩ => ⟨S_, .f32⟩
  | .hbm, ⟨75, _⟩ => ⟨S2048x1, .f32⟩
  | .hbm, ⟨76, _⟩ => ⟨S2048x1, .f32⟩
  | .hbm, ⟨77, _⟩ => ⟨S_, .f32⟩
  | .hbm, ⟨78, _⟩ => ⟨S2048, .f32⟩
  | .hbm, ⟨79, _⟩ => ⟨S2048x1024, .f32⟩
  | .hbm, ⟨80, _⟩ => ⟨S2048x1024, .f32⟩
  | .hbm, ⟨81, _⟩ => ⟨S2048x1024, .f32⟩
  | .hbm, ⟨82, _⟩ => ⟨S2048x1024, .f32⟩
  | .hbm, ⟨83, _⟩ => ⟨S2048x1024, .f32⟩
  | .hbm, ⟨84, _⟩ => ⟨S2048x1024, .bf16⟩
  | .hbm, ⟨85, _⟩ => ⟨S1024x512, .bf16⟩
  | .hbm, ⟨86, _⟩ => ⟨S1x512, .f32⟩
  | .hbm, ⟨87, _⟩ => ⟨S_, .f32⟩
  | .hbm, ⟨88, _⟩ => ⟨S7x512, .f32⟩
  | .hbm, ⟨89, _⟩ => ⟨S8x512, .f32⟩
  | .hbm, ⟨90, _⟩ => ⟨S1x1024, .f32⟩
  | .hbm, ⟨91, _⟩ => ⟨S_, .f32⟩
  | .hbm, ⟨92, _⟩ => ⟨S7x1024, .f32⟩
  | .hbm, ⟨93, _⟩ => ⟨S8x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_4 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_5 : Ref sig .tc := ⟨.hbm, 50, rfl⟩
abbrev main_v37 : Ref sig .tc := ⟨.hbm, 51, rfl⟩
abbrev main_v38 : Ref sig .tc := ⟨.hbm, 52, rfl⟩
abbrev main_cst_6 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_7 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_8 : Ref sig .tc := ⟨.hbm, 64, rfl⟩
abbrev main_v48 : Ref sig .tc := ⟨.hbm, 65, rfl⟩
abbrev main_v49 : Ref sig .tc := ⟨.hbm, 66, rfl⟩
abbrev main_cst_9 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_10 : Ref sig .tc := ⟨.hbm, 74, rfl⟩
abbrev main_v56 : Ref sig .tc := ⟨.hbm, 75, rfl⟩
abbrev main_v57 : Ref sig .tc := ⟨.hbm, 76, rfl⟩
abbrev main_cst_11 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_cst_12 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_cst_13 : Ref sig .tc := ⟨.hbm, 91, rfl⟩
abbrev main_v70 : Ref sig .tc := ⟨.hbm, 92, rfl⟩
abbrev main_v71 : Ref sig .tc := ⟨.hbm, 93, rfl⟩

abbrev nD : Nat := 1
abbrev τ : Topo := Topo.v7x

variable {F : FTy → Type} [FloatOps F]
-- ==== Gate.lean ====
abbrev S2048x1024 : Shape := ⟨2, ![2048, 1024]⟩
abbrev S1024 : Shape := ⟨1, ![1024]⟩
abbrev S1024x2048 : Shape := ⟨2, ![1024, 2048]⟩
abbrev S2048 : Shape := ⟨1, ![2048]⟩
abbrev S1024x8x256 : Shape := ⟨3, ![1024, 8, 256]⟩
abbrev S8x1024x256 : Shape := ⟨3, ![8, 1024, 256]⟩
abbrev S1x1024 : Shape := ⟨2, ![1, 1024]⟩
abbrev S1x2048 : Shape := ⟨2, ![1, 2048]⟩
abbrev S2048x2048 : Shape := ⟨2, ![2048, 2048]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S1x256 : Shape := ⟨2, ![1, 256]⟩

abbrev nBuf : Space → Nat
  | .hbm => 15
  | .vmem => 14
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024, .f32⟩
  | .hbm, ⟨3, _⟩ => ⟨S1024, .f32⟩
  | .hbm, ⟨4, _⟩ => ⟨S1024x2048, .f32⟩
  | .hbm, ⟨5, _⟩ => ⟨S2048, .f32⟩
  | .hbm, ⟨6, _⟩ => ⟨S1024x8x256, .f32⟩
  | .hbm, ⟨7, _⟩ => ⟨S8x1024x256, .f32⟩
  | .hbm, ⟨8, _⟩ => ⟨S8x1024x256, .bf16⟩
  | .hbm, ⟨9, _⟩ => ⟨S1x1024, .f32⟩
  | .hbm, ⟨10, _⟩ => ⟨S1x1024, .f32⟩
  | .hbm, ⟨11, _⟩ => ⟨S1x2048, .f32⟩
  | .hbm, ⟨12, _⟩ => ⟨S2048x1024, .f32⟩
  | .hbm, ⟨13, _⟩ => ⟨S2048x2048, .f32⟩
  | .hbm, ⟨14, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S8x1024x256, .bf16⟩
  | .local _ .vmem, ⟨7, _⟩ => ⟨S1x2048, .f32⟩
  | .local _ .vmem, ⟨8, _⟩ => ⟨S512x1024, .f32⟩
  | .local _ .vmem, ⟨9, _⟩ => ⟨S512x1024, .f32⟩
  | .local _ .vmem, ⟨10, _⟩ => ⟨S512x2048, .f32⟩
  | .local _ .vmem, ⟨11, _⟩ => ⟨S512x2048, .f32⟩
  | .local _ .vmem, ⟨12, _⟩ => ⟨S512x1024, .f32⟩
  | .local _ .vmem, ⟨13, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== GateRefIdeal.lean ====
abbrev S2048x1024 : Shape := ⟨2, ![2048, 1024]⟩
abbrev S1024 : Shape := ⟨1, ![1024]⟩
abbrev S1024x2048 : Shape := ⟨2, ![1024, 2048]⟩
abbrev S2048 : Shape := ⟨1, ![2048]⟩
abbrev S_ : Shape := ⟨0, ![]⟩
abbrev S2048x1 : Shape := ⟨2, ![2048, 1]⟩
abbrev S1x1024 : Shape := ⟨2, ![1, 1024]⟩
abbrev S2048x2048 : Shape := ⟨2, ![2048, 2048]⟩
abbrev S1x2048 : Shape := ⟨2, ![1, 2048]⟩

abbrev nBuf : Space → Nat
  | .hbm => 59
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024, .f32⟩
  | .hbm, ⟨3, _⟩ => ⟨S1024, .f32⟩
  | .hbm, ⟨4, _⟩ => ⟨S1024x2048, .f32⟩
  | .hbm, ⟨5, _⟩ => ⟨S2048, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1024, .f32⟩
  | .hbm, ⟨18, _⟩ => ⟨S2048x1024, .f32⟩
  | .hbm, ⟨19, _⟩ => ⟨S1x1024, .f32⟩
  | .hbm, ⟨20, _⟩ => ⟨S2048x1024, .f32⟩
  | .hbm, ⟨21, _⟩ => ⟨S2048x1024, .f32⟩
  | .hbm, ⟨22, _⟩ => ⟨S1x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S_, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S_, .f32⟩
  | .hbm, ⟨37, _⟩ => ⟨S2048x1024, .f32⟩
  | .hbm, ⟨38, _⟩ => ⟨S2048x1024, .f32⟩
  | .hbm, ⟨39, _⟩ => ⟨S_, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x2048, .f32⟩
  | .hbm, ⟨44, _⟩ => ⟨S1x2048, .f32⟩
  | .hbm, ⟨45, _⟩ => ⟨S2048x2048, .f32⟩
  | .hbm, ⟨46, _⟩ => ⟨S2048x2048, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S_, .f32⟩
  | .hbm, ⟨52, _⟩ => ⟨S2048x1024, .f32⟩
  | .hbm, ⟨53, _⟩ => ⟨S2048x1024, .f32⟩
  | .hbm, ⟨54, _⟩ => ⟨S_, .f32⟩
  | .hbm, ⟨55, _⟩ => ⟨S2048x1024, .f32⟩
  | .hbm, ⟨56, _⟩ => ⟨S2048x1024, .f32⟩
  | .hbm, ⟨57, _⟩ => ⟨S2048x1024, .f32⟩
  | .hbm, ⟨58, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_6 : Ref sig .tc := ⟨.hbm, 51, rfl⟩
abbrev main_v38 : Ref sig .tc := ⟨.hbm, 52, rfl⟩
abbrev main_v39 : Ref sig .tc := ⟨.hbm, 53, rfl⟩
abbrev main_cst_7 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩

abbrev nD : Nat := 1
abbrev τ : Topo := Topo.v7x

variable {F : FTy → Type} [FloatOps F]
-- ==== GateBwd.lean ====
abbrev S2048x1024 : Shape := ⟨2, ![2048, 1024]⟩
abbrev S1024x2048 : Shape := ⟨2, ![1024, 2048]⟩
abbrev S2048 : Shape := ⟨1, ![2048]⟩
abbrev S_ : Shape := ⟨0, ![]⟩
abbrev S2048x2048 : Shape := ⟨2, ![2048, 2048]⟩
abbrev S1x2048 : Shape := ⟨2, ![1, 2048]⟩
abbrev S1024x8x256 : Shape := ⟨3, ![1024, 8, 256]⟩
abbrev S8x1024x256 : Shape := ⟨3, ![8, 1024, 256]⟩
abbrev S8x2048 : Shape := ⟨2, ![8, 2048]⟩
abbrev S512x1024 : Shape := ⟨2, ![512, 1024]⟩
abbrev S512x2048 : Shape := ⟨2, ![512, 2048]⟩
abbrev S512x256 : Shape := ⟨2, ![512, 256]⟩
abbrev S8x256 : Shape := ⟨2, ![8, 256]⟩
abbrev S256 : Shape := ⟨1, ![256]⟩
abbrev S1x256 : Shape := ⟨2, ![1, 256]⟩
abbrev S1x1024x256 : Shape := ⟨3, ![1, 1024, 256]⟩
abbrev S1024x256 : Shape := ⟨2, ![1024, 256]⟩
abbrev S1024x1024 : Shape := ⟨2, ![1024, 1024]⟩

abbrev nBuf : Space → Nat
  | .hbm => 34
  | .vmem => 13
  | .smem => 0
  | _ => 0

abbrev bufTy : (tb : Table) → Fin (tcTables nBuf tb) → BufTy
  | .hbm, ⟨0, _⟩ => ⟨S2048x1024, .f32⟩
  | .hbm, ⟨1, _⟩ => ⟨S1024x2048, .f32⟩
  | .hbm, ⟨2, _⟩ => ⟨S2048, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S_, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S_, .f32⟩
  | .hbm, ⟨18, _⟩ => ⟨S2048x1024, .f32⟩
  | .hbm, ⟨19, _⟩ => ⟨S2048x1024, .f32⟩
  | .hbm, ⟨20, _⟩ => ⟨S_, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x2048, .f32⟩
  | .hbm, ⟨25, _⟩ => ⟨S1x2048, .f32⟩
  | .hbm, ⟨26, _⟩ => ⟨S2048x2048, .f32⟩
  | .hbm, ⟨27, _⟩ => ⟨S2048x2048, .f32⟩
  | .hbm, ⟨28, _⟩ => ⟨S1024x8x256, .f32⟩
  | .hbm, ⟨29, _⟩ => ⟨S8x1024x256, .f32⟩
  | .hbm, ⟨30, _⟩ => ⟨S8x1024x256, .bf16⟩
  | .hbm, ⟨31, _⟩ => ⟨S2048x1024, .f32⟩
  | .hbm, ⟨32, _⟩ => ⟨S8x1024x256, .bf16⟩
  | .hbm, ⟨33, _⟩ => ⟨S8x2048, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x2048, .f32⟩
  | .local _ .vmem, ⟨5, _⟩ => ⟨S512x2048, .f32⟩
  | .local _ .vmem, ⟨6, _⟩ => ⟨S8x1024x256, .bf16⟩
  | .local _ .vmem, ⟨7, _⟩ => ⟨S512x1024, .f32⟩
  | .local _ .vmem, ⟨8, _⟩ => ⟨S512x1024, .f32⟩
  | .local _ .vmem, ⟨9, _⟩ => ⟨S8x1024x256, .bf16⟩
  | .local _ .vmem, ⟨10, _⟩ => ⟨S8x2048, .f32⟩
  | .local _ .vmem, ⟨11, _⟩ => ⟨S2048x1024, .bf16⟩
  | .local _ .vmem, ⟨12, _⟩ => ⟨S2048x2048, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22_0 : Ref sig .tc := ⟨.hbm, 31, rfl⟩
abbrev main_v22_1 : Ref sig .tc := ⟨.hbm, 32, rfl⟩
abbrev main_v22_2 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![4], ![false]⟩

def k0_mult1 (i : grid0.Coords) : BitVec 32 :=
  let arg0 : BitVec 32 := BitVec.ofNat 32 (i 0).val
  let c512_i32 : BitVec 32 := 512#32
  let v0 : BitVec 32 := Scalar.muli arg0 c512_i32
  v0
def k0_off1 (i : grid0.Coords) : Fin 2 → Nat :=
  let arg0 : BitVec 32 := BitVec.ofNat 32 (i 0).val
  let c512_i32 : BitVec 32 := 512#32
  let v0 : BitVec 32 := Scalar.muli arg0 c512_i32
  let v1 : BitVec 32 := v0
  let v21 : Index := Scalar.indexCast v1
  let c0_7 : Index := 0#32
  ![v21.toNat, 0]
def k0_off2 (i : grid0.Coords) : Fin 2 → Nat :=
  let arg0 : BitVec 32 := BitVec.ofNat 32 (i 0).val
  let c512_i32 : BitVec 32 := 512#32
  let v0 : BitVec 32 := Scalar.muli arg0 c512_i32
  let v1 : BitVec 32 := v0
  let v67 : Index := Scalar.indexCast v1
  let c0_27 : Index := 0#32
  ![v67.toNat, 0]
def k0_off3 (i : grid0.Coords) : Fin 2 → Nat :=
  let arg0 : BitVec 32 := BitVec.ofNat 32 (i 0).val
  let c512_i32 : BitVec 32 := 512#32
  let v0 : BitVec 32 := Scalar.muli arg0 c512_i32
  let v1 : BitVec 32 := v0
  let v71 : Index := Scalar.indexCast v1
  let c1024_28 : Index := 1024#32
  ![v71.toNat, 1024]
def k0_off4 (i : grid0.Coords) : Fin 2 → Nat :=
  let arg0 : BitVec 32 := BitVec.ofNat 32 (i 0).val
  let c512_i32 : BitVec 32 := 512#32
  let v0 : BitVec 32 := Scalar.muli arg0 c512_i32
  let v1 : BitVec 32 := v0
  let v124 : Index := Scalar.indexCast v1
  let c256_53 : Index := 256#32
  ![v124.toNat, 256]
def k0_off5 (i : grid0.Coords) : Fin 2 → Nat :=
  let arg0 : BitVec 32 := BitVec.ofNat 32 (i 0).val
  let c512_i32 : BitVec 32 := 512#32
  let v0 : BitVec 32 := Scalar.muli arg0 c512_i32
  let v1 : BitVec 32 := v0
  let v128 : Index := Scalar.indexCast v1
  let c1280_54 : Index := 1280#32
  ![v128.toNat, 1280]
def k0_off6 (i : grid0.Coords) : Fin 2 → Nat :=
  let arg0 : BitVec 32 := BitVec.ofNat 32 (i 0).val
  let c512_i32 : BitVec 32 := 512#32
  let v0 : BitVec 32 := Scalar.muli arg0 c512_i32
  let v1 : BitVec 32 := v0
  let v181 : Index := Scalar.indexCast v1
  let c512_78 : Index := 512#32
  ![v181.toNat, 512]
def k0_off7 (i : grid0.Coords) : Fin 2 → Nat :=
  let arg0 : BitVec 32 := BitVec.ofNat 32 (i 0).val
  let c512_i32 : BitVec 32 := 512#32
  let v0 : BitVec 32 := Scalar.muli arg0 c512_i32
  let v1 : BitVec 32 := v0
  let v185 : Index := Scalar.indexCast v1
  let c1536_79 : Index := 1536#32
  ![v185.toNat, 1536]
def k0_off8 (i : grid0.Coords) : Fin 2 → Nat :=
  let arg0 : BitVec 32 := BitVec.ofNat 32 (i 0).val
  let c512_i32 : BitVec 32 := 512#32
  let v0 : BitVec 32 := Scalar.muli arg0 c512_i32
  let v1 : BitVec 32 := v0
  let v238 : Index := Scalar.indexCast v1
  let c768_103 : Index := 768#32
  ![v238.toNat, 768]
def k0_off9 (i : grid0.Coords) : Fin 2 → Nat :=
  let arg0 : BitVec 32 := BitVec.ofNat 32 (i 0).val
  let c512_i32 : BitVec 32 := 512#32
  let v0 : BitVec 32 := Scalar.muli arg0 c512_i32
  let v1 : BitVec 32 := v0
  let v242 : Index := Scalar.indexCast v1
  let c1792_104 : Index := 1792#32
  ![v242.toNat, 1792]
def k0_cond2 (i : grid0.Coords) : BitVec 1 :=
  let arg0 : BitVec 32 := BitVec.ofNat 32 (i 0).val
  let c3_i32 : BitVec 32 := 3#32
  let v283 : BitVec 1 := Scalar.cmpi .eq arg0 c3_i32
  let v284 : BitVec 32 := Scalar.extui v283
  let c0_i32_122 : BitVec 32 := 0#32
  let v285 : BitVec 1 := Scalar.cmpi .ne v284 c0_i32_122
  v285

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== GateBwdIdeal.lean ====
variable {F : FTy → Type} [FloatOps F] [Named F]
def κ : String → Option EReal := fun
  | "cubic" => some ((8943 / 200000 : ℝ) : EReal)
  | "square" => some ((26829 / 200000 : ℝ) : EReal)
  | _ => none
-- ==== GateBwdRefIdeal.lean ====
abbrev S2048x1024 : Shape := ⟨2, ![2048, 1024]⟩
abbrev S1024x2048 : Shape := ⟨2, ![1024, 2048]⟩
abbrev S2048 : Shape := ⟨1, ![2048]⟩
abbrev S_ : Shape := ⟨0, ![]⟩
abbrev S2048x2048 : Shape := ⟨2, ![2048, 2048]⟩
abbrev S1x2048 : Shape := ⟨2, ![1, 2048]⟩
abbrev S1024x8x256 : Shape := ⟨3, ![1024, 8, 256]⟩
abbrev S8x1024x256 : Shape := ⟨3, ![8, 1024, 256]⟩
abbrev S7x2048 : Shape := ⟨2, ![7, 2048]⟩
abbrev S8x2048 : Shape := ⟨2, ![8, 2048]⟩

abbrev nBuf : Space → Nat
  | .hbm => 92
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x2048, .f32⟩
  | .hbm, ⟨2, _⟩ => ⟨S2048, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S_, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S_, .f32⟩
  | .hbm, ⟨18, _⟩ => ⟨S2048x1024, .f32⟩
  | .hbm, ⟨19, _⟩ => ⟨S2048x1024, .f32⟩
  | .hbm, ⟨20, _⟩ => ⟨S_, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S2048x2048, .f32⟩
  | .hbm, ⟨32, _⟩ => ⟨S1x2048, .f32⟩
  | .hbm, ⟨33, _⟩ => ⟨S2048x2048, .f32⟩
  | .hbm, ⟨34, _⟩ => ⟨S2048x2048, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S_, .f32⟩
  | .hbm, ⟨40, _⟩ => ⟨S2048x1024, .f32⟩
  | .hbm, ⟨41, _⟩ => ⟨S2048x1024, .f32⟩
  | .hbm, ⟨42, _⟩ => ⟨S_, .f32⟩
  | .hbm, ⟨43, _⟩ => ⟨S2048x1024, .f32⟩
  | .hbm, ⟨44, _⟩ => ⟨S2048x1024, .f32⟩
  | .hbm, ⟨45, _⟩ => ⟨S_, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x2048, .f32⟩
  | .hbm, ⟨54, _⟩ => ⟨S_, .f32⟩
  | .hbm, ⟨55, _⟩ => ⟨S2048, .f32⟩
  | .hbm, ⟨56, _⟩ => ⟨S1x2048, .f32⟩
  | .hbm, ⟨57, _⟩ => ⟨S_, .f32⟩
  | .hbm, ⟨58, _⟩ => ⟨S2048, .f32⟩
  | .hbm, ⟨59, _⟩ => ⟨S2048x1024, .f32⟩
  | .hbm, ⟨60, _⟩ => ⟨S1024x2048, .f32⟩
  | .hbm, ⟨61, _⟩ => ⟨S2048x1024, .f32⟩
  | .hbm, ⟨62, _⟩ => ⟨S2048x1024, .f32⟩
  | .hbm, ⟨63, _⟩ => ⟨S2048x1024, .f32⟩
  | .hbm, ⟨64, _⟩ => ⟨S_, .f32⟩
  | .hbm, ⟨65, _⟩ => ⟨S2048x1024, .f32⟩
  | .hbm, ⟨66, _⟩ => ⟨S2048x1024, .f32⟩
  | .hbm, ⟨67, _⟩ => ⟨S2048x1024, .f32⟩
  | .hbm, ⟨68, _⟩ => ⟨S_, .f32⟩
  | .hbm, ⟨69, _⟩ => ⟨S2048x1024, .f32⟩
  | .hbm, ⟨70, _⟩ => ⟨S2048x1024, .f32⟩
  | .hbm, ⟨71, _⟩ => ⟨S2048x1024, .f32⟩
  | .hbm, ⟨72, _⟩ => ⟨S_, .f32⟩
  | .hbm, ⟨73, _⟩ => ⟨S2048x1024, .f32⟩
  | .hbm, ⟨74, _⟩ => ⟨S2048x1024, .f32⟩
  | .hbm, ⟨75, _⟩ => ⟨S_, .f32⟩
  | .hbm, ⟨76, _⟩ => ⟨S2048x1024, .f32⟩
  | .hbm, ⟨77, _⟩ => ⟨S2048x1024, .f32⟩
  | .hbm, ⟨78, _⟩ => ⟨S2048x1024, .f32⟩
  | .hbm, ⟨79, _⟩ => ⟨S2048x1024, .f32⟩
  | .hbm, ⟨80, _⟩ => ⟨S2048x1024, .f32⟩
  | .hbm, ⟨81, _⟩ => ⟨S2048x1024, .f32⟩
  | .hbm, ⟨82, _⟩ => ⟨S2048x1024, .f32⟩
  | .hbm, ⟨83, _⟩ => ⟨S2048x1024, .f32⟩
  | .hbm, ⟨84, _⟩ => ⟨S2048x1024, .f32⟩
  | .hbm, ⟨85, _⟩ => ⟨S1024x8x256, .f32⟩
  | .hbm, ⟨86, _⟩ => ⟨S8x1024x256, .f32⟩
  | .hbm, ⟨87, _⟩ => ⟨S8x1024x256, .bf16⟩
  | .hbm, ⟨88, _⟩ => ⟨S1x2048, .f32⟩
  | .hbm, ⟨89, _⟩ => ⟨S_, .f32⟩
  | .hbm, ⟨90, _⟩ => ⟨S7x2048, .f32⟩
  | .hbm, ⟨91, _⟩ => ⟨S8x2048, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_cst_8 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_9 : Ref sig .tc := ⟨.hbm, 54, rfl⟩
abbrev main_v40 : Ref sig .tc := ⟨.hbm, 55, rfl⟩
abbrev main_v41 : Ref sig .tc := ⟨.hbm, 56, rfl⟩
abbrev main_cst_10 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_11 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_12 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_13 : Ref sig .tc := ⟨.hbm, 72, rfl⟩
abbrev main_v54 : Ref sig .tc := ⟨.hbm, 73, rfl⟩
abbrev main_v55 : Ref sig .tc := ⟨.hbm, 74, rfl⟩
abbrev main_cst_14 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_cst_15 : Ref sig .tc := ⟨.hbm, 89, rfl⟩
abbrev main_v69 : Ref sig .tc := ⟨.hbm, 90, rfl⟩
abbrev main_v70 : Ref sig .tc := ⟨.hbm, 91, rfl⟩

abbrev nD : Nat := 1
abbrev τ : Topo := Topo.v7x

variable {F : FTy → Type} [FloatOps F]
-- ==== Proof.AttnNext.lean ====
module

public import proofs.«01_k».proof.Proof.Gen.AttnIdeal.Skeleton
public import proofs.«01_k».proof.Proof.Gen.AttnIdeal.Frame

@[expose] public section

set_option maxRecDepth 16384

noncomputable section

namespace Cert.AttnIdeal.Hand

open Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The grid point starts a head group: the second coordinate is zero. -/
abbrev atStart (i : grid0.Coords) : Prop :=
  Scalar.cmpi .ne (Scalar.extui (Scalar.cmpi .eq (BitVec.ofNat 32 (i 1).val) 0#32)) 0#32 = 1#1

theorem off2_first : ∀ i : grid0.Coords, k0_off2 i 4294967168#32 = ![512 * (i 1).val - 128, 0] := by decide +kernel
theorem off2_second : ∀ i : grid0.Coords, k0_off2 i 0#32 = ![512 * (i 1).val + 128 * 0, 0] := by decide +kernel
theorem off2_third : ∀ i : grid0.Coords, k0_off2 i 128#32 = ![512 * (i 1).val + 128 * 1, 0] := by decide +kernel
theorem off2_fourth : ∀ i : grid0.Coords, k0_off2 i 256#32 = ![512 * (i 1).val + 128 * 2, 0] := by decide +kernel
instance (i : grid0.Coords) : ClosedOff (k0_off2 i 4294967168#32) := ⟨_, off2_first i⟩
instance (i : grid0.Coords) : ClosedOff (k0_off2 i 0#32) := ⟨_, off2_second i⟩
instance (i : grid0.Coords) : ClosedOff (k0_off2 i 128#32) := ⟨_, off2_third i⟩
instance (i : grid0.Coords) : ClosedOff (k0_off2 i 256#32) := ⟨_, off2_fourth i⟩

set_option maxHeartbeats 8000000 in
/-- The pieces the body's stores leave in the four outputs' staging buffers at a point that continues a head group. -/
noncomputable def runNext (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S128x256 .bf16) (harg5 : arg5.IsWhole) (arg6 : Memref sig .tc .vmem S512x256 .bf16) (harg6 : arg6.IsWhole) (arg7 : Memref sig .tc .vmem S128x256 .bf16) (harg7 : arg7.IsWhole) (arg8 : Memref sig .tc .vmem S1x4x512x256 .bf16) (harg8 : arg8.IsWhole) (arg9 : Memref sig .tc .vmem S1x4x512x128 .bf16) (harg9 : arg9.IsWhole) (arg10 : Memref sig .tc .vmem S512x256 .f32) (harg10 : arg10.IsWhole) (arg11 : Memref sig .tc .vmem S2048x256 .f32) (harg11 : arg11.IsWhole) (arg12 : Memref sig .tc .vmem S2048x256 .f32) (harg12 : arg12.IsWhole) (arg13 : Memref sig .tc .vmem S1x8x128 .f32) (harg13 : arg13.IsWhole)
    (x2 : Vec F S512x256 .bf16) (x3 : Vec F S512x256 .bf16) (x4 : Vec F S512x256 .bf16) (x5 : Vec F S128x256 .bf16) (x6 : Vec F S512x256 .bf16) (x7 : Vec F S128x256 .bf16) (x8 : Vec F S1x4x512x256 .bf16) (x9 : Vec F S1x4x512x128 .bf16) (y11 : Vec F S2048x256 .f32) (y12 : Vec F S2048x256 .f32) (y13 : Vec F S1x8x128 .f32) (hc0 : ¬atStart i) :
    { L : List (View.Piece (Elt F) S512x256 .f32) × List (View.Piece (Elt F) S2048x256 .f32) × List (View.Piece (Elt F) S2048x256 .f32) × List (View.Piece (Elt F) S1x8x128 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ owns (c : Thread nD τ) arg11 fullShare y11 ∗ owns (c : Thread nD τ) arg12 fullShare y12 ∗ owns (c : Thread nD τ) arg13 fullShare y13
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ f, arg10.view.loc (c : Thread nD τ) ↦[arg10.view.set]{fullShare} arg10.view.writes (Elt F) f L.1) ∗ (arg11.view.loc (c : Thread nD τ) ↦[arg11.view.set]{fullShare} arg11.view.writes (Elt F) (harg11.unread y11) L.2.1) ∗ (arg12.view.loc (c : Thread nD τ) ↦[arg12.view.set]{fullShare} arg12.view.writes (Elt F) (harg12.unread y12) L.2.2.1) ∗ (arg13.view.loc (c : Thread nD τ) ↦[arg13.view.set]{fullShare} arg13.view.writes (Elt F) (harg13.unread y13) L.2.2.2)) -∗ K ⟨⟩))
          ⊢ wp frame (wpE (defs₀ (F := F)) Variants.none c none) E (cc0_attn_core_bwd i arg2 harg2 arg3 harg3 arg4 harg4 arg5 harg5 arg6 harg6 arg7 harg7 arg8 harg8 arg9 harg9 arg10 harg10 arg11 harg11 arg12 harg12 arg13 harg13) K } := by
  refine ⟨⟨?_, ?_, ?_, ?_⟩, fun E K => ?run⟩
  case run =>
    simp only [cc0_attn_core_bwd_eq_skeleton]; unfold cc0_attn_core_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%f12, %hf12, H12⟩, ⟨%f13, %hf13, H13⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg11.eq_unread hf11; obtain rfl := harg12.eq_unread hf12; obtain rfl := harg13.eq_unread hf13
    sl_exec (disch := sl_exact hc0)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; iexact H10
    isplitl [H11]
    · iexact H11
    isplitl [H12]
    · iexact H12
    iexact H13

end Cert.AttnIdeal.Hand

end
-- ==== Proof.AttnFirst.lean ====
module

public import proofs.«01_k».proof.Proof.AttnNext

@[expose] public section

set_option maxRecDepth 16384

noncomputable section

namespace Cert.AttnIdeal.Hand

open Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 8000000 in
/-- The pieces the body's stores leave in the four outputs' staging buffers at a point that starts a head group. -/
noncomputable def runFirst (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S128x256 .bf16) (harg5 : arg5.IsWhole) (arg6 : Memref sig .tc .vmem S512x256 .bf16) (harg6 : arg6.IsWhole) (arg7 : Memref sig .tc .vmem S128x256 .bf16) (harg7 : arg7.IsWhole) (arg8 : Memref sig .tc .vmem S1x4x512x256 .bf16) (harg8 : arg8.IsWhole) (arg9 : Memref sig .tc .vmem S1x4x512x128 .bf16) (harg9 : arg9.IsWhole) (arg10 : Memref sig .tc .vmem S512x256 .f32) (harg10 : arg10.IsWhole) (arg11 : Memref sig .tc .vmem S2048x256 .f32) (harg11 : arg11.IsWhole) (arg12 : Memref sig .tc .vmem S2048x256 .f32) (harg12 : arg12.IsWhole) (arg13 : Memref sig .tc .vmem S1x8x128 .f32) (harg13 : arg13.IsWhole)
    (x2 : Vec F S512x256 .bf16) (x3 : Vec F S512x256 .bf16) (x4 : Vec F S512x256 .bf16) (x5 : Vec F S128x256 .bf16) (x6 : Vec F S512x256 .bf16) (x7 : Vec F S128x256 .bf16) (x8 : Vec F S1x4x512x256 .bf16) (x9 : Vec F S1x4x512x128 .bf16) (hc0 : atStart i) :
    { L : List (View.Piece (Elt F) S512x256 .f32) × List (View.Piece (Elt F) S2048x256 .f32) × List (View.Piece (Elt F) S2048x256 .f32) × List (View.Piece (Elt F) S1x8x128 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ f, arg10.view.loc (c : Thread nD τ) ↦[arg10.view.set]{fullShare} arg10.view.writes (Elt F) f L.1) ∗ (∃ f, arg11.view.loc (c : Thread nD τ) ↦[arg11.view.set]{fullShare} arg11.view.writes (Elt F) f L.2.1) ∗ (∃ f, arg12.view.loc (c : Thread nD τ) ↦[arg12.view.set]{fullShare} arg12.view.writes (Elt F) f L.2.2.1) ∗ (∃ f, arg13.view.loc (c : Thread nD τ) ↦[arg13.view.set]{fullShare} arg13.view.writes (Elt F) f L.2.2.2)) -∗ K ⟨⟩))
          ⊢ wp frame (wpE (defs₀ (F := F)) Variants.none c none) E (cc0_attn_core_bwd i arg2 harg2 arg3 harg3 arg4 harg4 arg5 harg5 arg6 harg6 arg7 harg7 arg8 harg8 arg9 harg9 arg10 harg10 arg11 harg11 arg12 harg12 arg13 harg13) K } := by
  refine ⟨⟨?_, ?_, ?_, ?_⟩, fun E K => ?run⟩
  case run =>
    simp only [cc0_attn_core_bwd_eq_skeleton]; unfold cc0_attn_core_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
    sl_exec (disch := sl_exact hc0)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; iexact H10
    isplitl [H11]
    · iexists _; iexact H11
    isplitl [H12]
    · iexists _; iexact H12
    iexists _; iexact H13

end Cert.AttnIdeal.Hand

end
-- ==== Proof.AttnFrame.lean ====
module

public import proofs.«01_k».proof.Proof.AttnFirst
public import Idealize.ShloMosaic.Lib.Claim

@[expose] public section

set_option maxRecDepth 16384

noncomputable section

namespace Cert.AttnIdeal.Hand

open Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A point starts a head group exactly at the multiples of four. -/
theorem atStart_iff : ∀ t : Fin cfg0.N, atStart (grid0.coords t) ↔ t.val % 4 = 0 :=
  (by decide +kernel : ∀ t : Fin grid0.N, atStart (grid0.coords t) ↔ t.val % 4 = 0)

/-! ## The staging buffers of a point -/

abbrev ms0_0 (t : Fin cfg0.N) : Memref sig .tc .vmem S512x256 .bf16 := win0_0.stage (cfg0.slots t 0)
abbrev hs0_0 (t : Fin cfg0.N) : (ms0_0 t).IsWhole := hstage0_0 ((cfg0.slots t 0).cast nbuf0_0)
theorem live0_0 : ∀ t : Fin cfg0.N, cfg0.idle 0 (grid0.coords t) = false := fun _ => rfl

abbrev ms0_1 (t : Fin cfg0.N) : Memref sig .tc .vmem S512x256 .bf16 := win0_1.stage (cfg0.slots t 1)
abbrev hs0_1 (t : Fin cfg0.N) : (ms0_1 t).IsWhole := hstage0_1 ((cfg0.slots t 1).cast nbuf0_1)
theorem live0_1 : ∀ t : Fin cfg0.N, cfg0.idle 1 (grid0.coords t) = false := fun _ => rfl

abbrev ms0_2 (t : Fin cfg0.N) : Memref sig .tc .vmem S512x256 .bf16 := win0_2.stage (cfg0.slots t 2)
abbrev hs0_2 (t : Fin cfg0.N) : (ms0_2 t).IsWhole := hstage0_2 ((cfg0.slots t 2).cast nbuf0_2)
theorem live0_2 : ∀ t : Fin cfg0.N, cfg0.idle 2 (grid0.coords t) = false := fun _ => rfl

abbrev ms0_3 (t : Fin cfg0.N) : Memref sig .tc .vmem S128x256 .bf16 := win0_3.stage (cfg0.slots t 3)
abbrev hs0_3 (t : Fin cfg0.N) : (ms0_3 t).IsWhole := hstage0_3 ((cfg0.slots t 3).cast nbuf0_3)
theorem live0_3 : ∀ t : Fin cfg0.N, cfg0.idle 3 (grid0.coords t) = false := fun _ => rfl

abbrev ms0_4 (t : Fin cfg0.N) : Memref sig .tc .vmem S512x256 .bf16 := win0_4.stage (cfg0.slots t 4)
abbrev hs0_4 (t : Fin cfg0.N) : (ms0_4 t).IsWhole := hstage0_4 ((cfg0.slots t 4).cast nbuf0_4)
theorem live0_4 : ∀ t : Fin cfg0.N, cfg0.idle 4 (grid0.coords t) = false := fun _ => rfl

abbrev ms0_5 (t : Fin cfg0.N) : Memref sig .tc .vmem S128x256 .bf16 := win0_5.stage (cfg0.slots t 5)
abbrev hs0_5 (t : Fin cfg0.N) : (ms0_5 t).IsWhole := hstage0_5 ((cfg0.slots t 5).cast nbuf0_5)
theorem live0_5 : ∀ t : Fin cfg0.N, cfg0.idle 5 (grid0.coords t) = false := fun _ => rfl

abbrev ms0_6 (t : Fin cfg0.N) : Memref sig .tc .vmem S1x4x512x256 .bf16 := win0_6.stage (cfg0.slots t 6)
abbrev hs0_6 (t : Fin cfg0.N) : (ms0_6 t).IsWhole := hstage0_6 ((cfg0.slots t 6).cast nbuf0_6)
theorem live0_6 : ∀ t : Fin cfg0.N, cfg0.idle 6 (grid0.coords t) = false := fun _ => rfl

abbrev ms0_7 (t : Fin cfg0.N) : Memref sig .tc .vmem S1x4x512x128 .bf16 := win0_7.stage (cfg0.slots t 7)
abbrev hs0_7 (t : Fin cfg0.N) : (ms0_7 t).IsWhole := hstage0_7 ((cfg0.slots t 7).cast nbuf0_7)
theorem live0_7 : ∀ t : Fin cfg0.N, cfg0.idle 7 (grid0.coords t) = false := fun _ => rfl

abbrev ms0_8 (t : Fin cfg0.N) : Memref sig .tc .vmem S512x256 .f32 := win0_8.stage (cfg0.slots t 8)
abbrev hs0_8 (t : Fin cfg0.N) : (ms0_8 t).IsWhole := hstage0_8 ((cfg0.slots t 8).cast nbuf0_8)
theorem live0_8 : ∀ t : Fin cfg0.N, cfg0.idle 8 (grid0.coords t) = false := fun _ => rfl

abbrev ms0_9 (t : Fin cfg0.N) : Memref sig .tc .vmem S2048x256 .f32 := win0_9.stage (cfg0.slots t 9)
abbrev hs0_9 (t : Fin cfg0.N) : (ms0_9 t).IsWhole := hstage0_9 ((cfg0.slots t 9).cast nbuf0_9)
theorem live0_9 : ∀ t : Fin cfg0.N, cfg0.idle 9 (grid0.coords t) = false := fun _ => rfl

abbrev ms0_10 (t : Fin cfg0.N) : Memref sig .tc .vmem S2048x256 .f32 := win0_10.stage (cfg0.slots t 10)
abbrev hs0_10 (t : Fin cfg0.N) : (ms0_10 t).IsWhole := hstage0_10 ((cfg0.slots t 10).cast nbuf0_10)
theorem live0_10 : ∀ t : Fin cfg0.N, cfg0.idle 10 (grid0.coords t) = false := fun _ => rfl

abbrev ms0_11 (t : Fin cfg0.N) : Memref sig .tc .vmem S1x8x128 .f32 := win0_11.stage (cfg0.slots t 11)
abbrev hs0_11 (t : Fin cfg0.N) : (ms0_11 t).IsWhole := hstage0_11 ((cfg0.slots t 11).cast nbuf0_11)
theorem live0_11 : ∀ t : Fin cfg0.N, cfg0.idle 11 (grid0.coords t) = false := fun _ => rfl

/-! ## What a point leaves in the output buffers -/

/-- The four output buffers after a point. -/
abbrev Outs (F : FTy → Type) [FloatOps F] : Type := Vec F S512x256 .f32 × Vec F S2048x256 .f32 × Vec F S2048x256 .f32 × Vec F S1x8x128 .f32

/-- The run of a starting point on its own staging buffers. -/
abbrev firstRun (c : Dev nD) (t : Fin cfg0.N) (h : atStart (grid0.coords t)) :=
  runFirst c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) (iblk m c 6 t) (iblk m c 7 t) h

/-- The run of a continuing point on its own staging buffers, from what the outputs held. -/
abbrev nextRun (c : Dev nD) (t : Fin cfg0.N) (h : ¬atStart (grid0.coords t)) (y : Outs F) :=
  runNext c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) (iblk m c 6 t) (iblk m c 7 t) y.2.1 y.2.2.1 y.2.2.2 h

def firstOut (c : Dev nD) (t : Fin cfg0.N) (h : atStart (grid0.coords t)) : Outs F :=
  ((ms0_8 t).view.read (Elt F) ((ms0_8 t).view.writes (Elt F) (ms0_8 t).view.junk (firstRun m c t h).1.1),
   (ms0_9 t).view.read (Elt F) ((ms0_9 t).view.writes (Elt F) (ms0_9 t).view.junk (firstRun m c t h).1.2.1),
   (ms0_10 t).view.read (Elt F) ((ms0_10 t).view.writes (Elt F) (ms0_10 t).view.junk (firstRun m c t h).1.2.2.1),
   (ms0_11 t).view.read (Elt F) ((ms0_11 t).view.writes (Elt F) (ms0_11 t).view.junk (firstRun m c t h).1.2.2.2))

def nextOut (c : Dev nD) (t : Fin cfg0.N) (h : ¬atStart (grid0.coords t)) (y : Outs F) : Outs F :=
  ((ms0_8 t).view.read (Elt F) ((ms0_8 t).view.writes (Elt F) (ms0_8 t).view.junk (nextRun m c t h y).1.1),
   (ms0_9 t).view.read (Elt F) ((ms0_9 t).view.writes (Elt F) ((hs0_9 t).unread y.2.1) (nextRun m c t h y).1.2.1),
   (ms0_10 t).view.read (Elt F) ((ms0_10 t).view.writes (Elt F) ((hs0_10 t).unread y.2.2.1) (nextRun m c t h y).1.2.2.1),
   (ms0_11 t).view.read (Elt F) ((ms0_11 t).view.writes (Elt F) ((hs0_11 t).unread y.2.2.2) (nextRun m c t h y).1.2.2.2))

theorem cover_first_8 (c : Dev nD) (t : Fin cfg0.N) (h : atStart (grid0.coords t)) (y : S512x256.Idx) :
    ∃ pc ∈ (firstRun m c t h).1.1, y ∈ pc.1.set :=
  View.cover_of_tiledL (firstRun m c t h).1.1 S128x256.size (by sl_kernel_rfl) y
theorem cover_first_9 (c : Dev nD) (t : Fin cfg0.N) (h : atStart (grid0.coords t)) (y : S2048x256.Idx) :
    ∃ pc ∈ (firstRun m c t h).1.2.1, y ∈ pc.1.set :=
  View.cover_of_wholeMem (firstRun m c t h).1.2.1 (by sl_whole_mem) y
theorem cover_first_10 (c : Dev nD) (t : Fin cfg0.N) (h : atStart (grid0.coords t)) (y : S2048x256.Idx) :
    ∃ pc ∈ (firstRun m c t h).1.2.2.1, y ∈ pc.1.set :=
  View.cover_of_wholeMem (firstRun m c t h).1.2.2.1 (by sl_whole_mem) y
theorem cover_first_11 (c : Dev nD) (t : Fin cfg0.N) (h : atStart (grid0.coords t)) (y : S1x8x128.Idx) :
    ∃ pc ∈ (firstRun m c t h).1.2.2.2, y ∈ pc.1.set :=
  View.cover_of_wholeMem (firstRun m c t h).1.2.2.2 (by sl_whole_mem) y
theorem cover_next_8 (c : Dev nD) (t : Fin cfg0.N) (h : ¬atStart (grid0.coords t)) (z : Outs F) (y : S512x256.Idx) :
    ∃ pc ∈ (nextRun m c t h z).1.1, y ∈ pc.1.set :=
  View.cover_of_tiledL (nextRun m c t h z).1.1 S128x256.size (by sl_kernel_rfl) y

/-- The output buffers after point `n`, from the first point on. -/
def outs (c : Dev nD) : (n : ℕ) → n < cfg0.N → Outs F
  | 0, hn => firstOut m c ⟨0, hn⟩ ((atStart_iff _).mpr rfl)
  | n + 1, hn =>
    if h : atStart (grid0.coords ⟨n + 1, hn⟩) then firstOut m c ⟨n + 1, hn⟩ h
    else nextOut m c ⟨n + 1, hn⟩ h (outs c n (Nat.lt_of_succ_lt hn))

theorem outs_first (c : Dev nD) (t : Fin cfg0.N) (h : atStart (grid0.coords t)) : outs m c t.val t.isLt = firstOut m c t h := by
  obtain ⟨n, hn⟩ := t
  cases n with
  | zero => unfold outs; rfl
  | succ n => unfold outs; exact dif_pos h

theorem outs_next (c : Dev nD) (t : Fin cfg0.N) (h : ¬atStart (grid0.coords t)) :
    outs m c t.val t.isLt = nextOut m c t h (outs m c (t.val - 1) (by omega)) := by
  obtain ⟨n, hn⟩ := t
  cases n with
  | zero => exact absurd ((atStart_iff _).mpr rfl) h
  | succ n => conv_lhs => unfold outs
              exact dif_neg h

/-! ## The pipeline's proof data -/

/-- The proof data: the arrays as the region finds them; after a point each input's buffer at its block and the outputs'
    at what the points so far have left. -/
def dats (_ : Fin 1) (c : Dev nD) : Dat τ (Elt F) Unit ℕ (UR sig nD τ) ℕ cfg0 c where
  A w := V m c (Pipeline.arrRef spec0 w)
  after w t := match w with

    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outs m c t.val t.isLt).1
    | ⟨9, _⟩ => (outs m c t.val t.isLt).2.1
    | ⟨10, _⟩ => (outs m c t.val t.isLt).2.2.1
    | ⟨11, _⟩ => (outs m c t.val t.isLt).2.2.2
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outs m c t.val t.isLt).1 := by dsimp only [dats]
theorem after0_9 (c : Dev nD) (t : Fin cfg0.N) : (dats m 0 c).after 9 t = (outs m c t.val t.isLt).2.1 := by dsimp only [dats]
theorem after0_10 (c : Dev nD) (t : Fin cfg0.N) : (dats m 0 c).after 10 t = (outs m c t.val t.isLt).2.2.1 := by dsimp only [dats]
theorem after0_11 (c : Dev nD) (t : Fin cfg0.N) : (dats m 0 c).after 11 t = (outs m c t.val t.isLt).2.2.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_9 (c : Dev nD) (t : Fin cfg0.N) (h : ¬atStart (grid0.coords t)) (d) :
    (dats m 0 c).before 9 t d = (outs m c (t.val - 1) (by omega)).2.1 := by
  have h4 : ¬ t.val % 4 = 0 := fun h' => h ((atStart_iff t).mpr h')
  rw [(dats m 0 c).before_out_kept 9 rfl t (by omega)
    (by rw [Bool.eq_false_iff]; intro hf; have := (flush0_9 _).mp hf; dsimp only at this; omega) (fun _ => rfl) (fun _ _ => rfl) d]
  exact after0_9 m c ⟨t.val - 1, by omega⟩
theorem before0_10 (c : Dev nD) (t : Fin cfg0.N) (h : ¬atStart (grid0.coords t)) (d) :
    (dats m 0 c).before 10 t d = (outs m c (t.val - 1) (by omega)).2.2.1 := by
  have h4 : ¬ t.val % 4 = 0 := fun h' => h ((atStart_iff t).mpr h')
  rw [(dats m 0 c).before_out_kept 10 rfl t (by omega)
    (by rw [Bool.eq_false_iff]; intro hf; have := (flush0_10 _).mp hf; dsimp only at this; omega) (fun _ => rfl) (fun _ _ => rfl) d]
  exact after0_10 m c ⟨t.val - 1, by omega⟩
theorem before0_11 (c : Dev nD) (t : Fin cfg0.N) (h : ¬atStart (grid0.coords t)) (d) :
    (dats m 0 c).before 11 t d = (outs m c (t.val - 1) (by omega)).2.2.2 := by
  have h4 : ¬ t.val % 4 = 0 := fun h' => h ((atStart_iff t).mpr h')
  rw [(dats m 0 c).before_out_kept 11 rfl t (by omega)
    (by rw [Bool.eq_false_iff]; intro hf; have := (flush0_11 _).mp hf; dsimp only at this; omega) (fun _ => rfl) (fun _ _ => rfl) d]
  exact after0_11 m c ⟨t.val - 1, by omega⟩

/-! ## The body obligation -/

/-- What the body is called with at a point, -/
def bodyPre (c : Dev nD) (t : Fin cfg0.N) : sProp 𝕄 :=
  iprop((dats m 0 c).Φ t.castSucc
    ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- and what it returns. -/
def bodyPost (c : Dev nD) (t : Fin cfg0.N) : sProp 𝕄 :=
  iprop((dats m 0 c).Φ t.succ
    ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = (dats m 0 c).Φ t.castSucc from rfl]
  rw [show (dats m 0 c).leavesExact 0 t = owns (c : Thread nD τ) (ms0_0 t) fullShare ((dats m 0 c).after 0 t) from by
    unfold Dat.leavesExact; rw [live0_0 t], after0_0]
  rw [show (dats m 0 c).leavesExact 1 t = owns (c : Thread nD τ) (ms0_1 t) fullShare ((dats m 0 c).after 1 t) from by
    unfold Dat.leavesExact; rw [live0_1 t], after0_1]
  rw [show (dats m 0 c).leavesExact 2 t = owns (c : Thread nD τ) (ms0_2 t) fullShare ((dats m 0 c).after 2 t) from by
    unfold Dat.leavesExact; rw [live0_2 t], after0_2]
  rw [show (dats m 0 c).leavesExact 3 t = owns (c : Thread nD τ) (ms0_3 t) fullShare ((dats m 0 c).after 3 t) from by
    unfold Dat.leavesExact; rw [live0_3 t], after0_3]
  rw [show (dats m 0 c).leavesExact 4 t = owns (c : Thread nD τ) (ms0_4 t) fullShare ((dats m 0 c).after 4 t) from by
    unfold Dat.leavesExact; rw [live0_4 t], after0_4]
  rw [show (dats m 0 c).leavesExact 5 t = owns (c : Thread nD τ) (ms0_5 t) fullShare ((dats m 0 c).after 5 t) from by
    unfold Dat.leavesExact; rw [live0_5 t], after0_5]
  rw [show (dats m 0 c).leavesExact 6 t = owns (c : Thread nD τ) (ms0_6 t) fullShare ((dats m 0 c).after 6 t) from by
    unfold Dat.leavesExact; rw [live0_6 t], after0_6]
  rw [show (dats m 0 c).leavesExact 7 t = owns (c : Thread nD τ) (ms0_7 t) fullShare ((dats m 0 c).after 7 t) from by
    unfold Dat.leavesExact; rw [live0_7 t], after0_7]
  rw [show (dats m 0 c).leavesExact 8 t = owns (c : Thread nD τ) (ms0_8 t) fullShare ((dats m 0 c).after 8 t) from by
    unfold Dat.leavesExact; rw [live0_8 t], after0_8]
  rw [show (dats m 0 c).leavesExact 9 t = owns (c : Thread nD τ) (ms0_9 t) fullShare ((dats m 0 c).after 9 t) from by
    unfold Dat.leavesExact; rw [live0_9 t], after0_9]
  rw [show (dats m 0 c).leavesExact 10 t = owns (c : Thread nD τ) (ms0_10 t) fullShare ((dats m 0 c).after 10 t) from by
    unfold Dat.leavesExact; rw [live0_10 t], after0_10]
  rw [show (dats m 0 c).leavesExact 11 t = owns (c : Thread nD τ) (ms0_11 t) fullShare ((dats m 0 c).after 11 t) from by
    unfold Dat.leavesExact; rw [live0_11 t], after0_11]
  by_cases h : atStart (grid0.coords t)
  · rw [outs_first m c t h]
    iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((firstRun m c t h).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    iintro ⟨H0, H1, H2, H3, H4, H5, H6, H7, ⟨%e8, H8⟩, ⟨%e9, H9⟩, ⟨%e10, H10⟩, ⟨%e11, H11⟩⟩
    isplitl [HP]; · iexact HP
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (cover_first_8 m c t h)
    isplitl [H9]
    · unfold owns; iexists _; isplitr
      swap; · iexact H9
      ipureintro; exact View.read_writes_of_cover _ _ _ _ _ (cover_first_9 m c t h)
    isplitl [H10]
    · unfold owns; iexists _; isplitr
      swap; · iexact H10
      ipureintro; exact View.read_writes_of_cover _ _ _ _ _ (cover_first_10 m c t h)
    unfold owns; iexists _; isplitr
    swap; · iexact H11
    ipureintro; exact View.read_writes_of_cover _ _ _ _ _ (cover_first_11 m c t h)

  · simp only [before0_9 m c t h, before0_10 m c t h, before0_11 m c t h]
    rw [outs_next m c t h]
    iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((nextRun m c t h (outs m c (t.val - 1) (by omega))).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexact H9
    isplitl [H10]; · iexact H10
    isplitl [H11]; · iexact H11
    iintro ⟨H0, H1, H2, H3, H4, H5, H6, H7, ⟨%e8, H8⟩, H9, H10, H11⟩
    isplitl [HP]; · iexact HP
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (cover_next_8 m c t h _)
    isplitl [H9]
    · unfold owns; iexists _; isplitr
      swap; · iexact H9
      ipureintro; exact rfl
    isplitl [H10]
    · unfold owns; iexists _; isplitr
      swap; · iexact H10
      ipureintro; exact rfl
    unfold owns; iexists _; isplitr
    swap; · iexact H11
    ipureintro; exact rfl

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
/-- Every execution of the program ends, with the arrays at what the proof data says and every counter at zero. -/
theorem run_main : θ_run defs (onTc (τ := τ) (main (F := F))) (s₀ m ρ)
    (fun r => Pipeline.FramePost cfgs (dats m) 0 (V m) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.AttnIdeal.Hand

end
-- ==== Proof.MlpFirst.lean ====
module

public import proofs.«01_k».proof.Proof.Gen.MlpIdeal.Skeleton
public import proofs.«01_k».proof.Proof.Gen.MlpIdeal.Frame

@[expose] public section

set_option maxRecDepth 16384

noncomputable section

namespace Cert.MlpIdeal.Hand

open Cert.MlpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The first point. -/
abbrev atFirst (i : grid0.Coords) : Prop := (Scalar.cmpi .ne (Scalar.extui (Scalar.cmpi .eq (BitVec.ofNat 32 (i 0).val) 0#32)) 0#32) = 1#1
/-- A point that takes a block of the hidden axis. -/
abbrev atBlock (i : grid0.Coords) : Prop := k0_cond2 i = 1#1
/-- A point that takes a row tile of the norm's gradient, -/
abbrev atTile (i : grid0.Coords) : Prop := k0_cond3 i = 1#1
/-- and the first of them. -/
abbrev atFirstTile (i : grid0.Coords) : Prop := k0_cond4 i = 1#1

set_option maxHeartbeats 8000000 in
/-- The pieces the first point leaves: both weight gradients of its block, and the gradient at the normed rows so far. -/
noncomputable def runFirst (c : Dev nD) (i : grid0.Coords) (arg1 : Memref sig .tc .vmem S512x1024 .f32) (harg1 : arg1.IsWhole) (arg2 : Memref sig .tc .vmem S2048x1024 .bf16) (harg2 : arg2.IsWhole) (arg3 : Memref sig .tc .vmem S2048x512 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S2048x1024 .bf16) (harg6 : arg6.IsWhole) (arg7 : Memref sig .tc .vmem S1x1024x512 .bf16) (harg7 : arg7.IsWhole) (arg8 : Memref sig .tc .vmem S1x512x1024 .bf16) (harg8 : arg8.IsWhole) (arg9 : Memref sig .tc .vmem S512x1024 .f32) (harg9 : arg9.IsWhole) (arg10 : Memref sig .tc .vmem S1x1024x512 .bf16) (harg10 : arg10.IsWhole) (arg11 : Memref sig .tc .vmem S1x512x1024 .bf16) (harg11 : arg11.IsWhole) (arg12 : Memref sig .tc .vmem S8x1024 .f32) (harg12 : arg12.IsWhole) (arg13 : Memref sig .tc .vmem S2048x1024 .f32) (harg13 : arg13.IsWhole) (arg14 : Memref sig .tc .vmem S2048x512 .bf16) (harg14 : arg14.IsWhole)
    (x1 : Vec F S512x1024 .f32) (x2 : Vec F S2048x1024 .bf16) (x3 : Vec F S2048x512 .bf16) (x4 : Vec F S1x1024 .f32) (x5 : Vec F S512x1024 .f32) (x6 : Vec F S2048x1024 .bf16) (x7 : Vec F S1x1024x512 .bf16) (x8 : Vec F S1x512x1024 .bf16)  (hc0 : atFirst i) (hc1 : atBlock i) (hc2 : ¬atTile i) :
    { L : List (View.Piece (Elt F) S1x1024x512 .bf16) × List (View.Piece (Elt F) S1x512x1024 .bf16) × List (View.Piece (Elt F) S2048x1024 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ f, arg10.view.loc (c : Thread nD τ) ↦[arg10.view.set]{fullShare} arg10.view.writes (Elt F) f L.1) ∗ (∃ f, arg11.view.loc (c : Thread nD τ) ↦[arg11.view.set]{fullShare} arg11.view.writes (Elt F) f L.2.1) ∗ (∃ d, owns (c : Thread nD τ) arg12 fullShare d) ∗ (∃ f, arg13.view.loc (c : Thread nD τ) ↦[arg13.view.set]{fullShare} arg13.view.writes (Elt F) f L.2.2) ∗ (∃ d, owns (c : Thread nD τ) arg14 fullShare d)) -∗ K ⟨⟩))
          ⊢ wp frame (wpE (defs₀ (F := F)) Variants.none c none) E (cc0_mlp_bwd0 i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨⟨?_, ?_, ?_⟩, fun E K => ?run⟩
  case run =>
    simp only [cc0_mlp_bwd0_eq_skeleton]; unfold cc0_mlp_bwd0_skel
    simp only [k0_part1_eq_skeleton, k0_part2_eq_skeleton, k0_part3_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8
    sl_exec (disch := first | sl_exact hc0 | sl_exact hc1 | sl_exact hc2)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _, _; isplitr; swap; · iexact H9
      ipureintro; rfl
    isplitl [H10]
    · iexists _; iexact H10
    isplitl [H11]
    · iexists _; iexact H11
    isplitl [H12]
    · iexists _, _; isplitr; swap; · iexact H12
      ipureintro; rfl
    isplitl [H13]
    · iexists _; iexact H13
    iexists _, _; isplitr; swap; · iexact H14
    ipureintro; rfl

end Cert.MlpIdeal.Hand

end
-- ==== Proof.MlpBlock.lean ====
module

public import proofs.«01_k».proof.Proof.MlpFirst

@[expose] public section

set_option maxRecDepth 16384

noncomputable section

namespace Cert.MlpIdeal.Hand

open Cert.MlpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 8000000 in
/-- The pieces a later block leaves. -/
noncomputable def runBlock (c : Dev nD) (i : grid0.Coords) (arg1 : Memref sig .tc .vmem S512x1024 .f32) (harg1 : arg1.IsWhole) (arg2 : Memref sig .tc .vmem S2048x1024 .bf16) (harg2 : arg2.IsWhole) (arg3 : Memref sig .tc .vmem S2048x512 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S2048x1024 .bf16) (harg6 : arg6.IsWhole) (arg7 : Memref sig .tc .vmem S1x1024x512 .bf16) (harg7 : arg7.IsWhole) (arg8 : Memref sig .tc .vmem S1x512x1024 .bf16) (harg8 : arg8.IsWhole) (arg9 : Memref sig .tc .vmem S512x1024 .f32) (harg9 : arg9.IsWhole) (arg10 : Memref sig .tc .vmem S1x1024x512 .bf16) (harg10 : arg10.IsWhole) (arg11 : Memref sig .tc .vmem S1x512x1024 .bf16) (harg11 : arg11.IsWhole) (arg12 : Memref sig .tc .vmem S8x1024 .f32) (harg12 : arg12.IsWhole) (arg13 : Memref sig .tc .vmem S2048x1024 .f32) (harg13 : arg13.IsWhole) (arg14 : Memref sig .tc .vmem S2048x512 .bf16) (harg14 : arg14.IsWhole)
    (x1 : Vec F S512x1024 .f32) (x2 : Vec F S2048x1024 .bf16) (x3 : Vec F S2048x512 .bf16) (x4 : Vec F S1x1024 .f32) (x5 : Vec F S512x1024 .f32) (x6 : Vec F S2048x1024 .bf16) (x7 : Vec F S1x1024x512 .bf16) (x8 : Vec F S1x512x1024 .bf16) (y13 : Vec F S2048x1024 .f32) (hc0 : ¬atFirst i) (hc1 : atBlock i) (hc2 : ¬atTile i) :
    { L : List (View.Piece (Elt F) S1x1024x512 .bf16) × List (View.Piece (Elt F) S1x512x1024 .bf16) × List (View.Piece (Elt F) S2048x1024 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare y13 ∗ (∃ d, owns (c : Thread nD τ) arg14 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ f, arg10.view.loc (c : Thread nD τ) ↦[arg10.view.set]{fullShare} arg10.view.writes (Elt F) f L.1) ∗ (∃ f, arg11.view.loc (c : Thread nD τ) ↦[arg11.view.set]{fullShare} arg11.view.writes (Elt F) f L.2.1) ∗ (∃ d, owns (c : Thread nD τ) arg12 fullShare d) ∗ (∃ f, arg13.view.loc (c : Thread nD τ) ↦[arg13.view.set]{fullShare} arg13.view.writes (Elt F) f L.2.2) ∗ (∃ d, owns (c : Thread nD τ) arg14 fullShare d)) -∗ K ⟨⟩))
          ⊢ wp frame (wpE (defs₀ (F := F)) Variants.none c none) E (cc0_mlp_bwd0 i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨⟨?_, ?_, ?_⟩, fun E K => ?run⟩
  case run =>
    simp only [cc0_mlp_bwd0_eq_skeleton]; unfold cc0_mlp_bwd0_skel
    simp only [k0_part1_eq_skeleton, k0_part2_eq_skeleton, k0_part3_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%f13, %hf13, H13⟩, ⟨%d14, %f14, -, H14⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg13.eq_unread hf13
    sl_exec (disch := first | sl_exact hc0 | sl_exact hc1 | sl_exact hc2)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _, _; isplitr; swap; · iexact H9
      ipureintro; rfl
    isplitl [H10]
    · iexists _; iexact H10
    isplitl [H11]
    · iexists _; iexact H11
    isplitl [H12]
    · iexists _, _; isplitr; swap; · iexact H12
      ipureintro; rfl
    isplitl [H13]
    · iexists _; iexact H13
    iexists _, _; isplitr; swap; · iexact H14
    ipureintro; rfl

end Cert.MlpIdeal.Hand

end
-- ==== Proof.MlpFirstTile.lean ====
module

public import proofs.«01_k».proof.Proof.MlpBlock

@[expose] public section

set_option maxRecDepth 16384

noncomputable section

namespace Cert.MlpIdeal.Hand

open Cert.MlpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 8000000 in
/-- The pieces the first row tile leaves. -/
noncomputable def runFirstTile (c : Dev nD) (i : grid0.Coords) (arg1 : Memref sig .tc .vmem S512x1024 .f32) (harg1 : arg1.IsWhole) (arg2 : Memref sig .tc .vmem S2048x1024 .bf16) (harg2 : arg2.IsWhole) (arg3 : Memref sig .tc .vmem S2048x512 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S2048x1024 .bf16) (harg6 : arg6.IsWhole) (arg7 : Memref sig .tc .vmem S1x1024x512 .bf16) (harg7 : arg7.IsWhole) (arg8 : Memref sig .tc .vmem S1x512x1024 .bf16) (harg8 : arg8.IsWhole) (arg9 : Memref sig .tc .vmem S512x1024 .f32) (harg9 : arg9.IsWhole) (arg10 : Memref sig .tc .vmem S1x1024x512 .bf16) (harg10 : arg10.IsWhole) (arg11 : Memref sig .tc .vmem S1x512x1024 .bf16) (harg11 : arg11.IsWhole) (arg12 : Memref sig .tc .vmem S8x1024 .f32) (harg12 : arg12.IsWhole) (arg13 : Memref sig .tc .vmem S2048x1024 .f32) (harg13 : arg13.IsWhole) (arg14 : Memref sig .tc .vmem S2048x512 .bf16) (harg14 : arg14.IsWhole)
    (x1 : Vec F S512x1024 .f32) (x2 : Vec F S2048x1024 .bf16) (x3 : Vec F S2048x512 .bf16) (x4 : Vec F S1x1024 .f32) (x5 : Vec F S512x1024 .f32) (x6 : Vec F S2048x1024 .bf16) (x7 : Vec F S1x1024x512 .bf16) (x8 : Vec F S1x512x1024 .bf16) (y10 : Vec F S1x1024x512 .bf16) (y11 : Vec F S1x512x1024 .bf16) (y13 : Vec F S2048x1024 .f32) (hc0 : ¬atFirst i) (hc1 : ¬atBlock i) (hc2 : atTile i) (hc3 : atFirstTile i) :
    { L : List (View.Piece (Elt F) S512x1024 .f32) × List (View.Piece (Elt F) S8x1024 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ owns (c : Thread nD τ) arg10 fullShare y10 ∗ owns (c : Thread nD τ) arg11 fullShare y11 ∗ (∃ d, owns (c : Thread nD τ) arg12 fullShare d) ∗ owns (c : Thread nD τ) arg13 fullShare y13 ∗ (∃ d, owns (c : Thread nD τ) arg14 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ f, arg9.view.loc (c : Thread nD τ) ↦[arg9.view.set]{fullShare} arg9.view.writes (Elt F) f L.1) ∗ owns (c : Thread nD τ) arg10 fullShare y10 ∗ owns (c : Thread nD τ) arg11 fullShare y11 ∗ (∃ f, arg12.view.loc (c : Thread nD τ) ↦[arg12.view.set]{fullShare} arg12.view.writes (Elt F) f L.2) ∗ owns (c : Thread nD τ) arg13 fullShare y13 ∗ (∃ d, owns (c : Thread nD τ) arg14 fullShare d)) -∗ K ⟨⟩))
          ⊢ wp frame (wpE (defs₀ (F := F)) Variants.none c none) E (cc0_mlp_bwd0 i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨⟨?_, ?_⟩, fun E K => ?run⟩
  case run =>
    simp only [cc0_mlp_bwd0_eq_skeleton]; unfold cc0_mlp_bwd0_skel
    simp only [k0_part4_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%d12, %f12, -, H12⟩, ⟨%f13, %hf13, H13⟩, ⟨%d14, %f14, -, H14⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg10.eq_unread hf10; obtain rfl := harg11.eq_unread hf11; obtain rfl := harg13.eq_unread hf13
    sl_exec (disch := first | sl_exact hc0 | sl_exact hc1 | sl_exact hc2 | sl_exact hc3)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; iexact H9
    isplitl [H10]
    · iexists _; isplitr; · ipureintro; exact harg10.read_unread _
      iexact H10
    isplitl [H11]
    · iexists _; isplitr; · ipureintro; exact harg11.read_unread _
      iexact H11
    isplitl [H12]
    · iexists _; iexact H12
    isplitl [H13]
    · iexists _; isplitr; · ipureintro; exact harg13.read_unread _
      iexact H13
    iexists _, _; isplitr; swap; · iexact H14
    ipureintro; rfl

end Cert.MlpIdeal.Hand

end
-- ==== Proof.MlpTile.lean ====
module

public import proofs.«01_k».proof.Proof.MlpFirstTile

@[expose] public section

set_option maxRecDepth 16384

noncomputable section

namespace Cert.MlpIdeal.Hand

open Cert.MlpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 8000000 in
/-- The pieces a later row tile leaves. -/
noncomputable def runTile (c : Dev nD) (i : grid0.Coords) (arg1 : Memref sig .tc .vmem S512x1024 .f32) (harg1 : arg1.IsWhole) (arg2 : Memref sig .tc .vmem S2048x1024 .bf16) (harg2 : arg2.IsWhole) (arg3 : Memref sig .tc .vmem S2048x512 .bf16) (harg3 : arg3.IsWhole) (arg4 : Memref sig .tc .vmem S1x1024 .f32) (harg4 : arg4.IsWhole) (arg5 : Memref sig .tc .vmem S512x1024 .f32) (harg5 : arg5.IsWhole) (arg6 : Memref sig .tc .vmem S2048x1024 .bf16) (harg6 : arg6.IsWhole) (arg7 : Memref sig .tc .vmem S1x1024x512 .bf16) (harg7 : arg7.IsWhole) (arg8 : Memref sig .tc .vmem S1x512x1024 .bf16) (harg8 : arg8.IsWhole) (arg9 : Memref sig .tc .vmem S512x1024 .f32) (harg9 : arg9.IsWhole) (arg10 : Memref sig .tc .vmem S1x1024x512 .bf16) (harg10 : arg10.IsWhole) (arg11 : Memref sig .tc .vmem S1x512x1024 .bf16) (harg11 : arg11.IsWhole) (arg12 : Memref sig .tc .vmem S8x1024 .f32) (harg12 : arg12.IsWhole) (arg13 : Memref sig .tc .vmem S2048x1024 .f32) (harg13 : arg13.IsWhole) (arg14 : Memref sig .tc .vmem S2048x512 .bf16) (harg14 : arg14.IsWhole)
    (x1 : Vec F S512x1024 .f32) (x2 : Vec F S2048x1024 .bf16) (x3 : Vec F S2048x512 .bf16) (x4 : Vec F S1x1024 .f32) (x5 : Vec F S512x1024 .f32) (x6 : Vec F S2048x1024 .bf16) (x7 : Vec F S1x1024x512 .bf16) (x8 : Vec F S1x512x1024 .bf16) (y10 : Vec F S1x1024x512 .bf16) (y11 : Vec F S1x512x1024 .bf16) (y12 : Vec F S8x1024 .f32) (y13 : Vec F S2048x1024 .f32) (hc0 : ¬atFirst i) (hc1 : ¬atBlock i) (hc2 : atTile i) (hc3 : ¬atFirstTile i) :
    { L : List (View.Piece (Elt F) S512x1024 .f32) × List (View.Piece (Elt F) S8x1024 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ owns (c : Thread nD τ) arg10 fullShare y10 ∗ owns (c : Thread nD τ) arg11 fullShare y11 ∗ owns (c : Thread nD τ) arg12 fullShare y12 ∗ owns (c : Thread nD τ) arg13 fullShare y13 ∗ (∃ d, owns (c : Thread nD τ) arg14 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ f, arg9.view.loc (c : Thread nD τ) ↦[arg9.view.set]{fullShare} arg9.view.writes (Elt F) f L.1) ∗ owns (c : Thread nD τ) arg10 fullShare y10 ∗ owns (c : Thread nD τ) arg11 fullShare y11 ∗ (∃ f, arg12.view.loc (c : Thread nD τ) ↦[arg12.view.set]{fullShare} arg12.view.writes (Elt F) f L.2) ∗ owns (c : Thread nD τ) arg13 fullShare y13 ∗ (∃ d, owns (c : Thread nD τ) arg14 fullShare d)) -∗ K ⟨⟩))
          ⊢ wp frame (wpE (defs₀ (F := F)) Variants.none c none) E (cc0_mlp_bwd0 i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨⟨?_, ?_⟩, fun E K => ?run⟩
  case run =>
    simp only [cc0_mlp_bwd0_eq_skeleton]; unfold cc0_mlp_bwd0_skel
    simp only [k0_part4_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%f12, %hf12, H12⟩, ⟨%f13, %hf13, H13⟩, ⟨%d14, %f14, -, H14⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg10.eq_unread hf10; obtain rfl := harg11.eq_unread hf11; obtain rfl := harg12.eq_unread hf12; obtain rfl := harg13.eq_unread hf13
    sl_exec (disch := first | sl_exact hc0 | sl_exact hc1 | sl_exact hc2 | sl_exact hc3)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; iexact H9
    isplitl [H10]
    · iexists _; isplitr; · ipureintro; exact harg10.read_unread _
      iexact H10
    isplitl [H11]
    · iexists _; isplitr; · ipureintro; exact harg11.read_unread _
      iexact H11
    isplitl [H12]
    · iexists _; iexact H12
    isplitl [H13]
    · iexists _; isplitr; · ipureintro; exact harg13.read_unread _
      iexact H13
    iexists _, _; isplitr; swap; · iexact H14
    ipureintro; rfl

end Cert.MlpIdeal.Hand

end
-- ==== Proof.MlpFrame.lean ====
module

public import proofs.«01_k».proof.Proof.MlpTile
public import Idealize.ShloMosaic.Lib.Claim

@[expose] public section

set_option maxRecDepth 16384

noncomputable section

namespace Cert.MlpIdeal.Hand

open Cert.MlpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem atFirst_iff : ∀ t : Fin cfg0.N, atFirst (grid0.coords t) ↔ t.val = 0 :=
  (by decide +kernel : ∀ t : Fin grid0.N, atFirst (grid0.coords t) ↔ t.val = 0)
theorem atBlock_iff : ∀ t : Fin cfg0.N, atBlock (grid0.coords t) ↔ t.val < 8 :=
  (by decide +kernel : ∀ t : Fin grid0.N, atBlock (grid0.coords t) ↔ t.val < 8)
theorem atTile_iff : ∀ t : Fin cfg0.N, atTile (grid0.coords t) ↔ 8 ≤ t.val :=
  (by decide +kernel : ∀ t : Fin grid0.N, atTile (grid0.coords t) ↔ 8 ≤ t.val)
theorem atFirstTile_iff : ∀ t : Fin cfg0.N, atFirstTile (grid0.coords t) ↔ t.val = 8 :=
  (by decide +kernel : ∀ t : Fin grid0.N, atFirstTile (grid0.coords t) ↔ t.val = 8)

theorem flush_dwi : ∀ t : Fin cfg0.N, (cfg0.win 9).flush t = true ↔ (t.val < 7 ∨ t.val = 11) :=
  (by decide +kernel : ∀ t : Fin grid0.N, win0_9.flush t = true ↔ (t.val < 7 ∨ t.val = 11))
theorem flush_dwo : ∀ t : Fin cfg0.N, (cfg0.win 10).flush t = true ↔ (t.val < 7 ∨ t.val = 11) :=
  (by decide +kernel : ∀ t : Fin grid0.N, win0_10.flush t = true ↔ (t.val < 7 ∨ t.val = 11))
theorem flush_dh : ∀ t : Fin cfg0.N, (cfg0.win 8).flush t = true ↔ 8 ≤ t.val :=
  (by decide +kernel : ∀ t : Fin grid0.N, win0_8.flush t = true ↔ 8 ≤ t.val)

/-! ## The staging buffers of a point, and the scratch -/

abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2048x1024 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024x512 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x512x1024 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x1024 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1024x512 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x512x1024 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S8x1024 .f32 := win0_11.stage (cfg0.slots t 11)
abbrev hs0_11 (t : Fin cfg0.N) : (ms0_11 t).IsWhole := hstage0_11 ((cfg0.slots t 11).cast nbuf0_11)

/-- The scratch that carries the gradient at the normed rows, and the one that keeps a block's hidden gradient. -/
abbrev scDhm : Memref sig .tc .vmem S2048x1024 .f32 := Memref.whole cc0_scratch0
abbrev scDz : Memref sig .tc .vmem S2048x512 .bf16 := Memref.whole cc0_scratch1

theorem PhiA_eq (c : Dev nD) :
    (Pipeline.ΦA spec0 c : sProp 𝕄)
      = iprop(iprop((∃ d, owns (c : Thread nD τ) scDhm fullShare d) ∗ (∃ d, owns (c : Thread nD τ) scDz fullShare d)) ∗ (∃ r, prngReg c r)) := by
  unfold Pipeline.ΦA; rw [scopedRest0_eq]; simp only [scDhm, scDz, owns_whole]; try rfl

/-! ## What a point leaves -/

/-- The four output buffers and the carried scratch after a point. -/
structure Outs (F : FTy → Type) [FloatOps F] where
  dh : Vec F S512x1024 .f32
  dwi : Vec F S1x1024x512 .bf16
  dwo : Vec F S1x512x1024 .bf16
  dg : Vec F S8x1024 .f32
  dhm : Vec F S2048x1024 .f32

abbrev firstRun (c : Dev nD) (t : Fin cfg0.N) (h : t.val = 0) :=
  runFirst c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scDhm (Memref.isWhole_whole _) scDz (Memref.isWhole_whole _) (iblk m c 0 t) (iblk m c 1 t) (iblk m c 2 t) (iblk m c 3 t) (iblk m c 4 t) (iblk m c 5 t) (iblk m c 6 t) (iblk m c 7 t) ((atFirst_iff t).mpr h) ((atBlock_iff t).mpr (by omega)) (fun h' => by have := (atTile_iff t).mp h'; omega)
abbrev blockRun (c : Dev nD) (t : Fin cfg0.N) (h : t.val ≠ 0) (h8 : t.val < 8) (y : Vec F S2048x1024 .f32) :=
  runBlock c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scDhm (Memref.isWhole_whole _) scDz (Memref.isWhole_whole _) (iblk m c 0 t) (iblk m c 1 t) (iblk m c 2 t) (iblk m c 3 t) (iblk m c 4 t) (iblk m c 5 t) (iblk m c 6 t) (iblk m c 7 t) y (fun h' => h ((atFirst_iff t).mp h')) ((atBlock_iff t).mpr h8) (fun h' => by have := (atTile_iff t).mp h'; omega)
abbrev firstTileRun (c : Dev nD) (t : Fin cfg0.N) (h : t.val = 8) (y : Outs F) :=
  runFirstTile c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scDhm (Memref.isWhole_whole _) scDz (Memref.isWhole_whole _) (iblk m c 0 t) (iblk m c 1 t) (iblk m c 2 t) (iblk m c 3 t) (iblk m c 4 t) (iblk m c 5 t) (iblk m c 6 t) (iblk m c 7 t) y.dwi y.dwo y.dhm (fun h' => by have := (atFirst_iff t).mp h'; omega) (fun h' => by have := (atBlock_iff t).mp h'; omega) ((atTile_iff t).mpr (by omega)) ((atFirstTile_iff t).mpr h)
abbrev tileRun (c : Dev nD) (t : Fin cfg0.N) (h : 8 < t.val) (y : Outs F) :=
  runTile c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scDhm (Memref.isWhole_whole _) scDz (Memref.isWhole_whole _) (iblk m c 0 t) (iblk m c 1 t) (iblk m c 2 t) (iblk m c 3 t) (iblk m c 4 t) (iblk m c 5 t) (iblk m c 6 t) (iblk m c 7 t) y.dwi y.dwo y.dg y.dhm (fun h' => by have := (atFirst_iff t).mp h'; omega) (fun h' => by have := (atBlock_iff t).mp h'; omega) ((atTile_iff t).mpr (by omega)) (fun h' => by have := (atFirstTile_iff t).mp h'; omega)

/-- A buffer's pieces read back. -/
abbrev back {S : Shape} {e : EltTy} (M : Memref sig .tc .vmem S e) (L : List (View.Piece (Elt F) S e)) : Vec F S e :=
  M.view.read (Elt F) (M.view.writes (Elt F) M.view.junk L)

theorem cover_first_dwi (c : Dev nD) (t : Fin cfg0.N) (h : t.val = 0) (y : S1x1024x512.Idx) :
    ∃ pc ∈ (firstRun m c t h).1.1, y ∈ pc.1.set :=
  View.cover_of_wholeMem (firstRun m c t h).1.1 (by sl_whole_mem) y
theorem cover_first_dwo (c : Dev nD) (t : Fin cfg0.N) (h : t.val = 0) (y : S1x512x1024.Idx) :
    ∃ pc ∈ (firstRun m c t h).1.2.1, y ∈ pc.1.set :=
  View.cover_of_wholeMem (firstRun m c t h).1.2.1 (by sl_whole_mem) y
theorem cover_first_dhm (c : Dev nD) (t : Fin cfg0.N) (h : t.val = 0) (y : S2048x1024.Idx) :
    ∃ pc ∈ (firstRun m c t h).1.2.2, y ∈ pc.1.set :=
  View.cover_of_wholeMem (firstRun m c t h).1.2.2 (by sl_whole_mem) y
theorem cover_block_dwi (c : Dev nD) (t : Fin cfg0.N) (h : t.val ≠ 0) (h8 : t.val < 8) (z : Vec F S2048x1024 .f32) (y : S1x1024x512.Idx) :
    ∃ pc ∈ (blockRun m c t h h8 z).1.1, y ∈ pc.1.set :=
  View.cover_of_wholeMem (blockRun m c t h h8 z).1.1 (by sl_whole_mem) y
theorem cover_block_dwo (c : Dev nD) (t : Fin cfg0.N) (h : t.val ≠ 0) (h8 : t.val < 8) (z : Vec F S2048x1024 .f32) (y : S1x512x1024.Idx) :
    ∃ pc ∈ (blockRun m c t h h8 z).1.2.1, y ∈ pc.1.set :=
  View.cover_of_wholeMem (blockRun m c t h h8 z).1.2.1 (by sl_whole_mem) y
theorem cover_block_dhm (c : Dev nD) (t : Fin cfg0.N) (h : t.val ≠ 0) (h8 : t.val < 8) (z : Vec F S2048x1024 .f32) (y : S2048x1024.Idx) :
    ∃ pc ∈ (blockRun m c t h h8 z).1.2.2, y ∈ pc.1.set :=
  View.cover_of_tiledL (blockRun m c t h h8 z).1.2.2 S512x1024.size (by sl_kernel_rfl) y
theorem cover_firstTile_dh (c : Dev nD) (t : Fin cfg0.N) (h : t.val = 8) (z : Outs F) (y : S512x1024.Idx) :
    ∃ pc ∈ (firstTileRun m c t h z).1.1, y ∈ pc.1.set :=
  View.cover_of_wholeMem (firstTileRun m c t h z).1.1 (by sl_whole_mem) y
theorem cover_firstTile_dg (c : Dev nD) (t : Fin cfg0.N) (h : t.val = 8) (z : Outs F) (y : S8x1024.Idx) :
    ∃ pc ∈ (firstTileRun m c t h z).1.2, y ∈ pc.1.set :=
  View.cover_of_wholeMem (firstTileRun m c t h z).1.2 (by sl_whole_mem) y
theorem cover_tile_dh (c : Dev nD) (t : Fin cfg0.N) (h : 8 < t.val) (z : Outs F) (y : S512x1024.Idx) :
    ∃ pc ∈ (tileRun m c t h z).1.1, y ∈ pc.1.set :=
  View.cover_of_wholeMem (tileRun m c t h z).1.1 (by sl_whole_mem) y
theorem cover_tile_dg (c : Dev nD) (t : Fin cfg0.N) (h : 8 < t.val) (z : Outs F) (y : S8x1024.Idx) :
    ∃ pc ∈ (tileRun m c t h z).1.2, y ∈ pc.1.set :=
  View.cover_of_wholeMem (tileRun m c t h z).1.2 (by sl_whole_mem) y

def firstOut (c : Dev nD) (t : Fin cfg0.N) (h : t.val = 0) : Outs F where
  dh := back (ms0_8 t) []
  dwi := back (ms0_9 t) (firstRun m c t h).1.1
  dwo := back (ms0_10 t) (firstRun m c t h).1.2.1
  dg := back (ms0_11 t) []
  dhm := back scDhm (firstRun m c t h).1.2.2

def blockOut (c : Dev nD) (t : Fin cfg0.N) (h : t.val ≠ 0) (h8 : t.val < 8) (y : Outs F) : Outs F where
  dh := back (ms0_8 t) []
  dwi := back (ms0_9 t) (blockRun m c t h h8 y.dhm).1.1
  dwo := back (ms0_10 t) (blockRun m c t h h8 y.dhm).1.2.1
  dg := back (ms0_11 t) []
  dhm := back scDhm (blockRun m c t h h8 y.dhm).1.2.2

def firstTileOut (c : Dev nD) (t : Fin cfg0.N) (h : t.val = 8) (y : Outs F) : Outs F where
  dh := back (ms0_8 t) (firstTileRun m c t h y).1.1
  dwi := y.dwi
  dwo := y.dwo
  dg := back (ms0_11 t) (firstTileRun m c t h y).1.2
  dhm := y.dhm

def tileOut (c : Dev nD) (t : Fin cfg0.N) (h : 8 < t.val) (y : Outs F) : Outs F where
  dh := back (ms0_8 t) (tileRun m c t h y).1.1
  dwi := y.dwi
  dwo := y.dwo
  dg := back (ms0_11 t) (tileRun m c t h y).1.2
  dhm := y.dhm

/-- The buffers after point `n`, from the first point on. -/
def outs (c : Dev nD) : (n : ℕ) → n < cfg0.N → Outs F
  | 0, hn => firstOut m c ⟨0, hn⟩ rfl
  | n + 1, hn =>
    if h : n + 1 < 8 then blockOut m c ⟨n + 1, hn⟩ (Nat.succ_ne_zero n) h (outs c n (Nat.lt_of_succ_lt hn))
    else if h' : n + 1 = 8 then firstTileOut m c ⟨n + 1, hn⟩ h' (outs c n (Nat.lt_of_succ_lt hn))
    else tileOut m c ⟨n + 1, hn⟩ (by dsimp only; omega) (outs c n (Nat.lt_of_succ_lt hn))

theorem outs_first (c : Dev nD) (t : Fin cfg0.N) (h : t.val = 0) : outs m c t.val t.isLt = firstOut m c t h := by
  obtain ⟨n, hn⟩ := t
  cases n with
  | zero => unfold outs; rfl
  | succ n => exact absurd h (Nat.succ_ne_zero n)

theorem outs_block (c : Dev nD) (t : Fin cfg0.N) (h : t.val ≠ 0) (h8 : t.val < 8) :
    outs m c t.val t.isLt = blockOut m c t h h8 (outs m c (t.val - 1) (by omega)) := by
  obtain ⟨n, hn⟩ := t
  cases n with
  | zero => exact absurd rfl h
  | succ n => conv_lhs => unfold outs
              exact dif_pos h8

theorem outs_firstTile (c : Dev nD) (t : Fin cfg0.N) (h : t.val = 8) :
    outs m c t.val t.isLt = firstTileOut m c t h (outs m c (t.val - 1) (by omega)) := by
  obtain ⟨n, hn⟩ := t
  cases n with
  | zero => exact absurd h (by dsimp only; omega)
  | succ n => conv_lhs => unfold outs
              exact (dif_neg (by dsimp only at h; omega)).trans (dif_pos h)

theorem outs_tile (c : Dev nD) (t : Fin cfg0.N) (h : 8 < t.val) :
    outs m c t.val t.isLt = tileOut m c t h (outs m c (t.val - 1) (by omega)) := by
  obtain ⟨n, hn⟩ := t
  cases n with
  | zero => exact absurd h (by dsimp only; omega)
  | succ n => conv_lhs => unfold outs
              exact (dif_neg (by dsimp only at h; omega)).trans (dif_neg (by dsimp only at h; omega))

/-! ## The pipeline's proof data -/

/-- The invariant before position `n`: the carried scratch at what the points so far have left in it. -/
def Carry (c : Dev nD) : (n : ℕ) → n ≤ cfg0.N → sProp 𝕄
  | 0, _ => Pipeline.ΦA spec0 c
  | n + 1, hn => iprop(iprop(owns (c : Thread nD τ) scDhm fullShare (outs m c n hn).dhm ∗ (∃ d, owns (c : Thread nD τ) scDz fullShare d)) ∗ (∃ r, prngReg c r))

theorem Carry_zero (c : Dev nD) (n : ℕ) (h : n ≤ cfg0.N) (hz : n = 0) : Carry m c n h = Pipeline.ΦA spec0 c := by
  subst hz; rfl

theorem Carry_succ (c : Dev nD) (n : ℕ) (hn : n < cfg0.N) :
    Carry m c (n + 1) hn = iprop(iprop(owns (c : Thread nD τ) scDhm fullShare (outs m c n hn).dhm ∗ (∃ d, owns (c : Thread nD τ) scDz fullShare d)) ∗ (∃ r, prngReg c r)) := rfl

theorem Carry_pos (c : Dev nD) (n : ℕ) (h : n ≤ cfg0.N) (hz : n ≠ 0) :
    Carry m c n h = iprop(iprop(owns (c : Thread nD τ) scDhm fullShare (outs m c (n - 1) (by omega)).dhm ∗ (∃ d, owns (c : Thread nD τ) scDz fullShare d)) ∗ (∃ r, prngReg c r)) := by
  cases n with
  | zero => exact absurd rfl hz
  | succ n => rfl

/-- What a point may leave in each window's buffer, given what it found there: an input as found, the gradient of the rows
    and of the gain what the row tiles have left (before the first of them anything), the weights' gradients what the blocks
    have left. -/
def rdat (c : Dev nD) : RDat τ (Elt F) Unit ℕ (UR sig nD τ) ℕ cfg0 c where
  A w := V m c (Pipeline.arrRef spec0 w)
  after w t := match w with

    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun Y X => X = Y
    | ⟨6, _⟩ => fun Y X => X = Y
    | ⟨7, _⟩ => fun Y X => X = Y
    | ⟨8, _⟩ => fun _ X => 8 ≤ t.val → X = (outs m c t.val t.isLt).dh
    | ⟨9, _⟩ => fun _ X => X = (outs m c t.val t.isLt).dwi
    | ⟨10, _⟩ => fun _ X => X = (outs m c t.val t.isLt).dwo
    | ⟨11, _⟩ => fun _ X => 8 ≤ t.val → X = (outs m c t.val t.isLt).dg
  Φ t := Carry m c t.val (Nat.le_of_lt_succ t.isLt)
  q _ := fullShare
  owed _ := 0

theorem A_eq (c : Dev nD) (w : Fin cfg0.W) : (rdat m c).A w = V m c (Pipeline.arrRef spec0 w) := by
  dsimp only [rdat]

theorem after0_0 (c : Dev nD) (t : Fin cfg0.N) (Y X) : (rdat m c).after 0 t Y X ↔ X = Y := by dsimp only [rdat]; exact Iff.rfl
theorem after0_1 (c : Dev nD) (t : Fin cfg0.N) (Y X) : (rdat m c).after 1 t Y X ↔ X = Y := by dsimp only [rdat]; exact Iff.rfl
theorem after0_2 (c : Dev nD) (t : Fin cfg0.N) (Y X) : (rdat m c).after 2 t Y X ↔ X = Y := by dsimp only [rdat]; exact Iff.rfl
theorem after0_3 (c : Dev nD) (t : Fin cfg0.N) (Y X) : (rdat m c).after 3 t Y X ↔ X = Y := by dsimp only [rdat]; exact Iff.rfl
theorem after0_4 (c : Dev nD) (t : Fin cfg0.N) (Y X) : (rdat m c).after 4 t Y X ↔ X = Y := by dsimp only [rdat]; exact Iff.rfl
theorem after0_5 (c : Dev nD) (t : Fin cfg0.N) (Y X) : (rdat m c).after 5 t Y X ↔ X = Y := by dsimp only [rdat]; exact Iff.rfl
theorem after0_6 (c : Dev nD) (t : Fin cfg0.N) (Y X) : (rdat m c).after 6 t Y X ↔ X = Y := by dsimp only [rdat]; exact Iff.rfl
theorem after0_7 (c : Dev nD) (t : Fin cfg0.N) (Y X) : (rdat m c).after 7 t Y X ↔ X = Y := by dsimp only [rdat]; exact Iff.rfl
theorem after0_8 (c : Dev nD) (t : Fin cfg0.N) (Y X) : (rdat m c).after 8 t Y X ↔ (8 ≤ t.val → X = (outs m c t.val t.isLt).dh) := by dsimp only [rdat]; exact Iff.rfl
theorem after0_9 (c : Dev nD) (t : Fin cfg0.N) (Y X) : (rdat m c).after 9 t Y X ↔ (X = (outs m c t.val t.isLt).dwi) := by dsimp only [rdat]; exact Iff.rfl
theorem after0_10 (c : Dev nD) (t : Fin cfg0.N) (Y X) : (rdat m c).after 10 t Y X ↔ (X = (outs m c t.val t.isLt).dwo) := by dsimp only [rdat]; exact Iff.rfl
theorem after0_11 (c : Dev nD) (t : Fin cfg0.N) (Y X) : (rdat m c).after 11 t Y X ↔ (8 ≤ t.val → X = (outs m c t.val t.isLt).dg) := by dsimp only [rdat]; exact Iff.rfl

theorem found0_0 (c : Dev nD) (t : Fin cfg0.N) (Y) (h : (rdat m c).Finds 0 t Y) : Y = iblk m c 0 t := by
  obtain ⟨d, hd⟩ := (rdat m c).finds_in_eq_fetched 0 rfl (fun _ _ _ => rfl) (fun t Y X h => (after0_0 m c t Y X).mp h) t Y h
  rw [hd]; unfold RDat.fetched RDat.blockOf iblk; rw [A_eq m c 0]; rfl
theorem found0_1 (c : Dev nD) (t : Fin cfg0.N) (Y) (h : (rdat m c).Finds 1 t Y) : Y = iblk m c 1 t := by
  obtain ⟨d, hd⟩ := (rdat m c).finds_in_eq_fetched 1 rfl (fun _ _ _ => rfl) (fun t Y X h => (after0_1 m c t Y X).mp h) t Y h
  rw [hd]; unfold RDat.fetched RDat.blockOf iblk; rw [A_eq m c 1]; rfl
theorem found0_2 (c : Dev nD) (t : Fin cfg0.N) (Y) (h : (rdat m c).Finds 2 t Y) : Y = iblk m c 2 t := by
  obtain ⟨d, hd⟩ := (rdat m c).finds_in_eq_fetched 2 rfl (fun _ _ _ => rfl) (fun t Y X h => (after0_2 m c t Y X).mp h) t Y h
  rw [hd]; unfold RDat.fetched RDat.blockOf iblk; rw [A_eq m c 2]; rfl
theorem found0_3 (c : Dev nD) (t : Fin cfg0.N) (Y) (h : (rdat m c).Finds 3 t Y) : Y = iblk m c 3 t := by
  obtain ⟨d, hd⟩ := (rdat m c).finds_in_eq_fetched 3 rfl (fun _ _ _ => rfl) (fun t Y X h => (after0_3 m c t Y X).mp h) t Y h
  rw [hd]; unfold RDat.fetched RDat.blockOf iblk; rw [A_eq m c 3]; rfl
theorem found0_4 (c : Dev nD) (t : Fin cfg0.N) (Y) (h : (rdat m c).Finds 4 t Y) : Y = iblk m c 4 t := by
  obtain ⟨d, hd⟩ := (rdat m c).finds_in_eq_fetched 4 rfl (fun _ _ _ => rfl) (fun t Y X h => (after0_4 m c t Y X).mp h) t Y h
  rw [hd]; unfold RDat.fetched RDat.blockOf iblk; rw [A_eq m c 4]; rfl
theorem found0_5 (c : Dev nD) (t : Fin cfg0.N) (Y) (h : (rdat m c).Finds 5 t Y) : Y = iblk m c 5 t := by
  obtain ⟨d, hd⟩ := (rdat m c).finds_in_eq_fetched 5 rfl (fun _ _ _ => rfl) (fun t Y X h => (after0_5 m c t Y X).mp h) t Y h
  rw [hd]; unfold RDat.fetched RDat.blockOf iblk; rw [A_eq m c 5]; rfl
theorem found0_6 (c : Dev nD) (t : Fin cfg0.N) (Y) (h : (rdat m c).Finds 6 t Y) : Y = iblk m c 6 t := by
  obtain ⟨d, hd⟩ := (rdat m c).finds_in_eq_fetched 6 rfl (fun _ _ _ => rfl) (fun t Y X h => (after0_6 m c t Y X).mp h) t Y h
  rw [hd]; unfold RDat.fetched RDat.blockOf iblk; rw [A_eq m c 6]; rfl
theorem found0_7 (c : Dev nD) (t : Fin cfg0.N) (Y) (h : (rdat m c).Finds 7 t Y) : Y = iblk m c 7 t := by
  obtain ⟨d, hd⟩ := (rdat m c).finds_in_eq_fetched 7 rfl (fun _ _ _ => rfl) (fun t Y X h => (after0_7 m c t Y X).mp h) t Y h
  rw [hd]; unfold RDat.fetched RDat.blockOf iblk; rw [A_eq m c 7]; rfl
theorem found0_9 (c : Dev nD) (t : Fin cfg0.N) (h8 : 8 ≤ t.val) (Y) (h : (rdat m c).Finds 9 t Y) : Y = (outs m c (t.val - 1) (by omega)).dwi := by
  have hN : t.val < 12 := lt_of_lt_of_eq t.isLt (show cfg0.N = 12 from N_0)
  rcases ((rdat m c).finds_of_pos (Window.fetch_out _ rfl t) (by omega) Y).mp h with hf | ⟨Y', -, hR⟩
  · have := (flush_dwi _).mp hf; dsimp only at this; omega
  · exact (after0_9 m c _ Y' Y).mp hR
theorem found0_10 (c : Dev nD) (t : Fin cfg0.N) (h8 : 8 ≤ t.val) (Y) (h : (rdat m c).Finds 10 t Y) : Y = (outs m c (t.val - 1) (by omega)).dwo := by
  have hN : t.val < 12 := lt_of_lt_of_eq t.isLt (show cfg0.N = 12 from N_0)
  rcases ((rdat m c).finds_of_pos (Window.fetch_out _ rfl t) (by omega) Y).mp h with hf | ⟨Y', -, hR⟩
  · have := (flush_dwo _).mp hf; dsimp only at this; omega
  · exact (after0_10 m c _ Y' Y).mp hR
theorem found0_11 (c : Dev nD) (t : Fin cfg0.N) (h8 : 8 < t.val) (Y) (h : (rdat m c).Finds 11 t Y) : Y = (outs m c (t.val - 1) (by omega)).dg := by
  have hN : t.val < 12 := lt_of_lt_of_eq t.isLt (show cfg0.N = 12 from N_0)
  rcases ((rdat m c).finds_of_pos (Window.fetch_out _ rfl t) (by omega) Y).mp h with hf | ⟨Y', -, hR⟩
  · have := (flush0_11 _).mp hf; dsimp only at this; omega
  · exact (after0_11 m c _ Y' Y).mp hR (by dsimp only; omega)

/-! ## The body obligation -/

def bodyPre (c : Dev nD) (t : Fin cfg0.N) (Y : (w : Fin cfg0.W) → (cfg0.win w).block.Idx → Elt F (cfg0.win w).elt) : sProp 𝕄 :=
  iprop((rdat m c).Φ t.castSucc
    ∗ (rdat m c).owesAt () t.castSucc
    ∗ owns (c : Thread nD τ) (ms0_0 t) fullShare (Y 0)
    ∗ owns (c : Thread nD τ) (ms0_1 t) fullShare (Y 1)
    ∗ owns (c : Thread nD τ) (ms0_2 t) fullShare (Y 2)
    ∗ owns (c : Thread nD τ) (ms0_3 t) fullShare (Y 3)
    ∗ owns (c : Thread nD τ) (ms0_4 t) fullShare (Y 4)
    ∗ owns (c : Thread nD τ) (ms0_5 t) fullShare (Y 5)
    ∗ owns (c : Thread nD τ) (ms0_6 t) fullShare (Y 6)
    ∗ owns (c : Thread nD τ) (ms0_7 t) fullShare (Y 7)
    ∗ owns (c : Thread nD τ) (ms0_8 t) fullShare (Y 8)
    ∗ owns (c : Thread nD τ) (ms0_9 t) fullShare (Y 9)
    ∗ owns (c : Thread nD τ) (ms0_10 t) fullShare (Y 10)
    ∗ owns (c : Thread nD τ) (ms0_11 t) fullShare (Y 11))

def bodyPost (c : Dev nD) (t : Fin cfg0.N) (Y : (w : Fin cfg0.W) → (cfg0.win w).block.Idx → Elt F (cfg0.win w).elt) : sProp 𝕄 :=
  iprop((rdat m c).Φ t.succ
    ∗ (rdat m c).owesAt () t.succ
    ∗ (∃ X, ⌜(rdat m c).after 0 t (Y 0) X⌝ ∗ owns (c : Thread nD τ) (ms0_0 t) fullShare X)
    ∗ (∃ X, ⌜(rdat m c).after 1 t (Y 1) X⌝ ∗ owns (c : Thread nD τ) (ms0_1 t) fullShare X)
    ∗ (∃ X, ⌜(rdat m c).after 2 t (Y 2) X⌝ ∗ owns (c : Thread nD τ) (ms0_2 t) fullShare X)
    ∗ (∃ X, ⌜(rdat m c).after 3 t (Y 3) X⌝ ∗ owns (c : Thread nD τ) (ms0_3 t) fullShare X)
    ∗ (∃ X, ⌜(rdat m c).after 4 t (Y 4) X⌝ ∗ owns (c : Thread nD τ) (ms0_4 t) fullShare X)
    ∗ (∃ X, ⌜(rdat m c).after 5 t (Y 5) X⌝ ∗ owns (c : Thread nD τ) (ms0_5 t) fullShare X)
    ∗ (∃ X, ⌜(rdat m c).after 6 t (Y 6) X⌝ ∗ owns (c : Thread nD τ) (ms0_6 t) fullShare X)
    ∗ (∃ X, ⌜(rdat m c).after 7 t (Y 7) X⌝ ∗ owns (c : Thread nD τ) (ms0_7 t) fullShare X)
    ∗ (∃ X, ⌜(rdat m c).after 8 t (Y 8) X⌝ ∗ owns (c : Thread nD τ) (ms0_8 t) fullShare X)
    ∗ (∃ X, ⌜(rdat m c).after 9 t (Y 9) X⌝ ∗ owns (c : Thread nD τ) (ms0_9 t) fullShare X)
    ∗ (∃ X, ⌜(rdat m c).after 10 t (Y 10) X⌝ ∗ owns (c : Thread nD τ) (ms0_10 t) fullShare X)
    ∗ (∃ X, ⌜(rdat m c).after 11 t (Y 11) X⌝ ∗ owns (c : Thread nD τ) (ms0_11 t) fullShare X))

theorem Carry_castSucc (c : Dev nD) (t : Fin cfg0.N) :
    (rdat m c).Φ t.castSucc = Carry m c t.val (Nat.le_of_lt t.isLt) := by
  dsimp only [rdat]; exact Pipeline.Dat.Φ_castSucc (Carry m c) t

set_option maxHeartbeats 19200000 in
theorem sound_body (c : Dev nD) (t : Fin cfg0.N) (Y) (hY : ∀ w, (rdat m c).Finds w t (Y w)) :
    bodyPre m c t Y ⊢ wp frame (wpE (defs₀ (F := F)) Variants.none c none) Set.univ (bodyAt0 t) (fun _ => bodyPost m c t Y) := by
  unfold bodyPre bodyPost bodyAt0
  simp only [after0_0, after0_1, after0_2, after0_3, after0_4, after0_5, after0_6, after0_7, after0_8, after0_9, after0_10, after0_11]
  rw [found0_0 m c t (Y 0) (hY 0)]
  rw [found0_1 m c t (Y 1) (hY 1)]
  rw [found0_2 m c t (Y 2) (hY 2)]
  rw [found0_3 m c t (Y 3) (hY 3)]
  rw [found0_4 m c t (Y 4) (hY 4)]
  rw [found0_5 m c t (Y 5) (hY 5)]
  rw [found0_6 m c t (Y 6) (hY 6)]
  rw [found0_7 m c t (Y 7) (hY 7)]
  rw [show (rdat m c).owesAt () t.succ = (rdat m c).owesAt () t.castSucc from rfl]
  rw [show (rdat m c).Φ t.succ = Carry m c (t.val + 1) t.isLt from rfl, Carry_succ, Carry_castSucc m c t]
  have hN : t.val < 12 := lt_of_lt_of_eq t.isLt (show cfg0.N = 12 from N_0)
  by_cases h : t.val = 0
  · rw [Carry_zero m c _ _ h, PhiA_eq, outs_first m c t h]
    iintro ⟨⟨⟨HS, HZ⟩, Hg⟩, Ho, H0, H1, H2, H3, H4, H5, H6, H7, H8, H9, H10, H11⟩
    iapply ((firstRun m c t h).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [HS]; · iexact HS
    isplitl [HZ]; · iexact HZ
    iintro ⟨H0, H1, H2, H3, H4, H5, H6, H7, ⟨%e8, H8⟩, ⟨%e9, H9⟩, ⟨%e10, H10⟩, ⟨%e11, H11⟩, ⟨%es, HS⟩, HZ⟩
    isplitl [HS HZ Hg]
    · isplitl [HS HZ]
      · isplitl [HS]
        · unfold owns; iexists _; isplitr
          swap; · iexact HS
          ipureintro; change _ = back scDhm _; exact View.read_writes_of_cover _ _ _ _ _ (cover_first_dhm m c t h)
        iexact HZ
      iexact Hg
    isplitl [Ho]; · iexact Ho
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; · ipureintro; rfl
      iexact H4
    isplitl [H5]
    · iexists _; isplitr; · ipureintro; rfl
      iexact H5
    isplitl [H6]
    · iexists _; isplitr; · ipureintro; rfl
      iexact H6
    isplitl [H7]
    · iexists _; isplitr; · ipureintro; rfl
      iexact H7
    isplitl [H8]
    · iexists e8; isplitr; · ipureintro; intro h8'; omega
      iexact H8
    isplitl [H9]
    · iexists _; isplitr; · ipureintro; rfl
      unfold owns; iexists _; isplitr
      swap; · iexact H9
      ipureintro; exact View.read_writes_of_cover _ _ _ _ _ (cover_first_dwi m c t h)
    isplitl [H10]
    · iexists _; isplitr; · ipureintro; rfl
      unfold owns; iexists _; isplitr
      swap; · iexact H10
      ipureintro; exact View.read_writes_of_cover _ _ _ _ _ (cover_first_dwo m c t h)
    iexists e11; isplitr; · ipureintro; intro h8'; omega
    iexact H11
  by_cases h8 : t.val < 8
  · rw [Carry_pos m c _ _ h, outs_block m c t h h8]
    iintro ⟨⟨⟨HS, HZ⟩, Hg⟩, Ho, H0, H1, H2, H3, H4, H5, H6, H7, H8, H9, H10, H11⟩
    iapply ((blockRun m c t h h8 (outs m c (t.val - 1) (by omega)).dhm).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [HS]; · iexact HS
    isplitl [HZ]; · iexact HZ
    iintro ⟨H0, H1, H2, H3, H4, H5, H6, H7, ⟨%e8, H8⟩, ⟨%e9, H9⟩, ⟨%e10, H10⟩, ⟨%e11, H11⟩, ⟨%es, HS⟩, HZ⟩
    isplitl [HS HZ Hg]
    · isplitl [HS HZ]
      · isplitl [HS]
        · unfold owns; iexists _; isplitr
          swap; · iexact HS
          ipureintro; change _ = back scDhm _; exact View.read_writes_of_cover _ _ _ _ _ (cover_block_dhm m c t h h8 _)
        iexact HZ
      iexact Hg
    isplitl [Ho]; · iexact Ho
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; · ipureintro; rfl
      iexact H4
    isplitl [H5]
    · iexists _; isplitr; · ipureintro; rfl
      iexact H5
    isplitl [H6]
    · iexists _; isplitr; · ipureintro; rfl
      iexact H6
    isplitl [H7]
    · iexists _; isplitr; · ipureintro; rfl
      iexact H7
    isplitl [H8]
    · iexists e8; isplitr; · ipureintro; intro h8'; omega
      iexact H8
    isplitl [H9]
    · iexists _; isplitr; · ipureintro; rfl
      unfold owns; iexists _; isplitr
      swap; · iexact H9
      ipureintro; exact View.read_writes_of_cover _ _ _ _ _ (cover_block_dwi m c t h h8 _)
    isplitl [H10]
    · iexists _; isplitr; · ipureintro; rfl
      unfold owns; iexists _; isplitr
      swap; · iexact H10
      ipureintro; exact View.read_writes_of_cover _ _ _ _ _ (cover_block_dwo m c t h h8 _)
    iexists e11; isplitr; · ipureintro; intro h8'; omega
    iexact H11
  by_cases h9 : t.val = 8
  · rw [Carry_pos m c _ _ h, outs_firstTile m c t h9, found0_9 m c t (by omega) (Y 9) (hY 9), found0_10 m c t (by omega) (Y 10) (hY 10)]
    iintro ⟨⟨⟨HS, HZ⟩, Hg⟩, Ho, H0, H1, H2, H3, H4, H5, H6, H7, H8, H9, H10, H11⟩
    iapply ((firstTileRun m c t h9 (outs m c (t.val - 1) (by omega))).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexact H9
    isplitl [H10]; · iexact H10
    isplitl [H11]; · iexists _; iexact H11
    isplitl [HS]; · iexact HS
    isplitl [HZ]; · iexact HZ
    iintro ⟨H0, H1, H2, H3, H4, H5, H6, H7, ⟨%e8, H8⟩, H9, H10, ⟨%e11, H11⟩, HS, HZ⟩
    isplitl [HS HZ Hg]
    · isplitl [HS HZ]
      · isplitl [HS]
        · iexact HS
        iexact HZ
      iexact Hg
    isplitl [Ho]; · iexact Ho
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; · ipureintro; rfl
      iexact H4
    isplitl [H5]
    · iexists _; isplitr; · ipureintro; rfl
      iexact H5
    isplitl [H6]
    · iexists _; isplitr; · ipureintro; rfl
      iexact H6
    isplitl [H7]
    · iexists _; isplitr; · ipureintro; rfl
      iexact H7
    isplitl [H8]
    · iexists _; isplitr; · ipureintro; intro _; rfl
      unfold owns; iexists _; isplitr
      swap; · iexact H8
      ipureintro; exact View.read_writes_of_cover _ _ _ _ _ (cover_firstTile_dh m c t h9 _)
    isplitl [H9]
    · iexists _; isplitr; · ipureintro; rfl
      iexact H9
    isplitl [H10]
    · iexists _; isplitr; · ipureintro; rfl
      iexact H10
    iexists _; isplitr; · ipureintro; intro _; rfl
    unfold owns; iexists _; isplitr
    swap; · iexact H11
    ipureintro; exact View.read_writes_of_cover _ _ _ _ _ (cover_firstTile_dg m c t h9 _)
  · rw [Carry_pos m c _ _ h, outs_tile m c t (by omega), found0_9 m c t (by omega) (Y 9) (hY 9), found0_10 m c t (by omega) (Y 10) (hY 10), found0_11 m c t (by omega) (Y 11) (hY 11)]
    iintro ⟨⟨⟨HS, HZ⟩, Hg⟩, Ho, H0, H1, H2, H3, H4, H5, H6, H7, H8, H9, H10, H11⟩
    iapply ((tileRun m c t (by omega) (outs m c (t.val - 1) (by omega))).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexact H9
    isplitl [H10]; · iexact H10
    isplitl [H11]; · iexact H11
    isplitl [HS]; · iexact HS
    isplitl [HZ]; · iexact HZ
    iintro ⟨H0, H1, H2, H3, H4, H5, H6, H7, ⟨%e8, H8⟩, H9, H10, ⟨%e11, H11⟩, HS, HZ⟩
    isplitl [HS HZ Hg]
    · isplitl [HS HZ]
      · isplitl [HS]
        · iexact HS
        iexact HZ
      iexact Hg
    isplitl [Ho]; · iexact Ho
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; · ipureintro; rfl
      iexact H4
    isplitl [H5]
    · iexists _; isplitr; · ipureintro; rfl
      iexact H5
    isplitl [H6]
    · iexists _; isplitr; · ipureintro; rfl
      iexact H6
    isplitl [H7]
    · iexists _; isplitr; · ipureintro; rfl
      iexact H7
    isplitl [H8]
    · iexists _; isplitr; · ipureintro; intro _; rfl
      unfold owns; iexists _; isplitr
      swap; · iexact H8
      ipureintro; exact View.read_writes_of_cover _ _ _ _ _ (cover_tile_dh m c t (by omega) _)
    isplitl [H9]
    · iexists _; isplitr; · ipureintro; rfl
      iexact H9
    isplitl [H10]
    · iexists _; isplitr; · ipureintro; rfl
      iexact H10
    iexists _; isplitr; · ipureintro; intro _; rfl
    unfold owns; iexists _; isplitr
    swap; · iexact H11
    ipureintro; exact View.read_writes_of_cover _ _ _ _ _ (cover_tile_dg m c t (by omega) _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : (rdat (F := F) m c).BodyObligation (defs₀ (F := F)) Variants.none () Set.univ := fun t Y hY => by
  rw [bigSep_W0, bigSep_W0, defs₀_row]
  exact triple_restated (sound_body m c t Y hY) rfl .rfl fun _ => .rfl

theorem carry_in (c : Dev nD) : Pipeline.ΦA spec0 c ⊢ (rdat m c).Φ 0 := by
  rw [show (rdat m c).Φ 0 = Carry m c 0 (Nat.zero_le _) from rfl, Carry_zero m c 0 _ rfl]

theorem carry_out (c : Dev nD) : (rdat m c).Φ (Fin.last cfg0.N) ⊢ Pipeline.ΦA spec0 c := by
  rw [show (rdat m c).Φ (Fin.last cfg0.N) = Carry m c (Fin.last cfg0.N).val (Nat.le_of_lt_succ (Fin.last cfg0.N).isLt) from rfl,
    Carry_pos m c _ _ (by rw [Fin.val_last]; have : cfg0.N = 12 := N_0; omega), PhiA_eq]
  iintro ⟨⟨HS, HZ⟩, Hg⟩
  isplitl [HS HZ]
  · isplitl [HS]
    · iexists _; iexact HS
    iexact HZ
  iexact Hg

/-! ## The run -/

/-- The same data with each buffer's contents named: at the points that write back they are the ones above. -/
def dats (_ : Fin 1) (c : Dev nD) : Dat τ (Elt F) Unit ℕ (UR sig nD τ) ℕ cfg0 c where
  A w := V m c (Pipeline.arrRef spec0 w)
  after w t := match w with

    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outs m c t.val t.isLt).dh
    | ⟨9, _⟩ => (outs m c t.val t.isLt).dwi
    | ⟨10, _⟩ => (outs m c t.val t.isLt).dwo
    | ⟨11, _⟩ => (outs m c t.val t.isLt).dg
  Φ t := Carry m c t.val (Nat.le_of_lt_succ t.isLt)
  q _ := fullShare
  owed _ := 0

theorem dats_A (c : Dev nD) (w : Fin cfg0.W) : (dats m 0 c).A w = V m c (Pipeline.arrRef spec0 w) := by
  dsimp only [dats]

theorem named_dh (c : Dev nD) (t : Fin cfg0.N) : (dats m 0 c).after 8 t = (outs m c t.val t.isLt).dh := by dsimp only [dats]
theorem named_dwi (c : Dev nD) (t : Fin cfg0.N) : (dats m 0 c).after 9 t = (outs m c t.val t.isLt).dwi := by dsimp only [dats]
theorem named_dwo (c : Dev nD) (t : Fin cfg0.N) : (dats m 0 c).after 10 t = (outs m c t.val t.isLt).dwo := by dsimp only [dats]
theorem named_dg (c : Dev nD) (t : Fin cfg0.N) : (dats m 0 c).after 11 t = (outs m c t.val t.isLt).dg := by dsimp only [dats]

/-- What a point that writes back may leave is what the data names. -/
theorem leaves_named (c : Dev nD) (w : Fin cfg0.W) (t : Fin cfg0.N) (hf : (cfg0.win w).flush t = true) (X)
    (h : (rdat m c).Leaves w t X) : X = (dats m 0 c).after w t := by
  obtain ⟨Y, -, hR⟩ := h
  have hin : (cfg0.win w).isOut = true := by
    by_contra hc
    rw [Bool.not_eq_true] at hc
    rw [Window.flush_in _ hc] at hf; exact absurd hf Bool.false_ne_true
  match w, hin, hf, X, Y, hR with
  | ⟨0, _⟩, hin, _, _, _, _ => exact absurd hin Bool.false_ne_true
  | ⟨1, _⟩, hin, _, _, _, _ => exact absurd hin Bool.false_ne_true
  | ⟨2, _⟩, hin, _, _, _, _ => exact absurd hin Bool.false_ne_true
  | ⟨3, _⟩, hin, _, _, _, _ => exact absurd hin Bool.false_ne_true
  | ⟨4, _⟩, hin, _, _, _, _ => exact absurd hin Bool.false_ne_true
  | ⟨5, _⟩, hin, _, _, _, _ => exact absurd hin Bool.false_ne_true
  | ⟨6, _⟩, hin, _, _, _, _ => exact absurd hin Bool.false_ne_true
  | ⟨7, _⟩, hin, _, _, _, _ => exact absurd hin Bool.false_ne_true
  | ⟨8, _⟩, _, hf, X, Y, hR => exact ((after0_8 m c t Y X).mp hR ((flush_dh t).mp hf)).trans (named_dh m c t).symm
  | ⟨9, _⟩, _, _, X, Y, hR => exact ((after0_9 m c t Y X).mp hR).trans (named_dwi m c t).symm
  | ⟨10, _⟩, _, _, X, Y, hR => exact ((after0_10 m c t Y X).mp hR).trans (named_dwo m c t).symm
  | ⟨11, _⟩, _, hf, X, Y, hR =>
    exact ((after0_11 m c t Y X).mp hR (by have := (flush0_11 t).mp hf; omega)).trans (named_dg m c t).symm
  | ⟨n + 12, hn⟩, _, _, _, _, _ => exact absurd hn (by have : cfg0.W = 12 := rfl; omega)

theorem arr_named (c : Dev nD) (w : Fin cfg0.W) : ∀ (n : ℕ) (G), (rdat m c).ArrAt w n G → G = (dats m 0 c).arrAt w n
  | 0, G, h => by
    refine Eq.trans (show G = (rdat m c).A w from h) ?_
    rw [A_eq]; exact (dats_A m c w).symm
  | n + 1, G, h => by
    unfold RDat.ArrAt at h; unfold Dat.arrAt
    by_cases hn : n < cfg0.N
    · rw [dif_pos hn] at h ⊢
      by_cases hf : (cfg0.win w).flush ⟨n, hn⟩ = true
      · rw [if_pos hf] at h ⊢
        obtain ⟨G₀, X, h₀, hX, rfl⟩ := h
        rw [arr_named c w n G₀ h₀, leaves_named m c w ⟨n, hn⟩ hf X hX]
      · rw [if_neg hf] at h ⊢; exact arr_named c w n G h
    · rw [dif_neg hn] at h ⊢; exact arr_named c w n G h

set_option backward.isDefEq.respectTransparency.types false in
theorem run_related : θ_run defs (onTc (τ := τ) (main (F := F))) (s₀ m ρ)
    (fun r => RDat.FramePost (cfgs 0) (rdat m) (V m) r ∧ r.2.sem = fun _ => 0) :=
  RDat.θ_run_frame_track (Q' := _) cfgs (0 : Fin 1) launch0 defs₀ Variants.none (rdat m) m ρ main
    (hbody := body_obligation m) (hshare := fun c w => by unfold RDat.share; split <;> rfl)
    (howed := fun _ _ => rfl) (V := V m) (hmain := hmain m Variants.none) (hA := A_eq m) (hin := carry_in m) (hout := carry_out m)

/-- Every execution of the program ends, with the arrays at what the named data says and every counter at zero. -/
theorem run_main : θ_run defs (onTc (τ := τ) (main (F := F))) (s₀ m ρ)
    (fun r => Pipeline.FramePost cfgs (dats m) 0 (V m) r ∧ r.2.sem = fun _ => 0) :=
  (θ_run defs _ _).mono (fun r h => ⟨fun c => ⟨fun w => arr_named m c w _ _ ((h.1 c).1 w), (h.1 c).2⟩, h.2⟩) (run_related m ρ)

theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (dats_A m) ((θ_run defs _ _).mono (fun _ h => h.1) (run_main m ρ)))
    ((θ_run defs _ _).mono (fun _ h => h.2) (run_main m ρ))

end Cert.MlpIdeal.Hand

end
-- ==== Proof.AttnSame.lean ====
module

public import proofs.«01_k».proof.Defs
public import proofs.«01_k».proof.Proof.Gen.Attn
public import proofs.«01_k».proof.Proof.AttnFrame

@[expose] public section

set_option maxHeartbeats 12800000
set_option maxRecDepth 16384

noncomputable section

namespace Cert.SameText

open Idealize.ShloMosaic Idealize.SL.Sem

variable {F : FTy → Type} [FloatOps F]

/-- The printed body and the idealized one are the same text. -/
theorem attn_body : (@Cert.Attn.cc0_attn_core_bwd F _ Cert.Attn.Gen.facts) = (@Cert.AttnIdeal.cc0_attn_core_bwd F _ Cert.AttnIdeal.Gen.facts) := rfl

theorem attn_defs₀ : (@Cert.Attn.defs₀ F _ Cert.Attn.Gen.facts) = (@Cert.AttnIdeal.defs₀ F _ Cert.AttnIdeal.Gen.facts) := by
  unfold Cert.Attn.defs₀ Cert.AttnIdeal.defs₀
  refine congrArg Defs.onTc ?_
  funext l a
  match l, a with
  | ⟨0, _⟩, (t, s) => rw [← attn_body]; rfl
  | ⟨_ + 1, h⟩, _ => exact absurd h (Nat.not_lt.2 (Nat.le_add_left _ _))

theorem attn_defs : (@Cert.Attn.defs F _ Cert.Attn.Gen.facts) = (@Cert.AttnIdeal.defs F _ Cert.AttnIdeal.Gen.facts) := by
  unfold Cert.Attn.defs Cert.AttnIdeal.defs
  exact congrArg (Pipeline.defs _) attn_defs₀

theorem attn_main : (@Cert.Attn.main F _ Cert.Attn.Gen.facts) = (@Cert.AttnIdeal.main F _ Cert.AttnIdeal.Gen.facts) := rfl

/-- `Cert.quiescent_Attn`: the idealized program is the same text, so its run read at `Bits` is this one. -/
theorem frame_attn : @Cert.quiescent_Attn Cert.Attn.Gen.facts := fun m g _ => by
  rw [attn_defs, attn_main]
  exact Cert.AttnIdeal.Hand.frame_run (F := Bits) m g

end Cert.SameText

end
-- ==== Proof.MlpSame.lean ====
module

public import proofs.«01_k».proof.Defs
public import proofs.«01_k».proof.Proof.Gen.Mlp
public import proofs.«01_k».proof.Proof.MlpFrame

@[expose] public section

set_option maxHeartbeats 12800000
set_option maxRecDepth 16384

noncomputable section

namespace Cert.SameText

open Idealize.ShloMosaic Idealize.SL.Sem

variable {F : FTy → Type} [FloatOps F]

/-- The printed body and the idealized one are the same text. -/
theorem mlp_body : (@Cert.Mlp.cc0_mlp_bwd0 F _ Cert.Mlp.Gen.facts) = (@Cert.MlpIdeal.cc0_mlp_bwd0 F _ Cert.MlpIdeal.Gen.facts) := rfl

theorem mlp_defs₀ : (@Cert.Mlp.defs₀ F _ Cert.Mlp.Gen.facts) = (@Cert.MlpIdeal.defs₀ F _ Cert.MlpIdeal.Gen.facts) := by
  unfold Cert.Mlp.defs₀ Cert.MlpIdeal.defs₀
  refine congrArg Defs.onTc ?_
  funext l a
  match l, a with
  | ⟨0, _⟩, (t, s) => rw [← mlp_body]; rfl
  | ⟨_ + 1, h⟩, _ => exact absurd h (Nat.not_lt.2 (Nat.le_add_left _ _))

theorem mlp_defs : (@Cert.Mlp.defs F _ Cert.Mlp.Gen.facts) = (@Cert.MlpIdeal.defs F _ Cert.MlpIdeal.Gen.facts) := by
  unfold Cert.Mlp.defs Cert.MlpIdeal.defs
  exact congrArg (Pipeline.defs _) mlp_defs₀

theorem mlp_main : (@Cert.Mlp.main F _ Cert.Mlp.Gen.facts) = (@Cert.MlpIdeal.main F _ Cert.MlpIdeal.Gen.facts) := rfl

/-- `Cert.quiescent_Mlp`: the idealized program is the same text, so its run read at `Bits` is this one. -/
theorem frame_mlp : @Cert.quiescent_Mlp Cert.Mlp.Gen.facts := fun m g _ => by
  rw [mlp_defs, mlp_main]
  exact Cert.MlpIdeal.Hand.frame_run (F := Bits) m g

end Cert.SameText

end
-- ==== Proof.MlpPieces.lean ====
/- What the grid points of the channel mixer's backward pass leave in their buffers, entry by entry, over the extended
   reals: a block point its two weight gradients and the running gradient at the normed rows, a row tile its rows of the
   input gradient and the running norm gradient. -/
module

public import proofs.«01_k».proof.Proof.MlpFrame
public import Idealize.ShloMosaic.Lib.Pointwise
public import Idealize.ShloMosaic.Lib.WritesUnit
public import Idealize.ShloMosaic.Lib.WholeRead

@[expose] public section

set_option maxRecDepth 16384

noncomputable section

namespace Cert.MlpIdeal.Hand

open Cert.MlpIdeal.Gen
open Idealize.ShloMosaic Idealize.ShloMosaic.TcCoe Idealize.ShloMosaic.Tactic
open Idealize.ShloMosaic.Pipeline (Dat RDat Cfg Window cellOf)

variable (m : (ℓ : Loc nD τ sig) → Buf (Elt Ideal) ℓ)

/-! ## The payloads at an entry -/

/-- The gradient at the hidden rows: the cotangent through the second product, times twice the rectified row. -/
def dz (x6 : Vec Ideal S2048x1024 .bf16) (x8 : Vec Ideal S1x512x1024 .bf16) (x3 : Vec Ideal S2048x512 .bf16)
    (i : Fin 2048) (f : Fin 512) : EReal :=
  (∑ d : Fin 1024, x6 (ix2 i d) * x8 (ix3 0 f d)) * (Ideal.ofBits FTy.f32 0x40000000#32 * x3 (ix2 i f))

/-- What a block of the hidden axis adds to the gradient at the normed rows. -/
def dhmPart (x6 : Vec Ideal S2048x1024 .bf16) (x8 : Vec Ideal S1x512x1024 .bf16) (x3 : Vec Ideal S2048x512 .bf16)
    (x7 : Vec Ideal S1x1024x512 .bf16) (i : Fin 2048) (d : Fin 1024) : EReal :=
  ∑ f : Fin 512, dz x6 x8 x3 i f * x7 (ix3 0 d f)

theorem pay7_eq₁ (v9 : Vec Ideal S512x1024 .bf16) (v11 : Vec Ideal S1x512x1024 .bf16) (v14 : Vec Ideal S512x512 .bf16) (v24 v25) :
    k0_pay12 (k0_pay8 v9 v11) (k0_pay9 v14) v24 v25 = k0_pay7 v9 v11 v14 v24 v25 := rfl
theorem pay7_eq₂ (v9 : Vec Ideal S512x1024 .bf16) (v11 : Vec Ideal S1x512x1024 .bf16) (v14 : Vec Ideal S512x512 .bf16) (v24 v25) :
    k0_pay15 (k0_pay13 v9 v11 v14) v24 v25 = k0_pay7 v9 v11 v14 v24 v25 := rfl
theorem pay7_eq₃ (v9 : Vec Ideal S512x1024 .bf16) (v11 : Vec Ideal S1x512x1024 .bf16) (v14 : Vec Ideal S512x512 .bf16) (v24 v25) :
    k0_pay18 v9 v11 v14 v24 v25 = k0_pay7 v9 v11 v14 v24 v25 := rfl
theorem pay5_eq₁ (v9 : Vec Ideal S512x1024 .bf16) (v11 : Vec Ideal S1x512x1024 .bf16) (v14 : Vec Ideal S512x512 .bf16) :
    k0_pay11 (k0_pay8 v9 v11) (k0_pay9 v14) = k0_pay6 v9 v11 v14 := rfl
theorem pay5_eq₂ (v9 : Vec Ideal S512x1024 .bf16) (v11 : Vec Ideal S1x512x1024 .bf16) (v14 : Vec Ideal S512x512 .bf16) :
    k0_pay14 v9 v11 v14 = k0_pay6 v9 v11 v14 := rfl
theorem pay5_eq₃ (v9 : Vec Ideal S512x1024 .bf16) (v11 : Vec Ideal S1x512x1024 .bf16) (v14 : Vec Ideal S512x512 .bf16) :
    k0_pay17 v9 v11 v14 = k0_pay6 v9 v11 v14 := rfl

/-- The stored hidden gradient of a row tile is the rows of `dz` it starts at. -/
theorem pay6_rows (v9 : Vec Ideal S512x1024 .bf16) (v14 : Vec Ideal S512x512 .bf16)
    (x6 : Vec Ideal S2048x1024 .bf16) (x8 : Vec Ideal S1x512x1024 .bf16) (x3 : Vec Ideal S2048x512 .bf16)
    (i : Fin 2048) (a : Fin 512)
    (h9 : ∀ d, v9 (ix2 a d) = x6 (ix2 i d)) (h14 : ∀ f, v14 (ix2 a f) = x3 (ix2 i f)) (f : Fin 512) :
    k0_pay6 v9 x8 v14 (ix2 a f) = dz x6 x8 x3 i f := by
  pointwise [k0_pay6, k0_pay5]
  simp only [h9, h14]; rfl

theorem pay7_rows (v9 : Vec Ideal S512x1024 .bf16) (v14 : Vec Ideal S512x512 .bf16) (v24 : Vec Ideal S512x1024 .f32)
    (x6 : Vec Ideal S2048x1024 .bf16) (x8 : Vec Ideal S1x512x1024 .bf16) (x3 : Vec Ideal S2048x512 .bf16)
    (x7 : Vec Ideal S1x1024x512 .bf16) (y : Vec Ideal S2048x1024 .f32) (i : Fin 2048) (a : Fin 512)
    (h9 : ∀ d, v9 (ix2 a d) = x6 (ix2 i d)) (h14 : ∀ f, v14 (ix2 a f) = x3 (ix2 i f)) (h24 : ∀ d, v24 (ix2 a d) = y (ix2 i d)) (d : Fin 1024) :
    k0_pay7 v9 x8 v14 v24 x7 (ix2 a d) = y (ix2 i d) + dhmPart x6 x8 x3 x7 i d := by
  pointwise [k0_pay7, k0_pay5]
  simp only [h9, h14, h24]; rfl

/-! ## Row tiles read back -/

section Rows

variable {sig : RefSig} {κ : Kind} {sp : Space} {W : ℕ} {e : EltTy} {Val : EltTy → Type}

/-- The row `512 k + a`. -/
def rowOf (k : ℕ) (hk : k < 4) (a : Fin 512) : Fin 2048 := ⟨512 * k + a.val, by omega⟩

/-- Four tiles of 512 rows, whatever lies under them, read back as the rows they hold. -/
theorem read_rows (v : View sig κ sp (⟨2, ![2048, W]⟩ : Shape) e) (f : v.ty.Contents Val)
    (inb0 : ∀ a : Fin 2, (![0, 0] : Fin 2 → ℕ) a + (![512, W] : Fin 2 → ℕ) a ≤ (![2048, W] : Fin 2 → ℕ) a)
    (inb1 : ∀ a : Fin 2, (![512, 0] : Fin 2 → ℕ) a + (![512, W] : Fin 2 → ℕ) a ≤ (![2048, W] : Fin 2 → ℕ) a)
    (inb2 : ∀ a : Fin 2, (![1024, 0] : Fin 2 → ℕ) a + (![512, W] : Fin 2 → ℕ) a ≤ (![2048, W] : Fin 2 → ℕ) a)
    (inb3 : ∀ a : Fin 2, (![1536, 0] : Fin 2 → ℕ) a + (![512, W] : Fin 2 → ℕ) a ≤ (![2048, W] : Fin 2 → ℕ) a)
    (w0 w1 w2 w3 : (⟨2, ![512, W]⟩ : Shape).Idx → Val e) (L : List (View.Piece Val (⟨2, ![2048, W]⟩ : Shape) e))
    (G : Fin 2048 → Fin W → Val e)
    (h0 : ∀ a d, w0 (ix2 a d) = G (rowOf 0 (by omega) a) d) (h1 : ∀ a d, w1 (ix2 a d) = G (rowOf 1 (by omega) a) d)
    (h2 : ∀ a d, w2 (ix2 a d) = G (rowOf 2 (by omega) a) d) (h3 : ∀ a d, w3 (ix2 a d) = G (rowOf 3 (by omega) a) d)
    (i : Fin 2048) (d : Fin W) :
    v.read Val (v.writes Val f (⟨Rect.unit (s := ⟨2, ![2048, W]⟩) ![1536, 0] ![512, W] inb3, w3⟩
      :: ⟨Rect.unit (s := ⟨2, ![2048, W]⟩) ![1024, 0] ![512, W] inb2, w2⟩
      :: ⟨Rect.unit (s := ⟨2, ![2048, W]⟩) ![512, 0] ![512, W] inb1, w1⟩
      :: ⟨Rect.unit (s := ⟨2, ![2048, W]⟩) ![0, 0] ![512, W] inb0, w0⟩ :: L)) (ix2 i d) = G i d := by
  have hi := i.isLt
  by_cases c3 : 1536 ≤ i.val
  · rw [View.read_writes_cons_rows_of_mem v f inb3 w3 _ (ix2 i d) (ix2 (⟨i.val - 1536, by omega⟩ : Fin 512) d) rfl
      (by show i.val = 1536 + (i.val - 1536); omega) rfl]
    exact (h3 _ _).trans (congrArg (G · d) (Fin.ext (by show 512 * 3 + (i.val - 1536) = i.val; omega)))
  rw [View.read_writes_cons_rows_of_not_mem v f inb3 w3 _ (ix2 i d) (W := 512) rfl rfl (Or.inl (by show i.val < 1536; omega))]
  by_cases c2 : 1024 ≤ i.val
  · rw [View.read_writes_cons_rows_of_mem v f inb2 w2 _ (ix2 i d) (ix2 (⟨i.val - 1024, by omega⟩ : Fin 512) d) rfl
      (by show i.val = 1024 + (i.val - 1024); omega) rfl]
    exact (h2 _ _).trans (congrArg (G · d) (Fin.ext (by show 512 * 2 + (i.val - 1024) = i.val; omega)))
  rw [View.read_writes_cons_rows_of_not_mem v f inb2 w2 _ (ix2 i d) (W := 512) rfl rfl (Or.inl (by show i.val < 1024; omega))]
  by_cases c1 : 512 ≤ i.val
  · rw [View.read_writes_cons_rows_of_mem v f inb1 w1 _ (ix2 i d) (ix2 (⟨i.val - 512, by omega⟩ : Fin 512) d) rfl
      (by show i.val = 512 + (i.val - 512); omega) rfl]
    exact (h1 _ _).trans (congrArg (G · d) (Fin.ext (by show 512 * 1 + (i.val - 512) = i.val; omega)))
  rw [View.read_writes_cons_rows_of_not_mem v f inb1 w1 _ (ix2 i d) (W := 512) rfl rfl (Or.inl (by show i.val < 512; omega))]
  rw [View.read_writes_cons_rows_of_mem v f inb0 w0 _ (ix2 i d) (ix2 (⟨i.val, by omega⟩ : Fin 512) d) rfl
    (by show i.val = 0 + i.val; omega) rfl]
  exact (h0 _ _).trans (congrArg (G · d) (Fin.ext (by show 512 * 0 + i.val = i.val; omega)))

/-- A whole buffer stored once reads back as what was stored. -/
theorem read_whole {S : Shape} (v : View sig κ sp S e) (f : v.ty.Contents Val) {off : Fin S.rank → ℕ} (hoff : off = fun _ => 0)
    (inb : ∀ a, off a + S.size a ≤ S.size a) (w : S.Idx → Val e) (L : List (View.Piece Val S e)) :
    v.read Val (v.writes Val f (⟨Rect.unit off S.size inb, w⟩ :: L)) = w :=
  funext fun y => View.read_writes_cons_unit_of_mem v f inb w L y y hoff fun a => (Nat.zero_add _).symm

/-- A load of the whole of a buffer that holds `X` reads `X`. -/
theorem readAt_whole {S : Shape} {M : Memref sig κ sp S e} (h : M.IsWhole) (X : S.Idx → Val e) {off : Fin S.rank → ℕ}
    (hoff : off = fun _ => 0) (inb : ∀ a, off a + S.size a ≤ S.size a) :
    View.readAt Val M.view (Rect.unit off S.size inb).toLoadRect (h.unread X) = X := by
  subst hoff
  refine funext fun x => (h.readAt_unread X _ x).trans (congrArg X (funext fun a => Fin.ext ?_))
  show 0 + 1 * (x a).val = (x a).val
  omega

/-- A load of 512 whole rows from row `512 k` of a buffer that holds `X`. -/
theorem readAt_rows {M : Memref sig κ sp (⟨2, ![2048, W]⟩ : Shape) e} (h : M.IsWhole) (X : (⟨2, ![2048, W]⟩ : Shape).Idx → Val e)
    (k : ℕ) (hk : k < 4) {off : Fin 2 → ℕ} (hoff : off = ![512 * k, 0])
    (inb : ∀ a : Fin 2, off a + (![512, W] : Fin 2 → ℕ) a ≤ (![2048, W] : Fin 2 → ℕ) a) (a : Fin 512) (d : Fin W) :
    View.readAt Val M.view (Rect.unit (s := ⟨2, ![2048, W]⟩) off ![512, W] inb).toLoadRect (h.unread X) (ix2 a d)
      = X (ix2 (rowOf k hk a) d) := by
  subst hoff
  refine (h.readAt_unread X _ _).trans (congrArg X (funext fun b => Fin.ext ?_))
  match b with
  | ⟨0, _⟩ => show 512 * k + 1 * a.val = 512 * k + a.val; omega
  | ⟨1, _⟩ => show 0 + 1 * d.val = d.val; omega

/-- A load of 512 whole rows from row `512 k` after stores of other rows onto a buffer wholly stored. -/
theorem readCov_rows [∀ e, Nonempty (Val e)] (v : View sig κ sp (⟨2, ![2048, W]⟩ : Shape) e) (L : List (View.Piece Val (⟨2, ![2048, W]⟩ : Shape) e))
    (k : ℕ) (hk : k < 4) {off : Fin 2 → ℕ} (hoff : off = ![512 * k, 0])
    (inb : ∀ a : Fin 2, off a + (![512, W] : Fin 2 → ℕ) a ≤ (![2048, W] : Fin 2 → ℕ) a) (a : Fin 512) (d : Fin W) :
    v.readCov L (Rect.unit (s := ⟨2, ![2048, W]⟩) off ![512, W] inb).toLoadRect (ix2 a d)
      = v.read Val (v.writes Val v.junk L) (ix2 (rowOf k hk a) d) := by
  subst hoff
  refine congrArg (v.read Val (v.writes Val v.junk L)) (funext fun b => Fin.ext ?_)
  match b with
  | ⟨0, _⟩ => show 512 * k + 1 * a.val = 512 * k + a.val; omega
  | ⟨1, _⟩ => show 0 + 1 * d.val = d.val; omega

/-- A load of the whole of a buffer after stores. -/
theorem readCov_whole [∀ e, Nonempty (Val e)] {S : Shape} (v : View sig κ sp S e) (L : List (View.Piece Val S e)) {off : Fin S.rank → ℕ}
    (hoff : off = fun _ => 0) (inb : ∀ a, off a + S.size a ≤ S.size a) :
    v.readCov L (Rect.unit off S.size inb).toLoadRect = v.read Val (v.writes Val v.junk L) := by
  subst hoff
  refine funext fun x => congrArg (v.read Val (v.writes Val v.junk L)) (funext fun a => Fin.ext ?_)
  show 0 + 1 * (x a).val = (x a).val
  omega

/-- A row below a tile of 512 whole rows is not in it. -/
theorem read_skip (v : View sig κ sp (⟨2, ![2048, W]⟩ : Shape) e) (f : v.ty.Contents Val) {o : ℕ}
    (inb : ∀ a : Fin 2, (![o, 0] : Fin 2 → ℕ) a + (![512, W] : Fin 2 → ℕ) a ≤ (![2048, W] : Fin 2 → ℕ) a)
    (w : (⟨2, ![512, W]⟩ : Shape).Idx → Val e) (L : List (View.Piece Val (⟨2, ![2048, W]⟩ : Shape) e))
    (i : Fin 2048) (d : Fin W) (h : o + 512 ≤ i.val) :
    v.read Val (v.writes Val f (⟨Rect.unit (s := ⟨2, ![2048, W]⟩) ![o, 0] ![512, W] inb, w⟩ :: L)) (ix2 i d)
      = v.read Val (v.writes Val f L) (ix2 i d) :=
  View.read_writes_cons_rows_of_not_mem v f inb w L (ix2 i d) (W := 512) rfl rfl (Or.inr h)

end Rows

/-- A row tile of a block point's hidden gradient. -/
theorem tile_dz {M6 : Memref sig .tc .vmem S2048x1024 .bf16} (h6 : M6.IsWhole) {M3 : Memref sig .tc .vmem S2048x512 .bf16} (h3 : M3.IsWhole)
    (x6 : Vec Ideal S2048x1024 .bf16) (x8 : Vec Ideal S1x512x1024 .bf16) (x3 : Vec Ideal S2048x512 .bf16)
    (k : ℕ) (hk : k < 4) {off : Fin 2 → ℕ} (hoff : off = ![512 * k, 0])
    (inb6 : ∀ a : Fin 2, off a + S512x1024.size a ≤ S2048x1024.size a) (inb3 : ∀ a : Fin 2, off a + S512x512.size a ≤ S2048x512.size a)
    (a : Fin 512) (f : Fin 512) :
    k0_pay6 (View.readAt (Elt Ideal) M6.view (Rect.unit (s := S2048x1024) off S512x1024.size inb6).toLoadRect (h6.unread x6)) x8
        (View.readAt (Elt Ideal) M3.view (Rect.unit (s := S2048x512) off S512x512.size inb3).toLoadRect (h3.unread x3)) (ix2 a f)
      = dz x6 x8 x3 (rowOf k hk a) f :=
  pay6_rows _ _ x6 x8 x3 _ a (readAt_rows h6 x6 k hk hoff inb6 a) (readAt_rows h3 x3 k hk hoff inb3 a) f

/-- A row tile of the gradient at the normed rows, from what the running gradient `y` held there. -/
theorem tile_dhm {M6 : Memref sig .tc .vmem S2048x1024 .bf16} (h6 : M6.IsWhole) {M3 : Memref sig .tc .vmem S2048x512 .bf16} (h3 : M3.IsWhole)
    (x6 : Vec Ideal S2048x1024 .bf16) (x8 : Vec Ideal S1x512x1024 .bf16) (x3 : Vec Ideal S2048x512 .bf16) (x7 : Vec Ideal S1x1024x512 .bf16)
    (k : ℕ) (hk : k < 4) {off : Fin 2 → ℕ} (hoff : off = ![512 * k, 0])
    (inb6 : ∀ a : Fin 2, off a + S512x1024.size a ≤ S2048x1024.size a) (inb3 : ∀ a : Fin 2, off a + S512x512.size a ≤ S2048x512.size a)
    (v24 : Vec Ideal S512x1024 .f32) (y : Vec Ideal S2048x1024 .f32) (a : Fin 512)
    (hy : ∀ d, v24 (ix2 a d) = y (ix2 (rowOf k hk a) d)) (d : Fin 1024) :
    k0_pay7 (View.readAt (Elt Ideal) M6.view (Rect.unit (s := S2048x1024) off S512x1024.size inb6).toLoadRect (h6.unread x6)) x8
        (View.readAt (Elt Ideal) M3.view (Rect.unit (s := S2048x512) off S512x512.size inb3).toLoadRect (h3.unread x3)) v24 x7 (ix2 a d)
      = y (ix2 (rowOf k hk a) d) + dhmPart x6 x8 x3 x7 (rowOf k hk a) d :=
  pay7_rows _ _ _ x6 x8 x3 x7 y _ a (readAt_rows h6 x6 k hk hoff inb6 a) (readAt_rows h3 x3 k hk hoff inb3 a) hy d

/-! ## The blocks a point is handed -/

abbrev hT (c : Dev nD) (t : Fin cfg0.N) : Vec Ideal S512x1024 .f32 := iblk m c 0 t
abbrev hmB (c : Dev nD) (t : Fin cfg0.N) : Vec Ideal S2048x1024 .bf16 := iblk m c 1 t
abbrev rB (c : Dev nD) (t : Fin cfg0.N) : Vec Ideal S2048x512 .bf16 := iblk m c 2 t
abbrev gB (c : Dev nD) (t : Fin cfg0.N) : Vec Ideal S1x1024 .f32 := iblk m c 3 t
abbrev doT (c : Dev nD) (t : Fin cfg0.N) : Vec Ideal S512x1024 .f32 := iblk m c 4 t
abbrev doB (c : Dev nD) (t : Fin cfg0.N) : Vec Ideal S2048x1024 .bf16 := iblk m c 5 t
abbrev wiB (c : Dev nD) (t : Fin cfg0.N) : Vec Ideal S1x1024x512 .bf16 := iblk m c 6 t
abbrev woB (c : Dev nD) (t : Fin cfg0.N) : Vec Ideal S1x512x1024 .bf16 := iblk m c 7 t

/-! ## A block point -/

theorem block_dwo (c : Dev nD) (t : Fin cfg0.N) (h : t.val ≠ 0) (h8 : t.val < 8) (y : Vec Ideal S2048x1024 .f32) (f : Fin 512) (d : Fin 1024) :
    back (ms0_10 t) (blockRun m c t h h8 y).1.2.1 (ix3 0 f d)
      = ∑ i : Fin 2048, rB m c t (ix2 i f) * rB m c t (ix2 i f) * doB m c t (ix2 i d) := by
  unfold blockRun runBlock back
  dsimp only
  rw [read_whole _ _ (by decide)]
  unfold runBlock.sl.r_3
  pointwise [k0_pay2, k0_pay19, Memref.IsWhole.readAt_unread]

theorem block_dwi (c : Dev nD) (t : Fin cfg0.N) (h : t.val ≠ 0) (h8 : t.val < 8) (y : Vec Ideal S2048x1024 .f32) (d : Fin 1024) (f : Fin 512) :
    back (ms0_9 t) (blockRun m c t h h8 y).1.1 (ix3 0 d f)
      = ∑ i : Fin 2048, hmB m c t (ix2 i d) * dz (doB m c t) (woB m c t) (rB m c t) i f := by
  unfold blockRun runBlock back
  dsimp only
  rw [read_whole _ _ (by decide)]
  unfold runBlock.sl.v113
  pointwise [k0_pay3, Memref.IsWhole.readAt_unread]
  refine Finset.sum_congr rfl fun i _ => congrArg (hmB m c t (ix2 i d) * ·) ?_
  unfold runBlock.sl.H14_4 runBlock.sl.r runBlock.sl.r_1
  rw [pay5_eq₁, pay5_eq₂, pay5_eq₃, readAt_whole (hs0_7 t) _ (by decide)]
  refine (congrFun (readCov_whole scDz.view _ (by decide) _) (ix2 i f)).trans ?_
  refine read_rows (Val := Elt Ideal) scDz.view scDz.view.junk inb_S2048x512_S512x512_0_0 inb_S2048x512_S512x512_512_0
    inb_S2048x512_S512x512_1024_0 inb_S2048x512_S512x512_1536_0 _ _ _ _ []
    (dz (doB m c t) (woB m c t) (rB m c t)) ?_ ?_ ?_ ?_ i f
  · exact tile_dz (hs0_5 t) (hs0_2 t) _ _ _ 0 (by omega) rfl _ _
  · exact tile_dz (hs0_5 t) (hs0_2 t) _ _ _ 1 (by omega) rfl _ _
  · exact tile_dz (hs0_5 t) (hs0_2 t) _ _ _ 2 (by omega) rfl _ _
  · exact tile_dz (hs0_5 t) (hs0_2 t) _ _ _ 3 (by omega) rfl _ _

theorem block_dhm (c : Dev nD) (t : Fin cfg0.N) (h : t.val ≠ 0) (h8 : t.val < 8) (y : Vec Ideal S2048x1024 .f32) (i : Fin 2048) (d : Fin 1024) :
    back scDhm (blockRun m c t h h8 y).1.2.2 (ix2 i d)
      = y (ix2 i d) + dhmPart (doB m c t) (woB m c t) (rB m c t) (wiB m c t) i d := by
  unfold blockRun runBlock back
  dsimp only
  refine read_rows (Val := Elt Ideal) scDhm.view scDhm.view.junk inb_S2048x1024_S512x1024_0_0 inb_S2048x1024_S512x1024_512_0
    inb_S2048x1024_S512x1024_1024_0 inb_S2048x1024_S512x1024_1536_0 _ _ _ _ []
    (fun i d => y (ix2 i d) + dhmPart (doB m c t) (woB m c t) (rB m c t) (wiB m c t) i d) ?_ ?_ ?_ ?_ i d
  all_goals
    intro a d
    try unfold runBlock.sl.r_2
    try unfold runBlock.sl.r runBlock.sl.r_1
    try rw [pay7_eq₁]
    try rw [pay7_eq₂]
    try rw [pay7_eq₃]
    rw [readAt_whole (hs0_7 t) _ (by decide), readAt_whole (hs0_6 t) _ (by decide)]
  · exact tile_dhm (hs0_5 t) (hs0_2 t) _ _ _ _ 0 _ rfl _ _ _ y a
      (readAt_rows (M := scDhm) (Memref.isWhole_whole cc0_scratch0) y 0 _ rfl _ a) d
  · unfold runBlock.sl.v47
    exact tile_dhm (hs0_5 t) (hs0_2 t) _ _ _ _ 1 _ rfl _ _ _ y a
      (readAt_rows (M := scDhm) (Memref.isWhole_whole cc0_scratch0) y 1 _ rfl _ a) d
  · unfold runBlock.sl.v70
    exact tile_dhm (hs0_5 t) (hs0_2 t) _ _ _ _ 2 _ rfl _ _ _ y a
      (readAt_rows (M := scDhm) (Memref.isWhole_whole cc0_scratch0) y 2 _ rfl _ a) d
  · unfold runBlock.sl.v93
    exact tile_dhm (hs0_5 t) (hs0_2 t) _ _ _ _ 3 _ rfl _ _ _ y a
      (readAt_rows (M := scDhm) (Memref.isWhole_whole cc0_scratch0) y 3 _ rfl _ a) d

/-! ## The first point -/

theorem first_dwo (c : Dev nD) (t : Fin cfg0.N) (h : t.val = 0) (f : Fin 512) (d : Fin 1024) :
    back (ms0_10 t) (firstRun m c t h).1.2.1 (ix3 0 f d)
      = ∑ i : Fin 2048, rB m c t (ix2 i f) * rB m c t (ix2 i f) * doB m c t (ix2 i d) := by
  unfold firstRun runFirst back
  dsimp only
  rw [read_whole _ _ (by decide)]
  unfold runFirst.sl.r_3
  pointwise [k0_pay2, k0_pay19, Memref.IsWhole.readAt_unread]

theorem first_dwi (c : Dev nD) (t : Fin cfg0.N) (h : t.val = 0) (d : Fin 1024) (f : Fin 512) :
    back (ms0_9 t) (firstRun m c t h).1.1 (ix3 0 d f)
      = ∑ i : Fin 2048, hmB m c t (ix2 i d) * dz (doB m c t) (woB m c t) (rB m c t) i f := by
  unfold firstRun runFirst back
  dsimp only
  rw [read_whole _ _ (by decide)]
  unfold runFirst.sl.v113
  pointwise [k0_pay3, Memref.IsWhole.readAt_unread]
  refine Finset.sum_congr rfl fun i _ => congrArg (hmB m c t (ix2 i d) * ·) ?_
  unfold runFirst.sl.H14_4 runFirst.sl.r runFirst.sl.r_1
  rw [pay5_eq₁, pay5_eq₂, pay5_eq₃, readAt_whole (hs0_7 t) _ (by decide)]
  refine (congrFun (readCov_whole scDz.view _ (by decide) _) (ix2 i f)).trans ?_
  refine read_rows (Val := Elt Ideal) scDz.view scDz.view.junk inb_S2048x512_S512x512_0_0 inb_S2048x512_S512x512_512_0
    inb_S2048x512_S512x512_1024_0 inb_S2048x512_S512x512_1536_0 _ _ _ _ []
    (dz (doB m c t) (woB m c t) (rB m c t)) ?_ ?_ ?_ ?_ i f
  · exact tile_dz (hs0_5 t) (hs0_2 t) _ _ _ 0 (by omega) rfl _ _
  · exact tile_dz (hs0_5 t) (hs0_2 t) _ _ _ 1 (by omega) rfl _ _
  · exact tile_dz (hs0_5 t) (hs0_2 t) _ _ _ 2 (by omega) rfl _ _
  · exact tile_dz (hs0_5 t) (hs0_2 t) _ _ _ 3 (by omega) rfl _ _

theorem first_dhm (c : Dev nD) (t : Fin cfg0.N) (h : t.val = 0) (i : Fin 2048) (d : Fin 1024) :
    back scDhm (firstRun m c t h).1.2.2 (ix2 i d)
      = k0_pay1 (F := Ideal) (ix2 i d) + dhmPart (doB m c t) (woB m c t) (rB m c t) (wiB m c t) i d := by
  unfold firstRun runFirst back
  dsimp only
  unfold runFirst.sl.H13_4 runFirst.sl.H13_3 runFirst.sl.H13_2 runFirst.sl.H13_1
  refine read_rows (Val := Elt Ideal) scDhm.view scDhm.view.junk inb_S2048x1024_S512x1024_0_0 inb_S2048x1024_S512x1024_512_0
    inb_S2048x1024_S512x1024_1024_0 inb_S2048x1024_S512x1024_1536_0 _ _ _ _ _
    (fun i d => k0_pay1 (F := Ideal) (ix2 i d) + dhmPart (doB m c t) (woB m c t) (rB m c t) (wiB m c t) i d) ?_ ?_ ?_ ?_ i d
  all_goals
    intro a d
    try unfold runFirst.sl.r_2
    try unfold runFirst.sl.r runFirst.sl.r_1
    try rw [pay7_eq₁]
    try rw [pay7_eq₂]
    try rw [pay7_eq₃]
    rw [readAt_whole (hs0_7 t) _ (by decide), readAt_whole (hs0_6 t) _ (by decide)]
  · unfold runFirst.sl.v24
    exact tile_dhm (hs0_5 t) (hs0_2 t) _ _ _ _ 0 _ rfl _ _ _ (k0_pay1 (F := Ideal)) a (fun d =>
      (readCov_rows scDhm.view _ 0 _ rfl _ a d).trans
        (congrFun (read_whole (S := S2048x1024) scDhm.view _ (by decide) _ _ _) _)) d
  · unfold runFirst.sl.v47 runFirst.sl.H13_2 runFirst.sl.H13_1
    exact tile_dhm (hs0_5 t) (hs0_2 t) _ _ _ _ 1 _ rfl _ _ _ (k0_pay1 (F := Ideal)) a (fun d =>
      (readCov_rows scDhm.view _ 1 _ rfl _ a d).trans
      ((read_skip scDhm.view _ inb_S2048x1024_S512x1024_0_0 _ _ _ _ (by show _ ≤ 512 * 1 + a.val; omega)).trans
        (congrFun (read_whole (S := S2048x1024) scDhm.view _ (by decide) _ _ _) _))) d
  · unfold runFirst.sl.v70 runFirst.sl.H13_3 runFirst.sl.H13_2 runFirst.sl.H13_1
    exact tile_dhm (hs0_5 t) (hs0_2 t) _ _ _ _ 2 _ rfl _ _ _ (k0_pay1 (F := Ideal)) a (fun d =>
      (readCov_rows scDhm.view _ 2 _ rfl _ a d).trans
      ((read_skip scDhm.view _ inb_S2048x1024_S512x1024_512_0 _ _ _ _ (by show _ ≤ 512 * 2 + a.val; omega)).trans
      ((read_skip scDhm.view _ inb_S2048x1024_S512x1024_0_0 _ _ _ _ (by show _ ≤ 512 * 2 + a.val; omega)).trans
        (congrFun (read_whole (S := S2048x1024) scDhm.view _ (by decide) _ _ _) _)))) d
  · unfold runFirst.sl.v93 runFirst.sl.H13_4 runFirst.sl.H13_3 runFirst.sl.H13_2 runFirst.sl.H13_1
    exact tile_dhm (hs0_5 t) (hs0_2 t) _ _ _ _ 3 _ rfl _ _ _ (k0_pay1 (F := Ideal)) a (fun d =>
      (readCov_rows scDhm.view _ 3 _ rfl _ a d).trans
      ((read_skip scDhm.view _ inb_S2048x1024_S512x1024_1024_0 _ _ _ _ (by show _ ≤ 512 * 3 + a.val; omega)).trans
      ((read_skip scDhm.view _ inb_S2048x1024_S512x1024_512_0 _ _ _ _ (by show _ ≤ 512 * 3 + a.val; omega)).trans
      ((read_skip scDhm.view _ inb_S2048x1024_S512x1024_0_0 _ _ _ _ (by show _ ≤ 512 * 3 + a.val; omega)).trans
        (congrFun (read_whole (S := S2048x1024) scDhm.view _ (by decide) _ _ _) _))))) d

/-! ## A row tile -/

/-- The first row of a tile's rows. -/
theorem tile_off : ∀ t : Fin cfg0.N, 8 ≤ t.val → k0_off1 (grid0.coords t) = ![512 * (t.val - 8), 0] :=
  (by decide +kernel : ∀ t : Fin grid0.N, 8 ≤ t.val → k0_off1 (grid0.coords t) = ![512 * (t.val - 8), 0])

/-- The reciprocal root of a row's mean square. -/
def rstd (h : Fin 1024 → EReal) : EReal :=
  Ideal.rsqrt (Ideal.div (∑ d, h d * h d) (Ideal.ofBits FTy.f32 0x44800000#32) + Ideal.ofBits FTy.f32 0x3727C5AC#32)

/-- A row of the input gradient, from the row, the gains, the gradient at the normed row and the cotangent. -/
def dhRow (h g u o : Fin 1024 → EReal) (d : Fin 1024) : EReal :=
  o d + (rstd h * (u d * g d) - rstd h * rstd h * rstd h * h d
    * Ideal.div (∑ k, u k * g k * h k) (Ideal.ofBits FTy.f32 0x44800000#32))

theorem pay23_apply (h : Vec Ideal S512x1024 .f32) (g : Vec Ideal S1x1024 .f32) (u o : Vec Ideal S512x1024 .f32) (a : Fin 512) (d : Fin 1024) :
    k0_pay23 h g u o (ix2 a d) = dhRow (fun d => h (ix2 a d)) (fun d => g (ix2 0 d)) (fun d => u (ix2 a d)) (fun d => o (ix2 a d)) d := by
  pointwise [k0_pay23, k0_pay21]; rfl

/-- What a row tile adds to the norm gradient: its rows' column sums, in row 0. -/
def dgPart (h u : Fin 512 → Fin 1024 → EReal) (a : Fin 8) (d : Fin 1024) : EReal :=
  Scalar.select (IntOp.cmpi CmpIPredicate.eq (BitVec.ofNat 32 a.val) 0#32) (∑ x : Fin 512, u x d * h x d * rstd (h x)) 0

theorem pay4_apply (h u : Vec Ideal S512x1024 .f32) (y : Vec Ideal S8x1024 .f32) (a : Fin 8) (d : Fin 1024) :
    k0_pay4 (k0_pay22 h u) y (ix2 a d) = y (ix2 a d) + dgPart (fun x d => h (ix2 x d)) (fun x d => u (ix2 x d)) a d := by
  pointwise [k0_pay4, k0_pay22, k0_pay21]; rfl

theorem firstTile_dh (c : Dev nD) (t : Fin cfg0.N) (h : t.val = 8) (y : Outs Ideal) (hk : t.val - 8 < 4) (a : Fin 512) (d : Fin 1024) :
    back (ms0_8 t) (firstTileRun m c t h y).1.1 (ix2 a d)
      = dhRow (fun d => hT m c t (ix2 a d)) (fun d => gB m c t (ix2 0 d)) (fun d => y.dhm (ix2 (rowOf (t.val - 8) hk a) d))
          (fun d => doT m c t (ix2 a d)) d := by
  unfold firstTileRun runFirstTile back
  dsimp only
  rw [read_whole _ _ (by decide)]
  unfold runFirstTile.sl.r_1
  rw [readAt_whole (hs0_0 t) _ (by decide), readAt_whole (hs0_3 t) _ (by decide), readAt_whole (hs0_4 t) _ (by decide), pay23_apply]
  congr 1
  exact funext fun d => readAt_rows (M := scDhm) (Memref.isWhole_whole cc0_scratch0) y.dhm _ hk (tile_off t (by omega)) _ a d

theorem tile_dh (c : Dev nD) (t : Fin cfg0.N) (h : 8 < t.val) (y : Outs Ideal) (hk : t.val - 8 < 4) (a : Fin 512) (d : Fin 1024) :
    back (ms0_8 t) (tileRun m c t h y).1.1 (ix2 a d)
      = dhRow (fun d => hT m c t (ix2 a d)) (fun d => gB m c t (ix2 0 d)) (fun d => y.dhm (ix2 (rowOf (t.val - 8) hk a) d))
          (fun d => doT m c t (ix2 a d)) d := by
  unfold tileRun runTile back
  dsimp only
  rw [read_whole _ _ (by decide)]
  unfold runTile.sl.r_1
  rw [readAt_whole (hs0_0 t) _ (by decide), readAt_whole (hs0_3 t) _ (by decide), readAt_whole (hs0_4 t) _ (by decide), pay23_apply]
  congr 1
  exact funext fun d => readAt_rows (M := scDhm) (Memref.isWhole_whole cc0_scratch0) y.dhm _ hk (tile_off t (by omega)) _ a d

theorem firstTile_dg (c : Dev nD) (t : Fin cfg0.N) (h : t.val = 8) (y : Outs Ideal) (hk : t.val - 8 < 4) (a : Fin 8) (d : Fin 1024) :
    back (ms0_11 t) (firstTileRun m c t h y).1.2 (ix2 a d)
      = k0_pay20 (F := Ideal) (ix2 a d)
        + dgPart (fun x d => hT m c t (ix2 x d)) (fun x d => y.dhm (ix2 (rowOf (t.val - 8) hk x) d)) a d := by
  unfold firstTileRun runFirstTile back
  dsimp only
  rw [read_whole _ _ (by decide)]
  unfold runFirstTile.sl.r runFirstTile.sl.v50 runFirstTile.sl.H12_1
  rw [readAt_whole (hs0_0 t) _ (by decide), pay4_apply, readCov_whole _ _ (by decide), read_whole _ _ (by decide)]
  congr 2
  exact funext fun x => funext fun d => readAt_rows (M := scDhm) (Memref.isWhole_whole cc0_scratch0) y.dhm _ hk (tile_off t (by omega)) _ x d

theorem tile_dg (c : Dev nD) (t : Fin cfg0.N) (h : 8 < t.val) (y : Outs Ideal) (hk : t.val - 8 < 4) (a : Fin 8) (d : Fin 1024) :
    back (ms0_11 t) (tileRun m c t h y).1.2 (ix2 a d)
      = y.dg (ix2 a d)
        + dgPart (fun x d => hT m c t (ix2 x d)) (fun x d => y.dhm (ix2 (rowOf (t.val - 8) hk x) d)) a d := by
  unfold tileRun runTile back
  dsimp only
  rw [read_whole _ _ (by decide)]
  unfold runTile.sl.r
  rw [readAt_whole (hs0_0 t) _ (by decide), pay4_apply, readAt_whole (hs0_11 t) _ (by decide)]
  congr 2
  exact funext fun x => funext fun d => readAt_rows (M := scDhm) (Memref.isWhole_whole cc0_scratch0) y.dhm _ hk (tile_off t (by omega)) _ x d

end Cert.MlpIdeal.Hand

end
-- ==== Proof.MlpSpec.lean ====
/- The backward pass of the channel mixer as one formula for each entry of each gradient, over the extended reals: the
   common value that both programs are read as. -/
module

public import proofs.«01_k».proof.Proof.MlpPieces
public import Idealize.ShloMosaic.Lib.Pipeline.ValueKit

@[expose] public section

noncomputable section

namespace Cert.MlpIdeal.Hand

open Idealize.ShloMosaic

/-- The five arrays of the call: the stream, the gains, the cotangent and the two weights. -/
structure Args where
  h : Fin 2048 → Fin 1024 → EReal
  g : Fin 1024 → EReal
  o : Fin 2048 → Fin 1024 → EReal
  wi : Fin 1024 → Fin 4096 → EReal
  wo : Fin 4096 → Fin 1024 → EReal

namespace Args

variable (A : Args)

/-- The normed rows. -/
def hm (i : Fin 2048) (d : Fin 1024) : EReal := A.h i d * rstd (A.h i) * A.g d

/-- The hidden rows before the cut at zero, and after. -/
def pre (i : Fin 2048) (f : Fin 4096) : EReal := ∑ d, A.hm i d * A.wi d f
def r (i : Fin 2048) (f : Fin 4096) : EReal := max (A.pre i f) 0

/-- The gradient at the hidden rows before the cut. -/
def dz (i : Fin 2048) (f : Fin 4096) : EReal :=
  (∑ d, A.o i d * A.wo f d) * (Ideal.ofBits FTy.f32 0x40000000#32 * A.r i f)

/-- The gradient at the normed rows. -/
def dhm (i : Fin 2048) (d : Fin 1024) : EReal := ∑ f, A.dz i f * A.wi d f

/-- The four gradients. -/
def dh (i : Fin 2048) (d : Fin 1024) : EReal := dhRow (A.h i) A.g (A.dhm i) (A.o i) d
def dwi (d : Fin 1024) (f : Fin 4096) : EReal := ∑ i, A.hm i d * A.dz i f
def dwo (f : Fin 4096) (d : Fin 1024) : EReal := ∑ i, A.r i f * A.r i f * A.o i d
def dg (d : Fin 1024) : EReal := ∑ i, A.dhm i d * A.h i d * rstd (A.h i)

end Args

/-- Column `f` of block `s` of the hidden axis. -/
def colOf (s : ℕ) (hs : s < 8) (f : Fin 512) : Fin 4096 := ⟨s * 512 + f.val, by omega⟩

/-- The share of block `s` of the hidden axis in the gradient at the normed rows. -/
def Args.part (A : Args) (i : Fin 2048) (d : Fin 1024) (s : ℕ) : EReal :=
  if hs : s < 8 then ∑ f : Fin 512, A.dz i (colOf s hs f) * A.wi d (colOf s hs f) else 0

theorem Args.sum_part (A : Args) (i : Fin 2048) (d : Fin 1024) : ∑ s ∈ Finset.range 8, A.part i d s = A.dhm i d := by
  unfold Args.dhm
  rw [← Fin.sum_univ_eq_sum_range (A.part i d) 8, ← Fin.sum_mul_add_fin 8 512 (fun f => A.dz i f * A.wi d f)]
  exact Finset.sum_congr rfl fun s _ => dif_pos s.isLt

/-- The share of row tile `k` in the norm gradient. -/
def Args.rows (A : Args) (d : Fin 1024) (k : ℕ) : EReal :=
  if hk : k < 4 then ∑ x : Fin 512, A.dhm (rowOf k hk x) d * A.h (rowOf k hk x) d * rstd (A.h (rowOf k hk x)) else 0

theorem Args.sum_rows (A : Args) (d : Fin 1024) : ∑ k ∈ Finset.range 4, A.rows d k = A.dg d := by
  unfold Args.dg
  rw [← Fin.sum_univ_eq_sum_range (A.rows d) 4, ← Fin.sum_mul_add_fin 4 512 (fun i => A.dhm i d * A.h i d * rstd (A.h i))]
  refine Finset.sum_congr rfl fun k _ => (dif_pos k.isLt).trans (Finset.sum_congr rfl fun x _ => ?_)
  have e : rowOf k.val k.isLt x = ⟨k.val * 512 + x.val, by omega⟩ := Fin.ext (congrArg (· + x.val) (Nat.mul_comm 512 k.val))
  rw [e]

/-- The norm gradient stands in the first of eight rows. -/
def firstRow (a : Fin 8) (x : EReal) : EReal :=
  Scalar.select (IntOp.cmpi CmpIPredicate.eq (BitVec.ofNat 32 a.val) 0#32) x 0

theorem firstRow_eq (a : Fin 8) (x : EReal) : firstRow a x = if a.val < 1 then x else 0 := by
  fin_cases a <;> rfl

theorem firstRow_add (a : Fin 8) (x y : EReal) : firstRow a x + firstRow a y = firstRow a (x + y) := by
  unfold firstRow Scalar.select
  split
  · rfl
  · exact add_zero 0

end Cert.MlpIdeal.Hand
-- ==== Proof.MlpOuts.lean ====
/- The arrays the channel mixer's backward pass ends with: every entry is the formula of MlpSpec. -/
module

public import proofs.«01_k».proof.Proof.MlpSpec
public import Idealize.ShloMosaic.Lib.Claim
public import Idealize.ShloMosaic.Lib.StableHlo.ReadAt

@[expose] public section

set_option maxRecDepth 16384

noncomputable section

namespace Cert.MlpIdeal.Hand

open Cert.MlpIdeal.Gen
open Idealize.ShloMosaic Idealize.ShloMosaic.TcCoe Idealize.ShloMosaic.Tactic
open Idealize.ShloMosaic.Pipeline (Dat RDat Cfg Window cellOf)

variable (m : (ℓ : Loc nD τ sig) → Buf (Elt Ideal) ℓ)

/-- The call's arrays as a device's memory holds them. -/
def args (c : Dev nD) : Args where
  h i d := m ((c.tc : Thread nD τ).loc main_arg0) (ix2 i d)
  g d := m ((c.tc : Thread nD τ).loc main_arg1) (ix1 d)
  o i d := m ((c.tc : Thread nD τ).loc main_arg2) (ix2 i d)
  wi d f := m ((c.tc : Thread nD τ).loc main_arg3) (ix2 d f)
  wo f d := m ((c.tc : Thread nD τ).loc main_arg4) (ix2 f d)

/-! ## The operands at the region's entry -/

theorem entry_wi (c : Dev nD) (s : Fin 8) (d : Fin 1024) (f : Fin 512) :
    V m c main_v2 (ix3 s d f) = (args m c).wi d (colOf s.val s.isLt f) := by
  unfold V
  after_reads_at
  rfl

theorem entry_wo (c : Dev nD) (s : Fin 8) (f : Fin 512) (d : Fin 1024) :
    V m c main_v4 (ix3 s f d) = (args m c).wo (colOf s.val s.isLt f) d := by
  unfold V
  after_reads_at
  rfl

theorem entry_hm (c : Dev nD) (i : Fin 2048) (d : Fin 1024) : V m c main_v20 (ix2 i d) = (args m c).hm i d := by
  unfold V
  after_reads_at
  rfl

theorem entry_r (c : Dev nD) (i : Fin 2048) (f : Fin 4096) : V m c main_v21 (ix2 i f) = (args m c).r i f := by
  unfold V
  after_reads_at
  rfl

theorem entry_g (c : Dev nD) (d : Fin 1024) : V m c main_v22 (ix2 0 d) = (args m c).g d := by
  unfold V
  after_reads_at
  rfl

theorem entry_do (c : Dev nD) (i : Fin 2048) (d : Fin 1024) : V m c main_v23 (ix2 i d) = (args m c).o i d := by
  unfold V
  after_reads_at
  rfl

theorem entry_h (c : Dev nD) (i : Fin 2048) (d : Fin 1024) : V m c main_arg0 (ix2 i d) = (args m c).h i d := by
  rw [V_main_arg0]; rfl

theorem entry_dout (c : Dev nD) (i : Fin 2048) (d : Fin 1024) : V m c main_arg2 (ix2 i d) = (args m c).o i d := by
  rw [V_main_arg2]; rfl

/-! ## The blocks of the operands -/

theorem idx_all : ∀ t : Fin cfg0.N, win0_1.index t = ![0, 0] ∧ win0_3.index t = ![0, 0] ∧ win0_5.index t = ![0, 0]
    ∧ win0_11.index t = ![0, 0] := by decide +kernel
theorem idx_lo : ∀ t : Fin cfg0.N, t.val < 8 → win0_2.index t = ![0, t.val] ∧ win0_6.index t = ![t.val, 0, 0]
    ∧ win0_7.index t = ![t.val, 0, 0] := by decide +kernel
theorem idx_hi : ∀ t : Fin cfg0.N, 8 ≤ t.val → win0_0.index t = ![t.val - 8, 0] ∧ win0_4.index t = ![t.val - 8, 0]
    ∧ win0_8.index t = ![t.val - 8, 0] := by decide +kernel
theorem idx_out : ∀ t : Fin cfg0.N, win0_9.index t = ![min t.val 7, 0, 0] ∧ win0_10.index t = ![min t.val 7, 0, 0] := by decide +kernel

theorem pt_lt (t : Fin cfg0.N) : t.val - 8 < 4 := by
  have := t.isLt
  have : cfg0.N = 12 := rfl
  omega

theorem hmB_at (c : Dev nD) (t : Fin cfg0.N) (i : Fin 2048) (d : Fin 1024) : hmB m c t (ix2 i d) = (args m c).hm i d := by
  rw [← entry_hm]; unfold hmB; blk_ext [iblk, idx_all t]

theorem doB_at (c : Dev nD) (t : Fin cfg0.N) (i : Fin 2048) (d : Fin 1024) : doB m c t (ix2 i d) = (args m c).o i d := by
  rw [← entry_do]; unfold doB; blk_ext [iblk, idx_all t]

theorem gB_at (c : Dev nD) (t : Fin cfg0.N) (d : Fin 1024) : gB m c t (ix2 0 d) = (args m c).g d := by
  rw [← entry_g]; unfold gB; blk_ext [iblk, idx_all t]

theorem rB_at (c : Dev nD) (t : Fin cfg0.N) (ht : t.val < 8) (i : Fin 2048) (f : Fin 512) :
    rB m c t (ix2 i f) = (args m c).r i (colOf t.val ht f) := by
  rw [← entry_r]; unfold rB colOf; blk_ext [iblk, idx_lo t ht]

theorem wiB_at (c : Dev nD) (t : Fin cfg0.N) (ht : t.val < 8) (d : Fin 1024) (f : Fin 512) :
    wiB m c t (ix3 0 d f) = (args m c).wi d (colOf t.val ht f) := by
  rw [← entry_wi m c ⟨t.val, ht⟩]; unfold wiB; blk_ext [iblk, idx_lo t ht]

theorem woB_at (c : Dev nD) (t : Fin cfg0.N) (ht : t.val < 8) (f : Fin 512) (d : Fin 1024) :
    woB m c t (ix3 0 f d) = (args m c).wo (colOf t.val ht f) d := by
  rw [← entry_wo m c ⟨t.val, ht⟩]; unfold woB; blk_ext [iblk, idx_lo t ht]

theorem hT_at (c : Dev nD) (t : Fin cfg0.N) (ht : 8 ≤ t.val) (a : Fin 512) (d : Fin 1024) :
    hT m c t (ix2 a d) = (args m c).h (rowOf (t.val - 8) (pt_lt t) a) d := by
  rw [← entry_h]; unfold hT rowOf; blk_ext [iblk, idx_hi t ht]

theorem doT_at (c : Dev nD) (t : Fin cfg0.N) (ht : 8 ≤ t.val) (a : Fin 512) (d : Fin 1024) :
    doT m c t (ix2 a d) = (args m c).o (rowOf (t.val - 8) (pt_lt t) a) d := by
  rw [← entry_dout]; unfold doT rowOf; blk_ext [iblk, idx_hi t ht]

/-! ## What a block point leaves -/

theorem dz_at (c : Dev nD) (t : Fin cfg0.N) (ht : t.val < 8) (i : Fin 2048) (f : Fin 512) :
    dz (doB m c t) (woB m c t) (rB m c t) i f = (args m c).dz i (colOf t.val ht f) := by
  unfold dz Args.dz
  simp only [doB_at, woB_at m c t ht, rB_at m c t ht]

theorem dhmPart_at (c : Dev nD) (t : Fin cfg0.N) (ht : t.val < 8) (i : Fin 2048) (d : Fin 1024) :
    dhmPart (doB m c t) (woB m c t) (rB m c t) (wiB m c t) i d = (args m c).part i d t.val := by
  unfold dhmPart Args.part
  rw [dif_pos ht]
  simp only [dz_at m c t ht, wiB_at m c t ht]

theorem outs_dwo (c : Dev nD) (t : Fin cfg0.N) (ht : t.val < 8) (f : Fin 512) (d : Fin 1024) :
    (outs m c t.val t.isLt).dwo (ix3 0 f d) = (args m c).dwo (colOf t.val ht f) d := by
  unfold Args.dwo
  by_cases h : t.val = 0
  · rw [outs_first m c t h]
    exact (first_dwo m c t h f d).trans (by simp only [rB_at m c t ht, doB_at])
  · rw [outs_block m c t h ht]
    exact (block_dwo m c t h ht _ f d).trans (by simp only [rB_at m c t ht, doB_at])

theorem outs_dwi (c : Dev nD) (t : Fin cfg0.N) (ht : t.val < 8) (d : Fin 1024) (f : Fin 512) :
    (outs m c t.val t.isLt).dwi (ix3 0 d f) = (args m c).dwi d (colOf t.val ht f) := by
  unfold Args.dwi
  by_cases h : t.val = 0
  · rw [outs_first m c t h]
    exact (first_dwi m c t h d f).trans (by simp only [hmB_at, dz_at m c t ht])
  · rw [outs_block m c t h ht]
    exact (block_dwi m c t h ht _ d f).trans (by simp only [hmB_at, dz_at m c t ht])

theorem outs_dhm_first (c : Dev nD) (t : Fin cfg0.N) (h : t.val = 0) (i : Fin 2048) (d : Fin 1024) :
    (outs m c t.val t.isLt).dhm (ix2 i d) = (args m c).part i d t.val := by
  rw [outs_first m c t h]
  unfold firstOut
  dsimp only
  rw [first_dhm m c t h i d, dhmPart_at m c t (by omega)]
  pointwise [k0_pay1]

theorem outs_dhm_block (c : Dev nD) (t : Fin cfg0.N) (h : t.val ≠ 0) (ht : t.val < 8) (i : Fin 2048) (d : Fin 1024) :
    (outs m c t.val t.isLt).dhm (ix2 i d) = (outs m c (t.val - 1) (by omega)).dhm (ix2 i d) + (args m c).part i d t.val := by
  rw [outs_block m c t h ht, show (blockOut m c t h ht (outs m c (t.val - 1) (by omega))).dhm
      = back scDhm (blockRun m c t h ht (outs m c (t.val - 1) (by omega)).dhm).1.2.2 from rfl, block_dhm m c t h ht _ i d,
    dhmPart_at m c t ht]

/-- The running gradient at the normed rows holds the blocks so far. -/
theorem outs_dhm_lo (c : Dev nD) (i : Fin 2048) (d : Fin 1024) : ∀ (n : ℕ) (hn : n < cfg0.N), n < 8 →
    (outs m c n hn).dhm (ix2 i d) = ∑ s ∈ Finset.range (n + 1), (args m c).part i d s
  | 0, hn, _ => (outs_dhm_first m c ⟨0, hn⟩ rfl i d).trans (Finset.sum_range_one _).symm
  | n + 1, hn, h8 => (outs_dhm_block m c ⟨n + 1, hn⟩ (Nat.succ_ne_zero n) h8 i d).trans
      ((congrArg (· + (args m c).part i d (n + 1)) (outs_dhm_lo c i d n (Nat.lt_of_succ_lt hn) (Nat.lt_of_succ_lt h8))).trans
        (Finset.sum_range_succ _ _).symm)

/-- The row tiles keep what the last block point left. -/
theorem outs_kept (c : Dev nD) : ∀ (n : ℕ) (hn : n < cfg0.N) (h7 : 7 ≤ n),
    (outs m c n hn).dhm = (outs m c 7 (by omega)).dhm ∧ (outs m c n hn).dwi = (outs m c 7 (by omega)).dwi
      ∧ (outs m c n hn).dwo = (outs m c 7 (by omega)).dwo
  | 0, _, h7 => absurd h7 (by omega)
  | n + 1, hn, h7 => by
    by_cases e : n = 6
    · subst e; exact ⟨rfl, rfl, rfl⟩
    have ih := outs_kept c n (by omega) (by omega)
    by_cases h : n = 7
    · rw [outs_firstTile m c ⟨n + 1, hn⟩ (by dsimp only; omega)]; exact ih
    · rw [outs_tile m c ⟨n + 1, hn⟩ (by dsimp only; omega)]; exact ih

theorem outs_dhm (c : Dev nD) (n : ℕ) (hn : n < cfg0.N) (h7 : 7 ≤ n) (i : Fin 2048) (d : Fin 1024) :
    (outs m c n hn).dhm (ix2 i d) = (args m c).dhm i d := by
  rw [(outs_kept m c n hn h7).1, outs_dhm_lo m c i d 7 _ (by omega), Args.sum_part]

/-! ## What a row tile leaves -/

theorem outs_dh (c : Dev nD) (t : Fin cfg0.N) (ht : 8 ≤ t.val) (a : Fin 512) (d : Fin 1024) :
    (outs m c t.val t.isLt).dh (ix2 a d) = (args m c).dh (rowOf (t.val - 8) (pt_lt t) a) d := by
  unfold Args.dh
  by_cases h : t.val = 8
  · rw [outs_firstTile m c t h]
    refine (firstTile_dh m c t h _ (pt_lt t) a d).trans ?_
    simp only [hT_at m c t ht, doT_at m c t ht, gB_at, outs_dhm m c (t.val - 1) (by omega) (by omega)]
  · rw [outs_tile m c t (by omega)]
    refine (tile_dh m c t (by omega) _ (pt_lt t) a d).trans ?_
    simp only [hT_at m c t ht, doT_at m c t ht, gB_at, outs_dhm m c (t.val - 1) (by omega) (by omega)]

theorem dgPart_at (c : Dev nD) (t : Fin cfg0.N) (ht : 8 ≤ t.val) (a : Fin 8) (d : Fin 1024) (y : Vec Ideal S2048x1024 .f32)
    (hy : ∀ i d, y (ix2 i d) = (args m c).dhm i d) :
    dgPart (fun x d => hT m c t (ix2 x d)) (fun x d => y (ix2 (rowOf (t.val - 8) (pt_lt t) x) d)) a d
      = firstRow a ((args m c).rows d (t.val - 8)) := by
  unfold dgPart Args.rows firstRow
  rw [dif_pos (pt_lt t)]
  simp only [hT_at m c t ht, hy]

theorem outs_dg_first (c : Dev nD) (t : Fin cfg0.N) (h : t.val = 8) (a : Fin 8) (d : Fin 1024) :
    (outs m c t.val t.isLt).dg (ix2 a d) = firstRow a ((args m c).rows d (t.val - 8)) := by
  rw [outs_firstTile m c t h]
  refine (firstTile_dg m c t h _ (pt_lt t) a d).trans ?_
  rw [dgPart_at m c t (by omega) a d _ (outs_dhm m c _ _ (by omega))]
  pointwise [k0_pay20]

theorem outs_dg_tile (c : Dev nD) (t : Fin cfg0.N) (h : 8 < t.val) (a : Fin 8) (d : Fin 1024) :
    (outs m c t.val t.isLt).dg (ix2 a d)
      = (outs m c (t.val - 1) (by omega)).dg (ix2 a d) + firstRow a ((args m c).rows d (t.val - 8)) := by
  rw [outs_tile m c t h]
  refine (tile_dg m c t h _ (pt_lt t) a d).trans ?_
  rw [dgPart_at m c t (by omega) a d _ (outs_dhm m c _ _ (by omega))]

/-- The running norm gradient holds the row tiles so far. -/
theorem outs_dg (c : Dev nD) (a : Fin 8) (d : Fin 1024) : ∀ (k n : ℕ) (hn : n < cfg0.N), n = k + 8 →
    (outs m c n hn).dg (ix2 a d) = firstRow a (∑ s ∈ Finset.range (k + 1), (args m c).rows d s)
  | 0, n, hn, e => by
    refine (outs_dg_first m c ⟨n, hn⟩ e a d).trans (congrArg (firstRow a) ?_)
    rw [Finset.sum_range_one]
    exact congrArg ((args m c).rows d) (by dsimp only; omega)
  | k + 1, n, hn, e => by
    refine (outs_dg_tile m c ⟨n, hn⟩ (by dsimp only; omega) a d).trans ?_
    rw [Finset.sum_range_succ, ← firstRow_add]
    refine congrArg₂ (· + ·) (outs_dg c a d k (n - 1) (by omega) (by omega)) (congrArg (fun s => firstRow a ((args m c).rows d s)) ?_)
    dsimp only
    omega

/-! ## The arrays -/

theorem arr_dh (c : Dev nD) : (dats m 0 c).arrAt 8 cfg0.N
    = (fun j : S2048x1024.Idx => (args m c).dh (j 0) (j 1) : Vec Ideal S2048x1024 .f32) := by
  refine (dats m 0 c).arrAt_eq_of_covers 8 _ (by decide +kernel) fun t hf y => ?_
  have ht := (flush_dh t).mp hf
  blk_simp
  rw [named_dh]
  refine (congrArg _ (ix2_eta (n0 := 512) (n1 := 1024) y).symm).trans ?_
  refine (outs_dh m c t ht (y 0) (y 1)).trans (congrArg₂ (args m c).dh (Fin.ext ?_) (Fin.ext ?_)) <;>
  · blk_simp [idx_hi t ht]
    try (show 512 * (t.val - 8) + (y 0).val = _; omega)

/-- What a point that writes a weight block back holds: its own block, or the last block point's. -/
theorem outs_dwi_flush (c : Dev nD) (t : Fin cfg0.N) (ht : t.val < 7 ∨ t.val = 11) (d : Fin 1024) (f : Fin 512) :
    (outs m c t.val t.isLt).dwi (ix3 0 d f) = (args m c).dwi d (colOf (min t.val 7) (by omega) f) := by
  rcases ht with ht | ht
  · rw [outs_dwi m c t (by omega)]
    congr 2
    omega
  · rw [(outs_kept m c t.val t.isLt (by omega)).2.1, outs_dwi m c ⟨7, by decide⟩ (by decide)]
    congr 2
    dsimp only
    omega

theorem outs_dwo_flush (c : Dev nD) (t : Fin cfg0.N) (ht : t.val < 7 ∨ t.val = 11) (f : Fin 512) (d : Fin 1024) :
    (outs m c t.val t.isLt).dwo (ix3 0 f d) = (args m c).dwo (colOf (min t.val 7) (by omega) f) d := by
  rcases ht with ht | ht
  · rw [outs_dwo m c t (by omega)]
    congr 2
    omega
  · rw [(outs_kept m c t.val t.isLt (by omega)).2.2, outs_dwo m c ⟨7, by decide⟩ (by decide)]
    congr 2
    dsimp only
    omega

/-- An entry of a block of one plane is named by its other two coordinates. -/
theorem plane_eta {n1 n2 : ℕ} (y : (⟨3, ![1, n1, n2]⟩ : Shape).Idx) : ix3 (0 : Fin 1) (y 1) (y 2) = y := by
  funext a
  match a with
  | ⟨0, _⟩ => exact Fin.ext (by have h : (y 0).val < 1 := (y 0).isLt; show 0 = (y 0).val; omega)
  | ⟨1, _⟩ => rfl
  | ⟨2, _⟩ => rfl

theorem arr_dwi (c : Dev nD) : (dats m 0 c).arrAt 9 cfg0.N
    = (fun j : S8x1024x512.Idx => (args m c).dwi (j 1) (colOf (j 0).val (j 0).isLt (j 2)) : Vec Ideal S8x1024x512 .bf16) := by
  refine (dats m 0 c).arrAt_eq_of_covers 9 _ (by decide +kernel) fun t hf y => ?_
  have ht := (flush_dwi t).mp hf
  blk_simp [idx_out t]
  rw [named_dwi]
  refine (congrArg _ (plane_eta (n1 := 1024) (n2 := 512) y).symm).trans ?_
  refine (outs_dwi_flush m c t ht (y 1) (y 2)).trans (congrArg₂ (args m c).dwi (Fin.ext ?_) (Fin.ext ?_))
  · blk_simp [idx_out t]
  · unfold colOf
    blk_simp [idx_out t]

theorem arr_dwo (c : Dev nD) : (dats m 0 c).arrAt 10 cfg0.N
    = (fun j : S8x512x1024.Idx => (args m c).dwo (colOf (j 0).val (j 0).isLt (j 1)) (j 2) : Vec Ideal S8x512x1024 .bf16) := by
  refine (dats m 0 c).arrAt_eq_of_covers 10 _ (by decide +kernel) fun t hf y => ?_
  have ht := (flush_dwo t).mp hf
  blk_simp [idx_out t]
  rw [named_dwo]
  refine (congrArg _ (plane_eta (n1 := 512) (n2 := 1024) y).symm).trans ?_
  refine (outs_dwo_flush m c t ht (y 1) (y 2)).trans (congrArg₂ (args m c).dwo (Fin.ext ?_) (Fin.ext ?_))
  · unfold colOf
    blk_simp [idx_out t]
  · blk_simp [idx_out t]

theorem outs_dg_last (c : Dev nD) (n : ℕ) (hn : n < cfg0.N) (e : n = 11) (a : Fin 8) (d : Fin 1024) :
    (outs m c n hn).dg (ix2 a d) = firstRow a ((args m c).dg d) := by
  rw [outs_dg m c a d 3 n hn e, Args.sum_rows]

theorem arr_dg (c : Dev nD) : (dats m 0 c).arrAt 11 cfg0.N
    = (fun j : S8x1024.Idx => firstRow (j 0) ((args m c).dg (j 1)) : Vec Ideal S8x1024 .f32) := by
  refine (dats m 0 c).arrAt_eq_of_covers 11 _ (by decide +kernel) fun t hf y => ?_
  have ht := (flush0_11 t).mp hf
  blk_simp
  rw [named_dg]
  refine (congrArg _ (ix2_eta (n0 := 8) (n1 := 1024) y).symm).trans ?_
  have hN : t.val < 12 := t.isLt
  refine (outs_dg_last m c t.val t.isLt (by omega) (y 0) (y 1)).trans ?_
  refine congrArg₂ (fun a d => firstRow a ((args m c).dg d)) (Fin.ext ?_) (Fin.ext ?_) <;>
  · blk_simp [idx_all t]

end Cert.MlpIdeal.Hand
-- ==== Proof.MlpAlgebra.lean ====
/- The reference's formulas for the channel mixer's gradients are those of MlpSpec, over the extended reals and for every
   input: the cut at zero written as a choice is the cut written as a maximum, and the derivative of the reciprocal root
   is taken through the mean square in the one and in closed form in the other. -/
module

public import proofs.«01_k».proof.Proof.MlpSpec

@[expose] public section

noncomputable section

namespace Cert.MlpIdeal.Hand

open Idealize.ShloMosaic

/-! ## The constants -/

theorem const_width : Ideal.ofBits FTy.f32 0x44800000#32 = ((1024 : ℝ) : EReal) := by
  simp [Ideal.ofBits, Ideal.ieee, -EReal.coe_mul]; norm_num

theorem const_minus_half : Ideal.ofBits FTy.f32 0xBF000000#32 = ((-(1 / 2) : ℝ) : EReal) := by
  simp [Ideal.ofBits, Ideal.ieee, -EReal.coe_mul, -EReal.coe_neg]; norm_num

theorem const_eps : Ideal.ofBits FTy.f32 0x3727C5AC#32 = ((10995116 * 2 ^ (-40 : ℤ) : ℝ) : EReal) := by
  simp [Ideal.ofBits, Ideal.ieee, -EReal.coe_mul]

/-! ## One row -/

/-- The mean square of a row, with the small constant. -/
def meanSq (h : Fin 1024 → EReal) : EReal :=
  Ideal.div (∑ d, h d * h d) (Ideal.ofBits FTy.f32 0x44800000#32) + Ideal.ofBits FTy.f32 0x3727C5AC#32

theorem div_width (x : EReal) : Ideal.div x (Ideal.ofBits FTy.f32 0x44800000#32) = x * ((1 / 1024 : ℝ) : EReal) := by
  rw [const_width]; exact Ideal.div_coe (by norm_num) x

theorem meanSq_pos (h : Fin 1024 → EReal) : 0 < meanSq h := by
  unfold meanSq
  rw [div_width, const_eps]
  have h0 : 0 ≤ ∑ d, h d * h d := Finset.sum_nonneg fun d _ => by
    rcases le_total 0 (h d) with hd | hd
    · exact mul_nonneg hd hd
    · exact EReal.mul_nonneg_iff.mpr (Or.inr ⟨hd, hd⟩)
  have h1 : 0 ≤ (∑ d, h d * h d) * ((1 / 1024 : ℝ) : EReal) :=
    mul_nonneg h0 (EReal.coe_nonneg.mpr (by norm_num))
  exact lt_of_lt_of_le (EReal.coe_pos.mpr (by positivity)) (le_add_of_nonneg_left h1)

/-- Two equal products by a real number that is not positive, added, are minus the product by its double's opposite. -/
theorem twice_neg (p : EReal) (k : ℝ) (hk : 0 < k) :
    p * ((-(k / 2) : ℝ) : EReal) + p * ((-(k / 2) : ℝ) : EReal) = -(p * (k : EReal)) := by
  induction p with
  | bot =>
    rw [EReal.bot_mul_coe_of_neg (by linarith), EReal.bot_mul_coe_of_pos hk]; rfl
  | top =>
    rw [EReal.top_mul_coe_of_neg (by linarith), EReal.top_mul_coe_of_pos hk]; rfl
  | coe x =>
    norm_cast
    ring

/-- What the reference adds twice to a row, once in each factor of the square. -/
def through (h g u : Fin 1024 → EReal) : EReal :=
  ∑ _ : Fin 1, Ideal.div ((∑ k, h k * (u k * g k))
    * (Ideal.ofBits FTy.f32 0xBF000000#32 * Ideal.div (rstd h) (meanSq h))) (Ideal.ofBits FTy.f32 0x44800000#32)

theorem row_eq (h g u o : Fin 1024 → EReal) (d : Fin 1024) :
    o d + u d * g d * rstd h + h d * through h g u + through h g u * h d = dhRow h g u o d := by
  have hS : ∑ k, u k * g k * h k = ∑ k, h k * (u k * g k) := Finset.sum_congr rfl fun k _ => mul_comm _ _
  have hr : rstd h = Ideal.rsqrt (meanSq h) := rfl
  have hp := meanSq_pos h
  unfold through dhRow
  rw [Fin.sum_univ_one, hS, div_width, div_width, hr]
  generalize (∑ k, h k * (u k * g k)) = S
  generalize meanSq h = v at hp
  induction v with
  | bot => exact absurd hp (by simp)
  | top =>
    simp [Ideal.div]
  | coe v =>
    have hv : 0 < v := EReal.coe_pos.mp hp
    have hk : Ideal.rsqrt (v : EReal) = (((Real.sqrt v)⁻¹ : ℝ) : EReal) := by
      rw [Ideal.rsqrt_coe, if_neg (not_lt.mpr hv.le), if_neg hv.ne']
    rw [hk, Ideal.div_coe hv.ne', const_minus_half]
    set k : ℝ := (Real.sqrt v)⁻¹ with hkd
    have hk0 : 0 < k := inv_pos.mpr (Real.sqrt_pos.mpr hv)
    have hkk : 1 / v = k * k := by
      rw [hkd, ← mul_inv, Real.mul_self_sqrt hv.le, one_div]
    have e1 : h d * (S * (((-(1 / 2) : ℝ) : EReal) * ((k : EReal) * ((1 / v : ℝ) : EReal))) * ((1 / 1024 : ℝ) : EReal))
        = h d * S * ((-((k * k * k / 1024) / 2) : ℝ) : EReal) := by
      rw [hkk, mul_assoc (h d) S, mul_assoc S]
      congr 2
      norm_cast
      ring
    have e2 : (k : EReal) * k * k * h d * (S * ((1 / 1024 : ℝ) : EReal)) = h d * S * ((k * k * k / 1024 : ℝ) : EReal) := by
      have : ((k * k * k / 1024 : ℝ) : EReal) = (k : EReal) * k * k * ((1 / 1024 : ℝ) : EReal) := by
        norm_cast; ring
      rw [this]
      ac_rfl
    rw [mul_comm _ (h d), e1, e2, add_assoc, twice_neg _ _ (by positivity), sub_eq_add_neg, add_assoc,
      mul_comm (u d * g d) (k : EReal)]

/-! ## The reference's formulas -/

namespace Args

variable (A : Args)

/-- The gradient at the hidden rows, the cut written as a choice. -/
def dzR (i : Fin 2048) (f : Fin 4096) : EReal :=
  if 0 < A.pre i f then (∑ d, A.o i d * A.wo f d) * (Ideal.ofBits FTy.f32 0x40000000#32 * A.r i f) else 0

theorem dzR_eq (i : Fin 2048) (f : Fin 4096) : A.dzR i f = A.dz i f := by
  unfold dzR dz
  split
  · rfl
  · rename_i h
    unfold r
    rw [max_eq_right (not_lt.mp h), mul_zero, mul_zero]

def dhmR (i : Fin 2048) (d : Fin 1024) : EReal := ∑ f, A.dzR i f * A.wi d f

theorem dhmR_eq (i : Fin 2048) (d : Fin 1024) : A.dhmR i d = A.dhm i d := by
  unfold dhmR dhm
  simp only [dzR_eq]

def dhR (i : Fin 2048) (d : Fin 1024) : EReal :=
  A.o i d + A.dhmR i d * A.g d * rstd (A.h i) + A.h i d * through (A.h i) A.g (A.dhmR i) + through (A.h i) A.g (A.dhmR i) * A.h i d

theorem dhR_eq (i : Fin 2048) (d : Fin 1024) : A.dhR i d = A.dh i d := by
  unfold dhR dh
  rw [row_eq, show A.dhmR i = A.dhm i from funext (A.dhmR_eq i)]

def dwiR (d : Fin 1024) (f : Fin 4096) : EReal := ∑ i, A.dzR i f * A.hm i d

theorem dwiR_eq (d : Fin 1024) (f : Fin 4096) : A.dwiR d f = A.dwi d f := by
  unfold dwiR dwi
  simp only [dzR_eq, mul_comm]

def dwoR (f : Fin 4096) (d : Fin 1024) : EReal := ∑ i, A.o i d * (A.r i f * A.r i f)

theorem dwoR_eq (f : Fin 4096) (d : Fin 1024) : A.dwoR f d = A.dwo f d :=
  Finset.sum_congr rfl fun _ _ => mul_comm _ _

def dgR (d : Fin 1024) : EReal := ∑ i, A.h i d * rstd (A.h i) * A.dhmR i d

theorem dgR_eq (d : Fin 1024) : A.dgR d = A.dg d := by
  unfold dgR dg
  refine Finset.sum_congr rfl fun i _ => ?_
  rw [dhmR_eq, mul_comm, mul_assoc]

end Args

end Cert.MlpIdeal.Hand
-- ==== Proof.MlpRef.lean ====
/- The reference of the channel mixer's backward pass, every entry of its results as the formula of MlpSpec. -/
module

public import proofs.«01_k».proof.Proof.Gen.MlpRefIdeal.Run
public import proofs.«01_k».proof.Proof.MlpAlgebra
public import Idealize.ShloMosaic.Lib.Pointwise
public import Idealize.ShloMosaic.Lib.Claim
public import Idealize.ShloMosaic.Lib.Tactic.CleanTypes

@[expose] public section

set_option maxRecDepth 16384

noncomputable section

namespace Cert.MlpRefIdeal.Hand

open Cert.MlpRefIdeal Cert.MlpRefIdeal.Value
open Idealize.ShloMosaic Idealize.ShloMosaic.TcCoe Idealize.ShloMosaic.Tactic
open Cert.MlpIdeal.Hand (Args colOf rstd through meanSq)
variable (m : (ℓ : Loc nD τ sig) → Buf (Elt Ideal) ℓ)

/-- The call's arrays as a device's memory holds them. -/
def args (c : Dev nD) : Args where
  h i d := m ((c.tc : Thread nD τ).loc main_arg0) (ix2 i d)
  g d := m ((c.tc : Thread nD τ).loc main_arg1) (ix1 d)
  o i d := m ((c.tc : Thread nD τ).loc main_arg2) (ix2 i d)
  wi d f := m ((c.tc : Thread nD τ).loc main_arg3) (ix2 d f)
  wo f d := m ((c.tc : Thread nD τ).loc main_arg4) (ix2 f d)

theorem dh_at (c : Dev nD) (i : Fin 2048) (d : Fin 1024) : res_main_v56 m c (ix2 i d) = (args m c).dhR i d := by
  unfold res_main_v56
  clean_types
  pointwise
  simp only [Args.dhR, through, meanSq, Args.dhmR, Args.dzR, Args.r, Args.pre, Args.hm, rstd, args]
  rfl

theorem dg_rows (X : Vec Ideal S2048x1024 .f32) (a : Fin 8) (d : Fin 1024) :
    (concatenate S8x1024 0 [⟨S1x1024, (shapeCast _ (Host.reduceAdd (shapeCast S1x1024 (Host.reduceAdd X (constant (F := Ideal) S_ .f32 0x00000000#32) Gen.reducesTo_S2048x1024_S1024_d0 Gen.h_S_)
          Gen.shapeCasts_S1024_S1x1024) (constant S_ .f32 0x00000000#32) Gen.reducesTo_S1x1024_S1024_d0 Gen.h_S_) Gen.shapeCasts_S1024_S1x1024)⟩,
        ⟨S7x1024, broadcastInDim S7x1024 ![] Gen.bcast_S_S7x1024 (constant (F := Ideal) S_ .f32 0x00000000#32)⟩]
      Gen.concatenates_S1x1024_S7x1024_S8x1024_d0 : Vec Ideal S8x1024 .f32) (ix2 a d) = Cert.MlpIdeal.Hand.firstRow a (∑ i, X (ix2 i d)) := by
  pointwise
  rw [Cert.MlpIdeal.Hand.firstRow_eq, Fin.sum_univ_one]
  split <;> rfl

/-- Every execution of the reference ends with the gradients of MlpSpec and leaves its arguments as they were. -/
theorem run_args (ρ : Dev nD → PrngReg) :
    θ_run defs (onTc (τ := τ) (main (F := Ideal))) ⟨m, fun _ => 0, ρ⟩ fun r => ∀ c : Dev nD,
      r.2.mem ((c.tc : Thread nD τ).loc main_v56) = (fun j : S2048x1024.Idx => (args m c).dh (j 0) (j 1) : Vec Ideal S2048x1024 .f32)
      ∧ r.2.mem ((c.tc : Thread nD τ).loc main_v59) = (fun j : S8x1024x512.Idx => (args m c).dwi (j 1) (colOf (j 0).val (j 0).isLt (j 2)) : Vec Ideal S8x1024x512 .bf16)
      ∧ r.2.mem ((c.tc : Thread nD τ).loc main_v61) = (fun j : S8x512x1024.Idx => (args m c).dwo (colOf (j 0).val (j 0).isLt (j 1)) (j 2) : Vec Ideal S8x512x1024 .bf16)
      ∧ r.2.mem ((c.tc : Thread nD τ).loc main_v64) = (fun j : S8x1024.Idx => Cert.MlpIdeal.Hand.firstRow (j 0) ((args m c).dg (j 1)) : Vec Ideal S8x1024 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ⟨(h c).1.trans ?_, (h c).2.1.trans ?_, (h c).2.2.1.trans ?_, (h c).2.2.2.1.trans ?_, (h c).2.2.2.2⟩) (run m ρ) <;>
  clear h <;> funext j <;> idx_vars j
  · exact (dh_at m c _ _).trans (Args.dhR_eq _ _ _)
  · refine Eq.trans ?_ (Args.dwiR_eq _ _ _)
    clean_types
    pointwise
    simp only [Args.dwiR, Args.dzR, Args.r, Args.pre, Args.hm, rstd, args]
    rfl
  · refine Eq.trans ?_ (Args.dwoR_eq _ _ _)
    clean_types
    pointwise
    simp only [Args.dwoR, Args.r, Args.pre, Args.hm, rstd, args]
    rfl
  · refine (dg_rows _ _ _).trans (congrArg (Cert.MlpIdeal.Hand.firstRow _) ?_)
    refine Eq.trans ?_ (Args.dgR_eq _ _)
    clean_types
    pointwise
    simp only [Args.dgR, Args.dhmR, Args.dzR, Args.r, Args.pre, Args.hm, rstd, args]
    rfl

end Cert.MlpRefIdeal.Hand
-- ==== Proof.MlpValue.lean ====
/- The channel mixer's backward pass: from agreeing arguments the kernel and its reference end with equal gradients. -/
module

public import proofs.«01_k».proof.Defs
public import proofs.«01_k».proof.Proof.MlpOuts
public import proofs.«01_k».proof.Proof.MlpRef

@[expose] public section

set_option maxRecDepth 16384

noncomputable section

namespace Cert.MlpIdeal.Hand

open Cert.MlpIdeal Cert.MlpIdeal.Gen
open Idealize.ShloMosaic Idealize.ShloMosaic.TcCoe Idealize.SL.Sem
variable (m : (ℓ : Loc nD τ sig) → Buf (Elt Ideal) ℓ)

/-- Every execution of the kernel ends with the gradients of MlpSpec and leaves its arguments as they were. -/
theorem run_args (ρ : Dev nD → PrngReg) :
    θ_run defs (onTc (τ := τ) (main (F := Ideal))) ⟨m, fun _ => 0, ρ⟩ fun r => ∀ c : Dev nD,
      r.2.mem ((c.tc : Thread nD τ).loc main_v24_0) = (fun j : S2048x1024.Idx => (args m c).dh (j 0) (j 1) : Vec Ideal S2048x1024 .f32)
      ∧ r.2.mem ((c.tc : Thread nD τ).loc main_v24_1) = (fun j : S8x1024x512.Idx => (args m c).dwi (j 1) (colOf (j 0).val (j 0).isLt (j 2)) : Vec Ideal S8x1024x512 .bf16)
      ∧ r.2.mem ((c.tc : Thread nD τ).loc main_v24_2) = (fun j : S8x512x1024.Idx => (args m c).dwo (colOf (j 0).val (j 0).isLt (j 1)) (j 2) : Vec Ideal S8x512x1024 .bf16)
      ∧ r.2.mem ((c.tc : Thread nD τ).loc main_v24_3) = (fun j : S8x1024.Idx => firstRow (j 0) ((args m c).dg (j 1)) : Vec Ideal S8x1024 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono
    (fun _ h c => ⟨((h.1.1 c).1 8).trans (arr_dh m c), ((h.1.1 c).1 9).trans (arr_dwi m c),
      ((h.1.1 c).1 10).trans (arr_dwo m c), ((h.1.1 c).1 11).trans (arr_dg m c), h.2.1 c⟩)
    (θ_run_and (run_main (F := Ideal) m ρ) (frame_run (F := Ideal) m ρ))

end Cert.MlpIdeal.Hand

namespace Cert.Value

open Idealize.ShloMosaic Idealize.SL.Sem

theorem algebraic_mlp : Cert.algebraic_MlpIdeal_MlpRefIdeal := by
  intro m g m' g' _ agree
  have same : ∀ c, Cert.MlpRefIdeal.Hand.args m' c = Cert.MlpIdeal.Hand.args m c := fun c => by
    obtain ⟨h0, h1, h2, h3, h4⟩ := agree c
    unfold Cert.MlpRefIdeal.Hand.args Cert.MlpIdeal.Hand.args
    rw [h0, h1, h2, h3, h4]
  refine ⟨_, _, _, _, Cert.MlpIdeal.Hand.run_args m g, ?_⟩
  have ran := Cert.MlpRefIdeal.Hand.run_args m' g'
  simp only [same] at ran
  exact ran

end Cert.Value

end
-- ==== Proof.FwdRuns.lean ====
module

public import proofs.«01_k».proof.Proof.Gen.MlpFwdIdeal.Skeleton
public import proofs.«01_k».proof.Proof.Gen.MlpFwdIdeal.Frame

@[expose] public section

set_option maxRecDepth 16384

noncomputable section

namespace Cert.MlpFwdIdeal.Hand

open Cert.MlpFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The first block of the hidden axis for a tile of rows, -/
abbrev atFirst (i : grid0.Coords) : Prop := k0_cond1 i = 1#1
/-- and the last. -/
abbrev atLast (i : grid0.Coords) : Prop := k0_cond2 i = 1#1

set_option maxHeartbeats 8000000 in
/-- The pieces the first block leaves: the normed rows, the activations, and the product so far. -/
noncomputable def runFirst (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024x512 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1024x512 .bf16) (harg7 : arg7.IsWhole) (arg8 : Memref sig .tc .vmem S1024x1024 .f32) (harg8 : arg8.IsWhole) (arg9 : Memref sig .tc .vmem S1024x1024 .f32) (harg9 : arg9.IsWhole)
    (x2 : Vec F S1024x1024 .f32) (x3 : Vec F S1x1024 .f32) (x4 : Vec F S1x1024x512 .bf16) (x5 : Vec F S1x512x1024 .bf16) (hc0 : atFirst i) (hc1 : ¬atLast i) :
    { L : List (View.Piece (Elt F) S1024x1024 .bf16) × List (View.Piece (Elt F) S1024x512 .bf16) × List (View.Piece (Elt F) S1024x1024 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5 ∗ (∃ f, arg6.view.loc (c : Thread nD τ) ↦[arg6.view.set]{fullShare} arg6.view.writes (Elt F) f L.1) ∗ (∃ f, arg7.view.loc (c : Thread nD τ) ↦[arg7.view.set]{fullShare} arg7.view.writes (Elt F) f L.2.1) ∗ (∃ d, owns (c : Thread nD τ) arg8 fullShare d) ∗ (∃ f, arg9.view.loc (c : Thread nD τ) ↦[arg9.view.set]{fullShare} arg9.view.writes (Elt F) f L.2.2)) -∗ K ⟨⟩))
          ⊢ wp frame (wpE (defs₀ (F := F)) Variants.none c none) E (cc0_mlp_fwd0 i arg2 harg2 arg3 harg3 arg4 harg4 arg5 harg5 arg6 harg6 arg7 harg7 arg8 harg8 arg9 harg9) K } := by
  refine ⟨⟨?_, ?_, ?_⟩, fun E K => ?run⟩
  case run =>
    simp only [cc0_mlp_fwd0_eq_skeleton]; unfold cc0_mlp_fwd0_skel
    unfold owns
    iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, Hk⟩
    obtain rfl := harg2.eq_unread hf2; obtain rfl := harg3.eq_unread hf3; obtain rfl := harg4.eq_unread hf4; obtain rfl := harg5.eq_unread hf5
    sl_exec (disch := first | sl_exact hc0 | sl_exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; iexact H6
    isplitl [H7]
    · iexists _; iexact H7
    isplitl [H8]
    · iexists _, _; isplitr; swap; · iexact H8
      ipureintro; rfl
    iexists _; iexact H9

set_option maxHeartbeats 8000000 in
/-- The pieces a further block leaves, of the normed rows and the product so far that it finds. -/
noncomputable def runMid (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024x512 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1024x512 .bf16) (harg7 : arg7.IsWhole) (arg8 : Memref sig .tc .vmem S1024x1024 .f32) (harg8 : arg8.IsWhole) (arg9 : Memref sig .tc .vmem S1024x1024 .f32) (harg9 : arg9.IsWhole)
    (x2 : Vec F S1024x1024 .f32) (x3 : Vec F S1x1024 .f32) (x4 : Vec F S1x1024x512 .bf16) (x5 : Vec F S1x512x1024 .bf16) (y6 : Vec F S1024x1024 .bf16) (y9 : Vec F S1024x1024 .f32) (hc0 : ¬atFirst i) (hc1 : ¬atLast i) :
    { L : List (View.Piece (Elt F) S1024x512 .bf16) × List (View.Piece (Elt F) S1024x1024 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare y6 ∗ (∃ d, owns (c : Thread nD τ) arg7 fullShare d) ∗ (∃ d, owns (c : Thread nD τ) arg8 fullShare d) ∗ owns (c : Thread nD τ) arg9 fullShare y9
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare y6 ∗ (∃ f, arg7.view.loc (c : Thread nD τ) ↦[arg7.view.set]{fullShare} arg7.view.writes (Elt F) f L.1) ∗ (∃ d, owns (c : Thread nD τ) arg8 fullShare d) ∗ (∃ f, arg9.view.loc (c : Thread nD τ) ↦[arg9.view.set]{fullShare} arg9.view.writes (Elt F) f L.2)) -∗ K ⟨⟩))
          ⊢ wp frame (wpE (defs₀ (F := F)) Variants.none c none) E (cc0_mlp_fwd0 i arg2 harg2 arg3 harg3 arg4 harg4 arg5 harg5 arg6 harg6 arg7 harg7 arg8 harg8 arg9 harg9) K } := by
  refine ⟨⟨?_, ?_⟩, fun E K => ?run⟩
  case run =>
    simp only [cc0_mlp_fwd0_eq_skeleton]; unfold cc0_mlp_fwd0_skel
    unfold owns
    iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, Hk⟩
    obtain rfl := harg2.eq_unread hf2; obtain rfl := harg3.eq_unread hf3; obtain rfl := harg4.eq_unread hf4; obtain rfl := harg5.eq_unread hf5; obtain rfl := harg6.eq_unread hf6; obtain rfl := harg9.eq_unread hf9
    sl_exec (disch := first | sl_exact hc0 | sl_exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; iexact H7
    isplitl [H8]
    · iexists _, _; isplitr; swap; · iexact H8
      ipureintro; rfl
    iexists _; iexact H9

set_option maxHeartbeats 8000000 in
/-- The pieces the last block leaves: as a further one, and the rows of the result. -/
noncomputable def runLast (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024x512 .bf16) (harg4 : arg4.IsWhole) (arg5 : Memref sig .tc .vmem S1x512x1024 .bf16) (harg5 : arg5.IsWhole) (arg6 : Memref sig .tc .vmem S1024x1024 .bf16) (harg6 : arg6.IsWhole) (arg7 : Memref sig .tc .vmem S1024x512 .bf16) (harg7 : arg7.IsWhole) (arg8 : Memref sig .tc .vmem S1024x1024 .f32) (harg8 : arg8.IsWhole) (arg9 : Memref sig .tc .vmem S1024x1024 .f32) (harg9 : arg9.IsWhole)
    (x2 : Vec F S1024x1024 .f32) (x3 : Vec F S1x1024 .f32) (x4 : Vec F S1x1024x512 .bf16) (x5 : Vec F S1x512x1024 .bf16) (y6 : Vec F S1024x1024 .bf16) (y9 : Vec F S1024x1024 .f32) (hc0 : ¬atFirst i) (hc1 : atLast i) :
    { L : List (View.Piece (Elt F) S1024x512 .bf16) × List (View.Piece (Elt F) S1024x1024 .f32) × List (View.Piece (Elt F) S1024x1024 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare y6 ∗ (∃ d, owns (c : Thread nD τ) arg7 fullShare d) ∗ (∃ d, owns (c : Thread nD τ) arg8 fullShare d) ∗ owns (c : Thread nD τ) arg9 fullShare y9
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare y6 ∗ (∃ f, arg7.view.loc (c : Thread nD τ) ↦[arg7.view.set]{fullShare} arg7.view.writes (Elt F) f L.1) ∗ (∃ f, arg8.view.loc (c : Thread nD τ) ↦[arg8.view.set]{fullShare} arg8.view.writes (Elt F) f L.2.1) ∗ (∃ f, arg9.view.loc (c : Thread nD τ) ↦[arg9.view.set]{fullShare} arg9.view.writes (Elt F) f L.2.2)) -∗ K ⟨⟩))
          ⊢ wp frame (wpE (defs₀ (F := F)) Variants.none c none) E (cc0_mlp_fwd0 i arg2 harg2 arg3 harg3 arg4 harg4 arg5 harg5 arg6 harg6 arg7 harg7 arg8 harg8 arg9 harg9) K } := by
  refine ⟨⟨?_, ?_, ?_⟩, fun E K => ?run⟩
  case run =>
    simp only [cc0_mlp_fwd0_eq_skeleton]; unfold cc0_mlp_fwd0_skel
    unfold owns
    iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, Hk⟩
    obtain rfl := harg2.eq_unread hf2; obtain rfl := harg3.eq_unread hf3; obtain rfl := harg4.eq_unread hf4; obtain rfl := harg5.eq_unread hf5; obtain rfl := harg6.eq_unread hf6; obtain rfl := harg9.eq_unread hf9
    sl_exec (disch := first | sl_exact hc0 | sl_exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; iexact H7
    isplitl [H8]
    · iexists _; iexact H8
    iexists _; iexact H9

end Cert.MlpFwdIdeal.Hand

end
-- ==== Proof.FwdFrame.lean ====
module

public import proofs.«01_k».proof.Proof.FwdRuns
public import Idealize.ShloMosaic.Lib.Claim

@[expose] public section

set_option maxRecDepth 16384

noncomputable section

namespace Cert.MlpFwdIdeal.Hand

open Cert.MlpFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem atFirst_iff : ∀ t : Fin cfg0.N, atFirst (grid0.coords t) ↔ t.val % 8 = 0 :=
  (by decide +kernel : ∀ t : Fin grid0.N, atFirst (grid0.coords t) ↔ t.val % 8 = 0)
theorem atLast_iff : ∀ t : Fin cfg0.N, atLast (grid0.coords t) ↔ t.val % 8 = 7 :=
  (by decide +kernel : ∀ t : Fin grid0.N, atLast (grid0.coords t) ↔ t.val % 8 = 7)

/-! ## The staging buffers of a point, and the scratch -/

abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x512 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x1024 .f32 := win0_6.stage (cfg0.slots t 6)
abbrev hs0_6 (t : Fin cfg0.N) : (ms0_6 t).IsWhole := hstage0_6 ((cfg0.slots t 6).cast nbuf0_6)

/-- The scratch that carries the product over the hidden axis. -/
abbrev scAcc : Memref sig .tc .vmem S1024x1024 .f32 := Memref.whole cc0_scratch0

theorem PhiA_eq (c : Dev nD) :
    (Pipeline.ΦA spec0 c : sProp 𝕄)
      = iprop((∃ d, owns (c : Thread nD τ) scAcc fullShare d) ∗ (∃ r, prngReg c r)) := by
  unfold Pipeline.ΦA; rw [scopedRest0_eq]; simp only [scAcc, owns_whole]; try rfl

/-! ## What a point leaves -/

/-- The three output buffers and the carried scratch after a point. -/
structure Outs (F : FTy → Type) [FloatOps F] where
  hm : Vec F S1024x1024 .bf16
  r : Vec F S1024x512 .bf16
  out : Vec F S1024x1024 .f32
  acc : Vec F S1024x1024 .f32

abbrev firstRun (c : Dev nD) (t : Fin cfg0.N) (h : t.val % 8 = 0) :=
  runFirst c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scAcc (Memref.isWhole_whole _) (iblk m c 0 t) (iblk m c 1 t) (iblk m c 2 t) (iblk m c 3 t) ((atFirst_iff t).mpr h) (fun h' => by have := (atLast_iff t).mp h'; omega)
abbrev midRun (c : Dev nD) (t : Fin cfg0.N) (h : t.val % 8 ≠ 0) (h7 : t.val % 8 ≠ 7) (y : Outs F) :=
  runMid c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scAcc (Memref.isWhole_whole _) (iblk m c 0 t) (iblk m c 1 t) (iblk m c 2 t) (iblk m c 3 t) y.hm y.acc (fun h' => h ((atFirst_iff t).mp h')) (fun h' => h7 ((atLast_iff t).mp h'))
abbrev lastRun (c : Dev nD) (t : Fin cfg0.N) (h7 : t.val % 8 = 7) (y : Outs F) :=
  runLast c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scAcc (Memref.isWhole_whole _) (iblk m c 0 t) (iblk m c 1 t) (iblk m c 2 t) (iblk m c 3 t) y.hm y.acc (fun h' => by have := (atFirst_iff t).mp h'; omega) ((atLast_iff t).mpr h7)

/-- A buffer's pieces read back. -/
abbrev back {S : Shape} {e : EltTy} (M : Memref sig .tc .vmem S e) (L : List (View.Piece (Elt F) S e)) : Vec F S e :=
  M.view.read (Elt F) (M.view.writes (Elt F) M.view.junk L)

theorem cover_first_hm (c : Dev nD) (t : Fin cfg0.N) (h : t.val % 8 = 0) (y : S1024x1024.Idx) :
    ∃ pc ∈ (firstRun m c t h).1.1, y ∈ pc.1.set :=
  View.cover_of_wholeMem (firstRun m c t h).1.1 (by sl_whole_mem) y
theorem cover_first_r (c : Dev nD) (t : Fin cfg0.N) (h : t.val % 8 = 0) (y : S1024x512.Idx) :
    ∃ pc ∈ (firstRun m c t h).1.2.1, y ∈ pc.1.set :=
  View.cover_of_wholeMem (firstRun m c t h).1.2.1 (by sl_whole_mem) y
theorem cover_first_acc (c : Dev nD) (t : Fin cfg0.N) (h : t.val % 8 = 0) (y : S1024x1024.Idx) :
    ∃ pc ∈ (firstRun m c t h).1.2.2, y ∈ pc.1.set :=
  View.cover_of_wholeMem (firstRun m c t h).1.2.2 (by sl_whole_mem) y
theorem cover_mid_r (c : Dev nD) (t : Fin cfg0.N) (h : t.val % 8 ≠ 0) (h7 : t.val % 8 ≠ 7) (z : Outs F) (y : S1024x512.Idx) :
    ∃ pc ∈ (midRun m c t h h7 z).1.1, y ∈ pc.1.set :=
  View.cover_of_wholeMem (midRun m c t h h7 z).1.1 (by sl_whole_mem) y
theorem cover_mid_acc (c : Dev nD) (t : Fin cfg0.N) (h : t.val % 8 ≠ 0) (h7 : t.val % 8 ≠ 7) (z : Outs F) (y : S1024x1024.Idx) :
    ∃ pc ∈ (midRun m c t h h7 z).1.2, y ∈ pc.1.set :=
  View.cover_of_wholeMem (midRun m c t h h7 z).1.2 (by sl_whole_mem) y
theorem cover_last_r (c : Dev nD) (t : Fin cfg0.N) (h7 : t.val % 8 = 7) (z : Outs F) (y : S1024x512.Idx) :
    ∃ pc ∈ (lastRun m c t h7 z).1.1, y ∈ pc.1.set :=
  View.cover_of_wholeMem (lastRun m c t h7 z).1.1 (by sl_whole_mem) y
theorem cover_last_out (c : Dev nD) (t : Fin cfg0.N) (h7 : t.val % 8 = 7) (z : Outs F) (y : S1024x1024.Idx) :
    ∃ pc ∈ (lastRun m c t h7 z).1.2.1, y ∈ pc.1.set :=
  View.cover_of_wholeMem (lastRun m c t h7 z).1.2.1 (by sl_whole_mem) y
theorem cover_last_acc (c : Dev nD) (t : Fin cfg0.N) (h7 : t.val % 8 = 7) (z : Outs F) (y : S1024x1024.Idx) :
    ∃ pc ∈ (lastRun m c t h7 z).1.2.2, y ∈ pc.1.set :=
  View.cover_of_wholeMem (lastRun m c t h7 z).1.2.2 (by sl_whole_mem) y

def firstOut (c : Dev nD) (t : Fin cfg0.N) (h : t.val % 8 = 0) : Outs F where
  hm := back (ms0_4 t) (firstRun m c t h).1.1
  r := back (ms0_5 t) (firstRun m c t h).1.2.1
  out := back (ms0_6 t) []
  acc := back scAcc (firstRun m c t h).1.2.2

def midOut (c : Dev nD) (t : Fin cfg0.N) (h : t.val % 8 ≠ 0) (h7 : t.val % 8 ≠ 7) (z : Outs F) : Outs F where
  hm := z.hm
  r := back (ms0_5 t) (midRun m c t h h7 z).1.1
  out := back (ms0_6 t) []
  acc := back scAcc (midRun m c t h h7 z).1.2

def lastOut (c : Dev nD) (t : Fin cfg0.N) (h7 : t.val % 8 = 7) (z : Outs F) : Outs F where
  hm := z.hm
  r := back (ms0_5 t) (lastRun m c t h7 z).1.1
  out := back (ms0_6 t) (lastRun m c t h7 z).1.2.1
  acc := back scAcc (lastRun m c t h7 z).1.2.2

/-- The buffers after point `n`, from the first point on. -/
def outs (c : Dev nD) : (n : ℕ) → n < cfg0.N → Outs F
  | 0, hn => firstOut m c ⟨0, hn⟩ rfl
  | n + 1, hn =>
    if h : (n + 1) % 8 = 0 then firstOut m c ⟨n + 1, hn⟩ h
    else if h7 : (n + 1) % 8 = 7 then lastOut m c ⟨n + 1, hn⟩ h7 (outs c n (Nat.lt_of_succ_lt hn))
    else midOut m c ⟨n + 1, hn⟩ h h7 (outs c n (Nat.lt_of_succ_lt hn))

theorem outs_first (c : Dev nD) (t : Fin cfg0.N) (h : t.val % 8 = 0) : outs m c t.val t.isLt = firstOut m c t h := by
  obtain ⟨n, hn⟩ := t
  cases n with
  | zero => unfold outs; rfl
  | succ n => conv_lhs => unfold outs
              exact dif_pos h

theorem outs_mid (c : Dev nD) (t : Fin cfg0.N) (h : t.val % 8 ≠ 0) (h7 : t.val % 8 ≠ 7) :
    outs m c t.val t.isLt = midOut m c t h h7 (outs m c (t.val - 1) (by omega)) := by
  obtain ⟨n, hn⟩ := t
  cases n with
  | zero => exact absurd rfl h
  | succ n => conv_lhs => unfold outs
              exact (dif_neg h).trans (dif_neg h7)

theorem outs_last (c : Dev nD) (t : Fin cfg0.N) (h7 : t.val % 8 = 7) :
    outs m c t.val t.isLt = lastOut m c t h7 (outs m c (t.val - 1) (by omega)) := by
  obtain ⟨n, hn⟩ := t
  cases n with
  | zero => exact absurd h7 (by dsimp only; omega)
  | succ n => conv_lhs => unfold outs
              exact (dif_neg (by dsimp only at h7; omega)).trans (dif_pos h7)

/-! ## The pipeline's proof data -/

/-- The invariant before position `n`: the carried scratch at what the points so far have left in it. -/
def Carry (c : Dev nD) : (n : ℕ) → n ≤ cfg0.N → sProp 𝕄
  | 0, _ => Pipeline.ΦA spec0 c
  | n + 1, hn => iprop(owns (c : Thread nD τ) scAcc fullShare (outs m c n hn).acc ∗ (∃ r, prngReg c r))

theorem Carry_succ (c : Dev nD) (n : ℕ) (hn : n < cfg0.N) :
    Carry m c (n + 1) hn = iprop(owns (c : Thread nD τ) scAcc fullShare (outs m c n hn).acc ∗ (∃ r, prngReg c r)) := rfl

theorem Carry_pos (c : Dev nD) (n : ℕ) (h : n ≤ cfg0.N) (hz : n ≠ 0) :
    Carry m c n h = iprop(owns (c : Thread nD τ) scAcc fullShare (outs m c (n - 1) (by omega)).acc ∗ (∃ r, prngReg c r)) := by
  cases n with
  | zero => exact absurd rfl hz
  | succ n => rfl

/-- Whatever the scratch holds, it is held. -/
theorem Carry_any (c : Dev nD) (n : ℕ) (h : n ≤ cfg0.N) :
    Carry m c n h ⊢ iprop((∃ d, owns (c : Thread nD τ) scAcc fullShare d) ∗ (∃ r, prngReg c r)) := by
  cases n with
  | zero => exact Entails.of_eq (PhiA_eq c)
  | succ n =>
    rw [Carry_succ]
    iintro ⟨HS, Hg⟩
    isplitl [HS]
    · iexists _; iexact HS
    iexact Hg

/-- What a point may leave in each window's buffer, given what it found there: an input as found, the normed rows and the
    activations what the points have left, the rows of the result what the last block of their tile leaves (before it
    anything). -/
def rdat (c : Dev nD) : RDat τ (Elt F) Unit ℕ (UR sig nD τ) ℕ cfg0 c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun _ X => X = (outs m c t.val t.isLt).hm
    | ⟨5, _⟩ => fun _ X => X = (outs m c t.val t.isLt).r
    | ⟨6, _⟩ => fun _ X => t.val % 8 = 7 → X = (outs m c t.val t.isLt).out
  Φ t := Carry m c t.val (Nat.le_of_lt_succ t.isLt)
  q _ := fullShare
  owed _ := 0

theorem A_eq (c : Dev nD) (w : Fin cfg0.W) : (rdat m c).A w = V m c (Pipeline.arrRef spec0 w) := by
  dsimp only [rdat]

theorem after0_0 (c : Dev nD) (t : Fin cfg0.N) (Y X) : (rdat m c).after 0 t Y X ↔ X = Y := by dsimp only [rdat]; exact Iff.rfl
theorem after0_1 (c : Dev nD) (t : Fin cfg0.N) (Y X) : (rdat m c).after 1 t Y X ↔ X = Y := by dsimp only [rdat]; exact Iff.rfl
theorem after0_2 (c : Dev nD) (t : Fin cfg0.N) (Y X) : (rdat m c).after 2 t Y X ↔ X = Y := by dsimp only [rdat]; exact Iff.rfl
theorem after0_3 (c : Dev nD) (t : Fin cfg0.N) (Y X) : (rdat m c).after 3 t Y X ↔ X = Y := by dsimp only [rdat]; exact Iff.rfl
theorem after0_4 (c : Dev nD) (t : Fin cfg0.N) (Y X) : (rdat m c).after 4 t Y X ↔ (X = (outs m c t.val t.isLt).hm) := by dsimp only [rdat]; exact Iff.rfl
theorem after0_5 (c : Dev nD) (t : Fin cfg0.N) (Y X) : (rdat m c).after 5 t Y X ↔ (X = (outs m c t.val t.isLt).r) := by dsimp only [rdat]; exact Iff.rfl
theorem after0_6 (c : Dev nD) (t : Fin cfg0.N) (Y X) : (rdat m c).after 6 t Y X ↔ (t.val % 8 = 7 → X = (outs m c t.val t.isLt).out) := by dsimp only [rdat]; exact Iff.rfl

theorem found0_0 (c : Dev nD) (t : Fin cfg0.N) (Y) (h : (rdat m c).Finds 0 t Y) : Y = iblk m c 0 t := by
  obtain ⟨d, hd⟩ := (rdat m c).finds_in_eq_fetched 0 rfl (fun _ _ _ => rfl) (fun t Y X h => (after0_0 m c t Y X).mp h) t Y h
  rw [hd]; unfold RDat.fetched RDat.blockOf iblk; rw [A_eq m c 0]; rfl
theorem found0_1 (c : Dev nD) (t : Fin cfg0.N) (Y) (h : (rdat m c).Finds 1 t Y) : Y = iblk m c 1 t := by
  obtain ⟨d, hd⟩ := (rdat m c).finds_in_eq_fetched 1 rfl (fun _ _ _ => rfl) (fun t Y X h => (after0_1 m c t Y X).mp h) t Y h
  rw [hd]; unfold RDat.fetched RDat.blockOf iblk; rw [A_eq m c 1]; rfl
theorem found0_2 (c : Dev nD) (t : Fin cfg0.N) (Y) (h : (rdat m c).Finds 2 t Y) : Y = iblk m c 2 t := by
  obtain ⟨d, hd⟩ := (rdat m c).finds_in_eq_fetched 2 rfl (fun _ _ _ => rfl) (fun t Y X h => (after0_2 m c t Y X).mp h) t Y h
  rw [hd]; unfold RDat.fetched RDat.blockOf iblk; rw [A_eq m c 2]; rfl
theorem found0_3 (c : Dev nD) (t : Fin cfg0.N) (Y) (h : (rdat m c).Finds 3 t Y) : Y = iblk m c 3 t := by
  obtain ⟨d, hd⟩ := (rdat m c).finds_in_eq_fetched 3 rfl (fun _ _ _ => rfl) (fun t Y X h => (after0_3 m c t Y X).mp h) t Y h
  rw [hd]; unfold RDat.fetched RDat.blockOf iblk; rw [A_eq m c 3]; rfl
theorem found0_4 (c : Dev nD) (t : Fin cfg0.N) (h0 : t.val % 8 ≠ 0) (Y) (h : (rdat m c).Finds 4 t Y) : Y = (outs m c (t.val - 1) (by omega)).hm := by
  rcases ((rdat m c).finds_of_pos (Window.fetch_out _ rfl t) (by omega) Y).mp h with hf | ⟨Y', -, hR⟩
  · have := (flush0_4 _).mp hf; dsimp only at this; omega
  · exact (after0_4 m c _ Y' Y).mp hR

/-! ## The body obligation -/

def bodyPre (c : Dev nD) (t : Fin cfg0.N) (Y : (w : Fin cfg0.W) → (cfg0.win w).block.Idx → Elt F (cfg0.win w).elt) : sProp 𝕄 :=
  iprop((rdat m c).Φ t.castSucc
    ∗ (rdat m c).owesAt () t.castSucc
    ∗ owns (c : Thread nD τ) (ms0_0 t) fullShare (Y 0)
    ∗ owns (c : Thread nD τ) (ms0_1 t) fullShare (Y 1)
    ∗ owns (c : Thread nD τ) (ms0_2 t) fullShare (Y 2)
    ∗ owns (c : Thread nD τ) (ms0_3 t) fullShare (Y 3)
    ∗ owns (c : Thread nD τ) (ms0_4 t) fullShare (Y 4)
    ∗ owns (c : Thread nD τ) (ms0_5 t) fullShare (Y 5)
    ∗ owns (c : Thread nD τ) (ms0_6 t) fullShare (Y 6))

def bodyPost (c : Dev nD) (t : Fin cfg0.N) (Y : (w : Fin cfg0.W) → (cfg0.win w).block.Idx → Elt F (cfg0.win w).elt) : sProp 𝕄 :=
  iprop((rdat m c).Φ t.succ
    ∗ (rdat m c).owesAt () t.succ
    ∗ (∃ X, ⌜(rdat m c).after 0 t (Y 0) X⌝ ∗ owns (c : Thread nD τ) (ms0_0 t) fullShare X)
    ∗ (∃ X, ⌜(rdat m c).after 1 t (Y 1) X⌝ ∗ owns (c : Thread nD τ) (ms0_1 t) fullShare X)
    ∗ (∃ X, ⌜(rdat m c).after 2 t (Y 2) X⌝ ∗ owns (c : Thread nD τ) (ms0_2 t) fullShare X)
    ∗ (∃ X, ⌜(rdat m c).after 3 t (Y 3) X⌝ ∗ owns (c : Thread nD τ) (ms0_3 t) fullShare X)
    ∗ (∃ X, ⌜(rdat m c).after 4 t (Y 4) X⌝ ∗ owns (c : Thread nD τ) (ms0_4 t) fullShare X)
    ∗ (∃ X, ⌜(rdat m c).after 5 t (Y 5) X⌝ ∗ owns (c : Thread nD τ) (ms0_5 t) fullShare X)
    ∗ (∃ X, ⌜(rdat m c).after 6 t (Y 6) X⌝ ∗ owns (c : Thread nD τ) (ms0_6 t) fullShare X))

theorem Carry_castSucc (c : Dev nD) (t : Fin cfg0.N) :
    (rdat m c).Φ t.castSucc = Carry m c t.val (Nat.le_of_lt t.isLt) := by
  dsimp only [rdat]; exact Pipeline.Dat.Φ_castSucc (Carry m c) t

set_option maxHeartbeats 19200000 in
theorem sound_body (c : Dev nD) (t : Fin cfg0.N) (Y) (hY : ∀ w, (rdat m c).Finds w t (Y w)) :
    bodyPre m c t Y ⊢ wp frame (wpE (defs₀ (F := F)) Variants.none c none) Set.univ (bodyAt0 t) (fun _ => bodyPost m c t Y) := by
  unfold bodyPre bodyPost bodyAt0
  simp only [after0_0, after0_1, after0_2, after0_3, after0_4, after0_5, after0_6]
  rw [found0_0 m c t (Y 0) (hY 0)]
  rw [found0_1 m c t (Y 1) (hY 1)]
  rw [found0_2 m c t (Y 2) (hY 2)]
  rw [found0_3 m c t (Y 3) (hY 3)]
  rw [show (rdat m c).owesAt () t.succ = (rdat m c).owesAt () t.castSucc from rfl]
  rw [show (rdat m c).Φ t.succ = Carry m c (t.val + 1) t.isLt from rfl, Carry_succ, Carry_castSucc m c t]
  by_cases h : t.val % 8 = 0
  · rw [outs_first m c t h]
    iintro ⟨HC, Ho, H0, H1, H2, H3, H4, H5, H6⟩
    ihave HC := (Carry_any m c t.val (Nat.le_of_lt t.isLt)) $$ HC
    icases HC with ⟨HS, Hg⟩
    iapply ((firstRun m c t h).2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS]; · iexact HS
    iintro ⟨H0, H1, H2, H3, ⟨%e4, H4⟩, ⟨%e5, H5⟩, ⟨%e6, H6⟩, ⟨%es, HS⟩⟩
    isplitl [HS Hg]
    · isplitl [HS]
      · unfold owns; iexists _; isplitr
        swap; · iexact HS
        ipureintro; change _ = back scAcc _; exact View.read_writes_of_cover _ _ _ _ _ (cover_first_acc m c t h)
      iexact Hg
    isplitl [Ho]; · iexact Ho
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; · ipureintro; rfl
      unfold owns; iexists _; isplitr
      swap; · iexact H4
      ipureintro; exact View.read_writes_of_cover _ _ _ _ _ (cover_first_hm m c t h)
    isplitl [H5]
    · iexists _; isplitr; · ipureintro; rfl
      unfold owns; iexists _; isplitr
      swap; · iexact H5
      ipureintro; exact View.read_writes_of_cover _ _ _ _ _ (cover_first_r m c t h)
    iexists e6; isplitr; · ipureintro; intro h7'; omega
    iexact H6
  by_cases h7 : t.val % 8 = 7
  · rw [Carry_pos m c _ _ (by omega), outs_last m c t h7, found0_4 m c t h (Y 4) (hY 4)]
    iintro ⟨⟨HS, Hg⟩, Ho, H0, H1, H2, H3, H4, H5, H6⟩
    iapply ((lastRun m c t h7 (outs m c (t.val - 1) (by omega))).2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS]; · iexact HS
    iintro ⟨H0, H1, H2, H3, H4, ⟨%e5, H5⟩, ⟨%e6, H6⟩, ⟨%es, HS⟩⟩
    isplitl [HS Hg]
    · isplitl [HS]
      · unfold owns; iexists _; isplitr
        swap; · iexact HS
        ipureintro; change _ = back scAcc _; exact View.read_writes_of_cover _ _ _ _ _ (cover_last_acc m c t h7 _)
      iexact Hg
    isplitl [Ho]; · iexact Ho
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; · ipureintro; rfl
      iexact H4
    isplitl [H5]
    · iexists _; isplitr; · ipureintro; rfl
      unfold owns; iexists _; isplitr
      swap; · iexact H5
      ipureintro; exact View.read_writes_of_cover _ _ _ _ _ (cover_last_r m c t h7 _)
    iexists _; isplitr; · ipureintro; intro _; rfl
    unfold owns; iexists _; isplitr
    swap; · iexact H6
    ipureintro; exact View.read_writes_of_cover _ _ _ _ _ (cover_last_out m c t h7 _)
  · rw [Carry_pos m c _ _ (by omega), outs_mid m c t h h7, found0_4 m c t h (Y 4) (hY 4)]
    iintro ⟨⟨HS, Hg⟩, Ho, H0, H1, H2, H3, H4, H5, H6⟩
    iapply ((midRun m c t h h7 (outs m c (t.val - 1) (by omega))).2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS]; · iexact HS
    iintro ⟨H0, H1, H2, H3, H4, ⟨%e5, H5⟩, ⟨%e6, H6⟩, ⟨%es, HS⟩⟩
    isplitl [HS Hg]
    · isplitl [HS]
      · unfold owns; iexists _; isplitr
        swap; · iexact HS
        ipureintro; change _ = back scAcc _; exact View.read_writes_of_cover _ _ _ _ _ (cover_mid_acc m c t h h7 _)
      iexact Hg
    isplitl [Ho]; · iexact Ho
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; · ipureintro; rfl
      iexact H4
    isplitl [H5]
    · iexists _; isplitr; · ipureintro; rfl
      unfold owns; iexists _; isplitr
      swap; · iexact H5
      ipureintro; exact View.read_writes_of_cover _ _ _ _ _ (cover_mid_r m c t h h7 _)
    iexists e6; isplitr; · ipureintro; intro h7'; omega
    iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : (rdat (F := F) m c).BodyObligation (defs₀ (F := F)) Variants.none () Set.univ := fun t Y hY => by
  rw [bigSep_W0, bigSep_W0, defs₀_row]
  exact triple_restated (sound_body m c t Y hY) rfl .rfl fun _ => .rfl

theorem carry_in (c : Dev nD) : Pipeline.ΦA spec0 c ⊢ (rdat m c).Φ 0 := .rfl

theorem carry_out (c : Dev nD) : (rdat m c).Φ (Fin.last cfg0.N) ⊢ Pipeline.ΦA spec0 c :=
  (Carry_any m c (Fin.last cfg0.N).val (Nat.le_of_lt_succ (Fin.last cfg0.N).isLt)).trans (Entails.of_eq (PhiA_eq c).symm)

/-! ## The run -/

/-- The same data with each buffer's contents named: at the points that write back they are the ones above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outs m c t.val t.isLt).hm
    | ⟨5, _⟩ => (outs m c t.val t.isLt).r
    | ⟨6, _⟩ => (outs m c t.val t.isLt).out
  Φ t := Carry m c t.val (Nat.le_of_lt_succ t.isLt)
  q _ := fullShare
  owed _ := 0

theorem dats_A (c : Dev nD) (w : Fin cfg0.W) : (dats m 0 c).A w = V m c (Pipeline.arrRef spec0 w) := by
  dsimp only [dats]

theorem named_hm (c : Dev nD) (t : Fin cfg0.N) : (dats m 0 c).after 4 t = (outs m c t.val t.isLt).hm := by dsimp only [dats]
theorem named_r (c : Dev nD) (t : Fin cfg0.N) : (dats m 0 c).after 5 t = (outs m c t.val t.isLt).r := by dsimp only [dats]
theorem named_out (c : Dev nD) (t : Fin cfg0.N) : (dats m 0 c).after 6 t = (outs m c t.val t.isLt).out := by dsimp only [dats]

/-- What a point that writes back may leave is what the data names. -/
theorem leaves_named (c : Dev nD) (w : Fin cfg0.W) (t : Fin cfg0.N) (hf : (cfg0.win w).flush t = true) (X)
    (h : (rdat m c).Leaves w t X) : X = (dats m 0 c).after w t := by
  obtain ⟨Y, -, hR⟩ := h
  have hin : (cfg0.win w).isOut = true := by
    by_contra hc
    rw [Bool.not_eq_true] at hc
    rw [Window.flush_in _ hc] at hf; exact absurd hf Bool.false_ne_true
  match w, hin, hf, X, Y, hR with
  | ⟨0, _⟩, hin, _, _, _, _ => exact absurd hin Bool.false_ne_true
  | ⟨1, _⟩, hin, _, _, _, _ => exact absurd hin Bool.false_ne_true
  | ⟨2, _⟩, hin, _, _, _, _ => exact absurd hin Bool.false_ne_true
  | ⟨3, _⟩, hin, _, _, _, _ => exact absurd hin Bool.false_ne_true
  | ⟨4, _⟩, _, _, X, Y, hR => exact ((after0_4 m c t Y X).mp hR).trans (named_hm m c t).symm
  | ⟨5, _⟩, _, _, X, Y, hR => exact ((after0_5 m c t Y X).mp hR).trans (named_r m c t).symm
  | ⟨6, _⟩, _, hf, X, Y, hR => exact ((after0_6 m c t Y X).mp hR ((flush0_6 t).mp hf)).trans (named_out m c t).symm
  | ⟨n + 7, hn⟩, _, _, _, _, _ => exact absurd hn (by have : cfg0.W = 7 := rfl; omega)

theorem arr_named (c : Dev nD) (w : Fin cfg0.W) : ∀ (n : ℕ) (G), (rdat m c).ArrAt w n G → G = (dats m 0 c).arrAt w n
  | 0, G, h => by
    refine Eq.trans (show G = (rdat m c).A w from h) ?_
    rw [A_eq]; exact (dats_A m c w).symm
  | n + 1, G, h => by
    unfold RDat.ArrAt at h; unfold Dat.arrAt
    by_cases hn : n < cfg0.N
    · rw [dif_pos hn] at h ⊢
      by_cases hf : (cfg0.win w).flush ⟨n, hn⟩ = true
      · rw [if_pos hf] at h ⊢
        obtain ⟨G₀, X, h₀, hX, rfl⟩ := h
        rw [arr_named c w n G₀ h₀, leaves_named m c w ⟨n, hn⟩ hf X hX]
      · rw [if_neg hf] at h ⊢; exact arr_named c w n G h
    · rw [dif_neg hn] at h ⊢; exact arr_named c w n G h

set_option backward.isDefEq.respectTransparency.types false in
theorem run_related : θ_run defs (onTc (τ := τ) (main (F := F))) (s₀ m ρ)
    (fun r => RDat.FramePost (cfgs 0) (rdat m) (V m) r ∧ r.2.sem = fun _ => 0) :=
  RDat.θ_run_frame_track (Q' := _) cfgs (0 : Fin 1) launch0 defs₀ Variants.none (rdat m) m ρ main
    (hbody := body_obligation m) (hshare := fun c w => by unfold RDat.share; split <;> rfl)
    (howed := fun _ _ => rfl) (V := V m) (hmain := hmain m Variants.none) (hA := A_eq m) (hin := carry_in m) (hout := carry_out m)

/-- Every execution of the program ends, with the arrays at what the named data says and every counter at zero. -/
theorem run_main : θ_run defs (onTc (τ := τ) (main (F := F))) (s₀ m ρ)
    (fun r => Pipeline.FramePost cfgs (dats m) 0 (V m) r ∧ r.2.sem = fun _ => 0) :=
  (θ_run defs _ _).mono (fun r h => ⟨fun c => ⟨fun w => arr_named m c w _ _ ((h.1 c).1 w), (h.1 c).2⟩, h.2⟩) (run_related m ρ)

theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (dats_A m) ((θ_run defs _ _).mono (fun _ h => h.1) (run_main m ρ)))
    ((θ_run defs _ _).mono (fun _ h => h.2) (run_main m ρ))

end Cert.MlpFwdIdeal.Hand

end
-- ==== Proof.FwdSame.lean ====
module

public import proofs.«01_k».proof.Defs
public import proofs.«01_k».proof.Proof.Gen.MlpFwd
public import proofs.«01_k».proof.Proof.FwdFrame

@[expose] public section

set_option maxHeartbeats 12800000
set_option maxRecDepth 16384

noncomputable section

namespace Cert.SameText

open Idealize.ShloMosaic Idealize.SL.Sem

variable {F : FTy → Type} [FloatOps F]

/-- The printed body and the idealized one are the same text. -/
theorem fwd_body : (@Cert.MlpFwd.cc0_mlp_fwd0 F _ Cert.MlpFwd.Gen.facts) = (@Cert.MlpFwdIdeal.cc0_mlp_fwd0 F _ Cert.MlpFwdIdeal.Gen.facts) := rfl

theorem fwd_defs₀ : (@Cert.MlpFwd.defs₀ F _ Cert.MlpFwd.Gen.facts) = (@Cert.MlpFwdIdeal.defs₀ F _ Cert.MlpFwdIdeal.Gen.facts) := by
  unfold Cert.MlpFwd.defs₀ Cert.MlpFwdIdeal.defs₀
  refine congrArg Defs.onTc ?_
  funext l a
  match l, a with
  | ⟨0, _⟩, (t, s) => rw [← fwd_body]; rfl
  | ⟨_ + 1, h⟩, _ => exact absurd h (Nat.not_lt.2 (Nat.le_add_left _ _))

theorem fwd_defs : (@Cert.MlpFwd.defs F _ Cert.MlpFwd.Gen.facts) = (@Cert.MlpFwdIdeal.defs F _ Cert.MlpFwdIdeal.Gen.facts) := by
  unfold Cert.MlpFwd.defs Cert.MlpFwdIdeal.defs
  exact congrArg (Pipeline.defs _) fwd_defs₀

theorem fwd_main : (@Cert.MlpFwd.main F _ Cert.MlpFwd.Gen.facts) = (@Cert.MlpFwdIdeal.main F _ Cert.MlpFwdIdeal.Gen.facts) := rfl

/-- `Cert.quiescent_MlpFwd`: the idealized program is the same text, so its run read at `Bits` is this one. -/
theorem frame_mlp_fwd : @Cert.quiescent_MlpFwd Cert.MlpFwd.Gen.facts := fun m g _ => by
  rw [fwd_defs, fwd_main]
  exact Cert.MlpFwdIdeal.Hand.frame_run (F := Bits) m g

end Cert.SameText

end
-- ==== Proof.FwdSpec.lean ====
/- The forward pass of the channel mixer as one formula for each entry of each result, over the extended reals, and what
   the grid points leave in their buffers. -/
module

public import proofs.«01_k».proof.Proof.FwdFrame
public import proofs.«01_k».proof.Proof.MlpOuts

@[expose] public section

set_option maxRecDepth 16384

noncomputable section

namespace Cert.MlpFwdIdeal.Hand

open Cert.MlpFwdIdeal.Gen
open Idealize.ShloMosaic Idealize.ShloMosaic.TcCoe Idealize.ShloMosaic.Tactic
open Cert.MlpIdeal.Hand (rstd colOf read_whole readAt_whole readCov_whole)

variable (m : (ℓ : Loc nD τ sig) → Buf (Elt Ideal) ℓ)

/-- The four arrays of the call: the stream, the gains and the two weights. -/
structure Args where
  h : Fin 2048 → Fin 1024 → EReal
  g : Fin 1024 → EReal
  wi : Fin 1024 → Fin 4096 → EReal
  wo : Fin 4096 → Fin 1024 → EReal

namespace Args

variable (A : Args)

/-- The normed rows. -/
def hm (i : Fin 2048) (d : Fin 1024) : EReal := A.h i d * rstd (A.h i) * A.g d

/-- The hidden rows after the cut at zero. -/
def r (i : Fin 2048) (f : Fin 4096) : EReal := max (∑ d, A.hm i d * A.wi d f) 0

/-- The stream with the mixer's rows added. -/
def out (i : Fin 2048) (d : Fin 1024) : EReal := A.h i d + ∑ f, A.r i f * A.r i f * A.wo f d

/-- The share of block `s` of the hidden axis in the mixer's rows. -/
def part (i : Fin 2048) (d : Fin 1024) (s : ℕ) : EReal :=
  if hs : s < 8 then ∑ f : Fin 512, A.r i (colOf s hs f) * A.r i (colOf s hs f) * A.wo (colOf s hs f) d else 0

theorem sum_part (i : Fin 2048) (d : Fin 1024) : A.h i d + ∑ s ∈ Finset.range 8, A.part i d s = A.out i d := by
  unfold out
  rw [← Fin.sum_univ_eq_sum_range (A.part i d) 8, ← Fin.sum_mul_add_fin 8 512 (fun f => A.r i f * A.r i f * A.wo f d)]
  exact congrArg (A.h i d + ·) (Finset.sum_congr rfl fun s _ => dif_pos s.isLt)

end Args

/-! ## The payloads at an entry -/

/-- A hidden entry from a normed row and a block of the first weight. -/
def act (x : Vec Ideal S1024x1024 .bf16) (wi : Vec Ideal S1x1024x512 .bf16) (a : Fin 1024) (f : Fin 512) : EReal :=
  max (∑ d : Fin 1024, x (ix2 a d) * wi (ix3 0 d f)) 0

theorem pay1_apply (h : Vec Ideal S1024x1024 .f32) (g : Vec Ideal S1x1024 .f32) (a d : Fin 1024) :
    k0_pay1 h g (ix2 a d) = h (ix2 a d) * rstd (fun d => h (ix2 a d)) * g (ix2 0 d) := by
  pointwise [k0_pay1]; rfl

theorem pay4_apply (x : Vec Ideal S1024x1024 .bf16) (wi : Vec Ideal S1x1024x512 .bf16) (a : Fin 1024) (f : Fin 512) :
    k0_pay4 x wi (ix2 a f) = act x wi a f := by
  pointwise [k0_pay4, k0_pay3]; rfl

theorem pay5_apply (x : Vec Ideal S1024x1024 .bf16) (wi : Vec Ideal S1x1024x512 .bf16) (y : Vec Ideal S1024x1024 .f32)
    (wo : Vec Ideal S1x512x1024 .bf16) (a d : Fin 1024) :
    k0_pay5 x wi y wo (ix2 a d) = y (ix2 a d) + ∑ f : Fin 512, act x wi a f * act x wi a f * wo (ix3 0 f d) := by
  pointwise [k0_pay5, k0_pay3]; rfl

theorem pay2_apply (a d : Fin 1024) : (k0_pay2 (F := Ideal)) (ix2 a d) = 0 := by
  pointwise [k0_pay2]

theorem pay6_apply (h y : Vec Ideal S1024x1024 .f32) (a d : Fin 1024) : k0_pay6 h y (ix2 a d) = h (ix2 a d) + y (ix2 a d) := by
  pointwise [k0_pay6]

/-! ## The blocks a point is handed -/

abbrev hT (c : Dev nD) (t : Fin cfg0.N) : Vec Ideal S1024x1024 .f32 := iblk m c 0 t
abbrev gB (c : Dev nD) (t : Fin cfg0.N) : Vec Ideal S1x1024 .f32 := iblk m c 1 t
abbrev wiB (c : Dev nD) (t : Fin cfg0.N) : Vec Ideal S1x1024x512 .bf16 := iblk m c 2 t
abbrev woB (c : Dev nD) (t : Fin cfg0.N) : Vec Ideal S1x512x1024 .bf16 := iblk m c 3 t

/-! ## What a point leaves, as its payloads -/

theorem first_hm (c : Dev nD) (t : Fin cfg0.N) (h : t.val % 8 = 0) : (firstOut m c t h).hm = k0_pay1 (hT m c t) (gB m c t) := by
  unfold firstOut firstRun runFirst back
  dsimp only
  unfold runFirst.sl.H6_1
  rw [read_whole _ _ (by decide), readAt_whole (hs0_0 t) _ (by decide), readAt_whole (hs0_1 t) _ (by decide)]

/-- The normed rows as the first point reads them back. -/
theorem first_back (c : Dev nD) (t : Fin cfg0.N) :
    runFirst.sl.v3 c (ms0_0 t) (hs0_0 t) (ms0_1 t) (hs0_1 t) (ms0_4 t) (iblk m c 0 t) (iblk m c 1 t) = k0_pay1 (hT m c t) (gB m c t) := by
  unfold runFirst.sl.v3 runFirst.sl.H6_1
  rw [readCov_whole _ _ (by decide), read_whole _ _ (by decide), readAt_whole (hs0_0 t) _ (by decide), readAt_whole (hs0_1 t) _ (by decide)]

theorem first_r (c : Dev nD) (t : Fin cfg0.N) (h : t.val % 8 = 0) :
    (firstOut m c t h).r = k0_pay4 (k0_pay1 (hT m c t) (gB m c t)) (wiB m c t) := by
  unfold firstOut firstRun runFirst back
  dsimp only
  rw [read_whole _ _ (by decide), first_back, readAt_whole (hs0_2 t) _ (by decide)]

theorem first_acc (c : Dev nD) (t : Fin cfg0.N) (h : t.val % 8 = 0) :
    (firstOut m c t h).acc = k0_pay5 (k0_pay1 (hT m c t) (gB m c t)) (wiB m c t) (k0_pay2 (F := Ideal)) (woB m c t) := by
  unfold firstOut firstRun runFirst back
  dsimp only
  unfold runFirst.sl.v12 runFirst.sl.H9_1
  rw [read_whole _ _ (by decide), first_back, readAt_whole (hs0_2 t) _ (by decide), readAt_whole (hs0_3 t) _ (by decide),
    readCov_whole _ _ (by decide), read_whole _ _ (by decide)]

/-- The product so far as a point finds it in the scratch. -/
theorem acc_back (y : Vec Ideal S1024x1024 .f32) :
    View.readAt (Elt Ideal) scAcc.view (Rect.unit ![0, 0] S1024x1024.size inb_S1024x1024_S1024x1024_0_0).toLoadRect
      ((Memref.isWhole_whole cc0_scratch0).unread y) = y :=
  readAt_whole (M := scAcc) (Memref.isWhole_whole cc0_scratch0) y (by decide) _

theorem mid_r (c : Dev nD) (t : Fin cfg0.N) (h : t.val % 8 ≠ 0) (h7 : t.val % 8 ≠ 7) (y : Outs Ideal) :
    (midOut m c t h h7 y).r = k0_pay4 y.hm (wiB m c t) := by
  unfold midOut midRun runMid back
  dsimp only
  rw [read_whole _ _ (by decide), readAt_whole (hs0_4 t) _ (by decide), readAt_whole (hs0_2 t) _ (by decide)]

theorem mid_acc (c : Dev nD) (t : Fin cfg0.N) (h : t.val % 8 ≠ 0) (h7 : t.val % 8 ≠ 7) (y : Outs Ideal) :
    (midOut m c t h h7 y).acc = k0_pay5 y.hm (wiB m c t) y.acc (woB m c t) := by
  unfold midOut midRun runMid back
  dsimp only
  rw [read_whole _ _ (by decide), readAt_whole (hs0_4 t) _ (by decide), readAt_whole (hs0_2 t) _ (by decide),
    readAt_whole (hs0_3 t) _ (by decide)]
  exact congrArg (fun z => k0_pay5 y.hm (wiB m c t) z (woB m c t)) (acc_back y.acc)

theorem last_r (c : Dev nD) (t : Fin cfg0.N) (h7 : t.val % 8 = 7) (y : Outs Ideal) :
    (lastOut m c t h7 y).r = k0_pay4 y.hm (wiB m c t) := by
  unfold lastOut lastRun runLast back
  dsimp only
  rw [read_whole _ _ (by decide), readAt_whole (hs0_4 t) _ (by decide), readAt_whole (hs0_2 t) _ (by decide)]

theorem last_out (c : Dev nD) (t : Fin cfg0.N) (h7 : t.val % 8 = 7) (y : Outs Ideal) :
    (lastOut m c t h7 y).out = k0_pay6 (hT m c t) (k0_pay5 y.hm (wiB m c t) y.acc (woB m c t)) := by
  unfold lastOut lastRun runLast back
  dsimp only
  unfold runLast.sl.v26 runLast.sl.H9_1
  rw [read_whole _ _ (by decide), readAt_whole (hs0_0 t) _ (by decide), readCov_whole _ _ (by decide), read_whole _ _ (by decide),
    readAt_whole (hs0_4 t) _ (by decide), readAt_whole (hs0_2 t) _ (by decide), readAt_whole (hs0_3 t) _ (by decide)]
  exact congrArg (fun z => k0_pay6 (hT m c t) (k0_pay5 y.hm (wiB m c t) z (woB m c t))) (acc_back y.acc)

end Cert.MlpFwdIdeal.Hand

end
-- ==== Proof.FwdOuts.lean ====
/- The arrays the channel mixer's forward pass ends with: every entry is the formula of FwdSpec. -/
module

public import proofs.«01_k».proof.Proof.FwdSpec
public import Idealize.ShloMosaic.Lib.Claim
public import Idealize.ShloMosaic.Lib.StableHlo.ReadAt

@[expose] public section

set_option maxRecDepth 16384

noncomputable section

namespace Cert.MlpFwdIdeal.Hand

open Cert.MlpFwdIdeal.Gen
open Idealize.ShloMosaic Idealize.ShloMosaic.TcCoe Idealize.ShloMosaic.Tactic
open Idealize.ShloMosaic.Pipeline (Dat RDat Cfg Window cellOf)
open Cert.MlpIdeal.Hand (rstd colOf)

variable (m : (ℓ : Loc nD τ sig) → Buf (Elt Ideal) ℓ)

/-- The call's arrays as a device's memory holds them. -/
def args (c : Dev nD) : Args where
  h i d := m ((c.tc : Thread nD τ).loc main_arg0) (ix2 i d)
  g d := m ((c.tc : Thread nD τ).loc main_arg1) (ix1 d)
  wi d f := m ((c.tc : Thread nD τ).loc main_arg2) (ix2 d f)
  wo f d := m ((c.tc : Thread nD τ).loc main_arg3) (ix2 f d)

/-! ## The operands at the region's entry -/

theorem entry_wi (c : Dev nD) (s : Fin 8) (d : Fin 1024) (f : Fin 512) :
    V m c main_v2 (ix3 s d f) = (args m c).wi d (colOf s.val s.isLt f) := by
  unfold V
  after_reads_at
  rfl

theorem entry_wo (c : Dev nD) (s : Fin 8) (f : Fin 512) (d : Fin 1024) :
    V m c main_v4 (ix3 s f d) = (args m c).wo (colOf s.val s.isLt f) d := by
  unfold V
  after_reads_at
  rfl

theorem entry_g (c : Dev nD) (d : Fin 1024) : V m c main_v5 (ix2 0 d) = (args m c).g d := by
  unfold V
  after_reads_at
  rfl

theorem entry_h (c : Dev nD) (i : Fin 2048) (d : Fin 1024) : V m c main_arg0 (ix2 i d) = (args m c).h i d := by
  rw [V_main_arg0]; rfl

/-! ## The blocks of the operands -/

theorem idx_rows : ∀ t : Fin cfg0.N, win0_0.index t = ![t.val / 8, 0] ∧ win0_1.index t = ![0, 0]
    ∧ win0_4.index t = ![t.val / 8, 0] ∧ win0_6.index t = ![t.val / 8, 0] := by decide +kernel
theorem idx_cols : ∀ t : Fin cfg0.N, win0_2.index t = ![t.val % 8, 0, 0] ∧ win0_3.index t = ![t.val % 8, 0, 0]
    ∧ win0_5.index t = ![t.val / 8, t.val % 8] := by decide +kernel

/-- The row `1024 k + a`, -/
def tileRow (k : ℕ) (hk : k < 2) (a : Fin 1024) : Fin 2048 := ⟨1024 * k + a.val, by omega⟩

theorem tile_lt {n : ℕ} (hn : n < cfg0.N) : n / 8 < 2 := by
  have : cfg0.N = 16 := rfl
  omega

theorem mod_lt (n : ℕ) : n % 8 < 8 := Nat.mod_lt _ (by decide)

theorem gB_at (c : Dev nD) (t : Fin cfg0.N) (d : Fin 1024) : gB m c t (ix2 0 d) = (args m c).g d := by
  rw [← entry_g]; unfold gB; blk_ext [iblk, idx_rows t]

theorem hT_at (c : Dev nD) (t : Fin cfg0.N) (a d : Fin 1024) :
    hT m c t (ix2 a d) = (args m c).h (tileRow (t.val / 8) (tile_lt t.isLt) a) d := by
  rw [← entry_h]; unfold hT tileRow; blk_ext [iblk, idx_rows t]

theorem wiB_at (c : Dev nD) (t : Fin cfg0.N) (d : Fin 1024) (f : Fin 512) :
    wiB m c t (ix3 0 d f) = (args m c).wi d (colOf (t.val % 8) (mod_lt _) f) := by
  rw [← entry_wi m c ⟨t.val % 8, mod_lt _⟩]; unfold wiB; blk_ext [iblk, idx_cols t]

theorem woB_at (c : Dev nD) (t : Fin cfg0.N) (f : Fin 512) (d : Fin 1024) :
    woB m c t (ix3 0 f d) = (args m c).wo (colOf (t.val % 8) (mod_lt _) f) d := by
  rw [← entry_wo m c ⟨t.val % 8, mod_lt _⟩]; unfold woB; blk_ext [iblk, idx_cols t]

/-! ## The normed rows -/

theorem first_hm_at (c : Dev nD) (t : Fin cfg0.N) (a d : Fin 1024) :
    k0_pay1 (hT m c t) (gB m c t) (ix2 a d) = (args m c).hm (tileRow (t.val / 8) (tile_lt t.isLt) a) d := by
  rw [pay1_apply]
  unfold Args.hm
  simp only [hT_at, gB_at]

theorem outs_hm_first (c : Dev nD) (t : Fin cfg0.N) (h : t.val % 8 = 0) (a d : Fin 1024) :
    (outs m c t.val t.isLt).hm (ix2 a d) = (args m c).hm (tileRow (t.val / 8) (tile_lt t.isLt) a) d := by
  rw [outs_first m c t h, first_hm]
  exact first_hm_at m c t a d

theorem outs_hm_kept (c : Dev nD) (t : Fin cfg0.N) (h : t.val % 8 ≠ 0) :
    (outs m c t.val t.isLt).hm = (outs m c (t.val - 1) (by omega)).hm := by
  by_cases h7 : t.val % 8 = 7
  · rw [outs_last m c t h7]; rfl
  · rw [outs_mid m c t h h7]; rfl

/-- Every point's buffer holds the normed rows of its tile. -/
theorem outs_hm (c : Dev nD) (a d : Fin 1024) : ∀ (n : ℕ) (hn : n < cfg0.N),
    (outs m c n hn).hm (ix2 a d) = (args m c).hm (tileRow (n / 8) (tile_lt hn) a) d
  | 0, hn => outs_hm_first m c ⟨0, hn⟩ (Nat.zero_mod 8) a d
  | n + 1, hn => by
    by_cases h : (n + 1) % 8 = 0
    · exact outs_hm_first m c ⟨n + 1, hn⟩ h a d
    · rw [outs_hm_kept m c ⟨n + 1, hn⟩ h]
      refine (outs_hm c a d n (Nat.lt_of_succ_lt hn)).trans ?_
      congr 2
      omega

/-! ## The hidden rows and the running product -/

/-- A hidden entry of a point, from normed rows of its tile. -/
theorem act_at (c : Dev nD) (t : Fin cfg0.N) (x : Vec Ideal S1024x1024 .bf16) (a : Fin 1024)
    (hx : ∀ d, x (ix2 a d) = (args m c).hm (tileRow (t.val / 8) (tile_lt t.isLt) a) d) (f : Fin 512) :
    act x (wiB m c t) a f = (args m c).r (tileRow (t.val / 8) (tile_lt t.isLt) a) (colOf (t.val % 8) (mod_lt _) f) := by
  unfold act Args.r
  simp only [hx, wiB_at]

theorem part_at (c : Dev nD) (t : Fin cfg0.N) (x : Vec Ideal S1024x1024 .bf16) (a d : Fin 1024)
    (hx : ∀ d, x (ix2 a d) = (args m c).hm (tileRow (t.val / 8) (tile_lt t.isLt) a) d) :
    (∑ f : Fin 512, act x (wiB m c t) a f * act x (wiB m c t) a f * woB m c t (ix3 0 f d))
      = (args m c).part (tileRow (t.val / 8) (tile_lt t.isLt) a) d (t.val % 8) := by
  unfold Args.part
  rw [dif_pos (mod_lt _)]
  simp only [act_at m c t x a hx, woB_at]

/-- What a point before its own first block's point left of the normed rows is its tile's. -/
theorem found_hm (c : Dev nD) (t : Fin cfg0.N) (h : t.val % 8 ≠ 0) (a d : Fin 1024) :
    (outs m c (t.val - 1) (by omega)).hm (ix2 a d) = (args m c).hm (tileRow (t.val / 8) (tile_lt t.isLt) a) d := by
  rw [← outs_hm_kept m c t h]; exact outs_hm m c a d t.val t.isLt

theorem outs_r (c : Dev nD) (t : Fin cfg0.N) (a : Fin 1024) (f : Fin 512) :
    (outs m c t.val t.isLt).r (ix2 a f)
      = (args m c).r (tileRow (t.val / 8) (tile_lt t.isLt) a) (colOf (t.val % 8) (mod_lt _) f) := by
  by_cases h : t.val % 8 = 0
  · rw [outs_first m c t h, first_r, pay4_apply]
    exact act_at m c t _ a (first_hm_at m c t a) f
  by_cases h7 : t.val % 8 = 7
  · rw [outs_last m c t h7, last_r, pay4_apply]
    exact act_at m c t _ a (found_hm m c t h a) f
  · rw [outs_mid m c t h h7, mid_r, pay4_apply]
    exact act_at m c t _ a (found_hm m c t h a) f

theorem outs_acc_first (c : Dev nD) (t : Fin cfg0.N) (h : t.val % 8 = 0) (a d : Fin 1024) :
    (outs m c t.val t.isLt).acc (ix2 a d) = (args m c).part (tileRow (t.val / 8) (tile_lt t.isLt) a) d (t.val % 8) := by
  rw [outs_first m c t h, first_acc, pay5_apply, pay2_apply, part_at m c t _ a d (first_hm_at m c t a), zero_add]

theorem outs_acc_mid (c : Dev nD) (t : Fin cfg0.N) (h : t.val % 8 ≠ 0) (h7 : t.val % 8 ≠ 7) (a d : Fin 1024) :
    (outs m c t.val t.isLt).acc (ix2 a d) = (outs m c (t.val - 1) (by omega)).acc (ix2 a d)
      + (args m c).part (tileRow (t.val / 8) (tile_lt t.isLt) a) d (t.val % 8) := by
  rw [outs_mid m c t h h7, mid_acc, pay5_apply, part_at m c t _ a d (found_hm m c t h a)]

/-- The running product holds the blocks of the tile so far. -/
theorem outs_acc (c : Dev nD) (k : ℕ) (hk : k < 2) (a d : Fin 1024) : ∀ (j n : ℕ) (hn : n < cfg0.N), j < 7 → n = 8 * k + j →
    (outs m c n hn).acc (ix2 a d) = ∑ s ∈ Finset.range (j + 1), (args m c).part (tileRow k hk a) d s
  | 0, n, hn, _, e => by
    refine (outs_acc_first m c ⟨n, hn⟩ (by dsimp only; omega) a d).trans ?_
    rw [Finset.sum_range_one]
    congr 2 <;> dsimp only <;> omega
  | j + 1, n, hn, hj, e => by
    refine (outs_acc_mid m c ⟨n, hn⟩ (by dsimp only; omega) (by dsimp only; omega) a d).trans ?_
    rw [Finset.sum_range_succ]
    refine congrArg₂ (· + ·) (outs_acc c k hk a d j (n - 1) (by omega) (by omega) (by omega)) ?_
    congr 2 <;> dsimp only <;> omega

theorem outs_out (c : Dev nD) (t : Fin cfg0.N) (h7 : t.val % 8 = 7) (a d : Fin 1024) :
    (outs m c t.val t.isLt).out (ix2 a d) = (args m c).out (tileRow (t.val / 8) (tile_lt t.isLt) a) d := by
  rw [outs_last m c t h7, last_out, pay6_apply, pay5_apply, part_at m c t _ a d (found_hm m c t (by omega) a), hT_at,
    outs_acc m c (t.val / 8) (tile_lt t.isLt) a d 6 (t.val - 1) (by omega) (by omega) (by omega), h7, ← Finset.sum_range_succ,
    Args.sum_part]

/-! ## The arrays -/

theorem arr_hm (c : Dev nD) : (dats m 0 c).arrAt 4 cfg0.N
    = (fun j : S2048x1024.Idx => (args m c).hm (j 0) (j 1) : Vec Ideal S2048x1024 .bf16) := by
  refine (dats m 0 c).arrAt_eq_of_covers 4 _ (by decide +kernel) fun t hf y => ?_
  blk_simp
  rw [named_hm]
  refine (congrArg _ (ix2_eta (n0 := 1024) (n1 := 1024) y).symm).trans ?_
  refine (outs_hm m c (y 0) (y 1) t.val t.isLt).trans (congrArg₂ (args m c).hm (Fin.ext ?_) (Fin.ext ?_)) <;>
  · blk_simp [idx_rows t]
    try (show 1024 * (t.val / 8) + (y 0).val = _; omega)

theorem arr_r (c : Dev nD) : (dats m 0 c).arrAt 5 cfg0.N
    = (fun j : S2048x4096.Idx => (args m c).r (j 0) (j 1) : Vec Ideal S2048x4096 .bf16) := by
  refine (dats m 0 c).arrAt_eq_of_covers 5 _ (by decide +kernel) fun t hf y => ?_
  blk_simp
  rw [named_r]
  refine (congrArg _ (ix2_eta (n0 := 1024) (n1 := 512) y).symm).trans ?_
  refine (outs_r m c t (y 0) (y 1)).trans (congrArg₂ (args m c).r (Fin.ext ?_) (Fin.ext ?_)) <;>
  · blk_simp [idx_cols t]
    first
      | (show 1024 * (t.val / 8) + (y 0).val = _; omega)
      | (show t.val % 8 * 512 + (y 1).val = _; omega)

theorem arr_out (c : Dev nD) : (dats m 0 c).arrAt 6 cfg0.N
    = (fun j : S2048x1024.Idx => (args m c).out (j 0) (j 1) : Vec Ideal S2048x1024 .f32) := by
  refine (dats m 0 c).arrAt_eq_of_covers 6 _ (by decide +kernel) fun t hf y => ?_
  have ht := (flush0_6 t).mp hf
  blk_simp
  rw [named_out]
  refine (congrArg _ (ix2_eta (n0 := 1024) (n1 := 1024) y).symm).trans ?_
  refine (outs_out m c t ht (y 0) (y 1)).trans (congrArg₂ (args m c).out (Fin.ext ?_) (Fin.ext ?_)) <;>
  · blk_simp [idx_rows t]
    try (show 1024 * (t.val / 8) + (y 0).val = _; omega)

end Cert.MlpFwdIdeal.Hand
-- ==== Proof.FwdRef.lean ====
/- The reference of the channel mixer's forward pass, every entry of its results as the formula of FwdSpec. -/
module

public import proofs.«01_k».proof.Proof.Gen.MlpFwdRefIdeal.Run
public import proofs.«01_k».proof.Proof.FwdSpec
public import Idealize.ShloMosaic.Lib.Pointwise
public import Idealize.ShloMosaic.Lib.Claim
public import Idealize.ShloMosaic.Lib.Tactic.CleanTypes

@[expose] public section

set_option maxRecDepth 16384

noncomputable section

namespace Cert.MlpFwdRefIdeal.Hand

open Cert.MlpFwdRefIdeal Cert.MlpFwdRefIdeal.Value
open Idealize.ShloMosaic Idealize.ShloMosaic.TcCoe Idealize.ShloMosaic.Tactic
open Cert.MlpIdeal.Hand (rstd)
open Cert.MlpFwdIdeal.Hand (Args)
variable (m : (ℓ : Loc nD τ sig) → Buf (Elt Ideal) ℓ)

/-- The call's arrays as a device's memory holds them. -/
def args (c : Dev nD) : Args where
  h i d := m ((c.tc : Thread nD τ).loc main_arg0) (ix2 i d)
  g d := m ((c.tc : Thread nD τ).loc main_arg1) (ix1 d)
  wi d f := m ((c.tc : Thread nD τ).loc main_arg2) (ix2 d f)
  wo f d := m ((c.tc : Thread nD τ).loc main_arg3) (ix2 f d)

/-- Every execution of the reference ends with the arrays of FwdSpec and leaves its arguments as they were. -/
theorem run_args (ρ : Dev nD → PrngReg) :
    θ_run defs (onTc (τ := τ) (main (F := Ideal))) ⟨m, fun _ => 0, ρ⟩ fun r => ∀ c : Dev nD,
      r.2.mem ((c.tc : Thread nD τ).loc main_v15) = (fun j : S2048x1024.Idx => (args m c).hm (j 0) (j 1) : Vec Ideal S2048x1024 .bf16)
      ∧ r.2.mem ((c.tc : Thread nD τ).loc main_v16) = (fun j : S2048x4096.Idx => (args m c).r (j 0) (j 1) : Vec Ideal S2048x4096 .bf16)
      ∧ r.2.mem ((c.tc : Thread nD τ).loc main_v19) = (fun j : S2048x1024.Idx => (args m c).out (j 0) (j 1) : Vec Ideal S2048x1024 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ⟨(h c).1.trans ?_, (h c).2.1.trans ?_, (h c).2.2.1.trans ?_, (h c).2.2.2⟩) (run m ρ) <;>
  clear h <;> funext j <;> idx_vars j <;> clean_types <;> pointwise <;>
  simp only [Args.out, Args.r, Args.hm, rstd, args] <;> rfl

end Cert.MlpFwdRefIdeal.Hand
-- ==== Proof.FwdValue.lean ====
/- The channel mixer's forward pass: from agreeing arguments the kernel and its reference end with equal arrays. -/
module

public import proofs.«01_k».proof.Defs
public import proofs.«01_k».proof.Proof.FwdOuts
public import proofs.«01_k».proof.Proof.FwdRef

@[expose] public section

set_option maxRecDepth 16384

noncomputable section

namespace Cert.MlpFwdIdeal.Hand

open Cert.MlpFwdIdeal Cert.MlpFwdIdeal.Gen
open Idealize.ShloMosaic Idealize.ShloMosaic.TcCoe Idealize.SL.Sem
variable (m : (ℓ : Loc nD τ sig) → Buf (Elt Ideal) ℓ)

/-- Every execution of the kernel ends with the arrays of FwdSpec and leaves its arguments as they were. -/
theorem run_args (ρ : Dev nD → PrngReg) :
    θ_run defs (onTc (τ := τ) (main (F := Ideal))) ⟨m, fun _ => 0, ρ⟩ fun r => ∀ c : Dev nD,
      r.2.mem ((c.tc : Thread nD τ).loc main_v6_0) = (fun j : S2048x1024.Idx => (args m c).hm (j 0) (j 1) : Vec Ideal S2048x1024 .bf16)
      ∧ r.2.mem ((c.tc : Thread nD τ).loc main_v6_1) = (fun j : S2048x4096.Idx => (args m c).r (j 0) (j 1) : Vec Ideal S2048x4096 .bf16)
      ∧ r.2.mem ((c.tc : Thread nD τ).loc main_v6_2) = (fun j : S2048x1024.Idx => (args m c).out (j 0) (j 1) : Vec Ideal S2048x1024 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono
    (fun _ h c => ⟨((h.1.1 c).1 4).trans (arr_hm m c), ((h.1.1 c).1 5).trans (arr_r m c), ((h.1.1 c).1 6).trans (arr_out m c), h.2.1 c⟩)
    (θ_run_and (run_main (F := Ideal) m ρ) (frame_run (F := Ideal) m ρ))

end Cert.MlpFwdIdeal.Hand

namespace Cert.Value

open Idealize.ShloMosaic Idealize.SL.Sem

theorem algebraic_mlp_fwd : Cert.algebraic_MlpFwdIdeal_MlpFwdRefIdeal := by
  intro m g m' g' _ agree
  have same : ∀ c, Cert.MlpFwdRefIdeal.Hand.args m' c = Cert.MlpFwdIdeal.Hand.args m c := fun c => by
    obtain ⟨h0, h1, h2, h3⟩ := agree c
    unfold Cert.MlpFwdRefIdeal.Hand.args Cert.MlpFwdIdeal.Hand.args
    rw [h0, h1, h2, h3]
  refine ⟨_, _, _, Cert.MlpFwdIdeal.Hand.run_args m g, ?_⟩
  have ran := Cert.MlpFwdRefIdeal.Hand.run_args m' g'
  simp only [same] at ran
  exact ran

end Cert.Value

end
-- ==== Proof.OutSpec.lean ====
/- The gradient of the attention's output projection: what each row tile leaves in its buffers, as the kernel's payloads. -/
module

public import proofs.«01_k».proof.Proof.Gen.OutBwdIdeal.Frame
public import proofs.«01_k».proof.Proof.MlpAlgebra

@[expose] public section

set_option maxRecDepth 16384

noncomputable section

namespace Cert.OutBwdIdeal.Hand

open Cert.OutBwdIdeal.Gen
open Idealize.ShloMosaic Idealize.ShloMosaic.TcCoe Idealize.ShloMosaic.Tactic
open Cert.MlpIdeal.Hand (rowOf firstRow firstRow_add read_whole readAt_whole readCov_whole)

variable (m : (ℓ : Loc nD τ sig) → Buf (Elt Ideal) ℓ)

/-! ## The blocks a point is handed -/

abbrev dhT (c : Dev nD) (t : Fin cfg0.N) : Vec Ideal S512x1024 .f32 := iblk m c 0 t
abbrev oT (c : Dev nD) (t : Fin cfg0.N) : Vec Ideal S512x1024 .bf16 := iblk m c 1 t
abbrev wB (c : Dev nD) (t : Fin cfg0.N) : Vec Ideal S1024x1024 .bf16 := iblk m c 2 t

/-! ## What a point leaves, as its payloads -/

theorem outs_first (c : Dev nD) (t : Fin cfg0.N) (h : t.val % 4 = 0) :
    (outsAt0 m c t.val t.isLt).1 = k0_pay5 (dhT m c t) (wB m c t)
    ∧ (outsAt0 m c t.val t.isLt).2.2.1 = k0_pay7 (dhT m c t) (k0_pay3 (F := Ideal))
    ∧ (outsAt0 m c t.val t.isLt).2.2.2 = k0_pay6 (dhT m c t) (k0_pay2 (F := Ideal)) (oT m c t) := by
  rw [outsAt0_A m c t h (by omega)]
  dsimp only
  unfold out0_A_3 out0_A_5 sout0_A_0 kernelRun0_A
  dsimp only
  unfold kernelRun0_A.sl.v18 kernelRun0_A.sl.v10 kernelRun0_A.sl.H5_1 kernelRun0_A.sl.HS0_1
  refine ⟨?_, ?_, ?_⟩ <;> rw [read_whole _ _ (by decide), readAt_whole (hs0_0 t) _ (by decide)]
  · rw [readAt_whole (hs0_2 t) _ (by decide)]
  · rw [readCov_whole _ _ (by decide), read_whole _ _ (by decide)]
  · rw [readAt_whole (hs0_1 t) _ (by decide), readCov_whole _ _ (by decide), read_whole _ _ (by decide)]

/-- The sum so far as a point finds it in the scratch. -/
theorem acc_back (y : Vec Ideal S1024x1024 .f32) :
    View.readAt (Elt Ideal) scM0_0.view (Rect.unit ![0, 0] S1024x1024.size inb_S1024x1024_S1024x1024_0_0).toLoadRect
      ((Memref.isWhole_whole cc0_scratch0).unread y) = y :=
  readAt_whole (M := scM0_0) (Memref.isWhole_whole cc0_scratch0) y (by decide) _

theorem outs_mid (c : Dev nD) (t : Fin cfg0.N) (h : t.val % 4 ≠ 0) (h3 : t.val % 4 ≠ 3) :
    (outsAt0 m c t.val t.isLt).1 = k0_pay5 (dhT m c t) (wB m c t)
    ∧ (outsAt0 m c t.val t.isLt).2.2.1 = k0_pay7 (dhT m c t) (outsAt0 m c (t.val - 1) (by omega)).2.2.1
    ∧ (outsAt0 m c t.val t.isLt).2.2.2 = k0_pay6 (dhT m c t) (outsAt0 m c (t.val - 1) (by omega)).2.2.2 (oT m c t) := by
  rw [outsAt0_B m c t h h3]
  dsimp only
  unfold out0_B_3 out0_B_5 sout0_B_0 kernelRun0_B
  dsimp only
  refine ⟨?_, ?_, ?_⟩ <;> rw [read_whole _ _ (by decide), readAt_whole (hs0_0 t) _ (by decide)]
  · rw [readAt_whole (hs0_2 t) _ (by decide)]
  · rw [readAt_whole (hs0_5 t) _ (by decide)]
  · rw [readAt_whole (hs0_1 t) _ (by decide)]
    exact congrArg (k0_pay6 _ · _) (acc_back _)

theorem outs_last (c : Dev nD) (t : Fin cfg0.N) (h : t.val % 4 = 3) :
    (outsAt0 m c t.val t.isLt).1 = k0_pay5 (dhT m c t) (wB m c t)
    ∧ (outsAt0 m c t.val t.isLt).2.1 = k0_pay1 (outsAt0 m c t.val t.isLt).2.2.2
    ∧ (outsAt0 m c t.val t.isLt).2.2.1 = k0_pay7 (dhT m c t) (outsAt0 m c (t.val - 1) (by omega)).2.2.1
    ∧ (outsAt0 m c t.val t.isLt).2.2.2 = k0_pay6 (dhT m c t) (outsAt0 m c (t.val - 1) (by omega)).2.2.2 (oT m c t) := by
  rw [outsAt0_C m c t (by omega) h]
  dsimp only
  unfold out0_C_3 out0_C_4 out0_C_5 sout0_C_0 kernelRun0_C
  dsimp only
  refine ⟨?_, ?_, ?_, ?_⟩
  · rw [read_whole _ _ (by decide), readAt_whole (hs0_0 t) _ (by decide), readAt_whole (hs0_2 t) _ (by decide)]
  · unfold kernelRun0_C.sl.v34
    rw [read_whole _ _ (by decide), readCov_whole _ _ (by decide)]
  · rw [read_whole _ _ (by decide), readAt_whole (hs0_0 t) _ (by decide), readAt_whole (hs0_5 t) _ (by decide)]
  · unfold kernelRun0_C.sl.HS0_1
    rw [read_whole _ _ (by decide), readAt_whole (hs0_0 t) _ (by decide), readAt_whole (hs0_1 t) _ (by decide)]
    exact congrArg (k0_pay6 _ · _) (acc_back _)

theorem outs_do (c : Dev nD) (t : Fin cfg0.N) : (outsAt0 m c t.val t.isLt).1 = k0_pay5 (dhT m c t) (wB m c t) := by
  by_cases h : t.val % 4 = 0
  · exact (outs_first m c t h).1
  by_cases h3 : t.val % 4 = 3
  · exact (outs_last m c t h3).1
  · exact (outs_mid m c t h h3).1

/-- A later tile adds to what the tile before left. -/
theorem outs_next (c : Dev nD) (t : Fin cfg0.N) (h : t.val % 4 ≠ 0) :
    (outsAt0 m c t.val t.isLt).2.2.1 = k0_pay7 (dhT m c t) (outsAt0 m c (t.val - 1) (by omega)).2.2.1
    ∧ (outsAt0 m c t.val t.isLt).2.2.2 = k0_pay6 (dhT m c t) (outsAt0 m c (t.val - 1) (by omega)).2.2.2 (oT m c t) := by
  by_cases h3 : t.val % 4 = 3
  · exact (outs_last m c t h3).2.2
  · exact (outs_mid m c t h h3).2

/-! ## The payloads at an entry -/

theorem pay1_apply (y : Vec Ideal S1024x1024 .f32) (a d : Fin 1024) : k0_pay1 y (ix2 a d) = y (ix2 a d) := by
  pointwise [k0_pay1]

theorem pay2_apply (a d : Fin 1024) : (k0_pay2 (F := Ideal)) (ix2 a d) = 0 := by
  pointwise [k0_pay2]

theorem pay3_apply (a : Fin 8) (d : Fin 1024) : (k0_pay3 (F := Ideal)) (ix2 a d) = 0 := by
  pointwise [k0_pay3]

theorem pay5_apply (x : Vec Ideal S512x1024 .f32) (w : Vec Ideal S1024x1024 .bf16) (a : Fin 512) (k : Fin 1024) :
    k0_pay5 x w (ix2 a k) = ∑ d : Fin 1024, x (ix2 a d) * w (ix2 k d) := by
  pointwise [k0_pay5, k0_pay4]

theorem pay6_apply (x : Vec Ideal S512x1024 .f32) (y : Vec Ideal S1024x1024 .f32) (o : Vec Ideal S512x1024 .bf16) (k d : Fin 1024) :
    k0_pay6 x y o (ix2 k d) = y (ix2 k d) + ∑ a : Fin 512, o (ix2 a k) * x (ix2 a d) := by
  pointwise [k0_pay6, k0_pay4]

theorem pay7_apply (x : Vec Ideal S512x1024 .f32) (y : Vec Ideal S8x1024 .f32) (a : Fin 8) (d : Fin 1024) :
    k0_pay7 x y (ix2 a d) = y (ix2 a d) + firstRow a (∑ x' : Fin 512, x (ix2 x' d)) := by
  pointwise [k0_pay7]; rfl

end Cert.OutBwdIdeal.Hand
-- ==== Proof.RowTiles.lean ====
/- Sums over the rows taken row tile by row tile, and the row of sums that stands as the first of eight. -/
module

public import proofs.«01_k».proof.Proof.MlpAlgebra

@[expose] public section

noncomputable section

namespace Cert.RowTiles

open Idealize.ShloMosaic
open Cert.MlpIdeal.Hand (rowOf firstRow firstRow_add)

/-- The share of row tile `k` in a sum over the rows. -/
def tile (f : Fin 2048 → EReal) (k : ℕ) : EReal :=
  if hk : k < 4 then ∑ x : Fin 512, f (rowOf k hk x) else 0

theorem tile_of (f : Fin 2048 → EReal) (k : ℕ) (hk : k < 4) : ∑ x : Fin 512, f (rowOf k hk x) = tile f k := by
  unfold tile; rw [dif_pos hk]

theorem sum_tile (f : Fin 2048 → EReal) : ∑ k ∈ Finset.range 4, tile f k = ∑ i, f i := by
  rw [← Fin.sum_univ_eq_sum_range (tile f) 4, ← Fin.sum_mul_add_fin 4 512 f]
  refine Finset.sum_congr rfl fun k _ => (dif_pos k.isLt).trans (Finset.sum_congr rfl fun x _ => ?_)
  exact congrArg f (Fin.ext (congrArg (· + x.val) (Nat.mul_comm 512 k.val)))

/-- What starts at the first tile's share and grows by one tile's share a point holds the tiles so far. -/
theorem run_tile (N : ℕ) (f : Fin 2048 → EReal) (y : (n : ℕ) → n < N → EReal)
    (first : ∀ h : 0 < N, y 0 h = tile f 0)
    (next : ∀ (n : ℕ) (h : n + 1 < N), y (n + 1) h = y n (Nat.lt_of_succ_lt h) + tile f (n + 1)) :
    ∀ (n : ℕ) (hn : n < N), y n hn = ∑ k ∈ Finset.range (n + 1), tile f k
  | 0, hn => (first hn).trans (Finset.sum_range_one _).symm
  | n + 1, hn => by
    rw [next n hn, run_tile N f y first next n _, Finset.sum_range_succ _ (n + 1)]

/-- The same for what stands as the first of eight rows. -/
theorem run_row (N : ℕ) (a : Fin 8) (f : Fin 2048 → EReal) (y : (n : ℕ) → n < N → EReal)
    (first : ∀ h : 0 < N, y 0 h = firstRow a (tile f 0))
    (next : ∀ (n : ℕ) (h : n + 1 < N), y (n + 1) h = y n (Nat.lt_of_succ_lt h) + firstRow a (tile f (n + 1))) :
    ∀ (n : ℕ) (hn : n < N), y n hn = firstRow a (∑ k ∈ Finset.range (n + 1), tile f k)
  | 0, hn => (first hn).trans (congrArg (firstRow a) (Finset.sum_range_one _).symm)
  | n + 1, hn => by
    rw [next n hn, run_row N a f y first next n _, firstRow_add, Finset.sum_range_succ _ (n + 1)]

end Cert.RowTiles

end
-- ==== Proof.OutOuts.lean ====
/- The gradient of the attention's output projection as one formula for each entry of each result, over the extended
   reals, and the arrays the kernel ends with: every entry is that formula. -/
module

public import proofs.«01_k».proof.Proof.OutSpec
public import proofs.«01_k».proof.Proof.RowTiles
public import Idealize.ShloMosaic.Lib.Claim
public import Idealize.ShloMosaic.Lib.StableHlo.ReadAt

@[expose] public section

set_option maxRecDepth 16384

noncomputable section

namespace Cert.OutBwdIdeal.Hand

open Cert.OutBwdIdeal.Gen
open Idealize.ShloMosaic Idealize.ShloMosaic.TcCoe Idealize.ShloMosaic.Tactic
open Cert.MlpIdeal.Hand (rowOf firstRow firstRow_add)
open Cert.RowTiles

variable (m : (ℓ : Loc nD τ sig) → Buf (Elt Ideal) ℓ)

/-- The arrays the gradients depend on: the attention's rows, the weights and the cotangent. -/
structure Args where
  o : Fin 2048 → Fin 1024 → EReal
  w : Fin 1024 → Fin 1024 → EReal
  dh : Fin 2048 → Fin 1024 → EReal

namespace Args

variable (A : Args)

/-- The three gradients. -/
def dO (i : Fin 2048) (k : Fin 1024) : EReal := ∑ d, A.dh i d * A.w k d
def dw (k d : Fin 1024) : EReal := ∑ i, A.o i k * A.dh i d
def db (d : Fin 1024) : EReal := ∑ i, A.dh i d

end Args

/-- The call's arrays as a device's memory holds them. -/
def args (c : Dev nD) : Args where
  o i k := m ((c.tc : Thread nD τ).loc main_arg0) (ix2 i k)
  w k d := m ((c.tc : Thread nD τ).loc main_arg1) (ix2 k d)
  dh i d := m ((c.tc : Thread nD τ).loc main_arg3) (ix2 i d)

/-! ## The blocks of the operands -/

theorem entry_o (c : Dev nD) (i : Fin 2048) (k : Fin 1024) : V m c main_v0 (ix2 i k) = (args m c).o i k := by
  unfold V
  after_reads_at
  rfl

theorem entry_w (c : Dev nD) (k d : Fin 1024) : V m c main_v1 (ix2 k d) = (args m c).w k d := by
  unfold V
  after_reads_at
  rfl

theorem entry_dh (c : Dev nD) (i : Fin 2048) (d : Fin 1024) : V m c main_arg3 (ix2 i d) = (args m c).dh i d := by
  rw [V_main_arg3]; rfl

theorem idx (t : Fin cfg0.N) : win0_0.index t = ![t.val, 0] ∧ win0_1.index t = ![t.val, 0] ∧ win0_2.index t = ![0, 0]
    ∧ win0_3.index t = ![t.val, 0] ∧ win0_4.index t = ![0, 0] ∧ win0_5.index t = ![0, 0] :=
  (by decide +kernel : ∀ t : Fin cfg0.N, win0_0.index t = ![t.val, 0] ∧ win0_1.index t = ![t.val, 0] ∧ win0_2.index t = ![0, 0]
    ∧ win0_3.index t = ![t.val, 0] ∧ win0_4.index t = ![0, 0] ∧ win0_5.index t = ![0, 0]) t

theorem pt_lt {n : ℕ} (hn : n < cfg0.N) : n < 4 := hn

theorem dhT_at (c : Dev nD) (t : Fin cfg0.N) (a : Fin 512) (d : Fin 1024) :
    dhT m c t (ix2 a d) = (args m c).dh (rowOf t.val (pt_lt t.isLt) a) d := by
  rw [← entry_dh]; unfold dhT rowOf; blk_ext [iblk, idx t]

theorem oT_at (c : Dev nD) (t : Fin cfg0.N) (a : Fin 512) (k : Fin 1024) :
    oT m c t (ix2 a k) = (args m c).o (rowOf t.val (pt_lt t.isLt) a) k := by
  rw [← entry_o]; unfold oT rowOf; blk_ext [iblk, idx t]

theorem wB_at (c : Dev nD) (t : Fin cfg0.N) (k d : Fin 1024) : wB m c t (ix2 k d) = (args m c).w k d := by
  rw [← entry_w]; unfold wB; blk_ext [iblk, idx t]

/-! ## What the points leave -/

theorem outs_do_at (c : Dev nD) (t : Fin cfg0.N) (a : Fin 512) (k : Fin 1024) :
    (outsAt0 m c t.val t.isLt).1 (ix2 a k) = (args m c).dO (rowOf t.val (pt_lt t.isLt) a) k := by
  rw [outs_do, pay5_apply]
  unfold Args.dO
  simp only [dhT_at, wB_at]

theorem dw_tile (c : Dev nD) (t : Fin cfg0.N) (k d : Fin 1024) :
    ∑ a : Fin 512, oT m c t (ix2 a k) * dhT m c t (ix2 a d) = tile (fun i => (args m c).o i k * (args m c).dh i d) t.val := by
  rw [← tile_of _ _ (pt_lt t.isLt)]
  simp only [dhT_at, oT_at]

theorem db_tile (c : Dev nD) (t : Fin cfg0.N) (d : Fin 1024) :
    ∑ a : Fin 512, dhT m c t (ix2 a d) = tile (fun i => (args m c).dh i d) t.val := by
  rw [← tile_of _ _ (pt_lt t.isLt)]
  simp only [dhT_at]

theorem acc_first (c : Dev nD) (t : Fin cfg0.N) (h : t.val % 4 = 0) (k d : Fin 1024) :
    (outsAt0 m c t.val t.isLt).2.2.2 (ix2 k d) = tile (fun i => (args m c).o i k * (args m c).dh i d) t.val := by
  rw [(outs_first m c t h).2.2, pay6_apply, pay2_apply, dw_tile, zero_add]

theorem acc_next (c : Dev nD) (t : Fin cfg0.N) (h : t.val % 4 ≠ 0) (k d : Fin 1024) :
    (outsAt0 m c t.val t.isLt).2.2.2 (ix2 k d) = (outsAt0 m c (t.val - 1) (by omega)).2.2.2 (ix2 k d)
      + tile (fun i => (args m c).o i k * (args m c).dh i d) t.val := by
  rw [(outs_next m c t h).2, pay6_apply, dw_tile]

theorem sum_first (c : Dev nD) (t : Fin cfg0.N) (h : t.val % 4 = 0) (a : Fin 8) (d : Fin 1024) :
    (outsAt0 m c t.val t.isLt).2.2.1 (ix2 a d) = firstRow a (tile (fun i => (args m c).dh i d) t.val) := by
  rw [(outs_first m c t h).2.1, pay7_apply, pay3_apply, db_tile, zero_add]

theorem sum_next (c : Dev nD) (t : Fin cfg0.N) (h : t.val % 4 ≠ 0) (a : Fin 8) (d : Fin 1024) :
    (outsAt0 m c t.val t.isLt).2.2.1 (ix2 a d) = (outsAt0 m c (t.val - 1) (by omega)).2.2.1 (ix2 a d)
      + firstRow a (tile (fun i => (args m c).dh i d) t.val) := by
  rw [(outs_next m c t h).1, pay7_apply, db_tile]

theorem acc_at (c : Dev nD) (k d : Fin 1024) (n : ℕ) (hn : n < cfg0.N) :
    (outsAt0 m c n hn).2.2.2 (ix2 k d)
      = ∑ j ∈ Finset.range (n + 1), tile (fun i => (args m c).o i k * (args m c).dh i d) j :=
  run_tile cfg0.N _ (fun n hn => (outsAt0 m c n hn).2.2.2 (ix2 k d)) (fun h => acc_first m c ⟨0, h⟩ rfl k d)
    (fun n h => acc_next m c ⟨n + 1, h⟩ (by have := pt_lt h; dsimp only; omega) k d) n hn

theorem sum_at (c : Dev nD) (a : Fin 8) (d : Fin 1024) (n : ℕ) (hn : n < cfg0.N) :
    (outsAt0 m c n hn).2.2.1 (ix2 a d) = firstRow a (∑ j ∈ Finset.range (n + 1), tile (fun i => (args m c).dh i d) j) :=
  run_row cfg0.N a _ (fun n hn => (outsAt0 m c n hn).2.2.1 (ix2 a d)) (fun h => sum_first m c ⟨0, h⟩ rfl a d)
    (fun n h => sum_next m c ⟨n + 1, h⟩ (by have := pt_lt h; dsimp only; omega) a d) n hn

theorem outs_dw (c : Dev nD) (t : Fin cfg0.N) (h : t.val % 4 = 3) (k d : Fin 1024) :
    (outsAt0 m c t.val t.isLt).2.1 (ix2 k d) = (args m c).dw k d := by
  have ht := pt_lt t.isLt
  rw [(outs_last m c t h).2.1, pay1_apply, acc_at, show t.val = 3 by omega]
  exact sum_tile _

theorem outs_db (c : Dev nD) (t : Fin cfg0.N) (h : t.val % 4 = 3) (a : Fin 8) (d : Fin 1024) :
    (outsAt0 m c t.val t.isLt).2.2.1 (ix2 a d) = firstRow a ((args m c).db d) := by
  have ht := pt_lt t.isLt
  rw [sum_at, show t.val = 3 by omega]
  exact congrArg (firstRow a) (sum_tile _)

/-! ## The arrays -/

theorem arr_do (c : Dev nD) : (dats m 0 c).arrAt 3 cfg0.N
    = (fun j : S2048x1024.Idx => (args m c).dO (j 0) (j 1) : Vec Ideal S2048x1024 .bf16) := by
  refine (dats m 0 c).arrAt_eq_of_covers 3 _ (by decide +kernel) fun t hf y => ?_
  blk_simp
  rw [after0_3]
  refine (congrArg _ (ix2_eta (n0 := 512) (n1 := 1024) y).symm).trans ?_
  refine (outs_do_at m c t (y 0) (y 1)).trans (congrArg₂ (args m c).dO (Fin.ext ?_) (Fin.ext ?_)) <;>
  · blk_simp [idx t]
    try (show 512 * t.val + (y 0).val = _; omega)

theorem arr_dw (c : Dev nD) : (dats m 0 c).arrAt 4 cfg0.N
    = (fun j : S1024x1024.Idx => (args m c).dw (j 0) (j 1) : Vec Ideal S1024x1024 .bf16) := by
  refine (dats m 0 c).arrAt_eq_of_covers 4 _ (by decide +kernel) fun t hf y => ?_
  have ht := (flush0_4 t).mp hf
  blk_simp
  rw [after0_4]
  refine (congrArg _ (ix2_eta (n0 := 1024) (n1 := 1024) y).symm).trans ?_
  refine (outs_dw m c t ht (y 0) (y 1)).trans (congrArg₂ (args m c).dw (Fin.ext ?_) (Fin.ext ?_)) <;>
  · blk_simp [idx t]

theorem arr_db (c : Dev nD) : (dats m 0 c).arrAt 5 cfg0.N
    = (fun j : S8x1024.Idx => firstRow (j 0) ((args m c).db (j 1)) : Vec Ideal S8x1024 .f32) := by
  refine (dats m 0 c).arrAt_eq_of_covers 5 _ (by decide +kernel) fun t hf y => ?_
  have ht := (flush0_5 t).mp hf
  blk_simp
  rw [after0_5]
  refine (congrArg _ (ix2_eta (n0 := 8) (n1 := 1024) y).symm).trans ?_
  refine (outs_db m c t ht (y 0) (y 1)).trans
    (congrArg₂ (fun a d => firstRow a ((args m c).db d)) (Fin.ext ?_) (Fin.ext ?_)) <;>
  · blk_simp [idx t]

end Cert.OutBwdIdeal.Hand
-- ==== Proof.OutRef.lean ====
/- The reference of the gradient of the attention's output projection, every entry of its results as the formula of
   OutOuts, and: from agreeing arguments the kernel and its reference end with equal arrays. -/
module

public import proofs.«01_k».proof.Defs
public import proofs.«01_k».proof.Proof.Gen.OutBwdRefIdeal.Run
public import proofs.«01_k».proof.Proof.OutOuts
public import proofs.«01_k».proof.Proof.MlpRef

@[expose] public section

set_option maxRecDepth 16384

noncomputable section

namespace Cert.OutBwdRefIdeal.Hand

open Cert.OutBwdRefIdeal Cert.OutBwdRefIdeal.Value
open Idealize.ShloMosaic Idealize.ShloMosaic.TcCoe Idealize.ShloMosaic.Tactic
open Cert.MlpIdeal.Hand (firstRow)
open Cert.OutBwdIdeal.Hand (Args)
variable (m : (ℓ : Loc nD τ sig) → Buf (Elt Ideal) ℓ)

/-- The call's arrays as a device's memory holds them. -/
def args (c : Dev nD) : Args where
  o i k := m ((c.tc : Thread nD τ).loc main_arg0) (ix2 i k)
  w k d := m ((c.tc : Thread nD τ).loc main_arg1) (ix2 k d)
  dh i d := m ((c.tc : Thread nD τ).loc main_arg3) (ix2 i d)

/-- Every execution of the reference ends with the gradients of OutOuts and leaves its arguments as they were. -/
theorem run_args (ρ : Dev nD → PrngReg) :
    θ_run defs (onTc (τ := τ) (main (F := Ideal))) ⟨m, fun _ => 0, ρ⟩ fun r => ∀ c : Dev nD,
      r.2.mem ((c.tc : Thread nD τ).loc main_v11) = (fun j : S2048x1024.Idx => (args m c).dO (j 0) (j 1) : Vec Ideal S2048x1024 .bf16)
      ∧ r.2.mem ((c.tc : Thread nD τ).loc main_v12) = (fun j : S1024x1024.Idx => (args m c).dw (j 0) (j 1) : Vec Ideal S1024x1024 .bf16)
      ∧ r.2.mem ((c.tc : Thread nD τ).loc main_v15) = (fun j : S8x1024.Idx => firstRow (j 0) ((args m c).db (j 1)) : Vec Ideal S8x1024 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ⟨(h c).1.trans ?_, (h c).2.1.trans ?_, (h c).2.2.1.trans ?_, (h c).2.2.2⟩) (run m ρ) <;>
  clear h <;> funext j <;> idx_vars j
  · clean_types
    pointwise
    simp only [Args.dO, args]
  · clean_types
    pointwise
    simp only [Args.dw, args]
    exact Finset.sum_congr rfl fun _ _ => mul_comm _ _
  · exact Cert.MlpRefIdeal.Hand.dg_rows _ _ _

end Cert.OutBwdRefIdeal.Hand

namespace Cert.OutBwdIdeal.Hand

open Cert.OutBwdIdeal Cert.OutBwdIdeal.Gen
open Idealize.ShloMosaic Idealize.ShloMosaic.TcCoe Idealize.SL.Sem
open Cert.MlpIdeal.Hand (firstRow)
variable (m : (ℓ : Loc nD τ sig) → Buf (Elt Ideal) ℓ)

/-- Every execution of the kernel ends with the gradients of OutOuts and leaves its arguments as they were. -/
theorem run_args (ρ : Dev nD → PrngReg) :
    θ_run defs (onTc (τ := τ) (main (F := Ideal))) ⟨m, fun _ => 0, ρ⟩ fun r => ∀ c : Dev nD,
      r.2.mem ((c.tc : Thread nD τ).loc main_v2_0) = (fun j : S2048x1024.Idx => (args m c).dO (j 0) (j 1) : Vec Ideal S2048x1024 .bf16)
      ∧ r.2.mem ((c.tc : Thread nD τ).loc main_v2_1) = (fun j : S1024x1024.Idx => (args m c).dw (j 0) (j 1) : Vec Ideal S1024x1024 .bf16)
      ∧ r.2.mem ((c.tc : Thread nD τ).loc main_v2_2) = (fun j : S8x1024.Idx => firstRow (j 0) ((args m c).db (j 1)) : Vec Ideal S8x1024 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono
    (fun _ h c => ⟨((h.1 c).1 3).trans (arr_do m c), ((h.1 c).1 4).trans (arr_dw m c), ((h.1 c).1 5).trans (arr_db m c), h.2.1 c⟩)
    (θ_run_and (run_main (F := Ideal) m ρ) (frame (F := Ideal) m ρ))

end Cert.OutBwdIdeal.Hand

namespace Cert.Value

open Idealize.ShloMosaic Idealize.SL.Sem

theorem algebraic_out_bwd : Cert.algebraic_OutBwdIdeal_OutBwdRefIdeal := by
  intro m g m' g' _ agree
  have same : ∀ c, Cert.OutBwdRefIdeal.Hand.args m' c = Cert.OutBwdIdeal.Hand.args m c := fun c => by
    obtain ⟨h0, h1, h2, h3⟩ := agree c
    unfold Cert.OutBwdRefIdeal.Hand.args Cert.OutBwdIdeal.Hand.args
    rw [h0, h1, h3]
  refine ⟨_, _, _, Cert.OutBwdIdeal.Hand.run_args m g, ?_⟩
  have ran := Cert.OutBwdRefIdeal.Hand.run_args m' g'
  simp only [same] at ran
  exact ran

end Cert.Value

end
-- ==== Proof.QSpec.lean ====
/- The gradient of the attention's query projection and of the norm in front of it: what each row tile leaves in its
   buffers, as the kernel's payloads. -/
module

public import proofs.«01_k».proof.Proof.Gen.QBwdIdeal.Frame
public import proofs.«01_k».proof.Proof.MlpAlgebra

@[expose] public section

set_option maxRecDepth 16384

noncomputable section

namespace Cert.QBwdIdeal.Hand

open Cert.QBwdIdeal.Gen
open Idealize.ShloMosaic Idealize.ShloMosaic.TcCoe Idealize.ShloMosaic.Tactic
open Cert.MlpIdeal.Hand (rowOf rstd dhRow firstRow firstRow_add read_whole readAt_whole readCov_whole)

variable (m : (ℓ : Loc nD τ sig) → Buf (Elt Ideal) ℓ)

/-! ## The blocks a point is handed -/

abbrev hT (c : Dev nD) (t : Fin cfg0.N) : Vec Ideal S512x1024 .f32 := iblk m c 0 t
abbrev dhT (c : Dev nD) (t : Fin cfg0.N) : Vec Ideal S512x1024 .f32 := iblk m c 1 t
abbrev dqT (c : Dev nD) (t : Fin cfg0.N) : Vec Ideal S512x1024 .f32 := iblk m c 2 t
abbrev hnT (c : Dev nD) (t : Fin cfg0.N) : Vec Ideal S512x1024 .bf16 := iblk m c 3 t
abbrev gB (c : Dev nD) (t : Fin cfg0.N) : Vec Ideal S1x1024 .f32 := iblk m c 4 t
abbrev wB (c : Dev nD) (t : Fin cfg0.N) : Vec Ideal S1024x1024 .bf16 := iblk m c 5 t

/-! ## The payloads at an entry -/

/-- The gradient at the normed rows. -/
def u (q : Vec Ideal S512x1024 .f32) (w : Vec Ideal S1024x1024 .bf16) (a : Fin 512) (d : Fin 1024) : EReal :=
  ∑ k : Fin 1024, q (ix2 a k) * w (ix2 d k)

/-- A row tile of the input gradient, as the kernel's payloads. -/
abbrev dxPay (q h : Vec Ideal S512x1024 .f32) (g : Vec Ideal S1x1024 .f32) (w : Vec Ideal S1024x1024 .bf16) (o : Vec Ideal S512x1024 .f32) :
    Vec Ideal S512x1024 .f32 :=
  k0_pay12 (k0_pay5 q) h (k0_pay8 g) (k0_pay9 w) (constant S512x1024 .f32 0x00000000#32) o

/-- The norm gradient after a row tile, as the kernel's payloads. -/
abbrev dgPay (q h : Vec Ideal S512x1024 .f32) (w : Vec Ideal S1024x1024 .bf16) (y : Vec Ideal S8x1024 .f32) : Vec Ideal S8x1024 .f32 :=
  k0_pay13 (k0_pay5 q) h (k0_pay9 w) (constant S512x1024 .f32 0x00000000#32) y

theorem pay1_apply (y : Vec Ideal S1024x1024 .f32) (a d : Fin 1024) : k0_pay1 y (ix2 a d) = y (ix2 a d) := by
  pointwise [k0_pay1]

theorem pay2_apply (a d : Fin 1024) : (k0_pay2 (F := Ideal)) (ix2 a d) = 0 := by
  pointwise [k0_pay2]

theorem pay3_apply (a : Fin 8) (d : Fin 1024) : (k0_pay3 (F := Ideal)) (ix2 a d) = 0 := by
  pointwise [k0_pay3]

theorem pay4_apply (a : Fin 8) (d : Fin 1024) : (k0_pay4 (F := Ideal)) (ix2 a d) = 0 := by
  pointwise [k0_pay4]

theorem pay6_apply (q : Vec Ideal S512x1024 .f32) (y : Vec Ideal S1024x1024 .f32) (x : Vec Ideal S512x1024 .bf16) (d k : Fin 1024) :
    k0_pay6 q y x (ix2 d k) = y (ix2 d k) + ∑ a : Fin 512, x (ix2 a d) * q (ix2 a k) := by
  pointwise [k0_pay6, k0_pay5]

theorem pay7_apply (q : Vec Ideal S512x1024 .f32) (y : Vec Ideal S8x1024 .f32) (a : Fin 8) (k : Fin 1024) :
    k0_pay7 q y (ix2 a k) = y (ix2 a k) + firstRow a (∑ x : Fin 512, q (ix2 x k)) := by
  pointwise [k0_pay7]; rfl

theorem dxPay_apply (q h : Vec Ideal S512x1024 .f32) (g : Vec Ideal S1x1024 .f32) (w : Vec Ideal S1024x1024 .bf16) (o : Vec Ideal S512x1024 .f32)
    (a : Fin 512) (d : Fin 1024) :
    dxPay q h g w o (ix2 a d) = dhRow (fun d => h (ix2 a d)) (fun d => g (ix2 0 d)) (u q w a) (fun d => o (ix2 a d)) d := by
  pointwise [dxPay, k0_pay12, k0_pay11, k0_pay10, k0_pay9, k0_pay8, k0_pay5]; rfl

theorem dgPay_apply (q h : Vec Ideal S512x1024 .f32) (w : Vec Ideal S1024x1024 .bf16) (y : Vec Ideal S8x1024 .f32) (a : Fin 8) (d : Fin 1024) :
    dgPay q h w y (ix2 a d) = y (ix2 a d) + firstRow a (∑ x : Fin 512, u q w x d * h (ix2 x d) * rstd (fun d => h (ix2 x d))) := by
  pointwise [dgPay, k0_pay13, k0_pay11, k0_pay10, k0_pay9, k0_pay5]; rfl

/-! ## What a point leaves, as its payloads -/

theorem outs_first (c : Dev nD) (t : Fin cfg0.N) (h : t.val % 4 = 0) :
    (outsAt0 m c t.val t.isLt).1 = dxPay (dqT m c t) (hT m c t) (gB m c t) (wB m c t) (dhT m c t)
    ∧ (outsAt0 m c t.val t.isLt).2.2.1 = k0_pay7 (dqT m c t) (k0_pay3 (F := Ideal))
    ∧ (outsAt0 m c t.val t.isLt).2.2.2.1 = dgPay (dqT m c t) (hT m c t) (wB m c t) (k0_pay4 (F := Ideal))
    ∧ (outsAt0 m c t.val t.isLt).2.2.2.2 = k0_pay6 (dqT m c t) (k0_pay2 (F := Ideal)) (hnT m c t) := by
  rw [outsAt0_A m c t h (by omega)]
  dsimp only
  unfold out0_A_6 out0_A_8 out0_A_9 sout0_A_0 kernelRun0_A
  dsimp only
  refine ⟨?_, ?_, ?_, ?_⟩ <;> rw [read_whole _ _ (by decide)]
  · unfold kernelRun0_A.sl.r kernelRun0_A.sl.r_1 kernelRun0_A.sl.r_2 kernelRun0_A.sl.r_3 kernelRun0_A.sl.cst_21
    rw [readAt_whole (hs0_2 t) _ (by decide), readAt_whole (hs0_0 t) _ (by decide), readAt_whole (hs0_4 t) _ (by decide),
      readAt_whole (hs0_5 t) _ (by decide), readAt_whole (hs0_1 t) _ (by decide)]
  · unfold kernelRun0_A.sl.v13 kernelRun0_A.sl.H8_1
    rw [readAt_whole (hs0_2 t) _ (by decide), readCov_whole _ _ (by decide), read_whole _ _ (by decide)]
  · unfold kernelRun0_A.sl.r_4 kernelRun0_A.sl.r kernelRun0_A.sl.r_1 kernelRun0_A.sl.r_3 kernelRun0_A.sl.cst_21
      kernelRun0_A.sl.v62 kernelRun0_A.sl.H9_1
    rw [readAt_whole (hs0_2 t) _ (by decide), readAt_whole (hs0_0 t) _ (by decide), readAt_whole (hs0_5 t) _ (by decide),
      readCov_whole _ _ (by decide), read_whole _ _ (by decide)]
  · unfold kernelRun0_A.sl.v5 kernelRun0_A.sl.HS0_1
    rw [readAt_whole (hs0_2 t) _ (by decide), readAt_whole (hs0_3 t) _ (by decide), readCov_whole _ _ (by decide), read_whole _ _ (by decide)]

/-- The sum so far as a point finds it in the scratch. -/
theorem acc_back (y : Vec Ideal S1024x1024 .f32) :
    View.readAt (Elt Ideal) scM0_0.view (Rect.unit ![0, 0] S1024x1024.size inb_S1024x1024_S1024x1024_0_0).toLoadRect
      ((Memref.isWhole_whole cc0_scratch0).unread y) = y :=
  readAt_whole (M := scM0_0) (Memref.isWhole_whole cc0_scratch0) y (by decide) _

theorem outs_mid (c : Dev nD) (t : Fin cfg0.N) (h : t.val % 4 ≠ 0) (h3 : t.val % 4 ≠ 3) :
    (outsAt0 m c t.val t.isLt).1 = dxPay (dqT m c t) (hT m c t) (gB m c t) (wB m c t) (dhT m c t)
    ∧ (outsAt0 m c t.val t.isLt).2.2.1 = k0_pay7 (dqT m c t) (outsAt0 m c (t.val - 1) (by omega)).2.2.1
    ∧ (outsAt0 m c t.val t.isLt).2.2.2.1 = dgPay (dqT m c t) (hT m c t) (wB m c t) (outsAt0 m c (t.val - 1) (by omega)).2.2.2.1
    ∧ (outsAt0 m c t.val t.isLt).2.2.2.2 = k0_pay6 (dqT m c t) (outsAt0 m c (t.val - 1) (by omega)).2.2.2.2 (hnT m c t) := by
  rw [outsAt0_B m c t h h3]
  dsimp only
  unfold out0_B_6 out0_B_8 out0_B_9 sout0_B_0 kernelRun0_B
  dsimp only
  refine ⟨?_, ?_, ?_, ?_⟩ <;> rw [read_whole _ _ (by decide)]
  · unfold kernelRun0_B.sl.r kernelRun0_B.sl.r_1 kernelRun0_B.sl.r_2 kernelRun0_B.sl.r_3 kernelRun0_B.sl.cst_21
    rw [readAt_whole (hs0_2 t) _ (by decide), readAt_whole (hs0_0 t) _ (by decide), readAt_whole (hs0_4 t) _ (by decide),
      readAt_whole (hs0_5 t) _ (by decide), readAt_whole (hs0_1 t) _ (by decide)]
  · rw [readAt_whole (hs0_2 t) _ (by decide), readAt_whole (hs0_8 t) _ (by decide)]
  · unfold kernelRun0_B.sl.r_4 kernelRun0_B.sl.r kernelRun0_B.sl.r_1 kernelRun0_B.sl.r_3 kernelRun0_B.sl.cst_21
    rw [readAt_whole (hs0_2 t) _ (by decide), readAt_whole (hs0_0 t) _ (by decide), readAt_whole (hs0_5 t) _ (by decide),
      readAt_whole (hs0_9 t) _ (by decide)]
  · rw [readAt_whole (hs0_2 t) _ (by decide), readAt_whole (hs0_3 t) _ (by decide)]
    exact congrArg (k0_pay6 _ · _) (acc_back _)

theorem outs_last (c : Dev nD) (t : Fin cfg0.N) (h : t.val % 4 = 3) :
    (outsAt0 m c t.val t.isLt).1 = dxPay (dqT m c t) (hT m c t) (gB m c t) (wB m c t) (dhT m c t)
    ∧ (outsAt0 m c t.val t.isLt).2.1 = k0_pay1 (outsAt0 m c t.val t.isLt).2.2.2.2
    ∧ (outsAt0 m c t.val t.isLt).2.2.1 = k0_pay7 (dqT m c t) (outsAt0 m c (t.val - 1) (by omega)).2.2.1
    ∧ (outsAt0 m c t.val t.isLt).2.2.2.1 = dgPay (dqT m c t) (hT m c t) (wB m c t) (outsAt0 m c (t.val - 1) (by omega)).2.2.2.1
    ∧ (outsAt0 m c t.val t.isLt).2.2.2.2 = k0_pay6 (dqT m c t) (outsAt0 m c (t.val - 1) (by omega)).2.2.2.2 (hnT m c t) := by
  rw [outsAt0_C m c t (by omega) h]
  dsimp only
  unfold out0_C_6 out0_C_7 out0_C_8 out0_C_9 sout0_C_0 kernelRun0_C
  dsimp only
  refine ⟨?_, ?_, ?_, ?_, ?_⟩
  · rw [read_whole _ _ (by decide)]
    unfold kernelRun0_C.sl.r kernelRun0_C.sl.r_1 kernelRun0_C.sl.r_2 kernelRun0_C.sl.r_3 kernelRun0_C.sl.cst_21
    rw [readAt_whole (hs0_2 t) _ (by decide), readAt_whole (hs0_0 t) _ (by decide), readAt_whole (hs0_4 t) _ (by decide),
      readAt_whole (hs0_5 t) _ (by decide), readAt_whole (hs0_1 t) _ (by decide)]
  · unfold kernelRun0_C.sl.v78
    rw [read_whole _ _ (by decide), readCov_whole _ _ (by decide)]
  · rw [read_whole _ _ (by decide), readAt_whole (hs0_2 t) _ (by decide), readAt_whole (hs0_8 t) _ (by decide)]
  · rw [read_whole _ _ (by decide)]
    unfold kernelRun0_C.sl.r_4 kernelRun0_C.sl.r kernelRun0_C.sl.r_1 kernelRun0_C.sl.r_3 kernelRun0_C.sl.cst_21
    rw [readAt_whole (hs0_2 t) _ (by decide), readAt_whole (hs0_0 t) _ (by decide), readAt_whole (hs0_5 t) _ (by decide),
      readAt_whole (hs0_9 t) _ (by decide)]
  · unfold kernelRun0_C.sl.HS0_1
    rw [read_whole _ _ (by decide), readAt_whole (hs0_2 t) _ (by decide), readAt_whole (hs0_3 t) _ (by decide)]
    exact congrArg (k0_pay6 _ · _) (acc_back _)

theorem outs_dx (c : Dev nD) (t : Fin cfg0.N) :
    (outsAt0 m c t.val t.isLt).1 = dxPay (dqT m c t) (hT m c t) (gB m c t) (wB m c t) (dhT m c t) := by
  by_cases h : t.val % 4 = 0
  · exact (outs_first m c t h).1
  by_cases h3 : t.val % 4 = 3
  · exact (outs_last m c t h3).1
  · exact (outs_mid m c t h h3).1

/-- A later tile adds to what the tile before left. -/
theorem outs_next (c : Dev nD) (t : Fin cfg0.N) (h : t.val % 4 ≠ 0) :
    (outsAt0 m c t.val t.isLt).2.2.1 = k0_pay7 (dqT m c t) (outsAt0 m c (t.val - 1) (by omega)).2.2.1
    ∧ (outsAt0 m c t.val t.isLt).2.2.2.1 = dgPay (dqT m c t) (hT m c t) (wB m c t) (outsAt0 m c (t.val - 1) (by omega)).2.2.2.1
    ∧ (outsAt0 m c t.val t.isLt).2.2.2.2 = k0_pay6 (dqT m c t) (outsAt0 m c (t.val - 1) (by omega)).2.2.2.2 (hnT m c t) := by
  by_cases h3 : t.val % 4 = 3
  · exact (outs_last m c t h3).2.2
  · exact (outs_mid m c t h h3).2

end Cert.QBwdIdeal.Hand
-- ==== Proof.QOuts.lean ====
/- The gradient of the attention's query projection and of the norm in front of it as one formula for each entry of each
   result, over the extended reals, and the arrays the kernel ends with: every entry is that formula. -/
module

public import proofs.«01_k».proof.Proof.QSpec
public import proofs.«01_k».proof.Proof.RowTiles
public import Idealize.ShloMosaic.Lib.Claim
public import Idealize.ShloMosaic.Lib.StableHlo.ReadAt

@[expose] public section

set_option maxRecDepth 16384

noncomputable section

namespace Cert.QBwdIdeal.Hand

open Cert.QBwdIdeal.Gen
open Idealize.ShloMosaic Idealize.ShloMosaic.TcCoe Idealize.ShloMosaic.Tactic
open Cert.MlpIdeal.Hand (rowOf rstd dhRow firstRow firstRow_add)
open Cert.RowTiles

variable (m : (ℓ : Loc nD τ sig) → Buf (Elt Ideal) ℓ)

/-- The arrays the gradients depend on: the stream, the gains, the weights and the cotangents of the stream and of the
    query. -/
structure Args where
  h : Fin 2048 → Fin 1024 → EReal
  g : Fin 1024 → EReal
  w : Fin 1024 → Fin 1024 → EReal
  dh : Fin 2048 → Fin 1024 → EReal
  dq : Fin 2048 → Fin 1024 → EReal

namespace Args

variable (A : Args)

/-- The normed rows, and the gradient at them. -/
def hn (i : Fin 2048) (d : Fin 1024) : EReal := A.h i d * rstd (A.h i) * A.g d
def u (i : Fin 2048) (d : Fin 1024) : EReal := ∑ k, A.dq i k * A.w d k

/-- The four gradients. -/
def dx (i : Fin 2048) (d : Fin 1024) : EReal := dhRow (A.h i) A.g (A.u i) (A.dh i) d
def dw (d k : Fin 1024) : EReal := ∑ i, A.hn i d * A.dq i k
def db (k : Fin 1024) : EReal := ∑ i, A.dq i k
def dg (d : Fin 1024) : EReal := ∑ i, A.u i d * A.h i d * rstd (A.h i)

end Args

/-- The call's arrays as a device's memory holds them. -/
def args (c : Dev nD) : Args where
  h i d := m ((c.tc : Thread nD τ).loc main_arg0) (ix2 i d)
  g d := m ((c.tc : Thread nD τ).loc main_arg1) (ix1 d)
  w d k := m ((c.tc : Thread nD τ).loc main_arg2) (ix2 d k)
  dh i d := m ((c.tc : Thread nD τ).loc main_arg4) (ix2 i d)
  dq i k := m ((c.tc : Thread nD τ).loc main_arg5) (ix2 i k)

/-! ## The blocks of the operands -/

theorem entry_hn (c : Dev nD) (i : Fin 2048) (d : Fin 1024) : V m c main_v13 (ix2 i d) = (args m c).hn i d := by
  unfold V
  after_reads_at
  rfl

theorem entry_g (c : Dev nD) (d : Fin 1024) : V m c main_v14 (ix2 0 d) = (args m c).g d := by
  unfold V
  after_reads_at
  rfl

theorem entry_w (c : Dev nD) (d k : Fin 1024) : V m c main_v15 (ix2 d k) = (args m c).w d k := by
  unfold V
  after_reads_at
  rfl

theorem entry_h (c : Dev nD) (i : Fin 2048) (d : Fin 1024) : V m c main_arg0 (ix2 i d) = (args m c).h i d := by
  rw [V_main_arg0]; rfl

theorem entry_dh (c : Dev nD) (i : Fin 2048) (d : Fin 1024) : V m c main_arg4 (ix2 i d) = (args m c).dh i d := by
  rw [V_main_arg4]; rfl

theorem entry_dq (c : Dev nD) (i : Fin 2048) (k : Fin 1024) : V m c main_arg5 (ix2 i k) = (args m c).dq i k := by
  rw [V_main_arg5]; rfl

theorem idx (t : Fin cfg0.N) : win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![t.val, 0]
    ∧ win0_7.index t = ![0, 0] ∧ win0_8.index t = ![0, 0] ∧ win0_9.index t = ![0, 0] :=
  (by decide +kernel : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![t.val, 0]
    ∧ win0_7.index t = ![0, 0] ∧ win0_8.index t = ![0, 0] ∧ win0_9.index t = ![0, 0]) t

theorem pt_lt {n : ℕ} (hn : n < cfg0.N) : n < 4 := hn

theorem hT_at (c : Dev nD) (t : Fin cfg0.N) (a : Fin 512) (d : Fin 1024) :
    hT m c t (ix2 a d) = (args m c).h (rowOf t.val (pt_lt t.isLt) a) d := by
  rw [← entry_h]; unfold hT rowOf; blk_ext [iblk, idx t]

theorem dhT_at (c : Dev nD) (t : Fin cfg0.N) (a : Fin 512) (d : Fin 1024) :
    dhT m c t (ix2 a d) = (args m c).dh (rowOf t.val (pt_lt t.isLt) a) d := by
  rw [← entry_dh]; unfold dhT rowOf; blk_ext [iblk, idx t]

theorem dqT_at (c : Dev nD) (t : Fin cfg0.N) (a : Fin 512) (k : Fin 1024) :
    dqT m c t (ix2 a k) = (args m c).dq (rowOf t.val (pt_lt t.isLt) a) k := by
  rw [← entry_dq]; unfold dqT rowOf; blk_ext [iblk, idx t]

theorem hnT_at (c : Dev nD) (t : Fin cfg0.N) (a : Fin 512) (d : Fin 1024) :
    hnT m c t (ix2 a d) = (args m c).hn (rowOf t.val (pt_lt t.isLt) a) d := by
  rw [← entry_hn]; unfold hnT rowOf; blk_ext [iblk, idx t]

theorem gB_at (c : Dev nD) (t : Fin cfg0.N) (d : Fin 1024) : gB m c t (ix2 0 d) = (args m c).g d := by
  rw [← entry_g]; unfold gB; blk_ext [iblk, idx t]

theorem wB_at (c : Dev nD) (t : Fin cfg0.N) (d k : Fin 1024) : wB m c t (ix2 d k) = (args m c).w d k := by
  rw [← entry_w]; unfold wB; blk_ext [iblk, idx t]

theorem u_at (c : Dev nD) (t : Fin cfg0.N) (a : Fin 512) (d : Fin 1024) :
    u (dqT m c t) (wB m c t) a d = (args m c).u (rowOf t.val (pt_lt t.isLt) a) d := by
  unfold u Args.u
  simp only [dqT_at, wB_at]

/-! ## What the points leave -/

theorem outs_dx_at (c : Dev nD) (t : Fin cfg0.N) (a : Fin 512) (d : Fin 1024) :
    (outsAt0 m c t.val t.isLt).1 (ix2 a d) = (args m c).dx (rowOf t.val (pt_lt t.isLt) a) d := by
  rw [outs_dx, dxPay_apply]
  unfold Args.dx
  rw [show u (dqT m c t) (wB m c t) a = (args m c).u (rowOf t.val (pt_lt t.isLt) a) from funext (u_at m c t a)]
  simp only [hT_at, dhT_at, gB_at]

theorem dw_tile (c : Dev nD) (t : Fin cfg0.N) (d k : Fin 1024) :
    ∑ a : Fin 512, hnT m c t (ix2 a d) * dqT m c t (ix2 a k) = tile (fun i => (args m c).hn i d * (args m c).dq i k) t.val := by
  rw [← tile_of _ _ (pt_lt t.isLt)]
  simp only [hnT_at, dqT_at]

theorem db_tile (c : Dev nD) (t : Fin cfg0.N) (k : Fin 1024) :
    ∑ a : Fin 512, dqT m c t (ix2 a k) = tile (fun i => (args m c).dq i k) t.val := by
  rw [← tile_of _ _ (pt_lt t.isLt)]
  simp only [dqT_at]

theorem dg_tile (c : Dev nD) (t : Fin cfg0.N) (d : Fin 1024) :
    ∑ a : Fin 512, u (dqT m c t) (wB m c t) a d * hT m c t (ix2 a d) * rstd (fun d => hT m c t (ix2 a d))
      = tile (fun i => (args m c).u i d * (args m c).h i d * rstd ((args m c).h i)) t.val := by
  rw [← tile_of _ _ (pt_lt t.isLt)]
  simp only [u_at, hT_at]

theorem acc_at (c : Dev nD) (d k : Fin 1024) (n : ℕ) (hn : n < cfg0.N) :
    (outsAt0 m c n hn).2.2.2.2 (ix2 d k)
      = ∑ j ∈ Finset.range (n + 1), tile (fun i => (args m c).hn i d * (args m c).dq i k) j :=
  run_tile cfg0.N _ (fun n hn => (outsAt0 m c n hn).2.2.2.2 (ix2 d k))
    (fun h => by
      refine (congrFun (outs_first m c ⟨0, h⟩ rfl).2.2.2 _).trans ?_
      rw [pay6_apply, pay2_apply, dw_tile, zero_add])
    (fun n h => by
      refine (congrFun (outs_next m c ⟨n + 1, h⟩ (by have := pt_lt h; dsimp only; omega)).2.2 _).trans ?_
      rw [pay6_apply, dw_tile]; rfl) n hn

theorem sum_db (c : Dev nD) (a : Fin 8) (k : Fin 1024) (n : ℕ) (hn : n < cfg0.N) :
    (outsAt0 m c n hn).2.2.1 (ix2 a k) = firstRow a (∑ j ∈ Finset.range (n + 1), tile (fun i => (args m c).dq i k) j) :=
  run_row cfg0.N a _ (fun n hn => (outsAt0 m c n hn).2.2.1 (ix2 a k))
    (fun h => by
      refine (congrFun (outs_first m c ⟨0, h⟩ rfl).2.1 _).trans ?_
      rw [pay7_apply, pay3_apply, db_tile, zero_add])
    (fun n h => by
      refine (congrFun (outs_next m c ⟨n + 1, h⟩ (by have := pt_lt h; dsimp only; omega)).1 _).trans ?_
      rw [pay7_apply, db_tile]; rfl) n hn

theorem sum_dg (c : Dev nD) (a : Fin 8) (d : Fin 1024) (n : ℕ) (hn : n < cfg0.N) :
    (outsAt0 m c n hn).2.2.2.1 (ix2 a d)
      = firstRow a (∑ j ∈ Finset.range (n + 1), tile (fun i => (args m c).u i d * (args m c).h i d * rstd ((args m c).h i)) j) :=
  run_row cfg0.N a _ (fun n hn => (outsAt0 m c n hn).2.2.2.1 (ix2 a d))
    (fun h => by
      refine (congrFun (outs_first m c ⟨0, h⟩ rfl).2.2.1 _).trans ?_
      rw [dgPay_apply, pay4_apply, dg_tile, zero_add])
    (fun n h => by
      refine (congrFun (outs_next m c ⟨n + 1, h⟩ (by have := pt_lt h; dsimp only; omega)).2.1 _).trans ?_
      rw [dgPay_apply, dg_tile]; rfl) n hn

theorem outs_dw (c : Dev nD) (t : Fin cfg0.N) (h : t.val % 4 = 3) (d k : Fin 1024) :
    (outsAt0 m c t.val t.isLt).2.1 (ix2 d k) = (args m c).dw d k := by
  have ht := pt_lt t.isLt
  rw [(outs_last m c t h).2.1, pay1_apply, acc_at, show t.val = 3 by omega]
  exact sum_tile _

theorem outs_db (c : Dev nD) (t : Fin cfg0.N) (h : t.val % 4 = 3) (a : Fin 8) (k : Fin 1024) :
    (outsAt0 m c t.val t.isLt).2.2.1 (ix2 a k) = firstRow a ((args m c).db k) := by
  have ht := pt_lt t.isLt
  rw [sum_db, show t.val = 3 by omega]
  exact congrArg (firstRow a) (sum_tile _)

theorem outs_dg (c : Dev nD) (t : Fin cfg0.N) (h : t.val % 4 = 3) (a : Fin 8) (d : Fin 1024) :
    (outsAt0 m c t.val t.isLt).2.2.2.1 (ix2 a d) = firstRow a ((args m c).dg d) := by
  have ht := pt_lt t.isLt
  rw [sum_dg, show t.val = 3 by omega]
  exact congrArg (firstRow a) (sum_tile _)

/-! ## The arrays -/

theorem arr_dx (c : Dev nD) : (dats m 0 c).arrAt 6 cfg0.N
    = (fun j : S2048x1024.Idx => (args m c).dx (j 0) (j 1) : Vec Ideal S2048x1024 .f32) := by
  refine (dats m 0 c).arrAt_eq_of_covers 6 _ (by decide +kernel) fun t hf y => ?_
  blk_simp
  rw [after0_6]
  refine (congrArg _ (ix2_eta (n0 := 512) (n1 := 1024) y).symm).trans ?_
  refine (outs_dx_at m c t (y 0) (y 1)).trans (congrArg₂ (args m c).dx (Fin.ext ?_) (Fin.ext ?_)) <;>
  · blk_simp [idx t]
    try (show 512 * t.val + (y 0).val = _; omega)

theorem arr_dw (c : Dev nD) : (dats m 0 c).arrAt 7 cfg0.N
    = (fun j : S1024x1024.Idx => (args m c).dw (j 0) (j 1) : Vec Ideal S1024x1024 .bf16) := by
  refine (dats m 0 c).arrAt_eq_of_covers 7 _ (by decide +kernel) fun t hf y => ?_
  have ht := (flush0_7 t).mp hf
  blk_simp
  rw [after0_7]
  refine (congrArg _ (ix2_eta (n0 := 1024) (n1 := 1024) y).symm).trans ?_
  refine (outs_dw m c t ht (y 0) (y 1)).trans (congrArg₂ (args m c).dw (Fin.ext ?_) (Fin.ext ?_)) <;>
  · blk_simp [idx t]

theorem arr_db (c : Dev nD) : (dats m 0 c).arrAt 8 cfg0.N
    = (fun j : S8x1024.Idx => firstRow (j 0) ((args m c).db (j 1)) : Vec Ideal S8x1024 .f32) := by
  refine (dats m 0 c).arrAt_eq_of_covers 8 _ (by decide +kernel) fun t hf y => ?_
  have ht := (flush0_8 t).mp hf
  blk_simp
  rw [after0_8]
  refine (congrArg _ (ix2_eta (n0 := 8) (n1 := 1024) y).symm).trans ?_
  refine (outs_db m c t ht (y 0) (y 1)).trans
    (congrArg₂ (fun a d => firstRow a ((args m c).db d)) (Fin.ext ?_) (Fin.ext ?_)) <;>
  · blk_simp [idx t]

theorem arr_dg (c : Dev nD) : (dats m 0 c).arrAt 9 cfg0.N
    = (fun j : S8x1024.Idx => firstRow (j 0) ((args m c).dg (j 1)) : Vec Ideal S8x1024 .f32) := by
  refine (dats m 0 c).arrAt_eq_of_covers 9 _ (by decide +kernel) fun t hf y => ?_
  have ht := (flush0_9 t).mp hf
  blk_simp
  rw [after0_9]
  refine (congrArg _ (ix2_eta (n0 := 8) (n1 := 1024) y).symm).trans ?_
  refine (outs_dg m c t ht (y 0) (y 1)).trans
    (congrArg₂ (fun a d => firstRow a ((args m c).dg d)) (Fin.ext ?_) (Fin.ext ?_)) <;>
  · blk_simp [idx t]

end Cert.QBwdIdeal.Hand
-- ==== Proof.QRef.lean ====
/- The reference of the gradient of the attention's query projection and of the norm in front of it, every entry of its
   results as the formula of QOuts, and: from agreeing arguments the kernel and its reference end with equal arrays. -/
module

public import proofs.«01_k».proof.Defs
public import proofs.«01_k».proof.Proof.Gen.QBwdRefIdeal.Run
public import proofs.«01_k».proof.Proof.QOuts
public import proofs.«01_k».proof.Proof.MlpRef

@[expose] public section

set_option maxRecDepth 16384

noncomputable section

namespace Cert.QBwdRefIdeal.Hand

open Cert.QBwdRefIdeal Cert.QBwdRefIdeal.Value
open Idealize.ShloMosaic Idealize.ShloMosaic.TcCoe Idealize.ShloMosaic.Tactic
open Cert.MlpIdeal.Hand (firstRow rstd through meanSq row_eq)
open Cert.MlpRefIdeal.Hand (dg_rows)
open Cert.QBwdIdeal.Hand (Args)
variable (m : (ℓ : Loc nD τ sig) → Buf (Elt Ideal) ℓ)

/-- The call's arrays as a device's memory holds them. -/
def args (c : Dev nD) : Args where
  h i d := m ((c.tc : Thread nD τ).loc main_arg0) (ix2 i d)
  g d := m ((c.tc : Thread nD τ).loc main_arg1) (ix1 d)
  w d k := m ((c.tc : Thread nD τ).loc main_arg2) (ix2 d k)
  dh i d := m ((c.tc : Thread nD τ).loc main_arg4) (ix2 i d)
  dq i k := m ((c.tc : Thread nD τ).loc main_arg5) (ix2 i k)

theorem dx_at (c : Dev nD) (i : Fin 2048) (d : Fin 1024) : res_main_v47 m c (ix2 i d) = (args m c).dx i d := by
  unfold Args.dx
  rw [← row_eq]
  unfold res_main_v47
  clean_types
  pointwise
  simp only [through, meanSq, Args.u, rstd, args]

/-- Every execution of the reference ends with the gradients of QOuts and leaves its arguments as they were. -/
theorem run_args (ρ : Dev nD → PrngReg) :
    θ_run defs (onTc (τ := τ) (main (F := Ideal))) ⟨m, fun _ => 0, ρ⟩ fun r => ∀ c : Dev nD,
      r.2.mem ((c.tc : Thread nD τ).loc main_v47) = (fun j : S2048x1024.Idx => (args m c).dx (j 0) (j 1) : Vec Ideal S2048x1024 .f32)
      ∧ r.2.mem ((c.tc : Thread nD τ).loc main_v48) = (fun j : S1024x1024.Idx => (args m c).dw (j 0) (j 1) : Vec Ideal S1024x1024 .bf16)
      ∧ r.2.mem ((c.tc : Thread nD τ).loc main_v51) = (fun j : S8x1024.Idx => firstRow (j 0) ((args m c).db (j 1)) : Vec Ideal S8x1024 .f32)
      ∧ r.2.mem ((c.tc : Thread nD τ).loc main_v54) = (fun j : S8x1024.Idx => firstRow (j 0) ((args m c).dg (j 1)) : Vec Ideal S8x1024 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ⟨(h c).1.trans ?_, (h c).2.1.trans ?_, (h c).2.2.1.trans ?_, (h c).2.2.2.1.trans ?_,
    (h c).2.2.2.2⟩) (run m ρ) <;>
  clear h <;> funext j <;> idx_vars j
  · exact dx_at m c _ _
  · clean_types
    pointwise
    simp only [Args.dw, Args.hn, rstd, args]
    exact Finset.sum_congr rfl fun _ _ => mul_comm _ _
  · exact dg_rows _ _ _
  · refine (dg_rows _ _ _).trans (congrArg (firstRow _) (Finset.sum_congr rfl fun i _ => ?_))
    clean_types
    pointwise
    simp only [Args.u, rstd, args]
    rw [mul_comm, ← mul_assoc]

end Cert.QBwdRefIdeal.Hand

namespace Cert.QBwdIdeal.Hand

open Cert.QBwdIdeal Cert.QBwdIdeal.Gen
open Idealize.ShloMosaic Idealize.ShloMosaic.TcCoe Idealize.SL.Sem
open Cert.MlpIdeal.Hand (firstRow)
variable (m : (ℓ : Loc nD τ sig) → Buf (Elt Ideal) ℓ)

/-- Every execution of the kernel ends with the gradients of QOuts and leaves its arguments as they were. -/
theorem run_args (ρ : Dev nD → PrngReg) :
    θ_run defs (onTc (τ := τ) (main (F := Ideal))) ⟨m, fun _ => 0, ρ⟩ fun r => ∀ c : Dev nD,
      r.2.mem ((c.tc : Thread nD τ).loc main_v16_0) = (fun j : S2048x1024.Idx => (args m c).dx (j 0) (j 1) : Vec Ideal S2048x1024 .f32)
      ∧ r.2.mem ((c.tc : Thread nD τ).loc main_v16_1) = (fun j : S1024x1024.Idx => (args m c).dw (j 0) (j 1) : Vec Ideal S1024x1024 .bf16)
      ∧ r.2.mem ((c.tc : Thread nD τ).loc main_v16_2) = (fun j : S8x1024.Idx => firstRow (j 0) ((args m c).db (j 1)) : Vec Ideal S8x1024 .f32)
      ∧ r.2.mem ((c.tc : Thread nD τ).loc main_v16_3) = (fun j : S8x1024.Idx => firstRow (j 0) ((args m c).dg (j 1)) : Vec Ideal S8x1024 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono
    (fun _ h c => ⟨((h.1 c).1 6).trans (arr_dx m c), ((h.1 c).1 7).trans (arr_dw m c), ((h.1 c).1 8).trans (arr_db m c),
      ((h.1 c).1 9).trans (arr_dg m c), h.2.1 c⟩)
    (θ_run_and (run_main (F := Ideal) m ρ) (frame (F := Ideal) m ρ))

end Cert.QBwdIdeal.Hand

namespace Cert.Value

open Idealize.ShloMosaic Idealize.SL.Sem

theorem algebraic_q_bwd : Cert.algebraic_QBwdIdeal_QBwdRefIdeal := by
  intro m g m' g' _ agree
  have same : ∀ c, Cert.QBwdRefIdeal.Hand.args m' c = Cert.QBwdIdeal.Hand.args m c := fun c => by
    obtain ⟨h0, h1, h2, h3, h4, h5⟩ := agree c
    unfold Cert.QBwdRefIdeal.Hand.args Cert.QBwdIdeal.Hand.args
    rw [h0, h1, h2, h4, h5]
  refine ⟨_, _, _, _, Cert.QBwdIdeal.Hand.run_args m g, ?_⟩
  have ran := Cert.QBwdRefIdeal.Hand.run_args m' g'
  simp only [same] at ran
  exact ran

end Cert.Value

end
-- ==== Proof.Spread.lean ====
/- The matrix that repeats a key's or a value's head for its four query heads: each entry as zero or one, and what a
   product with it is: forward the head taken again, backward the sum over the four. -/
module

public import proofs.«01_k».proof.Proof.MlpAlgebra

@[expose] public section

set_option maxRecDepth 16384

noncomputable section

namespace Cert.Spread

open Idealize.ShloMosaic

/-- The column of the key that column `d` of the repeated key is. -/
def src (d : Fin 1024) : Fin 256 := ⟨64 * (d.val / 256) + d.val % 64, by omega⟩

/-- The four columns of the repeated key that column `r` of the key becomes. -/
def pos (r : Fin 256) (g : Fin 4) : Fin 1024 := ⟨r.val / 64 * 256 + g.val * 64 + r.val % 64, by omega⟩

/-- The matrix. -/
def one (r : Fin 256) (d : Fin 1024) : EReal := if r = src d then 1 else 0

theorem sum_src (f : Fin 256 → EReal) (d : Fin 1024) : ∑ r, f r * one r d = f (src d) := by
  simp only [one, mul_ite, mul_one, mul_zero, Finset.sum_ite_eq', Finset.sum_ite_eq, Finset.mem_univ, if_true]

theorem sum_pos (f : Fin 1024 → EReal) (r : Fin 256) : ∑ d, f d * one r d = ∑ g, f (pos r g) := by
  simp only [one, mul_ite, mul_one, mul_zero]
  rw [← Finset.sum_filter]
  have back : ∀ d : Fin 1024, r = src d → pos r ⟨d.val / 64 % 4, by omega⟩ = d := fun d h => by
    refine Fin.ext ?_
    subst h
    unfold pos src
    dsimp only
    omega
  refine Finset.sum_nbij' (fun d => ⟨d.val / 64 % 4, by omega⟩) (pos r) (fun _ _ => Finset.mem_univ _) (fun g _ => ?_)
    (fun d hd => back d (Finset.mem_filter.mp hd).2) (fun g _ => ?_) (fun d hd => ?_)
  · refine Finset.mem_filter.mpr ⟨Finset.mem_univ _, Fin.ext ?_⟩
    unfold pos src
    dsimp only
    omega
  · refine Fin.ext ?_
    unfold pos
    dsimp only
    omega
  · rw [back d (Finset.mem_filter.mp hd).2]

/-! ## The host's words -/

/-- The sign of a word. -/
def sign (x : BitVec 32) : BitVec 32 := if x = 0 then 0 else if x.msb = true then -1 else 1

/-- The quotient rounded down, and the remainder that goes with it, as the host computes them. -/
def quotient (x y : BitVec 32) : BitVec 32 :=
  Scalar.select
    (IntOp.andi (IntOp.cmpi .ne (sign x) (sign y))
      (IntOp.cmpi .ne (IntOp.remsi .host x y) 0#32))
    (IntOp.subi (IntOp.divsi .host x y) 1#32) (IntOp.divsi .host x y)

def remainder (x y : BitVec 32) : BitVec 32 :=
  Scalar.select
    (IntOp.andi
      (IntOp.cmpi .ne
        (IntOp.cmpi .slt (IntOp.remsi .host x (Scalar.select (IntOp.cmpi .eq y 0#32) 1#32 y)) 0#32)
        (IntOp.cmpi .slt (Scalar.select (IntOp.cmpi .eq y 0#32) 1#32 y) 0#32))
      (IntOp.cmpi .ne (IntOp.remsi .host x (Scalar.select (IntOp.cmpi .eq y 0#32) 1#32 y)) 0#32))
    (IntOp.addi (IntOp.remsi .host x (Scalar.select (IntOp.cmpi .eq y 0#32) 1#32 y)) (Scalar.select (IntOp.cmpi .eq y 0#32) 1#32 y))
    (IntOp.remsi .host x (Scalar.select (IntOp.cmpi .eq y 0#32) 1#32 y))

theorem quotient_col (d : Fin 1024) : quotient (BitVec.ofNat 32 d.val) 256#32 = BitVec.ofNat 32 (d.val / 256) :=
  (by decide +kernel : ∀ d : Fin 1024, quotient (BitVec.ofNat 32 d.val) 256#32 = BitVec.ofNat 32 (d.val / 256)) d

theorem quotient_row (r : Fin 256) : quotient (BitVec.ofNat 32 r.val) 64#32 = BitVec.ofNat 32 (r.val / 64) :=
  (by decide +kernel : ∀ r : Fin 256, quotient (BitVec.ofNat 32 r.val) 64#32 = BitVec.ofNat 32 (r.val / 64)) r

theorem remainder_col (d : Fin 1024) : remainder (BitVec.ofNat 32 d.val) 64#32 = BitVec.ofNat 32 (d.val % 64) :=
  (by decide +kernel : ∀ d : Fin 1024, remainder (BitVec.ofNat 32 d.val) 64#32 = BitVec.ofNat 32 (d.val % 64)) d

theorem remainder_row (r : Fin 256) : remainder (BitVec.ofNat 32 r.val) 64#32 = BitVec.ofNat 32 (r.val % 64) :=
  remainder_col ⟨r.val, by omega⟩

theorem equal_words (a b : ℕ) (ha : a < 1024) (hb : b < 1024) :
    IntOp.cmpi .eq (BitVec.ofNat 32 a) (BitVec.ofNat 32 b) = if a = b then 1#1 else 0#1 := by
  by_cases h : a = b
  · subst h
    rw [if_pos rfl]
    simp [IntOp.cmpi]
  · have hn : BitVec.ofNat 32 a ≠ BitVec.ofNat 32 b := fun he => by
      have := congrArg BitVec.toNat he
      simp only [BitVec.toNat_ofNat] at this
      omega
    rw [if_neg h]
    rw [IntOp.cmpi, beq_eq_false_iff_ne.mpr hn]
    rfl

theorem entry (r : Fin 256) (d : Fin 1024) :
    (FloatOps.uitofp (F := Ideal) .bf16 (IntOp.andi
      (IntOp.cmpi .eq (quotient (BitVec.ofNat 32 d.val) 256#32) (quotient (BitVec.ofNat 32 r.val) 64#32))
      (IntOp.cmpi .eq (remainder (BitVec.ofNat 32 d.val) 64#32) (remainder (BitVec.ofNat 32 r.val) 64#32))) : EReal) = one r d := by
  rw [quotient_col, quotient_row, remainder_col, remainder_row, equal_words _ _ (by omega) (by omega),
    equal_words _ _ (by omega) (by omega)]
  have same : r = src d ↔ d.val / 256 = r.val / 64 ∧ d.val % 64 = r.val % 64 := by
    rw [Fin.ext_iff]
    unfold src
    dsimp only
    omega
  unfold one
  by_cases hq : d.val / 256 = r.val / 64 <;> by_cases hr : d.val % 64 = r.val % 64 <;>
    simp [same, hq, hr, IntOp.andi, FloatOps.uitofp]

end Cert.Spread

end
-- ==== Proof.PreOuts.lean ====
/- The two norms and the three projections in front of the attention as one formula for each entry of each result, over
   the extended reals, and the arrays the kernel ends with: every entry is that formula. -/
module

public import proofs.«01_k».proof.Proof.Gen.AttnPreIdeal.Frame
public import proofs.«01_k».proof.Proof.Spread
public import Idealize.ShloMosaic.Lib.Claim
public import Idealize.ShloMosaic.Lib.StableHlo.ReadAt

@[expose] public section

set_option maxRecDepth 16384

noncomputable section

namespace Cert.AttnPreIdeal.Hand

open Cert.AttnPreIdeal.Gen
open Idealize.ShloMosaic Idealize.ShloMosaic.TcCoe Idealize.ShloMosaic.Tactic
open Cert.MlpIdeal.Hand (rowOf rstd)
open Cert.Spread (src one sum_src)

variable (m : (ℓ : Loc nD τ sig) → Buf (Elt Ideal) ℓ)

/-- The arrays the results depend on: the stream, the gains of the two norms, and the weights and biases of the key and
    value projection and of the query projection. -/
structure Args where
  h : Fin 2048 → Fin 1024 → EReal
  gkv : Fin 1024 → EReal
  g : Fin 1024 → EReal
  wkv : Fin 1024 → Fin 512 → EReal
  bkv : Fin 512 → EReal
  wq : Fin 1024 → Fin 1024 → EReal
  bq : Fin 1024 → EReal

/-- A key's column, and a value's, among the columns of the two together. -/
def keyCol (r : Fin 256) : Fin 512 := ⟨r.val, by omega⟩
def valCol (r : Fin 256) : Fin 512 := ⟨256 + r.val, by omega⟩

namespace Args

variable (A : Args)

/-- The normed rows for the key and value, and for the query. -/
def kvn (i : Fin 2048) (d : Fin 1024) : EReal := A.h i d * rstd (A.h i) * A.gkv d
def hn (i : Fin 2048) (d : Fin 1024) : EReal := A.h i d * rstd (A.h i) * A.g d

/-- The key and the value side by side. -/
def kv (i : Fin 2048) (k : Fin 512) : EReal := ∑ d, A.kvn i d * A.wkv d k + A.bkv k

/-- The key and the value with each head repeated, and the query. -/
def key (i : Fin 2048) (d : Fin 1024) : EReal := A.kv i (keyCol (src d))
def val (i : Fin 2048) (d : Fin 1024) : EReal := A.kv i (valCol (src d))
def q (i : Fin 2048) (k : Fin 1024) : EReal := ∑ d, A.hn i d * A.wq d k + A.bq k

end Args

/-- The call's arrays as a device's memory holds them. -/
def args (c : Dev nD) : Args where
  h i d := m ((c.tc : Thread nD τ).loc main_arg0) (ix2 i d)
  gkv d := m ((c.tc : Thread nD τ).loc main_arg1) (ix1 d)
  g d := m ((c.tc : Thread nD τ).loc main_arg2) (ix1 d)
  wkv d k := m ((c.tc : Thread nD τ).loc main_arg3) (ix2 d k)
  bkv k := m ((c.tc : Thread nD τ).loc main_arg4) (ix1 k)
  wq d k := m ((c.tc : Thread nD τ).loc main_arg5) (ix2 d k)
  bq k := m ((c.tc : Thread nD τ).loc main_arg6) (ix1 k)

/-! ## The blocks of the operands -/

abbrev hT (c : Dev nD) (t : Fin cfg0.N) : Vec Ideal S512x1024 .f32 := iblk m c 0 t
abbrev gkvB (c : Dev nD) (t : Fin cfg0.N) : Vec Ideal S1x1024 .f32 := iblk m c 1 t
abbrev gB (c : Dev nD) (t : Fin cfg0.N) : Vec Ideal S1x1024 .f32 := iblk m c 2 t
abbrev wkvB (c : Dev nD) (t : Fin cfg0.N) : Vec Ideal S1024x512 .bf16 := iblk m c 3 t
abbrev bkvB (c : Dev nD) (t : Fin cfg0.N) : Vec Ideal S1x512 .f32 := iblk m c 4 t
abbrev spB (c : Dev nD) (t : Fin cfg0.N) : Vec Ideal S256x1024 .bf16 := iblk m c 5 t
abbrev wqB (c : Dev nD) (t : Fin cfg0.N) : Vec Ideal S1024x1024 .bf16 := iblk m c 6 t
abbrev bqB (c : Dev nD) (t : Fin cfg0.N) : Vec Ideal S1x1024 .f32 := iblk m c 7 t

theorem entry_h (c : Dev nD) (i : Fin 2048) (d : Fin 1024) : V m c main_arg0 (ix2 i d) = (args m c).h i d := by
  rw [V_main_arg0]; rfl

theorem entry_gkv (c : Dev nD) (d : Fin 1024) : V m c main_v0 (ix2 0 d) = (args m c).gkv d := by
  unfold V
  after_reads_at
  rfl

theorem entry_g (c : Dev nD) (d : Fin 1024) : V m c main_v1 (ix2 0 d) = (args m c).g d := by
  unfold V
  after_reads_at
  rfl

theorem entry_wkv (c : Dev nD) (d : Fin 1024) (k : Fin 512) : V m c main_v2 (ix2 d k) = (args m c).wkv d k := by
  unfold V
  after_reads_at
  rfl

theorem entry_bkv (c : Dev nD) (k : Fin 512) : V m c main_v3 (ix2 0 k) = (args m c).bkv k := by
  unfold V
  after_reads_at
  rfl

theorem entry_sp (c : Dev nD) (r : Fin 256) (d : Fin 1024) : V m c main_v13 (ix2 r d) = one r d := by
  unfold V
  after_reads_at
  exact Cert.Spread.entry r d

theorem entry_wq (c : Dev nD) (d k : Fin 1024) : V m c main_v14 (ix2 d k) = (args m c).wq d k := by
  unfold V
  after_reads_at
  rfl

theorem entry_bq (c : Dev nD) (k : Fin 1024) : V m c main_v15 (ix2 0 k) = (args m c).bq k := by
  unfold V
  after_reads_at
  rfl

theorem idx (t : Fin cfg0.N) : win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![t.val, 0] ∧ win0_9.index t = ![t.val, 0] ∧ win0_10.index t = ![t.val, 0]
    ∧ win0_11.index t = ![t.val, 0] ∧ win0_12.index t = ![t.val, 0] :=
  (by decide +kernel : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![t.val, 0] ∧ win0_9.index t = ![t.val, 0] ∧ win0_10.index t = ![t.val, 0]
    ∧ win0_11.index t = ![t.val, 0] ∧ win0_12.index t = ![t.val, 0]) t

theorem pt_lt {n : ℕ} (hn : n < cfg0.N) : n < 4 := hn

/-- The row of the stream that row `a` of tile `t` is. -/
abbrev row (t : Fin cfg0.N) (a : Fin 512) : Fin 2048 := rowOf t.val (pt_lt t.isLt) a

theorem hT_at (c : Dev nD) (t : Fin cfg0.N) (a : Fin 512) (d : Fin 1024) : hT m c t (ix2 a d) = (args m c).h (row t a) d := by
  rw [← entry_h]; unfold hT row rowOf; blk_ext [iblk, idx t]

theorem gkvB_at (c : Dev nD) (t : Fin cfg0.N) (d : Fin 1024) : gkvB m c t (ix2 0 d) = (args m c).gkv d := by
  rw [← entry_gkv]; unfold gkvB; blk_ext [iblk, idx t]

theorem gB_at (c : Dev nD) (t : Fin cfg0.N) (d : Fin 1024) : gB m c t (ix2 0 d) = (args m c).g d := by
  rw [← entry_g]; unfold gB; blk_ext [iblk, idx t]

theorem wkvB_at (c : Dev nD) (t : Fin cfg0.N) (d : Fin 1024) (k : Fin 512) : wkvB m c t (ix2 d k) = (args m c).wkv d k := by
  rw [← entry_wkv]; unfold wkvB; blk_ext [iblk, idx t]

theorem bkvB_at (c : Dev nD) (t : Fin cfg0.N) (k : Fin 512) : bkvB m c t (ix2 0 k) = (args m c).bkv k := by
  rw [← entry_bkv]; unfold bkvB; blk_ext [iblk, idx t]

theorem spB_at (c : Dev nD) (t : Fin cfg0.N) (r : Fin 256) (d : Fin 1024) : spB m c t (ix2 r d) = one r d := by
  rw [← entry_sp]; unfold spB; blk_ext [iblk, idx t]

theorem wqB_at (c : Dev nD) (t : Fin cfg0.N) (d k : Fin 1024) : wqB m c t (ix2 d k) = (args m c).wq d k := by
  rw [← entry_wq]; unfold wqB; blk_ext [iblk, idx t]

theorem bqB_at (c : Dev nD) (t : Fin cfg0.N) (k : Fin 1024) : bqB m c t (ix2 0 k) = (args m c).bq k := by
  rw [← entry_bq]; unfold bqB; blk_ext [iblk, idx t]

/-! ## The payloads at an entry -/

/-- A normed row tile. -/
def normed (h : Vec Ideal S512x1024 .f32) (g : Vec Ideal S1x1024 .f32) (a : Fin 512) (d : Fin 1024) : EReal :=
  h (ix2 a d) * rstd (fun d => h (ix2 a d)) * g (ix2 0 d)

theorem pay5_apply (h : Vec Ideal S512x1024 .f32) (g : Vec Ideal S1x1024 .f32) (a : Fin 512) (d : Fin 1024) :
    k0_pay5 h g (ix2 a d) = normed h g a d := by
  pointwise [k0_pay5]; rfl

theorem pay6_apply (h : Vec Ideal S512x1024 .f32) (g : Vec Ideal S1x1024 .f32) (a : Fin 512) (d : Fin 1024) :
    k0_pay6 h g (ix2 a d) = normed h g a d := by
  pointwise [k0_pay6]; rfl

theorem pay7_apply (h : Vec Ideal S512x1024 .f32) (g : Vec Ideal S1x1024 .f32) (w : Vec Ideal S1024x512 .bf16) (a : Fin 512) (k : Fin 512) :
    k0_pay7 h g w (ix2 a k) = ∑ d, normed h g a d * w (ix2 d k) := by
  pointwise [k0_pay7]
  simp only [pay5_apply]

theorem pay2_apply (y : FVec Ideal S512x512 .f32) (b : Vec Ideal S1x512 .f32) (s : Vec Ideal S256x1024 .bf16) (a : Fin 512) (d : Fin 1024) :
    k0_pay2 y b s (ix2 a d) = ∑ r : Fin 256, (y (ix2 a (keyCol r)) + b (ix2 0 (keyCol r))) * s (ix2 r d) := by
  pointwise [k0_pay2, k0_pay1]; rfl

theorem pay3_apply (y : FVec Ideal S512x512 .f32) (b : Vec Ideal S1x512 .f32) (s : Vec Ideal S256x1024 .bf16) (a : Fin 512) (d : Fin 1024) :
    k0_pay3 y b s (ix2 a d) = ∑ r : Fin 256, (y (ix2 a (valCol r)) + b (ix2 0 (valCol r))) * s (ix2 r d) := by
  pointwise [k0_pay3, k0_pay1]; rfl

theorem pay4_apply (n : FVec Ideal S512x1024 .bf16) (w : Vec Ideal S1024x1024 .bf16) (b : Vec Ideal S1x1024 .f32) (a : Fin 512) (k : Fin 1024) :
    k0_pay4 n w b (ix2 a k) = ∑ d : Fin 1024, n (ix2 a d) * w (ix2 d k) + b (ix2 0 k) := by
  pointwise [k0_pay4]

/-! ## What a point leaves -/

theorem kvn_at (c : Dev nD) (t : Fin cfg0.N) (a : Fin 512) (d : Fin 1024) :
    normed (hT m c t) (gkvB m c t) a d = (args m c).kvn (row t a) d := by
  unfold normed Args.kvn
  simp only [hT_at, gkvB_at]

theorem hn_at (c : Dev nD) (t : Fin cfg0.N) (a : Fin 512) (d : Fin 1024) :
    normed (hT m c t) (gB m c t) a d = (args m c).hn (row t a) d := by
  unfold normed Args.hn
  simp only [hT_at, gB_at]

theorem kv_at (c : Dev nD) (t : Fin cfg0.N) (a : Fin 512) (k : Fin 512) :
    k0_pay7 (hT m c t) (gkvB m c t) (wkvB m c t) (ix2 a k) + bkvB m c t (ix2 0 k) = (args m c).kv (row t a) k := by
  rw [pay7_apply]
  unfold Args.kv
  simp only [kvn_at, wkvB_at, bkvB_at]

theorem after_kvn (c : Dev nD) (t : Fin cfg0.N) (a : Fin 512) (d : Fin 1024) :
    (dats m 0 c).after 8 t (ix2 a d) = (args m c).kvn (row t a) d := by
  rw [after0_8]
  frame_out
  rw [pay5_apply]
  exact kvn_at m c t a d

theorem after_hn (c : Dev nD) (t : Fin cfg0.N) (a : Fin 512) (d : Fin 1024) :
    (dats m 0 c).after 9 t (ix2 a d) = (args m c).hn (row t a) d := by
  rw [after0_9]
  frame_out
  rw [pay6_apply]
  exact hn_at m c t a d

theorem out_key (c : Dev nD) (t : Fin cfg0.N) :
    (dats m 0 c).after 10 t = k0_pay2 (k0_pay7 (hT m c t) (gkvB m c t) (wkvB m c t)) (bkvB m c t) (spB m c t) := by
  rw [after0_10]
  frame_out
  unfold k0_pay8
  frame_out

theorem key_at (c : Dev nD) (t : Fin cfg0.N) (a : Fin 512) (d : Fin 1024) :
    k0_pay2 (k0_pay7 (hT m c t) (gkvB m c t) (wkvB m c t)) (bkvB m c t) (spB m c t) (ix2 a d) = (args m c).key (row t a) d := by
  rw [pay2_apply]
  unfold Args.key
  rw [← sum_src (fun r => (args m c).kv (row t a) (keyCol r)) d]
  exact Finset.sum_congr rfl fun r _ => congrArg₂ (fun x y : EReal => x * y) (kv_at m c t a _) (spB_at m c t r d)

theorem after_key (c : Dev nD) (t : Fin cfg0.N) (a : Fin 512) (d : Fin 1024) :
    (dats m 0 c).after 10 t (ix2 a d) = (args m c).key (row t a) d := by
  rw [out_key]
  exact key_at m c t a d

theorem out_val (c : Dev nD) (t : Fin cfg0.N) :
    (dats m 0 c).after 11 t = k0_pay3 (k0_pay7 (hT m c t) (gkvB m c t) (wkvB m c t)) (bkvB m c t) (spB m c t) := by
  rw [after0_11]
  frame_out
  unfold k0_pay8
  frame_out

theorem val_at (c : Dev nD) (t : Fin cfg0.N) (a : Fin 512) (d : Fin 1024) :
    k0_pay3 (k0_pay7 (hT m c t) (gkvB m c t) (wkvB m c t)) (bkvB m c t) (spB m c t) (ix2 a d) = (args m c).val (row t a) d := by
  rw [pay3_apply]
  unfold Args.val
  rw [← sum_src (fun r => (args m c).kv (row t a) (valCol r)) d]
  exact Finset.sum_congr rfl fun r _ => congrArg₂ (fun x y : EReal => x * y) (kv_at m c t a _) (spB_at m c t r d)

theorem after_val (c : Dev nD) (t : Fin cfg0.N) (a : Fin 512) (d : Fin 1024) :
    (dats m 0 c).after 11 t (ix2 a d) = (args m c).val (row t a) d := by
  rw [out_val]
  exact val_at m c t a d

theorem after_q (c : Dev nD) (t : Fin cfg0.N) (a : Fin 512) (k : Fin 1024) :
    (dats m 0 c).after 12 t (ix2 a k) = (args m c).q (row t a) k := by
  rw [after0_12]
  frame_out
  refine (pay4_apply (k0_pay6 (hT m c t) (gB m c t)) (wqB m c t) (bqB m c t) a k).trans ?_
  unfold Args.q
  simp only [pay6_apply, hn_at, wqB_at, bqB_at]

/-! ## The arrays -/

theorem arr_kvn (c : Dev nD) : (dats m 0 c).arrAt 8 cfg0.N
    = (fun j : S2048x1024.Idx => (args m c).kvn (j 0) (j 1) : Vec Ideal S2048x1024 .bf16) := by
  refine (dats m 0 c).arrAt_eq_of_covers 8 _ (by decide +kernel) fun t hf y => ?_
  blk_simp
  refine (congrArg _ (ix2_eta (n0 := 512) (n1 := 1024) y).symm).trans ?_
  refine (after_kvn m c t (y 0) (y 1)).trans (congrArg₂ (args m c).kvn (Fin.ext ?_) (Fin.ext ?_)) <;>
  · blk_simp [idx t]
    try (show 512 * t.val + (y 0).val = _; omega)

theorem arr_hn (c : Dev nD) : (dats m 0 c).arrAt 9 cfg0.N
    = (fun j : S2048x1024.Idx => (args m c).hn (j 0) (j 1) : Vec Ideal S2048x1024 .bf16) := by
  refine (dats m 0 c).arrAt_eq_of_covers 9 _ (by decide +kernel) fun t hf y => ?_
  blk_simp
  refine (congrArg _ (ix2_eta (n0 := 512) (n1 := 1024) y).symm).trans ?_
  refine (after_hn m c t (y 0) (y 1)).trans (congrArg₂ (args m c).hn (Fin.ext ?_) (Fin.ext ?_)) <;>
  · blk_simp [idx t]
    try (show 512 * t.val + (y 0).val = _; omega)

theorem arr_key (c : Dev nD) : (dats m 0 c).arrAt 10 cfg0.N
    = (fun j : S2048x1024.Idx => (args m c).key (j 0) (j 1) : Vec Ideal S2048x1024 .bf16) := by
  refine (dats m 0 c).arrAt_eq_of_covers 10 _ (by decide +kernel) fun t hf y => ?_
  blk_simp
  refine (congrArg _ (ix2_eta (n0 := 512) (n1 := 1024) y).symm).trans ?_
  refine (after_key m c t (y 0) (y 1)).trans (congrArg₂ (args m c).key (Fin.ext ?_) (Fin.ext ?_)) <;>
  · blk_simp [idx t]
    try (show 512 * t.val + (y 0).val = _; omega)

theorem arr_val (c : Dev nD) : (dats m 0 c).arrAt 11 cfg0.N
    = (fun j : S2048x1024.Idx => (args m c).val (j 0) (j 1) : Vec Ideal S2048x1024 .bf16) := by
  refine (dats m 0 c).arrAt_eq_of_covers 11 _ (by decide +kernel) fun t hf y => ?_
  blk_simp
  refine (congrArg _ (ix2_eta (n0 := 512) (n1 := 1024) y).symm).trans ?_
  refine (after_val m c t (y 0) (y 1)).trans (congrArg₂ (args m c).val (Fin.ext ?_) (Fin.ext ?_)) <;>
  · blk_simp [idx t]
    try (show 512 * t.val + (y 0).val = _; omega)

theorem arr_q (c : Dev nD) : (dats m 0 c).arrAt 12 cfg0.N
    = (fun j : S2048x1024.Idx => (args m c).q (j 0) (j 1) : Vec Ideal S2048x1024 .bf16) := by
  refine (dats m 0 c).arrAt_eq_of_covers 12 _ (by decide +kernel) fun t hf y => ?_
  blk_simp
  refine (congrArg _ (ix2_eta (n0 := 512) (n1 := 1024) y).symm).trans ?_
  refine (after_q m c t (y 0) (y 1)).trans (congrArg₂ (args m c).q (Fin.ext ?_) (Fin.ext ?_)) <;>
  · blk_simp [idx t]
    try (show 512 * t.val + (y 0).val = _; omega)

end Cert.AttnPreIdeal.Hand

end
-- ==== Proof.PreRef.lean ====
/- The reference of the two norms and the three projections in front of the attention, every entry of its results as the
   formula of PreOuts, and: from agreeing arguments the kernel and its reference end with equal arrays. -/
module

public import proofs.«01_k».proof.Defs
public import proofs.«01_k».proof.Proof.Gen.AttnPreRefIdeal.Run
public import proofs.«01_k».proof.Proof.PreOuts

@[expose] public section

set_option maxRecDepth 16384

noncomputable section

namespace Cert.AttnPreRefIdeal.Hand

open Cert.AttnPreRefIdeal Cert.AttnPreRefIdeal.Value
open Idealize.ShloMosaic Idealize.ShloMosaic.TcCoe Idealize.ShloMosaic.Tactic
open Cert.MlpIdeal.Hand (rstd)
open Cert.AttnPreIdeal.Hand (Args keyCol valCol)
open Cert.Spread (src)
variable (m : (ℓ : Loc nD τ sig) → Buf (Elt Ideal) ℓ)

/-- The call's arrays as a device's memory holds them. -/
def args (c : Dev nD) : Args where
  h i d := m ((c.tc : Thread nD τ).loc main_arg0) (ix2 i d)
  gkv d := m ((c.tc : Thread nD τ).loc main_arg1) (ix1 d)
  g d := m ((c.tc : Thread nD τ).loc main_arg2) (ix1 d)
  wkv d k := m ((c.tc : Thread nD τ).loc main_arg3) (ix2 d k)
  bkv k := m ((c.tc : Thread nD τ).loc main_arg4) (ix1 k)
  wq d k := m ((c.tc : Thread nD τ).loc main_arg5) (ix2 d k)
  bq k := m ((c.tc : Thread nD τ).loc main_arg6) (ix1 k)

theorem key_col (d : Fin 1024) : keyCol (src d) = ⟨d.val / 256 * 64 + d.val % 64, by omega⟩ :=
  Fin.ext (congrArg (· + d.val % 64) (Nat.mul_comm 64 (d.val / 256)))

theorem val_col (d : Fin 1024) : valCol (src d) = ⟨256 + (d.val / 256 * 64 + d.val % 64), by omega⟩ :=
  Fin.ext (congrArg (256 + · ) (congrArg (· + d.val % 64) (Nat.mul_comm 64 (d.val / 256))))

/-- Every execution of the reference ends with the formulas of PreOuts and leaves its arguments as they were. -/
theorem run_args (ρ : Dev nD → PrngReg) :
    θ_run defs (onTc (τ := τ) (main (F := Ideal))) ⟨m, fun _ => 0, ρ⟩ fun r => ∀ c : Dev nD,
      r.2.mem ((c.tc : Thread nD τ).loc main_v55) = (fun j : S2048x1024.Idx => (args m c).kvn (j 0) (j 1) : Vec Ideal S2048x1024 .bf16)
      ∧ r.2.mem ((c.tc : Thread nD τ).loc main_v56) = (fun j : S2048x1024.Idx => (args m c).hn (j 0) (j 1) : Vec Ideal S2048x1024 .bf16)
      ∧ r.2.mem ((c.tc : Thread nD τ).loc main_v57) = (fun j : S2048x1024.Idx => (args m c).key (j 0) (j 1) : Vec Ideal S2048x1024 .bf16)
      ∧ r.2.mem ((c.tc : Thread nD τ).loc main_v58) = (fun j : S2048x1024.Idx => (args m c).val (j 0) (j 1) : Vec Ideal S2048x1024 .bf16)
      ∧ r.2.mem ((c.tc : Thread nD τ).loc main_v59) = (fun j : S2048x1024.Idx => (args m c).q (j 0) (j 1) : Vec Ideal S2048x1024 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun r h c => ⟨(h c).1.trans ?_, (h c).2.1.trans ?_, (h c).2.2.1.trans ?_, (h c).2.2.2.1.trans ?_,
    (h c).2.2.2.2.1.trans ?_, (h c).2.2.2.2.2⟩) (run m ρ) <;>
  clear h <;> funext j <;> idx_vars j
  · clean_types
    pointwise
    simp only [Args.kvn, rstd, args]
  · clean_types
    pointwise
    simp only [Args.hn, rstd, args]
  · clean_types
    pointwise
    simp only [Args.key, Args.kv, Args.kvn, rstd, args, key_col]
  · clean_types
    pointwise
    simp only [Args.val, Args.kv, Args.kvn, rstd, args, val_col]
  · clean_types
    pointwise
    simp only [Args.q, Args.hn, rstd, args]

end Cert.AttnPreRefIdeal.Hand

namespace Cert.AttnPreIdeal.Hand

open Cert.AttnPreIdeal Cert.AttnPreIdeal.Gen
open Idealize.ShloMosaic Idealize.ShloMosaic.TcCoe Idealize.SL.Sem
variable (m : (ℓ : Loc nD τ sig) → Buf (Elt Ideal) ℓ)

set_option maxHeartbeats 1000000 in
/-- Every execution of the kernel ends with the formulas of PreOuts and leaves its arguments as they were. -/
theorem run_args (ρ : Dev nD → PrngReg) :
    θ_run defs (onTc (τ := τ) (main (F := Ideal))) ⟨m, fun _ => 0, ρ⟩ fun r => ∀ c : Dev nD,
      r.2.mem ((c.tc : Thread nD τ).loc main_v16_0) = (fun j : S2048x1024.Idx => (args m c).kvn (j 0) (j 1) : Vec Ideal S2048x1024 .bf16)
      ∧ r.2.mem ((c.tc : Thread nD τ).loc main_v16_1) = (fun j : S2048x1024.Idx => (args m c).hn (j 0) (j 1) : Vec Ideal S2048x1024 .bf16)
      ∧ r.2.mem ((c.tc : Thread nD τ).loc main_v16_2) = (fun j : S2048x1024.Idx => (args m c).key (j 0) (j 1) : Vec Ideal S2048x1024 .bf16)
      ∧ r.2.mem ((c.tc : Thread nD τ).loc main_v16_3) = (fun j : S2048x1024.Idx => (args m c).val (j 0) (j 1) : Vec Ideal S2048x1024 .bf16)
      ∧ r.2.mem ((c.tc : Thread nD τ).loc main_v16_4) = (fun j : S2048x1024.Idx => (args m c).q (j 0) (j 1) : Vec Ideal S2048x1024 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono
    (fun _ h c => ⟨((h.1 c).1 8).trans (arr_kvn m c), ((h.1 c).1 9).trans (arr_hn m c), ((h.1 c).1 10).trans (arr_key m c),
      ((h.1 c).1 11).trans (arr_val m c), ((h.1 c).1 12).trans (arr_q m c), h.2.1 c⟩)
    (θ_run_and (run_main (F := Ideal) m ρ) (frame (F := Ideal) m ρ))

end Cert.AttnPreIdeal.Hand

namespace Cert.Value

open Idealize.ShloMosaic Idealize.SL.Sem

theorem algebraic_attn_pre : Cert.algebraic_AttnPreIdeal_AttnPreRefIdeal := by
  intro m g m' g' _ agree
  have same : ∀ c, Cert.AttnPreRefIdeal.Hand.args m' c = Cert.AttnPreIdeal.Hand.args m c := fun c => by
    obtain ⟨h0, h1, h2, h3, h4, h5, h6⟩ := agree c
    unfold Cert.AttnPreRefIdeal.Hand.args Cert.AttnPreIdeal.Hand.args
    rw [h0, h1, h2, h3, h4, h5, h6]
  refine ⟨_, _, _, _, _, Cert.AttnPreIdeal.Hand.run_args m g, ?_⟩
  have ran := Cert.AttnPreRefIdeal.Hand.run_args m' g'
  simp only [same] at ran
  exact ran

end Cert.Value

end
-- ==== Proof.PostRef.lean ====
/- The attention's output projection, added to the stream, as one formula for each entry, over the extended reals: the
   array the kernel ends with and the array its reference ends with both are that formula. -/
module

public import proofs.«01_k».proof.Defs
public import proofs.«01_k».proof.Proof.Gen.AttnPostIdeal.Frame
public import proofs.«01_k».proof.Proof.Gen.AttnPostRefIdeal.Run
public import proofs.«01_k».proof.Proof.MlpAlgebra
public import Idealize.ShloMosaic.Lib.Claim
public import Idealize.ShloMosaic.Lib.StableHlo.ReadAt

@[expose] public section

set_option maxRecDepth 16384

noncomputable section

namespace Cert.AttnPostIdeal.Hand

open Cert.AttnPostIdeal.Gen
open Idealize.ShloMosaic Idealize.ShloMosaic.TcCoe Idealize.ShloMosaic.Tactic Idealize.SL.Sem
open Cert.MlpIdeal.Hand (rowOf)

variable (m : (ℓ : Loc nD τ sig) → Buf (Elt Ideal) ℓ)

/-- The arrays the projection depends on: the stream, the attention's rows, the weights and the bias. -/
structure Args where
  h : Fin 2048 → Fin 1024 → EReal
  o : Fin 2048 → Fin 1024 → EReal
  w : Fin 1024 → Fin 1024 → EReal
  b : Fin 1024 → EReal

/-- The stream after the projection. -/
def Args.out (A : Args) (i : Fin 2048) (d : Fin 1024) : EReal := A.h i d + ((∑ k, A.o i k * A.w k d) + A.b d)

/-- The call's arrays as a device's memory holds them. -/
def args (c : Dev nD) : Args where
  h i d := m ((c.tc : Thread nD τ).loc main_arg0) (ix2 i d)
  o i d := m ((c.tc : Thread nD τ).loc main_arg1) (ix2 i d)
  w k d := m ((c.tc : Thread nD τ).loc main_arg2) (ix2 k d)
  b d := m ((c.tc : Thread nD τ).loc main_arg3) (ix1 d)

abbrev hT (c : Dev nD) (t : Fin cfg0.N) : Vec Ideal S512x1024 .f32 := iblk m c 0 t
abbrev oT (c : Dev nD) (t : Fin cfg0.N) : Vec Ideal S512x1024 .bf16 := iblk m c 1 t
abbrev wB (c : Dev nD) (t : Fin cfg0.N) : Vec Ideal S1024x1024 .bf16 := iblk m c 2 t
abbrev bB (c : Dev nD) (t : Fin cfg0.N) : Vec Ideal S1x1024 .f32 := iblk m c 3 t

theorem entry_h (c : Dev nD) (i : Fin 2048) (d : Fin 1024) : V m c main_arg0 (ix2 i d) = (args m c).h i d := by
  rw [V_main_arg0]; rfl

theorem entry_o (c : Dev nD) (i : Fin 2048) (d : Fin 1024) : V m c main_v0 (ix2 i d) = (args m c).o i d := by
  unfold V
  after_reads_at
  rfl

theorem entry_w (c : Dev nD) (k d : Fin 1024) : V m c main_v1 (ix2 k d) = (args m c).w k d := by
  unfold V
  after_reads_at
  rfl

theorem entry_b (c : Dev nD) (d : Fin 1024) : V m c main_v2 (ix2 0 d) = (args m c).b d := by
  unfold V
  after_reads_at
  rfl

theorem idx (t : Fin cfg0.N) : win0_0.index t = ![t.val, 0] ∧ win0_1.index t = ![t.val, 0] ∧ win0_2.index t = ![0, 0]
    ∧ win0_3.index t = ![0, 0] ∧ win0_4.index t = ![t.val, 0] :=
  (by decide +kernel : ∀ t : Fin cfg0.N, win0_0.index t = ![t.val, 0] ∧ win0_1.index t = ![t.val, 0] ∧ win0_2.index t = ![0, 0]
    ∧ win0_3.index t = ![0, 0] ∧ win0_4.index t = ![t.val, 0]) t

theorem pt_lt {n : ℕ} (hn : n < cfg0.N) : n < 4 := hn

theorem hT_at (c : Dev nD) (t : Fin cfg0.N) (a : Fin 512) (d : Fin 1024) :
    hT m c t (ix2 a d) = (args m c).h (rowOf t.val (pt_lt t.isLt) a) d := by
  rw [← entry_h]; unfold hT rowOf; blk_ext [iblk, idx t]

theorem oT_at (c : Dev nD) (t : Fin cfg0.N) (a : Fin 512) (d : Fin 1024) :
    oT m c t (ix2 a d) = (args m c).o (rowOf t.val (pt_lt t.isLt) a) d := by
  rw [← entry_o]; unfold oT rowOf; blk_ext [iblk, idx t]

theorem wB_at (c : Dev nD) (t : Fin cfg0.N) (k d : Fin 1024) : wB m c t (ix2 k d) = (args m c).w k d := by
  rw [← entry_w]; unfold wB; blk_ext [iblk, idx t]

theorem bB_at (c : Dev nD) (t : Fin cfg0.N) (d : Fin 1024) : bB m c t (ix2 0 d) = (args m c).b d := by
  rw [← entry_b]; unfold bB; blk_ext [iblk, idx t]

theorem pay1_apply (h : Vec Ideal S512x1024 .f32) (o : Vec Ideal S512x1024 .bf16) (w : Vec Ideal S1024x1024 .bf16)
    (b : Vec Ideal S1x1024 .f32) (a : Fin 512) (d : Fin 1024) :
    k0_pay1 h o w b (ix2 a d) = h (ix2 a d) + ∑ k : Fin 1024, o (ix2 a k) * w (ix2 k d) + b (ix2 0 d) := by
  pointwise [k0_pay1]

theorem after_out (c : Dev nD) (t : Fin cfg0.N) (a : Fin 512) (d : Fin 1024) :
    (dats m 0 c).after 4 t (ix2 a d) = (args m c).out (rowOf t.val (pt_lt t.isLt) a) d := by
  rw [after0_4]
  frame_out
  rw [pay1_apply]
  unfold Args.out
  simp only [hT_at, oT_at, wB_at, bB_at]
  exact add_assoc (G := EReal) _ _ _

theorem arr_out (c : Dev nD) : (dats m 0 c).arrAt 4 cfg0.N
    = (fun j : S2048x1024.Idx => (args m c).out (j 0) (j 1) : Vec Ideal S2048x1024 .f32) := by
  refine (dats m 0 c).arrAt_eq_of_covers 4 _ (by decide +kernel) fun t hf y => ?_
  blk_simp
  refine (congrArg _ (ix2_eta (n0 := 512) (n1 := 1024) y).symm).trans ?_
  refine (after_out m c t (y 0) (y 1)).trans (congrArg₂ (args m c).out (Fin.ext ?_) (Fin.ext ?_)) <;>
  · blk_simp [idx t]
    try (show 512 * t.val + (y 0).val = _; omega)

/-- Every execution of the kernel ends with the formula and leaves its arguments as they were. -/
theorem run_args (ρ : Dev nD → PrngReg) :
    θ_run defs (onTc (τ := τ) (main (F := Ideal))) ⟨m, fun _ => 0, ρ⟩ fun r => ∀ c : Dev nD,
      r.2.mem ((c.tc : Thread nD τ).loc main_v3) = (fun j : S2048x1024.Idx => (args m c).out (j 0) (j 1) : Vec Ideal S2048x1024 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono
    (fun _ h c => ⟨((h.1 c).1 4).trans (arr_out m c), h.2.1 c⟩)
    (θ_run_and (run_main (F := Ideal) m ρ) (frame (F := Ideal) m ρ))

end Cert.AttnPostIdeal.Hand

namespace Cert.AttnPostRefIdeal.Hand

open Cert.AttnPostRefIdeal Cert.AttnPostRefIdeal.Value
open Idealize.ShloMosaic Idealize.ShloMosaic.TcCoe Idealize.ShloMosaic.Tactic
open Cert.AttnPostIdeal.Hand (Args)
variable (m : (ℓ : Loc nD τ sig) → Buf (Elt Ideal) ℓ)

/-- The call's arrays as a device's memory holds them. -/
def args (c : Dev nD) : Args where
  h i d := m ((c.tc : Thread nD τ).loc main_arg0) (ix2 i d)
  o i d := m ((c.tc : Thread nD τ).loc main_arg1) (ix2 i d)
  w k d := m ((c.tc : Thread nD τ).loc main_arg2) (ix2 k d)
  b d := m ((c.tc : Thread nD τ).loc main_arg3) (ix1 d)

/-- Every execution of the reference ends with the formula and leaves its arguments as they were. -/
theorem run_args (ρ : Dev nD → PrngReg) :
    θ_run defs (onTc (τ := τ) (main (F := Ideal))) ⟨m, fun _ => 0, ρ⟩ fun r => ∀ c : Dev nD,
      r.2.mem ((c.tc : Thread nD τ).loc main_v4) = (fun j : S2048x1024.Idx => (args m c).out (j 0) (j 1) : Vec Ideal S2048x1024 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ⟨(h c).1.trans ?_, (h c).2⟩) (run m ρ)
  clear h
  funext j
  idx_vars j
  clean_types
  pointwise
  simp only [Args.out, args]

end Cert.AttnPostRefIdeal.Hand

namespace Cert.Value

open Idealize.ShloMosaic Idealize.SL.Sem

theorem algebraic_attn_post : Cert.algebraic_AttnPostIdeal_AttnPostRefIdeal := by
  intro m g m' g' _ agree
  have same : ∀ c, Cert.AttnPostRefIdeal.Hand.args m' c = Cert.AttnPostIdeal.Hand.args m c := fun c => by
    obtain ⟨h0, h1, h2, h3⟩ := agree c
    unfold Cert.AttnPostRefIdeal.Hand.args Cert.AttnPostIdeal.Hand.args
    rw [h0, h1, h2, h3]
  refine ⟨_, Cert.AttnPostIdeal.Hand.run_args m g, ?_⟩
  have ran := Cert.AttnPostRefIdeal.Hand.run_args m' g'
  simp only [same] at ran
  exact ran

end Cert.Value

end
-- ==== Proof.KvSpec.lean ====
/- The gradient of the key and value projection and of the norm in front of it: what each row tile leaves in its
   buffers, as the kernel's payloads. -/
module

public import proofs.«01_k».proof.Proof.Gen.KvBwdIdeal.Frame
public import proofs.«01_k».proof.Proof.MlpAlgebra

@[expose] public section

set_option maxRecDepth 16384

noncomputable section

namespace Cert.KvBwdIdeal.Hand

open Cert.KvBwdIdeal.Gen
open Idealize.ShloMosaic Idealize.ShloMosaic.TcCoe Idealize.ShloMosaic.Tactic
open Cert.MlpIdeal.Hand (rowOf rstd dhRow firstRow firstRow_add read_whole readAt_whole readCov_whole)

variable (m : (ℓ : Loc nD τ sig) → Buf (Elt Ideal) ℓ)

/-! ## The blocks a point is handed -/

abbrev hT (c : Dev nD) (t : Fin cfg0.N) : Vec Ideal S512x1024 .f32 := iblk m c 0 t
abbrev dhT (c : Dev nD) (t : Fin cfg0.N) : Vec Ideal S512x1024 .f32 := iblk m c 1 t
abbrev dkT (c : Dev nD) (t : Fin cfg0.N) : Vec Ideal S512x1024 .f32 := iblk m c 2 t
abbrev dvT (c : Dev nD) (t : Fin cfg0.N) : Vec Ideal S512x1024 .f32 := iblk m c 3 t
abbrev kvnT (c : Dev nD) (t : Fin cfg0.N) : Vec Ideal S512x1024 .bf16 := iblk m c 4 t
abbrev gB (c : Dev nD) (t : Fin cfg0.N) : Vec Ideal S1x1024 .f32 := iblk m c 5 t
abbrev wB (c : Dev nD) (t : Fin cfg0.N) : Vec Ideal S1024x512 .bf16 := iblk m c 6 t
abbrev spB (c : Dev nD) (t : Fin cfg0.N) : Vec Ideal S256x1024 .bf16 := iblk m c 7 t

/-! ## The payloads at an entry -/

/-- The columns of the repeated cotangents summed back to the columns of the key and of the value, beside each other. -/
def dkv (x y : Vec Ideal S512x1024 .f32) (s : Vec Ideal S256x1024 .bf16) (a k : Fin 512) : EReal :=
  if h : k.val < 256 then ∑ d : Fin 1024, x (ix2 a d) * s (ix2 ⟨k.val, h⟩ d)
  else ∑ d : Fin 1024, y (ix2 a d) * s (ix2 ⟨k.val - 256, by omega⟩ d)

/-- The gradient at the normed rows. -/
def u (x y : Vec Ideal S512x1024 .f32) (s : Vec Ideal S256x1024 .bf16) (w : Vec Ideal S1024x512 .bf16) (a : Fin 512) (d : Fin 1024) : EReal :=
  ∑ k : Fin 512, dkv x y s a k * w (ix2 d k)

/-- A row tile of the input gradient, as the kernel's payloads. -/
abbrev dxPay (x y h : Vec Ideal S512x1024 .f32) (g : Vec Ideal S1x1024 .f32) (w : Vec Ideal S1024x512 .bf16) (s : Vec Ideal S256x1024 .bf16)
    (o : Vec Ideal S512x1024 .f32) : Vec Ideal S512x1024 .f32 :=
  k0_pay17 (k0_pay7 x s y s) h g w o

/-- The same rounded, as the kernel's payload. -/
abbrev dxPayB (x y h : Vec Ideal S512x1024 .f32) (g : Vec Ideal S1x1024 .f32) (w : Vec Ideal S1024x512 .bf16) (s : Vec Ideal S256x1024 .bf16)
    (o : Vec Ideal S512x1024 .f32) : Vec Ideal S512x1024 .bf16 :=
  k0_pay18 (k0_pay7 x s y s) h g w o

/-- The sums down the columns after a row tile, as the kernel's payloads. -/
abbrev dbPay (x y : Vec Ideal S512x1024 .f32) (s : Vec Ideal S256x1024 .bf16) (z : Vec Ideal S8x512 .f32) : Vec Ideal S8x512 .f32 :=
  k0_pay13 (k0_pay9 z) k0_pay10 (k0_pay11 x s y s) (k0_pay12 (F := Ideal))

/-- The norm gradient after a row tile, as the kernel's payloads. -/
abbrev dgPay (x y h : Vec Ideal S512x1024 .f32) (w : Vec Ideal S1024x512 .bf16) (s : Vec Ideal S256x1024 .bf16) (z : Vec Ideal S8x1024 .f32) :
    Vec Ideal S8x1024 .f32 :=
  k0_pay1 (k0_pay16 (k0_pay7 x s y s) h w) z

theorem pay2_apply (y : Vec Ideal S1024x512 .f32) (d : Fin 1024) (k : Fin 512) : k0_pay2 y (ix2 d k) = y (ix2 d k) := by
  pointwise [k0_pay2]

theorem pay3_apply (d : Fin 1024) (k : Fin 512) : (k0_pay3 (F := Ideal)) (ix2 d k) = 0 := by
  pointwise [k0_pay3]

theorem pay4_apply (a : Fin 8) (d : Fin 512) : (k0_pay4 (F := Ideal)) (ix2 a d) = 0 := by
  pointwise [k0_pay4]

theorem pay5_apply (a : Fin 8) (d : Fin 1024) : (k0_pay5 (F := Ideal)) (ix2 a d) = 0 := by
  pointwise [k0_pay5]

theorem pay6_apply (x y : Vec Ideal S512x1024 .f32) (s : Vec Ideal S256x1024 .bf16) (a k : Fin 512) :
    k0_pay6 x s y s (ix2 a k) = dkv x y s a k := by
  unfold dkv
  pointwise [k0_pay6]

theorem pay7_apply (x y : Vec Ideal S512x1024 .f32) (s : Vec Ideal S256x1024 .bf16) (a k : Fin 512) :
    k0_pay7 x s y s (ix2 a k) = dkv x y s a k := by
  rw [← pay6_apply]
  rfl

theorem pay8_apply (x y : Vec Ideal S512x1024 .f32) (s : Vec Ideal S256x1024 .bf16) (z : Vec Ideal S1024x512 .f32) (n : Vec Ideal S512x1024 .bf16)
    (d : Fin 1024) (k : Fin 512) :
    k0_pay8 x s y s z n (ix2 d k) = z (ix2 d k) + ∑ a : Fin 512, n (ix2 a d) * dkv x y s a k := by
  simp only [← pay7_apply]
  unfold k0_pay8
  generalize k0_pay7 x s y s = v
  pointwise

theorem dbPay_apply (x y : Vec Ideal S512x1024 .f32) (s : Vec Ideal S256x1024 .bf16) (z : Vec Ideal S8x512 .f32) (a : Fin 8) (k : Fin 512) :
    dbPay x y s z (ix2 a k) = z (ix2 a k) + firstRow a (∑ r : Fin 512, dkv x y s r k) := by
  simp only [← pay6_apply]
  unfold dbPay k0_pay11
  generalize k0_pay6 x s y s = v
  pointwise [k0_pay13, k0_pay9, k0_pay10, k0_pay12]; rfl

theorem pay14_apply (x y : Vec Ideal S512x1024 .f32) (s : Vec Ideal S256x1024 .bf16) (w : Vec Ideal S1024x512 .bf16) (a : Fin 512) (d : Fin 1024) :
    k0_pay14 (k0_pay7 x s y s) w (ix2 a d) = u x y s w a d := by
  unfold u
  simp only [← pay7_apply]
  generalize k0_pay7 x s y s = v
  pointwise [k0_pay14]

theorem dxPay_apply (x y h : Vec Ideal S512x1024 .f32) (g : Vec Ideal S1x1024 .f32) (w : Vec Ideal S1024x512 .bf16) (s : Vec Ideal S256x1024 .bf16)
    (o : Vec Ideal S512x1024 .f32) (a : Fin 512) (d : Fin 1024) :
    dxPay x y h g w s o (ix2 a d)
      = dhRow (fun d => h (ix2 a d)) (fun d => g (ix2 0 d)) (u x y s w a) (fun d => o (ix2 a d)) d := by
  rw [show u x y s w a = fun d => k0_pay14 (k0_pay7 x s y s) w (ix2 a d) from funext fun d => (pay14_apply x y s w a d).symm]
  unfold dxPay k0_pay17
  generalize k0_pay14 (k0_pay7 x s y s) w = v
  pointwise [k0_pay15]; rfl

theorem dgPay_apply (x y h : Vec Ideal S512x1024 .f32) (w : Vec Ideal S1024x512 .bf16) (s : Vec Ideal S256x1024 .bf16) (z : Vec Ideal S8x1024 .f32)
    (a : Fin 8) (d : Fin 1024) :
    dgPay x y h w s z (ix2 a d)
      = z (ix2 a d) + firstRow a (∑ r : Fin 512, u x y s w r d * h (ix2 r d) * rstd (fun d => h (ix2 r d))) := by
  simp only [← pay14_apply]
  unfold dgPay k0_pay16
  generalize k0_pay14 (k0_pay7 x s y s) w = v
  pointwise [k0_pay1, k0_pay15]; rfl

/-! ## What a point leaves, as its payloads -/

theorem outs_first (c : Dev nD) (t : Fin cfg0.N) (h : t.val % 4 = 0) :
    (outsAt0 m c t.val t.isLt).1 = dxPay (dkT m c t) (dvT m c t) (hT m c t) (gB m c t) (wB m c t) (spB m c t) (dhT m c t)
    ∧ (outsAt0 m c t.val t.isLt).2.1 = dxPayB (dkT m c t) (dvT m c t) (hT m c t) (gB m c t) (wB m c t) (spB m c t) (dhT m c t)
    ∧ (outsAt0 m c t.val t.isLt).2.2.2.1 = dbPay (dkT m c t) (dvT m c t) (spB m c t) (k0_pay4 (F := Ideal))
    ∧ (outsAt0 m c t.val t.isLt).2.2.2.2.1 = dgPay (dkT m c t) (dvT m c t) (hT m c t) (wB m c t) (spB m c t) (k0_pay5 (F := Ideal))
    ∧ (outsAt0 m c t.val t.isLt).2.2.2.2.2
      = k0_pay8 (dkT m c t) (spB m c t) (dvT m c t) (spB m c t) (k0_pay3 (F := Ideal)) (kvnT m c t) := by
  rw [outsAt0_A m c t h (by omega)]
  dsimp only
  unfold out0_A_8 out0_A_9 out0_A_11 out0_A_12 sout0_A_0 kernelRun0_A
  dsimp only
  refine ⟨?_, ?_, ?_, ?_, ?_⟩ <;> rw [read_whole _ _ (by decide)]
  · unfold kernelRun0_A.sl.r
    rw [readAt_whole (hs0_0 t) _ (by decide),
      readAt_whole (hs0_1 t) _ (by decide),
      readAt_whole (hs0_2 t) _ (by decide),
      readAt_whole (hs0_3 t) _ (by decide),
      readAt_whole (hs0_5 t) _ (by decide),
      readAt_whole (hs0_6 t) _ (by decide),
      readAt_whole (hs0_7 t) _ (by decide)]
  · unfold kernelRun0_A.sl.r_4 kernelRun0_A.sl.r
    rw [readAt_whole (hs0_0 t) _ (by decide),
      readAt_whole (hs0_1 t) _ (by decide),
      readAt_whole (hs0_2 t) _ (by decide),
      readAt_whole (hs0_3 t) _ (by decide),
      readAt_whole (hs0_5 t) _ (by decide),
      readAt_whole (hs0_6 t) _ (by decide),
      readAt_whole (hs0_7 t) _ (by decide)]
  · unfold kernelRun0_A.sl.r_1 kernelRun0_A.sl.r_2 kernelRun0_A.sl.v23 kernelRun0_A.sl.H11_1
    rw [readAt_whole (hs0_2 t) _ (by decide),
      readAt_whole (hs0_3 t) _ (by decide),
      readAt_whole (hs0_7 t) _ (by decide), readCov_whole _ _ (by decide), read_whole _ _ (by decide)]
  · unfold kernelRun0_A.sl.r_3 kernelRun0_A.sl.r kernelRun0_A.sl.v74 kernelRun0_A.sl.H12_1
    rw [readAt_whole (hs0_0 t) _ (by decide),
      readAt_whole (hs0_2 t) _ (by decide),
      readAt_whole (hs0_3 t) _ (by decide),
      readAt_whole (hs0_6 t) _ (by decide),
      readAt_whole (hs0_7 t) _ (by decide), readCov_whole _ _ (by decide), read_whole _ _ (by decide)]
  · unfold kernelRun0_A.sl.v15 kernelRun0_A.sl.HS0_1
    rw [readAt_whole (hs0_2 t) _ (by decide),
      readAt_whole (hs0_3 t) _ (by decide),
      readAt_whole (hs0_4 t) _ (by decide),
      readAt_whole (hs0_7 t) _ (by decide), readCov_whole _ _ (by decide), read_whole _ _ (by decide)]

/-- The sum so far as a point finds it in the scratch. -/
theorem acc_back (y : Vec Ideal S1024x512 .f32) :
    View.readAt (Elt Ideal) scM0_0.view (Rect.unit ![0, 0] S1024x512.size inb_S1024x512_S1024x512_0_0).toLoadRect
      ((Memref.isWhole_whole cc0_scratch0).unread y) = y :=
  readAt_whole (M := scM0_0) (Memref.isWhole_whole cc0_scratch0) y (by decide) _

theorem outs_mid (c : Dev nD) (t : Fin cfg0.N) (h : t.val % 4 ≠ 0) (h3 : t.val % 4 ≠ 3) :
    (outsAt0 m c t.val t.isLt).1 = dxPay (dkT m c t) (dvT m c t) (hT m c t) (gB m c t) (wB m c t) (spB m c t) (dhT m c t)
    ∧ (outsAt0 m c t.val t.isLt).2.1 = dxPayB (dkT m c t) (dvT m c t) (hT m c t) (gB m c t) (wB m c t) (spB m c t) (dhT m c t)
    ∧ (outsAt0 m c t.val t.isLt).2.2.2.1 = dbPay (dkT m c t) (dvT m c t) (spB m c t) (outsAt0 m c (t.val - 1) (by omega)).2.2.2.1
    ∧ (outsAt0 m c t.val t.isLt).2.2.2.2.1 = dgPay (dkT m c t) (dvT m c t) (hT m c t) (wB m c t) (spB m c t) (outsAt0 m c (t.val - 1) (by omega)).2.2.2.2.1
    ∧ (outsAt0 m c t.val t.isLt).2.2.2.2.2
      = k0_pay8 (dkT m c t) (spB m c t) (dvT m c t) (spB m c t) (outsAt0 m c (t.val - 1) (by omega)).2.2.2.2.2 (kvnT m c t) := by
  rw [outsAt0_B m c t h h3]
  dsimp only
  unfold out0_B_8 out0_B_9 out0_B_11 out0_B_12 sout0_B_0 kernelRun0_B
  dsimp only
  refine ⟨?_, ?_, ?_, ?_, ?_⟩ <;> rw [read_whole _ _ (by decide)]
  · unfold kernelRun0_B.sl.r
    rw [readAt_whole (hs0_0 t) _ (by decide),
      readAt_whole (hs0_1 t) _ (by decide),
      readAt_whole (hs0_2 t) _ (by decide),
      readAt_whole (hs0_3 t) _ (by decide),
      readAt_whole (hs0_5 t) _ (by decide),
      readAt_whole (hs0_6 t) _ (by decide),
      readAt_whole (hs0_7 t) _ (by decide)]
  · unfold kernelRun0_B.sl.r_4 kernelRun0_B.sl.r
    rw [readAt_whole (hs0_0 t) _ (by decide),
      readAt_whole (hs0_1 t) _ (by decide),
      readAt_whole (hs0_2 t) _ (by decide),
      readAt_whole (hs0_3 t) _ (by decide),
      readAt_whole (hs0_5 t) _ (by decide),
      readAt_whole (hs0_6 t) _ (by decide),
      readAt_whole (hs0_7 t) _ (by decide)]
  · unfold kernelRun0_B.sl.r_1 kernelRun0_B.sl.r_2
    rw [readAt_whole (hs0_2 t) _ (by decide),
      readAt_whole (hs0_3 t) _ (by decide),
      readAt_whole (hs0_7 t) _ (by decide),
      readAt_whole (hs0_11 t) _ (by decide)]
  · unfold kernelRun0_B.sl.r_3 kernelRun0_B.sl.r
    rw [readAt_whole (hs0_0 t) _ (by decide),
      readAt_whole (hs0_2 t) _ (by decide),
      readAt_whole (hs0_3 t) _ (by decide),
      readAt_whole (hs0_6 t) _ (by decide),
      readAt_whole (hs0_7 t) _ (by decide),
      readAt_whole (hs0_12 t) _ (by decide)]
  · rw [readAt_whole (hs0_2 t) _ (by decide),
      readAt_whole (hs0_3 t) _ (by decide),
      readAt_whole (hs0_4 t) _ (by decide),
      readAt_whole (hs0_7 t) _ (by decide)]
    exact congrArg (k0_pay8 (dkT m c t) (spB m c t) (dvT m c t) (spB m c t) · (kvnT m c t)) (acc_back _)

theorem outs_last (c : Dev nD) (t : Fin cfg0.N) (h : t.val % 4 = 3) :
    (outsAt0 m c t.val t.isLt).1 = dxPay (dkT m c t) (dvT m c t) (hT m c t) (gB m c t) (wB m c t) (spB m c t) (dhT m c t)
    ∧ (outsAt0 m c t.val t.isLt).2.1 = dxPayB (dkT m c t) (dvT m c t) (hT m c t) (gB m c t) (wB m c t) (spB m c t) (dhT m c t)
    ∧ (outsAt0 m c t.val t.isLt).2.2.1 = k0_pay2 (outsAt0 m c t.val t.isLt).2.2.2.2.2
    ∧ (outsAt0 m c t.val t.isLt).2.2.2.1 = dbPay (dkT m c t) (dvT m c t) (spB m c t) (outsAt0 m c (t.val - 1) (by omega)).2.2.2.1
    ∧ (outsAt0 m c t.val t.isLt).2.2.2.2.1 = dgPay (dkT m c t) (dvT m c t) (hT m c t) (wB m c t) (spB m c t) (outsAt0 m c (t.val - 1) (by omega)).2.2.2.2.1
    ∧ (outsAt0 m c t.val t.isLt).2.2.2.2.2
      = k0_pay8 (dkT m c t) (spB m c t) (dvT m c t) (spB m c t) (outsAt0 m c (t.val - 1) (by omega)).2.2.2.2.2 (kvnT m c t) := by
  rw [outsAt0_C m c t (by omega) h]
  dsimp only
  unfold out0_C_8 out0_C_9 out0_C_10 out0_C_11 out0_C_12 sout0_C_0 kernelRun0_C
  dsimp only
  refine ⟨?_, ?_, ?_, ?_, ?_, ?_⟩
  · unfold kernelRun0_C.sl.r
    rw [read_whole _ _ (by decide), readAt_whole (hs0_0 t) _ (by decide),
      readAt_whole (hs0_1 t) _ (by decide),
      readAt_whole (hs0_2 t) _ (by decide),
      readAt_whole (hs0_3 t) _ (by decide),
      readAt_whole (hs0_5 t) _ (by decide),
      readAt_whole (hs0_6 t) _ (by decide),
      readAt_whole (hs0_7 t) _ (by decide)]
  · unfold kernelRun0_C.sl.r_4 kernelRun0_C.sl.r
    rw [read_whole _ _ (by decide), readAt_whole (hs0_0 t) _ (by decide),
      readAt_whole (hs0_1 t) _ (by decide),
      readAt_whole (hs0_2 t) _ (by decide),
      readAt_whole (hs0_3 t) _ (by decide),
      readAt_whole (hs0_5 t) _ (by decide),
      readAt_whole (hs0_6 t) _ (by decide),
      readAt_whole (hs0_7 t) _ (by decide)]
  · unfold kernelRun0_C.sl.v90
    rw [read_whole _ _ (by decide), readCov_whole _ _ (by decide)]
  · unfold kernelRun0_C.sl.r_1 kernelRun0_C.sl.r_2
    rw [read_whole _ _ (by decide), readAt_whole (hs0_2 t) _ (by decide),
      readAt_whole (hs0_3 t) _ (by decide),
      readAt_whole (hs0_7 t) _ (by decide),
      readAt_whole (hs0_11 t) _ (by decide)]
  · unfold kernelRun0_C.sl.r_3 kernelRun0_C.sl.r
    rw [read_whole _ _ (by decide), readAt_whole (hs0_0 t) _ (by decide),
      readAt_whole (hs0_2 t) _ (by decide),
      readAt_whole (hs0_3 t) _ (by decide),
      readAt_whole (hs0_6 t) _ (by decide),
      readAt_whole (hs0_7 t) _ (by decide),
      readAt_whole (hs0_12 t) _ (by decide)]
  · unfold kernelRun0_C.sl.HS0_1
    rw [read_whole _ _ (by decide), readAt_whole (hs0_2 t) _ (by decide),
      readAt_whole (hs0_3 t) _ (by decide),
      readAt_whole (hs0_4 t) _ (by decide),
      readAt_whole (hs0_7 t) _ (by decide)]
    exact congrArg (k0_pay8 (dkT m c t) (spB m c t) (dvT m c t) (spB m c t) · (kvnT m c t)) (acc_back _)

theorem outs_dx (c : Dev nD) (t : Fin cfg0.N) :
    (outsAt0 m c t.val t.isLt).1 = dxPay (dkT m c t) (dvT m c t) (hT m c t) (gB m c t) (wB m c t) (spB m c t) (dhT m c t)
    ∧ (outsAt0 m c t.val t.isLt).2.1 = dxPayB (dkT m c t) (dvT m c t) (hT m c t) (gB m c t) (wB m c t) (spB m c t) (dhT m c t) := by
  by_cases h : t.val % 4 = 0
  · exact ⟨(outs_first m c t h).1, (outs_first m c t h).2.1⟩
  by_cases h3 : t.val % 4 = 3
  · exact ⟨(outs_last m c t h3).1, (outs_last m c t h3).2.1⟩
  · exact ⟨(outs_mid m c t h h3).1, (outs_mid m c t h h3).2.1⟩

/-- A later tile adds to what the tile before left. -/
theorem outs_next (c : Dev nD) (t : Fin cfg0.N) (h : t.val % 4 ≠ 0) :
    (outsAt0 m c t.val t.isLt).2.2.2.1 = dbPay (dkT m c t) (dvT m c t) (spB m c t) (outsAt0 m c (t.val - 1) (by omega)).2.2.2.1
    ∧ (outsAt0 m c t.val t.isLt).2.2.2.2.1 = dgPay (dkT m c t) (dvT m c t) (hT m c t) (wB m c t) (spB m c t) (outsAt0 m c (t.val - 1) (by omega)).2.2.2.2.1
    ∧ (outsAt0 m c t.val t.isLt).2.2.2.2.2
      = k0_pay8 (dkT m c t) (spB m c t) (dvT m c t) (spB m c t) (outsAt0 m c (t.val - 1) (by omega)).2.2.2.2.2 (kvnT m c t) := by
  by_cases h3 : t.val % 4 = 3
  · exact (outs_last m c t h3).2.2.2
  · exact (outs_mid m c t h h3).2.2

end Cert.KvBwdIdeal.Hand
-- ==== Proof.KvOuts.lean ====
/- The gradient of the attention's key and value projection and of the norm in front of it as one formula for each entry of each
   result, over the extended reals, and the arrays the kernel ends with: every entry is that formula. -/
module

public import proofs.«01_k».proof.Proof.KvSpec
public import proofs.«01_k».proof.Proof.RowTiles
public import proofs.«01_k».proof.Proof.Spread
public import Idealize.ShloMosaic.Lib.Claim
public import Idealize.ShloMosaic.Lib.StableHlo.ReadAt

@[expose] public section

set_option maxRecDepth 16384

noncomputable section

namespace Cert.KvBwdIdeal.Hand

open Cert.KvBwdIdeal.Gen
open Idealize.ShloMosaic Idealize.ShloMosaic.TcCoe Idealize.ShloMosaic.Tactic
open Cert.MlpIdeal.Hand (rowOf rstd dhRow firstRow firstRow_add)
open Cert.RowTiles
open Cert.Spread (one pos sum_pos)

variable (m : (ℓ : Loc nD τ sig) → Buf (Elt Ideal) ℓ)

/-- The arrays the gradients depend on: the stream, the gains, the weights and the cotangents of the stream, of
    the key and of the value, each head of these repeated four times. -/
structure Args where
  h : Fin 2048 → Fin 1024 → EReal
  g : Fin 1024 → EReal
  w : Fin 1024 → Fin 512 → EReal
  dh : Fin 2048 → Fin 1024 → EReal
  dk : Fin 2048 → Fin 1024 → EReal
  dv : Fin 2048 → Fin 1024 → EReal

namespace Args

variable (A : Args)

/-- The cotangents of the key and of the value beside each other, a head's four copies summed. -/
def dkv (i : Fin 2048) (k : Fin 512) : EReal :=
  if h : k.val < 256 then ∑ r, A.dk i (pos ⟨k.val, h⟩ r) else ∑ r, A.dv i (pos ⟨k.val - 256, by omega⟩ r)

/-- The normed rows, and the gradient at them. -/
def hn (i : Fin 2048) (d : Fin 1024) : EReal := A.h i d * rstd (A.h i) * A.g d
def u (i : Fin 2048) (d : Fin 1024) : EReal := ∑ k, A.dkv i k * A.w d k

/-- The four gradients. -/
def dx (i : Fin 2048) (d : Fin 1024) : EReal := dhRow (A.h i) A.g (A.u i) (A.dh i) d
def dw (d : Fin 1024) (k : Fin 512) : EReal := ∑ i, A.hn i d * A.dkv i k
def db (k : Fin 512) : EReal := ∑ i, A.dkv i k
def dg (d : Fin 1024) : EReal := ∑ i, A.u i d * A.h i d * rstd (A.h i)

end Args

/-- The call's arrays as a device's memory holds them. -/
def args (c : Dev nD) : Args where
  h i d := m ((c.tc : Thread nD τ).loc main_arg0) (ix2 i d)
  g d := m ((c.tc : Thread nD τ).loc main_arg1) (ix1 d)
  w d k := m ((c.tc : Thread nD τ).loc main_arg2) (ix2 d k)
  dh i d := m ((c.tc : Thread nD τ).loc main_arg4) (ix2 i d)
  dk i d := m ((c.tc : Thread nD τ).loc main_arg5) (ix2 i d)
  dv i d := m ((c.tc : Thread nD τ).loc main_arg6) (ix2 i d)

/-! ## The blocks of the operands -/

theorem entry_hn (c : Dev nD) (i : Fin 2048) (d : Fin 1024) : V m c main_v13 (ix2 i d) = (args m c).hn i d := by
  unfold V
  after_reads_at
  rfl

theorem entry_g (c : Dev nD) (d : Fin 1024) : V m c main_v14 (ix2 0 d) = (args m c).g d := by
  unfold V
  after_reads_at
  rfl

theorem entry_w (c : Dev nD) (d : Fin 1024) (k : Fin 512) : V m c main_v15 (ix2 d k) = (args m c).w d k := by
  unfold V
  after_reads_at
  rfl

theorem entry_h (c : Dev nD) (i : Fin 2048) (d : Fin 1024) : V m c main_arg0 (ix2 i d) = (args m c).h i d := by
  rw [V_main_arg0]; rfl

theorem entry_dh (c : Dev nD) (i : Fin 2048) (d : Fin 1024) : V m c main_arg4 (ix2 i d) = (args m c).dh i d := by
  rw [V_main_arg4]; rfl

theorem entry_dk (c : Dev nD) (i : Fin 2048) (d : Fin 1024) : V m c main_arg5 (ix2 i d) = (args m c).dk i d := by
  rw [V_main_arg5]; rfl

theorem entry_dv (c : Dev nD) (i : Fin 2048) (d : Fin 1024) : V m c main_arg6 (ix2 i d) = (args m c).dv i d := by
  rw [V_main_arg6]; rfl

theorem entry_sp (c : Dev nD) (r : Fin 256) (d : Fin 1024) : V m c main_v25 (ix2 r d) = one r d := by
  unfold V
  after_reads_at
  exact Cert.Spread.entry r d

theorem idx (t : Fin cfg0.N) : win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![0, 0]
    ∧ win0_7.index t = ![0, 0] ∧ win0_8.index t = ![t.val, 0] ∧ win0_9.index t = ![t.val, 0] ∧ win0_10.index t = ![0, 0]
    ∧ win0_11.index t = ![0, 0] ∧ win0_12.index t = ![0, 0] :=
  (by decide +kernel : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![0, 0]
    ∧ win0_7.index t = ![0, 0] ∧ win0_8.index t = ![t.val, 0] ∧ win0_9.index t = ![t.val, 0] ∧ win0_10.index t = ![0, 0]
    ∧ win0_11.index t = ![0, 0] ∧ win0_12.index t = ![0, 0]) t

theorem pt_lt {n : ℕ} (hn : n < cfg0.N) : n < 4 := hn

theorem hT_at (c : Dev nD) (t : Fin cfg0.N) (a : Fin 512) (d : Fin 1024) :
    hT m c t (ix2 a d) = (args m c).h (rowOf t.val (pt_lt t.isLt) a) d := by
  rw [← entry_h]; unfold hT rowOf; blk_ext [iblk, idx t]

theorem dhT_at (c : Dev nD) (t : Fin cfg0.N) (a : Fin 512) (d : Fin 1024) :
    dhT m c t (ix2 a d) = (args m c).dh (rowOf t.val (pt_lt t.isLt) a) d := by
  rw [← entry_dh]; unfold dhT rowOf; blk_ext [iblk, idx t]

theorem dkT_at (c : Dev nD) (t : Fin cfg0.N) (a : Fin 512) (d : Fin 1024) :
    dkT m c t (ix2 a d) = (args m c).dk (rowOf t.val (pt_lt t.isLt) a) d := by
  rw [← entry_dk]; unfold dkT rowOf; blk_ext [iblk, idx t]

theorem dvT_at (c : Dev nD) (t : Fin cfg0.N) (a : Fin 512) (d : Fin 1024) :
    dvT m c t (ix2 a d) = (args m c).dv (rowOf t.val (pt_lt t.isLt) a) d := by
  rw [← entry_dv]; unfold dvT rowOf; blk_ext [iblk, idx t]

theorem kvnT_at (c : Dev nD) (t : Fin cfg0.N) (a : Fin 512) (d : Fin 1024) :
    kvnT m c t (ix2 a d) = (args m c).hn (rowOf t.val (pt_lt t.isLt) a) d := by
  rw [← entry_hn]; unfold kvnT rowOf; blk_ext [iblk, idx t]

theorem spB_at (c : Dev nD) (t : Fin cfg0.N) (r : Fin 256) (d : Fin 1024) : spB m c t (ix2 r d) = one r d := by
  rw [← entry_sp]; unfold spB; blk_ext [iblk, idx t]

theorem gB_at (c : Dev nD) (t : Fin cfg0.N) (d : Fin 1024) : gB m c t (ix2 0 d) = (args m c).g d := by
  rw [← entry_g]; unfold gB; blk_ext [iblk, idx t]

theorem wB_at (c : Dev nD) (t : Fin cfg0.N) (d : Fin 1024) (k : Fin 512) : wB m c t (ix2 d k) = (args m c).w d k := by
  rw [← entry_w]; unfold wB; blk_ext [iblk, idx t]

theorem dkv_at (c : Dev nD) (t : Fin cfg0.N) (a k : Fin 512) :
    dkv (dkT m c t) (dvT m c t) (spB m c t) a k = (args m c).dkv (rowOf t.val (pt_lt t.isLt) a) k := by
  unfold dkv Args.dkv
  simp only [dkT_at, dvT_at, spB_at, sum_pos]

theorem u_at (c : Dev nD) (t : Fin cfg0.N) (a : Fin 512) (d : Fin 1024) :
    u (dkT m c t) (dvT m c t) (spB m c t) (wB m c t) a d = (args m c).u (rowOf t.val (pt_lt t.isLt) a) d := by
  unfold u Args.u
  simp only [dkv_at, wB_at]

/-! ## What the points leave -/

theorem dxPay_at (c : Dev nD) (t : Fin cfg0.N) (a : Fin 512) (d : Fin 1024) :
    dxPay (dkT m c t) (dvT m c t) (hT m c t) (gB m c t) (wB m c t) (spB m c t) (dhT m c t) (ix2 a d)
      = (args m c).dx (rowOf t.val (pt_lt t.isLt) a) d := by
  rw [dxPay_apply]
  unfold Args.dx
  rw [show u (dkT m c t) (dvT m c t) (spB m c t) (wB m c t) a = (args m c).u (rowOf t.val (pt_lt t.isLt) a) from funext (u_at m c t a)]
  simp only [hT_at, dhT_at, gB_at]

theorem outs_dx_at (c : Dev nD) (t : Fin cfg0.N) (a : Fin 512) (d : Fin 1024) :
    (outsAt0 m c t.val t.isLt).1 (ix2 a d) = (args m c).dx (rowOf t.val (pt_lt t.isLt) a) d := by
  rw [(outs_dx m c t).1]
  exact dxPay_at m c t a d

theorem outs_dxb_at (c : Dev nD) (t : Fin cfg0.N) (a : Fin 512) (d : Fin 1024) :
    (outsAt0 m c t.val t.isLt).2.1 (ix2 a d) = (args m c).dx (rowOf t.val (pt_lt t.isLt) a) d := by
  rw [(outs_dx m c t).2]
  exact dxPay_at m c t a d

theorem dw_tile (c : Dev nD) (t : Fin cfg0.N) (d : Fin 1024) (k : Fin 512) :
    ∑ a : Fin 512, kvnT m c t (ix2 a d) * dkv (dkT m c t) (dvT m c t) (spB m c t) a k = tile (fun i => (args m c).hn i d * (args m c).dkv i k) t.val := by
  rw [← tile_of _ _ (pt_lt t.isLt)]
  simp only [kvnT_at, dkv_at]

theorem db_tile (c : Dev nD) (t : Fin cfg0.N) (k : Fin 512) :
    ∑ a : Fin 512, dkv (dkT m c t) (dvT m c t) (spB m c t) a k = tile (fun i => (args m c).dkv i k) t.val := by
  rw [← tile_of _ _ (pt_lt t.isLt)]
  simp only [dkv_at]

theorem dg_tile (c : Dev nD) (t : Fin cfg0.N) (d : Fin 1024) :
    ∑ a : Fin 512, u (dkT m c t) (dvT m c t) (spB m c t) (wB m c t) a d * hT m c t (ix2 a d) * rstd (fun d => hT m c t (ix2 a d))
      = tile (fun i => (args m c).u i d * (args m c).h i d * rstd ((args m c).h i)) t.val := by
  rw [← tile_of _ _ (pt_lt t.isLt)]
  simp only [u_at, hT_at]

theorem acc_at (c : Dev nD) (d : Fin 1024) (k : Fin 512) (n : ℕ) (hn : n < cfg0.N) :
    (outsAt0 m c n hn).2.2.2.2.2 (ix2 d k)
      = ∑ j ∈ Finset.range (n + 1), tile (fun i => (args m c).hn i d * (args m c).dkv i k) j :=
  run_tile cfg0.N _ (fun n hn => (outsAt0 m c n hn).2.2.2.2.2 (ix2 d k))
    (fun h => by
      refine (congrFun (outs_first m c ⟨0, h⟩ rfl).2.2.2.2 _).trans ?_
      rw [pay8_apply, pay3_apply, dw_tile, zero_add])
    (fun n h => by
      refine (congrFun (outs_next m c ⟨n + 1, h⟩ (by have := pt_lt h; dsimp only; omega)).2.2 _).trans ?_
      rw [pay8_apply, dw_tile]; rfl) n hn

theorem sum_db (c : Dev nD) (a : Fin 8) (k : Fin 512) (n : ℕ) (hn : n < cfg0.N) :
    (outsAt0 m c n hn).2.2.2.1 (ix2 a k) = firstRow a (∑ j ∈ Finset.range (n + 1), tile (fun i => (args m c).dkv i k) j) :=
  run_row cfg0.N a _ (fun n hn => (outsAt0 m c n hn).2.2.2.1 (ix2 a k))
    (fun h => by
      refine (congrFun (outs_first m c ⟨0, h⟩ rfl).2.2.1 _).trans ?_
      rw [dbPay_apply, pay4_apply, db_tile, zero_add])
    (fun n h => by
      refine (congrFun (outs_next m c ⟨n + 1, h⟩ (by have := pt_lt h; dsimp only; omega)).1 _).trans ?_
      rw [dbPay_apply, db_tile]; rfl) n hn

theorem sum_dg (c : Dev nD) (a : Fin 8) (d : Fin 1024) (n : ℕ) (hn : n < cfg0.N) :
    (outsAt0 m c n hn).2.2.2.2.1 (ix2 a d)
      = firstRow a (∑ j ∈ Finset.range (n + 1), tile (fun i => (args m c).u i d * (args m c).h i d * rstd ((args m c).h i)) j) :=
  run_row cfg0.N a _ (fun n hn => (outsAt0 m c n hn).2.2.2.2.1 (ix2 a d))
    (fun h => by
      refine (congrFun (outs_first m c ⟨0, h⟩ rfl).2.2.2.1 _).trans ?_
      rw [dgPay_apply, pay5_apply, dg_tile, zero_add])
    (fun n h => by
      refine (congrFun (outs_next m c ⟨n + 1, h⟩ (by have := pt_lt h; dsimp only; omega)).2.1 _).trans ?_
      rw [dgPay_apply, dg_tile]; rfl) n hn

theorem outs_dw (c : Dev nD) (t : Fin cfg0.N) (h : t.val % 4 = 3) (d : Fin 1024) (k : Fin 512) :
    (outsAt0 m c t.val t.isLt).2.2.1 (ix2 d k) = (args m c).dw d k := by
  have ht := pt_lt t.isLt
  rw [(outs_last m c t h).2.2.1, pay2_apply, acc_at, show t.val = 3 by omega]
  exact sum_tile _

theorem outs_db (c : Dev nD) (t : Fin cfg0.N) (h : t.val % 4 = 3) (a : Fin 8) (k : Fin 512) :
    (outsAt0 m c t.val t.isLt).2.2.2.1 (ix2 a k) = firstRow a ((args m c).db k) := by
  have ht := pt_lt t.isLt
  rw [sum_db, show t.val = 3 by omega]
  exact congrArg (firstRow a) (sum_tile _)

theorem outs_dg (c : Dev nD) (t : Fin cfg0.N) (h : t.val % 4 = 3) (a : Fin 8) (d : Fin 1024) :
    (outsAt0 m c t.val t.isLt).2.2.2.2.1 (ix2 a d) = firstRow a ((args m c).dg d) := by
  have ht := pt_lt t.isLt
  rw [sum_dg, show t.val = 3 by omega]
  exact congrArg (firstRow a) (sum_tile _)

/-! ## The arrays -/

theorem arr_dx (c : Dev nD) : (dats m 0 c).arrAt 8 cfg0.N
    = (fun j : S2048x1024.Idx => (args m c).dx (j 0) (j 1) : Vec Ideal S2048x1024 .f32) := by
  refine (dats m 0 c).arrAt_eq_of_covers 8 _ (by decide +kernel) fun t hf y => ?_
  blk_simp
  rw [after0_8]
  refine (congrArg _ (ix2_eta (n0 := 512) (n1 := 1024) y).symm).trans ?_
  refine (outs_dx_at m c t (y 0) (y 1)).trans (congrArg₂ (args m c).dx (Fin.ext ?_) (Fin.ext ?_)) <;>
  · blk_simp [idx t]
    try (show 512 * t.val + (y 0).val = _; omega)

theorem arr_dxb (c : Dev nD) : (dats m 0 c).arrAt 9 cfg0.N
    = (fun j : S2048x1024.Idx => (args m c).dx (j 0) (j 1) : Vec Ideal S2048x1024 .bf16) := by
  refine (dats m 0 c).arrAt_eq_of_covers 9 _ (by decide +kernel) fun t hf y => ?_
  blk_simp
  rw [after0_9]
  refine (congrArg _ (ix2_eta (n0 := 512) (n1 := 1024) y).symm).trans ?_
  refine (outs_dxb_at m c t (y 0) (y 1)).trans (congrArg₂ (args m c).dx (Fin.ext ?_) (Fin.ext ?_)) <;>
  · blk_simp [idx t]
    try (show 512 * t.val + (y 0).val = _; omega)

theorem arr_dw (c : Dev nD) : (dats m 0 c).arrAt 10 cfg0.N
    = (fun j : S1024x512.Idx => (args m c).dw (j 0) (j 1) : Vec Ideal S1024x512 .bf16) := by
  refine (dats m 0 c).arrAt_eq_of_covers 10 _ (by decide +kernel) fun t hf y => ?_
  have ht := (flush0_10 t).mp hf
  blk_simp
  rw [after0_10]
  refine (congrArg _ (ix2_eta (n0 := 1024) (n1 := 512) y).symm).trans ?_
  refine (outs_dw m c t ht (y 0) (y 1)).trans (congrArg₂ (args m c).dw (Fin.ext ?_) (Fin.ext ?_)) <;>
  · blk_simp [idx t]

theorem arr_db (c : Dev nD) : (dats m 0 c).arrAt 11 cfg0.N
    = (fun j : S8x512.Idx => firstRow (j 0) ((args m c).db (j 1)) : Vec Ideal S8x512 .f32) := by
  refine (dats m 0 c).arrAt_eq_of_covers 11 _ (by decide +kernel) fun t hf y => ?_
  have ht := (flush0_11 t).mp hf
  blk_simp
  rw [after0_11]
  refine (congrArg _ (ix2_eta (n0 := 8) (n1 := 512) y).symm).trans ?_
  refine (outs_db m c t ht (y 0) (y 1)).trans
    (congrArg₂ (fun a d => firstRow a ((args m c).db d)) (Fin.ext ?_) (Fin.ext ?_)) <;>
  · blk_simp [idx t]

theorem arr_dg (c : Dev nD) : (dats m 0 c).arrAt 12 cfg0.N
    = (fun j : S8x1024.Idx => firstRow (j 0) ((args m c).dg (j 1)) : Vec Ideal S8x1024 .f32) := by
  refine (dats m 0 c).arrAt_eq_of_covers 12 _ (by decide +kernel) fun t hf y => ?_
  have ht := (flush0_12 t).mp hf
  blk_simp
  rw [after0_12]
  refine (congrArg _ (ix2_eta (n0 := 8) (n1 := 1024) y).symm).trans ?_
  refine (outs_dg m c t ht (y 0) (y 1)).trans
    (congrArg₂ (fun a d => firstRow a ((args m c).dg d)) (Fin.ext ?_) (Fin.ext ?_)) <;>
  · blk_simp [idx t]

end Cert.KvBwdIdeal.Hand
-- ==== Proof.KvRef.lean ====
/- The reference of the gradient of the attention's key and value projection and of the norm in front of it, every entry of its
   results as the formula of KvOuts, and: from agreeing arguments the kernel and its reference end with equal arrays. -/
module

public import proofs.«01_k».proof.Defs
public import proofs.«01_k».proof.Proof.Gen.KvBwdRefIdeal.Run
public import proofs.«01_k».proof.Proof.KvOuts
public import proofs.«01_k».proof.Proof.MlpRef
public import proofs.«01_k».proof.Proof.Spread

@[expose] public section

set_option maxRecDepth 16384

noncomputable section

namespace Cert.KvBwdRefIdeal.Hand

open Cert.KvBwdRefIdeal Cert.KvBwdRefIdeal.Value
open Idealize.ShloMosaic Idealize.ShloMosaic.TcCoe Idealize.ShloMosaic.Tactic
open Cert.MlpIdeal.Hand (firstRow rstd through meanSq row_eq)
open Cert.MlpRefIdeal.Hand (dg_rows)
open Cert.KvBwdIdeal.Hand (Args)
open Cert.Spread (pos)
variable (m : (ℓ : Loc nD τ sig) → Buf (Elt Ideal) ℓ)

/-- The call's arrays as a device's memory holds them. -/
def args (c : Dev nD) : Args where
  h i d := m ((c.tc : Thread nD τ).loc main_arg0) (ix2 i d)
  g d := m ((c.tc : Thread nD τ).loc main_arg1) (ix1 d)
  w d k := m ((c.tc : Thread nD τ).loc main_arg2) (ix2 d k)
  dh i d := m ((c.tc : Thread nD τ).loc main_arg4) (ix2 i d)
  dk i d := m ((c.tc : Thread nD τ).loc main_arg5) (ix2 i d)
  dv i d := m ((c.tc : Thread nD τ).loc main_arg6) (ix2 i d)

/-- The gradient at the normed rows as the key's share and the value's. -/
theorem u_halves (A : Args) (i : Fin 2048) (d : Fin 1024) :
    A.u i d = ∑ x : Fin 256, (∑ r, A.dk i (pos x r)) * A.w d ⟨x.val, by omega⟩
      + ∑ x : Fin 256, (∑ r, A.dv i (pos x r)) * A.w d ⟨256 + x.val, by omega⟩ := by
  refine (Fin.sum_univ_add (a := 256) (b := 256) fun k => A.dkv i k * A.w d k).trans
    (congrArg₂ (· + ·) (Finset.sum_congr rfl fun x _ => congrArg (· * _) ?_) (Finset.sum_congr rfl fun x _ => congrArg (· * _) ?_))
  · exact dif_pos x.isLt
  · refine (dif_neg (show ¬256 + x.val < 256 by omega)).trans ?_
    exact congrArg (fun y => ∑ r, A.dv i (pos y r)) (Fin.ext (Nat.add_sub_cancel_left 256 x.val))

theorem dx_at (c : Dev nD) (i : Fin 2048) (d : Fin 1024) : res_main_v63 m c (ix2 i d) = (args m c).dx i d := by
  unfold Args.dx
  rw [← row_eq]
  unfold res_main_v63
  clean_types
  pointwise
  simp only [through, meanSq, u_halves, pos, rstd, args]

theorem db_rows (X : Vec Ideal S2048x512 .f32) (a : Fin 8) (d : Fin 512) :
    (concatenate S8x512 0 [⟨S1x512, (shapeCast _ (Host.reduceAdd (shapeCast S1x512 (Host.reduceAdd X (constant (F := Ideal) S_ .f32 0x00000000#32) Gen.reducesTo_S2048x512_S512_d0 Gen.h_S_)
          Gen.shapeCasts_S512_S1x512) (constant S_ .f32 0x00000000#32) Gen.reducesTo_S1x512_S512_d0 Gen.h_S_) Gen.shapeCasts_S512_S1x512)⟩,
        ⟨S7x512, broadcastInDim S7x512 ![] Gen.bcast_S_S7x512 (constant (F := Ideal) S_ .f32 0x00000000#32)⟩]
      Gen.concatenates_S1x512_S7x512_S8x512_d0 : Vec Ideal S8x512 .f32) (ix2 a d) = firstRow a (∑ i, X (ix2 i d)) := by
  pointwise
  rw [Cert.MlpIdeal.Hand.firstRow_eq, Fin.sum_univ_one]
  split <;> rfl

/-- Every execution of the reference ends with the gradients of KvOuts and leaves its arguments as they were. -/
theorem run_args (ρ : Dev nD → PrngReg) :
    θ_run defs (onTc (τ := τ) (main (F := Ideal))) ⟨m, fun _ => 0, ρ⟩ fun r => ∀ c : Dev nD,
      r.2.mem ((c.tc : Thread nD τ).loc main_v63) = (fun j : S2048x1024.Idx => (args m c).dx (j 0) (j 1) : Vec Ideal S2048x1024 .f32)
      ∧ r.2.mem ((c.tc : Thread nD τ).loc main_v64) = (fun j : S2048x1024.Idx => (args m c).dx (j 0) (j 1) : Vec Ideal S2048x1024 .bf16)
      ∧ r.2.mem ((c.tc : Thread nD τ).loc main_v65) = (fun j : S1024x512.Idx => (args m c).dw (j 0) (j 1) : Vec Ideal S1024x512 .bf16)
      ∧ r.2.mem ((c.tc : Thread nD τ).loc main_v68) = (fun j : S8x512.Idx => firstRow (j 0) ((args m c).db (j 1)) : Vec Ideal S8x512 .f32)
      ∧ r.2.mem ((c.tc : Thread nD τ).loc main_v71) = (fun j : S8x1024.Idx => firstRow (j 0) ((args m c).dg (j 1)) : Vec Ideal S8x1024 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun r h c => ⟨(h c).1.trans ?_, (h c).2.1.trans ?_, (h c).2.2.1.trans ?_, (h c).2.2.2.1.trans ?_,
    (h c).2.2.2.2.1.trans ?_, (h c).2.2.2.2.2⟩) (run m ρ) <;>
  clear h <;> funext j <;> idx_vars j
  · exact dx_at m c _ _
  · unfold res_main_v64
    clean_types
    exact dx_at m c _ _
  · clean_types
    pointwise
    simp only [Args.dw, Args.hn, Args.dkv, pos, rstd, args]
    exact Finset.sum_congr rfl fun _ _ => mul_comm _ _
  · refine (db_rows _ _ _).trans (congrArg (firstRow _) (Finset.sum_congr rfl fun i _ => ?_))
    clean_types
    pointwise
    simp only [Args.dkv, pos, args]
  · refine (dg_rows _ _ _).trans (congrArg (firstRow _) (Finset.sum_congr rfl fun i _ => ?_))
    clean_types
    pointwise
    simp only [u_halves, pos, rstd, args]
    rw [mul_comm, ← mul_assoc]

end Cert.KvBwdRefIdeal.Hand

namespace Cert.KvBwdIdeal.Hand

open Cert.KvBwdIdeal Cert.KvBwdIdeal.Gen
open Idealize.ShloMosaic Idealize.ShloMosaic.TcCoe Idealize.SL.Sem
open Cert.MlpIdeal.Hand (firstRow)
variable (m : (ℓ : Loc nD τ sig) → Buf (Elt Ideal) ℓ)

set_option maxHeartbeats 1000000 in
/-- Every execution of the kernel ends with the gradients of KvOuts and leaves its arguments as they were. -/
theorem run_args (ρ : Dev nD → PrngReg) :
    θ_run defs (onTc (τ := τ) (main (F := Ideal))) ⟨m, fun _ => 0, ρ⟩ fun r => ∀ c : Dev nD,
      r.2.mem ((c.tc : Thread nD τ).loc main_v26_0) = (fun j : S2048x1024.Idx => (args m c).dx (j 0) (j 1) : Vec Ideal S2048x1024 .f32)
      ∧ r.2.mem ((c.tc : Thread nD τ).loc main_v26_1) = (fun j : S2048x1024.Idx => (args m c).dx (j 0) (j 1) : Vec Ideal S2048x1024 .bf16)
      ∧ r.2.mem ((c.tc : Thread nD τ).loc main_v26_2) = (fun j : S1024x512.Idx => (args m c).dw (j 0) (j 1) : Vec Ideal S1024x512 .bf16)
      ∧ r.2.mem ((c.tc : Thread nD τ).loc main_v26_3) = (fun j : S8x512.Idx => firstRow (j 0) ((args m c).db (j 1)) : Vec Ideal S8x512 .f32)
      ∧ r.2.mem ((c.tc : Thread nD τ).loc main_v26_4) = (fun j : S8x1024.Idx => firstRow (j 0) ((args m c).dg (j 1)) : Vec Ideal S8x1024 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono
    (fun _ h c => ⟨((h.1 c).1 8).trans (arr_dx m c), ((h.1 c).1 9).trans (arr_dxb m c), ((h.1 c).1 10).trans (arr_dw m c),
      ((h.1 c).1 11).trans (arr_db m c), ((h.1 c).1 12).trans (arr_dg m c), h.2.1 c⟩)
    (θ_run_and (run_main (F := Ideal) m ρ) (frame (F := Ideal) m ρ))

end Cert.KvBwdIdeal.Hand

namespace Cert.Value

open Idealize.ShloMosaic Idealize.SL.Sem

theorem algebraic_kv_bwd : Cert.algebraic_KvBwdIdeal_KvBwdRefIdeal := by
  intro m g m' g' _ agree
  have same : ∀ c, Cert.KvBwdRefIdeal.Hand.args m' c = Cert.KvBwdIdeal.Hand.args m c := fun c => by
    obtain ⟨h0, h1, h2, h3, h4, h5, h6⟩ := agree c
    unfold Cert.KvBwdRefIdeal.Hand.args Cert.KvBwdIdeal.Hand.args
    rw [h0, h1, h2, h4, h5, h6]
  refine ⟨_, _, _, _, _, Cert.KvBwdIdeal.Hand.run_args m g, ?_⟩
  have ran := Cert.KvBwdRefIdeal.Hand.run_args m' g'
  simp only [same] at ran
  exact ran

end Cert.Value

end
-- ==== Proof.GateOuts.lean ====
/- The S5 layer's gate as one formula for each entry of each result, over the extended reals, and the arrays the kernel
   ends with: every entry is that formula. -/
module

public import proofs.«01_k».proof.Proof.Gen.GateIdeal.Frame
public import proofs.«01_k».proof.Proof.MlpAlgebra
public import Idealize.ShloMosaic.Lib.Claim
public import Idealize.ShloMosaic.Lib.StableHlo.ReadAt

@[expose] public section

set_option maxRecDepth 16384

noncomputable section

namespace Cert.GateIdeal.Hand

open Cert.GateIdeal.Gen
open Idealize.ShloMosaic Idealize.ShloMosaic.TcCoe Idealize.ShloMosaic.Tactic
open Cert.MlpIdeal.Hand (rowOf rstd)

variable (m : (ℓ : Loc nD τ sig) → Buf (Elt Ideal) ℓ)

/-- The smooth gate function in its tanh form. -/
def gelu (x : EReal) : EReal :=
  x * (Ideal.ofBits .f32 0x3F000000#32 * (1
    + Ideal.tanh (Ideal.ofBits .f32 0x3F4C422A#32 * (x + Ideal.ofBits .f32 0x3D372713#32 * (x * (x * x))))))

/-- The arrays the results depend on: the scan's read-out, the stream, the norm's gain, the skip, the gate's weights and
    its bias. -/
structure Args where
  ys : Fin 2048 → Fin 1024 → EReal
  x : Fin 2048 → Fin 1024 → EReal
  g : Fin 1024 → EReal
  s : Fin 1024 → EReal
  w : Fin 1024 → Fin 2048 → EReal
  b : Fin 2048 → EReal

/-- A column of the value half of the gate, and of the gating half. -/
def valueCol (d : Fin 1024) : Fin 2048 := ⟨d.val, by omega⟩
def gateCol (d : Fin 1024) : Fin 2048 := ⟨1024 + d.val, by omega⟩

namespace Args

variable (A : Args)

/-- The read-out with the skip of the normed stream. -/
def y (i : Fin 2048) (d : Fin 1024) : EReal := A.ys i d + A.s d * (A.x i d * rstd (A.x i) * A.g d)

/-- The gate's product. -/
def z (i : Fin 2048) (k : Fin 2048) : EReal := ∑ d, gelu (A.y i d) * A.w d k + A.b k

/-- The stream with the gated half added. -/
def h (i : Fin 2048) (d : Fin 1024) : EReal := A.x i d + A.z i (valueCol d) * Ideal.logistic (A.z i (gateCol d))

end Args

/-- The call's arrays as a device's memory holds them. -/
def args (c : Dev nD) : Args where
  ys i d := m ((c.tc : Thread nD τ).loc main_arg0) (ix2 i d)
  x i d := m ((c.tc : Thread nD τ).loc main_arg1) (ix2 i d)
  g d := m ((c.tc : Thread nD τ).loc main_arg2) (ix1 d)
  s d := m ((c.tc : Thread nD τ).loc main_arg3) (ix1 d)
  w d k := m ((c.tc : Thread nD τ).loc main_arg4) (ix2 d k)
  b k := m ((c.tc : Thread nD τ).loc main_arg5) (ix1 k)

/-! ## The column blocks of the product -/

/-- One column block of the product with its bias. -/
def piece (v : FVec Ideal S512x1024 .bf16) (w : Vec Ideal S1x1024x256 .bf16) (b : Vec Ideal S1x256 .f32) (a : Fin 512) (e : Fin 256) : EReal :=
  ∑ d : Fin 1024, v (ix2 a d) * w (ix3 0 d e) + b (ix2 0 e)

/-- The product with its bias whole, the weights in eight column blocks. -/
def full (v : FVec Ideal S512x1024 .bf16) (W : Vec Ideal S8x1024x256 .bf16) (B : Vec Ideal S1x2048 .f32) (a : Fin 512) (k : Fin 2048) : EReal :=
  ∑ d : Fin 1024, v (ix2 a d) * W (ix3 ⟨k.val / 256, by omega⟩ d ⟨k.val % 256, by omega⟩) + B (ix2 0 k)

/-- A column block of the product is that block's columns of the whole. -/
theorem piece_of (v : FVec Ideal S512x1024 .bf16) (W : Vec Ideal S8x1024x256 .bf16) (B : Vec Ideal S1x2048 .f32)
    (w : Vec Ideal S1x1024x256 .bf16) (b : Vec Ideal S1x256 .f32) (j : Fin 8)
    (hw : ∀ (d : Fin 1024) (e : Fin 256), w (ix3 0 d e) = W (ix3 j d e))
    (hb : ∀ e : Fin 256, b (ix2 0 e) = B (ix2 0 ⟨256 * j.val + e.val, by omega⟩)) (a : Fin 512) (e : Fin 256) (k : Fin 2048)
    (hk : k.val = 256 * j.val + e.val) : piece v w b a e = full v W B a k := by
  rw [show k = ⟨256 * j.val + e.val, by omega⟩ from Fin.ext hk]
  have hj : (⟨(256 * j.val + e.val) / 256, by omega⟩ : Fin 8) = j := Fin.ext (by dsimp only; omega)
  have he : (⟨(256 * j.val + e.val) % 256, by omega⟩ : Fin 256) = e := Fin.ext (by dsimp only; omega)
  unfold piece full
  simp only [hw, hb, hj, he]

/-- The stream with the gated half added. -/
def gated (x : Vec Ideal S512x1024 .f32) (v : FVec Ideal S512x1024 .bf16) (W : Vec Ideal S8x1024x256 .bf16) (B : Vec Ideal S1x2048 .f32)
    (a : Fin 512) (d : Fin 1024) : EReal :=
  x (ix2 a d) + full v W B a ⟨d.val, by omega⟩ * Ideal.logistic (full v W B a ⟨1024 + d.val, by omega⟩)

/-- The same for a column block of the stream and the two blocks of the product it takes. -/
theorem gated_of (x : Vec Ideal S512x1024 .f32) (v : FVec Ideal S512x1024 .bf16) (W : Vec Ideal S8x1024x256 .bf16) (B : Vec Ideal S1x2048 .f32)
    (w w' : Vec Ideal S1x1024x256 .bf16) (b b' : Vec Ideal S1x256 .f32) (j : Fin 4)
    (hw : ∀ (d : Fin 1024) (e : Fin 256), w (ix3 0 d e) = W (ix3 ⟨j.val, by omega⟩ d e))
    (hb : ∀ e : Fin 256, b (ix2 0 e) = B (ix2 0 ⟨256 * j.val + e.val, by omega⟩))
    (hw' : ∀ (d : Fin 1024) (e : Fin 256), w' (ix3 0 d e) = W (ix3 ⟨j.val + 4, by omega⟩ d e))
    (hb' : ∀ e : Fin 256, b' (ix2 0 e) = B (ix2 0 ⟨256 * (j.val + 4) + e.val, by omega⟩)) (a : Fin 512) (e : Fin 256) (d : Fin 1024)
    (hd : d.val = 256 * j.val + e.val) (k : Fin 1024) (hk : k.val = d.val) :
    x (ix2 a k) + piece v w b a e * Ideal.logistic (piece v w' b' a e) = gated x v W B a d := by
  obtain rfl : k = d := Fin.ext hk
  unfold gated
  rw [piece_of v W B w b ⟨j.val, by omega⟩ hw hb a e ⟨k.val, by omega⟩ hd,
    piece_of v W B w' b' ⟨j.val + 4, by omega⟩ hw' hb' a e ⟨1024 + k.val, by omega⟩ (by dsimp only; omega)]

section

variable (v : FVec Ideal S512x1024 .bf16) (w w' : Vec Ideal S1x1024x256 .bf16) (b b' : Vec Ideal S1x256 .f32)
  (x : Vec Ideal S512x1024 .f32) (a : Fin 512) (e : Fin 256)

theorem pay1_apply : k0_pay1 v w b (ix2 a e) = piece v w b a e := by
  pointwise [k0_pay1]; rfl

theorem pay2_apply : k0_pay2 v w b (ix2 a e) = piece v w b a e := by
  pointwise [k0_pay2]; rfl

theorem pay7_apply : k0_pay7 v (k0_pay6 w) b (ix2 a e) = piece v w b a e := by
  pointwise [k0_pay7, k0_pay6]; rfl

theorem pay8_apply : k0_pay8 v w b (ix2 a e) = piece v w b a e := by
  pointwise [k0_pay8]; rfl

theorem pay10_apply : k0_pay10 v w b (ix2 a e) = piece v w b a e := by
  pointwise [k0_pay10]; rfl

theorem pay12_apply : k0_pay12 (k0_pay11 v w) b (ix2 a e) = piece v w b a e := by
  pointwise [k0_pay12, k0_pay11]; rfl

theorem pay14_apply : k0_pay14 v w b (ix2 a e) = piece v w b a e := by
  pointwise [k0_pay14]; rfl

theorem pay15_apply : k0_pay15 v w b (ix2 a e) = piece v w b a e := by
  pointwise [k0_pay15]; rfl

theorem pay3_apply : k0_pay3 x v w b w' b' (ix2 a e)
    = x (ix2 a ⟨768 + e.val, by omega⟩) + piece v w b a e * Ideal.logistic (piece v w' b' a e) := by
  rw [← pay1_apply, ← pay2_apply]
  unfold k0_pay3
  generalize k0_pay1 v w b = p
  generalize k0_pay2 v w' b' = q
  pointwise

theorem pay16_apply : k0_pay16 x v w b w' b' (ix2 a e)
    = x (ix2 a ⟨512 + e.val, by omega⟩) + piece v w b a e * Ideal.logistic (piece v w' b' a e) := by
  rw [← pay14_apply, ← pay15_apply]
  unfold k0_pay16
  generalize k0_pay14 v w b = p
  generalize k0_pay15 v w' b' = q
  pointwise

theorem pay13_apply : k0_pay13 x (k0_pay10 v w b) (k0_pay11 v w') b' (ix2 a e)
    = x (ix2 a ⟨256 + e.val, by omega⟩) + piece v w b a e * Ideal.logistic (piece v w' b' a e) := by
  rw [← pay10_apply, ← pay12_apply]
  unfold k0_pay13
  generalize k0_pay10 v w b = p
  generalize k0_pay12 (k0_pay11 v w') b' = q
  pointwise

theorem pay9_apply : k0_pay9 x v (k0_pay6 w) b w' b' (ix2 a e)
    = x (ix2 a ⟨0 + e.val, by omega⟩) + piece v w b a e * Ideal.logistic (piece v w' b' a e) := by
  rw [← pay7_apply, ← pay8_apply]
  unfold k0_pay9
  generalize k0_pay7 v (k0_pay6 w) b = p
  generalize k0_pay8 v w' b' = q
  pointwise

end

theorem pay5_apply (x : Vec Ideal S512x1024 .f32) (g : Vec Ideal S1x1024 .f32) (ys : Vec Ideal S512x1024 .f32) (s : Vec Ideal S1x1024 .f32)
    (a : Fin 512) (d : Fin 1024) : k0_pay5 x g ys s (ix2 a d) = gelu (k0_pay4 x g ys s (ix2 a d)) := by
  unfold k0_pay5
  generalize k0_pay4 x g ys s = y
  pointwise
  rfl

theorem rows_eq (x0 x1 : Vec Ideal S512x1024 .f32) (x2 x3 : Vec Ideal S1x1024 .f32) (x4 : Vec Ideal S8x1024x256 .bf16) (x5 : Vec Ideal S1x2048 .f32) :
    k0_pay17 x0 x1 x2 x3 x4 x5 = k0_pay5 x1 x2 x0 x3 := by
  unfold k0_pay17
  frame_out

theorem out_z (x0 x1 : Vec Ideal S512x1024 .f32) (x2 x3 : Vec Ideal S1x1024 .f32) (x4 : Vec Ideal S8x1024x256 .bf16) (x5 : Vec Ideal S1x2048 .f32)
    (y : S512x2048.Idx) : out0_7 x0 x1 x2 x3 x4 x5 y = full (k0_pay5 x1 x2 x0 x3) x4 x5 (y 0) (y 1) := by
  unfold out0_7 k0_pay20 k0_pay19 k0_pay18
  rw [rows_eq]
  generalize k0_pay5 x1 x2 x0 x3 = v
  have block := fun j w b hw hb => piece_of v x4 x5 w b j hw hb
  canon_tiles x h
  all_goals
    rw [show y 0 = x 0 from Fin.ext h0]
    refine (congrArg _ (ix2_eta (n0 := 512) (n1 := 256) x).symm).trans ?_
  · exact (pay2_apply ..).trans (block 7 _ _ (fun _ _ => by pointwise) (fun _ => by pointwise) _ _ _ h1)
  · exact (pay1_apply ..).trans (block 3 _ _ (fun _ _ => by pointwise) (fun _ => by pointwise) _ _ _ h1)
  · exact (pay15_apply ..).trans (block 6 _ _ (fun _ _ => by pointwise) (fun _ => by pointwise) _ _ _ h1)
  · exact (pay14_apply ..).trans (block 2 _ _ (fun _ _ => by pointwise) (fun _ => by pointwise) _ _ _ h1)
  · exact (pay12_apply ..).trans (block 5 _ _ (fun _ _ => by pointwise) (fun _ => by pointwise) _ _ _ h1)
  · exact (pay10_apply ..).trans (block 1 _ _ (fun _ _ => by pointwise) (fun _ => by pointwise) _ _ _ h1)
  · exact (pay8_apply ..).trans (block 4 _ _ (fun _ _ => by pointwise) (fun _ => by pointwise) _ _ _ h1)
  · exact (pay7_apply ..).trans (block 0 _ _ (fun _ _ => by pointwise) (fun _ => by pointwise) _ _ _ (h1.trans (Nat.zero_add _).symm))

theorem out_h (x0 x1 : Vec Ideal S512x1024 .f32) (x2 x3 : Vec Ideal S1x1024 .f32) (x4 : Vec Ideal S8x1024x256 .bf16) (x5 : Vec Ideal S1x2048 .f32)
    (y : S512x1024.Idx) : out0_8 x0 x1 x2 x3 x4 x5 y
      = gated x1 (k0_pay5 x1 x2 x0 x3) x4 x5 (y 0) (y 1) := by
  unfold out0_8 k0_pay20 k0_pay19 k0_pay18
  rw [rows_eq, show View.ld x1 r0_0 = x1 by frame_out]
  generalize k0_pay5 x1 x2 x0 x3 = v
  have block := fun j w w' b b' hw hb hw' hb' => gated_of x1 v x4 x5 w w' b b' j hw hb hw' hb'
  canon_tiles x h
  all_goals
    rw [show y 0 = x 0 from Fin.ext h0]
    refine (congrArg _ (ix2_eta (n0 := 512) (n1 := 256) x).symm).trans ?_
  · exact (pay3_apply ..).trans (block 3 _ _ _ _ (fun _ _ => by pointwise) (fun _ => by pointwise) (fun _ _ => by pointwise)
      (fun _ => by pointwise) _ _ _ h1 _ h1.symm)
  · exact (pay16_apply ..).trans (block 2 _ _ _ _ (fun _ _ => by pointwise) (fun _ => by pointwise) (fun _ _ => by pointwise)
      (fun _ => by pointwise) _ _ _ h1 _ h1.symm)
  · exact (pay13_apply ..).trans (block 1 _ _ _ _ (fun _ _ => by pointwise) (fun _ => by pointwise) (fun _ _ => by pointwise)
      (fun _ => by pointwise) _ _ _ h1 _ h1.symm)
  · exact (pay9_apply ..).trans (block 0 _ _ _ _ (fun _ _ => by pointwise) (fun _ => by pointwise) (fun _ _ => by pointwise)
      (fun _ => by pointwise) _ _ _ (h1.trans (Nat.zero_add _).symm) _ ((Nat.zero_add _).trans h1.symm))

/-! ## The blocks of the operands -/

abbrev ysT (c : Dev nD) (t : Fin cfg0.N) : Vec Ideal S512x1024 .f32 := iblk m c 0 t
abbrev xT (c : Dev nD) (t : Fin cfg0.N) : Vec Ideal S512x1024 .f32 := iblk m c 1 t
abbrev gB (c : Dev nD) (t : Fin cfg0.N) : Vec Ideal S1x1024 .f32 := iblk m c 2 t
abbrev sB (c : Dev nD) (t : Fin cfg0.N) : Vec Ideal S1x1024 .f32 := iblk m c 3 t
abbrev wB (c : Dev nD) (t : Fin cfg0.N) : Vec Ideal S8x1024x256 .bf16 := iblk m c 4 t
abbrev bB (c : Dev nD) (t : Fin cfg0.N) : Vec Ideal S1x2048 .f32 := iblk m c 5 t

theorem entry_ys (c : Dev nD) (i : Fin 2048) (d : Fin 1024) : V m c main_arg0 (ix2 i d) = (args m c).ys i d := by
  rw [V_main_arg0]; rfl

theorem entry_x (c : Dev nD) (i : Fin 2048) (d : Fin 1024) : V m c main_arg1 (ix2 i d) = (args m c).x i d := by
  rw [V_main_arg1]; rfl

theorem entry_g (c : Dev nD) (d : Fin 1024) : V m c main_v3 (ix2 0 d) = (args m c).g d := by
  unfold V
  after_reads_at
  rfl

theorem entry_s (c : Dev nD) (d : Fin 1024) : V m c main_v4 (ix2 0 d) = (args m c).s d := by
  unfold V
  after_reads_at
  rfl

theorem entry_b (c : Dev nD) (d : Fin 2048) : V m c main_v5 (ix2 0 d) = (args m c).b d := by
  unfold V
  after_reads_at
  rfl

theorem entry_w (c : Dev nD) (j : Fin 8) (d : Fin 1024) (e : Fin 256) :
    V m c main_v2 (ix3 j d e) = (args m c).w d ⟨j.val * 256 + e.val, by omega⟩ := by
  unfold V
  after_reads_at
  rfl

theorem idx (t : Fin cfg0.N) : win0_0.index t = ![t.val, 0] ∧ win0_1.index t = ![t.val, 0] ∧ win0_2.index t = ![0, 0] ∧ win0_3.index t = ![0, 0] ∧ win0_4.index t = ![0, 0, 0] ∧ win0_5.index t = ![0, 0] ∧ win0_6.index t = ![t.val, 0] ∧ win0_7.index t = ![t.val, 0] ∧ win0_8.index t = ![t.val, 0] :=
  (by decide +kernel : ∀ t : Fin cfg0.N, win0_0.index t = ![t.val, 0] ∧ win0_1.index t = ![t.val, 0] ∧ win0_2.index t = ![0, 0] ∧ win0_3.index t = ![0, 0] ∧ win0_4.index t = ![0, 0, 0] ∧ win0_5.index t = ![0, 0] ∧ win0_6.index t = ![t.val, 0] ∧ win0_7.index t = ![t.val, 0] ∧ win0_8.index t = ![t.val, 0]) t

theorem pt_lt {n : ℕ} (hn : n < cfg0.N) : n < 4 := hn

/-- The row of the stream that row `a` of tile `t` is. -/
abbrev row (t : Fin cfg0.N) (a : Fin 512) : Fin 2048 := rowOf t.val (pt_lt t.isLt) a

theorem ysT_at (c : Dev nD) (t : Fin cfg0.N) (a : Fin 512) (d : Fin 1024) : ysT m c t (ix2 a d) = (args m c).ys (row t a) d := by
  rw [← entry_ys]; unfold ysT row rowOf; blk_ext [iblk, idx t]

theorem xT_at (c : Dev nD) (t : Fin cfg0.N) (a : Fin 512) (d : Fin 1024) : xT m c t (ix2 a d) = (args m c).x (row t a) d := by
  rw [← entry_x]; unfold xT row rowOf; blk_ext [iblk, idx t]

theorem gB_at (c : Dev nD) (t : Fin cfg0.N) (d : Fin 1024) : gB m c t (ix2 0 d) = (args m c).g d := by
  rw [← entry_g]; unfold gB; blk_ext [iblk, idx t]

theorem sB_at (c : Dev nD) (t : Fin cfg0.N) (d : Fin 1024) : sB m c t (ix2 0 d) = (args m c).s d := by
  rw [← entry_s]; unfold sB; blk_ext [iblk, idx t]

theorem bB_at (c : Dev nD) (t : Fin cfg0.N) (k : Fin 2048) : bB m c t (ix2 0 k) = (args m c).b k := by
  rw [← entry_b]; unfold bB; blk_ext [iblk, idx t]

theorem wB_at (c : Dev nD) (t : Fin cfg0.N) (j : Fin 8) (d : Fin 1024) (e : Fin 256) :
    wB m c t (ix3 j d e) = (args m c).w d ⟨j.val * 256 + e.val, by omega⟩ := by
  rw [← entry_w]; unfold wB; blk_ext [iblk, idx t]

/-! ## What a point leaves -/

theorem pay4_apply (x : Vec Ideal S512x1024 .f32) (g : Vec Ideal S1x1024 .f32) (ys : Vec Ideal S512x1024 .f32) (s : Vec Ideal S1x1024 .f32)
    (a : Fin 512) (d : Fin 1024) : k0_pay4 x g ys s (ix2 a d)
      = ys (ix2 a d) + s (ix2 0 d) * (x (ix2 a d) * rstd (fun d => x (ix2 a d)) * g (ix2 0 d)) := by
  pointwise [k0_pay4]; rfl

theorem y_at (c : Dev nD) (t : Fin cfg0.N) (a : Fin 512) (d : Fin 1024) :
    k0_pay4 (xT m c t) (gB m c t) (ysT m c t) (sB m c t) (ix2 a d) = (args m c).y (row t a) d := by
  rw [pay4_apply]
  unfold Args.y
  simp only [xT_at, gB_at, ysT_at, sB_at]

theorem z_at (c : Dev nD) (t : Fin cfg0.N) (a : Fin 512) (k : Fin 2048) :
    full (k0_pay5 (xT m c t) (gB m c t) (ysT m c t) (sB m c t)) (wB m c t) (bB m c t) a k = (args m c).z (row t a) k := by
  unfold full Args.z
  have col : (⟨k.val / 256 * 256 + k.val % 256, by omega⟩ : Fin 2048) = k := Fin.ext (by dsimp only; omega)
  simp only [pay5_apply, y_at, wB_at, bB_at, col]

theorem h_at (c : Dev nD) (t : Fin cfg0.N) (a : Fin 512) (d : Fin 1024) :
    gated (xT m c t) (k0_pay5 (xT m c t) (gB m c t) (ysT m c t) (sB m c t)) (wB m c t) (bB m c t) a d = (args m c).h (row t a) d := by
  unfold gated Args.h
  rw [z_at, z_at, xT_at]
  rfl

theorem after_y (c : Dev nD) (t : Fin cfg0.N) (a : Fin 512) (d : Fin 1024) :
    (dats m 0 c).after 6 t (ix2 a d) = (args m c).y (row t a) d := by
  rw [after0_6]
  frame_out
  exact y_at m c t a d

theorem after_z (c : Dev nD) (t : Fin cfg0.N) (a : Fin 512) (k : Fin 2048) :
    (dats m 0 c).after 7 t (ix2 a k) = (args m c).z (row t a) k := by
  rw [after0_7]
  exact (out_z (ysT m c t) (xT m c t) (gB m c t) (sB m c t) (wB m c t) (bB m c t) (ix2 a k)).trans (z_at m c t a k)

theorem after_h (c : Dev nD) (t : Fin cfg0.N) (a : Fin 512) (d : Fin 1024) :
    (dats m 0 c).after 8 t (ix2 a d) = (args m c).h (row t a) d := by
  rw [after0_8]
  exact (out_h (ysT m c t) (xT m c t) (gB m c t) (sB m c t) (wB m c t) (bB m c t) (ix2 a d)).trans (h_at m c t a d)

/-! ## The arrays -/

theorem arr_y (c : Dev nD) : (dats m 0 c).arrAt 6 cfg0.N
    = (fun j : S2048x1024.Idx => (args m c).y (j 0) (j 1) : Vec Ideal S2048x1024 .f32) := by
  refine (dats m 0 c).arrAt_eq_of_covers 6 _ (by decide +kernel) fun t hf y => ?_
  blk_simp
  refine (congrArg _ (ix2_eta (n0 := 512) (n1 := 1024) y).symm).trans ?_
  refine (after_y m c t (y 0) (y 1)).trans (congrArg₂ (args m c).y (Fin.ext ?_) (Fin.ext ?_)) <;>
  · blk_simp [idx t]
    try (show 512 * t.val + (y 0).val = _; omega)

theorem arr_z (c : Dev nD) : (dats m 0 c).arrAt 7 cfg0.N
    = (fun j : S2048x2048.Idx => (args m c).z (j 0) (j 1) : Vec Ideal S2048x2048 .f32) := by
  refine (dats m 0 c).arrAt_eq_of_covers 7 _ (by decide +kernel) fun t hf y => ?_
  blk_simp
  refine (congrArg _ (ix2_eta (n0 := 512) (n1 := 2048) y).symm).trans ?_
  refine (after_z m c t (y 0) (y 1)).trans (congrArg₂ (args m c).z (Fin.ext ?_) (Fin.ext ?_)) <;>
  · blk_simp [idx t]
    try (show 512 * t.val + (y 0).val = _; omega)

theorem arr_h (c : Dev nD) : (dats m 0 c).arrAt 8 cfg0.N
    = (fun j : S2048x1024.Idx => (args m c).h (j 0) (j 1) : Vec Ideal S2048x1024 .f32) := by
  refine (dats m 0 c).arrAt_eq_of_covers 8 _ (by decide +kernel) fun t hf y => ?_
  blk_simp
  refine (congrArg _ (ix2_eta (n0 := 512) (n1 := 1024) y).symm).trans ?_
  refine (after_h m c t (y 0) (y 1)).trans (congrArg₂ (args m c).h (Fin.ext ?_) (Fin.ext ?_)) <;>
  · blk_simp [idx t]
    try (show 512 * t.val + (y 0).val = _; omega)

end Cert.GateIdeal.Hand

end
-- ==== Proof.GateRef.lean ====
/- The reference of the S5 layer's gate, every entry of its results as the formula of GateOuts, and: from agreeing arguments
   the kernel and its reference end with equal arrays. -/
module

public import proofs.«01_k».proof.Defs
public import proofs.«01_k».proof.Proof.Gen.GateRefIdeal.Run
public import proofs.«01_k».proof.Proof.GateOuts

@[expose] public section

set_option maxRecDepth 16384

noncomputable section

namespace Cert.GateRefIdeal.Hand

open Cert.GateRefIdeal Cert.GateRefIdeal.Value
open Idealize.ShloMosaic Idealize.ShloMosaic.TcCoe Idealize.ShloMosaic.Tactic
open Cert.MlpIdeal.Hand (rstd)
open Cert.GateIdeal.Hand (Args gelu valueCol gateCol)
variable (m : (ℓ : Loc nD τ sig) → Buf (Elt Ideal) ℓ)

/-- The call's arrays as a device's memory holds them. -/
def args (c : Dev nD) : Args where
  ys i d := m ((c.tc : Thread nD τ).loc main_arg0) (ix2 i d)
  x i d := m ((c.tc : Thread nD τ).loc main_arg1) (ix2 i d)
  g d := m ((c.tc : Thread nD τ).loc main_arg2) (ix1 d)
  s d := m ((c.tc : Thread nD τ).loc main_arg3) (ix1 d)
  w d k := m ((c.tc : Thread nD τ).loc main_arg4) (ix2 d k)
  b k := m ((c.tc : Thread nD τ).loc main_arg5) (ix1 k)

/-- The reference forms the cube from the other side. -/
theorem cube (y : EReal) : y * (y * y) = y * y * y := (mul_assoc y y y).symm

/-- Every execution of the reference ends with the formulas of GateOuts and leaves its arguments as they were. -/
theorem run_args (ρ : Dev nD → PrngReg) :
    θ_run defs (onTc (τ := τ) (main (F := Ideal))) ⟨m, fun _ => 0, ρ⟩ fun r => ∀ c : Dev nD,
      r.2.mem ((c.tc : Thread nD τ).loc main_v16) = (fun j : S2048x1024.Idx => (args m c).y (j 0) (j 1) : Vec Ideal S2048x1024 .f32)
      ∧ r.2.mem ((c.tc : Thread nD τ).loc main_v33) = (fun j : S2048x2048.Idx => (args m c).z (j 0) (j 1) : Vec Ideal S2048x2048 .f32)
      ∧ r.2.mem ((c.tc : Thread nD τ).loc main_v43) = (fun j : S2048x1024.Idx => (args m c).h (j 0) (j 1) : Vec Ideal S2048x1024 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ⟨(h c).1.trans ?_, (h c).2.1.trans ?_, (h c).2.2.1.trans ?_, (h c).2.2.2⟩) (run m ρ) <;>
  clear h <;> funext j <;> idx_vars j
  · clean_types
    pointwise
    simp only [Args.y, rstd, args]
  · clean_types
    unfold res_main_v33
    pointwise
    simp only [Args.z, Args.y, gelu, rstd, args, cube]
  · clean_types
    unfold res_main_v43
    pointwise
    simp only [Args.h, Args.z, Args.y, gelu, rstd, args, cube, valueCol, gateCol]
    rfl

end Cert.GateRefIdeal.Hand

namespace Cert.GateIdeal.Hand

open Cert.GateIdeal Cert.GateIdeal.Gen
open Idealize.ShloMosaic Idealize.ShloMosaic.TcCoe Idealize.SL.Sem
variable (m : (ℓ : Loc nD τ sig) → Buf (Elt Ideal) ℓ)

set_option maxHeartbeats 1000000 in
/-- Every execution of the kernel ends with the formulas of GateOuts and leaves its arguments as they were. -/
theorem run_args (ρ : Dev nD → PrngReg) :
    θ_run defs (onTc (τ := τ) (main (F := Ideal))) ⟨m, fun _ => 0, ρ⟩ fun r => ∀ c : Dev nD,
      r.2.mem ((c.tc : Thread nD τ).loc main_v6_0) = (fun j : S2048x1024.Idx => (args m c).y (j 0) (j 1) : Vec Ideal S2048x1024 .f32)
      ∧ r.2.mem ((c.tc : Thread nD τ).loc main_v6_1) = (fun j : S2048x2048.Idx => (args m c).z (j 0) (j 1) : Vec Ideal S2048x2048 .f32)
      ∧ r.2.mem ((c.tc : Thread nD τ).loc main_v6_2) = (fun j : S2048x1024.Idx => (args m c).h (j 0) (j 1) : Vec Ideal S2048x1024 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono
    (fun _ h c => ⟨((h.1 c).1 6).trans (arr_y m c), ((h.1 c).1 7).trans (arr_z m c), ((h.1 c).1 8).trans (arr_h m c), h.2.1 c⟩)
    (θ_run_and (run_main (F := Ideal) m ρ) (frame (F := Ideal) m ρ))

end Cert.GateIdeal.Hand

namespace Cert.Value

open Idealize.ShloMosaic Idealize.SL.Sem

theorem algebraic_gate : Cert.algebraic_GateIdeal_GateRefIdeal := by
  intro m g m' g' _ agree
  have same : ∀ c, Cert.GateRefIdeal.Hand.args m' c = Cert.GateIdeal.Hand.args m c := fun c => by
    obtain ⟨h0, h1, h2, h3, h4, h5⟩ := agree c
    unfold Cert.GateRefIdeal.Hand.args Cert.GateIdeal.Hand.args
    rw [h0, h1, h2, h3, h4, h5]
  refine ⟨_, _, _, Cert.GateIdeal.Hand.run_args m g, ?_⟩
  have ran := Cert.GateRefIdeal.Hand.run_args m' g'
  simp only [same] at ran
  exact ran

end Cert.Value

end
-- ==== Proof.GbRuns.lean ====
module

public import proofs.«01_k».proof.Proof.Gen.GateBwdIdeal.Skeleton
public import proofs.«01_k».proof.Proof.Gen.GateBwdIdeal.Frame

@[expose] public section

set_option maxRecDepth 16384

noncomputable section

namespace Cert.GateBwdIdeal.Hand

open Cert.GateBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The first tile of rows, -/
abbrev atFirst (i : grid0.Coords) : Prop :=
  Scalar.cmpi .ne (Scalar.extui (Scalar.cmpi .eq (BitVec.ofNat 32 (i 0).val) 0#32) : BitVec 32) 0#32 = 1#1
/-- and the last. -/
abbrev atLast (i : grid0.Coords) : Prop := k0_cond2 i = 1#1

/-! The stores into the kept arrays, at the rows of the tile. -/

theorem off1_eq (i : grid0.Coords) : k0_off1 i = ![512 * (i 0).val, 0] :=
  funext fun a => (by decide +kernel : ∀ (i : grid0.Coords) (a : Fin 2), k0_off1 i a = (![512 * (i 0).val, 0] : Fin 2 → ℕ) a) i a
theorem off2_eq (i : grid0.Coords) : k0_off2 i = ![512 * (i 0).val, 0] :=
  funext fun a => (by decide +kernel : ∀ (i : grid0.Coords) (a : Fin 2), k0_off2 i a = (![512 * (i 0).val, 0] : Fin 2 → ℕ) a) i a
theorem off3_eq (i : grid0.Coords) : k0_off3 i = ![512 * (i 0).val, 1024] :=
  funext fun a => (by decide +kernel : ∀ (i : grid0.Coords) (a : Fin 2), k0_off3 i a = (![512 * (i 0).val, 1024] : Fin 2 → ℕ) a) i a
theorem off4_eq (i : grid0.Coords) : k0_off4 i = ![512 * (i 0).val, 256] :=
  funext fun a => (by decide +kernel : ∀ (i : grid0.Coords) (a : Fin 2), k0_off4 i a = (![512 * (i 0).val, 256] : Fin 2 → ℕ) a) i a
theorem off5_eq (i : grid0.Coords) : k0_off5 i = ![512 * (i 0).val, 1280] :=
  funext fun a => (by decide +kernel : ∀ (i : grid0.Coords) (a : Fin 2), k0_off5 i a = (![512 * (i 0).val, 1280] : Fin 2 → ℕ) a) i a
theorem off6_eq (i : grid0.Coords) : k0_off6 i = ![512 * (i 0).val, 512] :=
  funext fun a => (by decide +kernel : ∀ (i : grid0.Coords) (a : Fin 2), k0_off6 i a = (![512 * (i 0).val, 512] : Fin 2 → ℕ) a) i a
theorem off7_eq (i : grid0.Coords) : k0_off7 i = ![512 * (i 0).val, 1536] :=
  funext fun a => (by decide +kernel : ∀ (i : grid0.Coords) (a : Fin 2), k0_off7 i a = (![512 * (i 0).val, 1536] : Fin 2 → ℕ) a) i a
theorem off8_eq (i : grid0.Coords) : k0_off8 i = ![512 * (i 0).val, 768] :=
  funext fun a => (by decide +kernel : ∀ (i : grid0.Coords) (a : Fin 2), k0_off8 i a = (![512 * (i 0).val, 768] : Fin 2 → ℕ) a) i a
theorem off9_eq (i : grid0.Coords) : k0_off9 i = ![512 * (i 0).val, 1792] :=
  funext fun a => (by decide +kernel : ∀ (i : grid0.Coords) (a : Fin 2), k0_off9 i a = (![512 * (i 0).val, 1792] : Fin 2 → ℕ) a) i a
instance closed1 (i : grid0.Coords) : ClosedOff (k0_off1 i) := ⟨![512 * (i 0).val, 0], off1_eq i⟩
instance closed2 (i : grid0.Coords) : ClosedOff (k0_off2 i) := ⟨![512 * (i 0).val, 0], off2_eq i⟩
instance closed3 (i : grid0.Coords) : ClosedOff (k0_off3 i) := ⟨![512 * (i 0).val, 1024], off3_eq i⟩
instance closed4 (i : grid0.Coords) : ClosedOff (k0_off4 i) := ⟨![512 * (i 0).val, 256], off4_eq i⟩
instance closed5 (i : grid0.Coords) : ClosedOff (k0_off5 i) := ⟨![512 * (i 0).val, 1280], off5_eq i⟩
instance closed6 (i : grid0.Coords) : ClosedOff (k0_off6 i) := ⟨![512 * (i 0).val, 512], off6_eq i⟩
instance closed7 (i : grid0.Coords) : ClosedOff (k0_off7 i) := ⟨![512 * (i 0).val, 1536], off7_eq i⟩
instance closed8 (i : grid0.Coords) : ClosedOff (k0_off8 i) := ⟨![512 * (i 0).val, 768], off8_eq i⟩
instance closed9 (i : grid0.Coords) : ClosedOff (k0_off9 i) := ⟨![512 * (i 0).val, 1792], off9_eq i⟩

set_option maxHeartbeats 2000000 in
/-- What the first tile of rows leaves: its rows of the gradient, the first sums over rows, and its rows of the kept arrays. -/
noncomputable def runFirst (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x2048 .f32) (harg3 : arg3.IsWhole) (arg4 : Memref sig .tc .vmem S8x1024x256 .bf16) (harg4 : arg4.IsWhole) (arg5 : Memref sig .tc .vmem S512x1024 .f32) (harg5 : arg5.IsWhole) (arg6 : Memref sig .tc .vmem S8x1024x256 .bf16) (harg6 : arg6.IsWhole) (arg7 : Memref sig .tc .vmem S8x2048 .f32) (harg7 : arg7.IsWhole) (arg8 : Memref sig .tc .vmem S2048x1024 .bf16) (harg8 : arg8.IsWhole) (arg9 : Memref sig .tc .vmem S2048x2048 .bf16) (harg9 : arg9.IsWhole)
    (x1 : Vec F S512x1024 .f32) (x2 : Vec F S512x1024 .f32) (x3 : Vec F S512x2048 .f32) (x4 : Vec F S8x1024x256 .bf16) (y8 : Vec F S2048x1024 .bf16) (y9 : Vec F S2048x2048 .bf16) (hc0 : atFirst i) (hc1 : ¬atLast i) :
    { L : List (View.Piece (Elt F) S512x1024 .f32) × List (View.Piece (Elt F) S8x2048 .f32) × List (View.Piece (Elt F) S2048x1024 .bf16) × List (View.Piece (Elt F) S2048x2048 .bf16) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare y8 ∗ owns (c : Thread nD τ) arg9 fullShare y9
            ∗ (iprop(owns (c : Thread nD τ) arg1 fullShare x1 ∗ owns (c : Thread nD τ) arg2 fullShare x2 ∗ owns (c : Thread nD τ) arg3 fullShare x3 ∗ owns (c : Thread nD τ) arg4 fullShare x4 ∗ (∃ f, arg5.view.loc (c : Thread nD τ) ↦[arg5.view.set]{fullShare} arg5.view.writes (Elt F) f L.1) ∗ (∃ d, owns (c : Thread nD τ) arg6 fullShare d) ∗ (∃ f, arg7.view.loc (c : Thread nD τ) ↦[arg7.view.set]{fullShare} arg7.view.writes (Elt F) f L.2.1) ∗ (arg8.view.loc (c : Thread nD τ) ↦[arg8.view.set]{fullShare} arg8.view.writes (Elt F) (harg8.unread y8) L.2.2.1) ∗ (arg9.view.loc (c : Thread nD τ) ↦[arg9.view.set]{fullShare} arg9.view.writes (Elt F) (harg9.unread y9) L.2.2.2)) -∗ K ⟨⟩))
          ⊢ wp frame (wpE (defs₀ (F := F)) Variants.none c none) E (cc0_s5_post_bwd i arg1 harg1 arg2 harg2 arg3 harg3 arg4 harg4 arg5 harg5 arg6 harg6 arg7 harg7 arg8 harg8 arg9 harg9) K } := by
  refine ⟨⟨?_, ?_, ?_, ?_⟩, fun E K => ?run⟩
  case run =>
    simp only [cc0_s5_post_bwd_eq_skeleton]; unfold cc0_s5_post_bwd_skel
    unfold owns
    iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, Hk⟩
    obtain rfl := harg1.eq_unread hf1; obtain rfl := harg2.eq_unread hf2; obtain rfl := harg3.eq_unread hf3; obtain rfl := harg4.eq_unread hf4; obtain rfl := harg8.eq_unread hf8; obtain rfl := harg9.eq_unread hf9
    sl_exec (disch := first | sl_exact hc0 | sl_exact hc1 | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; iexact H5
    isplitl [H6]
    · iexists _, _; isplitr; swap; · iexact H6
      ipureintro; rfl
    isplitl [H7]
    · iexists _; iexact H7
    isplitl [H8]
    · iexact H8
    iexact H9

set_option maxHeartbeats 2000000 in
/-- What a further tile leaves, of the sums that it finds. -/
noncomputable def runMid (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x2048 .f32) (harg3 : arg3.IsWhole) (arg4 : Memref sig .tc .vmem S8x1024x256 .bf16) (harg4 : arg4.IsWhole) (arg5 : Memref sig .tc .vmem S512x1024 .f32) (harg5 : arg5.IsWhole) (arg6 : Memref sig .tc .vmem S8x1024x256 .bf16) (harg6 : arg6.IsWhole) (arg7 : Memref sig .tc .vmem S8x2048 .f32) (harg7 : arg7.IsWhole) (arg8 : Memref sig .tc .vmem S2048x1024 .bf16) (harg8 : arg8.IsWhole) (arg9 : Memref sig .tc .vmem S2048x2048 .bf16) (harg9 : arg9.IsWhole)
    (x1 : Vec F S512x1024 .f32) (x2 : Vec F S512x1024 .f32) (x3 : Vec F S512x2048 .f32) (x4 : Vec F S8x1024x256 .bf16) (y7 : Vec F S8x2048 .f32) (y8 : Vec F S2048x1024 .bf16) (y9 : Vec F S2048x2048 .bf16) (hc0 : ¬atFirst i) (hc1 : ¬atLast i) :
    { L : List (View.Piece (Elt F) S512x1024 .f32) × List (View.Piece (Elt F) S8x2048 .f32) × List (View.Piece (Elt F) S2048x1024 .bf16) × List (View.Piece (Elt F) S2048x2048 .bf16) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d) ∗ owns (c : Thread nD τ) arg7 fullShare y7 ∗ owns (c : Thread nD τ) arg8 fullShare y8 ∗ owns (c : Thread nD τ) arg9 fullShare y9
            ∗ (iprop(owns (c : Thread nD τ) arg1 fullShare x1 ∗ owns (c : Thread nD τ) arg2 fullShare x2 ∗ owns (c : Thread nD τ) arg3 fullShare x3 ∗ owns (c : Thread nD τ) arg4 fullShare x4 ∗ (∃ f, arg5.view.loc (c : Thread nD τ) ↦[arg5.view.set]{fullShare} arg5.view.writes (Elt F) f L.1) ∗ (∃ d, owns (c : Thread nD τ) arg6 fullShare d) ∗ (∃ f, arg7.view.loc (c : Thread nD τ) ↦[arg7.view.set]{fullShare} arg7.view.writes (Elt F) f L.2.1) ∗ (arg8.view.loc (c : Thread nD τ) ↦[arg8.view.set]{fullShare} arg8.view.writes (Elt F) (harg8.unread y8) L.2.2.1) ∗ (arg9.view.loc (c : Thread nD τ) ↦[arg9.view.set]{fullShare} arg9.view.writes (Elt F) (harg9.unread y9) L.2.2.2)) -∗ K ⟨⟩))
          ⊢ wp frame (wpE (defs₀ (F := F)) Variants.none c none) E (cc0_s5_post_bwd i arg1 harg1 arg2 harg2 arg3 harg3 arg4 harg4 arg5 harg5 arg6 harg6 arg7 harg7 arg8 harg8 arg9 harg9) K } := by
  refine ⟨⟨?_, ?_, ?_, ?_⟩, fun E K => ?run⟩
  case run =>
    simp only [cc0_s5_post_bwd_eq_skeleton]; unfold cc0_s5_post_bwd_skel
    unfold owns
    iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%f8, %hf8, H8⟩, ⟨%f9, %hf9, H9⟩, Hk⟩
    obtain rfl := harg1.eq_unread hf1; obtain rfl := harg2.eq_unread hf2; obtain rfl := harg3.eq_unread hf3; obtain rfl := harg4.eq_unread hf4; obtain rfl := harg7.eq_unread hf7; obtain rfl := harg8.eq_unread hf8; obtain rfl := harg9.eq_unread hf9
    sl_exec (disch := first | sl_exact hc0 | sl_exact hc1 | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; iexact H5
    isplitl [H6]
    · iexists _, _; isplitr; swap; · iexact H6
      ipureintro; rfl
    isplitl [H7]
    · iexists _; iexact H7
    isplitl [H8]
    · iexact H8
    iexact H9

set_option maxHeartbeats 2000000 in
/-- What the last tile leaves: as a further one, and the gradient of the weights of all the kept rows. -/
noncomputable def runLast (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x2048 .f32) (harg3 : arg3.IsWhole) (arg4 : Memref sig .tc .vmem S8x1024x256 .bf16) (harg4 : arg4.IsWhole) (arg5 : Memref sig .tc .vmem S512x1024 .f32) (harg5 : arg5.IsWhole) (arg6 : Memref sig .tc .vmem S8x1024x256 .bf16) (harg6 : arg6.IsWhole) (arg7 : Memref sig .tc .vmem S8x2048 .f32) (harg7 : arg7.IsWhole) (arg8 : Memref sig .tc .vmem S2048x1024 .bf16) (harg8 : arg8.IsWhole) (arg9 : Memref sig .tc .vmem S2048x2048 .bf16) (harg9 : arg9.IsWhole)
    (x1 : Vec F S512x1024 .f32) (x2 : Vec F S512x1024 .f32) (x3 : Vec F S512x2048 .f32) (x4 : Vec F S8x1024x256 .bf16) (y7 : Vec F S8x2048 .f32) (y8 : Vec F S2048x1024 .bf16) (y9 : Vec F S2048x2048 .bf16) (hc0 : ¬atFirst i) (hc1 : atLast i) :
    { L : List (View.Piece (Elt F) S512x1024 .f32) × List (View.Piece (Elt F) S8x1024x256 .bf16) × List (View.Piece (Elt F) S8x2048 .f32) × List (View.Piece (Elt F) S2048x1024 .bf16) × List (View.Piece (Elt F) S2048x2048 .bf16) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d) ∗ owns (c : Thread nD τ) arg7 fullShare y7 ∗ owns (c : Thread nD τ) arg8 fullShare y8 ∗ owns (c : Thread nD τ) arg9 fullShare y9
            ∗ (iprop(owns (c : Thread nD τ) arg1 fullShare x1 ∗ owns (c : Thread nD τ) arg2 fullShare x2 ∗ owns (c : Thread nD τ) arg3 fullShare x3 ∗ owns (c : Thread nD τ) arg4 fullShare x4 ∗ (∃ f, arg5.view.loc (c : Thread nD τ) ↦[arg5.view.set]{fullShare} arg5.view.writes (Elt F) f L.1) ∗ (∃ f, arg6.view.loc (c : Thread nD τ) ↦[arg6.view.set]{fullShare} arg6.view.writes (Elt F) f L.2.1) ∗ (∃ f, arg7.view.loc (c : Thread nD τ) ↦[arg7.view.set]{fullShare} arg7.view.writes (Elt F) f L.2.2.1) ∗ (arg8.view.loc (c : Thread nD τ) ↦[arg8.view.set]{fullShare} arg8.view.writes (Elt F) (harg8.unread y8) L.2.2.2.1) ∗ (arg9.view.loc (c : Thread nD τ) ↦[arg9.view.set]{fullShare} arg9.view.writes (Elt F) (harg9.unread y9) L.2.2.2.2)) -∗ K ⟨⟩))
          ⊢ wp frame (wpE (defs₀ (F := F)) Variants.none c none) E (cc0_s5_post_bwd i arg1 harg1 arg2 harg2 arg3 harg3 arg4 harg4 arg5 harg5 arg6 harg6 arg7 harg7 arg8 harg8 arg9 harg9) K } := by
  refine ⟨⟨?_, ?_, ?_, ?_, ?_⟩, fun E K => ?run⟩
  case run =>
    simp only [cc0_s5_post_bwd_eq_skeleton]; unfold cc0_s5_post_bwd_skel
    unfold owns
    iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%f8, %hf8, H8⟩, ⟨%f9, %hf9, H9⟩, Hk⟩
    obtain rfl := harg1.eq_unread hf1; obtain rfl := harg2.eq_unread hf2; obtain rfl := harg3.eq_unread hf3; obtain rfl := harg4.eq_unread hf4; obtain rfl := harg7.eq_unread hf7; obtain rfl := harg8.eq_unread hf8; obtain rfl := harg9.eq_unread hf9
    sl_exec (disch := first | sl_exact hc0 | sl_exact hc1 | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; iexact H5
    isplitl [H6]
    · iexists _; iexact H6
    isplitl [H7]
    · iexists _; iexact H7
    isplitl [H8]
    · iexact H8
    iexact H9

end Cert.GateBwdIdeal.Hand

end
-- ==== Proof.GbKept.lean ====
module

public import proofs.«01_k».proof.Proof.GbRuns
public import Idealize.ShloMosaic.Lib.WritesUnit
public import Idealize.ShloMosaic.Lib.Claim
public import Idealize.ShloMosaic.Lib.ValueIdxCore

@[expose] public section

set_option maxRecDepth 16384

noncomputable section

namespace Cert.GateBwdIdeal.Hand

open Cert.GateBwdIdeal.Gen
open Idealize.ShloMosaic Idealize.ShloMosaic.TcCoe Idealize.ShloMosaic.Tactic
open Idealize.SL Idealize.SL.Sem Idealize.ShloMosaic.ValueIdx

variable {F : FTy → Type} [FloatOps F] [Named F]

/-! The two kept arrays are filled tile of rows by tile of rows: what a point stores is read back at the rows of its tile,
and what stood there before at the other rows. -/

/-- One store of 256 columns at the rows of a tile. -/
theorem read_strip {κ : Kind} {sp : Space} {e : EltTy} (v : View sig κ sp S2048x2048 e) (f : v.ty.Contents (Elt F)) {off : Fin 2 → ℕ}
    (inb : ∀ a, off a + S512x256.size a ≤ S2048x2048.size a) (w : S512x256.Idx → Elt F e) (L : List (View.Piece (Elt F) S2048x2048 e))
    (y : S2048x2048.Idx) (t k : ℕ) (heq : off = ![512 * t, 256 * k]) :
    v.read (Elt F) (v.writes (Elt F) f ((⟨Rect.unit off S512x256.size inb, w⟩ : View.Piece (Elt F) S2048x2048 e) :: L)) y
      = if (y 0).val / 512 = t ∧ (y 1).val / 256 = k then
          w (ix2 (n0 := 512) (n1 := 256) ⟨(y 0).val % 512, Nat.mod_lt _ (by omega)⟩ ⟨(y 1).val % 256, Nat.mod_lt _ (by omega)⟩)
        else v.read (Elt F) (v.writes (Elt F) f L) y := by
  split
  · rename_i h
    refine View.read_writes_cons_unit_of_mem v f inb w L y _ heq (Fin.forall_fin_two.mpr ⟨?_, ?_⟩)
    · show (y 0).val = 512 * t + (y 0).val % 512
      omega
    · show (y 1).val = 256 * k + (y 1).val % 256
      omega
  · rename_i h
    by_cases h0 : (y 0).val / 512 = t
    · refine View.read_writes_cons_unit_of_not_mem v f inb w L y heq (1 : Fin 2) ?_
      show (y 1).val < 256 * k ∨ 256 * k + 256 ≤ (y 1).val
      omega
    · refine View.read_writes_cons_unit_of_not_mem v f inb w L y heq (0 : Fin 2) ?_
      show (y 0).val < 512 * t ∨ 512 * t + 512 ≤ (y 0).val
      omega

section

variable (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x2048 .f32) (harg3 : arg3.IsWhole)
  (x1 x2 : Vec F S512x1024 .f32) (x3 : Vec F S512x2048 .f32)

/-- The rows of the activations that a tile keeps, -/
def yTile : Vec F S512x1024 .bf16 :=
  k0_pay13 (View.readAt (Elt F) arg2.view (Rect.unit ![0, 0] S512x1024.size inb_S512x1024_S512x1024_0_0).toLoadRect (harg2.unread x2))

/-- and of the gradient before the gate, by blocks of 256 columns. -/
def zTile : ℕ → Vec F S512x256 .bf16
  | 7 => k0_pay57 (runLast.sl.v209 c arg1 harg1 arg3 harg3 x1 x3)
  | 3 => k0_pay56 (runLast.sl.v203 c arg1 harg1 arg3 harg3 x1 x3)
  | 6 => runLast.sl.v188 c arg1 harg1 arg3 harg3 x1 x3
  | 2 => runLast.sl.v184 c arg1 harg1 arg3 harg3 x1 x3
  | 5 => runLast.sl.v131 c arg1 harg1 arg3 harg3 x1 x3
  | 1 => runLast.sl.v127 c arg1 harg1 arg3 harg3 x1 x3
  | 4 => runLast.sl.v74 c arg1 harg1 arg3 harg3 x1 x3
  | _ => runLast.sl.v70 c arg1 harg1 arg3 harg3 x1 x3

theorem read_y {κ : Kind} {sp : Space} (v : View sig κ sp S2048x1024 .bf16) (f : v.ty.Contents (Elt F)) (y : S2048x1024.Idx) :
    v.read (Elt F) (v.writes (Elt F) f (runLast.sl.H8_1 c i arg2 harg2 x2)) y
      = if (y 0).val / 512 = (i 0).val then
          yTile arg2 harg2 x2 (ix2 (n0 := 512) (n1 := 1024) ⟨(y 0).val % 512, Nat.mod_lt _ (by omega)⟩ (y 1))
        else v.read (Elt F) f y := by
  unfold runLast.sl.H8_1
  split
  · rename_i h
    refine View.read_writes_cons_unit_of_mem v f _ _ [] y _ (off1_eq i) (Fin.forall_fin_two.mpr ⟨?_, ?_⟩)
    · show (y 0).val = 512 * (i 0).val + (y 0).val % 512
      omega
    · show (y 1).val = 0 + (y 1).val
      omega
  · rename_i h
    refine View.read_writes_cons_unit_of_not_mem v f _ _ [] y (off1_eq i) (0 : Fin 2) ?_
    show (y 0).val < 512 * (i 0).val ∨ 512 * (i 0).val + 512 ≤ (y 0).val
    omega

theorem read_z {κ : Kind} {sp : Space} (v : View sig κ sp S2048x2048 .bf16) (f : v.ty.Contents (Elt F)) (y : S2048x2048.Idx) :
    v.read (Elt F) (v.writes (Elt F) f (runLast.sl.H9_8 c i arg1 harg1 arg3 harg3 x1 x3)) y
      = if (y 0).val / 512 = (i 0).val then
          zTile c arg1 harg1 arg3 harg3 x1 x3 ((y 1).val / 256) (ix2 (n0 := 512) (n1 := 256) ⟨(y 0).val % 512, Nat.mod_lt _ (by omega)⟩ ⟨(y 1).val % 256, Nat.mod_lt _ (by omega)⟩)
        else v.read (Elt F) f y := by
  unfold runLast.sl.H9_8
  rw [read_strip v f _ _ _ y (i 0).val 7 (off9_eq i), read_strip v f _ _ _ y (i 0).val 3 (off8_eq i), read_strip v f _ _ _ y (i 0).val 6 (off7_eq i),
    read_strip v f _ _ _ y (i 0).val 2 (off6_eq i), read_strip v f _ _ _ y (i 0).val 5 (off5_eq i), read_strip v f _ _ _ y (i 0).val 1 (off4_eq i),
    read_strip v f _ _ _ y (i 0).val 4 (off3_eq i), read_strip v f _ _ _ y (i 0).val 0 (off2_eq i), View.writes_nil]
  have hq : (y 1).val / 256 < 8 := by have : (y 1).val < 2048 := (y 1).isLt; omega
  generalize (y 1).val / 256 = q at hq ⊢
  by_cases h : (y 0).val / 512 = (i 0).val
  · simp only [h, true_and, if_true]
    interval_cases q <;> rfl
  · simp only [h, false_and, if_false]

variable (arg8 : Memref sig .tc .vmem S2048x1024 .bf16) (harg8 : arg8.IsWhole) (arg9 : Memref sig .tc .vmem S2048x2048 .bf16) (harg9 : arg9.IsWhole)

/-- Kept arrays that agree after the point's stores hold the same. -/
theorem same_y (y8 y8' : Vec F S2048x1024 .bf16) (h : ∀ y : S2048x1024.Idx, (y 0).val / 512 ≠ (i 0).val → y8 y = y8' y) :
    arg8.view.writes (Elt F) (harg8.unread y8) (runLast.sl.H8_1 c i arg2 harg2 x2) = arg8.view.writes (Elt F) (harg8.unread y8') (runLast.sl.H8_1 c i arg2 harg2 x2) := by
  refine (harg8.eq_unread rfl).trans ((harg8.eq_unread ?_).symm)
  funext y
  rw [read_y, read_y]
  split
  · rfl
  · rename_i hy
    rw [harg8.read_unread, harg8.read_unread]; exact (h y hy).symm

theorem same_z (y9 y9' : Vec F S2048x2048 .bf16) (h : ∀ y : S2048x2048.Idx, (y 0).val / 512 ≠ (i 0).val → y9 y = y9' y) :
    arg9.view.writes (Elt F) (harg9.unread y9) (runLast.sl.H9_8 c i arg1 harg1 arg3 harg3 x1 x3) = arg9.view.writes (Elt F) (harg9.unread y9') (runLast.sl.H9_8 c i arg1 harg1 arg3 harg3 x1 x3) := by
  refine (harg9.eq_unread rfl).trans ((harg9.eq_unread ?_).symm)
  funext y
  rw [read_z, read_z]
  split
  · rfl
  · rename_i hy
    rw [harg9.read_unread, harg9.read_unread]; exact (h y hy).symm

end

section

variable (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x2048 .f32) (harg3 : arg3.IsWhole) (arg4 : Memref sig .tc .vmem S8x1024x256 .bf16) (harg4 : arg4.IsWhole) (arg5 : Memref sig .tc .vmem S512x1024 .f32) (harg5 : arg5.IsWhole) (arg6 : Memref sig .tc .vmem S8x1024x256 .bf16) (harg6 : arg6.IsWhole) (arg7 : Memref sig .tc .vmem S8x2048 .f32) (harg7 : arg7.IsWhole) (arg8 : Memref sig .tc .vmem S2048x1024 .bf16) (harg8 : arg8.IsWhole) (arg9 : Memref sig .tc .vmem S2048x2048 .bf16) (harg9 : arg9.IsWhole)
    (x1 : Vec F S512x1024 .f32) (x2 : Vec F S512x1024 .f32) (x3 : Vec F S512x2048 .f32) (x4 : Vec F S8x1024x256 .bf16) (y7 : Vec F S8x2048 .f32) (y8 y8' : Vec F S2048x1024 .bf16) (y9 y9' : Vec F S2048x2048 .bf16)

theorem first_y (hc0 hc1) : (runFirst c i arg1 harg1 arg2 harg2 arg3 harg3 arg4 harg4 arg5 harg5 arg6 harg6 arg7 harg7 arg8 harg8 arg9 harg9 x1 x2 x3 x4 y8 y9 hc0 hc1).1.2.2.1 = runLast.sl.H8_1 c i arg2 harg2 x2 := rfl
theorem first_z (hc0 hc1) : (runFirst c i arg1 harg1 arg2 harg2 arg3 harg3 arg4 harg4 arg5 harg5 arg6 harg6 arg7 harg7 arg8 harg8 arg9 harg9 x1 x2 x3 x4 y8 y9 hc0 hc1).1.2.2.2 = runLast.sl.H9_8 c i arg1 harg1 arg3 harg3 x1 x3 := rfl
theorem mid_y (hc0 hc1) : (runMid c i arg1 harg1 arg2 harg2 arg3 harg3 arg4 harg4 arg5 harg5 arg6 harg6 arg7 harg7 arg8 harg8 arg9 harg9 x1 x2 x3 x4 y7 y8 y9 hc0 hc1).1.2.2.1 = runLast.sl.H8_1 c i arg2 harg2 x2 := rfl
theorem mid_z (hc0 hc1) : (runMid c i arg1 harg1 arg2 harg2 arg3 harg3 arg4 harg4 arg5 harg5 arg6 harg6 arg7 harg7 arg8 harg8 arg9 harg9 x1 x2 x3 x4 y7 y8 y9 hc0 hc1).1.2.2.2 = runLast.sl.H9_8 c i arg1 harg1 arg3 harg3 x1 x3 := rfl

/-- The last point's gradient of the weights sees of the kept arrays only what stands in them after its own stores. -/
theorem last_dw (hc0 hc1) (h8 : ∀ y : S2048x1024.Idx, (y 0).val / 512 ≠ (i 0).val → y8 y = y8' y) (h9 : ∀ y : S2048x2048.Idx, (y 0).val / 512 ≠ (i 0).val → y9 y = y9' y) :
    (runLast c i arg1 harg1 arg2 harg2 arg3 harg3 arg4 harg4 arg5 harg5 arg6 harg6 arg7 harg7 arg8 harg8 arg9 harg9 x1 x2 x3 x4 y7 y8 y9 hc0 hc1).1.2.1
      = (runLast c i arg1 harg1 arg2 harg2 arg3 harg3 arg4 harg4 arg5 harg5 arg6 harg6 arg7 harg7 arg8 harg8 arg9 harg9 x1 x2 x3 x4 y7 y8' y9' hc0 hc1).1.2.1 := by
  have e8 := same_y c i arg2 harg2 x2 arg8 harg8 y8 y8' h8
  have e9 := same_z c i arg1 harg1 arg3 harg3 x1 x3 arg9 harg9 y9 y9' h9
  have h288 : runLast.sl.v288 c i arg1 harg1 arg2 harg2 arg3 harg3 arg8 harg8 arg9 harg9 x1 x2 x3 y8 y9 = runLast.sl.v288 c i arg1 harg1 arg2 harg2 arg3 harg3 arg8 harg8 arg9 harg9 x1 x2 x3 y8' y9' := by
    unfold runLast.sl.v288; rw [e8, e9]
  have h311 : runLast.sl.v311 c i arg1 harg1 arg2 harg2 arg3 harg3 arg8 harg8 arg9 harg9 x1 x2 x3 y8 y9 = runLast.sl.v311 c i arg1 harg1 arg2 harg2 arg3 harg3 arg8 harg8 arg9 harg9 x1 x2 x3 y8' y9' := by
    unfold runLast.sl.v311; rw [e8, e9]
  unfold runLast
  unfold runLast.sl.v316 runLast.sl.v313 runLast.sl.v312 runLast.sl.v308 runLast.sl.v305 runLast.sl.v304 runLast.sl.v303 runLast.sl.v300 runLast.sl.v299 runLast.sl.v298 runLast.sl.v295 runLast.sl.v294 runLast.sl.v293 runLast.sl.v290 runLast.sl.v289
  dsimp only
  rw [h288, h311]

end

end Cert.GateBwdIdeal.Hand

end
-- ==== Proof.GbFrame.lean ====
module

public import proofs.«01_k».proof.Proof.GbKept

@[expose] public section

set_option maxRecDepth 16384

noncomputable section

namespace Cert.GateBwdIdeal.Hand

open Cert.GateBwdIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

theorem atFirst_iff : ∀ t : Fin cfg0.N, atFirst (grid0.coords t) ↔ t.val = 0 :=
  (by decide +kernel : ∀ t : Fin grid0.N, atFirst (grid0.coords t) ↔ t.val = 0)
theorem atLast_iff : ∀ t : Fin cfg0.N, atLast (grid0.coords t) ↔ t.val = 3 :=
  (by decide +kernel : ∀ t : Fin grid0.N, atLast (grid0.coords t) ↔ t.val = 3)
theorem coord_eq : ∀ t : Fin cfg0.N, (grid0.coords t 0).val = t.val :=
  (by decide +kernel : ∀ t : Fin grid0.N, (grid0.coords t 0).val = t.val)
theorem lt_four (t : Fin cfg0.N) : t.val < 4 := t.isLt

/-! ## The staging buffers of a point, and the kept arrays -/

abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x1024x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S8x1024x256 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S8x2048 .f32 := win0_6.stage (cfg0.slots t 6)
abbrev hs0_6 (t : Fin cfg0.N) : (ms0_6 t).IsWhole := hstage0_6 ((cfg0.slots t 6).cast nbuf0_6)

/-- The activations kept, -/
abbrev scY : Memref sig .tc .vmem S2048x1024 .bf16 := Memref.whole cc0_scratch0
abbrev hY : scY.IsWhole := Memref.isWhole_whole _
/-- and the gradient before the gate. -/
abbrev scZ : Memref sig .tc .vmem S2048x2048 .bf16 := Memref.whole cc0_scratch1
abbrev hZ : scZ.IsWhole := Memref.isWhole_whole _

theorem PhiA_eq (c : Dev nD) :
    (Pipeline.ΦA spec0 c : sProp 𝕄)
      = iprop(((∃ d, owns (c : Thread nD τ) scY fullShare d) ∗ (∃ d, owns (c : Thread nD τ) scZ fullShare d)) ∗ (∃ r, prngReg c r)) := by
  unfold Pipeline.ΦA; rw [scopedRest0_eq]; simp only [scY, scZ, owns_whole]; try rfl

/-! ## The kept arrays -/

/-- The tile a row is in. -/
abbrev tileOf {k : ℕ} (x : (⟨2, ![2048, k]⟩ : Shape).Idx) : Fin cfg0.N := ⟨(x 0).val / 512, by have : (x 0).val < 2048 := (x 0).isLt; show _ < 4; omega⟩

/-- What the points put at a row of the kept activations, -/
def keptY (c : Dev nD) : Vec F S2048x1024 .bf16 := fun x =>
  yTile (ms0_1 (tileOf x)) (hs0_1 (tileOf x)) (iblk m c 1 (tileOf x)) (ix2 (n0 := 512) (n1 := 1024) ⟨(x 0).val % 512, Nat.mod_lt _ (by omega)⟩ (x 1))

/-- and of the kept gradient. -/
def keptZ (c : Dev nD) : Vec F S2048x2048 .bf16 := fun x =>
  zTile c (ms0_0 (tileOf x)) (hs0_0 (tileOf x)) (ms0_2 (tileOf x)) (hs0_2 (tileOf x)) (iblk m c 0 (tileOf x)) (iblk m c 2 (tileOf x)) ((x 1).val / 256)
    (ix2 (n0 := 512) (n1 := 256) ⟨(x 0).val % 512, Nat.mod_lt _ (by omega)⟩ ⟨(x 1).val % 256, Nat.mod_lt _ (by omega)⟩)

/-- The rows of the first `n` tiles are known. -/
def Rel (c : Dev nD) (n : ℕ) (s8 : Vec F S2048x1024 .bf16) (s9 : Vec F S2048x2048 .bf16) : Prop :=
  (∀ x : S2048x1024.Idx, (x 0).val < 512 * n → s8 x = keptY m c x) ∧ ∀ x : S2048x2048.Idx, (x 0).val < 512 * n → s9 x = keptZ m c x

abbrev listY (c : Dev nD) (t : Fin cfg0.N) := runLast.sl.H8_1 (F := F) c (grid0.coords t) (ms0_1 t) (hs0_1 t) (iblk m c 1 t)
abbrev listZ (c : Dev nD) (t : Fin cfg0.N) := runLast.sl.H9_8 (F := F) c (grid0.coords t) (ms0_0 t) (hs0_0 t) (ms0_2 t) (hs0_2 t) (iblk m c 0 t) (iblk m c 2 t)

theorem rel_step (c : Dev nD) (t : Fin cfg0.N) (s8 : Vec F S2048x1024 .bf16) (s9 : Vec F S2048x2048 .bf16) (h : Rel m c t.val s8 s9) :
    Rel m c (t.val + 1) (scY.view.read (Elt F) (scY.view.writes (Elt F) (hY.unread s8) (listY m c t)))
      (scZ.view.read (Elt F) (scZ.view.writes (Elt F) (hZ.unread s9) (listZ m c t))) := by
  have hc := coord_eq t
  constructor
  · intro x hx
    rw [read_y, hc]
    split
    · rename_i ht
      have e : t = tileOf x := Fin.ext ht.symm
      subst e; rfl
    · rename_i ht
      rw [hY.read_unread]; exact h.1 x (by omega)
  · intro x hx
    rw [read_z, hc]
    split
    · rename_i ht
      have e : t = tileOf x := Fin.ext ht.symm
      subst e; rfl
    · rename_i ht
      rw [hZ.read_unread]; exact h.2 x (by omega)

/-! ## What a point leaves -/

/-- The three output buffers after a point. -/
structure Outs (F : FTy → Type) [FloatOps F] where
  dy : Vec F S512x1024 .f32
  dw : Vec F S8x1024x256 .bf16
  db : Vec F S8x2048 .f32

section

variable (c : Dev nD) (t : Fin cfg0.N) (s8 : Vec F S2048x1024 .bf16) (s9 : Vec F S2048x2048 .bf16)

abbrev firstRun (h : t.val = 0) :=
  runFirst c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scY hY scZ hZ (iblk m c 0 t) (iblk m c 1 t) (iblk m c 2 t) (iblk m c 3 t) s8 s9 ((atFirst_iff t).mpr h) (fun h' => by have := (atLast_iff t).mp h'; omega)
abbrev midRun (h : t.val ≠ 0) (h3 : t.val ≠ 3) (y : Vec F S8x2048 .f32) :=
  runMid c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scY hY scZ hZ (iblk m c 0 t) (iblk m c 1 t) (iblk m c 2 t) (iblk m c 3 t) y s8 s9 (fun h' => h ((atFirst_iff t).mp h')) (fun h' => h3 ((atLast_iff t).mp h'))
abbrev lastRun (h3 : t.val = 3) (y : Vec F S8x2048 .f32) :=
  runLast c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scY hY scZ hZ (iblk m c 0 t) (iblk m c 1 t) (iblk m c 2 t) (iblk m c 3 t) y s8 s9 (fun h' => by have := (atFirst_iff t).mp h'; omega) ((atLast_iff t).mpr h3)

/-- A buffer's pieces read back. -/
abbrev back {S : Shape} {e : EltTy} (M : Memref sig .tc .vmem S e) (L : List (View.Piece (Elt F) S e)) : Vec F S e :=
  M.view.read (Elt F) (M.view.writes (Elt F) M.view.junk L)

theorem cover_first_dy (h) (y : S512x1024.Idx) : ∃ pc ∈ (firstRun m c t s8 s9 h).1.1, y ∈ pc.1.set :=
  View.cover_of_wholeMem (firstRun m c t s8 s9 h).1.1 (by sl_whole_mem) y
theorem cover_first_db (h) (y : S8x2048.Idx) : ∃ pc ∈ (firstRun m c t s8 s9 h).1.2.1, y ∈ pc.1.set :=
  View.cover_of_wholeMem (firstRun m c t s8 s9 h).1.2.1 (by sl_whole_mem) y
theorem cover_mid_dy (h h3 z) (y : S512x1024.Idx) : ∃ pc ∈ (midRun m c t s8 s9 h h3 z).1.1, y ∈ pc.1.set :=
  View.cover_of_wholeMem (midRun m c t s8 s9 h h3 z).1.1 (by sl_whole_mem) y
theorem cover_mid_db (h h3 z) (y : S8x2048.Idx) : ∃ pc ∈ (midRun m c t s8 s9 h h3 z).1.2.1, y ∈ pc.1.set :=
  View.cover_of_tiledL (midRun m c t s8 s9 h h3 z).1.2.1 S8x256.size (by sl_kernel_rfl) y
theorem cover_last_dy (h3 z) (y : S512x1024.Idx) : ∃ pc ∈ (lastRun m c t s8 s9 h3 z).1.1, y ∈ pc.1.set :=
  View.cover_of_wholeMem (lastRun m c t s8 s9 h3 z).1.1 (by sl_whole_mem) y
theorem cover_last_dw (h3 z) (y : S8x1024x256.Idx) : ∃ pc ∈ (lastRun m c t s8 s9 h3 z).1.2.1, y ∈ pc.1.set :=
  View.cover_of_tiledL (lastRun m c t s8 s9 h3 z).1.2.1 S1x1024x256.size (by sl_kernel_rfl) y
theorem cover_last_db (h3 z) (y : S8x2048.Idx) : ∃ pc ∈ (lastRun m c t s8 s9 h3 z).1.2.2.1, y ∈ pc.1.set :=
  View.cover_of_tiledL (lastRun m c t s8 s9 h3 z).1.2.2.1 S8x256.size (by sl_kernel_rfl) y

end

def firstOut (c : Dev nD) (t : Fin cfg0.N) (h : t.val = 0) : Outs F where
  dy := back (ms0_4 t) (firstRun m c t (keptY m c) (keptZ m c) h).1.1
  dw := back (ms0_5 t) []
  db := back (ms0_6 t) (firstRun m c t (keptY m c) (keptZ m c) h).1.2.1

def midOut (c : Dev nD) (t : Fin cfg0.N) (h : t.val ≠ 0) (h3 : t.val ≠ 3) (z : Outs F) : Outs F where
  dy := back (ms0_4 t) (midRun m c t (keptY m c) (keptZ m c) h h3 z.db).1.1
  dw := back (ms0_5 t) []
  db := back (ms0_6 t) (midRun m c t (keptY m c) (keptZ m c) h h3 z.db).1.2.1

def lastOut (c : Dev nD) (t : Fin cfg0.N) (h3 : t.val = 3) (z : Outs F) : Outs F where
  dy := back (ms0_4 t) (lastRun m c t (keptY m c) (keptZ m c) h3 z.db).1.1
  dw := back (ms0_5 t) (lastRun m c t (keptY m c) (keptZ m c) h3 z.db).1.2.1
  db := back (ms0_6 t) (lastRun m c t (keptY m c) (keptZ m c) h3 z.db).1.2.2.1

/-- The buffers after point `n`, from the first point on. -/
def outs (c : Dev nD) : (n : ℕ) → n < cfg0.N → Outs F
  | 0, hn => firstOut m c ⟨0, hn⟩ rfl
  | n + 1, hn =>
    if h3 : n + 1 = 3 then lastOut m c ⟨n + 1, hn⟩ h3 (outs c n (Nat.lt_of_succ_lt hn))
    else midOut m c ⟨n + 1, hn⟩ (Nat.succ_ne_zero n) h3 (outs c n (Nat.lt_of_succ_lt hn))

theorem outs_first (c : Dev nD) (t : Fin cfg0.N) (h : t.val = 0) : outs m c t.val t.isLt = firstOut m c t h := by
  obtain ⟨n, hn⟩ := t
  cases n with
  | zero => unfold outs; rfl
  | succ n => exact absurd h (Nat.succ_ne_zero n)

theorem outs_mid (c : Dev nD) (t : Fin cfg0.N) (h : t.val ≠ 0) (h3 : t.val ≠ 3) :
    outs m c t.val t.isLt = midOut m c t h h3 (outs m c (t.val - 1) (by omega)) := by
  obtain ⟨n, hn⟩ := t
  cases n with
  | zero => exact absurd rfl h
  | succ n => conv_lhs => unfold outs
              exact dif_neg h3

theorem outs_last (c : Dev nD) (t : Fin cfg0.N) (h3 : t.val = 3) :
    outs m c t.val t.isLt = lastOut m c t h3 (outs m c (t.val - 1) (by omega)) := by
  obtain ⟨n, hn⟩ := t
  cases n with
  | zero => exact absurd h3 (by dsimp only; omega)
  | succ n => conv_lhs => unfold outs
              exact dif_pos h3

/-! ## The pipeline's proof data -/

/-- The invariant before position `n`: the kept arrays hold the rows of the first `n` tiles. -/
def Carry (c : Dev nD) (n : ℕ) : sProp 𝕄 :=
  iprop(∃ s8, ∃ s9, ⌜Rel m c n s8 s9⌝ ∗ owns (c : Thread nD τ) scY fullShare s8 ∗ owns (c : Thread nD τ) scZ fullShare s9 ∗ (∃ r, prngReg c r))

/-- What a point's stores leave in the kept arrays is the invariant after it. -/
theorem carry_step (c : Dev nD) (t : Fin cfg0.N) (s8 : Vec F S2048x1024 .bf16) (s9 : Vec F S2048x2048 .bf16) (h : Rel m c t.val s8 s9) :
    iprop((scY.view.loc (c : Thread nD τ) ↦[scY.view.set]{fullShare} scY.view.writes (Elt F) (hY.unread s8) (listY m c t))
      ∗ (scZ.view.loc (c : Thread nD τ) ↦[scZ.view.set]{fullShare} scZ.view.writes (Elt F) (hZ.unread s9) (listZ m c t)) ∗ (∃ r, prngReg c r))
      ⊢ Carry m c (t.val + 1) := by
  unfold Carry
  iintro ⟨H8, H9, Hg⟩
  iexists (scY.view.read (Elt F) (scY.view.writes (Elt F) (hY.unread s8) (listY m c t)))
  iexists (scZ.view.read (Elt F) (scZ.view.writes (Elt F) (hZ.unread s9) (listZ m c t)))
  isplitr; · ipureintro; exact rel_step m c t s8 s9 h
  unfold owns
  isplitl [H8]
  · iexists _; isplitr
    swap; · iexact H8
    ipureintro; rfl
  isplitl [H9]
  · iexists _; isplitr
    swap; · iexact H9
    ipureintro; rfl
  iexact Hg

/-- What a point may leave in each window's buffer, given what it found there: an input as found, the gradient of the
    activations and of the bias what the points have left, the gradient of the weights what the last point leaves (before it
    anything). -/
def rdat (c : Dev nD) : RDat τ (Elt F) Unit ℕ (UR sig nD τ) ℕ cfg0 c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun _ X => X = (outs m c t.val t.isLt).dy
    | ⟨5, _⟩ => fun _ X => t.val = 3 → X = (outs m c t.val t.isLt).dw
    | ⟨6, _⟩ => fun _ X => X = (outs m c t.val t.isLt).db
  Φ t := Carry m c t.val
  q _ := fullShare
  owed _ := 0

theorem A_eq (c : Dev nD) (w : Fin cfg0.W) : (rdat m c).A w = V m c (Pipeline.arrRef spec0 w) := by
  dsimp only [rdat]

theorem after0_0 (c : Dev nD) (t : Fin cfg0.N) (Y X) : (rdat m c).after 0 t Y X ↔ (X = Y) := by dsimp only [rdat]; exact Iff.rfl
theorem after0_1 (c : Dev nD) (t : Fin cfg0.N) (Y X) : (rdat m c).after 1 t Y X ↔ (X = Y) := by dsimp only [rdat]; exact Iff.rfl
theorem after0_2 (c : Dev nD) (t : Fin cfg0.N) (Y X) : (rdat m c).after 2 t Y X ↔ (X = Y) := by dsimp only [rdat]; exact Iff.rfl
theorem after0_3 (c : Dev nD) (t : Fin cfg0.N) (Y X) : (rdat m c).after 3 t Y X ↔ (X = Y) := by dsimp only [rdat]; exact Iff.rfl
theorem after0_4 (c : Dev nD) (t : Fin cfg0.N) (Y X) : (rdat m c).after 4 t Y X ↔ (X = (outs m c t.val t.isLt).dy) := by dsimp only [rdat]; exact Iff.rfl
theorem after0_5 (c : Dev nD) (t : Fin cfg0.N) (Y X) : (rdat m c).after 5 t Y X ↔ (t.val = 3 → X = (outs m c t.val t.isLt).dw) := by dsimp only [rdat]; exact Iff.rfl
theorem after0_6 (c : Dev nD) (t : Fin cfg0.N) (Y X) : (rdat m c).after 6 t Y X ↔ (X = (outs m c t.val t.isLt).db) := by dsimp only [rdat]; exact Iff.rfl

theorem found0_0 (c : Dev nD) (t : Fin cfg0.N) (Y) (h : (rdat m c).Finds 0 t Y) : Y = iblk m c 0 t := by
  obtain ⟨d, hd⟩ := (rdat m c).finds_in_eq_fetched 0 rfl (fun _ _ _ => rfl) (fun t Y X h => (after0_0 m c t Y X).mp h) t Y h
  rw [hd]; unfold RDat.fetched RDat.blockOf iblk; rw [A_eq m c 0]; rfl
theorem found0_1 (c : Dev nD) (t : Fin cfg0.N) (Y) (h : (rdat m c).Finds 1 t Y) : Y = iblk m c 1 t := by
  obtain ⟨d, hd⟩ := (rdat m c).finds_in_eq_fetched 1 rfl (fun _ _ _ => rfl) (fun t Y X h => (after0_1 m c t Y X).mp h) t Y h
  rw [hd]; unfold RDat.fetched RDat.blockOf iblk; rw [A_eq m c 1]; rfl
theorem found0_2 (c : Dev nD) (t : Fin cfg0.N) (Y) (h : (rdat m c).Finds 2 t Y) : Y = iblk m c 2 t := by
  obtain ⟨d, hd⟩ := (rdat m c).finds_in_eq_fetched 2 rfl (fun _ _ _ => rfl) (fun t Y X h => (after0_2 m c t Y X).mp h) t Y h
  rw [hd]; unfold RDat.fetched RDat.blockOf iblk; rw [A_eq m c 2]; rfl
theorem found0_3 (c : Dev nD) (t : Fin cfg0.N) (Y) (h : (rdat m c).Finds 3 t Y) : Y = iblk m c 3 t := by
  obtain ⟨d, hd⟩ := (rdat m c).finds_in_eq_fetched 3 rfl (fun _ _ _ => rfl) (fun t Y X h => (after0_3 m c t Y X).mp h) t Y h
  rw [hd]; unfold RDat.fetched RDat.blockOf iblk; rw [A_eq m c 3]; rfl
theorem found0_6 (c : Dev nD) (t : Fin cfg0.N) (h0 : t.val ≠ 0) (Y) (h : (rdat m c).Finds 6 t Y) : Y = (outs m c (t.val - 1) (by omega)).db := by
  have h4 := lt_four t
  rcases ((rdat m c).finds_of_pos (Window.fetch_out _ rfl t) (by omega) Y).mp h with hf | ⟨Y', -, hR⟩
  · have := (flush0_6 _).mp hf; dsimp only at this; omega
  · exact (after0_6 m c _ Y' Y).mp hR

/-! ## The body obligation -/

def bodyPre (c : Dev nD) (t : Fin cfg0.N) (Y : (w : Fin cfg0.W) → (cfg0.win w).block.Idx → Elt F (cfg0.win w).elt) : sProp 𝕄 :=
  iprop((rdat m c).Φ t.castSucc
    ∗ (rdat m c).owesAt () t.castSucc
    ∗ owns (c : Thread nD τ) (ms0_0 t) fullShare (Y 0)
    ∗ owns (c : Thread nD τ) (ms0_1 t) fullShare (Y 1)
    ∗ owns (c : Thread nD τ) (ms0_2 t) fullShare (Y 2)
    ∗ owns (c : Thread nD τ) (ms0_3 t) fullShare (Y 3)
    ∗ owns (c : Thread nD τ) (ms0_4 t) fullShare (Y 4)
    ∗ owns (c : Thread nD τ) (ms0_5 t) fullShare (Y 5)
    ∗ owns (c : Thread nD τ) (ms0_6 t) fullShare (Y 6))

def bodyPost (c : Dev nD) (t : Fin cfg0.N) (Y : (w : Fin cfg0.W) → (cfg0.win w).block.Idx → Elt F (cfg0.win w).elt) : sProp 𝕄 :=
  iprop((rdat m c).Φ t.succ
    ∗ (rdat m c).owesAt () t.succ
    ∗ (∃ X, ⌜(rdat m c).after 0 t (Y 0) X⌝ ∗ owns (c : Thread nD τ) (ms0_0 t) fullShare X)
    ∗ (∃ X, ⌜(rdat m c).after 1 t (Y 1) X⌝ ∗ owns (c : Thread nD τ) (ms0_1 t) fullShare X)
    ∗ (∃ X, ⌜(rdat m c).after 2 t (Y 2) X⌝ ∗ owns (c : Thread nD τ) (ms0_2 t) fullShare X)
    ∗ (∃ X, ⌜(rdat m c).after 3 t (Y 3) X⌝ ∗ owns (c : Thread nD τ) (ms0_3 t) fullShare X)
    ∗ (∃ X, ⌜(rdat m c).after 4 t (Y 4) X⌝ ∗ owns (c : Thread nD τ) (ms0_4 t) fullShare X)
    ∗ (∃ X, ⌜(rdat m c).after 5 t (Y 5) X⌝ ∗ owns (c : Thread nD τ) (ms0_5 t) fullShare X)
    ∗ (∃ X, ⌜(rdat m c).after 6 t (Y 6) X⌝ ∗ owns (c : Thread nD τ) (ms0_6 t) fullShare X))

theorem Carry_castSucc (c : Dev nD) (t : Fin cfg0.N) : (rdat m c).Φ t.castSucc = Carry m c t.val := by
  dsimp only [rdat]; rfl

set_option maxHeartbeats 19200000 in
theorem sound_body (c : Dev nD) (t : Fin cfg0.N) (Y) (hYs : ∀ w, (rdat m c).Finds w t (Y w)) :
    bodyPre m c t Y ⊢ wp frame (wpE (defs₀ (F := F)) Variants.none c none) Set.univ (bodyAt0 t) (fun _ => bodyPost m c t Y) := by
  have h4 := lt_four t
  unfold bodyPre bodyPost bodyAt0
  simp only [after0_0, after0_1, after0_2, after0_3, after0_4, after0_5, after0_6]
  rw [found0_0 m c t (Y 0) (hYs 0)]
  rw [found0_1 m c t (Y 1) (hYs 1)]
  rw [found0_2 m c t (Y 2) (hYs 2)]
  rw [found0_3 m c t (Y 3) (hYs 3)]
  rw [show (rdat m c).owesAt () t.succ = (rdat m c).owesAt () t.castSucc from rfl]
  rw [show (rdat m c).Φ t.succ = Carry m c (t.val + 1) from rfl, Carry_castSucc m c t]
  conv_lhs => unfold Carry
  iintro ⟨⟨%s8, %s9, %hR, H8, H9, Hg⟩, Ho, H0, H1, H2, H3, H4, H5, H6⟩
  by_cases h : t.val = 0
  · rw [outs_first m c t h]
    iapply ((firstRun m c t s8 s9 h).2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H8]; · iexact H8
    isplitl [H9]; · iexact H9
    iintro ⟨H0, H1, H2, H3, ⟨%e4, H4⟩, ⟨%e5, H5⟩, ⟨%e6, H6⟩, H8, H9⟩
    isplitl [H8 H9 Hg]
    · iapply (carry_step m c t s8 s9 hR)
      isplitl [H8]; · iexact H8
      isplitl [H9]; · iexact H9
      iexact Hg
    isplitl [Ho]; · iexact Ho
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; · ipureintro; rfl
      unfold owns; iexists _; isplitr
      swap; · iexact H4
      ipureintro; exact View.read_writes_of_cover _ _ _ _ _ (cover_first_dy m c t s8 s9 h)
    isplitl [H5]
    · iexists e5; isplitr; · ipureintro; intro h3'; omega
      iexact H5
    iexists _; isplitr; · ipureintro; rfl
    unfold owns; iexists _; isplitr
    swap; · iexact H6
    ipureintro; exact View.read_writes_of_cover _ _ _ _ _ (cover_first_db m c t s8 s9 h)
  by_cases h3 : t.val = 3
  · rw [outs_last m c t h3, found0_6 m c t h (Y 6) (hYs 6)]
    iapply ((lastRun m c t s8 s9 h3 (outs m c (t.val - 1) (by omega)).db).2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexact H6
    isplitl [H8]; · iexact H8
    isplitl [H9]; · iexact H9
    iintro ⟨H0, H1, H2, H3, ⟨%e4, H4⟩, ⟨%e5, H5⟩, ⟨%e6, H6⟩, H8, H9⟩
    isplitl [H8 H9 Hg]
    · iapply (carry_step m c t s8 s9 hR)
      isplitl [H8]; · iexact H8
      isplitl [H9]; · iexact H9
      iexact Hg
    isplitl [Ho]; · iexact Ho
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; · ipureintro; rfl
      unfold owns; iexists _; isplitr
      swap; · iexact H4
      ipureintro; exact View.read_writes_of_cover _ _ _ _ _ (cover_last_dy m c t s8 s9 h3 _)
    isplitl [H5]
    · iexists _; isplitr; · ipureintro; intro _; rfl
      unfold owns; iexists _; isplitr
      swap; · iexact H5
      ipureintro
      exact (View.read_writes_of_cover _ _ _ _ _ (cover_last_dw m c t s8 s9 h3 _)).trans (congrArg (back (ms0_5 t)) (last_dw _ _ _ _ _ _ _ _ _ _ _ _ _ _ _ _ _ _ _ _ _ _ _ _ _ _ _ _ _ _ _
        (fun y hy => hR.1 y (by rw [coord_eq t] at hy; have : (y 0).val < 2048 := (y 0).isLt; omega)) (fun y hy => hR.2 y (by rw [coord_eq t] at hy; have : (y 0).val < 2048 := (y 0).isLt; omega))))
    iexists _; isplitr; · ipureintro; rfl
    unfold owns; iexists _; isplitr
    swap; · iexact H6
    ipureintro; exact View.read_writes_of_cover _ _ _ _ _ (cover_last_db m c t s8 s9 h3 _)
  · rw [outs_mid m c t h h3, found0_6 m c t h (Y 6) (hYs 6)]
    iapply ((midRun m c t s8 s9 h h3 (outs m c (t.val - 1) (by omega)).db).2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexact H6
    isplitl [H8]; · iexact H8
    isplitl [H9]; · iexact H9
    iintro ⟨H0, H1, H2, H3, ⟨%e4, H4⟩, ⟨%e5, H5⟩, ⟨%e6, H6⟩, H8, H9⟩
    isplitl [H8 H9 Hg]
    · iapply (carry_step m c t s8 s9 hR)
      isplitl [H8]; · iexact H8
      isplitl [H9]; · iexact H9
      iexact Hg
    isplitl [Ho]; · iexact Ho
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; · ipureintro; rfl
      unfold owns; iexists _; isplitr
      swap; · iexact H4
      ipureintro; exact View.read_writes_of_cover _ _ _ _ _ (cover_mid_dy m c t s8 s9 h h3 _)
    isplitl [H5]
    · iexists e5; isplitr; · ipureintro; intro h3'; omega
      iexact H5
    iexists _; isplitr; · ipureintro; rfl
    unfold owns; iexists _; isplitr
    swap; · iexact H6
    ipureintro; exact View.read_writes_of_cover _ _ _ _ _ (cover_mid_db m c t s8 s9 h h3 _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : (rdat (F := F) m c).BodyObligation (defs₀ (F := F)) Variants.none () Set.univ := fun t Y hY => by
  rw [bigSep_W0, bigSep_W0, defs₀_row]
  exact triple_restated (sound_body m c t Y hY) rfl .rfl fun _ => .rfl

theorem carry_in (c : Dev nD) : Pipeline.ΦA spec0 c ⊢ (rdat m c).Φ 0 := by
  rw [PhiA_eq, show (rdat m c).Φ 0 = Carry m c 0 from rfl]; unfold Carry
  iintro ⟨⟨⟨%d8, H8⟩, ⟨%d9, H9⟩⟩, Hg⟩
  iexists d8; iexists d9
  isplitr; · ipureintro; exact ⟨fun x hx => absurd hx (by omega), fun x hx => absurd hx (by omega)⟩
  isplitl [H8]; · iexact H8
  isplitl [H9]; · iexact H9
  iexact Hg

theorem carry_out (c : Dev nD) : (rdat m c).Φ (Fin.last cfg0.N) ⊢ Pipeline.ΦA spec0 c := by
  rw [PhiA_eq, show (rdat m c).Φ (Fin.last cfg0.N) = Carry m c (Fin.last cfg0.N).val from rfl]; unfold Carry
  iintro ⟨%s8, %s9, -, H8, H9, Hg⟩
  isplitl [H8 H9]
  · isplitl [H8]
    · iexists _; iexact H8
    iexists _; iexact H9
  iexact Hg

/-! ## The run -/

/-- The same data with each buffer's contents named: at the points that write back they are the ones above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outs m c t.val t.isLt).dy
    | ⟨5, _⟩ => (outs m c t.val t.isLt).dw
    | ⟨6, _⟩ => (outs m c t.val t.isLt).db
  Φ t := Carry m c t.val
  q _ := fullShare
  owed _ := 0

theorem dats_A (c : Dev nD) (w : Fin cfg0.W) : (dats m 0 c).A w = V m c (Pipeline.arrRef spec0 w) := by
  dsimp only [dats]

theorem named_dy (c : Dev nD) (t : Fin cfg0.N) : (dats m 0 c).after 4 t = (outs m c t.val t.isLt).dy := by dsimp only [dats]
theorem named_dw (c : Dev nD) (t : Fin cfg0.N) : (dats m 0 c).after 5 t = (outs m c t.val t.isLt).dw := by dsimp only [dats]
theorem named_db (c : Dev nD) (t : Fin cfg0.N) : (dats m 0 c).after 6 t = (outs m c t.val t.isLt).db := by dsimp only [dats]

/-- What a point that writes back may leave is what the data names. -/
theorem leaves_named (c : Dev nD) (w : Fin cfg0.W) (t : Fin cfg0.N) (hf : (cfg0.win w).flush t = true) (X)
    (h : (rdat m c).Leaves w t X) : X = (dats m 0 c).after w t := by
  obtain ⟨Y, -, hR⟩ := h
  have hin : (cfg0.win w).isOut = true := by
    by_contra hc
    rw [Bool.not_eq_true] at hc
    rw [Window.flush_in _ hc] at hf; exact absurd hf Bool.false_ne_true
  match w, hin, hf, X, Y, hR with
  | ⟨0, _⟩, hin, _, _, _, _ => exact absurd hin Bool.false_ne_true
  | ⟨1, _⟩, hin, _, _, _, _ => exact absurd hin Bool.false_ne_true
  | ⟨2, _⟩, hin, _, _, _, _ => exact absurd hin Bool.false_ne_true
  | ⟨3, _⟩, hin, _, _, _, _ => exact absurd hin Bool.false_ne_true
  | ⟨4, _⟩, _, _, X, Y, hR => exact ((after0_4 m c t Y X).mp hR).trans (named_dy m c t).symm
  | ⟨5, _⟩, _, hf, X, Y, hR => exact ((after0_5 m c t Y X).mp hR (by have := (flush0_5 t).mp hf; have := lt_four t; omega)).trans (named_dw m c t).symm
  | ⟨6, _⟩, _, _, X, Y, hR => exact ((after0_6 m c t Y X).mp hR).trans (named_db m c t).symm
  | ⟨n + 7, hn⟩, _, _, _, _, _ => exact absurd hn (by have : cfg0.W = 7 := rfl; omega)

theorem arr_named (c : Dev nD) (w : Fin cfg0.W) : ∀ (n : ℕ) (G), (rdat m c).ArrAt w n G → G = (dats m 0 c).arrAt w n
  | 0, G, h => by
    refine Eq.trans (show G = (rdat m c).A w from h) ?_
    rw [A_eq]; exact (dats_A m c w).symm
  | n + 1, G, h => by
    unfold RDat.ArrAt at h; unfold Dat.arrAt
    by_cases hn : n < cfg0.N
    · rw [dif_pos hn] at h ⊢
      by_cases hf : (cfg0.win w).flush ⟨n, hn⟩ = true
      · rw [if_pos hf] at h ⊢
        obtain ⟨G₀, X, h₀, hX, rfl⟩ := h
        rw [arr_named c w n G₀ h₀, leaves_named m c w ⟨n, hn⟩ hf X hX]
      · rw [if_neg hf] at h ⊢; exact arr_named c w n G h
    · rw [dif_neg hn] at h ⊢; exact arr_named c w n G h

set_option backward.isDefEq.respectTransparency.types false in
theorem run_related : θ_run defs (onTc (τ := τ) (main (F := F))) (s₀ m ρ)
    (fun r => RDat.FramePost (cfgs 0) (rdat m) (V m) r ∧ r.2.sem = fun _ => 0) :=
  RDat.θ_run_frame_track (Q' := _) cfgs (0 : Fin 1) launch0 defs₀ Variants.none (rdat m) m ρ main
    (hbody := body_obligation m) (hshare := fun c w => by unfold RDat.share; split <;> rfl)
    (howed := fun _ _ => rfl) (V := V m) (hmain := hmain m Variants.none) (hA := A_eq m) (hin := carry_in m) (hout := carry_out m)

/-- Every execution of the program ends, with the arrays at what the named data says and every counter at zero. -/
theorem run_main : θ_run defs (onTc (τ := τ) (main (F := F))) (s₀ m ρ)
    (fun r => Pipeline.FramePost cfgs (dats m) 0 (V m) r ∧ r.2.sem = fun _ => 0) :=
  (θ_run defs _ _).mono (fun r h => ⟨fun c => ⟨fun w => arr_named m c w _ _ ((h.1 c).1 w), (h.1 c).2⟩, h.2⟩) (run_related m ρ)

theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (dats_A m) ((θ_run defs _ _).mono (fun _ h => h.1) (run_main m ρ)))
    ((θ_run defs _ _).mono (fun _ h => h.2) (run_main m ρ))

end Cert.GateBwdIdeal.Hand

end
-- ==== Proof.GbSame.lean ====
module

public import proofs.«01_k».proof.Defs
public import proofs.«01_k».proof.Proof.Gen.GateBwd
public import proofs.«01_k».proof.Proof.GbFrame

@[expose] public section

set_option maxHeartbeats 12800000
set_option maxRecDepth 16384

noncomputable section

namespace Cert.SameText

open Idealize.ShloMosaic Idealize.SL.Sem

variable {F : FTy → Type} [FloatOps F]

/-- Every named constant is its printed float word. -/
abbrev printed : Named F := ⟨fun _ _ _ bits => Scalar.ofBits _ bits⟩

/-- The printed body is the idealized one with the constants printed. -/
theorem gb_body : (@Cert.GateBwd.cc0_s5_post_bwd F _ Cert.GateBwd.Gen.facts) = (@Cert.GateBwdIdeal.cc0_s5_post_bwd F _ printed Cert.GateBwdIdeal.Gen.facts) := rfl

theorem gb_defs₀ : (@Cert.GateBwd.defs₀ F _ Cert.GateBwd.Gen.facts) = (@Cert.GateBwdIdeal.defs₀ F _ printed Cert.GateBwdIdeal.Gen.facts) := by
  unfold Cert.GateBwd.defs₀ Cert.GateBwdIdeal.defs₀
  refine congrArg Defs.onTc ?_
  funext l a
  match l, a with
  | ⟨0, _⟩, (t, s) => rw [← gb_body]; rfl
  | ⟨_ + 1, h⟩, _ => exact absurd h (Nat.not_lt.2 (Nat.le_add_left _ _))

theorem gb_defs : (@Cert.GateBwd.defs F _ Cert.GateBwd.Gen.facts) = (@Cert.GateBwdIdeal.defs F _ printed Cert.GateBwdIdeal.Gen.facts) := by
  unfold Cert.GateBwd.defs Cert.GateBwdIdeal.defs
  exact congrArg (Pipeline.defs _) gb_defs₀

theorem gb_main : (@Cert.GateBwd.main F _ Cert.GateBwd.Gen.facts) = (@Cert.GateBwdIdeal.main F _ Cert.GateBwdIdeal.Gen.facts) := rfl

/-- `Cert.quiescent_GateBwd`: the idealized program with the constants printed is the same text, so its run read at `Bits` is this one. -/
theorem frame_gate_bwd : @Cert.quiescent_GateBwd Cert.GateBwd.Gen.facts := fun m g _ => by
  rw [gb_defs, gb_main]
  exact @Cert.GateBwdIdeal.Hand.frame_run Bits _ printed m g

end Cert.SameText

end
-- ==== Proof.GbSpec.lean ====
/- The gradient of the S5 layer's gate: what a row tile computes, entry by entry. -/
module

public import proofs.«01_k».proof.Proof.GbFrame
public import proofs.«01_k».proof.Proof.GateOuts
public import Idealize.ShloMosaic.Lib.WholeRead

@[expose] public section

set_option maxRecDepth 16384

noncomputable section

namespace Cert.GateBwdIdeal.Hand

open Cert.GateBwdIdeal.Gen
open Idealize.ShloMosaic Idealize.ShloMosaic.TcCoe Idealize.ShloMosaic.Tactic
open Cert.MlpIdeal.Hand (firstRow)
open Cert.GateIdeal.Hand (valueCol gateCol)

/-! ## Blocks of a buffer read at an entry -/

section

theorem rd_whole {arg : Memref sig .tc .vmem S512x1024 .f32} (h : arg.IsWhole) (X : Vec Ideal S512x1024 .f32)
    (inb : ∀ a, (![0, 0] : Fin 2 → ℕ) a + (![512, 1024] : Fin 2 → ℕ) a ≤ S512x1024.size a) (a : Fin 512) (d : Fin 1024) :
    View.readAt (Elt Ideal) arg.view (Rect.unit (s := S512x1024) ![0, 0] ![512, 1024] inb).toLoadRect (h.unread X) (ix2 a d) = X (ix2 a d) :=
  (h.readAt_unread X _ _).trans (congrArg X (funext (Fin.forall_fin_two.mpr
    ⟨Fin.ext ((Rect.idx_unit_val _ _ inb _ 0).trans (Nat.zero_add _)), Fin.ext ((Rect.idx_unit_val _ _ inb _ 1).trans (Nat.zero_add _))⟩)))

theorem rd_cols {arg : Memref sig .tc .vmem S512x2048 .f32} (h : arg.IsWhole) (X : Vec Ideal S512x2048 .f32) {k : ℕ}
    (inb : ∀ a, (![0, k] : Fin 2 → ℕ) a + (![512, 256] : Fin 2 → ℕ) a ≤ S512x2048.size a) (a : Fin 512) (e : Fin 256) :
    View.readAt (Elt Ideal) arg.view (Rect.unit (s := S512x2048) ![0, k] ![512, 256] inb).toLoadRect (h.unread X) (ix2 a e)
      = X (ix2 a ⟨k + e.val, by have h1 := inb 1; change k + 256 ≤ 2048 at h1; omega⟩) := by
  refine (h.readAt_unread X _ _).trans (congrArg X (funext fun a => Fin.ext ((Rect.idx_unit_val _ _ inb _ a).trans ?_)))
  match a with
  | 0 => exact Nat.zero_add _
  | 1 => rfl

theorem rd_sums {arg : Memref sig .tc .vmem S8x2048 .f32} (h : arg.IsWhole) (X : Vec Ideal S8x2048 .f32) {k : ℕ}
    (inb : ∀ a, (![0, k] : Fin 2 → ℕ) a + (![8, 256] : Fin 2 → ℕ) a ≤ S8x2048.size a) (a : Fin 8) (e : Fin 256) :
    View.readAt (Elt Ideal) arg.view (Rect.unit (s := S8x2048) ![0, k] ![8, 256] inb).toLoadRect (h.unread X) (ix2 a e)
      = X (ix2 a ⟨k + e.val, by have h1 := inb 1; change k + 256 ≤ 2048 at h1; omega⟩) := by
  refine (h.readAt_unread X _ _).trans (congrArg X (funext fun a => Fin.ext ((Rect.idx_unit_val _ _ inb _ a).trans ?_)))
  match a with
  | 0 => exact Nat.zero_add _
  | 1 => rfl

theorem rd_kept {arg : Memref sig .tc .vmem S2048x1024 .bf16} (h : arg.IsWhole) (X : Vec Ideal S2048x1024 .bf16)
    (inb : ∀ a, (![0, 0] : Fin 2 → ℕ) a + (![2048, 1024] : Fin 2 → ℕ) a ≤ S2048x1024.size a) (i : Fin 2048) (d : Fin 1024) :
    View.readAt (Elt Ideal) arg.view (Rect.unit (s := S2048x1024) ![0, 0] ![2048, 1024] inb).toLoadRect (h.unread X) (ix2 i d) = X (ix2 i d) :=
  (h.readAt_unread X _ _).trans (congrArg X (funext (Fin.forall_fin_two.mpr
    ⟨Fin.ext ((Rect.idx_unit_val _ _ inb _ 0).trans (Nat.zero_add _)), Fin.ext ((Rect.idx_unit_val _ _ inb _ 1).trans (Nat.zero_add _))⟩)))

theorem rd_half {arg : Memref sig .tc .vmem S2048x2048 .bf16} (h : arg.IsWhole) (X : Vec Ideal S2048x2048 .bf16) {k : ℕ}
    (inb : ∀ a, (![0, k] : Fin 2 → ℕ) a + (![2048, 1024] : Fin 2 → ℕ) a ≤ S2048x2048.size a) (i : Fin 2048) (e : Fin 1024) :
    View.readAt (Elt Ideal) arg.view (Rect.unit (s := S2048x2048) ![0, k] ![2048, 1024] inb).toLoadRect (h.unread X) (ix2 i e)
      = X (ix2 i ⟨k + e.val, by have h1 := inb 1; change k + 1024 ≤ 2048 at h1; omega⟩) := by
  refine (h.readAt_unread X _ _).trans (congrArg X (funext fun a => Fin.ext ((Rect.idx_unit_val _ _ inb _ a).trans ?_)))
  match a with
  | 0 => exact Nat.zero_add _
  | 1 => rfl

theorem rd_block {arg : Memref sig .tc .vmem S8x1024x256 .bf16} (h : arg.IsWhole) (X : Vec Ideal S8x1024x256 .bf16) {j : ℕ}
    (inb : ∀ a, (![j, 0, 0] : Fin 3 → ℕ) a + (![1, 1024, 256] : Fin 3 → ℕ) a ≤ S8x1024x256.size a) (d : Fin 1024) (e : Fin 256) :
    View.readAt (Elt Ideal) arg.view (Rect.unit (s := S8x1024x256) ![j, 0, 0] ![1, 1024, 256] inb).toLoadRect (h.unread X) (ix3 0 d e)
      = X (ix3 ⟨j, by have h1 := inb 0; change j + 1 ≤ 8 at h1; omega⟩ d e) := by
  refine (h.readAt_unread X _ _).trans (congrArg X (funext fun a => Fin.ext ((Rect.idx_unit_val _ _ inb _ a).trans ?_)))
  match a with
  | 0 => rfl
  | 1 => exact Nat.zero_add _
  | 2 => exact Nat.zero_add _

end

/-! ## The gradient before the gate -/

/-- The gradient of the value half, -/
def dval (x1 : Vec Ideal S512x1024 .f32) (x3 : Vec Ideal S512x2048 .f32) (a : Fin 512) (d : Fin 1024) : EReal :=
  x1 (ix2 a d) * Ideal.logistic (x3 (ix2 a (gateCol d)))

/-- and of the gating half. -/
def dgate (x1 : Vec Ideal S512x1024 .f32) (x3 : Vec Ideal S512x2048 .f32) (a : Fin 512) (d : Fin 1024) : EReal :=
  x1 (ix2 a d) * x3 (ix2 a (valueCol d)) * Ideal.logistic (x3 (ix2 a (gateCol d))) * (1 - Ideal.logistic (x3 (ix2 a (gateCol d))))

/-- The two beside each other. -/
def dz (x1 : Vec Ideal S512x1024 .f32) (x3 : Vec Ideal S512x2048 .f32) (a : Fin 512) (k : Fin 2048) : EReal :=
  if h : k.val < 1024 then dval x1 x3 a ⟨k.val, h⟩ else dgate x1 x3 a ⟨k.val - 1024, by omega⟩

section

variable (c : Dev nD) (arg1 : Memref sig .tc .vmem S512x1024 .f32) (harg1 : arg1.IsWhole) (arg3 : Memref sig .tc .vmem S512x2048 .f32) (harg3 : arg3.IsWhole)
  (x1 : Vec Ideal S512x1024 .f32) (x3 : Vec Ideal S512x2048 .f32) (a : Fin 512) (e : Fin 256)

theorem dval_of (d d' : Fin 1024) (k : Fin 2048) (h : d.val = d'.val) (hk : k.val = 1024 + d'.val) :
    x1 (ix2 a d) * Ideal.logistic (x3 (ix2 a k)) = dval x1 x3 a d' := by
  obtain rfl : d = d' := Fin.ext h
  obtain rfl : k = gateCol d := Fin.ext hk
  rfl

theorem dgate_of (d d' : Fin 1024) (j k : Fin 2048) (h : d.val = d'.val) (hj : j.val = d'.val) (hk : k.val = 1024 + d'.val) :
    x1 (ix2 a d) * x3 (ix2 a j) * Ideal.logistic (x3 (ix2 a k)) * (1 - Ideal.logistic (x3 (ix2 a k))) = dgate x1 x3 a d' := by
  obtain rfl : d = d' := Fin.ext h
  obtain rfl : k = gateCol d := Fin.ext hk
  obtain rfl : j = valueCol d := Fin.ext hj
  rfl

theorem val0 : runLast.sl.r_2 (F := Ideal) c arg1 harg1 arg3 harg3 x1 x3 (ix2 a e) = dval x1 x3 a ⟨e.val, by omega⟩ := by
  unfold runLast.sl.r_2
  pointwise [k0_pay16, k0_pay15]
  rw [rd_whole, rd_cols]; exact dval_of _ _ _ _ _ _ rfl rfl
theorem val1 : runLast.sl.v89 (F := Ideal) c arg1 harg1 arg3 harg3 x1 x3 (ix2 a e) = dval x1 x3 a ⟨256 + e.val, by omega⟩ := by
  unfold runLast.sl.v89 runLast.sl.v88 runLast.sl.r runLast.sl.v87 runLast.sl.v86
  pointwise
  rw [rd_whole, rd_cols]; exact dval_of _ _ _ _ _ _ rfl (by dsimp only; omega)
theorem val2 : runLast.sl.v146 (F := Ideal) c arg1 harg1 arg3 harg3 x1 x3 (ix2 a e) = dval x1 x3 a ⟨512 + e.val, by omega⟩ := by
  unfold runLast.sl.v146 runLast.sl.v145 runLast.sl.r runLast.sl.v144 runLast.sl.v143
  pointwise
  rw [rd_whole, rd_cols]; exact dval_of _ _ _ _ _ _ rfl (by dsimp only; omega)
theorem val3 : runLast.sl.v203 (F := Ideal) c arg1 harg1 arg3 harg3 x1 x3 (ix2 a e) = dval x1 x3 a ⟨768 + e.val, by omega⟩ := by
  unfold runLast.sl.v203 runLast.sl.v202 runLast.sl.r runLast.sl.v201 runLast.sl.v200
  pointwise
  rw [rd_whole, rd_cols]; exact dval_of _ _ _ _ _ _ rfl (by dsimp only; omega)
theorem gate0 : runLast.sl.r_3 (F := Ideal) c arg1 harg1 arg3 harg3 x1 x3 (ix2 a e) = dgate x1 x3 a ⟨e.val, by omega⟩ := by
  unfold runLast.sl.r_3
  pointwise [k0_pay17, k0_pay15]
  rw [rd_whole, rd_cols, rd_cols]; exact dgate_of _ _ _ _ _ _ _ rfl (Nat.zero_add _) rfl
theorem gate1 : runLast.sl.v95 (F := Ideal) c arg1 harg1 arg3 harg3 x1 x3 (ix2 a e) = dgate x1 x3 a ⟨256 + e.val, by omega⟩ := by
  unfold runLast.sl.v95 runLast.sl.v92 runLast.sl.v91 runLast.sl.v88 runLast.sl.r runLast.sl.v84 runLast.sl.v94 runLast.sl.v87 runLast.sl.v86 runLast.sl.v93 runLast.sl.cst_38
  pointwise
  rw [rd_whole, rd_cols, rd_cols]; exact dgate_of _ _ _ _ _ _ _ rfl rfl (by dsimp only; omega)
theorem gate2 : runLast.sl.v152 (F := Ideal) c arg1 harg1 arg3 harg3 x1 x3 (ix2 a e) = dgate x1 x3 a ⟨512 + e.val, by omega⟩ := by
  unfold runLast.sl.v152 runLast.sl.v149 runLast.sl.v148 runLast.sl.v145 runLast.sl.r runLast.sl.v141 runLast.sl.v151 runLast.sl.v144 runLast.sl.v143 runLast.sl.v93 runLast.sl.cst_38
  pointwise
  rw [rd_whole, rd_cols, rd_cols]; exact dgate_of _ _ _ _ _ _ _ rfl rfl (by dsimp only; omega)
theorem gate3 : runLast.sl.v209 (F := Ideal) c arg1 harg1 arg3 harg3 x1 x3 (ix2 a e) = dgate x1 x3 a ⟨768 + e.val, by omega⟩ := by
  unfold runLast.sl.v209 runLast.sl.v206 runLast.sl.v205 runLast.sl.v202 runLast.sl.r runLast.sl.v198 runLast.sl.v208 runLast.sl.v201 runLast.sl.v200 runLast.sl.v93 runLast.sl.cst_38
  pointwise
  rw [rd_whole, rd_cols, rd_cols]; exact dgate_of _ _ _ _ _ _ _ rfl rfl (by dsimp only; omega)

theorem dz_val (d : Fin 1024) (k : Fin 2048) (h : k.val = d.val) : dz x1 x3 a k = dval x1 x3 a d := by
  unfold dz; rw [dif_pos (by omega)]; exact congrArg (dval x1 x3 a) (Fin.ext h)
theorem dz_gate (d : Fin 1024) (k : Fin 2048) (h : k.val = 1024 + d.val) : dz x1 x3 a k = dgate x1 x3 a d := by
  unfold dz; rw [dif_neg (by omega)]; exact congrArg (dgate x1 x3 a) (Fin.ext (by dsimp only; omega))

/-- What a tile keeps of the gradient before the gate. -/
theorem zTile_apply (q : ℕ) (k : Fin 2048) (hk : k.val = 256 * q + e.val) :
    zTile (F := Ideal) c arg1 harg1 arg3 harg3 x1 x3 q (ix2 a e) = dz x1 x3 a k := by
  have hq : q < 8 := by omega
  unfold zTile
  interval_cases q
  · unfold runLast.sl.v70 runLast.sl.v65; pointwise
    exact (val0 ..).trans (dz_val _ _ _ _ _ (by dsimp only; omega)).symm
  · unfold runLast.sl.v127 runLast.sl.v122; pointwise
    exact (val1 ..).trans (dz_val _ _ _ _ _ (by dsimp only; omega)).symm
  · unfold runLast.sl.v184 runLast.sl.v179; pointwise
    exact (val2 ..).trans (dz_val _ _ _ _ _ (by dsimp only; omega)).symm
  · pointwise [k0_pay56, k0_pay54]
    exact (val3 ..).trans (dz_val _ _ _ _ _ (by dsimp only; omega)).symm
  · unfold runLast.sl.v74 runLast.sl.v66; pointwise
    exact (gate0 ..).trans (dz_gate _ _ _ _ _ (by dsimp only; omega)).symm
  · unfold runLast.sl.v131 runLast.sl.v123; pointwise
    exact (gate1 ..).trans (dz_gate _ _ _ _ _ (by dsimp only; omega)).symm
  · unfold runLast.sl.v188 runLast.sl.v180; pointwise
    exact (gate2 ..).trans (dz_gate _ _ _ _ _ (by dsimp only; omega)).symm
  · pointwise [k0_pay57, k0_pay55]
    exact (gate3 ..).trans (dz_gate _ _ _ _ _ (by dsimp only; omega)).symm

end

end Cert.GateBwdIdeal.Hand

end
-- ==== Proof.GbSums.lean ====
/- The gradient of the S5 layer's gate: the three results of a row tile, entry by entry. -/
module

public import proofs.«01_k».proof.Proof.GbSpec

@[expose] public section

set_option maxRecDepth 16384

noncomputable section

namespace Cert.GateBwdIdeal.Hand

open Cert.GateBwdIdeal.Gen
open Idealize.ShloMosaic Idealize.ShloMosaic.TcCoe Idealize.ShloMosaic.Tactic
open Cert.MlpIdeal.Hand (firstRow)
open Cert.GateIdeal.Hand (valueCol gateCol)

/-! ## The running gradient of the bias -/

section

variable (c : Dev nD) (arg1 : Memref sig .tc .vmem S512x1024 .f32) (harg1 : arg1.IsWhole) (arg3 : Memref sig .tc .vmem S512x2048 .f32) (harg3 : arg3.IsWhole)
  (arg7 : Memref sig .tc .vmem S8x2048 .f32) (harg7 : arg7.IsWhole)
  (x1 : Vec Ideal S512x1024 .f32) (x3 : Vec Ideal S512x2048 .f32) (y7 : Vec Ideal S8x2048 .f32)

/-- The running sums of a block of 256 columns, as a later point stores them, -/
def sums : ℕ → Vec Ideal S8x256 .f32
  | 7 => k0_pay53 (runLast.sl.v224 c arg7 harg7 y7) (runLast.sl.v226 c arg1 harg1 arg3 harg3 x1 x3) runLast.sl.v43 0#32
  | 3 => runLast.sl.v221 c arg1 harg1 arg3 harg3 arg7 harg7 x1 x3 y7
  | 6 => runLast.sl.v177 c arg1 harg1 arg3 harg3 arg7 harg7 x1 x3 y7
  | 2 => runLast.sl.v164 c arg1 harg1 arg3 harg3 arg7 harg7 x1 x3 y7
  | 5 => runLast.sl.v120 c arg1 harg1 arg3 harg3 arg7 harg7 x1 x3 y7
  | 1 => runLast.sl.v107 c arg1 harg1 arg3 harg3 arg7 harg7 x1 x3 y7
  | 4 => runLast.sl.v63 c arg1 harg1 arg3 harg3 arg7 harg7 x1 x3 y7
  | _ => runLast.sl.v50 c arg1 harg1 arg3 harg3 arg7 harg7 x1 x3 y7

/-- and as the first point does. -/
def firstSums : ℕ → Vec Ideal S8x256 .f32
  | 7 => k0_pay53 (runFirst.sl.v224 c arg1 harg1 arg3 harg3 arg7 x1 x3) (runFirst.sl.v226 c arg1 harg1 arg3 harg3 x1 x3) runFirst.sl.v43 0#32
  | 3 => runFirst.sl.v221 c arg1 harg1 arg3 harg3 arg7 x1 x3
  | 6 => runFirst.sl.v177 c arg1 harg1 arg3 harg3 arg7 x1 x3
  | 2 => runFirst.sl.v164 c arg1 harg1 arg3 harg3 arg7 x1 x3
  | 5 => runFirst.sl.v120 c arg1 harg1 arg3 harg3 arg7 x1 x3
  | 1 => runFirst.sl.v107 c arg1 harg1 arg3 harg3 arg7 x1 x3
  | 4 => runFirst.sl.v63 c arg1 harg1 arg3 harg3 arg7 x1 x3
  | _ => runFirst.sl.v50 c arg1 harg1 arg3 harg3 arg7 x1 x3

/-- The eight stores of a point over what stood before. -/
def strips (V : ℕ → Vec Ideal S8x256 .f32) (L : List (View.Piece (Elt Ideal) S8x2048 .f32)) : List (View.Piece (Elt Ideal) S8x2048 .f32) :=
  ⟨Rect.unit ![0, 1792] S8x256.size (by decide), V 7⟩ ::
  ⟨Rect.unit ![0, 768] S8x256.size (by decide), V 3⟩ ::
  ⟨Rect.unit ![0, 1536] S8x256.size (by decide), V 6⟩ ::
  ⟨Rect.unit ![0, 512] S8x256.size (by decide), V 2⟩ ::
  ⟨Rect.unit ![0, 1280] S8x256.size (by decide), V 5⟩ ::
  ⟨Rect.unit ![0, 256] S8x256.size (by decide), V 1⟩ ::
  ⟨Rect.unit ![0, 1024] S8x256.size (by decide), V 4⟩ ::
  ⟨Rect.unit ![0, 0] S8x256.size (by decide), V 0⟩ ::
  L

theorem read_block {V : View sig .tc .vmem S8x2048 .f32} (f : V.ty.Contents (Elt Ideal)) (k : ℕ) (inb : ∀ a, (![0, 256 * k] : Fin 2 → ℕ) a + S8x256.size a ≤ S8x2048.size a)
    (w : Vec Ideal S8x256 .f32) (L : List (View.Piece (Elt Ideal) S8x2048 .f32)) (y : S8x2048.Idx) :
    V.read (Elt Ideal) (V.writes (Elt Ideal) f (⟨Rect.unit (s := S8x2048) ![0, 256 * k] S8x256.size inb, w⟩ :: L)) y
      = if (y 1).val / 256 = k then w (ix2 (n0 := 8) (n1 := 256) (y 0) ⟨(y 1).val % 256, Nat.mod_lt _ (by omega)⟩)
        else V.read (Elt Ideal) (V.writes (Elt Ideal) f L) y := by
  split
  · rename_i h
    refine View.read_writes_cons_unit_of_mem V f inb w L y _ rfl (Fin.forall_fin_two.mpr ⟨?_, ?_⟩)
    · show (y 0).val = 0 + (y 0).val
      omega
    · show (y 1).val = 256 * k + (y 1).val % 256
      omega
  · rename_i h
    refine View.read_writes_cons_unit_of_not_mem V f inb w L y rfl (1 : Fin 2) ?_
    show (y 1).val < 256 * k ∨ 256 * k + 256 ≤ (y 1).val
    omega

theorem read_strips {V : View sig .tc .vmem S8x2048 .f32} (f : V.ty.Contents (Elt Ideal)) (T : ℕ → Vec Ideal S8x256 .f32) (L : List (View.Piece (Elt Ideal) S8x2048 .f32)) (y : S8x2048.Idx) :
    V.read (Elt Ideal) (V.writes (Elt Ideal) f (strips T L)) y
      = T ((y 1).val / 256) (ix2 (n0 := 8) (n1 := 256) (y 0) ⟨(y 1).val % 256, Nat.mod_lt _ (by omega)⟩) := by
  unfold strips
  rw [read_block f 7, read_block f 3, read_block f 6, read_block f 2, read_block f 5, read_block f 1, read_block f 4, read_block f 0]
  have hq : (y 1).val / 256 < 8 := by have : (y 1).val < 2048 := (y 1).isLt; omega
  generalize (y 1).val / 256 = q at hq ⊢
  interval_cases q <;> rfl

/-- A block's running sums: what stood before, and the tile's column sums in the first of the eight rows. -/
theorem sums_apply (q : ℕ) (a : Fin 8) (e : Fin 256) (k : Fin 2048) (hk : k.val = 256 * q + e.val) :
    sums c arg1 harg1 arg3 harg3 arg7 harg7 x1 x3 y7 q (ix2 a e) = y7 (ix2 a k) + firstRow a (∑ r : Fin 512, dz x1 x3 r k) := by
  have hq : q < 8 := by omega
  have close : ∀ (n : Fin 2048) (B : Fin 512 → EReal), n = k → (∀ r, B r = dz x1 x3 r k) →
      y7 (ix2 a n) + firstRow a (∑ r, B r) = y7 (ix2 a k) + firstRow a (∑ r : Fin 512, dz x1 x3 r k) :=
    fun n B hn hB => by rw [hn, Finset.sum_congr rfl fun r _ => hB r]
  unfold sums
  interval_cases q
  · have base : ∀ r, runLast.sl.r_2 c arg1 harg1 arg3 harg3 x1 x3 (ix2 r e) = dz x1 x3 r k := fun r => (val0 ..).trans (dz_val _ _ _ _ _ (by dsimp only; omega)).symm
    unfold runLast.sl.v50 runLast.sl.v40 runLast.sl.v49 runLast.sl.v47 runLast.sl.v46 runLast.sl.v42 runLast.sl.v41 runLast.sl.v43 runLast.sl.v44 runLast.sl.v48 runLast.sl.cst_17
    generalize runLast.sl.r_2 c arg1 harg1 arg3 harg3 x1 x3 = B at base ⊢
    pointwise
    rw [rd_sums]
    exact close _ _ (Fin.ext (by dsimp only; omega)) base
  · have base : ∀ r, runLast.sl.v89 c arg1 harg1 arg3 harg3 x1 x3 (ix2 r e) = dz x1 x3 r k := fun r => (val1 ..).trans (dz_val _ _ _ _ _ (by dsimp only; omega)).symm
    unfold runLast.sl.v107 runLast.sl.v97 runLast.sl.v96 runLast.sl.v106 runLast.sl.v104 runLast.sl.v103 runLast.sl.v99 runLast.sl.v98 runLast.sl.v43 runLast.sl.v44 runLast.sl.v48 runLast.sl.cst_17
    generalize runLast.sl.v89 c arg1 harg1 arg3 harg3 x1 x3 = B at base ⊢
    pointwise
    rw [rd_sums]
    exact close _ _ (Fin.ext (by dsimp only; omega)) base
  · have base : ∀ r, runLast.sl.v146 c arg1 harg1 arg3 harg3 x1 x3 (ix2 r e) = dz x1 x3 r k := fun r => (val2 ..).trans (dz_val _ _ _ _ _ (by dsimp only; omega)).symm
    unfold runLast.sl.v164 runLast.sl.v154 runLast.sl.v153 runLast.sl.v163 runLast.sl.v161 runLast.sl.v160 runLast.sl.v156 runLast.sl.v155 runLast.sl.v43 runLast.sl.v44 runLast.sl.v48 runLast.sl.cst_17
    generalize runLast.sl.v146 c arg1 harg1 arg3 harg3 x1 x3 = B at base ⊢
    pointwise
    rw [rd_sums]
    exact close _ _ (Fin.ext (by dsimp only; omega)) base
  · have base : ∀ r, runLast.sl.v203 c arg1 harg1 arg3 harg3 x1 x3 (ix2 r e) = dz x1 x3 r k := fun r => (val3 ..).trans (dz_val _ _ _ _ _ (by dsimp only; omega)).symm
    unfold runLast.sl.v221 runLast.sl.v211 runLast.sl.v210 runLast.sl.v220 runLast.sl.v218 runLast.sl.v217 runLast.sl.v213 runLast.sl.v212 runLast.sl.v43 runLast.sl.v44 runLast.sl.v48 runLast.sl.cst_17
    generalize runLast.sl.v203 c arg1 harg1 arg3 harg3 x1 x3 = B at base ⊢
    pointwise
    rw [rd_sums]
    exact close _ _ (Fin.ext (by dsimp only; omega)) base
  · have base : ∀ r, runLast.sl.r_3 c arg1 harg1 arg3 harg3 x1 x3 (ix2 r e) = dz x1 x3 r k := fun r => (gate0 ..).trans (dz_gate _ _ _ _ _ (by dsimp only; omega)).symm
    unfold runLast.sl.v63 runLast.sl.v53 runLast.sl.v52 runLast.sl.v62 runLast.sl.v60 runLast.sl.v59 runLast.sl.v55 runLast.sl.v54 runLast.sl.v43 runLast.sl.v44 runLast.sl.v48 runLast.sl.cst_17
    generalize runLast.sl.r_3 c arg1 harg1 arg3 harg3 x1 x3 = B at base ⊢
    pointwise
    rw [rd_sums]
    exact close _ _ (Fin.ext (by dsimp only; omega)) base
  · have base : ∀ r, runLast.sl.v95 c arg1 harg1 arg3 harg3 x1 x3 (ix2 r e) = dz x1 x3 r k := fun r => (gate1 ..).trans (dz_gate _ _ _ _ _ (by dsimp only; omega)).symm
    unfold runLast.sl.v120 runLast.sl.v110 runLast.sl.v109 runLast.sl.v119 runLast.sl.v117 runLast.sl.v116 runLast.sl.v112 runLast.sl.v111 runLast.sl.v43 runLast.sl.v44 runLast.sl.v48 runLast.sl.cst_17
    generalize runLast.sl.v95 c arg1 harg1 arg3 harg3 x1 x3 = B at base ⊢
    pointwise
    rw [rd_sums]
    exact close _ _ (Fin.ext (by dsimp only; omega)) base
  · have base : ∀ r, runLast.sl.v152 c arg1 harg1 arg3 harg3 x1 x3 (ix2 r e) = dz x1 x3 r k := fun r => (gate2 ..).trans (dz_gate _ _ _ _ _ (by dsimp only; omega)).symm
    unfold runLast.sl.v177 runLast.sl.v167 runLast.sl.v166 runLast.sl.v176 runLast.sl.v174 runLast.sl.v173 runLast.sl.v169 runLast.sl.v168 runLast.sl.v43 runLast.sl.v44 runLast.sl.v48 runLast.sl.cst_17
    generalize runLast.sl.v152 c arg1 harg1 arg3 harg3 x1 x3 = B at base ⊢
    pointwise
    rw [rd_sums]
    exact close _ _ (Fin.ext (by dsimp only; omega)) base
  · have base : ∀ r, runLast.sl.v209 c arg1 harg1 arg3 harg3 x1 x3 (ix2 r e) = dz x1 x3 r k := fun r => (gate3 ..).trans (dz_gate _ _ _ _ _ (by dsimp only; omega)).symm
    unfold runLast.sl.v224 runLast.sl.v223 runLast.sl.v226 runLast.sl.v225 runLast.sl.v43
    generalize runLast.sl.v209 c arg1 harg1 arg3 harg3 x1 x3 = B at base ⊢
    pointwise [k0_pay53]
    rw [rd_sums]
    exact close _ _ (Fin.ext (by dsimp only; omega)) base

/-! The first point sets the sums to zero before it adds to them. -/

theorem read_fresh {k : ℕ} (inb : ∀ a, (![0, k] : Fin 2 → ℕ) a + S8x256.size a ≤ S8x2048.size a) (L : List (View.Piece (Elt Ideal) S8x2048 .f32))
    (h : ∀ y : S8x2048.Idx, k ≤ (y 1).val → (y 1).val < k + 256 → arg7.view.read (Elt Ideal) (arg7.view.writes (Elt Ideal) arg7.view.junk L) y = (k0_pay12 (F := Ideal)) y) :
    arg7.view.readCov L (Rect.unit (s := S8x2048) ![0, k] S8x256.size inb).toLoadRect
      = View.readAt (Elt Ideal) arg7.view (Rect.unit (s := S8x2048) ![0, k] S8x256.size inb).toLoadRect (harg7.unread (k0_pay12 (F := Ideal))) := by
  funext j
  refine Eq.trans ?_ (harg7.readAt_unread _ _ _).symm
  have h1 : (((Rect.unit (s := S8x2048) ![0, k] S8x256.size inb).idx j) 1).val = k + (j 1).val := Rect.idx_unit_val _ _ inb _ 1
  have h2 : (j 1).val < 256 := (j 1).isLt
  exact h _ (by omega) (by omega)

theorem read_zero {V : View sig .tc .vmem S8x2048 .f32} (f : V.ty.Contents (Elt Ideal)) (y : S8x2048.Idx) :
    V.read (Elt Ideal) (V.writes (Elt Ideal) f (runFirst.sl.H7_1 (F := Ideal))) y = (k0_pay12 (F := Ideal)) y := by
  unfold runFirst.sl.H7_1
  refine View.read_writes_cons_unit_of_mem V f _ _ [] y _ rfl (Fin.forall_fin_two.mpr ⟨?_, ?_⟩)
  · show (y 0).val = 0 + (y 0).val
    omega
  · show (y 1).val = 0 + (y 1).val
    omega

theorem firstSums_eq (q : ℕ) : firstSums c arg1 harg1 arg3 harg3 arg7 x1 x3 q = sums c arg1 harg1 arg3 harg3 arg7 harg7 x1 x3 (k0_pay12 (F := Ideal)) q := by
  have h0 : runFirst.sl.v39 c arg7 = View.readAt (Elt Ideal) arg7.view (Rect.unit (s := S8x2048) ![0, 0] S8x256.size (by decide)).toLoadRect (harg7.unread (k0_pay12 (F := Ideal))) := read_fresh arg7 harg7 _ _ fun y _ _ => read_zero _ y
  have h4 : runFirst.sl.v52 c arg1 harg1 arg3 harg3 arg7 x1 x3 = View.readAt (Elt Ideal) arg7.view (Rect.unit (s := S8x2048) ![0, 1024] S8x256.size (by decide)).toLoadRect (harg7.unread (k0_pay12 (F := Ideal))) := by
    refine read_fresh arg7 harg7 _ _ fun y _ _ => ?_
    unfold runFirst.sl.H7_2
    rw [read_block _ 0, if_neg (by omega)]
    exact read_zero _ y
  have h1 : runFirst.sl.v96 c arg1 harg1 arg3 harg3 arg7 x1 x3 = View.readAt (Elt Ideal) arg7.view (Rect.unit (s := S8x2048) ![0, 256] S8x256.size (by decide)).toLoadRect (harg7.unread (k0_pay12 (F := Ideal))) := by
    refine read_fresh arg7 harg7 _ _ fun y _ _ => ?_
    unfold runFirst.sl.H7_3 runFirst.sl.H7_2
    rw [read_block _ 4, if_neg (by omega), read_block _ 0, if_neg (by omega)]
    exact read_zero _ y
  have h5 : runFirst.sl.v109 c arg1 harg1 arg3 harg3 arg7 x1 x3 = View.readAt (Elt Ideal) arg7.view (Rect.unit (s := S8x2048) ![0, 1280] S8x256.size (by decide)).toLoadRect (harg7.unread (k0_pay12 (F := Ideal))) := by
    refine read_fresh arg7 harg7 _ _ fun y _ _ => ?_
    unfold runFirst.sl.H7_4 runFirst.sl.H7_3 runFirst.sl.H7_2
    rw [read_block _ 1, if_neg (by omega), read_block _ 4, if_neg (by omega), read_block _ 0, if_neg (by omega)]
    exact read_zero _ y
  have h2 : runFirst.sl.v153 c arg1 harg1 arg3 harg3 arg7 x1 x3 = View.readAt (Elt Ideal) arg7.view (Rect.unit (s := S8x2048) ![0, 512] S8x256.size (by decide)).toLoadRect (harg7.unread (k0_pay12 (F := Ideal))) := by
    refine read_fresh arg7 harg7 _ _ fun y _ _ => ?_
    unfold runFirst.sl.H7_5 runFirst.sl.H7_4 runFirst.sl.H7_3 runFirst.sl.H7_2
    rw [read_block _ 5, if_neg (by omega), read_block _ 1, if_neg (by omega), read_block _ 4, if_neg (by omega), read_block _ 0, if_neg (by omega)]
    exact read_zero _ y
  have h6 : runFirst.sl.v166 c arg1 harg1 arg3 harg3 arg7 x1 x3 = View.readAt (Elt Ideal) arg7.view (Rect.unit (s := S8x2048) ![0, 1536] S8x256.size (by decide)).toLoadRect (harg7.unread (k0_pay12 (F := Ideal))) := by
    refine read_fresh arg7 harg7 _ _ fun y _ _ => ?_
    unfold runFirst.sl.H7_6 runFirst.sl.H7_5 runFirst.sl.H7_4 runFirst.sl.H7_3 runFirst.sl.H7_2
    rw [read_block _ 2, if_neg (by omega), read_block _ 5, if_neg (by omega), read_block _ 1, if_neg (by omega), read_block _ 4, if_neg (by omega), read_block _ 0, if_neg (by omega)]
    exact read_zero _ y
  have h3 : runFirst.sl.v210 c arg1 harg1 arg3 harg3 arg7 x1 x3 = View.readAt (Elt Ideal) arg7.view (Rect.unit (s := S8x2048) ![0, 768] S8x256.size (by decide)).toLoadRect (harg7.unread (k0_pay12 (F := Ideal))) := by
    refine read_fresh arg7 harg7 _ _ fun y _ _ => ?_
    unfold runFirst.sl.H7_7 runFirst.sl.H7_6 runFirst.sl.H7_5 runFirst.sl.H7_4 runFirst.sl.H7_3 runFirst.sl.H7_2
    rw [read_block _ 6, if_neg (by omega), read_block _ 2, if_neg (by omega), read_block _ 5, if_neg (by omega), read_block _ 1, if_neg (by omega), read_block _ 4, if_neg (by omega), read_block _ 0, if_neg (by omega)]
    exact read_zero _ y
  have h7 : runFirst.sl.v223 c arg1 harg1 arg3 harg3 arg7 x1 x3 = View.readAt (Elt Ideal) arg7.view (Rect.unit (s := S8x2048) ![0, 1792] S8x256.size (by decide)).toLoadRect (harg7.unread (k0_pay12 (F := Ideal))) := by
    refine read_fresh arg7 harg7 _ _ fun y _ _ => ?_
    unfold runFirst.sl.H7_8 runFirst.sl.H7_7 runFirst.sl.H7_6 runFirst.sl.H7_5 runFirst.sl.H7_4 runFirst.sl.H7_3 runFirst.sl.H7_2
    rw [read_block _ 3, if_neg (by omega), read_block _ 6, if_neg (by omega), read_block _ 2, if_neg (by omega), read_block _ 5, if_neg (by omega), read_block _ 1, if_neg (by omega), read_block _ 4, if_neg (by omega), read_block _ 0, if_neg (by omega)]
    exact read_zero _ y
  match q with
  | 7 => exact congrArg (fun v => k0_pay53 (shapeCast S8x256 v (by decide)) (runLast.sl.v226 c arg1 harg1 arg3 harg3 x1 x3) runLast.sl.v43 0#32) h7
  | 3 => exact congrArg (fun v => addf (shapeCast S8x256 v (by decide)) (runLast.sl.v220 c arg1 harg1 arg3 harg3 x1 x3)) h3
  | 6 => exact congrArg (fun v => addf (shapeCast S8x256 v (by decide)) (runLast.sl.v176 c arg1 harg1 arg3 harg3 x1 x3)) h6
  | 2 => exact congrArg (fun v => addf (shapeCast S8x256 v (by decide)) (runLast.sl.v163 c arg1 harg1 arg3 harg3 x1 x3)) h2
  | 5 => exact congrArg (fun v => addf (shapeCast S8x256 v (by decide)) (runLast.sl.v119 c arg1 harg1 arg3 harg3 x1 x3)) h5
  | 1 => exact congrArg (fun v => addf (shapeCast S8x256 v (by decide)) (runLast.sl.v106 c arg1 harg1 arg3 harg3 x1 x3)) h1
  | 4 => exact congrArg (fun v => addf (shapeCast S8x256 v (by decide)) (runLast.sl.v62 c arg1 harg1 arg3 harg3 x1 x3)) h4
  | 0 | n + 8 => exact congrArg (fun v => addf (shapeCast S8x256 v (by decide)) (runLast.sl.v49 c arg1 harg1 arg3 harg3 x1 x3)) h0

end

end Cert.GateBwdIdeal.Hand

end
-- ==== Proof.GbGrad.lean ====
/- The gradient of the S5 layer's gate: the gradient of the activations and of the weights, entry by entry. -/
module

public import proofs.«01_k».proof.Proof.GbSums

@[expose] public section

set_option maxRecDepth 16384

noncomputable section

namespace Cert.GateBwdIdeal.Hand

open Cert.GateBwdIdeal.Gen
open Idealize.ShloMosaic Idealize.ShloMosaic.TcCoe Idealize.ShloMosaic.Tactic
open Cert.MlpIdeal.Hand (firstRow)
open Cert.GateIdeal.Hand (valueCol gateCol)

/-! ## The smooth gate function -/

abbrev cubic : EReal := ((8943 / 200000 : ℝ) : EReal)
abbrev square : EReal := ((26829 / 200000 : ℝ) : EReal)
abbrev half : EReal := Ideal.ofBits .f32 0x3F000000#32
abbrev root : EReal := Ideal.ofBits .f32 0x3F4C422A#32

theorem named_cubic : Named.named (F := Ideal) (φ := .f32) κ "cubic" 0x3D372713#32 = cubic :=
  IdealRules.named_const.ideal_named_scalar _ _ _ _ rfl

theorem named_square : Named.named (F := Ideal) (φ := .f32) κ "square" 0x3E095D4F#32 = square :=
  IdealRules.named_const.ideal_named_scalar _ _ _ _ rfl

def bend (y : EReal) : EReal := Ideal.tanh (root * (y + cubic * (y * (y * y))))

def gelu (y : EReal) : EReal := y * (half * (1 + bend y))

/-- Its derivative. -/
def slope (y : EReal) : EReal := half * (1 + bend y) + half * y * (1 - bend y * bend y) * root * (1 + square * y * y)

theorem cube (c y : EReal) : c * y * y * y = c * (y * (y * y)) := by simp only [mul_assoc]

theorem pay1_apply (y p : Vec Ideal S512x1024 .f32) (a : Fin 512) (d : Fin 1024) :
    k0_pay1 y p (k0_pay59 y) (k0_pay60 y) k0_pay61 (ix2 a d) = p (ix2 a d) * slope (y (ix2 a d)) := by
  pointwise [k0_pay1, k0_pay59, k0_pay60, k0_pay61]
  rw [named_cubic, named_square, cube]
  rfl

section

variable (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x2048 .f32) (harg3 : arg3.IsWhole)
  (arg4 : Memref sig .tc .vmem S8x1024x256 .bf16) (harg4 : arg4.IsWhole) (arg8 : Memref sig .tc .vmem S2048x1024 .bf16) (harg8 : arg8.IsWhole) (arg9 : Memref sig .tc .vmem S2048x2048 .bf16) (harg9 : arg9.IsWhole)
  (x1 x2 : Vec Ideal S512x1024 .f32) (x3 : Vec Ideal S512x2048 .f32) (x4 : Vec Ideal S8x1024x256 .bf16)
  (y8 : Vec Ideal S2048x1024 .bf16) (y9 : Vec Ideal S2048x2048 .bf16)

/-- What a tile keeps of the activations. -/
theorem yTile_apply (a : Fin 512) (d : Fin 1024) : yTile arg2 harg2 x2 (ix2 a d) = gelu (x2 (ix2 a d)) := by
  unfold yTile
  pointwise [k0_pay13]
  simp only [rd_whole]
  rw [named_cubic]
  rfl

/-! ## The gradient of the activations -/

/-- The gradient before the gate times the weights, by their blocks of 256 columns. -/
def through (a : Fin 512) (d : Fin 1024) : EReal :=
  ∑ k : Fin 2048, dz x1 x3 a k * x4 (ix3 ⟨k.val / 256, by omega⟩ d ⟨k.val % 256, by omega⟩)

theorem block_of (a : Fin 512) (d : Fin 1024) (j : Fin 8) (B : Fin 256 → EReal)
    (hB : ∀ (e : Fin 256) (k : Fin 2048), k.val = j.val * 256 + e.val → dz x1 x3 a k = B e) :
    ∑ e : Fin 256, dz x1 x3 a ⟨j.val * 256 + e.val, by omega⟩ * x4 (ix3 ⟨(j.val * 256 + e.val) / 256, by omega⟩ d ⟨(j.val * 256 + e.val) % 256, by omega⟩)
      = ∑ e : Fin 256, B e * x4 (ix3 j d e) :=
  Finset.sum_congr rfl fun e _ => by
    have hj : (⟨(j.val * 256 + e.val) / 256, by omega⟩ : Fin 8) = j := Fin.ext (by dsimp only; omega)
    have he : (⟨(j.val * 256 + e.val) % 256, by omega⟩ : Fin 256) = e := Fin.ext (by dsimp only; omega)
    rw [hj, he, hB e _ rfl]

theorem order (s0 s1 s2 s3 s4 s5 s6 s7 : EReal) :
    s0 + s4 + s1 + s5 + s2 + s6 + s3 + s7 = s0 + s1 + s2 + s3 + s4 + s5 + s6 + s7 := by
  abel

theorem acc_apply (a : Fin 512) (d : Fin 1024) :
    runLast.sl.r_6 (F := Ideal) c arg1 harg1 arg3 harg3 arg4 harg4 x1 x3 x4 (ix2 a d) = through x1 x3 x4 a d := by
  unfold through
  rw [← Fin.sum_mul_add_fin 8 256 (fun k : Fin 2048 => dz x1 x3 a k * x4 (ix3 ⟨k.val / 256, by omega⟩ d ⟨k.val % 256, by omega⟩)), Fin.sum_univ_eight]
  rw [block_of x1 x3 x4 a d 0 (fun e => dval x1 x3 a ⟨e.val, by omega⟩) fun e k h => dz_val x1 x3 a ⟨e.val, by omega⟩ k (by dsimp only at h ⊢; omega),
    block_of x1 x3 x4 a d 1 (fun e => dval x1 x3 a ⟨256 + e.val, by omega⟩) fun e k h => dz_val x1 x3 a ⟨256 + e.val, by omega⟩ k (by dsimp only at h ⊢; omega),
    block_of x1 x3 x4 a d 2 (fun e => dval x1 x3 a ⟨512 + e.val, by omega⟩) fun e k h => dz_val x1 x3 a ⟨512 + e.val, by omega⟩ k (by dsimp only at h ⊢; omega),
    block_of x1 x3 x4 a d 3 (fun e => dval x1 x3 a ⟨768 + e.val, by omega⟩) fun e k h => dz_val x1 x3 a ⟨768 + e.val, by omega⟩ k (by dsimp only at h ⊢; omega),
    block_of x1 x3 x4 a d 4 (fun e => dgate x1 x3 a ⟨e.val, by omega⟩) fun e k h => dz_gate x1 x3 a ⟨e.val, by omega⟩ k (by dsimp only at h ⊢; omega),
    block_of x1 x3 x4 a d 5 (fun e => dgate x1 x3 a ⟨256 + e.val, by omega⟩) fun e k h => dz_gate x1 x3 a ⟨256 + e.val, by omega⟩ k (by dsimp only at h ⊢; omega),
    block_of x1 x3 x4 a d 6 (fun e => dgate x1 x3 a ⟨512 + e.val, by omega⟩) fun e k h => dz_gate x1 x3 a ⟨512 + e.val, by omega⟩ k (by dsimp only at h ⊢; omega),
    block_of x1 x3 x4 a d 7 (fun e => dgate x1 x3 a ⟨768 + e.val, by omega⟩) fun e k h => dz_gate x1 x3 a ⟨768 + e.val, by omega⟩ k (by dsimp only at h ⊢; omega)]
  refine Eq.trans ?_ (order ..)
  unfold runLast.sl.r_6 runLast.sl.v196 runLast.sl.v192 runLast.sl.v139 runLast.sl.v135 runLast.sl.v82 runLast.sl.v78 runLast.sl.v77 runLast.sl.v65 runLast.sl.v76 runLast.sl.r_4 runLast.sl.v81 runLast.sl.v66 runLast.sl.v80 runLast.sl.v134 runLast.sl.v122 runLast.sl.v133 runLast.sl.v138 runLast.sl.v123 runLast.sl.v137 runLast.sl.v191 runLast.sl.v179 runLast.sl.v190 runLast.sl.r_5 runLast.sl.v195 runLast.sl.v180 runLast.sl.v194 runLast.sl.cst_32
  pointwise [k0_pay58, k0_pay54, k0_pay55, k0_pay14]
  simp only [rd_block, val0, val1, val2, val3, gate0, gate1, gate2, gate3]
  rfl

/-- A tile's rows of the gradient of the activations. -/
theorem dy_apply (a : Fin 512) (d : Fin 1024) :
    k0_pay1 (runLast.sl.r_1 c arg2 harg2 x2) (runLast.sl.r_6 c arg1 harg1 arg3 harg3 arg4 harg4 x1 x3 x4) (runLast.sl.r_7 c arg2 harg2 x2)
        (runLast.sl.r_8 c arg2 harg2 x2) k0_pay61 (ix2 a d) = through x1 x3 x4 a d * slope (x2 (ix2 a d)) := by
  refine (pay1_apply (runLast.sl.r_1 c arg2 harg2 x2) _ a d).trans ?_
  rw [acc_apply]
  unfold runLast.sl.r_1
  refine congrArg (fun y => through x1 x3 x4 a d * slope y) ?_
  exact rd_whole ..

/-! ## The gradient of the weights -/

/-- The eight stores of the gradient of the weights, a block of 256 columns each. -/
def pieces (T : ℕ → Vec Ideal S1x1024x256 .bf16) : List (View.Piece (Elt Ideal) S8x1024x256 .bf16) :=
  [⟨Rect.unit ![7, 0, 0] S1x1024x256.size (by decide), T 7⟩,
    ⟨Rect.unit ![6, 0, 0] S1x1024x256.size (by decide), T 6⟩,
    ⟨Rect.unit ![5, 0, 0] S1x1024x256.size (by decide), T 5⟩,
    ⟨Rect.unit ![4, 0, 0] S1x1024x256.size (by decide), T 4⟩,
    ⟨Rect.unit ![3, 0, 0] S1x1024x256.size (by decide), T 3⟩,
    ⟨Rect.unit ![2, 0, 0] S1x1024x256.size (by decide), T 2⟩,
    ⟨Rect.unit ![1, 0, 0] S1x1024x256.size (by decide), T 1⟩,
    ⟨Rect.unit ![0, 0, 0] S1x1024x256.size (by decide), T 0⟩]

theorem read_piece {V : View sig .tc .vmem S8x1024x256 .bf16} (f : V.ty.Contents (Elt Ideal)) (k : ℕ) (inb : ∀ a, (![k, 0, 0] : Fin 3 → ℕ) a + S1x1024x256.size a ≤ S8x1024x256.size a)
    (w : Vec Ideal S1x1024x256 .bf16) (L : List (View.Piece (Elt Ideal) S8x1024x256 .bf16)) (j : Fin 8) (d : Fin 1024) (e : Fin 256) :
    V.read (Elt Ideal) (V.writes (Elt Ideal) f (⟨Rect.unit (s := S8x1024x256) ![k, 0, 0] S1x1024x256.size inb, w⟩ :: L)) (ix3 j d e)
      = if j.val = k then w (ix3 0 d e) else V.read (Elt Ideal) (V.writes (Elt Ideal) f L) (ix3 j d e) := by
  split
  · rename_i h
    refine View.read_writes_cons_unit_of_mem V f inb w L _ _ rfl fun a => ?_
    match a with
    | 0 => exact h
    | 1 => exact (Nat.zero_add _).symm
    | 2 => exact (Nat.zero_add _).symm
  · rename_i h
    refine View.read_writes_cons_unit_of_not_mem V f inb w L _ rfl (0 : Fin 3) ?_
    show j.val < k ∨ k + 1 ≤ j.val
    omega

theorem read_pieces {V : View sig .tc .vmem S8x1024x256 .bf16} (f : V.ty.Contents (Elt Ideal)) (T : ℕ → Vec Ideal S1x1024x256 .bf16) (j : Fin 8) (d : Fin 1024) (e : Fin 256) :
    V.read (Elt Ideal) (V.writes (Elt Ideal) f (pieces T)) (ix3 j d e) = T j.val (ix3 0 d e) := by
  unfold pieces
  rw [read_piece f 7, read_piece f 6, read_piece f 5, read_piece f 4, read_piece f 3, read_piece f 2, read_piece f 1, read_piece f 0]
  obtain ⟨q, hq⟩ := j
  interval_cases q <;> rfl

/-- A block of columns of the gradient of the weights. -/
def grads : ℕ → Vec Ideal S1x1024x256 .bf16
  | 7 => k0_pay4 (runLast.sl.v311 c i arg1 harg1 arg2 harg2 arg3 harg3 arg8 harg8 arg9 harg9 x1 x2 x3 y8 y9)
  | 6 => k0_pay3 (runLast.sl.v311 c i arg1 harg1 arg2 harg2 arg3 harg3 arg8 harg8 arg9 harg9 x1 x2 x3 y8 y9)
  | 5 => k0_pay2 (runLast.sl.v311 c i arg1 harg1 arg2 harg2 arg3 harg3 arg8 harg8 arg9 harg9 x1 x2 x3 y8 y9)
  | 4 => runLast.sl.v316 c i arg1 harg1 arg2 harg2 arg3 harg3 arg8 harg8 arg9 harg9 x1 x2 x3 y8 y9
  | 3 => runLast.sl.v308 c i arg1 harg1 arg2 harg2 arg3 harg3 arg8 harg8 arg9 harg9 x1 x2 x3 y8 y9
  | 2 => runLast.sl.v303 c i arg1 harg1 arg2 harg2 arg3 harg3 arg8 harg8 arg9 harg9 x1 x2 x3 y8 y9
  | 1 => runLast.sl.v298 c i arg1 harg1 arg2 harg2 arg3 harg3 arg8 harg8 arg9 harg9 x1 x2 x3 y8 y9
  | _ => runLast.sl.v293 c i arg1 harg1 arg2 harg2 arg3 harg3 arg8 harg8 arg9 harg9 x1 x2 x3 y8 y9

/-- Where the point's own rows stand in the kept arrays already, a block is the product of the two arrays over all rows. -/
theorem grads_apply (hw8 : arg8.view.writes (Elt Ideal) (harg8.unread y8) (runLast.sl.H8_1 c i arg2 harg2 x2) = harg8.unread y8)
    (hw9 : arg9.view.writes (Elt Ideal) (harg9.unread y9) (runLast.sl.H9_8 c i arg1 harg1 arg3 harg3 x1 x3) = harg9.unread y9)
    (q : ℕ) (d : Fin 1024) (e : Fin 256) (k : Fin 2048) (hk : k.val = q * 256 + e.val) :
    grads c i arg1 harg1 arg2 harg2 arg3 harg3 arg8 harg8 arg9 harg9 x1 x2 x3 y8 y9 q (ix3 0 d e) = ∑ r : Fin 2048, y8 (ix2 r d) * y9 (ix2 r k) := by
  have hq : q < 8 := by omega
  have low : ∀ f : Fin 1024, k.val = 0 + f.val →
      runLast.sl.v288 (F := Ideal) c i arg1 harg1 arg2 harg2 arg3 harg3 arg8 harg8 arg9 harg9 x1 x2 x3 y8 y9 (ix2 d f) = ∑ r : Fin 2048, y8 (ix2 r d) * y9 (ix2 r k) := fun f hf => by
    unfold runLast.sl.v288 runLast.sl.cst_127
    rw [hw8, hw9]
    pointwise
    simp only [rd_kept, rd_half]
    rw [show k = ⟨0 + f.val, by omega⟩ from Fin.ext hf]
  have high : ∀ f : Fin 1024, k.val = 1024 + f.val →
      runLast.sl.v311 (F := Ideal) c i arg1 harg1 arg2 harg2 arg3 harg3 arg8 harg8 arg9 harg9 x1 x2 x3 y8 y9 (ix2 d f) = ∑ r : Fin 2048, y8 (ix2 r d) * y9 (ix2 r k) := fun f hf => by
    unfold runLast.sl.v311 runLast.sl.cst_127
    rw [hw8, hw9]
    pointwise
    simp only [rd_kept, rd_half]
    rw [show k = ⟨1024 + f.val, by omega⟩ from Fin.ext hf]
  unfold grads
  interval_cases q
  · unfold runLast.sl.v293 runLast.sl.v290 runLast.sl.v289
    generalize runLast.sl.v288 c i arg1 harg1 arg2 harg2 arg3 harg3 arg8 harg8 arg9 harg9 x1 x2 x3 y8 y9 = B at low ⊢
    pointwise
    exact low _ (by dsimp only; omega)
  · unfold runLast.sl.v298 runLast.sl.v295 runLast.sl.v294
    generalize runLast.sl.v288 c i arg1 harg1 arg2 harg2 arg3 harg3 arg8 harg8 arg9 harg9 x1 x2 x3 y8 y9 = B at low ⊢
    pointwise
    exact low _ (by dsimp only; omega)
  · unfold runLast.sl.v303 runLast.sl.v300 runLast.sl.v299
    generalize runLast.sl.v288 c i arg1 harg1 arg2 harg2 arg3 harg3 arg8 harg8 arg9 harg9 x1 x2 x3 y8 y9 = B at low ⊢
    pointwise
    exact low _ (by dsimp only; omega)
  · unfold runLast.sl.v308 runLast.sl.v305 runLast.sl.v304
    generalize runLast.sl.v288 c i arg1 harg1 arg2 harg2 arg3 harg3 arg8 harg8 arg9 harg9 x1 x2 x3 y8 y9 = B at low ⊢
    pointwise
    exact low _ (by dsimp only; omega)
  · unfold runLast.sl.v316 runLast.sl.v313 runLast.sl.v312
    generalize runLast.sl.v311 c i arg1 harg1 arg2 harg2 arg3 harg3 arg8 harg8 arg9 harg9 x1 x2 x3 y8 y9 = B at high ⊢
    pointwise
    exact high _ (by dsimp only; omega)
  · generalize runLast.sl.v311 c i arg1 harg1 arg2 harg2 arg3 harg3 arg8 harg8 arg9 harg9 x1 x2 x3 y8 y9 = B at high ⊢
    pointwise [k0_pay2]
    exact high _ (by dsimp only; omega)
  · generalize runLast.sl.v311 c i arg1 harg1 arg2 harg2 arg3 harg3 arg8 harg8 arg9 harg9 x1 x2 x3 y8 y9 = B at high ⊢
    pointwise [k0_pay3]
    exact high _ (by dsimp only; omega)
  · generalize runLast.sl.v311 c i arg1 harg1 arg2 harg2 arg3 harg3 arg8 harg8 arg9 harg9 x1 x2 x3 y8 y9 = B at high ⊢
    pointwise [k0_pay4]
    exact high _ (by dsimp only; omega)

end

end Cert.GateBwdIdeal.Hand

end
-- ==== Proof.GbOuts.lean ====
/- The gradient of the S5 layer's gate as one formula for each entry of each result, over the extended reals, and the arrays
   the kernel ends with: every entry is that formula. -/
module

public import proofs.«01_k».proof.Proof.GbGrad
public import proofs.«01_k».proof.Proof.RowTiles
public import Idealize.ShloMosaic.Lib.Claim
public import Idealize.ShloMosaic.Lib.StableHlo.ReadAt

@[expose] public section

set_option maxRecDepth 16384

noncomputable section

namespace Cert.GateBwdIdeal.Hand

open Cert.GateBwdIdeal.Gen
open Idealize.ShloMosaic Idealize.ShloMosaic.TcCoe Idealize.ShloMosaic.Tactic
open Cert.MlpIdeal.Hand (rowOf firstRow firstRow_add)
open Cert.GateIdeal.Hand (valueCol gateCol)
open Cert.RowTiles

variable (m : (ℓ : Loc nD τ sig) → Buf (Elt Ideal) ℓ)

/-- The arrays the gradients depend on: the gate's input, its weights, its bias, and the cotangent of its output. -/
structure Args where
  y : Fin 2048 → Fin 1024 → EReal
  w : Fin 1024 → Fin 2048 → EReal
  b : Fin 2048 → EReal
  dh : Fin 2048 → Fin 1024 → EReal

namespace Args

variable (A : Args)

/-- The gate's product. -/
def z (i : Fin 2048) (k : Fin 2048) : EReal := ∑ d, gelu (A.y i d) * A.w d k + A.b k

/-- The gradient at the value half, at the gating half, and the two beside each other. -/
def dval (i : Fin 2048) (d : Fin 1024) : EReal := A.dh i d * Ideal.logistic (A.z i (gateCol d))
def dgate (i : Fin 2048) (d : Fin 1024) : EReal :=
  A.dh i d * A.z i (valueCol d) * Ideal.logistic (A.z i (gateCol d)) * (1 - Ideal.logistic (A.z i (gateCol d)))
def dz (i : Fin 2048) (k : Fin 2048) : EReal := if h : k.val < 1024 then A.dval i ⟨k.val, h⟩ else A.dgate i ⟨k.val - 1024, by omega⟩

/-- The three gradients. -/
def dy (i : Fin 2048) (d : Fin 1024) : EReal := (∑ k, A.dz i k * A.w d k) * slope (A.y i d)
def dw (d : Fin 1024) (k : Fin 2048) : EReal := ∑ i, gelu (A.y i d) * A.dz i k
def db (k : Fin 2048) : EReal := ∑ i, A.dz i k

end Args

/-- The call's arrays as a device's memory holds them. -/
def args (c : Dev nD) : Args where
  y i d := m ((c.tc : Thread nD τ).loc main_arg0) (ix2 i d)
  w d k := m ((c.tc : Thread nD τ).loc main_arg1) (ix2 d k)
  b k := m ((c.tc : Thread nD τ).loc main_arg2) (ix1 k)
  dh i d := m ((c.tc : Thread nD τ).loc main_arg3) (ix2 i d)

/-! ## The blocks of the operands -/

theorem million : Ideal.ofBits .f32 0x49742400#32 = ((1000000 : ℝ) : EReal) := by
  simp [Ideal.ofBits, Ideal.ieee, -EReal.coe_mul]; norm_num

theorem parts : Ideal.ofBits .f32 0x472EAB00#32 = ((44715 : ℝ) : EReal) := by
  simp [Ideal.ofBits, Ideal.ieee, -EReal.coe_mul]; norm_num

/-- Dividing by a million. -/
theorem div_million (x : EReal) : Ideal.div x (Ideal.ofBits .f32 0x49742400#32) = x * ((1 / 1000000 : ℝ) : EReal) := by
  rw [million]; exact Ideal.div_coe (by norm_num) x

/-- The cubic term, its coefficient written as a quotient. -/
theorem quotient (y : EReal) : Ideal.div (y * y * y * Ideal.ofBits .f32 0x472EAB00#32) (Ideal.ofBits .f32 0x49742400#32) = cubic * (y * (y * y)) := by
  rw [div_million, parts, mul_assoc, ← EReal.coe_mul, mul_comm, mul_assoc y y y]
  norm_num

theorem entry_y (c : Dev nD) (i : Fin 2048) (d : Fin 1024) : V m c main_arg0 (ix2 i d) = (args m c).y i d := by
  rw [V_main_arg0]; rfl

theorem entry_dh (c : Dev nD) (i : Fin 2048) (d : Fin 1024) : V m c main_arg3 (ix2 i d) = (args m c).dh i d := by
  rw [V_main_arg3]; rfl

theorem entry_w (c : Dev nD) (j : Fin 8) (d : Fin 1024) (e : Fin 256) :
    V m c main_v21 (ix3 j d e) = (args m c).w d ⟨j.val * 256 + e.val, by omega⟩ := by
  unfold V
  after_reads_at
  rfl

theorem entry_z (c : Dev nD) (i : Fin 2048) (k : Fin 2048) : V m c main_v18 (ix2 i k) = (args m c).z i k := by
  unfold V
  after_reads_at
  pointwise
  simp only [quotient]
  rfl

theorem idx (t : Fin cfg0.N) : win0_0.index t = ![t.val, 0] ∧ win0_1.index t = ![t.val, 0] ∧ win0_2.index t = ![t.val, 0]
    ∧ win0_3.index t = ![0, 0, 0] ∧ win0_4.index t = ![t.val, 0] ∧ win0_5.index t = ![0, 0, 0] ∧ win0_6.index t = ![0, 0] :=
  (by decide +kernel : ∀ t : Fin cfg0.N, win0_0.index t = ![t.val, 0] ∧ win0_1.index t = ![t.val, 0] ∧ win0_2.index t = ![t.val, 0]
    ∧ win0_3.index t = ![0, 0, 0] ∧ win0_4.index t = ![t.val, 0] ∧ win0_5.index t = ![0, 0, 0] ∧ win0_6.index t = ![0, 0]) t

theorem pt_lt {n : ℕ} (hn : n < cfg0.N) : n < 4 := hn

/-- The row of the stream that row `a` of tile `t` is. -/
abbrev row (t : Fin cfg0.N) (a : Fin 512) : Fin 2048 := rowOf t.val (pt_lt t.isLt) a

abbrev dhT (c : Dev nD) (t : Fin cfg0.N) : Vec Ideal S512x1024 .f32 := iblk m c 0 t
abbrev yT (c : Dev nD) (t : Fin cfg0.N) : Vec Ideal S512x1024 .f32 := iblk m c 1 t
abbrev zT (c : Dev nD) (t : Fin cfg0.N) : Vec Ideal S512x2048 .f32 := iblk m c 2 t
abbrev wB (c : Dev nD) (t : Fin cfg0.N) : Vec Ideal S8x1024x256 .bf16 := iblk m c 3 t

theorem dhT_at (c : Dev nD) (t : Fin cfg0.N) (a : Fin 512) (d : Fin 1024) : dhT m c t (ix2 a d) = (args m c).dh (row t a) d := by
  rw [← entry_dh]; unfold dhT row rowOf; blk_ext [iblk, idx t]

theorem yT_at (c : Dev nD) (t : Fin cfg0.N) (a : Fin 512) (d : Fin 1024) : yT m c t (ix2 a d) = (args m c).y (row t a) d := by
  rw [← entry_y]; unfold yT row rowOf; blk_ext [iblk, idx t]

theorem zT_at (c : Dev nD) (t : Fin cfg0.N) (a : Fin 512) (k : Fin 2048) : zT m c t (ix2 a k) = (args m c).z (row t a) k := by
  rw [← entry_z]; unfold zT row rowOf; blk_ext [iblk, idx t]

theorem wB_at (c : Dev nD) (t : Fin cfg0.N) (j : Fin 8) (d : Fin 1024) (e : Fin 256) :
    wB m c t (ix3 j d e) = (args m c).w d ⟨j.val * 256 + e.val, by omega⟩ := by
  rw [← entry_w]; unfold wB; blk_ext [iblk, idx t]

theorem dz_at (c : Dev nD) (t : Fin cfg0.N) (a : Fin 512) (k : Fin 2048) : dz (dhT m c t) (zT m c t) a k = (args m c).dz (row t a) k := by
  unfold dz Args.dz dval dgate Args.dval Args.dgate
  simp only [dhT_at, zT_at]

/-! ## The kept arrays -/

theorem row_tile (x : Fin 2048) (h : x.val / 512 < cfg0.N) : row ⟨x.val / 512, h⟩ ⟨x.val % 512, Nat.mod_lt _ (by omega)⟩ = x :=
  Fin.ext (by unfold row rowOf; dsimp only; omega)

theorem keptY_at (c : Dev nD) (i : Fin 2048) (d : Fin 1024) : keptY m c (ix2 i d) = gelu ((args m c).y i d) := by
  refine (yTile_apply (ms0_1 (tileOf (ix2 i d))) (hs0_1 (tileOf (ix2 i d))) (yT m c (tileOf (ix2 i d))) ⟨i.val % 512, Nat.mod_lt _ (by omega)⟩ d).trans ?_
  rw [yT_at]
  exact congrArg (fun r => gelu ((args m c).y r d)) (row_tile i _)

theorem keptZ_at (c : Dev nD) (i : Fin 2048) (k : Fin 2048) : keptZ m c (ix2 i k) = (args m c).dz i k := by
  refine (zTile_apply c (ms0_0 (tileOf (ix2 i k))) (hs0_0 (tileOf (ix2 i k))) (ms0_2 (tileOf (ix2 i k))) (hs0_2 (tileOf (ix2 i k)))
    (dhT m c (tileOf (ix2 i k))) (zT m c (tileOf (ix2 i k))) ⟨i.val % 512, Nat.mod_lt _ (by omega)⟩ ⟨k.val % 256, Nat.mod_lt _ (by omega)⟩ (k.val / 256) k
    (by dsimp only; omega)).trans ?_
  rw [dz_at]
  exact congrArg (fun r => (args m c).dz r k) (row_tile i _)

theorem kept_y (c : Dev nD) (t : Fin cfg0.N) :
    scY.view.writes (Elt Ideal) (hY.unread (keptY m c)) (listY m c t) = hY.unread (keptY m c) := by
  refine hY.eq_unread (funext fun x => ?_)
  rw [read_y, coord_eq t]
  split
  · rename_i ht
    have e : t = tileOf x := Fin.ext ht.symm
    subst e; rfl
  · rw [hY.read_unread]

theorem kept_z (c : Dev nD) (t : Fin cfg0.N) :
    scZ.view.writes (Elt Ideal) (hZ.unread (keptZ m c)) (listZ m c t) = hZ.unread (keptZ m c) := by
  refine hZ.eq_unread (funext fun x => ?_)
  rw [read_z, coord_eq t]
  split
  · rename_i ht
    have e : t = tileOf x := Fin.ext ht.symm
    subst e; rfl
  · rw [hZ.read_unread]

/-! ## What the points leave -/

theorem through_at (c : Dev nD) (t : Fin cfg0.N) (a : Fin 512) (d : Fin 1024) :
    through (dhT m c t) (zT m c t) (wB m c t) a d * slope (yT m c t (ix2 a d)) = (args m c).dy (row t a) d := by
  unfold through Args.dy
  have col : ∀ k : Fin 2048, (⟨k.val / 256 * 256 + k.val % 256, by omega⟩ : Fin 2048) = k := fun k => Fin.ext (by dsimp only; omega)
  simp only [dz_at, wB_at, yT_at, col]

theorem read_dy {V : View sig .tc .vmem S512x1024 .f32} (f : V.ty.Contents (Elt Ideal)) (inb : ∀ a, (![0, 0] : Fin 2 → ℕ) a + S512x1024.size a ≤ S512x1024.size a)
    (w : Vec Ideal S512x1024 .f32) (y : S512x1024.Idx) :
    V.read (Elt Ideal) (V.writes (Elt Ideal) f [⟨Rect.unit (s := S512x1024) ![0, 0] S512x1024.size inb, w⟩]) y = w y :=
  View.read_writes_cons_unit_of_mem V f inb w [] y y rfl (Fin.forall_fin_two.mpr ⟨(Nat.zero_add _).symm, (Nat.zero_add _).symm⟩)

/-- The gradient of the activations a point leaves. -/
abbrev dyPay (c : Dev nD) (t : Fin cfg0.N) : Vec Ideal S512x1024 .f32 :=
  k0_pay1 (runLast.sl.r_1 c (ms0_1 t) (hs0_1 t) (yT m c t)) (runLast.sl.r_6 c (ms0_0 t) (hs0_0 t) (ms0_2 t) (hs0_2 t) (ms0_3 t) (hs0_3 t) (dhT m c t) (zT m c t) (wB m c t))
    (runLast.sl.r_7 c (ms0_1 t) (hs0_1 t) (yT m c t)) (runLast.sl.r_8 c (ms0_1 t) (hs0_1 t) (yT m c t)) k0_pay61

theorem outs_dy (c : Dev nD) (t : Fin cfg0.N) (a : Fin 512) (d : Fin 1024) :
    (outs m c t.val t.isLt).dy (ix2 a d) = (args m c).dy (row t a) d := by
  refine Eq.trans ?_ ((dy_apply c (ms0_0 t) (hs0_0 t) (ms0_1 t) (hs0_1 t) (ms0_2 t) (hs0_2 t) (ms0_3 t) (hs0_3 t) (dhT m c t) (yT m c t) (zT m c t) (wB m c t) a d).trans
    (through_at m c t a d))
  rcases Nat.eq_zero_or_pos t.val with h | h
  · rw [outs_first m c t h]
    exact read_dy (V := (ms0_4 t).view) _ (by decide) (dyPay m c t) (ix2 a d)
  · by_cases h3 : t.val = 3
    · rw [outs_last m c t h3]
      exact read_dy (V := (ms0_4 t).view) _ (by decide) (dyPay m c t) (ix2 a d)
    · rw [outs_mid m c t (by omega) h3]
      exact read_dy (V := (ms0_4 t).view) _ (by decide) (dyPay m c t) (ix2 a d)

theorem outs_dw (c : Dev nD) (t : Fin cfg0.N) (h : t.val = 3) (j : Fin 8) (d : Fin 1024) (e : Fin 256) :
    (outs m c t.val t.isLt).dw (ix3 j d e) = (args m c).dw d ⟨j.val * 256 + e.val, by omega⟩ := by
  rw [outs_last m c t h]
  refine (read_pieces (V := (ms0_5 t).view) _ (grads c (grid0.coords t) (ms0_0 t) (hs0_0 t) (ms0_1 t) (hs0_1 t) (ms0_2 t) (hs0_2 t) scY hY scZ hZ
    (dhT m c t) (yT m c t) (zT m c t) (keptY m c) (keptZ m c)) j d e).trans ?_
  refine (grads_apply c (grid0.coords t) (ms0_0 t) (hs0_0 t) (ms0_1 t) (hs0_1 t) (ms0_2 t) (hs0_2 t) scY hY scZ hZ
    (dhT m c t) (yT m c t) (zT m c t) (keptY m c) (keptZ m c) (kept_y m c t) (kept_z m c t) j.val d e ⟨j.val * 256 + e.val, by omega⟩ rfl).trans ?_
  unfold Args.dw
  simp only [keptY_at, keptZ_at]

theorem db_tile (c : Dev nD) (t : Fin cfg0.N) (k : Fin 2048) :
    ∑ a : Fin 512, dz (dhT m c t) (zT m c t) a k = tile (fun i => (args m c).dz i k) t.val := by
  rw [← tile_of _ _ (pt_lt t.isLt)]
  simp only [dz_at]

/-- A point adds its tile's sums to the sums it found. -/
theorem added (c : Dev nD) (t : Fin cfg0.N) (y7 : Vec Ideal S8x2048 .f32) (f) (L) (a : Fin 8) (k : Fin 2048) :
    (ms0_6 t).view.read (Elt Ideal) ((ms0_6 t).view.writes (Elt Ideal) f
        (strips (sums c (ms0_0 t) (hs0_0 t) (ms0_2 t) (hs0_2 t) (ms0_6 t) (hs0_6 t) (dhT m c t) (zT m c t) y7) L)) (ix2 a k)
      = y7 (ix2 a k) + firstRow a (tile (fun i => (args m c).dz i k) t.val) := by
  rw [read_strips, ← db_tile]
  exact sums_apply c (ms0_0 t) (hs0_0 t) (ms0_2 t) (hs0_2 t) (ms0_6 t) (hs0_6 t) (dhT m c t) (zT m c t) y7 (k.val / 256) a ⟨k.val % 256, Nat.mod_lt _ (by omega)⟩ k
    (by dsimp only; omega)

theorem zero_sums (y : S8x2048.Idx) : (k0_pay12 (F := Ideal)) y = 0 := by pointwise [k0_pay12]

/-- The first point starts from zero. -/
theorem first_db (c : Dev nD) (t : Fin cfg0.N) (h : t.val = 0) (a : Fin 8) (k : Fin 2048) :
    (outs m c t.val t.isLt).db (ix2 a k) = firstRow a (tile (fun i => (args m c).dz i k) t.val) := by
  rw [outs_first m c t h]
  refine (read_strips (V := (ms0_6 t).view) (ms0_6 t).view.junk
    (firstSums c (ms0_0 t) (hs0_0 t) (ms0_2 t) (hs0_2 t) (ms0_6 t) (dhT m c t) (zT m c t)) (runFirst.sl.H7_1 (F := Ideal)) (ix2 a k)).trans ?_
  rw [firstSums_eq c (ms0_0 t) (hs0_0 t) (ms0_2 t) (hs0_2 t) (ms0_6 t) (hs0_6 t), ← db_tile]
  refine (sums_apply c (ms0_0 t) (hs0_0 t) (ms0_2 t) (hs0_2 t) (ms0_6 t) (hs0_6 t) (dhT m c t) (zT m c t) (k0_pay12 (F := Ideal)) (k.val / 256) a
    ⟨k.val % 256, Nat.mod_lt _ (by omega)⟩ k (by dsimp only; omega)).trans ?_
  rw [zero_sums, zero_add]

/-- A later point adds to what the point before it left. -/
theorem next_db (c : Dev nD) (t : Fin cfg0.N) (h : t.val ≠ 0) (a : Fin 8) (k : Fin 2048) :
    (outs m c t.val t.isLt).db (ix2 a k)
      = (outs m c (t.val - 1) (by omega)).db (ix2 a k) + firstRow a (tile (fun i => (args m c).dz i k) t.val) := by
  by_cases h3 : t.val = 3
  · rw [outs_last m c t h3]
    generalize outs m c (t.val - 1) _ = z
    exact added m c t z.db (ms0_6 t).view.junk [] a k
  · rw [outs_mid m c t h h3]
    generalize outs m c (t.val - 1) _ = z
    exact added m c t z.db (ms0_6 t).view.junk [] a k

theorem sum_db (c : Dev nD) (a : Fin 8) (k : Fin 2048) (n : ℕ) (hn : n < cfg0.N) :
    (outs m c n hn).db (ix2 a k) = firstRow a (∑ j ∈ Finset.range (n + 1), tile (fun i => (args m c).dz i k) j) :=
  run_row cfg0.N a _ (fun n hn => (outs m c n hn).db (ix2 a k))
    (fun h => first_db m c ⟨0, h⟩ rfl a k)
    (fun n h => next_db m c ⟨n + 1, h⟩ (Nat.succ_ne_zero n) a k) n hn

theorem outs_db (c : Dev nD) (t : Fin cfg0.N) (h : t.val = 3) (a : Fin 8) (k : Fin 2048) :
    (outs m c t.val t.isLt).db (ix2 a k) = firstRow a ((args m c).db k) := by
  rw [sum_db, h]
  exact congrArg (firstRow a) (sum_tile _)

/-! ## The arrays -/

theorem arr_dy (c : Dev nD) : (dats m 0 c).arrAt 4 cfg0.N
    = (fun j : S2048x1024.Idx => (args m c).dy (j 0) (j 1) : Vec Ideal S2048x1024 .f32) := by
  refine (dats m 0 c).arrAt_eq_of_covers 4 _ (by decide +kernel) fun t hf y => ?_
  blk_simp
  rw [named_dy]
  refine (congrArg _ (ix2_eta (n0 := 512) (n1 := 1024) y).symm).trans ?_
  refine (outs_dy m c t (y 0) (y 1)).trans (congrArg₂ (args m c).dy (Fin.ext ?_) (Fin.ext ?_)) <;>
  · blk_simp [idx t]
    try (show 512 * t.val + (y 0).val = _; omega)

theorem arr_dw (c : Dev nD) : (dats m 0 c).arrAt 5 cfg0.N
    = (fun j : S8x1024x256.Idx => (args m c).dw (j 1) ⟨(j 0).val * 256 + (j 2).val, by
        have h0 : (j 0).val < 8 := (j 0).isLt
        have h2 : (j 2).val < 256 := (j 2).isLt
        omega⟩ : Vec Ideal S8x1024x256 .bf16) := by
  refine (dats m 0 c).arrAt_eq_of_covers 5 _ (by decide +kernel) fun t hf y => ?_
  have ht := (flush0_5 t).mp hf
  have h4 := pt_lt t.isLt
  blk_simp
  rw [named_dw]
  refine (congrArg _ (ix3_eta (n0 := 8) (n1 := 1024) (n2 := 256) y).symm).trans ?_
  refine (outs_dw m c t (by omega) (y 0) (y 1) (y 2)).trans (congrArg₂ (args m c).dw (Fin.ext ?_) (Fin.ext ?_)) <;>
  · blk_simp [idx t]

theorem arr_db (c : Dev nD) : (dats m 0 c).arrAt 6 cfg0.N
    = (fun j : S8x2048.Idx => firstRow (j 0) ((args m c).db (j 1)) : Vec Ideal S8x2048 .f32) := by
  refine (dats m 0 c).arrAt_eq_of_covers 6 _ (by decide +kernel) fun t hf y => ?_
  have ht := (flush0_6 t).mp hf
  have h4 := pt_lt t.isLt
  blk_simp
  rw [named_db]
  refine (congrArg _ (ix2_eta (n0 := 8) (n1 := 2048) y).symm).trans ?_
  refine (outs_db m c t (by omega) (y 0) (y 1)).trans
    (congrArg₂ (fun a d => firstRow a ((args m c).db d)) (Fin.ext ?_) (Fin.ext ?_)) <;>
  · blk_simp [idx t]

end Cert.GateBwdIdeal.Hand

end
-- ==== Proof.GbReal.lean ====
/- Values that are real numbers: from finite arguments the gradient at the gate's products is real, and the reference's sum of
   products for the gradient of the activations is then the grouped formula. -/
module

public import proofs.«01_k».proof.Pre_finite
public import proofs.«01_k».proof.Proof.GbOuts
public import Idealize.ShloMosaic.Lib.ReduceAll

@[expose] public section

set_option maxRecDepth 16384

noncomputable section

namespace Cert.GateBwdIdeal.Hand

open Cert.GateBwdIdeal.Gen
open Idealize.ShloMosaic Idealize.ShloMosaic.TcCoe Idealize.ShloMosaic.Tactic
open Cert.GateIdeal.Hand (valueCol gateCol)

/-- The value is a real number. -/
def IsReal (x : EReal) : Prop := ∃ r : ℝ, x = (r : EReal)

namespace IsReal

variable {x y : EReal}

theorem coe (r : ℝ) : IsReal (r : EReal) := ⟨r, rfl⟩
theorem one : IsReal 1 := ⟨1, rfl⟩
theorem add : IsReal x → IsReal y → IsReal (x + y) := by
  rintro ⟨a, rfl⟩ ⟨b, rfl⟩; exact ⟨a + b, (EReal.coe_add a b).symm⟩
theorem mul : IsReal x → IsReal y → IsReal (x * y) := by
  rintro ⟨a, rfl⟩ ⟨b, rfl⟩; exact ⟨a * b, (EReal.coe_mul a b).symm⟩
theorem sub : IsReal x → IsReal y → IsReal (x - y) := by
  rintro ⟨a, rfl⟩ ⟨b, rfl⟩; exact ⟨a - b, (EReal.coe_sub a b).symm⟩
theorem tanh : IsReal x → IsReal (Ideal.tanh x) := by
  rintro ⟨a, rfl⟩; exact ⟨_, Ideal.tanh_coe a⟩
theorem logistic : IsReal x → IsReal (Ideal.logistic x) := by
  rintro ⟨a, rfl⟩; exact ⟨_, Ideal.logistic_coe a⟩
theorem sum {n : ℕ} {f : Fin n → EReal} (h : ∀ i, IsReal (f i)) : IsReal (∑ i, f i) :=
  Finset.sum_induction f IsReal (fun _ _ => add) ⟨0, rfl⟩ fun i _ => h i

/-- A value whose size is below infinity. -/
theorem of_lt (h : Ideal.cmp .olt (max x (-x)) (Ideal.ofBits .f32 0x7F800000#32) = 1#1) : IsReal x := by
  have e : Ideal.ofBits .f32 0x7F800000#32 = (⊤ : EReal) := by simp [Ideal.ofBits, Ideal.ieee]
  rw [e] at h
  induction x with
  | bot => exact absurd h (by simp [Ideal.cmp])
  | top => exact absurd h (by simp [Ideal.cmp])
  | coe r => exact coe r

end IsReal

theorem half_eq : half = ((1 / 2 : ℝ) : EReal) := by
  simp [half, Ideal.ofBits, Ideal.ieee, -EReal.coe_mul]; norm_num

theorem root_eq : root = ((13386282 / 16777216 : ℝ) : EReal) := by
  simp [root, Ideal.ofBits, Ideal.ieee, -EReal.coe_mul]; norm_num

theorem real_bend {y : EReal} (h : IsReal y) : IsReal (bend y) :=
  .tanh (.mul ⟨_, root_eq⟩ (h.add (.mul (.coe _) (h.mul (h.mul h)))))

theorem real_gelu {y : EReal} (h : IsReal y) : IsReal (gelu y) :=
  h.mul (.mul ⟨_, half_eq⟩ (IsReal.one.add (real_bend h)))

/-- Every entry of the arrays is a real number. -/
structure Args.Finite (A : Args) : Prop where
  y : ∀ i d, IsReal (A.y i d)
  w : ∀ d k, IsReal (A.w d k)
  b : ∀ k, IsReal (A.b k)
  dh : ∀ i d, IsReal (A.dh i d)

namespace Args.Finite

variable {A : Args} (hA : A.Finite)
include hA

theorem z (i k : Fin 2048) : IsReal (A.z i k) :=
  (IsReal.sum fun d => (real_gelu (hA.y i d)).mul (hA.w d k)).add (hA.b k)

theorem dz (i k : Fin 2048) : IsReal (A.dz i k) := by
  unfold Args.dz
  split
  · exact (hA.dh _ _).mul (hA.z _ _).logistic
  · exact (((hA.dh _ _).mul (hA.z _ _)).mul (hA.z _ _).logistic).mul (IsReal.one.sub (hA.z _ _).logistic)

end Args.Finite

/-- The sum of the products that the chain rule gives, for real values, is the gradient times the slope. -/
theorem grouped {y t G : EReal} (hy : IsReal y) (ht : IsReal t) (hG : IsReal G) :
    (G * (half * (1 + t)) + root * (half * (y * G) * ((1 + t) * (1 - t)))
      + y * y * (Ideal.div (root * (half * (y * G) * ((1 + t) * (1 - t)))) (Ideal.ofBits .f32 0x49742400#32) * Ideal.ofBits .f32 0x472EAB00#32)
      + y * (Ideal.div (root * (half * (y * G) * ((1 + t) * (1 - t)))) (Ideal.ofBits .f32 0x49742400#32) * Ideal.ofBits .f32 0x472EAB00#32 * y)
      + Ideal.div (root * (half * (y * G) * ((1 + t) * (1 - t)))) (Ideal.ofBits .f32 0x49742400#32) * Ideal.ofBits .f32 0x472EAB00#32 * y * y)
    = G * (half * (1 + t) + half * y * (1 - t * t) * root * (1 + square * y * y)) := by
  obtain ⟨y, rfl⟩ := hy
  obtain ⟨t, rfl⟩ := ht
  obtain ⟨G, rfl⟩ := hG
  rw [div_million, parts, half_eq, root_eq, ← EReal.coe_one]
  simp only [← EReal.coe_mul, ← EReal.coe_add, ← EReal.coe_sub]
  congr 1
  ring

section
variable [Cert.Pre_finite.Facts]

theorem andi_left {p q : IVec Cert.Pre_finite.S_ 1} {j} (h : andi p q j = 1#1) : p j = 1#1 ∧ q j = 1#1 := by
  have : ∀ a b : BitVec 1, a &&& b = 1#1 → a = 1#1 ∧ b = 1#1 := by decide
  exact this _ _ h

/-- The precondition says that every entry is real. -/
theorem finite_of (y : FVec Ideal S2048x1024 .f32) (w : FVec Ideal S1024x2048 .f32) (b : FVec Ideal S2048 .f32) (dh : FVec Ideal S2048x1024 .f32)
    (h : Cert.Pre_finite.fn (F := Ideal) y w b dh = fun _ => 1#1) :
    (∀ j, IsReal (y j)) ∧ (∀ j, IsReal (w j)) ∧ (∀ j, IsReal (b j)) ∧ (∀ j, IsReal (dh j)) := by
  haveI : Subsingleton Cert.Pre_finite.S_.Idx := ⟨fun a b => funext fun d => d.elim0⟩
  have e := congrFun h (fun d => d.elim0)
  unfold Cert.Pre_finite.fn Cert.Pre_finite.fn_part1 at e
  obtain ⟨e, e3⟩ := andi_left e
  obtain ⟨e, e2⟩ := andi_left e
  obtain ⟨e0, e1⟩ := andi_left e
  exact ⟨fun j => .of_lt (Host.reduce_andi_all _ _ _ _ _ e0 j), fun j => .of_lt (Host.reduce_andi_all _ _ _ _ _ e1 j),
    fun j => .of_lt (Host.reduce_andi_all _ _ _ _ _ e2 j), fun j => .of_lt (Host.reduce_andi_all _ _ _ _ _ e3 j)⟩

end

end Cert.GateBwdIdeal.Hand

end
-- ==== Proof.GbRef.lean ====
/- The reference of the gradient of the S5 layer's gate, every entry of its results as the formula of GbOuts, and: from agreeing
   finite arguments the kernel and its reference end with equal arrays. -/
module

public import proofs.«01_k».proof.Defs
public import proofs.«01_k».proof.Proof.Gen.GateBwdRefIdeal.Run
public import proofs.«01_k».proof.Proof.GbReal

@[expose] public section

set_option maxRecDepth 16384

noncomputable section

namespace Cert.GateBwdRefIdeal.Hand

open Cert.GateBwdRefIdeal Cert.GateBwdRefIdeal.Value
open Idealize.ShloMosaic Idealize.ShloMosaic.TcCoe Idealize.ShloMosaic.Tactic
open Cert.MlpIdeal.Hand (firstRow)
open Cert.GateIdeal.Hand (valueCol gateCol)
open Cert.GateBwdIdeal.Hand (Args IsReal gelu slope bend cubic square half root quotient grouped real_bend finite_of)
variable (m : (ℓ : Loc nD τ sig) → Buf (Elt Ideal) ℓ)

/-- The call's arrays as a device's memory holds them. -/
def args (c : Dev nD) : Args where
  y i d := m ((c.tc : Thread nD τ).loc main_arg0) (ix2 i d)
  w d k := m ((c.tc : Thread nD τ).loc main_arg1) (ix2 d k)
  b k := m ((c.tc : Thread nD τ).loc main_arg2) (ix1 k)
  dh i d := m ((c.tc : Thread nD τ).loc main_arg3) (ix2 i d)

/-- The gate's product as the reference computes it, and the gradient at it. -/
def zV (Y : FVec Ideal S2048x1024 .f32) (W : FVec Ideal S1024x2048 .f32) (B : FVec Ideal S2048 .f32) : FVec Ideal S2048x2048 .f32 :=
  addf (Host.dotGeneral dot_S2048x1024_S1024x2048_S2048x2048_1_0_0_1_n_n none (mulf Y (mulf (broadcastInDim S2048x1024 ![] Gen.bcast_S_S2048x1024 (constant S_ .f32 0x3F000000#32)) (addf (broadcastInDim S2048x1024 ![] Gen.bcast_S_S2048x1024 (constant S_ .f32 0x3F800000#32)) (Host.tanh (mulf (broadcastInDim S2048x1024 ![] Gen.bcast_S_S2048x1024 (constant S_ .f32 0x3F4C422A#32)) (addf Y (Host.divf (mulf (mulf (mulf Y Y) Y) (broadcastInDim S2048x1024 ![] Gen.bcast_S_S2048x1024 (constant S_ .f32 0x472EAB00#32))) (broadcastInDim S2048x1024 ![] Gen.bcast_S_S2048x1024 (constant S_ .f32 0x49742400#32))))))))) W) (broadcastInDim S2048x2048 ![0, 1] Gen.bcast_S1x2048_S2048x2048_0_1 (broadcastInDim S1x2048 ![1] Gen.bcast_S2048_S1x2048_1 B))

def dzV (Z : FVec Ideal S2048x2048 .f32) (DH : FVec Ideal S2048x1024 .f32) : FVec Ideal S2048x2048 .f32 :=
  concatenate S2048x2048 1 [⟨S2048x1024, (mulf DH (Host.divf (broadcastInDim S2048x1024 ![] Gen.bcast_S_S2048x1024 (constant S_ .f32 0x3F800000#32)) (addf (broadcastInDim S2048x1024 ![] Gen.bcast_S_S2048x1024 (constant S_ .f32 0x3F800000#32)) (Host.exp (Host.negf (extractStridedSlice S2048x1024 ![0, 1024] Z Gen.slices_S2048x2048_S2048x1024_0_1024))))))⟩, ⟨S2048x1024, (mulf (mulf (extractStridedSlice S2048x1024 ![0, 0] Z Gen.slices_S2048x2048_S2048x1024_0_0) DH) (mulf (Host.divf (broadcastInDim S2048x1024 ![] Gen.bcast_S_S2048x1024 (constant S_ .f32 0x3F800000#32)) (addf (broadcastInDim S2048x1024 ![] Gen.bcast_S_S2048x1024 (constant S_ .f32 0x3F800000#32)) (Host.exp (Host.negf (extractStridedSlice S2048x1024 ![0, 1024] Z Gen.slices_S2048x2048_S2048x1024_0_1024))))) (subf (broadcastInDim S2048x1024 ![] Gen.bcast_S_S2048x1024 (constant S_ .f32 0x3F800000#32)) (Host.divf (broadcastInDim S2048x1024 ![] Gen.bcast_S_S2048x1024 (constant S_ .f32 0x3F800000#32)) (addf (broadcastInDim S2048x1024 ![] Gen.bcast_S_S2048x1024 (constant S_ .f32 0x3F800000#32)) (Host.exp (Host.negf (extractStridedSlice S2048x1024 ![0, 1024] Z Gen.slices_S2048x2048_S2048x1024_0_1024))))))))⟩] Gen.concatenates_S2048x1024_S2048x1024_S2048x2048_d1

theorem z_at (c : Dev nD) (i k : Fin 2048) :
    zV (m ((c.tc : Thread nD τ).loc main_arg0)) (m ((c.tc : Thread nD τ).loc main_arg1)) (m ((c.tc : Thread nD τ).loc main_arg2)) (ix2 i k) = (args m c).z i k := by
  unfold zV
  clean_types
  pointwise
  simp only [quotient]
  rfl

theorem dz_at (c : Dev nD) (i k : Fin 2048) (Z : FVec Ideal S2048x2048 .f32) (hZ : ∀ i k, Z (ix2 i k) = (args m c).z i k) :
    dzV Z (m ((c.tc : Thread nD τ).loc main_arg3)) (ix2 i k) = (args m c).dz i k := by
  unfold dzV
  clean_types
  pointwise
  simp only [hZ]
  unfold Args.dz Args.dval Args.dgate
  split
  · rfl
  · exact (congrArg₂ (· * ·) (mul_comm _ _) rfl).trans (mul_assoc _ _ _).symm

theorem db_rows (X : Vec Ideal S2048x2048 .f32) (a : Fin 8) (d : Fin 2048) :
    (concatenate S8x2048 0 [⟨S1x2048, (shapeCast _ (Host.reduceAdd (shapeCast S1x2048 (Host.reduceAdd X (constant (F := Ideal) S_ .f32 0x00000000#32) Gen.reducesTo_S2048x2048_S2048_d0 Gen.h_S_)
          Gen.shapeCasts_S2048_S1x2048) (constant S_ .f32 0x00000000#32) Gen.reducesTo_S1x2048_S2048_d0 Gen.h_S_) Gen.shapeCasts_S2048_S1x2048)⟩,
        ⟨S7x2048, broadcastInDim S7x2048 ![] Gen.bcast_S_S7x2048 (constant (F := Ideal) S_ .f32 0x00000000#32)⟩]
      Gen.concatenates_S1x2048_S7x2048_S8x2048_d0 : Vec Ideal S8x2048 .f32) (ix2 a d) = firstRow a (∑ i, X (ix2 i d)) := by
  pointwise
  rw [Cert.MlpIdeal.Hand.firstRow_eq, Fin.sum_univ_one]
  split <;> rfl

/-- The three results from the gradient `X` at the gate's product. -/
def dyV (X : FVec Ideal S2048x2048 .f32) (Y : FVec Ideal S2048x1024 .f32) (W : FVec Ideal S1024x2048 .f32) : FVec Ideal S2048x1024 .f32 :=
  addf (addf (addf (addf (mulf (Host.dotGeneral dot_S2048x2048_S1024x2048_S2048x1024_1_1_0_0_n_n none X W) (mulf (broadcastInDim S2048x1024 ![] Gen.bcast_S_S2048x1024 (constant S_ .f32 0x3F000000#32)) (addf (broadcastInDim S2048x1024 ![] Gen.bcast_S_S2048x1024 (constant S_ .f32 0x3F800000#32)) (Host.tanh (mulf (broadcastInDim S2048x1024 ![] Gen.bcast_S_S2048x1024 (constant S_ .f32 0x3F4C422A#32)) (addf Y (Host.divf (mulf (mulf (mulf Y Y) Y) (broadcastInDim S2048x1024 ![] Gen.bcast_S_S2048x1024 (constant S_ .f32 0x472EAB00#32))) (broadcastInDim S2048x1024 ![] Gen.bcast_S_S2048x1024 (constant S_ .f32 0x49742400#32))))))))) (mulf (broadcastInDim S2048x1024 ![] Gen.bcast_S_S2048x1024 (constant S_ .f32 0x3F4C422A#32)) (mulf (mulf (broadcastInDim S2048x1024 ![] Gen.bcast_S_S2048x1024 (constant S_ .f32 0x3F000000#32)) (mulf Y (Host.dotGeneral dot_S2048x2048_S1024x2048_S2048x1024_1_1_0_0_n_n none X W))) (mulf (addf (broadcastInDim S2048x1024 ![] Gen.bcast_S_S2048x1024 (constant S_ .f32 0x3F800000#32)) (Host.tanh (mulf (broadcastInDim S2048x1024 ![] Gen.bcast_S_S2048x1024 (constant S_ .f32 0x3F4C422A#32)) (addf Y (Host.divf (mulf (mulf (mulf Y Y) Y) (broadcastInDim S2048x1024 ![] Gen.bcast_S_S2048x1024 (constant S_ .f32 0x472EAB00#32))) (broadcastInDim S2048x1024 ![] Gen.bcast_S_S2048x1024 (constant S_ .f32 0x49742400#32))))))) (subf (broadcastInDim S2048x1024 ![] Gen.bcast_S_S2048x1024 (constant S_ .f32 0x3F800000#32)) (Host.tanh (mulf (broadcastInDim S2048x1024 ![] Gen.bcast_S_S2048x1024 (constant S_ .f32 0x3F4C422A#32)) (addf Y (Host.divf (mulf (mulf (mulf Y Y) Y) (broadcastInDim S2048x1024 ![] Gen.bcast_S_S2048x1024 (constant S_ .f32 0x472EAB00#32))) (broadcastInDim S2048x1024 ![] Gen.bcast_S_S2048x1024 (constant S_ .f32 0x49742400#32))))))))))) (mulf (mulf Y Y) (mulf (Host.divf (mulf (broadcastInDim S2048x1024 ![] Gen.bcast_S_S2048x1024 (constant S_ .f32 0x3F4C422A#32)) (mulf (mulf (broadcastInDim S2048x1024 ![] Gen.bcast_S_S2048x1024 (constant S_ .f32 0x3F000000#32)) (mulf Y (Host.dotGeneral dot_S2048x2048_S1024x2048_S2048x1024_1_1_0_0_n_n none X W))) (mulf (addf (broadcastInDim S2048x1024 ![] Gen.bcast_S_S2048x1024 (constant S_ .f32 0x3F800000#32)) (Host.tanh (mulf (broadcastInDim S2048x1024 ![] Gen.bcast_S_S2048x1024 (constant S_ .f32 0x3F4C422A#32)) (addf Y (Host.divf (mulf (mulf (mulf Y Y) Y) (broadcastInDim S2048x1024 ![] Gen.bcast_S_S2048x1024 (constant S_ .f32 0x472EAB00#32))) (broadcastInDim S2048x1024 ![] Gen.bcast_S_S2048x1024 (constant S_ .f32 0x49742400#32))))))) (subf (broadcastInDim S2048x1024 ![] Gen.bcast_S_S2048x1024 (constant S_ .f32 0x3F800000#32)) (Host.tanh (mulf (broadcastInDim S2048x1024 ![] Gen.bcast_S_S2048x1024 (constant S_ .f32 0x3F4C422A#32)) (addf Y (Host.divf (mulf (mulf (mulf Y Y) Y) (broadcastInDim S2048x1024 ![] Gen.bcast_S_S2048x1024 (constant S_ .f32 0x472EAB00#32))) (broadcastInDim S2048x1024 ![] Gen.bcast_S_S2048x1024 (constant S_ .f32 0x49742400#32)))))))))) (broadcastInDim S2048x1024 ![] Gen.bcast_S_S2048x1024 (constant S_ .f32 0x49742400#32))) (broadcastInDim S2048x1024 ![] Gen.bcast_S_S2048x1024 (constant S_ .f32 0x472EAB00#32))))) (mulf Y (mulf (mulf (Host.divf (mulf (broadcastInDim S2048x1024 ![] Gen.bcast_S_S2048x1024 (constant S_ .f32 0x3F4C422A#32)) (mulf (mulf (broadcastInDim S2048x1024 ![] Gen.bcast_S_S2048x1024 (constant S_ .f32 0x3F000000#32)) (mulf Y (Host.dotGeneral dot_S2048x2048_S1024x2048_S2048x1024_1_1_0_0_n_n none X W))) (mulf (addf (broadcastInDim S2048x1024 ![] Gen.bcast_S_S2048x1024 (constant S_ .f32 0x3F800000#32)) (Host.tanh (mulf (broadcastInDim S2048x1024 ![] Gen.bcast_S_S2048x1024 (constant S_ .f32 0x3F4C422A#32)) (addf Y (Host.divf (mulf (mulf (mulf Y Y) Y) (broadcastInDim S2048x1024 ![] Gen.bcast_S_S2048x1024 (constant S_ .f32 0x472EAB00#32))) (broadcastInDim S2048x1024 ![] Gen.bcast_S_S2048x1024 (constant S_ .f32 0x49742400#32))))))) (subf (broadcastInDim S2048x1024 ![] Gen.bcast_S_S2048x1024 (constant S_ .f32 0x3F800000#32)) (Host.tanh (mulf (broadcastInDim S2048x1024 ![] Gen.bcast_S_S2048x1024 (constant S_ .f32 0x3F4C422A#32)) (addf Y (Host.divf (mulf (mulf (mulf Y Y) Y) (broadcastInDim S2048x1024 ![] Gen.bcast_S_S2048x1024 (constant S_ .f32 0x472EAB00#32))) (broadcastInDim S2048x1024 ![] Gen.bcast_S_S2048x1024 (constant S_ .f32 0x49742400#32)))))))))) (broadcastInDim S2048x1024 ![] Gen.bcast_S_S2048x1024 (constant S_ .f32 0x49742400#32))) (broadcastInDim S2048x1024 ![] Gen.bcast_S_S2048x1024 (constant S_ .f32 0x472EAB00#32))) Y))) (mulf (mulf (mulf (Host.divf (mulf (broadcastInDim S2048x1024 ![] Gen.bcast_S_S2048x1024 (constant S_ .f32 0x3F4C422A#32)) (mulf (mulf (broadcastInDim S2048x1024 ![] Gen.bcast_S_S2048x1024 (constant S_ .f32 0x3F000000#32)) (mulf Y (Host.dotGeneral dot_S2048x2048_S1024x2048_S2048x1024_1_1_0_0_n_n none X W))) (mulf (addf (broadcastInDim S2048x1024 ![] Gen.bcast_S_S2048x1024 (constant S_ .f32 0x3F800000#32)) (Host.tanh (mulf (broadcastInDim S2048x1024 ![] Gen.bcast_S_S2048x1024 (constant S_ .f32 0x3F4C422A#32)) (addf Y (Host.divf (mulf (mulf (mulf Y Y) Y) (broadcastInDim S2048x1024 ![] Gen.bcast_S_S2048x1024 (constant S_ .f32 0x472EAB00#32))) (broadcastInDim S2048x1024 ![] Gen.bcast_S_S2048x1024 (constant S_ .f32 0x49742400#32))))))) (subf (broadcastInDim S2048x1024 ![] Gen.bcast_S_S2048x1024 (constant S_ .f32 0x3F800000#32)) (Host.tanh (mulf (broadcastInDim S2048x1024 ![] Gen.bcast_S_S2048x1024 (constant S_ .f32 0x3F4C422A#32)) (addf Y (Host.divf (mulf (mulf (mulf Y Y) Y) (broadcastInDim S2048x1024 ![] Gen.bcast_S_S2048x1024 (constant S_ .f32 0x472EAB00#32))) (broadcastInDim S2048x1024 ![] Gen.bcast_S_S2048x1024 (constant S_ .f32 0x49742400#32)))))))))) (broadcastInDim S2048x1024 ![] Gen.bcast_S_S2048x1024 (constant S_ .f32 0x49742400#32))) (broadcastInDim S2048x1024 ![] Gen.bcast_S_S2048x1024 (constant S_ .f32 0x472EAB00#32))) Y) Y)

def dwV (X : FVec Ideal S2048x2048 .f32) (Y : FVec Ideal S2048x1024 .f32) : FVec Ideal S8x1024x256 .bf16 :=
  truncf .bf16 (transpose S8x1024x256 [1, 0, 2] (shapeCast _ (transpose S1024x2048 [1, 0] (Host.dotGeneral dot_S2048x2048_S2048x1024_S2048x1024_0_0_1_1_n_n none X (mulf Y (mulf (broadcastInDim S2048x1024 ![] Gen.bcast_S_S2048x1024 (constant S_ .f32 0x3F000000#32)) (addf (broadcastInDim S2048x1024 ![] Gen.bcast_S_S2048x1024 (constant S_ .f32 0x3F800000#32)) (Host.tanh (mulf (broadcastInDim S2048x1024 ![] Gen.bcast_S_S2048x1024 (constant S_ .f32 0x3F4C422A#32)) (addf Y (Host.divf (mulf (mulf (mulf Y Y) Y) (broadcastInDim S2048x1024 ![] Gen.bcast_S_S2048x1024 (constant S_ .f32 0x472EAB00#32))) (broadcastInDim S2048x1024 ![] Gen.bcast_S_S2048x1024 (constant S_ .f32 0x49742400#32)))))))))) Gen.transposes_S2048x1024_S1024x2048_1_0) Gen.shapeCasts_S1024x2048_S1024x8x256) Gen.transposes_S1024x8x256_S8x1024x256_1_0_2) Gen.bitsLt_bf16_f32

theorem dy_at (c : Dev nD) (hA : (args m c).Finite) (i : Fin 2048) (d : Fin 1024) (X : FVec Ideal S2048x2048 .f32) (hX : ∀ i k, X (ix2 i k) = (args m c).dz i k) :
    dyV X (m ((c.tc : Thread nD τ).loc main_arg0)) (m ((c.tc : Thread nD τ).loc main_arg1)) (ix2 i d) = (args m c).dy i d := by
  refine Eq.trans ?_ (grouped (hA.y i d) (real_bend (hA.y i d)) (.sum fun k => (hA.dz i k).mul (hA.w d k)))
  unfold dyV
  clean_types
  pointwise
  simp only [hX, quotient]
  rfl

theorem dw_at (c : Dev nD) (j0 : Fin 8) (j1 : Fin 1024) (j2 : Fin 256) (X : FVec Ideal S2048x2048 .f32) (hX : ∀ i k, X (ix2 i k) = (args m c).dz i k) :
    dwV X (m ((c.tc : Thread nD τ).loc main_arg0)) (ix3 j0 j1 j2) = (args m c).dw j1 ⟨j0.val * 256 + j2.val, by omega⟩ := by
  unfold dwV
  clean_types
  pointwise
  simp only [hX, quotient]
  exact Finset.sum_congr rfl fun _ _ => mul_comm _ _

set_option maxHeartbeats 400000 in
/-- Every execution of the reference ends with the formulas of GbOuts and leaves its arguments as they were. -/
theorem run_args (hA : ∀ c, (args m c).Finite) (ρ : Dev nD → PrngReg) :
    θ_run defs (onTc (τ := τ) (main (F := Ideal))) ⟨m, fun _ => 0, ρ⟩ fun r => ∀ c : Dev nD,
      r.2.mem ((c.tc : Thread nD τ).loc main_v64) = (fun j : S2048x1024.Idx => (args m c).dy (j 0) (j 1) : Vec Ideal S2048x1024 .f32)
      ∧ r.2.mem ((c.tc : Thread nD τ).loc main_v67) = (fun j : S8x1024x256.Idx => (args m c).dw (j 1) ⟨(j 0).val * 256 + (j 2).val, by
        have h0 : (j 0).val < 8 := (j 0).isLt
        have h2 : (j 2).val < 256 := (j 2).isLt
        omega⟩ : Vec Ideal S8x1024x256 .bf16)
      ∧ r.2.mem ((c.tc : Thread nD τ).loc main_v70) = (fun j : S8x2048.Idx => firstRow (j 0) ((args m c).db (j 1)) : Vec Ideal S8x2048 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ⟨(h c).1.trans ?_, (h c).2.1.trans ?_, (h c).2.2.1.trans ?_, (h c).2.2.2⟩) (run m ρ) <;>
  clear h <;> funext j <;> idx_vars j
  · exact dy_at m c (hA c) _ _ (dzV (zV _ _ _) _) fun i k => dz_at m c i k _ (z_at m c)
  · exact dw_at m c _ _ _ (dzV (zV _ _ _) _) fun i k => dz_at m c i k _ (z_at m c)
  · refine (db_rows (dzV (zV _ _ _) _) _ _).trans (congrArg (firstRow _) (Finset.sum_congr rfl fun i _ => dz_at m c i _ _ (z_at m c)))

end Cert.GateBwdRefIdeal.Hand

namespace Cert.GateBwdIdeal.Hand

open Cert.GateBwdIdeal Cert.GateBwdIdeal.Gen
open Idealize.ShloMosaic Idealize.ShloMosaic.TcCoe Idealize.SL.Sem
open Cert.MlpIdeal.Hand (firstRow)
variable (m : (ℓ : Loc nD τ sig) → Buf (Elt Ideal) ℓ)

set_option maxHeartbeats 400000 in
/-- Every execution of the kernel ends with the formulas of GbOuts and leaves its arguments as they were. -/
theorem run_args (ρ : Dev nD → PrngReg) :
    θ_run defs (onTc (τ := τ) (main (F := Ideal))) ⟨m, fun _ => 0, ρ⟩ fun r => ∀ c : Dev nD,
      r.2.mem ((c.tc : Thread nD τ).loc main_v22_0) = (fun j : S2048x1024.Idx => (args m c).dy (j 0) (j 1) : Vec Ideal S2048x1024 .f32)
      ∧ r.2.mem ((c.tc : Thread nD τ).loc main_v22_1) = (fun j : S8x1024x256.Idx => (args m c).dw (j 1) ⟨(j 0).val * 256 + (j 2).val, by
        have h0 : (j 0).val < 8 := (j 0).isLt
        have h2 : (j 2).val < 256 := (j 2).isLt
        omega⟩ : Vec Ideal S8x1024x256 .bf16)
      ∧ r.2.mem ((c.tc : Thread nD τ).loc main_v22_2) = (fun j : S8x2048.Idx => firstRow (j 0) ((args m c).db (j 1)) : Vec Ideal S8x2048 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono
    (fun _ h c => ⟨((h.1.1 c).1 4).trans (arr_dy m c), ((h.1.1 c).1 5).trans (arr_dw m c), ((h.1.1 c).1 6).trans (arr_db m c), h.2.1 c⟩)
    (θ_run_and (run_main (F := Ideal) m ρ) (frame_run (F := Ideal) m ρ))

end Cert.GateBwdIdeal.Hand

namespace Cert.Value

open Idealize.ShloMosaic Idealize.SL.Sem

theorem algebraic_gate_bwd [hPre_finite : Cert.Pre_finite.Facts] : Cert.algebraic_GateBwdIdeal_GateBwdRefIdeal_pre_finite := by
  intro m g m' g' pre agree
  have same : ∀ c, Cert.GateBwdRefIdeal.Hand.args m' c = Cert.GateBwdIdeal.Hand.args m c := fun c => by
    obtain ⟨h0, h1, h2, h3⟩ := agree c
    unfold Cert.GateBwdRefIdeal.Hand.args Cert.GateBwdIdeal.Hand.args
    rw [h0, h1, h2, h3]
  have finite : ∀ c, (Cert.GateBwdRefIdeal.Hand.args m' c).Finite := fun c => by
    obtain ⟨hy, hw, hb, hd⟩ := Cert.GateBwdIdeal.Hand.finite_of _ _ _ _ (pre c)
    rw [same]
    exact ⟨fun _ _ => hy _, fun _ _ => hw _, fun _ => hb _, fun _ _ => hd _⟩
  refine ⟨_, _, _, Cert.GateBwdIdeal.Hand.run_args m g, ?_⟩
  have ran := Cert.GateBwdRefIdeal.Hand.run_args m' finite g'
  simp only [same] at ran
  exact ran

end Cert.Value

end
-- ==== Proof.lean ====
module

public import proofs.«01_k».proof.Defs
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.AttnRefIdeal.Run
public import proofs.«01_k».proof.Proof.Gen.MlpRefIdeal.Run
public import proofs.«01_k».proof.Proof.AttnFrame
public import proofs.«01_k».proof.Proof.MlpFrame
public import proofs.«01_k».proof.Proof.AttnSame
public import proofs.«01_k».proof.Proof.MlpSame
public import proofs.«01_k».proof.Proof.MlpValue
public import proofs.«01_k».proof.Proof.FwdSame
public import proofs.«01_k».proof.Proof.FwdValue
public import proofs.«01_k».proof.Proof.OutRef
public import proofs.«01_k».proof.Proof.QRef
public import proofs.«01_k».proof.Proof.PreRef
public import proofs.«01_k».proof.Proof.PostRef
public import proofs.«01_k».proof.Proof.KvRef
public import proofs.«01_k».proof.Proof.GateRef
public import proofs.«01_k».proof.Proof.GbSame
public import proofs.«01_k».proof.Proof.GbRef
public import proofs.«01_k».proof.Proof.Gen.Mlp
public import proofs.«01_k».proof.Proof.Gen.Mlp.Skeleton
public import proofs.«01_k».proof.Proof.Gen.Mlp.Launch
public import proofs.«01_k».proof.Proof.Gen.Mlp.Points
public import proofs.«01_k».proof.Proof.Gen.Mlp.Frame
public import proofs.«01_k».proof.Proof.Gen.MlpIdeal
public import proofs.«01_k».proof.Proof.Gen.MlpIdeal.Skeleton
public import proofs.«01_k».proof.Proof.Gen.MlpIdeal.Launch
public import proofs.«01_k».proof.Proof.Gen.MlpIdeal.Points
public import proofs.«01_k».proof.Proof.Gen.MlpIdeal.Frame
public import proofs.«01_k».proof.Proof.Gen.MlpRefIdeal
public import proofs.«01_k».proof.Proof.Gen.MlpFwd
public import proofs.«01_k».proof.Proof.Gen.MlpFwd.Skeleton
public import proofs.«01_k».proof.Proof.Gen.MlpFwd.Launch
public import proofs.«01_k».proof.Proof.Gen.MlpFwd.Points
public import proofs.«01_k».proof.Proof.Gen.MlpFwd.Frame
public import proofs.«01_k».proof.Proof.Gen.MlpFwdIdeal
public import proofs.«01_k».proof.Proof.Gen.MlpFwdIdeal.Skeleton
public import proofs.«01_k».proof.Proof.Gen.MlpFwdIdeal.Launch
public import proofs.«01_k».proof.Proof.Gen.MlpFwdIdeal.Points
public import proofs.«01_k».proof.Proof.Gen.MlpFwdIdeal.Frame
public import proofs.«01_k».proof.Proof.Gen.MlpFwdRefIdeal
public import proofs.«01_k».proof.Proof.Gen.MlpFwdRefIdeal.Run
public import proofs.«01_k».proof.Proof.Gen.OutBwd
public import proofs.«01_k».proof.Proof.Gen.OutBwd.Skeleton
public import proofs.«01_k».proof.Proof.Gen.OutBwd.Launch
public import proofs.«01_k».proof.Proof.Gen.OutBwd.Points
public import proofs.«01_k».proof.Proof.Gen.OutBwd.Frame
public import proofs.«01_k».proof.Proof.Gen.OutBwdIdeal
public import proofs.«01_k».proof.Proof.Gen.OutBwdIdeal.Skeleton
public import proofs.«01_k».proof.Proof.Gen.OutBwdIdeal.Launch
public import proofs.«01_k».proof.Proof.Gen.OutBwdIdeal.Points
public import proofs.«01_k».proof.Proof.Gen.OutBwdIdeal.Frame
public import proofs.«01_k».proof.Proof.Gen.OutBwdRefIdeal
public import proofs.«01_k».proof.Proof.Gen.OutBwdRefIdeal.Run
public import proofs.«01_k».proof.Proof.Gen.QBwd
public import proofs.«01_k».proof.Proof.Gen.QBwd.Skeleton
public import proofs.«01_k».proof.Proof.Gen.QBwd.Launch
public import proofs.«01_k».proof.Proof.Gen.QBwd.Points
public import proofs.«01_k».proof.Proof.Gen.QBwd.Frame
public import proofs.«01_k».proof.Proof.Gen.QBwdIdeal
public import proofs.«01_k».proof.Proof.Gen.QBwdIdeal.Skeleton
public import proofs.«01_k».proof.Proof.Gen.QBwdIdeal.Launch
public import proofs.«01_k».proof.Proof.Gen.QBwdIdeal.Points
public import proofs.«01_k».proof.Proof.Gen.QBwdIdeal.Frame
public import proofs.«01_k».proof.Proof.Gen.QBwdRefIdeal
public import proofs.«01_k».proof.Proof.Gen.QBwdRefIdeal.Run
public import proofs.«01_k».proof.Proof.Gen.AttnPre
public import proofs.«01_k».proof.Proof.Gen.AttnPre.Skeleton
public import proofs.«01_k».proof.Proof.Gen.AttnPre.Launch
public import proofs.«01_k».proof.Proof.Gen.AttnPre.Points
public import proofs.«01_k».proof.Proof.Gen.AttnPre.Frame
public import proofs.«01_k».proof.Proof.Gen.AttnPreIdeal
public import proofs.«01_k».proof.Proof.Gen.AttnPreIdeal.Skeleton
public import proofs.«01_k».proof.Proof.Gen.AttnPreIdeal.Launch
public import proofs.«01_k».proof.Proof.Gen.AttnPreIdeal.Points
public import proofs.«01_k».proof.Proof.Gen.AttnPreIdeal.Frame
public import proofs.«01_k».proof.Proof.Gen.AttnPreRefIdeal
public import proofs.«01_k».proof.Proof.Gen.AttnPreRefIdeal.Run
public import proofs.«01_k».proof.Proof.Gen.AttnPost
public import proofs.«01_k».proof.Proof.Gen.AttnPost.Skeleton
public import proofs.«01_k».proof.Proof.Gen.AttnPost.Launch
public import proofs.«01_k».proof.Proof.Gen.AttnPost.Points
public import proofs.«01_k».proof.Proof.Gen.AttnPost.Frame
public import proofs.«01_k».proof.Proof.Gen.AttnPostIdeal
public import proofs.«01_k».proof.Proof.Gen.AttnPostIdeal.Skeleton
public import proofs.«01_k».proof.Proof.Gen.AttnPostIdeal.Launch
public import proofs.«01_k».proof.Proof.Gen.AttnPostIdeal.Points
public import proofs.«01_k».proof.Proof.Gen.AttnPostIdeal.Frame
public import proofs.«01_k».proof.Proof.Gen.AttnPostRefIdeal
public import proofs.«01_k».proof.Proof.Gen.AttnPostRefIdeal.Run
public import proofs.«01_k».proof.Proof.Gen.KvBwd
public import proofs.«01_k».proof.Proof.Gen.KvBwd.Skeleton
public import proofs.«01_k».proof.Proof.Gen.KvBwd.Launch
public import proofs.«01_k».proof.Proof.Gen.KvBwd.Points
public import proofs.«01_k».proof.Proof.Gen.KvBwd.Frame
public import proofs.«01_k».proof.Proof.Gen.KvBwdIdeal
public import proofs.«01_k».proof.Proof.Gen.KvBwdIdeal.Skeleton
public import proofs.«01_k».proof.Proof.Gen.KvBwdIdeal.Launch
public import proofs.«01_k».proof.Proof.Gen.KvBwdIdeal.Points
public import proofs.«01_k».proof.Proof.Gen.KvBwdIdeal.Frame
public import proofs.«01_k».proof.Proof.Gen.KvBwdRefIdeal
public import proofs.«01_k».proof.Proof.Gen.KvBwdRefIdeal.Run
public import proofs.«01_k».proof.Proof.Gen.Gate
public import proofs.«01_k».proof.Proof.Gen.Gate.Skeleton
public import proofs.«01_k».proof.Proof.Gen.Gate.Launch
public import proofs.«01_k».proof.Proof.Gen.Gate.Points
public import proofs.«01_k».proof.Proof.Gen.Gate.Frame
public import proofs.«01_k».proof.Proof.Gen.GateIdeal
public import proofs.«01_k».proof.Proof.Gen.GateIdeal.Skeleton
public import proofs.«01_k».proof.Proof.Gen.GateIdeal.Launch
public import proofs.«01_k».proof.Proof.Gen.GateIdeal.Points
public import proofs.«01_k».proof.Proof.Gen.GateIdeal.Frame
public import proofs.«01_k».proof.Proof.Gen.GateRefIdeal
public import proofs.«01_k».proof.Proof.Gen.GateRefIdeal.Run
public import proofs.«01_k».proof.Proof.Gen.GateBwd
public import proofs.«01_k».proof.Proof.Gen.GateBwd.Skeleton
public import proofs.«01_k».proof.Proof.Gen.GateBwd.Launch
public import proofs.«01_k».proof.Proof.Gen.GateBwd.Points
public import proofs.«01_k».proof.Proof.Gen.GateBwd.Frame
public import proofs.«01_k».proof.Proof.Gen.GateBwdIdeal
public import proofs.«01_k».proof.Proof.Gen.GateBwdIdeal.Skeleton
public import proofs.«01_k».proof.Proof.Gen.GateBwdIdeal.Launch
public import proofs.«01_k».proof.Proof.Gen.GateBwdIdeal.Points
public import proofs.«01_k».proof.Proof.Gen.GateBwdIdeal.Frame
public import proofs.«01_k».proof.Proof.Gen.GateBwdRefIdeal
public import proofs.«01_k».proof.Proof.Gen.GateBwdRefIdeal.Run
public import proofs.«01_k».proof.Proof.Gen.Pre_finite
public import Idealize.ShloMosaic.Adequacy
public import Idealize.ShloMosaic.Init

@[expose] public section

noncomputable section

namespace Cert.Proof

open Idealize.ShloMosaic Idealize.SL.Sem

theorem frame_attn_ideal : Cert.quiescent_AttnIdeal := fun m g _ => Cert.AttnIdeal.Hand.frame_run (F := Ideal) m g

theorem frame_attn_ref : Cert.quiescent_AttnRefIdeal := fun m g _ =>
  (θ_run (Cert.AttnRefIdeal.defs (F := Ideal)) _ _).mono
    (fun r h => ⟨fun c => (h c).2.2.2.2, sem_eq_zero_of_no_sems (by decide) r.2⟩) (Cert.AttnRefIdeal.Value.run (F := Ideal) m g)

theorem frame_mlp_ideal : Cert.quiescent_MlpIdeal := fun m g _ => Cert.MlpIdeal.Hand.frame_run (F := Ideal) m g

theorem frame_mlp_ref : Cert.quiescent_MlpRefIdeal := fun m g _ =>
  (θ_run (Cert.MlpRefIdeal.defs (F := Ideal)) _ _).mono
    (fun r h => ⟨fun c => (h c).2.2.2.2, sem_eq_zero_of_no_sems (by decide) r.2⟩) (Cert.MlpRefIdeal.Value.run (F := Ideal) m g)

theorem frame_mlp_fwd_ideal : Cert.quiescent_MlpFwdIdeal := fun m g _ => Cert.MlpFwdIdeal.Hand.frame_run (F := Ideal) m g

theorem frame_mlp_fwd_ref : Cert.quiescent_MlpFwdRefIdeal := fun m g _ =>
  (θ_run (Cert.MlpFwdRefIdeal.defs (F := Ideal)) _ _).mono
    (fun r h => ⟨fun c => (h c).2.2.2, sem_eq_zero_of_no_sems (by decide) r.2⟩) (Cert.MlpFwdRefIdeal.Value.run (F := Ideal) m g)

theorem frame_out_bwd_ref : Cert.quiescent_OutBwdRefIdeal := fun m g _ =>
  (θ_run (Cert.OutBwdRefIdeal.defs (F := Ideal)) _ _).mono
    (fun r h => ⟨fun c => (h c).2.2.2, sem_eq_zero_of_no_sems (by decide) r.2⟩) (Cert.OutBwdRefIdeal.Value.run (F := Ideal) m g)

theorem frame_q_bwd_ref : Cert.quiescent_QBwdRefIdeal := fun m g _ =>
  (θ_run (Cert.QBwdRefIdeal.defs (F := Ideal)) _ _).mono
    (fun r h => ⟨fun c => (h c).2.2.2.2, sem_eq_zero_of_no_sems (by decide) r.2⟩) (Cert.QBwdRefIdeal.Value.run (F := Ideal) m g)

theorem frame_attn_pre_ref : Cert.quiescent_AttnPreRefIdeal := fun m g _ =>
  (θ_run (Cert.AttnPreRefIdeal.defs (F := Ideal)) _ _).mono
    (fun r h => ⟨fun c => (h c).2.2.2.2.2, sem_eq_zero_of_no_sems (by decide) r.2⟩) (Cert.AttnPreRefIdeal.Value.run (F := Ideal) m g)

theorem frame_attn_post_ref : Cert.quiescent_AttnPostRefIdeal := fun m g _ =>
  (θ_run (Cert.AttnPostRefIdeal.defs (F := Ideal)) _ _).mono
    (fun r h => ⟨fun c => (h c).2, sem_eq_zero_of_no_sems (by decide) r.2⟩) (Cert.AttnPostRefIdeal.Value.run (F := Ideal) m g)

theorem frame_kv_bwd_ref : Cert.quiescent_KvBwdRefIdeal := fun m g _ =>
  (θ_run (Cert.KvBwdRefIdeal.defs (F := Ideal)) _ _).mono
    (fun r h => ⟨fun c => (h c).2.2.2.2.2, sem_eq_zero_of_no_sems (by decide) r.2⟩) (Cert.KvBwdRefIdeal.Value.run (F := Ideal) m g)

theorem frame_gate_ref : Cert.quiescent_GateRefIdeal := fun m g _ =>
  (θ_run (Cert.GateRefIdeal.defs (F := Ideal)) _ _).mono
    (fun r h => ⟨fun c => (h c).2.2.2, sem_eq_zero_of_no_sems (by decide) r.2⟩) (Cert.GateRefIdeal.Value.run (F := Ideal) m g)

theorem frame_gate_bwd_ideal : Cert.quiescent_GateBwdIdeal := fun m g _ => Cert.GateBwdIdeal.Hand.frame_run (F := Ideal) m g

theorem frame_gate_bwd_ref : Cert.quiescent_GateBwdRefIdeal := fun m g _ =>
  (θ_run (Cert.GateBwdRefIdeal.defs (F := Ideal)) _ _).mono
    (fun r h => ⟨fun c => (h c).2.2.2, sem_eq_zero_of_no_sems (by decide) r.2⟩) (Cert.GateBwdRefIdeal.Value.run (F := Ideal) m g)

theorem preserves_gate_bwd : Cert.preserves_GateBwd_GateBwdIdeal :=
  ⟨IdealRules.named_const.statement Cert.GateBwdIdeal.κ "cubic" .f32 0x3D372713#32 ((8943 / 200000 : ℝ) : EReal) rfl,
    IdealRules.named_const.statement Cert.GateBwdIdeal.κ "square" .f32 0x3E095D4F#32 ((26829 / 200000 : ℝ) : EReal) rfl⟩

theorem claim : Cert.Claim := ⟨Cert.Attn.Gen.facts, Cert.AttnIdeal.Gen.facts, Cert.AttnRefIdeal.Gen.facts, Cert.Mlp.Gen.facts, Cert.MlpIdeal.Gen.facts, Cert.MlpRefIdeal.Gen.facts,
  Cert.MlpFwd.Gen.facts, Cert.MlpFwdIdeal.Gen.facts, Cert.MlpFwdRefIdeal.Gen.facts,
  Cert.OutBwd.Gen.facts, Cert.OutBwdIdeal.Gen.facts, Cert.OutBwdRefIdeal.Gen.facts, Cert.QBwd.Gen.facts, Cert.QBwdIdeal.Gen.facts, Cert.QBwdRefIdeal.Gen.facts,
  Cert.AttnPre.Gen.facts, Cert.AttnPreIdeal.Gen.facts, Cert.AttnPreRefIdeal.Gen.facts,
  Cert.AttnPost.Gen.facts, Cert.AttnPostIdeal.Gen.facts, Cert.AttnPostRefIdeal.Gen.facts,
  Cert.KvBwd.Gen.facts, Cert.KvBwdIdeal.Gen.facts, Cert.KvBwdRefIdeal.Gen.facts,
  Cert.Gate.Gen.facts, Cert.GateIdeal.Gen.facts, Cert.GateRefIdeal.Gen.facts,
  Cert.GateBwd.Gen.facts, Cert.GateBwdIdeal.Gen.facts, Cert.GateBwdRefIdeal.Gen.facts, Cert.Pre_finite.Gen.facts,
  Cert.SameText.frame_attn, frame_attn_ideal, frame_attn_ref, Cert.SameText.frame_mlp, frame_mlp_ideal, frame_mlp_ref,
  Cert.SameText.frame_mlp_fwd, frame_mlp_fwd_ideal, frame_mlp_fwd_ref,
  fun m g _ => Cert.OutBwd.Gen.frame m g, fun m g _ => Cert.OutBwdIdeal.Gen.frame m g, frame_out_bwd_ref,
  fun m g _ => Cert.QBwd.Gen.frame m g, fun m g _ => Cert.QBwdIdeal.Gen.frame m g, frame_q_bwd_ref,
  fun m g _ => Cert.AttnPre.Gen.frame m g, fun m g _ => Cert.AttnPreIdeal.Gen.frame m g, frame_attn_pre_ref,
  fun m g _ => Cert.AttnPost.Gen.frame m g, fun m g _ => Cert.AttnPostIdeal.Gen.frame m g, frame_attn_post_ref,
  fun m g _ => Cert.KvBwd.Gen.frame m g, fun m g _ => Cert.KvBwdIdeal.Gen.frame m g, frame_kv_bwd_ref,
  fun m g _ => Cert.Gate.Gen.frame m g, fun m g _ => Cert.GateIdeal.Gen.frame m g, frame_gate_ref,
  Cert.SameText.frame_gate_bwd, frame_gate_bwd_ideal, fun m g _ => frame_gate_bwd_ideal m g trivial, frame_gate_bwd_ref, fun m g _ => frame_gate_bwd_ref m g trivial,
  trivial, trivial, Cert.Value.algebraic_mlp, trivial, Cert.Value.algebraic_mlp_fwd, trivial, Cert.Value.algebraic_out_bwd,
  trivial, Cert.Value.algebraic_q_bwd, trivial, Cert.Value.algebraic_attn_pre, trivial, Cert.Value.algebraic_attn_post,
  trivial, Cert.Value.algebraic_kv_bwd, trivial, Cert.Value.algebraic_gate, preserves_gate_bwd, Cert.Value.algebraic_gate_bwd⟩

end Cert.Proof

end
